-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_XdhKernel (m : (ℓ : Loc Cert.XdhKernel.nD Cert.XdhKernel.τ Cert.XdhKernel.sig) → Buf (Elt Bits) ℓ) : Prop :=
  True

def Pre_XdhKernelIdeal (m : (ℓ : Loc Cert.XdhKernelIdeal.nD Cert.XdhKernelIdeal.τ Cert.XdhKernelIdeal.sig) → Buf (Elt Ideal) ℓ) : Prop :=
  True

def Pre_XdhReferenceIdeal (m : (ℓ : Loc Cert.XdhReferenceIdeal.nD Cert.XdhReferenceIdeal.τ Cert.XdhReferenceIdeal.sig) → Buf (Elt Ideal) ℓ) : Prop :=
  True

def Pre_DswKernel (m : (ℓ : Loc Cert.DswKernel.nD Cert.DswKernel.τ Cert.DswKernel.sig) → Buf (Elt Bits) ℓ) : Prop :=
  True

def Pre_DswKernelIdeal (m : (ℓ : Loc Cert.DswKernelIdeal.nD Cert.DswKernelIdeal.τ Cert.DswKernelIdeal.sig) → Buf (Elt Ideal) ℓ) : Prop :=
  True

def Pre_DswKernelIdeal_finite_dsw [hPre_finite_dsw : Cert.Pre_finite_dsw.Facts] (m : (ℓ : Loc Cert.DswKernelIdeal.nD Cert.DswKernelIdeal.τ Cert.DswKernelIdeal.sig) → Buf (Elt Ideal) ℓ) : Prop :=
  ∀ c : Dev Cert.DswKernelIdeal.nD,
    (Cert.Pre_finite_dsw.fn (F := Ideal) (m ((c.tc : Thread Cert.DswKernelIdeal.nD Cert.DswKernelIdeal.τ).loc Cert.DswKernelIdeal.main_arg0)) (m ((c.tc : Thread Cert.DswKernelIdeal.nD Cert.DswKernelIdeal.τ).loc Cert.DswKernelIdeal.main_arg1)) (m ((c.tc : Thread Cert.DswKernelIdeal.nD Cert.DswKernelIdeal.τ).loc Cert.DswKernelIdeal.main_arg2)) (m ((c.tc : Thread Cert.DswKernelIdeal.nD Cert.DswKernelIdeal.τ).loc Cert.DswKernelIdeal.main_arg3))) = (fun _ => 1#1)

def Pre_DswReferenceIdeal (m : (ℓ : Loc Cert.DswReferenceIdeal.nD Cert.DswReferenceIdeal.τ Cert.DswReferenceIdeal.sig) → Buf (Elt Ideal) ℓ) : Prop :=
  True

def Pre_DswReferenceIdeal_finite_dsw [hPre_finite_dsw : Cert.Pre_finite_dsw.Facts] (m : (ℓ : Loc Cert.DswReferenceIdeal.nD Cert.DswReferenceIdeal.τ Cert.DswReferenceIdeal.sig) → Buf (Elt Ideal) ℓ) : Prop :=
  ∀ c : Dev Cert.DswReferenceIdeal.nD,
    (Cert.Pre_finite_dsw.fn (F := Ideal) (m ((c.tc : Thread Cert.DswReferenceIdeal.nD Cert.DswReferenceIdeal.τ).loc Cert.DswReferenceIdeal.main_arg0)) (m ((c.tc : Thread Cert.DswReferenceIdeal.nD Cert.DswReferenceIdeal.τ).loc Cert.DswReferenceIdeal.main_arg1)) (m ((c.tc : Thread Cert.DswReferenceIdeal.nD Cert.DswReferenceIdeal.τ).loc Cert.DswReferenceIdeal.main_arg2)) (m ((c.tc : Thread Cert.DswReferenceIdeal.nD Cert.DswReferenceIdeal.τ).loc Cert.DswReferenceIdeal.main_arg3))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpKernelIdeal_finite_gmlp [hPre_finite_gmlp : Cert.Pre_finite_gmlp.Facts] (m : (ℓ : Loc Cert.GmlpKernelIdeal.nD Cert.GmlpKernelIdeal.τ Cert.GmlpKernelIdeal.sig) → Buf (Elt Ideal) ℓ) : Prop :=
  ∀ c : Dev Cert.GmlpKernelIdeal.nD,
    (Cert.Pre_finite_gmlp.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4)) (m ((c.tc : Thread Cert.GmlpKernelIdeal.nD Cert.GmlpKernelIdeal.τ).loc Cert.GmlpKernelIdeal.main_arg5))) = (fun _ => 1#1)

def Pre_GmlpReferenceIdeal (m : (ℓ : Loc Cert.GmlpReferenceIdeal.nD Cert.GmlpReferenceIdeal.τ Cert.GmlpReferenceIdeal.sig) → Buf (Elt Ideal) ℓ) : Prop :=
  True

def Pre_GmlpReferenceIdeal_finite_gmlp [hPre_finite_gmlp : Cert.Pre_finite_gmlp.Facts] (m : (ℓ : Loc Cert.GmlpReferenceIdeal.nD Cert.GmlpReferenceIdeal.τ Cert.GmlpReferenceIdeal.sig) → Buf (Elt Ideal) ℓ) : Prop :=
  ∀ c : Dev Cert.GmlpReferenceIdeal.nD,
    (Cert.Pre_finite_gmlp.fn (F := Ideal) (m ((c.tc : Thread Cert.GmlpReferenceIdeal.nD Cert.GmlpReferenceIdeal.τ).loc Cert.GmlpReferenceIdeal.main_arg0)) (m ((c.tc : Thread Cert.GmlpReferenceIdeal.nD Cert.GmlpReferenceIdeal.τ).loc Cert.GmlpReferenceIdeal.main_arg1)) (m ((c.tc : Thread Cert.GmlpReferenceIdeal.nD Cert.GmlpReferenceIdeal.τ).loc Cert.GmlpReferenceIdeal.main_arg2)) (m ((c.tc : Thread Cert.GmlpReferenceIdeal.nD Cert.GmlpReferenceIdeal.τ).loc Cert.GmlpReferenceIdeal.main_arg3)) (m ((c.tc : Thread Cert.GmlpReferenceIdeal.nD Cert.GmlpReferenceIdeal.τ).loc Cert.GmlpReferenceIdeal.main_arg4)) (m ((c.tc : Thread Cert.GmlpReferenceIdeal.nD Cert.GmlpReferenceIdeal.τ).loc Cert.GmlpReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_NrmKernel (m : (ℓ : Loc Cert.NrmKernel.nD Cert.NrmKernel.τ Cert.NrmKernel.sig) → Buf (Elt Bits) ℓ) : Prop :=
  True

def Pre_NrmKernelIdeal (m : (ℓ : Loc Cert.NrmKernelIdeal.nD Cert.NrmKernelIdeal.τ Cert.NrmKernelIdeal.sig) → Buf (Elt Ideal) ℓ) : Prop :=
  True

def Pre_NrmReferenceIdeal (m : (ℓ : Loc Cert.NrmReferenceIdeal.nD Cert.NrmReferenceIdeal.τ Cert.NrmReferenceIdeal.sig) → Buf (Elt Ideal) ℓ) : Prop :=
  True

def Pre_OnrKernel (m : (ℓ : Loc Cert.OnrKernel.nD Cert.OnrKernel.τ Cert.OnrKernel.sig) → Buf (Elt Bits) ℓ) : Prop :=
  True

def Pre_OnrKernelIdeal (m : (ℓ : Loc Cert.OnrKernelIdeal.nD Cert.OnrKernelIdeal.τ Cert.OnrKernelIdeal.sig) → Buf (Elt Ideal) ℓ) : Prop :=
  True

def Pre_OnrReferenceIdeal (m : (ℓ : Loc Cert.OnrReferenceIdeal.nD Cert.OnrReferenceIdeal.τ Cert.OnrReferenceIdeal.sig) → Buf (Elt Ideal) ℓ) : Prop :=
  True

def Pre_CvfKernel (m : (ℓ : Loc Cert.CvfKernel.nD Cert.CvfKernel.τ Cert.CvfKernel.sig) → Buf (Elt Bits) ℓ) : Prop :=
  True

def Pre_CvfKernelIdeal (m : (ℓ : Loc Cert.CvfKernelIdeal.nD Cert.CvfKernelIdeal.τ Cert.CvfKernelIdeal.sig) → Buf (Elt Ideal) ℓ) : Prop :=
  True

def Pre_CvfReferenceIdeal (m : (ℓ : Loc Cert.CvfReferenceIdeal.nD Cert.CvfReferenceIdeal.τ Cert.CvfReferenceIdeal.sig) → Buf (Elt Ideal) ℓ) : Prop :=
  True

def Pre_GmfKernel (m : (ℓ : Loc Cert.GmfKernel.nD Cert.GmfKernel.τ Cert.GmfKernel.sig) → Buf (Elt Bits) ℓ) : Prop :=
  True

def Pre_GmfKernelIdeal (m : (ℓ : Loc Cert.GmfKernelIdeal.nD Cert.GmfKernelIdeal.τ Cert.GmfKernelIdeal.sig) → Buf (Elt Ideal) ℓ) : Prop :=
  True

def Pre_GmfReferenceIdeal (m : (ℓ : Loc Cert.GmfReferenceIdeal.nD Cert.GmfReferenceIdeal.τ Cert.GmfReferenceIdeal.sig) → Buf (Elt Ideal) ℓ) : Prop :=
  True

def Pre_AtfKernel (m : (ℓ : Loc Cert.AtfKernel.nD Cert.AtfKernel.τ Cert.AtfKernel.sig) → Buf (Elt Bits) ℓ) : Prop :=
  True

def Pre_AtfKernelIdeal (m : (ℓ : Loc Cert.AtfKernelIdeal.nD Cert.AtfKernelIdeal.τ Cert.AtfKernelIdeal.sig) → Buf (Elt Ideal) ℓ) : Prop :=
  True

def Pre_AtfReferenceIdeal (m : (ℓ : Loc Cert.AtfReferenceIdeal.nD Cert.AtfReferenceIdeal.τ Cert.AtfReferenceIdeal.sig) → Buf (Elt Ideal) ℓ) : Prop :=
  True

def Pre_SwgKernel (m : (ℓ : Loc Cert.SwgKernel.nD Cert.SwgKernel.τ Cert.SwgKernel.sig) → Buf (Elt Bits) ℓ) : Prop :=
  True

def Pre_SwgKernelIdeal (m : (ℓ : Loc Cert.SwgKernelIdeal.nD Cert.SwgKernelIdeal.τ Cert.SwgKernelIdeal.sig) → Buf (Elt Ideal) ℓ) : Prop :=
  True

def Pre_SwgKernelIdeal_finite_swg [hPre_finite_swg : Cert.Pre_finite_swg.Facts] (m : (ℓ : Loc Cert.SwgKernelIdeal.nD Cert.SwgKernelIdeal.τ Cert.SwgKernelIdeal.sig) → Buf (Elt Ideal) ℓ) : Prop :=
  ∀ c : Dev Cert.SwgKernelIdeal.nD,
    (Cert.Pre_finite_swg.fn (F := Ideal) (m ((c.tc : Thread Cert.SwgKernelIdeal.nD Cert.SwgKernelIdeal.τ).loc Cert.SwgKernelIdeal.main_arg0)) (m ((c.tc : Thread Cert.SwgKernelIdeal.nD Cert.SwgKernelIdeal.τ).loc Cert.SwgKernelIdeal.main_arg1))) = (fun _ => 1#1)

def Pre_SwgReferenceIdeal (m : (ℓ : Loc Cert.SwgReferenceIdeal.nD Cert.SwgReferenceIdeal.τ Cert.SwgReferenceIdeal.sig) → Buf (Elt Ideal) ℓ) : Prop :=
  True

def Pre_SwgReferenceIdeal_finite_swg [hPre_finite_swg : Cert.Pre_finite_swg.Facts] (m : (ℓ : Loc Cert.SwgReferenceIdeal.nD Cert.SwgReferenceIdeal.τ Cert.SwgReferenceIdeal.sig) → Buf (Elt Ideal) ℓ) : Prop :=
  ∀ c : Dev Cert.SwgReferenceIdeal.nD,
    (Cert.Pre_finite_swg.fn (F := Ideal) (m ((c.tc : Thread Cert.SwgReferenceIdeal.nD Cert.SwgReferenceIdeal.τ).loc Cert.SwgReferenceIdeal.main_arg0)) (m ((c.tc : Thread Cert.SwgReferenceIdeal.nD Cert.SwgReferenceIdeal.τ).loc Cert.SwgReferenceIdeal.main_arg1))) = (fun _ => 1#1)

def Pre_WnnKernel (m : (ℓ : Loc Cert.WnnKernel.nD Cert.WnnKernel.τ Cert.WnnKernel.sig) → Buf (Elt Bits) ℓ) : Prop :=
  True

def Pre_WnnKernelIdeal (m : (ℓ : Loc Cert.WnnKernelIdeal.nD Cert.WnnKernelIdeal.τ Cert.WnnKernelIdeal.sig) → Buf (Elt Ideal) ℓ) : Prop :=
  True

def Pre_WnnReferenceIdeal (m : (ℓ : Loc Cert.WnnReferenceIdeal.nD Cert.WnnReferenceIdeal.τ Cert.WnnReferenceIdeal.sig) → Buf (Elt Ideal) ℓ) : Prop :=
  True

def Pre_PnnKernel (m : (ℓ : Loc Cert.PnnKernel.nD Cert.PnnKernel.τ Cert.PnnKernel.sig) → Buf (Elt Bits) ℓ) : Prop :=
  True

def Pre_PnnKernelIdeal (m : (ℓ : Loc Cert.PnnKernelIdeal.nD Cert.PnnKernelIdeal.τ Cert.PnnKernelIdeal.sig) → Buf (Elt Ideal) ℓ) : Prop :=
  True

def Pre_PnnReferenceIdeal (m : (ℓ : Loc Cert.PnnReferenceIdeal.nD Cert.PnnReferenceIdeal.τ Cert.PnnReferenceIdeal.sig) → Buf (Elt Ideal) ℓ) : Prop :=
  True

def Pre_PntKernel (m : (ℓ : Loc Cert.PntKernel.nD Cert.PntKernel.τ Cert.PntKernel.sig) → Buf (Elt Bits) ℓ) : Prop :=
  True

def Pre_PntKernelIdeal (m : (ℓ : Loc Cert.PntKernelIdeal.nD Cert.PntKernelIdeal.τ Cert.PntKernelIdeal.sig) → Buf (Elt Ideal) ℓ) : Prop :=
  True

def Pre_PntReferenceIdeal (m : (ℓ : Loc Cert.PntReferenceIdeal.nD Cert.PntReferenceIdeal.τ Cert.PntReferenceIdeal.sig) → Buf (Elt Ideal) ℓ) : Prop :=
  True

def Pre_PtnKernel (m : (ℓ : Loc Cert.PtnKernel.nD Cert.PtnKernel.τ Cert.PtnKernel.sig) → Buf (Elt Bits) ℓ) : Prop :=
  True

def Pre_PtnKernelIdeal (m : (ℓ : Loc Cert.PtnKernelIdeal.nD Cert.PtnKernelIdeal.τ Cert.PtnKernelIdeal.sig) → Buf (Elt Ideal) ℓ) : Prop :=
  True

def Pre_PtnReferenceIdeal (m : (ℓ : Loc Cert.PtnReferenceIdeal.nD Cert.PtnReferenceIdeal.τ Cert.PtnReferenceIdeal.sig) → Buf (Elt Ideal) ℓ) : Prop :=
  True

def Pre_AdfKernel (m : (ℓ : Loc Cert.AdfKernel.nD Cert.AdfKernel.τ Cert.AdfKernel.sig) → Buf (Elt Bits) ℓ) : Prop :=
  True

def Pre_AdfKernelIdeal (m : (ℓ : Loc Cert.AdfKernelIdeal.nD Cert.AdfKernelIdeal.τ Cert.AdfKernelIdeal.sig) → Buf (Elt Ideal) ℓ) : Prop :=
  True

def Pre_AdfReferenceIdeal (m : (ℓ : Loc Cert.AdfReferenceIdeal.nD Cert.AdfReferenceIdeal.τ Cert.AdfReferenceIdeal.sig) → Buf (Elt Ideal) ℓ) : Prop :=
  True

def Pre_AdlKernel (m : (ℓ : Loc Cert.AdlKernel.nD Cert.AdlKernel.τ Cert.AdlKernel.sig) → Buf (Elt Bits) ℓ) : Prop :=
  True

def Pre_AdlKernelIdeal (m : (ℓ : Loc Cert.AdlKernelIdeal.nD Cert.AdlKernelIdeal.τ Cert.AdlKernelIdeal.sig) → Buf (Elt Ideal) ℓ) : Prop :=
  True

def Pre_AdlReferenceIdeal (m : (ℓ : Loc Cert.AdlReferenceIdeal.nD Cert.AdlReferenceIdeal.τ Cert.AdlReferenceIdeal.sig) → Buf (Elt Ideal) ℓ) : Prop :=
  True

def Pre_SmlKernel (m : (ℓ : Loc Cert.SmlKernel.nD Cert.SmlKernel.τ Cert.SmlKernel.sig) → Buf (Elt Bits) ℓ) : Prop :=
  True

def Pre_SmlKernelIdeal (m : (ℓ : Loc Cert.SmlKernelIdeal.nD Cert.SmlKernelIdeal.τ Cert.SmlKernelIdeal.sig) → Buf (Elt Ideal) ℓ) : Prop :=
  True

def Pre_SmlReferenceIdeal (m : (ℓ : Loc Cert.SmlReferenceIdeal.nD Cert.SmlReferenceIdeal.τ Cert.SmlReferenceIdeal.sig) → Buf (Elt Ideal) ℓ) : Prop :=
  True

def Pre_AdhKernel (m : (ℓ : Loc Cert.AdhKernel.nD Cert.AdhKernel.τ Cert.AdhKernel.sig) → Buf (Elt Bits) ℓ) : Prop :=
  True

def Pre_AdhKernelIdeal (m : (ℓ : Loc Cert.AdhKernelIdeal.nD Cert.AdhKernelIdeal.τ Cert.AdhKernelIdeal.sig) → Buf (Elt Ideal) ℓ) : Prop :=
  True

def Pre_AdhReferenceIdeal (m : (ℓ : Loc Cert.AdhReferenceIdeal.nD Cert.AdhReferenceIdeal.τ Cert.AdhReferenceIdeal.sig) → Buf (Elt Ideal) ℓ) : Prop :=
  True

def Pre_SwpKernel (m : (ℓ : Loc Cert.SwpKernel.nD Cert.SwpKernel.τ Cert.SwpKernel.sig) → Buf (Elt Bits) ℓ) : Prop :=
  True

def Pre_SwpKernelIdeal (m : (ℓ : Loc Cert.SwpKernelIdeal.nD Cert.SwpKernelIdeal.τ Cert.SwpKernelIdeal.sig) → Buf (Elt Ideal) ℓ) : Prop :=
  True

def Pre_SwpReferenceIdeal (m : (ℓ : Loc Cert.SwpReferenceIdeal.nD Cert.SwpReferenceIdeal.τ Cert.SwpReferenceIdeal.sig) → Buf (Elt Ideal) ℓ) : Prop :=
  True

def Pre_GatKernel (m : (ℓ : Loc Cert.GatKernel.nD Cert.GatKernel.τ Cert.GatKernel.sig) → Buf (Elt Bits) ℓ) : Prop :=
  True

def Pre_GatKernelIdeal (m : (ℓ : Loc Cert.GatKernelIdeal.nD Cert.GatKernelIdeal.τ Cert.GatKernelIdeal.sig) → Buf (Elt Ideal) ℓ) : Prop :=
  True

def Pre_GatReferenceIdeal (m : (ℓ : Loc Cert.GatReferenceIdeal.nD Cert.GatReferenceIdeal.τ Cert.GatReferenceIdeal.sig) → Buf (Elt Ideal) ℓ) : Prop :=
  True

def Pre_SctKernel (m : (ℓ : Loc Cert.SctKernel.nD Cert.SctKernel.τ Cert.SctKernel.sig) → Buf (Elt Bits) ℓ) : Prop :=
  True

def Pre_SctKernelIdeal (m : (ℓ : Loc Cert.SctKernelIdeal.nD Cert.SctKernelIdeal.τ Cert.SctKernelIdeal.sig) → Buf (Elt Ideal) ℓ) : Prop :=
  True

def Pre_SctReferenceIdeal (m : (ℓ : Loc Cert.SctReferenceIdeal.nD Cert.SctReferenceIdeal.τ Cert.SctReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_XdhKernel [hXdhKernel : Cert.XdhKernel.Facts] : Prop :=
  ∀ (m : (ℓ : Loc Cert.XdhKernel.nD Cert.XdhKernel.τ Cert.XdhKernel.sig) → Buf (Elt Bits) ℓ) (g : Dev Cert.XdhKernel.nD → PrngReg), Pre_XdhKernel m →
    θ_run (Cert.XdhKernel.defs (F := Bits)) (onTc (τ := Cert.XdhKernel.τ) (Cert.XdhKernel.main (F := Bits))) ⟨m, fun _ => 0, g⟩ (fun r => (∀ c : Dev Cert.XdhKernel.nD,
      r.2.mem ((c.tc : Thread Cert.XdhKernel.nD Cert.XdhKernel.τ).loc Cert.XdhKernel.main_arg0) = m ((c.tc : Thread Cert.XdhKernel.nD Cert.XdhKernel.τ).loc Cert.XdhKernel.main_arg0)
      ∧ r.2.mem ((c.tc : Thread Cert.XdhKernel.nD Cert.XdhKernel.τ).loc Cert.XdhKernel.main_arg1) = m ((c.tc : Thread Cert.XdhKernel.nD Cert.XdhKernel.τ).loc Cert.XdhKernel.main_arg1)
      ∧ r.2.mem ((c.tc : Thread Cert.XdhKernel.nD Cert.XdhKernel.τ).loc Cert.XdhKernel.main_arg2) = m ((c.tc : Thread Cert.XdhKernel.nD Cert.XdhKernel.τ).loc Cert.XdhKernel.main_arg2)
      ∧ r.2.mem ((c.tc : Thread Cert.XdhKernel.nD Cert.XdhKernel.τ).loc Cert.XdhKernel.main_arg3) = m ((c.tc : Thread Cert.XdhKernel.nD Cert.XdhKernel.τ).loc Cert.XdhKernel.main_arg3)
      ∧ r.2.mem ((c.tc : Thread Cert.XdhKernel.nD Cert.XdhKernel.τ).loc Cert.XdhKernel.main_arg4) = m ((c.tc : Thread Cert.XdhKernel.nD Cert.XdhKernel.τ).loc Cert.XdhKernel.main_arg4))
      ∧ r.2.sem = fun _ => 0)

def quiescent_XdhKernelIdeal [hXdhKernelIdeal : Cert.XdhKernelIdeal.Facts] : Prop :=
  ∀ (m : (ℓ : Loc Cert.XdhKernelIdeal.nD Cert.XdhKernelIdeal.τ Cert.XdhKernelIdeal.sig) → Buf (Elt Ideal) ℓ) (g : Dev Cert.XdhKernelIdeal.nD → PrngReg), Pre_XdhKernelIdeal m →
    θ_run (Cert.XdhKernelIdeal.defs (F := Ideal)) (onTc (τ := Cert.XdhKernelIdeal.τ) (Cert.XdhKernelIdeal.main (F := Ideal))) ⟨m, fun _ => 0, g⟩ (fun r => (∀ c : Dev Cert.XdhKernelIdeal.nD,
      r.2.mem ((c.tc : Thread Cert.XdhKernelIdeal.nD Cert.XdhKernelIdeal.τ).loc Cert.XdhKernelIdeal.main_arg0) = m ((c.tc : Thread Cert.XdhKernelIdeal.nD Cert.XdhKernelIdeal.τ).loc Cert.XdhKernelIdeal.main_arg0)
      ∧ r.2.mem ((c.tc : Thread Cert.XdhKernelIdeal.nD Cert.XdhKernelIdeal.τ).loc Cert.XdhKernelIdeal.main_arg1) = m ((c.tc : Thread Cert.XdhKernelIdeal.nD Cert.XdhKernelIdeal.τ).loc Cert.XdhKernelIdeal.main_arg1)
      ∧ r.2.mem ((c.tc : Thread Cert.XdhKernelIdeal.nD Cert.XdhKernelIdeal.τ).loc Cert.XdhKernelIdeal.main_arg2) = m ((c.tc : Thread Cert.XdhKernelIdeal.nD Cert.XdhKernelIdeal.τ).loc Cert.XdhKernelIdeal.main_arg2)
      ∧ r.2.mem ((c.tc : Thread Cert.XdhKernelIdeal.nD Cert.XdhKernelIdeal.τ).loc Cert.XdhKernelIdeal.main_arg3) = m ((c.tc : Thread Cert.XdhKernelIdeal.nD Cert.XdhKernelIdeal.τ).loc Cert.XdhKernelIdeal.main_arg3)
      ∧ r.2.mem ((c.tc : Thread Cert.XdhKernelIdeal.nD Cert.XdhKernelIdeal.τ).loc Cert.XdhKernelIdeal.main_arg4) = m ((c.tc : Thread Cert.XdhKernelIdeal.nD Cert.XdhKernelIdeal.τ).loc Cert.XdhKernelIdeal.main_arg4))
      ∧ r.2.sem = fun _ => 0)

def quiescent_XdhReferenceIdeal [hXdhReferenceIdeal : Cert.XdhReferenceIdeal.Facts] : Prop :=
  ∀ (m : (ℓ : Loc Cert.XdhReferenceIdeal.nD Cert.XdhReferenceIdeal.τ Cert.XdhReferenceIdeal.sig) → Buf (Elt Ideal) ℓ) (g : Dev Cert.XdhReferenceIdeal.nD → PrngReg), Pre_XdhReferenceIdeal m →
    θ_run (Cert.XdhReferenceIdeal.defs (F := Ideal)) (onTc (τ := Cert.XdhReferenceIdeal.τ) (Cert.XdhReferenceIdeal.main (F := Ideal))) ⟨m, fun _ => 0, g⟩ (fun r => (∀ c : Dev Cert.XdhReferenceIdeal.nD,
      r.2.mem ((c.tc : Thread Cert.XdhReferenceIdeal.nD Cert.XdhReferenceIdeal.τ).loc Cert.XdhReferenceIdeal.main_arg0) = m ((c.tc : Thread Cert.XdhReferenceIdeal.nD Cert.XdhReferenceIdeal.τ).loc Cert.XdhReferenceIdeal.main_arg0)
      ∧ r.2.mem ((c.tc : Thread Cert.XdhReferenceIdeal.nD Cert.XdhReferenceIdeal.τ).loc Cert.XdhReferenceIdeal.main_arg1) = m ((c.tc : Thread Cert.XdhReferenceIdeal.nD Cert.XdhReferenceIdeal.τ).loc Cert.XdhReferenceIdeal.main_arg1)
      ∧ r.2.mem ((c.tc : Thread Cert.XdhReferenceIdeal.nD Cert.XdhReferenceIdeal.τ).loc Cert.XdhReferenceIdeal.main_arg2) = m ((c.tc : Thread Cert.XdhReferenceIdeal.nD Cert.XdhReferenceIdeal.τ).loc Cert.XdhReferenceIdeal.main_arg2)
      ∧ r.2.mem ((c.tc : Thread Cert.XdhReferenceIdeal.nD Cert.XdhReferenceIdeal.τ).loc Cert.XdhReferenceIdeal.main_arg3) = m ((c.tc : Thread Cert.XdhReferenceIdeal.nD Cert.XdhReferenceIdeal.τ).loc Cert.XdhReferenceIdeal.main_arg3)
      ∧ r.2.mem ((c.tc : Thread Cert.XdhReferenceIdeal.nD Cert.XdhReferenceIdeal.τ).loc Cert.XdhReferenceIdeal.main_arg4) = m ((c.tc : Thread Cert.XdhReferenceIdeal.nD Cert.XdhReferenceIdeal.τ).loc Cert.XdhReferenceIdeal.main_arg4))
      ∧ r.2.sem = fun _ => 0)

def quiescent_DswKernel [hDswKernel : Cert.DswKernel.Facts] : Prop :=
  ∀ (m : (ℓ : Loc Cert.DswKernel.nD Cert.DswKernel.τ Cert.DswKernel.sig) → Buf (Elt Bits) ℓ) (g : Dev Cert.DswKernel.nD → PrngReg), Pre_DswKernel m →
    θ_run (Cert.DswKernel.defs (F := Bits)) (onTc (τ := Cert.DswKernel.τ) (Cert.DswKernel.main (F := Bits))) ⟨m, fun _ => 0, g⟩ (fun r => (∀ c : Dev Cert.DswKernel.nD,
      r.2.mem ((c.tc : Thread Cert.DswKernel.nD Cert.DswKernel.τ).loc Cert.DswKernel.main_arg0) = m ((c.tc : Thread Cert.DswKernel.nD Cert.DswKernel.τ).loc Cert.DswKernel.main_arg0)
      ∧ r.2.mem ((c.tc : Thread Cert.DswKernel.nD Cert.DswKernel.τ).loc Cert.DswKernel.main_arg1) = m ((c.tc : Thread Cert.DswKernel.nD Cert.DswKernel.τ).loc Cert.DswKernel.main_arg1)
      ∧ r.2.mem ((c.tc : Thread Cert.DswKernel.nD Cert.DswKernel.τ).loc Cert.DswKernel.main_arg2) = m ((c.tc : Thread Cert.DswKernel.nD Cert.DswKernel.τ).loc Cert.DswKernel.main_arg2)
      ∧ r.2.mem ((c.tc : Thread Cert.DswKernel.nD Cert.DswKernel.τ).loc Cert.DswKernel.main_arg3) = m ((c.tc : Thread Cert.DswKernel.nD Cert.DswKernel.τ).loc Cert.DswKernel.main_arg3))
      ∧ r.2.sem = fun _ => 0)

def quiescent_DswKernelIdeal [hDswKernelIdeal : Cert.DswKernelIdeal.Facts] : Prop :=
  ∀ (m : (ℓ : Loc Cert.DswKernelIdeal.nD Cert.DswKernelIdeal.τ Cert.DswKernelIdeal.sig) → Buf (Elt Ideal) ℓ) (g : Dev Cert.DswKernelIdeal.nD → PrngReg), Pre_DswKernelIdeal m →
    θ_run (Cert.DswKernelIdeal.defs (F := Ideal)) (onTc (τ := Cert.DswKernelIdeal.τ) (Cert.DswKernelIdeal.main (F := Ideal))) ⟨m, fun _ => 0, g⟩ (fun r => (∀ c : Dev Cert.DswKernelIdeal.nD,
      r.2.mem ((c.tc : Thread Cert.DswKernelIdeal.nD Cert.DswKernelIdeal.τ).loc Cert.DswKernelIdeal.main_arg0) = m ((c.tc : Thread Cert.DswKernelIdeal.nD Cert.DswKernelIdeal.τ).loc Cert.DswKernelIdeal.main_arg0)
      ∧ r.2.mem ((c.tc : Thread Cert.DswKernelIdeal.nD Cert.DswKernelIdeal.τ).loc Cert.DswKernelIdeal.main_arg1) = m ((c.tc : Thread Cert.DswKernelIdeal.nD Cert.DswKernelIdeal.τ).loc Cert.DswKernelIdeal.main_arg1)
      ∧ r.2.mem ((c.tc : Thread Cert.DswKernelIdeal.nD Cert.DswKernelIdeal.τ).loc Cert.DswKernelIdeal.main_arg2) = m ((c.tc : Thread Cert.DswKernelIdeal.nD Cert.DswKernelIdeal.τ).loc Cert.DswKernelIdeal.main_arg2)
      ∧ r.2.mem ((c.tc : Thread Cert.DswKernelIdeal.nD Cert.DswKernelIdeal.τ).loc Cert.DswKernelIdeal.main_arg3) = m ((c.tc : Thread Cert.DswKernelIdeal.nD Cert.DswKernelIdeal.τ).loc Cert.DswKernelIdeal.main_arg3))
      ∧ r.2.sem = fun _ => 0)

def quiescent_DswKernelIdeal_pre_finite_dsw [hDswKernelIdeal : Cert.DswKernelIdeal.Facts] [hPre_finite_dsw : Cert.Pre_finite_dsw.Facts] : Prop :=
  ∀ (m : (ℓ : Loc Cert.DswKernelIdeal.nD Cert.DswKernelIdeal.τ Cert.DswKernelIdeal.sig) → Buf (Elt Ideal) ℓ) (g : Dev Cert.DswKernelIdeal.nD → PrngReg), Pre_DswKernelIdeal_finite_dsw m →
    θ_run (Cert.DswKernelIdeal.defs (F := Ideal)) (onTc (τ := Cert.DswKernelIdeal.τ) (Cert.DswKernelIdeal.main (F := Ideal))) ⟨m, fun _ => 0, g⟩ (fun r => (∀ c : Dev Cert.DswKernelIdeal.nD,
      r.2.mem ((c.tc : Thread Cert.DswKernelIdeal.nD Cert.DswKernelIdeal.τ).loc Cert.DswKernelIdeal.main_arg0) = m ((c.tc : Thread Cert.DswKernelIdeal.nD Cert.DswKernelIdeal.τ).loc Cert.DswKernelIdeal.main_arg0)
      ∧ r.2.mem ((c.tc : Thread Cert.DswKernelIdeal.nD Cert.DswKernelIdeal.τ).loc Cert.DswKernelIdeal.main_arg1) = m ((c.tc : Thread Cert.DswKernelIdeal.nD Cert.DswKernelIdeal.τ).loc Cert.DswKernelIdeal.main_arg1)
      ∧ r.2.mem ((c.tc : Thread Cert.DswKernelIdeal.nD Cert.DswKernelIdeal.τ).loc Cert.DswKernelIdeal.main_arg2) = m ((c.tc : Thread Cert.DswKernelIdeal.nD Cert.DswKernelIdeal.τ).loc Cert.DswKernelIdeal.main_arg2)
      ∧ r.2.mem ((c.tc : Thread Cert.DswKernelIdeal.nD Cert.DswKernelIdeal.τ).loc Cert.DswKernelIdeal.main_arg3) = m ((c.tc : Thread Cert.DswKernelIdeal.nD Cert.DswKernelIdeal.τ).loc Cert.DswKernelIdeal.main_arg3))
      ∧ r.2.sem = fun _ => 0)

def quiescent_DswReferenceIdeal [hDswReferenceIdeal : Cert.DswReferenceIdeal.Facts] : Prop :=
  ∀ (m : (ℓ : Loc Cert.DswReferenceIdeal.nD Cert.DswReferenceIdeal.τ Cert.DswReferenceIdeal.sig) → Buf (Elt Ideal) ℓ) (g : Dev Cert.DswReferenceIdeal.nD → PrngReg), Pre_DswReferenceIdeal m →
    θ_run (Cert.DswReferenceIdeal.defs (F := Ideal)) (onTc (τ := Cert.DswReferenceIdeal.τ) (Cert.DswReferenceIdeal.main (F := Ideal))) ⟨m, fun _ => 0, g⟩ (fun r => (∀ c : Dev Cert.DswReferenceIdeal.nD,
      r.2.mem ((c.tc : Thread Cert.DswReferenceIdeal.nD Cert.DswReferenceIdeal.τ).loc Cert.DswReferenceIdeal.main_arg0) = m ((c.tc : Thread Cert.DswReferenceIdeal.nD Cert.DswReferenceIdeal.τ).loc Cert.DswReferenceIdeal.main_arg0)
      ∧ r.2.mem ((c.tc : Thread Cert.DswReferenceIdeal.nD Cert.DswReferenceIdeal.τ).loc Cert.DswReferenceIdeal.main_arg1) = m ((c.tc : Thread Cert.DswReferenceIdeal.nD Cert.DswReferenceIdeal.τ).loc Cert.DswReferenceIdeal.main_arg1)
      ∧ r.2.mem ((c.tc : Thread Cert.DswReferenceIdeal.nD Cert.DswReferenceIdeal.τ).loc Cert.DswReferenceIdeal.main_arg2) = m ((c.tc : Thread Cert.DswReferenceIdeal.nD Cert.DswReferenceIdeal.τ).loc Cert.DswReferenceIdeal.main_arg2)
      ∧ r.2.mem ((c.tc : Thread Cert.DswReferenceIdeal.nD Cert.DswReferenceIdeal.τ).loc Cert.DswReferenceIdeal.main_arg3) = m ((c.tc : Thread Cert.DswReferenceIdeal.nD Cert.DswReferenceIdeal.τ).loc Cert.DswReferenceIdeal.main_arg3))
      ∧ r.2.sem = fun _ => 0)

def quiescent_DswReferenceIdeal_pre_finite_dsw [hDswReferenceIdeal : Cert.DswReferenceIdeal.Facts] [hPre_finite_dsw : Cert.Pre_finite_dsw.Facts] : Prop :=
  ∀ (m : (ℓ : Loc Cert.DswReferenceIdeal.nD Cert.DswReferenceIdeal.τ Cert.DswReferenceIdeal.sig) → Buf (Elt Ideal) ℓ) (g : Dev Cert.DswReferenceIdeal.nD → PrngReg), Pre_DswReferenceIdeal_finite_dsw m →
    θ_run (Cert.DswReferenceIdeal.defs (F := Ideal)) (onTc (τ := Cert.DswReferenceIdeal.τ) (Cert.DswReferenceIdeal.main (F := Ideal))) ⟨m, fun _ => 0, g⟩ (fun r => (∀ c : Dev Cert.DswReferenceIdeal.nD,
      r.2.mem ((c.tc : Thread Cert.DswReferenceIdeal.nD Cert.DswReferenceIdeal.τ).loc Cert.DswReferenceIdeal.main_arg0) = m ((c.tc : Thread Cert.DswReferenceIdeal.nD Cert.DswReferenceIdeal.τ).loc Cert.DswReferenceIdeal.main_arg0)
      ∧ r.2.mem ((c.tc : Thread Cert.DswReferenceIdeal.nD Cert.DswReferenceIdeal.τ).loc Cert.DswReferenceIdeal.main_arg1) = m ((c.tc : Thread Cert.DswReferenceIdeal.nD Cert.DswReferenceIdeal.τ).loc Cert.DswReferenceIdeal.main_arg1)
      ∧ r.2.mem ((c.tc : Thread Cert.DswReferenceIdeal.nD Cert.DswReferenceIdeal.τ).loc Cert.DswReferenceIdeal.main_arg2) = m ((c.tc : Thread Cert.DswReferenceIdeal.nD Cert.DswReferenceIdeal.τ).loc Cert.DswReferenceIdeal.main_arg2)
      ∧ r.2.mem ((c.tc : Thread Cert.DswReferenceIdeal.nD Cert.DswReferenceIdeal.τ).loc Cert.DswReferenceIdeal.main_arg3) = m ((c.tc : Thread Cert.DswReferenceIdeal.nD Cert.DswReferenceIdeal.τ).loc Cert.DswReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4)
      ∧ r.2.mem ((c.tc : Thread Cert.GmlpKernel.nD Cert.GmlpKernel.τ).loc Cert.GmlpKernel.main_arg5) = m ((c.tc : Thread Cert.GmlpKernel.nD Cert.GmlpKernel.τ).loc Cert.GmlpKernel.main_arg5))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpKernelIdeal_pre_finite_gmlp [hGmlpKernelIdeal : Cert.GmlpKernelIdeal.Facts] [hPre_finite_gmlp : Cert.Pre_finite_gmlp.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal_finite_gmlp m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_GmlpReferenceIdeal_pre_finite_gmlp [hGmlpReferenceIdeal : Cert.GmlpReferenceIdeal.Facts] [hPre_finite_gmlp : Cert.Pre_finite_gmlp.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal_finite_gmlp m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_NrmKernel [hNrmKernel : Cert.NrmKernel.Facts] : Prop :=
  ∀ (m : (ℓ : Loc Cert.NrmKernel.nD Cert.NrmKernel.τ Cert.NrmKernel.sig) → Buf (Elt Bits) ℓ) (g : Dev Cert.NrmKernel.nD → PrngReg), Pre_NrmKernel m →
    θ_run (Cert.NrmKernel.defs (F := Bits)) (onTc (τ := Cert.NrmKernel.τ) (Cert.NrmKernel.main (F := Bits))) ⟨m, fun _ => 0, g⟩ (fun r => (∀ c : Dev Cert.NrmKernel.nD,
      r.2.mem ((c.tc : Thread Cert.NrmKernel.nD Cert.NrmKernel.τ).loc Cert.NrmKernel.main_arg0) = m ((c.tc : Thread Cert.NrmKernel.nD Cert.NrmKernel.τ).loc Cert.NrmKernel.main_arg0)
      ∧ r.2.mem ((c.tc : Thread Cert.NrmKernel.nD Cert.NrmKernel.τ).loc Cert.NrmKernel.main_arg1) = m ((c.tc : Thread Cert.NrmKernel.nD Cert.NrmKernel.τ).loc Cert.NrmKernel.main_arg1))
      ∧ r.2.sem = fun _ => 0)

def quiescent_NrmKernelIdeal [hNrmKernelIdeal : Cert.NrmKernelIdeal.Facts] : Prop :=
  ∀ (m : (ℓ : Loc Cert.NrmKernelIdeal.nD Cert.NrmKernelIdeal.τ Cert.NrmKernelIdeal.sig) → Buf (Elt Ideal) ℓ) (g : Dev Cert.NrmKernelIdeal.nD → PrngReg), Pre_NrmKernelIdeal m →
    θ_run (Cert.NrmKernelIdeal.defs (F := Ideal)) (onTc (τ := Cert.NrmKernelIdeal.τ) (Cert.NrmKernelIdeal.main (F := Ideal))) ⟨m, fun _ => 0, g⟩ (fun r => (∀ c : Dev Cert.NrmKernelIdeal.nD,
      r.2.mem ((c.tc : Thread Cert.NrmKernelIdeal.nD Cert.NrmKernelIdeal.τ).loc Cert.NrmKernelIdeal.main_arg0) = m ((c.tc : Thread Cert.NrmKernelIdeal.nD Cert.NrmKernelIdeal.τ).loc Cert.NrmKernelIdeal.main_arg0)
      ∧ r.2.mem ((c.tc : Thread Cert.NrmKernelIdeal.nD Cert.NrmKernelIdeal.τ).loc Cert.NrmKernelIdeal.main_arg1) = m ((c.tc : Thread Cert.NrmKernelIdeal.nD Cert.NrmKernelIdeal.τ).loc Cert.NrmKernelIdeal.main_arg1))
      ∧ r.2.sem = fun _ => 0)

def quiescent_NrmReferenceIdeal [hNrmReferenceIdeal : Cert.NrmReferenceIdeal.Facts] : Prop :=
  ∀ (m : (ℓ : Loc Cert.NrmReferenceIdeal.nD Cert.NrmReferenceIdeal.τ Cert.NrmReferenceIdeal.sig) → Buf (Elt Ideal) ℓ) (g : Dev Cert.NrmReferenceIdeal.nD → PrngReg), Pre_NrmReferenceIdeal m →
    θ_run (Cert.NrmReferenceIdeal.defs (F := Ideal)) (onTc (τ := Cert.NrmReferenceIdeal.τ) (Cert.NrmReferenceIdeal.main (F := Ideal))) ⟨m, fun _ => 0, g⟩ (fun r => (∀ c : Dev Cert.NrmReferenceIdeal.nD,
      r.2.mem ((c.tc : Thread Cert.NrmReferenceIdeal.nD Cert.NrmReferenceIdeal.τ).loc Cert.NrmReferenceIdeal.main_arg0) = m ((c.tc : Thread Cert.NrmReferenceIdeal.nD Cert.NrmReferenceIdeal.τ).loc Cert.NrmReferenceIdeal.main_arg0)
      ∧ r.2.mem ((c.tc : Thread Cert.NrmReferenceIdeal.nD Cert.NrmReferenceIdeal.τ).loc Cert.NrmReferenceIdeal.main_arg1) = m ((c.tc : Thread Cert.NrmReferenceIdeal.nD Cert.NrmReferenceIdeal.τ).loc Cert.NrmReferenceIdeal.main_arg1))
      ∧ r.2.sem = fun _ => 0)

def quiescent_OnrKernel [hOnrKernel : Cert.OnrKernel.Facts] : Prop :=
  ∀ (m : (ℓ : Loc Cert.OnrKernel.nD Cert.OnrKernel.τ Cert.OnrKernel.sig) → Buf (Elt Bits) ℓ) (g : Dev Cert.OnrKernel.nD → PrngReg), Pre_OnrKernel m →
    θ_run (Cert.OnrKernel.defs (F := Bits)) (onTc (τ := Cert.OnrKernel.τ) (Cert.OnrKernel.main (F := Bits))) ⟨m, fun _ => 0, g⟩ (fun r => (∀ c : Dev Cert.OnrKernel.nD,
      r.2.mem ((c.tc : Thread Cert.OnrKernel.nD Cert.OnrKernel.τ).loc Cert.OnrKernel.main_arg0) = m ((c.tc : Thread Cert.OnrKernel.nD Cert.OnrKernel.τ).loc Cert.OnrKernel.main_arg0)
      ∧ r.2.mem ((c.tc : Thread Cert.OnrKernel.nD Cert.OnrKernel.τ).loc Cert.OnrKernel.main_arg1) = m ((c.tc : Thread Cert.OnrKernel.nD Cert.OnrKernel.τ).loc Cert.OnrKernel.main_arg1)
      ∧ r.2.mem ((c.tc : Thread Cert.OnrKernel.nD Cert.OnrKernel.τ).loc Cert.OnrKernel.main_arg2) = m ((c.tc : Thread Cert.OnrKernel.nD Cert.OnrKernel.τ).loc Cert.OnrKernel.main_arg2)
      ∧ r.2.mem ((c.tc : Thread Cert.OnrKernel.nD Cert.OnrKernel.τ).loc Cert.OnrKernel.main_arg3) = m ((c.tc : Thread Cert.OnrKernel.nD Cert.OnrKernel.τ).loc Cert.OnrKernel.main_arg3))
      ∧ r.2.sem = fun _ => 0)

def quiescent_OnrKernelIdeal [hOnrKernelIdeal : Cert.OnrKernelIdeal.Facts] : Prop :=
  ∀ (m : (ℓ : Loc Cert.OnrKernelIdeal.nD Cert.OnrKernelIdeal.τ Cert.OnrKernelIdeal.sig) → Buf (Elt Ideal) ℓ) (g : Dev Cert.OnrKernelIdeal.nD → PrngReg), Pre_OnrKernelIdeal m →
    θ_run (Cert.OnrKernelIdeal.defs (F := Ideal)) (onTc (τ := Cert.OnrKernelIdeal.τ) (Cert.OnrKernelIdeal.main (F := Ideal))) ⟨m, fun _ => 0, g⟩ (fun r => (∀ c : Dev Cert.OnrKernelIdeal.nD,
      r.2.mem ((c.tc : Thread Cert.OnrKernelIdeal.nD Cert.OnrKernelIdeal.τ).loc Cert.OnrKernelIdeal.main_arg0) = m ((c.tc : Thread Cert.OnrKernelIdeal.nD Cert.OnrKernelIdeal.τ).loc Cert.OnrKernelIdeal.main_arg0)
      ∧ r.2.mem ((c.tc : Thread Cert.OnrKernelIdeal.nD Cert.OnrKernelIdeal.τ).loc Cert.OnrKernelIdeal.main_arg1) = m ((c.tc : Thread Cert.OnrKernelIdeal.nD Cert.OnrKernelIdeal.τ).loc Cert.OnrKernelIdeal.main_arg1)
      ∧ r.2.mem ((c.tc : Thread Cert.OnrKernelIdeal.nD Cert.OnrKernelIdeal.τ).loc Cert.OnrKernelIdeal.main_arg2) = m ((c.tc : Thread Cert.OnrKernelIdeal.nD Cert.OnrKernelIdeal.τ).loc Cert.OnrKernelIdeal.main_arg2)
      ∧ r.2.mem ((c.tc : Thread Cert.OnrKernelIdeal.nD Cert.OnrKernelIdeal.τ).loc Cert.OnrKernelIdeal.main_arg3) = m ((c.tc : Thread Cert.OnrKernelIdeal.nD Cert.OnrKernelIdeal.τ).loc Cert.OnrKernelIdeal.main_arg3))
      ∧ r.2.sem = fun _ => 0)

def quiescent_OnrReferenceIdeal [hOnrReferenceIdeal : Cert.OnrReferenceIdeal.Facts] : Prop :=
  ∀ (m : (ℓ : Loc Cert.OnrReferenceIdeal.nD Cert.OnrReferenceIdeal.τ Cert.OnrReferenceIdeal.sig) → Buf (Elt Ideal) ℓ) (g : Dev Cert.OnrReferenceIdeal.nD → PrngReg), Pre_OnrReferenceIdeal m →
    θ_run (Cert.OnrReferenceIdeal.defs (F := Ideal)) (onTc (τ := Cert.OnrReferenceIdeal.τ) (Cert.OnrReferenceIdeal.main (F := Ideal))) ⟨m, fun _ => 0, g⟩ (fun r => (∀ c : Dev Cert.OnrReferenceIdeal.nD,
      r.2.mem ((c.tc : Thread Cert.OnrReferenceIdeal.nD Cert.OnrReferenceIdeal.τ).loc Cert.OnrReferenceIdeal.main_arg0) = m ((c.tc : Thread Cert.OnrReferenceIdeal.nD Cert.OnrReferenceIdeal.τ).loc Cert.OnrReferenceIdeal.main_arg0)
      ∧ r.2.mem ((c.tc : Thread Cert.OnrReferenceIdeal.nD Cert.OnrReferenceIdeal.τ).loc Cert.OnrReferenceIdeal.main_arg1) = m ((c.tc : Thread Cert.OnrReferenceIdeal.nD Cert.OnrReferenceIdeal.τ).loc Cert.OnrReferenceIdeal.main_arg1)
      ∧ r.2.mem ((c.tc : Thread Cert.OnrReferenceIdeal.nD Cert.OnrReferenceIdeal.τ).loc Cert.OnrReferenceIdeal.main_arg2) = m ((c.tc : Thread Cert.OnrReferenceIdeal.nD Cert.OnrReferenceIdeal.τ).loc Cert.OnrReferenceIdeal.main_arg2)
      ∧ r.2.mem ((c.tc : Thread Cert.OnrReferenceIdeal.nD Cert.OnrReferenceIdeal.τ).loc Cert.OnrReferenceIdeal.main_arg3) = m ((c.tc : Thread Cert.OnrReferenceIdeal.nD Cert.OnrReferenceIdeal.τ).loc Cert.OnrReferenceIdeal.main_arg3))
      ∧ r.2.sem = fun _ => 0)

def quiescent_CvfKernel [hCvfKernel : Cert.CvfKernel.Facts] : Prop :=
  ∀ (m : (ℓ : Loc Cert.CvfKernel.nD Cert.CvfKernel.τ Cert.CvfKernel.sig) → Buf (Elt Bits) ℓ) (g : Dev Cert.CvfKernel.nD → PrngReg), Pre_CvfKernel m →
    θ_run (Cert.CvfKernel.defs (F := Bits)) (onTc (τ := Cert.CvfKernel.τ) (Cert.CvfKernel.main (F := Bits))) ⟨m, fun _ => 0, g⟩ (fun r => (∀ c : Dev Cert.CvfKernel.nD,
      r.2.mem ((c.tc : Thread Cert.CvfKernel.nD Cert.CvfKernel.τ).loc Cert.CvfKernel.main_arg0) = m ((c.tc : Thread Cert.CvfKernel.nD Cert.CvfKernel.τ).loc Cert.CvfKernel.main_arg0)
      ∧ r.2.mem ((c.tc : Thread Cert.CvfKernel.nD Cert.CvfKernel.τ).loc Cert.CvfKernel.main_arg1) = m ((c.tc : Thread Cert.CvfKernel.nD Cert.CvfKernel.τ).loc Cert.CvfKernel.main_arg1))
      ∧ r.2.sem = fun _ => 0)

def quiescent_CvfKernelIdeal [hCvfKernelIdeal : Cert.CvfKernelIdeal.Facts] : Prop :=
  ∀ (m : (ℓ : Loc Cert.CvfKernelIdeal.nD Cert.CvfKernelIdeal.τ Cert.CvfKernelIdeal.sig) → Buf (Elt Ideal) ℓ) (g : Dev Cert.CvfKernelIdeal.nD → PrngReg), Pre_CvfKernelIdeal m →
    θ_run (Cert.CvfKernelIdeal.defs (F := Ideal)) (onTc (τ := Cert.CvfKernelIdeal.τ) (Cert.CvfKernelIdeal.main (F := Ideal))) ⟨m, fun _ => 0, g⟩ (fun r => (∀ c : Dev Cert.CvfKernelIdeal.nD,
      r.2.mem ((c.tc : Thread Cert.CvfKernelIdeal.nD Cert.CvfKernelIdeal.τ).loc Cert.CvfKernelIdeal.main_arg0) = m ((c.tc : Thread Cert.CvfKernelIdeal.nD Cert.CvfKernelIdeal.τ).loc Cert.CvfKernelIdeal.main_arg0)
      ∧ r.2.mem ((c.tc : Thread Cert.CvfKernelIdeal.nD Cert.CvfKernelIdeal.τ).loc Cert.CvfKernelIdeal.main_arg1) = m ((c.tc : Thread Cert.CvfKernelIdeal.nD Cert.CvfKernelIdeal.τ).loc Cert.CvfKernelIdeal.main_arg1))
      ∧ r.2.sem = fun _ => 0)

def quiescent_CvfReferenceIdeal [hCvfReferenceIdeal : Cert.CvfReferenceIdeal.Facts] : Prop :=
  ∀ (m : (ℓ : Loc Cert.CvfReferenceIdeal.nD Cert.CvfReferenceIdeal.τ Cert.CvfReferenceIdeal.sig) → Buf (Elt Ideal) ℓ) (g : Dev Cert.CvfReferenceIdeal.nD → PrngReg), Pre_CvfReferenceIdeal m →
    θ_run (Cert.CvfReferenceIdeal.defs (F := Ideal)) (onTc (τ := Cert.CvfReferenceIdeal.τ) (Cert.CvfReferenceIdeal.main (F := Ideal))) ⟨m, fun _ => 0, g⟩ (fun r => (∀ c : Dev Cert.CvfReferenceIdeal.nD,
      r.2.mem ((c.tc : Thread Cert.CvfReferenceIdeal.nD Cert.CvfReferenceIdeal.τ).loc Cert.CvfReferenceIdeal.main_arg0) = m ((c.tc : Thread Cert.CvfReferenceIdeal.nD Cert.CvfReferenceIdeal.τ).loc Cert.CvfReferenceIdeal.main_arg0)
      ∧ r.2.mem ((c.tc : Thread Cert.CvfReferenceIdeal.nD Cert.CvfReferenceIdeal.τ).loc Cert.CvfReferenceIdeal.main_arg1) = m ((c.tc : Thread Cert.CvfReferenceIdeal.nD Cert.CvfReferenceIdeal.τ).loc Cert.CvfReferenceIdeal.main_arg1))
      ∧ r.2.sem = fun _ => 0)

def quiescent_GmfKernel [hGmfKernel : Cert.GmfKernel.Facts] : Prop :=
  ∀ (m : (ℓ : Loc Cert.GmfKernel.nD Cert.GmfKernel.τ Cert.GmfKernel.sig) → Buf (Elt Bits) ℓ) (g : Dev Cert.GmfKernel.nD → PrngReg), Pre_GmfKernel m →
    θ_run (Cert.GmfKernel.defs (F := Bits)) (onTc (τ := Cert.GmfKernel.τ) (Cert.GmfKernel.main (F := Bits))) ⟨m, fun _ => 0, g⟩ (fun r => (∀ c : Dev Cert.GmfKernel.nD,
      r.2.mem ((c.tc : Thread Cert.GmfKernel.nD Cert.GmfKernel.τ).loc Cert.GmfKernel.main_arg0) = m ((c.tc : Thread Cert.GmfKernel.nD Cert.GmfKernel.τ).loc Cert.GmfKernel.main_arg0)
      ∧ r.2.mem ((c.tc : Thread Cert.GmfKernel.nD Cert.GmfKernel.τ).loc Cert.GmfKernel.main_arg1) = m ((c.tc : Thread Cert.GmfKernel.nD Cert.GmfKernel.τ).loc Cert.GmfKernel.main_arg1)
      ∧ r.2.mem ((c.tc : Thread Cert.GmfKernel.nD Cert.GmfKernel.τ).loc Cert.GmfKernel.main_arg2) = m ((c.tc : Thread Cert.GmfKernel.nD Cert.GmfKernel.τ).loc Cert.GmfKernel.main_arg2)
      ∧ r.2.mem ((c.tc : Thread Cert.GmfKernel.nD Cert.GmfKernel.τ).loc Cert.GmfKernel.main_arg3) = m ((c.tc : Thread Cert.GmfKernel.nD Cert.GmfKernel.τ).loc Cert.GmfKernel.main_arg3)
      ∧ r.2.mem ((c.tc : Thread Cert.GmfKernel.nD Cert.GmfKernel.τ).loc Cert.GmfKernel.main_arg4) = m ((c.tc : Thread Cert.GmfKernel.nD Cert.GmfKernel.τ).loc Cert.GmfKernel.main_arg4))
      ∧ r.2.sem = fun _ => 0)

def quiescent_GmfKernelIdeal [hGmfKernelIdeal : Cert.GmfKernelIdeal.Facts] : Prop :=
  ∀ (m : (ℓ : Loc Cert.GmfKernelIdeal.nD Cert.GmfKernelIdeal.τ Cert.GmfKernelIdeal.sig) → Buf (Elt Ideal) ℓ) (g : Dev Cert.GmfKernelIdeal.nD → PrngReg), Pre_GmfKernelIdeal m →
    θ_run (Cert.GmfKernelIdeal.defs (F := Ideal)) (onTc (τ := Cert.GmfKernelIdeal.τ) (Cert.GmfKernelIdeal.main (F := Ideal))) ⟨m, fun _ => 0, g⟩ (fun r => (∀ c : Dev Cert.GmfKernelIdeal.nD,
      r.2.mem ((c.tc : Thread Cert.GmfKernelIdeal.nD Cert.GmfKernelIdeal.τ).loc Cert.GmfKernelIdeal.main_arg0) = m ((c.tc : Thread Cert.GmfKernelIdeal.nD Cert.GmfKernelIdeal.τ).loc Cert.GmfKernelIdeal.main_arg0)
      ∧ r.2.mem ((c.tc : Thread Cert.GmfKernelIdeal.nD Cert.GmfKernelIdeal.τ).loc Cert.GmfKernelIdeal.main_arg1) = m ((c.tc : Thread Cert.GmfKernelIdeal.nD Cert.GmfKernelIdeal.τ).loc Cert.GmfKernelIdeal.main_arg1)
      ∧ r.2.mem ((c.tc : Thread Cert.GmfKernelIdeal.nD Cert.GmfKernelIdeal.τ).loc Cert.GmfKernelIdeal.main_arg2) = m ((c.tc : Thread Cert.GmfKernelIdeal.nD Cert.GmfKernelIdeal.τ).loc Cert.GmfKernelIdeal.main_arg2)
      ∧ r.2.mem ((c.tc : Thread Cert.GmfKernelIdeal.nD Cert.GmfKernelIdeal.τ).loc Cert.GmfKernelIdeal.main_arg3) = m ((c.tc : Thread Cert.GmfKernelIdeal.nD Cert.GmfKernelIdeal.τ).loc Cert.GmfKernelIdeal.main_arg3)
      ∧ r.2.mem ((c.tc : Thread Cert.GmfKernelIdeal.nD Cert.GmfKernelIdeal.τ).loc Cert.GmfKernelIdeal.main_arg4) = m ((c.tc : Thread Cert.GmfKernelIdeal.nD Cert.GmfKernelIdeal.τ).loc Cert.GmfKernelIdeal.main_arg4))
      ∧ r.2.sem = fun _ => 0)

def quiescent_GmfReferenceIdeal [hGmfReferenceIdeal : Cert.GmfReferenceIdeal.Facts] : Prop :=
  ∀ (m : (ℓ : Loc Cert.GmfReferenceIdeal.nD Cert.GmfReferenceIdeal.τ Cert.GmfReferenceIdeal.sig) → Buf (Elt Ideal) ℓ) (g : Dev Cert.GmfReferenceIdeal.nD → PrngReg), Pre_GmfReferenceIdeal m →
    θ_run (Cert.GmfReferenceIdeal.defs (F := Ideal)) (onTc (τ := Cert.GmfReferenceIdeal.τ) (Cert.GmfReferenceIdeal.main (F := Ideal))) ⟨m, fun _ => 0, g⟩ (fun r => (∀ c : Dev Cert.GmfReferenceIdeal.nD,
      r.2.mem ((c.tc : Thread Cert.GmfReferenceIdeal.nD Cert.GmfReferenceIdeal.τ).loc Cert.GmfReferenceIdeal.main_arg0) = m ((c.tc : Thread Cert.GmfReferenceIdeal.nD Cert.GmfReferenceIdeal.τ).loc Cert.GmfReferenceIdeal.main_arg0)
      ∧ r.2.mem ((c.tc : Thread Cert.GmfReferenceIdeal.nD Cert.GmfReferenceIdeal.τ).loc Cert.GmfReferenceIdeal.main_arg1) = m ((c.tc : Thread Cert.GmfReferenceIdeal.nD Cert.GmfReferenceIdeal.τ).loc Cert.GmfReferenceIdeal.main_arg1)
      ∧ r.2.mem ((c.tc : Thread Cert.GmfReferenceIdeal.nD Cert.GmfReferenceIdeal.τ).loc Cert.GmfReferenceIdeal.main_arg2) = m ((c.tc : Thread Cert.GmfReferenceIdeal.nD Cert.GmfReferenceIdeal.τ).loc Cert.GmfReferenceIdeal.main_arg2)
      ∧ r.2.mem ((c.tc : Thread Cert.GmfReferenceIdeal.nD Cert.GmfReferenceIdeal.τ).loc Cert.GmfReferenceIdeal.main_arg3) = m ((c.tc : Thread Cert.GmfReferenceIdeal.nD Cert.GmfReferenceIdeal.τ).loc Cert.GmfReferenceIdeal.main_arg3)
      ∧ r.2.mem ((c.tc : Thread Cert.GmfReferenceIdeal.nD Cert.GmfReferenceIdeal.τ).loc Cert.GmfReferenceIdeal.main_arg4) = m ((c.tc : Thread Cert.GmfReferenceIdeal.nD Cert.GmfReferenceIdeal.τ).loc Cert.GmfReferenceIdeal.main_arg4))
      ∧ r.2.sem = fun _ => 0)

def quiescent_AtfKernel [hAtfKernel : Cert.AtfKernel.Facts] : Prop :=
  ∀ (m : (ℓ : Loc Cert.AtfKernel.nD Cert.AtfKernel.τ Cert.AtfKernel.sig) → Buf (Elt Bits) ℓ) (g : Dev Cert.AtfKernel.nD → PrngReg), Pre_AtfKernel m →
    θ_run (Cert.AtfKernel.defs (F := Bits)) (onTc (τ := Cert.AtfKernel.τ) (Cert.AtfKernel.main (F := Bits))) ⟨m, fun _ => 0, g⟩ (fun r => (∀ c : Dev Cert.AtfKernel.nD,
      r.2.mem ((c.tc : Thread Cert.AtfKernel.nD Cert.AtfKernel.τ).loc Cert.AtfKernel.main_arg0) = m ((c.tc : Thread Cert.AtfKernel.nD Cert.AtfKernel.τ).loc Cert.AtfKernel.main_arg0)
      ∧ r.2.mem ((c.tc : Thread Cert.AtfKernel.nD Cert.AtfKernel.τ).loc Cert.AtfKernel.main_arg1) = m ((c.tc : Thread Cert.AtfKernel.nD Cert.AtfKernel.τ).loc Cert.AtfKernel.main_arg1))
      ∧ r.2.sem = fun _ => 0)

def quiescent_AtfKernelIdeal [hAtfKernelIdeal : Cert.AtfKernelIdeal.Facts] : Prop :=
  ∀ (m : (ℓ : Loc Cert.AtfKernelIdeal.nD Cert.AtfKernelIdeal.τ Cert.AtfKernelIdeal.sig) → Buf (Elt Ideal) ℓ) (g : Dev Cert.AtfKernelIdeal.nD → PrngReg), Pre_AtfKernelIdeal m →
    θ_run (Cert.AtfKernelIdeal.defs (F := Ideal)) (onTc (τ := Cert.AtfKernelIdeal.τ) (Cert.AtfKernelIdeal.main (F := Ideal))) ⟨m, fun _ => 0, g⟩ (fun r => (∀ c : Dev Cert.AtfKernelIdeal.nD,
      r.2.mem ((c.tc : Thread Cert.AtfKernelIdeal.nD Cert.AtfKernelIdeal.τ).loc Cert.AtfKernelIdeal.main_arg0) = m ((c.tc : Thread Cert.AtfKernelIdeal.nD Cert.AtfKernelIdeal.τ).loc Cert.AtfKernelIdeal.main_arg0)
      ∧ r.2.mem ((c.tc : Thread Cert.AtfKernelIdeal.nD Cert.AtfKernelIdeal.τ).loc Cert.AtfKernelIdeal.main_arg1) = m ((c.tc : Thread Cert.AtfKernelIdeal.nD Cert.AtfKernelIdeal.τ).loc Cert.AtfKernelIdeal.main_arg1))
      ∧ r.2.sem = fun _ => 0)

def quiescent_AtfReferenceIdeal [hAtfReferenceIdeal : Cert.AtfReferenceIdeal.Facts] : Prop :=
  ∀ (m : (ℓ : Loc Cert.AtfReferenceIdeal.nD Cert.AtfReferenceIdeal.τ Cert.AtfReferenceIdeal.sig) → Buf (Elt Ideal) ℓ) (g : Dev Cert.AtfReferenceIdeal.nD → PrngReg), Pre_AtfReferenceIdeal m →
    θ_run (Cert.AtfReferenceIdeal.defs (F := Ideal)) (onTc (τ := Cert.AtfReferenceIdeal.τ) (Cert.AtfReferenceIdeal.main (F := Ideal))) ⟨m, fun _ => 0, g⟩ (fun r => (∀ c : Dev Cert.AtfReferenceIdeal.nD,
      r.2.mem ((c.tc : Thread Cert.AtfReferenceIdeal.nD Cert.AtfReferenceIdeal.τ).loc Cert.AtfReferenceIdeal.main_arg0) = m ((c.tc : Thread Cert.AtfReferenceIdeal.nD Cert.AtfReferenceIdeal.τ).loc Cert.AtfReferenceIdeal.main_arg0)
      ∧ r.2.mem ((c.tc : Thread Cert.AtfReferenceIdeal.nD Cert.AtfReferenceIdeal.τ).loc Cert.AtfReferenceIdeal.main_arg1) = m ((c.tc : Thread Cert.AtfReferenceIdeal.nD Cert.AtfReferenceIdeal.τ).loc Cert.AtfReferenceIdeal.main_arg1))
      ∧ r.2.sem = fun _ => 0)

def quiescent_SwgKernel [hSwgKernel : Cert.SwgKernel.Facts] : Prop :=
  ∀ (m : (ℓ : Loc Cert.SwgKernel.nD Cert.SwgKernel.τ Cert.SwgKernel.sig) → Buf (Elt Bits) ℓ) (g : Dev Cert.SwgKernel.nD → PrngReg), Pre_SwgKernel m →
    θ_run (Cert.SwgKernel.defs (F := Bits)) (onTc (τ := Cert.SwgKernel.τ) (Cert.SwgKernel.main (F := Bits))) ⟨m, fun _ => 0, g⟩ (fun r => (∀ c : Dev Cert.SwgKernel.nD,
      r.2.mem ((c.tc : Thread Cert.SwgKernel.nD Cert.SwgKernel.τ).loc Cert.SwgKernel.main_arg0) = m ((c.tc : Thread Cert.SwgKernel.nD Cert.SwgKernel.τ).loc Cert.SwgKernel.main_arg0)
      ∧ r.2.mem ((c.tc : Thread Cert.SwgKernel.nD Cert.SwgKernel.τ).loc Cert.SwgKernel.main_arg1) = m ((c.tc : Thread Cert.SwgKernel.nD Cert.SwgKernel.τ).loc Cert.SwgKernel.main_arg1))
      ∧ r.2.sem = fun _ => 0)

def quiescent_SwgKernelIdeal [hSwgKernelIdeal : Cert.SwgKernelIdeal.Facts] : Prop :=
  ∀ (m : (ℓ : Loc Cert.SwgKernelIdeal.nD Cert.SwgKernelIdeal.τ Cert.SwgKernelIdeal.sig) → Buf (Elt Ideal) ℓ) (g : Dev Cert.SwgKernelIdeal.nD → PrngReg), Pre_SwgKernelIdeal m →
    θ_run (Cert.SwgKernelIdeal.defs (F := Ideal)) (onTc (τ := Cert.SwgKernelIdeal.τ) (Cert.SwgKernelIdeal.main (F := Ideal))) ⟨m, fun _ => 0, g⟩ (fun r => (∀ c : Dev Cert.SwgKernelIdeal.nD,
      r.2.mem ((c.tc : Thread Cert.SwgKernelIdeal.nD Cert.SwgKernelIdeal.τ).loc Cert.SwgKernelIdeal.main_arg0) = m ((c.tc : Thread Cert.SwgKernelIdeal.nD Cert.SwgKernelIdeal.τ).loc Cert.SwgKernelIdeal.main_arg0)
      ∧ r.2.mem ((c.tc : Thread Cert.SwgKernelIdeal.nD Cert.SwgKernelIdeal.τ).loc Cert.SwgKernelIdeal.main_arg1) = m ((c.tc : Thread Cert.SwgKernelIdeal.nD Cert.SwgKernelIdeal.τ).loc Cert.SwgKernelIdeal.main_arg1))
      ∧ r.2.sem = fun _ => 0)

def quiescent_SwgKernelIdeal_pre_finite_swg [hSwgKernelIdeal : Cert.SwgKernelIdeal.Facts] [hPre_finite_swg : Cert.Pre_finite_swg.Facts] : Prop :=
  ∀ (m : (ℓ : Loc Cert.SwgKernelIdeal.nD Cert.SwgKernelIdeal.τ Cert.SwgKernelIdeal.sig) → Buf (Elt Ideal) ℓ) (g : Dev Cert.SwgKernelIdeal.nD → PrngReg), Pre_SwgKernelIdeal_finite_swg m →
    θ_run (Cert.SwgKernelIdeal.defs (F := Ideal)) (onTc (τ := Cert.SwgKernelIdeal.τ) (Cert.SwgKernelIdeal.main (F := Ideal))) ⟨m, fun _ => 0, g⟩ (fun r => (∀ c : Dev Cert.SwgKernelIdeal.nD,
      r.2.mem ((c.tc : Thread Cert.SwgKernelIdeal.nD Cert.SwgKernelIdeal.τ).loc Cert.SwgKernelIdeal.main_arg0) = m ((c.tc : Thread Cert.SwgKernelIdeal.nD Cert.SwgKernelIdeal.τ).loc Cert.SwgKernelIdeal.main_arg0)
      ∧ r.2.mem ((c.tc : Thread Cert.SwgKernelIdeal.nD Cert.SwgKernelIdeal.τ).loc Cert.SwgKernelIdeal.main_arg1) = m ((c.tc : Thread Cert.SwgKernelIdeal.nD Cert.SwgKernelIdeal.τ).loc Cert.SwgKernelIdeal.main_arg1))
      ∧ r.2.sem = fun _ => 0)

def quiescent_SwgReferenceIdeal [hSwgReferenceIdeal : Cert.SwgReferenceIdeal.Facts] : Prop :=
  ∀ (m : (ℓ : Loc Cert.SwgReferenceIdeal.nD Cert.SwgReferenceIdeal.τ Cert.SwgReferenceIdeal.sig) → Buf (Elt Ideal) ℓ) (g : Dev Cert.SwgReferenceIdeal.nD → PrngReg), Pre_SwgReferenceIdeal m →
    θ_run (Cert.SwgReferenceIdeal.defs (F := Ideal)) (onTc (τ := Cert.SwgReferenceIdeal.τ) (Cert.SwgReferenceIdeal.main (F := Ideal))) ⟨m, fun _ => 0, g⟩ (fun r => (∀ c : Dev Cert.SwgReferenceIdeal.nD,
      r.2.mem ((c.tc : Thread Cert.SwgReferenceIdeal.nD Cert.SwgReferenceIdeal.τ).loc Cert.SwgReferenceIdeal.main_arg0) = m ((c.tc : Thread Cert.SwgReferenceIdeal.nD Cert.SwgReferenceIdeal.τ).loc Cert.SwgReferenceIdeal.main_arg0)
      ∧ r.2.mem ((c.tc : Thread Cert.SwgReferenceIdeal.nD Cert.SwgReferenceIdeal.τ).loc Cert.SwgReferenceIdeal.main_arg1) = m ((c.tc : Thread Cert.SwgReferenceIdeal.nD Cert.SwgReferenceIdeal.τ).loc Cert.SwgReferenceIdeal.main_arg1))
      ∧ r.2.sem = fun _ => 0)

def quiescent_SwgReferenceIdeal_pre_finite_swg [hSwgReferenceIdeal : Cert.SwgReferenceIdeal.Facts] [hPre_finite_swg : Cert.Pre_finite_swg.Facts] : Prop :=
  ∀ (m : (ℓ : Loc Cert.SwgReferenceIdeal.nD Cert.SwgReferenceIdeal.τ Cert.SwgReferenceIdeal.sig) → Buf (Elt Ideal) ℓ) (g : Dev Cert.SwgReferenceIdeal.nD → PrngReg), Pre_SwgReferenceIdeal_finite_swg m →
    θ_run (Cert.SwgReferenceIdeal.defs (F := Ideal)) (onTc (τ := Cert.SwgReferenceIdeal.τ) (Cert.SwgReferenceIdeal.main (F := Ideal))) ⟨m, fun _ => 0, g⟩ (fun r => (∀ c : Dev Cert.SwgReferenceIdeal.nD,
      r.2.mem ((c.tc : Thread Cert.SwgReferenceIdeal.nD Cert.SwgReferenceIdeal.τ).loc Cert.SwgReferenceIdeal.main_arg0) = m ((c.tc : Thread Cert.SwgReferenceIdeal.nD Cert.SwgReferenceIdeal.τ).loc Cert.SwgReferenceIdeal.main_arg0)
      ∧ r.2.mem ((c.tc : Thread Cert.SwgReferenceIdeal.nD Cert.SwgReferenceIdeal.τ).loc Cert.SwgReferenceIdeal.main_arg1) = m ((c.tc : Thread Cert.SwgReferenceIdeal.nD Cert.SwgReferenceIdeal.τ).loc Cert.SwgReferenceIdeal.main_arg1))
      ∧ r.2.sem = fun _ => 0)

def quiescent_WnnKernel [hWnnKernel : Cert.WnnKernel.Facts] : Prop :=
  ∀ (m : (ℓ : Loc Cert.WnnKernel.nD Cert.WnnKernel.τ Cert.WnnKernel.sig) → Buf (Elt Bits) ℓ) (g : Dev Cert.WnnKernel.nD → PrngReg), Pre_WnnKernel m →
    θ_run (Cert.WnnKernel.defs (F := Bits)) (onTc (τ := Cert.WnnKernel.τ) (Cert.WnnKernel.main (F := Bits))) ⟨m, fun _ => 0, g⟩ (fun r => (∀ c : Dev Cert.WnnKernel.nD,
      r.2.mem ((c.tc : Thread Cert.WnnKernel.nD Cert.WnnKernel.τ).loc Cert.WnnKernel.main_arg0) = m ((c.tc : Thread Cert.WnnKernel.nD Cert.WnnKernel.τ).loc Cert.WnnKernel.main_arg0)
      ∧ r.2.mem ((c.tc : Thread Cert.WnnKernel.nD Cert.WnnKernel.τ).loc Cert.WnnKernel.main_arg1) = m ((c.tc : Thread Cert.WnnKernel.nD Cert.WnnKernel.τ).loc Cert.WnnKernel.main_arg1)
      ∧ r.2.mem ((c.tc : Thread Cert.WnnKernel.nD Cert.WnnKernel.τ).loc Cert.WnnKernel.main_arg2) = m ((c.tc : Thread Cert.WnnKernel.nD Cert.WnnKernel.τ).loc Cert.WnnKernel.main_arg2)
      ∧ r.2.mem ((c.tc : Thread Cert.WnnKernel.nD Cert.WnnKernel.τ).loc Cert.WnnKernel.main_arg3) = m ((c.tc : Thread Cert.WnnKernel.nD Cert.WnnKernel.τ).loc Cert.WnnKernel.main_arg3))
      ∧ r.2.sem = fun _ => 0)

def quiescent_WnnKernelIdeal [hWnnKernelIdeal : Cert.WnnKernelIdeal.Facts] : Prop :=
  ∀ (m : (ℓ : Loc Cert.WnnKernelIdeal.nD Cert.WnnKernelIdeal.τ Cert.WnnKernelIdeal.sig) → Buf (Elt Ideal) ℓ) (g : Dev Cert.WnnKernelIdeal.nD → PrngReg), Pre_WnnKernelIdeal m →
    θ_run (Cert.WnnKernelIdeal.defs (F := Ideal)) (onTc (τ := Cert.WnnKernelIdeal.τ) (Cert.WnnKernelIdeal.main (F := Ideal))) ⟨m, fun _ => 0, g⟩ (fun r => (∀ c : Dev Cert.WnnKernelIdeal.nD,
      r.2.mem ((c.tc : Thread Cert.WnnKernelIdeal.nD Cert.WnnKernelIdeal.τ).loc Cert.WnnKernelIdeal.main_arg0) = m ((c.tc : Thread Cert.WnnKernelIdeal.nD Cert.WnnKernelIdeal.τ).loc Cert.WnnKernelIdeal.main_arg0)
      ∧ r.2.mem ((c.tc : Thread Cert.WnnKernelIdeal.nD Cert.WnnKernelIdeal.τ).loc Cert.WnnKernelIdeal.main_arg1) = m ((c.tc : Thread Cert.WnnKernelIdeal.nD Cert.WnnKernelIdeal.τ).loc Cert.WnnKernelIdeal.main_arg1)
      ∧ r.2.mem ((c.tc : Thread Cert.WnnKernelIdeal.nD Cert.WnnKernelIdeal.τ).loc Cert.WnnKernelIdeal.main_arg2) = m ((c.tc : Thread Cert.WnnKernelIdeal.nD Cert.WnnKernelIdeal.τ).loc Cert.WnnKernelIdeal.main_arg2)
      ∧ r.2.mem ((c.tc : Thread Cert.WnnKernelIdeal.nD Cert.WnnKernelIdeal.τ).loc Cert.WnnKernelIdeal.main_arg3) = m ((c.tc : Thread Cert.WnnKernelIdeal.nD Cert.WnnKernelIdeal.τ).loc Cert.WnnKernelIdeal.main_arg3))
      ∧ r.2.sem = fun _ => 0)

def quiescent_WnnReferenceIdeal [hWnnReferenceIdeal : Cert.WnnReferenceIdeal.Facts] : Prop :=
  ∀ (m : (ℓ : Loc Cert.WnnReferenceIdeal.nD Cert.WnnReferenceIdeal.τ Cert.WnnReferenceIdeal.sig) → Buf (Elt Ideal) ℓ) (g : Dev Cert.WnnReferenceIdeal.nD → PrngReg), Pre_WnnReferenceIdeal m →
    θ_run (Cert.WnnReferenceIdeal.defs (F := Ideal)) (onTc (τ := Cert.WnnReferenceIdeal.τ) (Cert.WnnReferenceIdeal.main (F := Ideal))) ⟨m, fun _ => 0, g⟩ (fun r => (∀ c : Dev Cert.WnnReferenceIdeal.nD,
      r.2.mem ((c.tc : Thread Cert.WnnReferenceIdeal.nD Cert.WnnReferenceIdeal.τ).loc Cert.WnnReferenceIdeal.main_arg0) = m ((c.tc : Thread Cert.WnnReferenceIdeal.nD Cert.WnnReferenceIdeal.τ).loc Cert.WnnReferenceIdeal.main_arg0)
      ∧ r.2.mem ((c.tc : Thread Cert.WnnReferenceIdeal.nD Cert.WnnReferenceIdeal.τ).loc Cert.WnnReferenceIdeal.main_arg1) = m ((c.tc : Thread Cert.WnnReferenceIdeal.nD Cert.WnnReferenceIdeal.τ).loc Cert.WnnReferenceIdeal.main_arg1)
      ∧ r.2.mem ((c.tc : Thread Cert.WnnReferenceIdeal.nD Cert.WnnReferenceIdeal.τ).loc Cert.WnnReferenceIdeal.main_arg2) = m ((c.tc : Thread Cert.WnnReferenceIdeal.nD Cert.WnnReferenceIdeal.τ).loc Cert.WnnReferenceIdeal.main_arg2)
      ∧ r.2.mem ((c.tc : Thread Cert.WnnReferenceIdeal.nD Cert.WnnReferenceIdeal.τ).loc Cert.WnnReferenceIdeal.main_arg3) = m ((c.tc : Thread Cert.WnnReferenceIdeal.nD Cert.WnnReferenceIdeal.τ).loc Cert.WnnReferenceIdeal.main_arg3))
      ∧ r.2.sem = fun _ => 0)

def quiescent_PnnKernel [hPnnKernel : Cert.PnnKernel.Facts] : Prop :=
  ∀ (m : (ℓ : Loc Cert.PnnKernel.nD Cert.PnnKernel.τ Cert.PnnKernel.sig) → Buf (Elt Bits) ℓ) (g : Dev Cert.PnnKernel.nD → PrngReg), Pre_PnnKernel m →
    θ_run (Cert.PnnKernel.defs (F := Bits)) (onTc (τ := Cert.PnnKernel.τ) (Cert.PnnKernel.main (F := Bits))) ⟨m, fun _ => 0, g⟩ (fun r => (∀ c : Dev Cert.PnnKernel.nD,
      r.2.mem ((c.tc : Thread Cert.PnnKernel.nD Cert.PnnKernel.τ).loc Cert.PnnKernel.main_arg0) = m ((c.tc : Thread Cert.PnnKernel.nD Cert.PnnKernel.τ).loc Cert.PnnKernel.main_arg0)
      ∧ r.2.mem ((c.tc : Thread Cert.PnnKernel.nD Cert.PnnKernel.τ).loc Cert.PnnKernel.main_arg1) = m ((c.tc : Thread Cert.PnnKernel.nD Cert.PnnKernel.τ).loc Cert.PnnKernel.main_arg1)
      ∧ r.2.mem ((c.tc : Thread Cert.PnnKernel.nD Cert.PnnKernel.τ).loc Cert.PnnKernel.main_arg2) = m ((c.tc : Thread Cert.PnnKernel.nD Cert.PnnKernel.τ).loc Cert.PnnKernel.main_arg2))
      ∧ r.2.sem = fun _ => 0)

def quiescent_PnnKernelIdeal [hPnnKernelIdeal : Cert.PnnKernelIdeal.Facts] : Prop :=
  ∀ (m : (ℓ : Loc Cert.PnnKernelIdeal.nD Cert.PnnKernelIdeal.τ Cert.PnnKernelIdeal.sig) → Buf (Elt Ideal) ℓ) (g : Dev Cert.PnnKernelIdeal.nD → PrngReg), Pre_PnnKernelIdeal m →
    θ_run (Cert.PnnKernelIdeal.defs (F := Ideal)) (onTc (τ := Cert.PnnKernelIdeal.τ) (Cert.PnnKernelIdeal.main (F := Ideal))) ⟨m, fun _ => 0, g⟩ (fun r => (∀ c : Dev Cert.PnnKernelIdeal.nD,
      r.2.mem ((c.tc : Thread Cert.PnnKernelIdeal.nD Cert.PnnKernelIdeal.τ).loc Cert.PnnKernelIdeal.main_arg0) = m ((c.tc : Thread Cert.PnnKernelIdeal.nD Cert.PnnKernelIdeal.τ).loc Cert.PnnKernelIdeal.main_arg0)
      ∧ r.2.mem ((c.tc : Thread Cert.PnnKernelIdeal.nD Cert.PnnKernelIdeal.τ).loc Cert.PnnKernelIdeal.main_arg1) = m ((c.tc : Thread Cert.PnnKernelIdeal.nD Cert.PnnKernelIdeal.τ).loc Cert.PnnKernelIdeal.main_arg1)
      ∧ r.2.mem ((c.tc : Thread Cert.PnnKernelIdeal.nD Cert.PnnKernelIdeal.τ).loc Cert.PnnKernelIdeal.main_arg2) = m ((c.tc : Thread Cert.PnnKernelIdeal.nD Cert.PnnKernelIdeal.τ).loc Cert.PnnKernelIdeal.main_arg2))
      ∧ r.2.sem = fun _ => 0)

def quiescent_PnnReferenceIdeal [hPnnReferenceIdeal : Cert.PnnReferenceIdeal.Facts] : Prop :=
  ∀ (m : (ℓ : Loc Cert.PnnReferenceIdeal.nD Cert.PnnReferenceIdeal.τ Cert.PnnReferenceIdeal.sig) → Buf (Elt Ideal) ℓ) (g : Dev Cert.PnnReferenceIdeal.nD → PrngReg), Pre_PnnReferenceIdeal m →
    θ_run (Cert.PnnReferenceIdeal.defs (F := Ideal)) (onTc (τ := Cert.PnnReferenceIdeal.τ) (Cert.PnnReferenceIdeal.main (F := Ideal))) ⟨m, fun _ => 0, g⟩ (fun r => (∀ c : Dev Cert.PnnReferenceIdeal.nD,
      r.2.mem ((c.tc : Thread Cert.PnnReferenceIdeal.nD Cert.PnnReferenceIdeal.τ).loc Cert.PnnReferenceIdeal.main_arg0) = m ((c.tc : Thread Cert.PnnReferenceIdeal.nD Cert.PnnReferenceIdeal.τ).loc Cert.PnnReferenceIdeal.main_arg0)
      ∧ r.2.mem ((c.tc : Thread Cert.PnnReferenceIdeal.nD Cert.PnnReferenceIdeal.τ).loc Cert.PnnReferenceIdeal.main_arg1) = m ((c.tc : Thread Cert.PnnReferenceIdeal.nD Cert.PnnReferenceIdeal.τ).loc Cert.PnnReferenceIdeal.main_arg1)
      ∧ r.2.mem ((c.tc : Thread Cert.PnnReferenceIdeal.nD Cert.PnnReferenceIdeal.τ).loc Cert.PnnReferenceIdeal.main_arg2) = m ((c.tc : Thread Cert.PnnReferenceIdeal.nD Cert.PnnReferenceIdeal.τ).loc Cert.PnnReferenceIdeal.main_arg2))
      ∧ r.2.sem = fun _ => 0)

def quiescent_PntKernel [hPntKernel : Cert.PntKernel.Facts] : Prop :=
  ∀ (m : (ℓ : Loc Cert.PntKernel.nD Cert.PntKernel.τ Cert.PntKernel.sig) → Buf (Elt Bits) ℓ) (g : Dev Cert.PntKernel.nD → PrngReg), Pre_PntKernel m →
    θ_run (Cert.PntKernel.defs (F := Bits)) (onTc (τ := Cert.PntKernel.τ) (Cert.PntKernel.main (F := Bits))) ⟨m, fun _ => 0, g⟩ (fun r => (∀ c : Dev Cert.PntKernel.nD,
      r.2.mem ((c.tc : Thread Cert.PntKernel.nD Cert.PntKernel.τ).loc Cert.PntKernel.main_arg0) = m ((c.tc : Thread Cert.PntKernel.nD Cert.PntKernel.τ).loc Cert.PntKernel.main_arg0)
      ∧ r.2.mem ((c.tc : Thread Cert.PntKernel.nD Cert.PntKernel.τ).loc Cert.PntKernel.main_arg1) = m ((c.tc : Thread Cert.PntKernel.nD Cert.PntKernel.τ).loc Cert.PntKernel.main_arg1)
      ∧ r.2.mem ((c.tc : Thread Cert.PntKernel.nD Cert.PntKernel.τ).loc Cert.PntKernel.main_arg2) = m ((c.tc : Thread Cert.PntKernel.nD Cert.PntKernel.τ).loc Cert.PntKernel.main_arg2))
      ∧ r.2.sem = fun _ => 0)

def quiescent_PntKernelIdeal [hPntKernelIdeal : Cert.PntKernelIdeal.Facts] : Prop :=
  ∀ (m : (ℓ : Loc Cert.PntKernelIdeal.nD Cert.PntKernelIdeal.τ Cert.PntKernelIdeal.sig) → Buf (Elt Ideal) ℓ) (g : Dev Cert.PntKernelIdeal.nD → PrngReg), Pre_PntKernelIdeal m →
    θ_run (Cert.PntKernelIdeal.defs (F := Ideal)) (onTc (τ := Cert.PntKernelIdeal.τ) (Cert.PntKernelIdeal.main (F := Ideal))) ⟨m, fun _ => 0, g⟩ (fun r => (∀ c : Dev Cert.PntKernelIdeal.nD,
      r.2.mem ((c.tc : Thread Cert.PntKernelIdeal.nD Cert.PntKernelIdeal.τ).loc Cert.PntKernelIdeal.main_arg0) = m ((c.tc : Thread Cert.PntKernelIdeal.nD Cert.PntKernelIdeal.τ).loc Cert.PntKernelIdeal.main_arg0)
      ∧ r.2.mem ((c.tc : Thread Cert.PntKernelIdeal.nD Cert.PntKernelIdeal.τ).loc Cert.PntKernelIdeal.main_arg1) = m ((c.tc : Thread Cert.PntKernelIdeal.nD Cert.PntKernelIdeal.τ).loc Cert.PntKernelIdeal.main_arg1)
      ∧ r.2.mem ((c.tc : Thread Cert.PntKernelIdeal.nD Cert.PntKernelIdeal.τ).loc Cert.PntKernelIdeal.main_arg2) = m ((c.tc : Thread Cert.PntKernelIdeal.nD Cert.PntKernelIdeal.τ).loc Cert.PntKernelIdeal.main_arg2))
      ∧ r.2.sem = fun _ => 0)

def quiescent_PntReferenceIdeal [hPntReferenceIdeal : Cert.PntReferenceIdeal.Facts] : Prop :=
  ∀ (m : (ℓ : Loc Cert.PntReferenceIdeal.nD Cert.PntReferenceIdeal.τ Cert.PntReferenceIdeal.sig) → Buf (Elt Ideal) ℓ) (g : Dev Cert.PntReferenceIdeal.nD → PrngReg), Pre_PntReferenceIdeal m →
    θ_run (Cert.PntReferenceIdeal.defs (F := Ideal)) (onTc (τ := Cert.PntReferenceIdeal.τ) (Cert.PntReferenceIdeal.main (F := Ideal))) ⟨m, fun _ => 0, g⟩ (fun r => (∀ c : Dev Cert.PntReferenceIdeal.nD,
      r.2.mem ((c.tc : Thread Cert.PntReferenceIdeal.nD Cert.PntReferenceIdeal.τ).loc Cert.PntReferenceIdeal.main_arg0) = m ((c.tc : Thread Cert.PntReferenceIdeal.nD Cert.PntReferenceIdeal.τ).loc Cert.PntReferenceIdeal.main_arg0)
      ∧ r.2.mem ((c.tc : Thread Cert.PntReferenceIdeal.nD Cert.PntReferenceIdeal.τ).loc Cert.PntReferenceIdeal.main_arg1) = m ((c.tc : Thread Cert.PntReferenceIdeal.nD Cert.PntReferenceIdeal.τ).loc Cert.PntReferenceIdeal.main_arg1)
      ∧ r.2.mem ((c.tc : Thread Cert.PntReferenceIdeal.nD Cert.PntReferenceIdeal.τ).loc Cert.PntReferenceIdeal.main_arg2) = m ((c.tc : Thread Cert.PntReferenceIdeal.nD Cert.PntReferenceIdeal.τ).loc Cert.PntReferenceIdeal.main_arg2))
      ∧ r.2.sem = fun _ => 0)

def quiescent_PtnKernel [hPtnKernel : Cert.PtnKernel.Facts] : Prop :=
  ∀ (m : (ℓ : Loc Cert.PtnKernel.nD Cert.PtnKernel.τ Cert.PtnKernel.sig) → Buf (Elt Bits) ℓ) (g : Dev Cert.PtnKernel.nD → PrngReg), Pre_PtnKernel m →
    θ_run (Cert.PtnKernel.defs (F := Bits)) (onTc (τ := Cert.PtnKernel.τ) (Cert.PtnKernel.main (F := Bits))) ⟨m, fun _ => 0, g⟩ (fun r => (∀ c : Dev Cert.PtnKernel.nD,
      r.2.mem ((c.tc : Thread Cert.PtnKernel.nD Cert.PtnKernel.τ).loc Cert.PtnKernel.main_arg0) = m ((c.tc : Thread Cert.PtnKernel.nD Cert.PtnKernel.τ).loc Cert.PtnKernel.main_arg0)
      ∧ r.2.mem ((c.tc : Thread Cert.PtnKernel.nD Cert.PtnKernel.τ).loc Cert.PtnKernel.main_arg1) = m ((c.tc : Thread Cert.PtnKernel.nD Cert.PtnKernel.τ).loc Cert.PtnKernel.main_arg1))
      ∧ r.2.sem = fun _ => 0)

def quiescent_PtnKernelIdeal [hPtnKernelIdeal : Cert.PtnKernelIdeal.Facts] : Prop :=
  ∀ (m : (ℓ : Loc Cert.PtnKernelIdeal.nD Cert.PtnKernelIdeal.τ Cert.PtnKernelIdeal.sig) → Buf (Elt Ideal) ℓ) (g : Dev Cert.PtnKernelIdeal.nD → PrngReg), Pre_PtnKernelIdeal m →
    θ_run (Cert.PtnKernelIdeal.defs (F := Ideal)) (onTc (τ := Cert.PtnKernelIdeal.τ) (Cert.PtnKernelIdeal.main (F := Ideal))) ⟨m, fun _ => 0, g⟩ (fun r => (∀ c : Dev Cert.PtnKernelIdeal.nD,
      r.2.mem ((c.tc : Thread Cert.PtnKernelIdeal.nD Cert.PtnKernelIdeal.τ).loc Cert.PtnKernelIdeal.main_arg0) = m ((c.tc : Thread Cert.PtnKernelIdeal.nD Cert.PtnKernelIdeal.τ).loc Cert.PtnKernelIdeal.main_arg0)
      ∧ r.2.mem ((c.tc : Thread Cert.PtnKernelIdeal.nD Cert.PtnKernelIdeal.τ).loc Cert.PtnKernelIdeal.main_arg1) = m ((c.tc : Thread Cert.PtnKernelIdeal.nD Cert.PtnKernelIdeal.τ).loc Cert.PtnKernelIdeal.main_arg1))
      ∧ r.2.sem = fun _ => 0)

def quiescent_PtnReferenceIdeal [hPtnReferenceIdeal : Cert.PtnReferenceIdeal.Facts] : Prop :=
  ∀ (m : (ℓ : Loc Cert.PtnReferenceIdeal.nD Cert.PtnReferenceIdeal.τ Cert.PtnReferenceIdeal.sig) → Buf (Elt Ideal) ℓ) (g : Dev Cert.PtnReferenceIdeal.nD → PrngReg), Pre_PtnReferenceIdeal m →
    θ_run (Cert.PtnReferenceIdeal.defs (F := Ideal)) (onTc (τ := Cert.PtnReferenceIdeal.τ) (Cert.PtnReferenceIdeal.main (F := Ideal))) ⟨m, fun _ => 0, g⟩ (fun r => (∀ c : Dev Cert.PtnReferenceIdeal.nD,
      r.2.mem ((c.tc : Thread Cert.PtnReferenceIdeal.nD Cert.PtnReferenceIdeal.τ).loc Cert.PtnReferenceIdeal.main_arg0) = m ((c.tc : Thread Cert.PtnReferenceIdeal.nD Cert.PtnReferenceIdeal.τ).loc Cert.PtnReferenceIdeal.main_arg0)
      ∧ r.2.mem ((c.tc : Thread Cert.PtnReferenceIdeal.nD Cert.PtnReferenceIdeal.τ).loc Cert.PtnReferenceIdeal.main_arg1) = m ((c.tc : Thread Cert.PtnReferenceIdeal.nD Cert.PtnReferenceIdeal.τ).loc Cert.PtnReferenceIdeal.main_arg1))
      ∧ r.2.sem = fun _ => 0)

def quiescent_AdfKernel [hAdfKernel : Cert.AdfKernel.Facts] : Prop :=
  ∀ (m : (ℓ : Loc Cert.AdfKernel.nD Cert.AdfKernel.τ Cert.AdfKernel.sig) → Buf (Elt Bits) ℓ) (g : Dev Cert.AdfKernel.nD → PrngReg), Pre_AdfKernel m →
    θ_run (Cert.AdfKernel.defs (F := Bits)) (onTc (τ := Cert.AdfKernel.τ) (Cert.AdfKernel.main (F := Bits))) ⟨m, fun _ => 0, g⟩ (fun r => (∀ c : Dev Cert.AdfKernel.nD,
      r.2.mem ((c.tc : Thread Cert.AdfKernel.nD Cert.AdfKernel.τ).loc Cert.AdfKernel.main_arg0) = m ((c.tc : Thread Cert.AdfKernel.nD Cert.AdfKernel.τ).loc Cert.AdfKernel.main_arg0)
      ∧ r.2.mem ((c.tc : Thread Cert.AdfKernel.nD Cert.AdfKernel.τ).loc Cert.AdfKernel.main_arg1) = m ((c.tc : Thread Cert.AdfKernel.nD Cert.AdfKernel.τ).loc Cert.AdfKernel.main_arg1)
      ∧ r.2.mem ((c.tc : Thread Cert.AdfKernel.nD Cert.AdfKernel.τ).loc Cert.AdfKernel.main_arg2) = m ((c.tc : Thread Cert.AdfKernel.nD Cert.AdfKernel.τ).loc Cert.AdfKernel.main_arg2)
      ∧ r.2.mem ((c.tc : Thread Cert.AdfKernel.nD Cert.AdfKernel.τ).loc Cert.AdfKernel.main_arg3) = m ((c.tc : Thread Cert.AdfKernel.nD Cert.AdfKernel.τ).loc Cert.AdfKernel.main_arg3))
      ∧ r.2.sem = fun _ => 0)

def quiescent_AdfKernelIdeal [hAdfKernelIdeal : Cert.AdfKernelIdeal.Facts] : Prop :=
  ∀ (m : (ℓ : Loc Cert.AdfKernelIdeal.nD Cert.AdfKernelIdeal.τ Cert.AdfKernelIdeal.sig) → Buf (Elt Ideal) ℓ) (g : Dev Cert.AdfKernelIdeal.nD → PrngReg), Pre_AdfKernelIdeal m →
    θ_run (Cert.AdfKernelIdeal.defs (F := Ideal)) (onTc (τ := Cert.AdfKernelIdeal.τ) (Cert.AdfKernelIdeal.main (F := Ideal))) ⟨m, fun _ => 0, g⟩ (fun r => (∀ c : Dev Cert.AdfKernelIdeal.nD,
      r.2.mem ((c.tc : Thread Cert.AdfKernelIdeal.nD Cert.AdfKernelIdeal.τ).loc Cert.AdfKernelIdeal.main_arg0) = m ((c.tc : Thread Cert.AdfKernelIdeal.nD Cert.AdfKernelIdeal.τ).loc Cert.AdfKernelIdeal.main_arg0)
      ∧ r.2.mem ((c.tc : Thread Cert.AdfKernelIdeal.nD Cert.AdfKernelIdeal.τ).loc Cert.AdfKernelIdeal.main_arg1) = m ((c.tc : Thread Cert.AdfKernelIdeal.nD Cert.AdfKernelIdeal.τ).loc Cert.AdfKernelIdeal.main_arg1)
      ∧ r.2.mem ((c.tc : Thread Cert.AdfKernelIdeal.nD Cert.AdfKernelIdeal.τ).loc Cert.AdfKernelIdeal.main_arg2) = m ((c.tc : Thread Cert.AdfKernelIdeal.nD Cert.AdfKernelIdeal.τ).loc Cert.AdfKernelIdeal.main_arg2)
      ∧ r.2.mem ((c.tc : Thread Cert.AdfKernelIdeal.nD Cert.AdfKernelIdeal.τ).loc Cert.AdfKernelIdeal.main_arg3) = m ((c.tc : Thread Cert.AdfKernelIdeal.nD Cert.AdfKernelIdeal.τ).loc Cert.AdfKernelIdeal.main_arg3))
      ∧ r.2.sem = fun _ => 0)

def quiescent_AdfReferenceIdeal [hAdfReferenceIdeal : Cert.AdfReferenceIdeal.Facts] : Prop :=
  ∀ (m : (ℓ : Loc Cert.AdfReferenceIdeal.nD Cert.AdfReferenceIdeal.τ Cert.AdfReferenceIdeal.sig) → Buf (Elt Ideal) ℓ) (g : Dev Cert.AdfReferenceIdeal.nD → PrngReg), Pre_AdfReferenceIdeal m →
    θ_run (Cert.AdfReferenceIdeal.defs (F := Ideal)) (onTc (τ := Cert.AdfReferenceIdeal.τ) (Cert.AdfReferenceIdeal.main (F := Ideal))) ⟨m, fun _ => 0, g⟩ (fun r => (∀ c : Dev Cert.AdfReferenceIdeal.nD,
      r.2.mem ((c.tc : Thread Cert.AdfReferenceIdeal.nD Cert.AdfReferenceIdeal.τ).loc Cert.AdfReferenceIdeal.main_arg0) = m ((c.tc : Thread Cert.AdfReferenceIdeal.nD Cert.AdfReferenceIdeal.τ).loc Cert.AdfReferenceIdeal.main_arg0)
      ∧ r.2.mem ((c.tc : Thread Cert.AdfReferenceIdeal.nD Cert.AdfReferenceIdeal.τ).loc Cert.AdfReferenceIdeal.main_arg1) = m ((c.tc : Thread Cert.AdfReferenceIdeal.nD Cert.AdfReferenceIdeal.τ).loc Cert.AdfReferenceIdeal.main_arg1)
      ∧ r.2.mem ((c.tc : Thread Cert.AdfReferenceIdeal.nD Cert.AdfReferenceIdeal.τ).loc Cert.AdfReferenceIdeal.main_arg2) = m ((c.tc : Thread Cert.AdfReferenceIdeal.nD Cert.AdfReferenceIdeal.τ).loc Cert.AdfReferenceIdeal.main_arg2)
      ∧ r.2.mem ((c.tc : Thread Cert.AdfReferenceIdeal.nD Cert.AdfReferenceIdeal.τ).loc Cert.AdfReferenceIdeal.main_arg3) = m ((c.tc : Thread Cert.AdfReferenceIdeal.nD Cert.AdfReferenceIdeal.τ).loc Cert.AdfReferenceIdeal.main_arg3))
      ∧ r.2.sem = fun _ => 0)

def quiescent_AdlKernel [hAdlKernel : Cert.AdlKernel.Facts] : Prop :=
  ∀ (m : (ℓ : Loc Cert.AdlKernel.nD Cert.AdlKernel.τ Cert.AdlKernel.sig) → Buf (Elt Bits) ℓ) (g : Dev Cert.AdlKernel.nD → PrngReg), Pre_AdlKernel m →
    θ_run (Cert.AdlKernel.defs (F := Bits)) (onTc (τ := Cert.AdlKernel.τ) (Cert.AdlKernel.main (F := Bits))) ⟨m, fun _ => 0, g⟩ (fun r => (∀ c : Dev Cert.AdlKernel.nD,
      r.2.mem ((c.tc : Thread Cert.AdlKernel.nD Cert.AdlKernel.τ).loc Cert.AdlKernel.main_arg0) = m ((c.tc : Thread Cert.AdlKernel.nD Cert.AdlKernel.τ).loc Cert.AdlKernel.main_arg0)
      ∧ r.2.mem ((c.tc : Thread Cert.AdlKernel.nD Cert.AdlKernel.τ).loc Cert.AdlKernel.main_arg1) = m ((c.tc : Thread Cert.AdlKernel.nD Cert.AdlKernel.τ).loc Cert.AdlKernel.main_arg1)
      ∧ r.2.mem ((c.tc : Thread Cert.AdlKernel.nD Cert.AdlKernel.τ).loc Cert.AdlKernel.main_arg2) = m ((c.tc : Thread Cert.AdlKernel.nD Cert.AdlKernel.τ).loc Cert.AdlKernel.main_arg2)
      ∧ r.2.mem ((c.tc : Thread Cert.AdlKernel.nD Cert.AdlKernel.τ).loc Cert.AdlKernel.main_arg3) = m ((c.tc : Thread Cert.AdlKernel.nD Cert.AdlKernel.τ).loc Cert.AdlKernel.main_arg3)
      ∧ r.2.mem ((c.tc : Thread Cert.AdlKernel.nD Cert.AdlKernel.τ).loc Cert.AdlKernel.main_arg4) = m ((c.tc : Thread Cert.AdlKernel.nD Cert.AdlKernel.τ).loc Cert.AdlKernel.main_arg4)
      ∧ r.2.mem ((c.tc : Thread Cert.AdlKernel.nD Cert.AdlKernel.τ).loc Cert.AdlKernel.main_arg5) = m ((c.tc : Thread Cert.AdlKernel.nD Cert.AdlKernel.τ).loc Cert.AdlKernel.main_arg5)
      ∧ r.2.mem ((c.tc : Thread Cert.AdlKernel.nD Cert.AdlKernel.τ).loc Cert.AdlKernel.main_arg6) = m ((c.tc : Thread Cert.AdlKernel.nD Cert.AdlKernel.τ).loc Cert.AdlKernel.main_arg6)
      ∧ r.2.mem ((c.tc : Thread Cert.AdlKernel.nD Cert.AdlKernel.τ).loc Cert.AdlKernel.main_arg7) = m ((c.tc : Thread Cert.AdlKernel.nD Cert.AdlKernel.τ).loc Cert.AdlKernel.main_arg7))
      ∧ r.2.sem = fun _ => 0)

def quiescent_AdlKernelIdeal [hAdlKernelIdeal : Cert.AdlKernelIdeal.Facts] : Prop :=
  ∀ (m : (ℓ : Loc Cert.AdlKernelIdeal.nD Cert.AdlKernelIdeal.τ Cert.AdlKernelIdeal.sig) → Buf (Elt Ideal) ℓ) (g : Dev Cert.AdlKernelIdeal.nD → PrngReg), Pre_AdlKernelIdeal m →
    θ_run (Cert.AdlKernelIdeal.defs (F := Ideal)) (onTc (τ := Cert.AdlKernelIdeal.τ) (Cert.AdlKernelIdeal.main (F := Ideal))) ⟨m, fun _ => 0, g⟩ (fun r => (∀ c : Dev Cert.AdlKernelIdeal.nD,
      r.2.mem ((c.tc : Thread Cert.AdlKernelIdeal.nD Cert.AdlKernelIdeal.τ).loc Cert.AdlKernelIdeal.main_arg0) = m ((c.tc : Thread Cert.AdlKernelIdeal.nD Cert.AdlKernelIdeal.τ).loc Cert.AdlKernelIdeal.main_arg0)
      ∧ r.2.mem ((c.tc : Thread Cert.AdlKernelIdeal.nD Cert.AdlKernelIdeal.τ).loc Cert.AdlKernelIdeal.main_arg1) = m ((c.tc : Thread Cert.AdlKernelIdeal.nD Cert.AdlKernelIdeal.τ).loc Cert.AdlKernelIdeal.main_arg1)
      ∧ r.2.mem ((c.tc : Thread Cert.AdlKernelIdeal.nD Cert.AdlKernelIdeal.τ).loc Cert.AdlKernelIdeal.main_arg2) = m ((c.tc : Thread Cert.AdlKernelIdeal.nD Cert.AdlKernelIdeal.τ).loc Cert.AdlKernelIdeal.main_arg2)
      ∧ r.2.mem ((c.tc : Thread Cert.AdlKernelIdeal.nD Cert.AdlKernelIdeal.τ).loc Cert.AdlKernelIdeal.main_arg3) = m ((c.tc : Thread Cert.AdlKernelIdeal.nD Cert.AdlKernelIdeal.τ).loc Cert.AdlKernelIdeal.main_arg3)
      ∧ r.2.mem ((c.tc : Thread Cert.AdlKernelIdeal.nD Cert.AdlKernelIdeal.τ).loc Cert.AdlKernelIdeal.main_arg4) = m ((c.tc : Thread Cert.AdlKernelIdeal.nD Cert.AdlKernelIdeal.τ).loc Cert.AdlKernelIdeal.main_arg4)
      ∧ r.2.mem ((c.tc : Thread Cert.AdlKernelIdeal.nD Cert.AdlKernelIdeal.τ).loc Cert.AdlKernelIdeal.main_arg5) = m ((c.tc : Thread Cert.AdlKernelIdeal.nD Cert.AdlKernelIdeal.τ).loc Cert.AdlKernelIdeal.main_arg5)
      ∧ r.2.mem ((c.tc : Thread Cert.AdlKernelIdeal.nD Cert.AdlKernelIdeal.τ).loc Cert.AdlKernelIdeal.main_arg6) = m ((c.tc : Thread Cert.AdlKernelIdeal.nD Cert.AdlKernelIdeal.τ).loc Cert.AdlKernelIdeal.main_arg6)
      ∧ r.2.mem ((c.tc : Thread Cert.AdlKernelIdeal.nD Cert.AdlKernelIdeal.τ).loc Cert.AdlKernelIdeal.main_arg7) = m ((c.tc : Thread Cert.AdlKernelIdeal.nD Cert.AdlKernelIdeal.τ).loc Cert.AdlKernelIdeal.main_arg7))
      ∧ r.2.sem = fun _ => 0)

def quiescent_AdlReferenceIdeal [hAdlReferenceIdeal : Cert.AdlReferenceIdeal.Facts] : Prop :=
  ∀ (m : (ℓ : Loc Cert.AdlReferenceIdeal.nD Cert.AdlReferenceIdeal.τ Cert.AdlReferenceIdeal.sig) → Buf (Elt Ideal) ℓ) (g : Dev Cert.AdlReferenceIdeal.nD → PrngReg), Pre_AdlReferenceIdeal m →
    θ_run (Cert.AdlReferenceIdeal.defs (F := Ideal)) (onTc (τ := Cert.AdlReferenceIdeal.τ) (Cert.AdlReferenceIdeal.main (F := Ideal))) ⟨m, fun _ => 0, g⟩ (fun r => (∀ c : Dev Cert.AdlReferenceIdeal.nD,
      r.2.mem ((c.tc : Thread Cert.AdlReferenceIdeal.nD Cert.AdlReferenceIdeal.τ).loc Cert.AdlReferenceIdeal.main_arg0) = m ((c.tc : Thread Cert.AdlReferenceIdeal.nD Cert.AdlReferenceIdeal.τ).loc Cert.AdlReferenceIdeal.main_arg0)
      ∧ r.2.mem ((c.tc : Thread Cert.AdlReferenceIdeal.nD Cert.AdlReferenceIdeal.τ).loc Cert.AdlReferenceIdeal.main_arg1) = m ((c.tc : Thread Cert.AdlReferenceIdeal.nD Cert.AdlReferenceIdeal.τ).loc Cert.AdlReferenceIdeal.main_arg1)
      ∧ r.2.mem ((c.tc : Thread Cert.AdlReferenceIdeal.nD Cert.AdlReferenceIdeal.τ).loc Cert.AdlReferenceIdeal.main_arg2) = m ((c.tc : Thread Cert.AdlReferenceIdeal.nD Cert.AdlReferenceIdeal.τ).loc Cert.AdlReferenceIdeal.main_arg2)
      ∧ r.2.mem ((c.tc : Thread Cert.AdlReferenceIdeal.nD Cert.AdlReferenceIdeal.τ).loc Cert.AdlReferenceIdeal.main_arg3) = m ((c.tc : Thread Cert.AdlReferenceIdeal.nD Cert.AdlReferenceIdeal.τ).loc Cert.AdlReferenceIdeal.main_arg3)
      ∧ r.2.mem ((c.tc : Thread Cert.AdlReferenceIdeal.nD Cert.AdlReferenceIdeal.τ).loc Cert.AdlReferenceIdeal.main_arg4) = m ((c.tc : Thread Cert.AdlReferenceIdeal.nD Cert.AdlReferenceIdeal.τ).loc Cert.AdlReferenceIdeal.main_arg4)
      ∧ r.2.mem ((c.tc : Thread Cert.AdlReferenceIdeal.nD Cert.AdlReferenceIdeal.τ).loc Cert.AdlReferenceIdeal.main_arg5) = m ((c.tc : Thread Cert.AdlReferenceIdeal.nD Cert.AdlReferenceIdeal.τ).loc Cert.AdlReferenceIdeal.main_arg5)
      ∧ r.2.mem ((c.tc : Thread Cert.AdlReferenceIdeal.nD Cert.AdlReferenceIdeal.τ).loc Cert.AdlReferenceIdeal.main_arg6) = m ((c.tc : Thread Cert.AdlReferenceIdeal.nD Cert.AdlReferenceIdeal.τ).loc Cert.AdlReferenceIdeal.main_arg6)
      ∧ r.2.mem ((c.tc : Thread Cert.AdlReferenceIdeal.nD Cert.AdlReferenceIdeal.τ).loc Cert.AdlReferenceIdeal.main_arg7) = m ((c.tc : Thread Cert.AdlReferenceIdeal.nD Cert.AdlReferenceIdeal.τ).loc Cert.AdlReferenceIdeal.main_arg7))
      ∧ r.2.sem = fun _ => 0)

def quiescent_SmlKernel [hSmlKernel : Cert.SmlKernel.Facts] : Prop :=
  ∀ (m : (ℓ : Loc Cert.SmlKernel.nD Cert.SmlKernel.τ Cert.SmlKernel.sig) → Buf (Elt Bits) ℓ) (g : Dev Cert.SmlKernel.nD → PrngReg), Pre_SmlKernel m →
    θ_run (Cert.SmlKernel.defs (F := Bits)) (onTc (τ := Cert.SmlKernel.τ) (Cert.SmlKernel.main (F := Bits))) ⟨m, fun _ => 0, g⟩ (fun r => (∀ c : Dev Cert.SmlKernel.nD,
      r.2.mem ((c.tc : Thread Cert.SmlKernel.nD Cert.SmlKernel.τ).loc Cert.SmlKernel.main_arg0) = m ((c.tc : Thread Cert.SmlKernel.nD Cert.SmlKernel.τ).loc Cert.SmlKernel.main_arg0))
      ∧ r.2.sem = fun _ => 0)

def quiescent_SmlKernelIdeal [hSmlKernelIdeal : Cert.SmlKernelIdeal.Facts] : Prop :=
  ∀ (m : (ℓ : Loc Cert.SmlKernelIdeal.nD Cert.SmlKernelIdeal.τ Cert.SmlKernelIdeal.sig) → Buf (Elt Ideal) ℓ) (g : Dev Cert.SmlKernelIdeal.nD → PrngReg), Pre_SmlKernelIdeal m →
    θ_run (Cert.SmlKernelIdeal.defs (F := Ideal)) (onTc (τ := Cert.SmlKernelIdeal.τ) (Cert.SmlKernelIdeal.main (F := Ideal))) ⟨m, fun _ => 0, g⟩ (fun r => (∀ c : Dev Cert.SmlKernelIdeal.nD,
      r.2.mem ((c.tc : Thread Cert.SmlKernelIdeal.nD Cert.SmlKernelIdeal.τ).loc Cert.SmlKernelIdeal.main_arg0) = m ((c.tc : Thread Cert.SmlKernelIdeal.nD Cert.SmlKernelIdeal.τ).loc Cert.SmlKernelIdeal.main_arg0))
      ∧ r.2.sem = fun _ => 0)

def quiescent_SmlReferenceIdeal [hSmlReferenceIdeal : Cert.SmlReferenceIdeal.Facts] : Prop :=
  ∀ (m : (ℓ : Loc Cert.SmlReferenceIdeal.nD Cert.SmlReferenceIdeal.τ Cert.SmlReferenceIdeal.sig) → Buf (Elt Ideal) ℓ) (g : Dev Cert.SmlReferenceIdeal.nD → PrngReg), Pre_SmlReferenceIdeal m →
    θ_run (Cert.SmlReferenceIdeal.defs (F := Ideal)) (onTc (τ := Cert.SmlReferenceIdeal.τ) (Cert.SmlReferenceIdeal.main (F := Ideal))) ⟨m, fun _ => 0, g⟩ (fun r => (∀ c : Dev Cert.SmlReferenceIdeal.nD,
      r.2.mem ((c.tc : Thread Cert.SmlReferenceIdeal.nD Cert.SmlReferenceIdeal.τ).loc Cert.SmlReferenceIdeal.main_arg0) = m ((c.tc : Thread Cert.SmlReferenceIdeal.nD Cert.SmlReferenceIdeal.τ).loc Cert.SmlReferenceIdeal.main_arg0))
      ∧ r.2.sem = fun _ => 0)

def quiescent_AdhKernel [hAdhKernel : Cert.AdhKernel.Facts] : Prop :=
  ∀ (m : (ℓ : Loc Cert.AdhKernel.nD Cert.AdhKernel.τ Cert.AdhKernel.sig) → Buf (Elt Bits) ℓ) (g : Dev Cert.AdhKernel.nD → PrngReg), Pre_AdhKernel m →
    θ_run (Cert.AdhKernel.defs (F := Bits)) (onTc (τ := Cert.AdhKernel.τ) (Cert.AdhKernel.main (F := Bits))) ⟨m, fun _ => 0, g⟩ (fun r => (∀ c : Dev Cert.AdhKernel.nD,
      r.2.mem ((c.tc : Thread Cert.AdhKernel.nD Cert.AdhKernel.τ).loc Cert.AdhKernel.main_arg0) = m ((c.tc : Thread Cert.AdhKernel.nD Cert.AdhKernel.τ).loc Cert.AdhKernel.main_arg0)
      ∧ r.2.mem ((c.tc : Thread Cert.AdhKernel.nD Cert.AdhKernel.τ).loc Cert.AdhKernel.main_arg1) = m ((c.tc : Thread Cert.AdhKernel.nD Cert.AdhKernel.τ).loc Cert.AdhKernel.main_arg1))
      ∧ r.2.sem = fun _ => 0)

def quiescent_AdhKernelIdeal [hAdhKernelIdeal : Cert.AdhKernelIdeal.Facts] : Prop :=
  ∀ (m : (ℓ : Loc Cert.AdhKernelIdeal.nD Cert.AdhKernelIdeal.τ Cert.AdhKernelIdeal.sig) → Buf (Elt Ideal) ℓ) (g : Dev Cert.AdhKernelIdeal.nD → PrngReg), Pre_AdhKernelIdeal m →
    θ_run (Cert.AdhKernelIdeal.defs (F := Ideal)) (onTc (τ := Cert.AdhKernelIdeal.τ) (Cert.AdhKernelIdeal.main (F := Ideal))) ⟨m, fun _ => 0, g⟩ (fun r => (∀ c : Dev Cert.AdhKernelIdeal.nD,
      r.2.mem ((c.tc : Thread Cert.AdhKernelIdeal.nD Cert.AdhKernelIdeal.τ).loc Cert.AdhKernelIdeal.main_arg0) = m ((c.tc : Thread Cert.AdhKernelIdeal.nD Cert.AdhKernelIdeal.τ).loc Cert.AdhKernelIdeal.main_arg0)
      ∧ r.2.mem ((c.tc : Thread Cert.AdhKernelIdeal.nD Cert.AdhKernelIdeal.τ).loc Cert.AdhKernelIdeal.main_arg1) = m ((c.tc : Thread Cert.AdhKernelIdeal.nD Cert.AdhKernelIdeal.τ).loc Cert.AdhKernelIdeal.main_arg1))
      ∧ r.2.sem = fun _ => 0)

def quiescent_AdhReferenceIdeal [hAdhReferenceIdeal : Cert.AdhReferenceIdeal.Facts] : Prop :=
  ∀ (m : (ℓ : Loc Cert.AdhReferenceIdeal.nD Cert.AdhReferenceIdeal.τ Cert.AdhReferenceIdeal.sig) → Buf (Elt Ideal) ℓ) (g : Dev Cert.AdhReferenceIdeal.nD → PrngReg), Pre_AdhReferenceIdeal m →
    θ_run (Cert.AdhReferenceIdeal.defs (F := Ideal)) (onTc (τ := Cert.AdhReferenceIdeal.τ) (Cert.AdhReferenceIdeal.main (F := Ideal))) ⟨m, fun _ => 0, g⟩ (fun r => (∀ c : Dev Cert.AdhReferenceIdeal.nD,
      r.2.mem ((c.tc : Thread Cert.AdhReferenceIdeal.nD Cert.AdhReferenceIdeal.τ).loc Cert.AdhReferenceIdeal.main_arg0) = m ((c.tc : Thread Cert.AdhReferenceIdeal.nD Cert.AdhReferenceIdeal.τ).loc Cert.AdhReferenceIdeal.main_arg0)
      ∧ r.2.mem ((c.tc : Thread Cert.AdhReferenceIdeal.nD Cert.AdhReferenceIdeal.τ).loc Cert.AdhReferenceIdeal.main_arg1) = m ((c.tc : Thread Cert.AdhReferenceIdeal.nD Cert.AdhReferenceIdeal.τ).loc Cert.AdhReferenceIdeal.main_arg1))
      ∧ r.2.sem = fun _ => 0)

def quiescent_SwpKernel [hSwpKernel : Cert.SwpKernel.Facts] : Prop :=
  ∀ (m : (ℓ : Loc Cert.SwpKernel.nD Cert.SwpKernel.τ Cert.SwpKernel.sig) → Buf (Elt Bits) ℓ) (g : Dev Cert.SwpKernel.nD → PrngReg), Pre_SwpKernel m →
    θ_run (Cert.SwpKernel.defs (F := Bits)) (onTc (τ := Cert.SwpKernel.τ) (Cert.SwpKernel.main (F := Bits))) ⟨m, fun _ => 0, g⟩ (fun r => (∀ c : Dev Cert.SwpKernel.nD,
      r.2.mem ((c.tc : Thread Cert.SwpKernel.nD Cert.SwpKernel.τ).loc Cert.SwpKernel.main_arg0) = m ((c.tc : Thread Cert.SwpKernel.nD Cert.SwpKernel.τ).loc Cert.SwpKernel.main_arg0))
      ∧ r.2.sem = fun _ => 0)

def quiescent_SwpKernelIdeal [hSwpKernelIdeal : Cert.SwpKernelIdeal.Facts] : Prop :=
  ∀ (m : (ℓ : Loc Cert.SwpKernelIdeal.nD Cert.SwpKernelIdeal.τ Cert.SwpKernelIdeal.sig) → Buf (Elt Ideal) ℓ) (g : Dev Cert.SwpKernelIdeal.nD → PrngReg), Pre_SwpKernelIdeal m →
    θ_run (Cert.SwpKernelIdeal.defs (F := Ideal)) (onTc (τ := Cert.SwpKernelIdeal.τ) (Cert.SwpKernelIdeal.main (F := Ideal))) ⟨m, fun _ => 0, g⟩ (fun r => (∀ c : Dev Cert.SwpKernelIdeal.nD,
      r.2.mem ((c.tc : Thread Cert.SwpKernelIdeal.nD Cert.SwpKernelIdeal.τ).loc Cert.SwpKernelIdeal.main_arg0) = m ((c.tc : Thread Cert.SwpKernelIdeal.nD Cert.SwpKernelIdeal.τ).loc Cert.SwpKernelIdeal.main_arg0))
      ∧ r.2.sem = fun _ => 0)

def quiescent_SwpReferenceIdeal [hSwpReferenceIdeal : Cert.SwpReferenceIdeal.Facts] : Prop :=
  ∀ (m : (ℓ : Loc Cert.SwpReferenceIdeal.nD Cert.SwpReferenceIdeal.τ Cert.SwpReferenceIdeal.sig) → Buf (Elt Ideal) ℓ) (g : Dev Cert.SwpReferenceIdeal.nD → PrngReg), Pre_SwpReferenceIdeal m →
    θ_run (Cert.SwpReferenceIdeal.defs (F := Ideal)) (onTc (τ := Cert.SwpReferenceIdeal.τ) (Cert.SwpReferenceIdeal.main (F := Ideal))) ⟨m, fun _ => 0, g⟩ (fun r => (∀ c : Dev Cert.SwpReferenceIdeal.nD,
      r.2.mem ((c.tc : Thread Cert.SwpReferenceIdeal.nD Cert.SwpReferenceIdeal.τ).loc Cert.SwpReferenceIdeal.main_arg0) = m ((c.tc : Thread Cert.SwpReferenceIdeal.nD Cert.SwpReferenceIdeal.τ).loc Cert.SwpReferenceIdeal.main_arg0))
      ∧ r.2.sem = fun _ => 0)

def quiescent_GatKernel [hGatKernel : Cert.GatKernel.Facts] : Prop :=
  ∀ (m : (ℓ : Loc Cert.GatKernel.nD Cert.GatKernel.τ Cert.GatKernel.sig) → Buf (Elt Bits) ℓ) (g : Dev Cert.GatKernel.nD → PrngReg), Pre_GatKernel m →
    θ_run (Cert.GatKernel.defs (F := Bits)) (onTc (τ := Cert.GatKernel.τ) (Cert.GatKernel.main (F := Bits))) ⟨m, fun _ => 0, g⟩ (fun r => (∀ c : Dev Cert.GatKernel.nD,
      r.2.mem ((c.tc : Thread Cert.GatKernel.nD Cert.GatKernel.τ).loc Cert.GatKernel.main_arg0) = m ((c.tc : Thread Cert.GatKernel.nD Cert.GatKernel.τ).loc Cert.GatKernel.main_arg0))
      ∧ r.2.sem = fun _ => 0)

def quiescent_GatKernelIdeal [hGatKernelIdeal : Cert.GatKernelIdeal.Facts] : Prop :=
  ∀ (m : (ℓ : Loc Cert.GatKernelIdeal.nD Cert.GatKernelIdeal.τ Cert.GatKernelIdeal.sig) → Buf (Elt Ideal) ℓ) (g : Dev Cert.GatKernelIdeal.nD → PrngReg), Pre_GatKernelIdeal m →
    θ_run (Cert.GatKernelIdeal.defs (F := Ideal)) (onTc (τ := Cert.GatKernelIdeal.τ) (Cert.GatKernelIdeal.main (F := Ideal))) ⟨m, fun _ => 0, g⟩ (fun r => (∀ c : Dev Cert.GatKernelIdeal.nD,
      r.2.mem ((c.tc : Thread Cert.GatKernelIdeal.nD Cert.GatKernelIdeal.τ).loc Cert.GatKernelIdeal.main_arg0) = m ((c.tc : Thread Cert.GatKernelIdeal.nD Cert.GatKernelIdeal.τ).loc Cert.GatKernelIdeal.main_arg0))
      ∧ r.2.sem = fun _ => 0)

def quiescent_GatReferenceIdeal [hGatReferenceIdeal : Cert.GatReferenceIdeal.Facts] : Prop :=
  ∀ (m : (ℓ : Loc Cert.GatReferenceIdeal.nD Cert.GatReferenceIdeal.τ Cert.GatReferenceIdeal.sig) → Buf (Elt Ideal) ℓ) (g : Dev Cert.GatReferenceIdeal.nD → PrngReg), Pre_GatReferenceIdeal m →
    θ_run (Cert.GatReferenceIdeal.defs (F := Ideal)) (onTc (τ := Cert.GatReferenceIdeal.τ) (Cert.GatReferenceIdeal.main (F := Ideal))) ⟨m, fun _ => 0, g⟩ (fun r => (∀ c : Dev Cert.GatReferenceIdeal.nD,
      r.2.mem ((c.tc : Thread Cert.GatReferenceIdeal.nD Cert.GatReferenceIdeal.τ).loc Cert.GatReferenceIdeal.main_arg0) = m ((c.tc : Thread Cert.GatReferenceIdeal.nD Cert.GatReferenceIdeal.τ).loc Cert.GatReferenceIdeal.main_arg0))
      ∧ r.2.sem = fun _ => 0)

def quiescent_SctKernel [hSctKernel : Cert.SctKernel.Facts] : Prop :=
  ∀ (m : (ℓ : Loc Cert.SctKernel.nD Cert.SctKernel.τ Cert.SctKernel.sig) → Buf (Elt Bits) ℓ) (g : Dev Cert.SctKernel.nD → PrngReg), Pre_SctKernel m →
    θ_run (Cert.SctKernel.defs (F := Bits)) (onTc (τ := Cert.SctKernel.τ) (Cert.SctKernel.main (F := Bits))) ⟨m, fun _ => 0, g⟩ (fun r => (∀ c : Dev Cert.SctKernel.nD,
      r.2.mem ((c.tc : Thread Cert.SctKernel.nD Cert.SctKernel.τ).loc Cert.SctKernel.main_arg0) = m ((c.tc : Thread Cert.SctKernel.nD Cert.SctKernel.τ).loc Cert.SctKernel.main_arg0))
      ∧ r.2.sem = fun _ => 0)

def quiescent_SctKernelIdeal [hSctKernelIdeal : Cert.SctKernelIdeal.Facts] : Prop :=
  ∀ (m : (ℓ : Loc Cert.SctKernelIdeal.nD Cert.SctKernelIdeal.τ Cert.SctKernelIdeal.sig) → Buf (Elt Ideal) ℓ) (g : Dev Cert.SctKernelIdeal.nD → PrngReg), Pre_SctKernelIdeal m →
    θ_run (Cert.SctKernelIdeal.defs (F := Ideal)) (onTc (τ := Cert.SctKernelIdeal.τ) (Cert.SctKernelIdeal.main (F := Ideal))) ⟨m, fun _ => 0, g⟩ (fun r => (∀ c : Dev Cert.SctKernelIdeal.nD,
      r.2.mem ((c.tc : Thread Cert.SctKernelIdeal.nD Cert.SctKernelIdeal.τ).loc Cert.SctKernelIdeal.main_arg0) = m ((c.tc : Thread Cert.SctKernelIdeal.nD Cert.SctKernelIdeal.τ).loc Cert.SctKernelIdeal.main_arg0))
      ∧ r.2.sem = fun _ => 0)

def quiescent_SctReferenceIdeal [hSctReferenceIdeal : Cert.SctReferenceIdeal.Facts] : Prop :=
  ∀ (m : (ℓ : Loc Cert.SctReferenceIdeal.nD Cert.SctReferenceIdeal.τ Cert.SctReferenceIdeal.sig) → Buf (Elt Ideal) ℓ) (g : Dev Cert.SctReferenceIdeal.nD → PrngReg), Pre_SctReferenceIdeal m →
    θ_run (Cert.SctReferenceIdeal.defs (F := Ideal)) (onTc (τ := Cert.SctReferenceIdeal.τ) (Cert.SctReferenceIdeal.main (F := Ideal))) ⟨m, fun _ => 0, g⟩ (fun r => (∀ c : Dev Cert.SctReferenceIdeal.nD,
      r.2.mem ((c.tc : Thread Cert.SctReferenceIdeal.nD Cert.SctReferenceIdeal.τ).loc Cert.SctReferenceIdeal.main_arg0) = m ((c.tc : Thread Cert.SctReferenceIdeal.nD Cert.SctReferenceIdeal.τ).loc Cert.SctReferenceIdeal.main_arg0))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v71) = v0 c
          ∧ r.2.mem ((c.tc : Thread Cert.ConvReferenceIdeal.nD Cert.ConvReferenceIdeal.τ).loc Cert.ConvReferenceIdeal.main_v72) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)) →
    ∃ (v0 : (c : Dev Cert.RmsKernelIdeal.nD) → Buf (Elt Ideal) ((c.tc : Thread Cert.RmsKernelIdeal.nD Cert.RmsKernelIdeal.τ).loc Cert.RmsKernelIdeal.main_v1_0)) (v1 : (c : Dev Cert.RmsKernelIdeal.nD) → Buf (Elt Ideal) ((c.tc : Thread Cert.RmsKernelIdeal.nD Cert.RmsKernelIdeal.τ).loc Cert.RmsKernelIdeal.main_v1_1)) (v2 : (c : Dev Cert.RmsKernelIdeal.nD) → Buf (Elt Ideal) ((c.tc : Thread Cert.RmsKernelIdeal.nD Cert.RmsKernelIdeal.τ).loc Cert.RmsKernelIdeal.main_v1_2)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v1_0) = v0 c
          ∧ r.2.mem ((c.tc : Thread Cert.RmsKernelIdeal.nD Cert.RmsKernelIdeal.τ).loc Cert.RmsKernelIdeal.main_v1_1) = v1 c
          ∧ r.2.mem ((c.tc : Thread Cert.RmsKernelIdeal.nD Cert.RmsKernelIdeal.τ).loc Cert.RmsKernelIdeal.main_v1_2) = v2 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v37) = v0 c
          ∧ r.2.mem ((c.tc : Thread Cert.RmsReferenceIdeal.nD Cert.RmsReferenceIdeal.τ).loc Cert.RmsReferenceIdeal.main_v38) = v1 c
          ∧ r.2.mem ((c.tc : Thread Cert.RmsReferenceIdeal.nD Cert.RmsReferenceIdeal.τ).loc Cert.RmsReferenceIdeal.main_v39) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v1_0)) (v1 : (c : Dev Cert.MemKernelIdeal.nD) → Buf (Elt Ideal) ((c.tc : Thread Cert.MemKernelIdeal.nD Cert.MemKernelIdeal.τ).loc Cert.MemKernelIdeal.main_v1_1)) (v2 : (c : Dev Cert.MemKernelIdeal.nD) → Buf (Elt Ideal) ((c.tc : Thread Cert.MemKernelIdeal.nD Cert.MemKernelIdeal.τ).loc Cert.MemKernelIdeal.main_v1_2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v1_0) = v0 c
          ∧ r.2.mem ((c.tc : Thread Cert.MemKernelIdeal.nD Cert.MemKernelIdeal.τ).loc Cert.MemKernelIdeal.main_v1_1) = v1 c
          ∧ r.2.mem ((c.tc : Thread Cert.MemKernelIdeal.nD Cert.MemKernelIdeal.τ).loc Cert.MemKernelIdeal.main_v1_2) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v35) = v0 c
          ∧ r.2.mem ((c.tc : Thread Cert.MemReferenceIdeal.nD Cert.MemReferenceIdeal.τ).loc Cert.MemReferenceIdeal.main_v36) = v1 c
          ∧ r.2.mem ((c.tc : Thread Cert.MemReferenceIdeal.nD Cert.MemReferenceIdeal.τ).loc Cert.MemReferenceIdeal.main_v37) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v4) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v24) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_XdhKernel_XdhKernelIdeal : Prop :=
  True

def algebraic_XdhKernelIdeal_XdhReferenceIdeal [hXdhKernelIdeal : Cert.XdhKernelIdeal.Facts] [hXdhReferenceIdeal : Cert.XdhReferenceIdeal.Facts] : Prop :=
  ∀ (m : (ℓ : Loc Cert.XdhKernelIdeal.nD Cert.XdhKernelIdeal.τ Cert.XdhKernelIdeal.sig) → Buf (Elt Ideal) ℓ) (g : Dev Cert.XdhKernelIdeal.nD → PrngReg)
    (m' : (ℓ : Loc Cert.XdhReferenceIdeal.nD Cert.XdhReferenceIdeal.τ Cert.XdhReferenceIdeal.sig) → Buf (Elt Ideal) ℓ) (g' : Dev Cert.XdhReferenceIdeal.nD → PrngReg), Pre_XdhKernelIdeal m →
    (∀ c : Dev Cert.XdhKernelIdeal.nD,
      m' ((c.tc : Thread Cert.XdhReferenceIdeal.nD Cert.XdhReferenceIdeal.τ).loc Cert.XdhReferenceIdeal.main_arg0) = m ((c.tc : Thread Cert.XdhKernelIdeal.nD Cert.XdhKernelIdeal.τ).loc Cert.XdhKernelIdeal.main_arg0)
      ∧ m' ((c.tc : Thread Cert.XdhReferenceIdeal.nD Cert.XdhReferenceIdeal.τ).loc Cert.XdhReferenceIdeal.main_arg1) = m ((c.tc : Thread Cert.XdhKernelIdeal.nD Cert.XdhKernelIdeal.τ).loc Cert.XdhKernelIdeal.main_arg1)
      ∧ m' ((c.tc : Thread Cert.XdhReferenceIdeal.nD Cert.XdhReferenceIdeal.τ).loc Cert.XdhReferenceIdeal.main_arg2) = m ((c.tc : Thread Cert.XdhKernelIdeal.nD Cert.XdhKernelIdeal.τ).loc Cert.XdhKernelIdeal.main_arg2)
      ∧ m' ((c.tc : Thread Cert.XdhReferenceIdeal.nD Cert.XdhReferenceIdeal.τ).loc Cert.XdhReferenceIdeal.main_arg3) = m ((c.tc : Thread Cert.XdhKernelIdeal.nD Cert.XdhKernelIdeal.τ).loc Cert.XdhKernelIdeal.main_arg3)
      ∧ m' ((c.tc : Thread Cert.XdhReferenceIdeal.nD Cert.XdhReferenceIdeal.τ).loc Cert.XdhReferenceIdeal.main_arg4) = m ((c.tc : Thread Cert.XdhKernelIdeal.nD Cert.XdhKernelIdeal.τ).loc Cert.XdhKernelIdeal.main_arg4)) →
    ∃ (v0 : (c : Dev Cert.XdhKernelIdeal.nD) → Buf (Elt Ideal) ((c.tc : Thread Cert.XdhKernelIdeal.nD Cert.XdhKernelIdeal.τ).loc Cert.XdhKernelIdeal.main_v3_0)) (v1 : (c : Dev Cert.XdhKernelIdeal.nD) → Buf (Elt Ideal) ((c.tc : Thread Cert.XdhKernelIdeal.nD Cert.XdhKernelIdeal.τ).loc Cert.XdhKernelIdeal.main_v3_1)) (v2 : (c : Dev Cert.XdhKernelIdeal.nD) → Buf (Elt Ideal) ((c.tc : Thread Cert.XdhKernelIdeal.nD Cert.XdhKernelIdeal.τ).loc Cert.XdhKernelIdeal.main_v3_2)),
      θ_run (Cert.XdhKernelIdeal.defs (F := Ideal)) (onTc (τ := Cert.XdhKernelIdeal.τ) (Cert.XdhKernelIdeal.main (F := Ideal))) ⟨m, fun _ => 0, g⟩ (fun r => ∀ c : Dev Cert.XdhKernelIdeal.nD,
          r.2.mem ((c.tc : Thread Cert.XdhKernelIdeal.nD Cert.XdhKernelIdeal.τ).loc Cert.XdhKernelIdeal.main_v3_0) = v0 c
          ∧ r.2.mem ((c.tc : Thread Cert.XdhKernelIdeal.nD Cert.XdhKernelIdeal.τ).loc Cert.XdhKernelIdeal.main_v3_1) = v1 c
          ∧ r.2.mem ((c.tc : Thread Cert.XdhKernelIdeal.nD Cert.XdhKernelIdeal.τ).loc Cert.XdhKernelIdeal.main_v3_2) = v2 c
          ∧ r.2.mem ((c.tc : Thread Cert.XdhKernelIdeal.nD Cert.XdhKernelIdeal.τ).loc Cert.XdhKernelIdeal.main_arg0) = m ((c.tc : Thread Cert.XdhKernelIdeal.nD Cert.XdhKernelIdeal.τ).loc Cert.XdhKernelIdeal.main_arg0)
          ∧ r.2.mem ((c.tc : Thread Cert.XdhKernelIdeal.nD Cert.XdhKernelIdeal.τ).loc Cert.XdhKernelIdeal.main_arg1) = m ((c.tc : Thread Cert.XdhKernelIdeal.nD Cert.XdhKernelIdeal.τ).loc Cert.XdhKernelIdeal.main_arg1)
          ∧ r.2.mem ((c.tc : Thread Cert.XdhKernelIdeal.nD Cert.XdhKernelIdeal.τ).loc Cert.XdhKernelIdeal.main_arg2) = m ((c.tc : Thread Cert.XdhKernelIdeal.nD Cert.XdhKernelIdeal.τ).loc Cert.XdhKernelIdeal.main_arg2)
          ∧ r.2.mem ((c.tc : Thread Cert.XdhKernelIdeal.nD Cert.XdhKernelIdeal.τ).loc Cert.XdhKernelIdeal.main_arg3) = m ((c.tc : Thread Cert.XdhKernelIdeal.nD Cert.XdhKernelIdeal.τ).loc Cert.XdhKernelIdeal.main_arg3)
          ∧ r.2.mem ((c.tc : Thread Cert.XdhKernelIdeal.nD Cert.XdhKernelIdeal.τ).loc Cert.XdhKernelIdeal.main_arg4) = m ((c.tc : Thread Cert.XdhKernelIdeal.nD Cert.XdhKernelIdeal.τ).loc Cert.XdhKernelIdeal.main_arg4))
      ∧ θ_run (Cert.XdhReferenceIdeal.defs (F := Ideal)) (onTc (τ := Cert.XdhReferenceIdeal.τ) (Cert.XdhReferenceIdeal.main (F := Ideal))) ⟨m', fun _ => 0, g'⟩ (fun r => ∀ c : Dev Cert.XdhReferenceIdeal.nD,
          r.2.mem ((c.tc : Thread Cert.XdhReferenceIdeal.nD Cert.XdhReferenceIdeal.τ).loc Cert.XdhReferenceIdeal.main_v41) = v0 c
          ∧ r.2.mem ((c.tc : Thread Cert.XdhReferenceIdeal.nD Cert.XdhReferenceIdeal.τ).loc Cert.XdhReferenceIdeal.main_v42) = v1 c
          ∧ r.2.mem ((c.tc : Thread Cert.XdhReferenceIdeal.nD Cert.XdhReferenceIdeal.τ).loc Cert.XdhReferenceIdeal.main_v43) = v2 c
          ∧ r.2.mem ((c.tc : Thread Cert.XdhReferenceIdeal.nD Cert.XdhReferenceIdeal.τ).loc Cert.XdhReferenceIdeal.main_arg0) = m' ((c.tc : Thread Cert.XdhReferenceIdeal.nD Cert.XdhReferenceIdeal.τ).loc Cert.XdhReferenceIdeal.main_arg0)
          ∧ r.2.mem ((c.tc : Thread Cert.XdhReferenceIdeal.nD Cert.XdhReferenceIdeal.τ).loc Cert.XdhReferenceIdeal.main_arg1) = m' ((c.tc : Thread Cert.XdhReferenceIdeal.nD Cert.XdhReferenceIdeal.τ).loc Cert.XdhReferenceIdeal.main_arg1)
          ∧ r.2.mem ((c.tc : Thread Cert.XdhReferenceIdeal.nD Cert.XdhReferenceIdeal.τ).loc Cert.XdhReferenceIdeal.main_arg2) = m' ((c.tc : Thread Cert.XdhReferenceIdeal.nD Cert.XdhReferenceIdeal.τ).loc Cert.XdhReferenceIdeal.main_arg2)
          ∧ r.2.mem ((c.tc : Thread Cert.XdhReferenceIdeal.nD Cert.XdhReferenceIdeal.τ).loc Cert.XdhReferenceIdeal.main_arg3) = m' ((c.tc : Thread Cert.XdhReferenceIdeal.nD Cert.XdhReferenceIdeal.τ).loc Cert.XdhReferenceIdeal.main_arg3)
          ∧ r.2.mem ((c.tc : Thread Cert.XdhReferenceIdeal.nD Cert.XdhReferenceIdeal.τ).loc Cert.XdhReferenceIdeal.main_arg4) = m' ((c.tc : Thread Cert.XdhReferenceIdeal.nD Cert.XdhReferenceIdeal.τ).loc Cert.XdhReferenceIdeal.main_arg4))

def preserves_DswKernel_DswKernelIdeal : Prop :=
  True

def algebraic_DswKernelIdeal_DswReferenceIdeal_pre_finite_dsw [hDswKernelIdeal : Cert.DswKernelIdeal.Facts] [hDswReferenceIdeal : Cert.DswReferenceIdeal.Facts] [hPre_finite_dsw : Cert.Pre_finite_dsw.Facts] : Prop :=
  ∀ (m : (ℓ : Loc Cert.DswKernelIdeal.nD Cert.DswKernelIdeal.τ Cert.DswKernelIdeal.sig) → Buf (Elt Ideal) ℓ) (g : Dev Cert.DswKernelIdeal.nD → PrngReg)
    (m' : (ℓ : Loc Cert.DswReferenceIdeal.nD Cert.DswReferenceIdeal.τ Cert.DswReferenceIdeal.sig) → Buf (Elt Ideal) ℓ) (g' : Dev Cert.DswReferenceIdeal.nD → PrngReg), Pre_DswKernelIdeal_finite_dsw m →
    (∀ c : Dev Cert.DswKernelIdeal.nD,
      m' ((c.tc : Thread Cert.DswReferenceIdeal.nD Cert.DswReferenceIdeal.τ).loc Cert.DswReferenceIdeal.main_arg0) = m ((c.tc : Thread Cert.DswKernelIdeal.nD Cert.DswKernelIdeal.τ).loc Cert.DswKernelIdeal.main_arg0)
      ∧ m' ((c.tc : Thread Cert.DswReferenceIdeal.nD Cert.DswReferenceIdeal.τ).loc Cert.DswReferenceIdeal.main_arg1) = m ((c.tc : Thread Cert.DswKernelIdeal.nD Cert.DswKernelIdeal.τ).loc Cert.DswKernelIdeal.main_arg1)
      ∧ m' ((c.tc : Thread Cert.DswReferenceIdeal.nD Cert.DswReferenceIdeal.τ).loc Cert.DswReferenceIdeal.main_arg2) = m ((c.tc : Thread Cert.DswKernelIdeal.nD Cert.DswKernelIdeal.τ).loc Cert.DswKernelIdeal.main_arg2)
      ∧ m' ((c.tc : Thread Cert.DswReferenceIdeal.nD Cert.DswReferenceIdeal.τ).loc Cert.DswReferenceIdeal.main_arg3) = m ((c.tc : Thread Cert.DswKernelIdeal.nD Cert.DswKernelIdeal.τ).loc Cert.DswKernelIdeal.main_arg3)) →
    ∃ (v0 : (c : Dev Cert.DswKernelIdeal.nD) → Buf (Elt Ideal) ((c.tc : Thread Cert.DswKernelIdeal.nD Cert.DswKernelIdeal.τ).loc Cert.DswKernelIdeal.main_v6_0)) (v1 : (c : Dev Cert.DswKernelIdeal.nD) → Buf (Elt Ideal) ((c.tc : Thread Cert.DswKernelIdeal.nD Cert.DswKernelIdeal.τ).loc Cert.DswKernelIdeal.main_v6_1)),
      θ_run (Cert.DswKernelIdeal.defs (F := Ideal)) (onTc (τ := Cert.DswKernelIdeal.τ) (Cert.DswKernelIdeal.main (F := Ideal))) ⟨m, fun _ => 0, g⟩ (fun r => ∀ c : Dev Cert.DswKernelIdeal.nD,
          r.2.mem ((c.tc : Thread Cert.DswKernelIdeal.nD Cert.DswKernelIdeal.τ).loc Cert.DswKernelIdeal.main_v6_0) = v0 c
          ∧ r.2.mem ((c.tc : Thread Cert.DswKernelIdeal.nD Cert.DswKernelIdeal.τ).loc Cert.DswKernelIdeal.main_v6_1) = v1 c
          ∧ r.2.mem ((c.tc : Thread Cert.DswKernelIdeal.nD Cert.DswKernelIdeal.τ).loc Cert.DswKernelIdeal.main_arg0) = m ((c.tc : Thread Cert.DswKernelIdeal.nD Cert.DswKernelIdeal.τ).loc Cert.DswKernelIdeal.main_arg0)
          ∧ r.2.mem ((c.tc : Thread Cert.DswKernelIdeal.nD Cert.DswKernelIdeal.τ).loc Cert.DswKernelIdeal.main_arg1) = m ((c.tc : Thread Cert.DswKernelIdeal.nD Cert.DswKernelIdeal.τ).loc Cert.DswKernelIdeal.main_arg1)
          ∧ r.2.mem ((c.tc : Thread Cert.DswKernelIdeal.nD Cert.DswKernelIdeal.τ).loc Cert.DswKernelIdeal.main_arg2) = m ((c.tc : Thread Cert.DswKernelIdeal.nD Cert.DswKernelIdeal.τ).loc Cert.DswKernelIdeal.main_arg2)
          ∧ r.2.mem ((c.tc : Thread Cert.DswKernelIdeal.nD Cert.DswKernelIdeal.τ).loc Cert.DswKernelIdeal.main_arg3) = m ((c.tc : Thread Cert.DswKernelIdeal.nD Cert.DswKernelIdeal.τ).loc Cert.DswKernelIdeal.main_arg3))
      ∧ θ_run (Cert.DswReferenceIdeal.defs (F := Ideal)) (onTc (τ := Cert.DswReferenceIdeal.τ) (Cert.DswReferenceIdeal.main (F := Ideal))) ⟨m', fun _ => 0, g'⟩ (fun r => ∀ c : Dev Cert.DswReferenceIdeal.nD,
          r.2.mem ((c.tc : Thread Cert.DswReferenceIdeal.nD Cert.DswReferenceIdeal.τ).loc Cert.DswReferenceIdeal.main_v18) = v0 c
          ∧ r.2.mem ((c.tc : Thread Cert.DswReferenceIdeal.nD Cert.DswReferenceIdeal.τ).loc Cert.DswReferenceIdeal.main_v19) = v1 c
          ∧ r.2.mem ((c.tc : Thread Cert.DswReferenceIdeal.nD Cert.DswReferenceIdeal.τ).loc Cert.DswReferenceIdeal.main_arg0) = m' ((c.tc : Thread Cert.DswReferenceIdeal.nD Cert.DswReferenceIdeal.τ).loc Cert.DswReferenceIdeal.main_arg0)
          ∧ r.2.mem ((c.tc : Thread Cert.DswReferenceIdeal.nD Cert.DswReferenceIdeal.τ).loc Cert.DswReferenceIdeal.main_arg1) = m' ((c.tc : Thread Cert.DswReferenceIdeal.nD Cert.DswReferenceIdeal.τ).loc Cert.DswReferenceIdeal.main_arg1)
          ∧ r.2.mem ((c.tc : Thread Cert.DswReferenceIdeal.nD Cert.DswReferenceIdeal.τ).loc Cert.DswReferenceIdeal.main_arg2) = m' ((c.tc : Thread Cert.DswReferenceIdeal.nD Cert.DswReferenceIdeal.τ).loc Cert.DswReferenceIdeal.main_arg2)
          ∧ r.2.mem ((c.tc : Thread Cert.DswReferenceIdeal.nD Cert.DswReferenceIdeal.τ).loc Cert.DswReferenceIdeal.main_arg3) = m' ((c.tc : Thread Cert.DswReferenceIdeal.nD Cert.DswReferenceIdeal.τ).loc Cert.DswReferenceIdeal.main_arg3))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v0_0)) (v1 : (c : Dev Cert.AttnKernelIdeal.nD) → Buf (Elt Ideal) ((c.tc : Thread Cert.AttnKernelIdeal.nD Cert.AttnKernelIdeal.τ).loc Cert.AttnKernelIdeal.main_v0_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0_0) = v0 c
          ∧ r.2.mem ((c.tc : Thread Cert.AttnKernelIdeal.nD Cert.AttnKernelIdeal.τ).loc Cert.AttnKernelIdeal.main_v0_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v69) = v0 c
          ∧ r.2.mem ((c.tc : Thread Cert.AttnReferenceIdeal.nD Cert.AttnReferenceIdeal.τ).loc Cert.AttnReferenceIdeal.main_v67) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_GmlpKernel_GmlpKernelIdeal : Prop :=
  IdealRules.named_const.Statement Cert.GmlpKernelIdeal.κ "inv_sqrt_2" .f32 0x3F3504F3#32 (((Real.sqrt 2)⁻¹ : ℝ) : EReal)
  ∧ IdealRules.named_const.Statement Cert.GmlpKernelIdeal.κ "inv_sqrt_2pi" .f32 0x3ECC422A#32 (((Real.sqrt (2 * Real.pi))⁻¹ : ℝ) : EReal)

def algebraic_GmlpKernelIdeal_GmlpReferenceIdeal_pre_finite_gmlp [hGmlpKernelIdeal : Cert.GmlpKernelIdeal.Facts] [hGmlpReferenceIdeal : Cert.GmlpReferenceIdeal.Facts] [hPre_finite_gmlp : Cert.Pre_finite_gmlp.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal_finite_gmlp m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)
      ∧ m' ((c.tc : Thread Cert.GmlpReferenceIdeal.nD Cert.GmlpReferenceIdeal.τ).loc Cert.GmlpReferenceIdeal.main_arg5) = m ((c.tc : Thread Cert.GmlpKernelIdeal.nD Cert.GmlpKernelIdeal.τ).loc Cert.GmlpKernelIdeal.main_arg5)) →
    ∃ (v0 : (c : Dev Cert.GmlpKernelIdeal.nD) → Buf (Elt Ideal) ((c.tc : Thread Cert.GmlpKernelIdeal.nD Cert.GmlpKernelIdeal.τ).loc Cert.GmlpKernelIdeal.main_v5_0)) (v1 : (c : Dev Cert.GmlpKernelIdeal.nD) → Buf (Elt Ideal) ((c.tc : Thread Cert.GmlpKernelIdeal.nD Cert.GmlpKernelIdeal.τ).loc Cert.GmlpKernelIdeal.main_v5_1)) (v2 : (c : Dev Cert.GmlpKernelIdeal.nD) → Buf (Elt Ideal) ((c.tc : Thread Cert.GmlpKernelIdeal.nD Cert.GmlpKernelIdeal.τ).loc Cert.GmlpKernelIdeal.main_v5_2)) (v3 : (c : Dev Cert.GmlpKernelIdeal.nD) → Buf (Elt Ideal) ((c.tc : Thread Cert.GmlpKernelIdeal.nD Cert.GmlpKernelIdeal.τ).loc Cert.GmlpKernelIdeal.main_v5_3)) (v4 : (c : Dev Cert.GmlpKernelIdeal.nD) → Buf (Elt Ideal) ((c.tc : Thread Cert.GmlpKernelIdeal.nD Cert.GmlpKernelIdeal.τ).loc Cert.GmlpKernelIdeal.main_v5_4)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v5_0) = v0 c
          ∧ r.2.mem ((c.tc : Thread Cert.GmlpKernelIdeal.nD Cert.GmlpKernelIdeal.τ).loc Cert.GmlpKernelIdeal.main_v5_1) = v1 c
          ∧ r.2.mem ((c.tc : Thread Cert.GmlpKernelIdeal.nD Cert.GmlpKernelIdeal.τ).loc Cert.GmlpKernelIdeal.main_v5_2) = v2 c
          ∧ r.2.mem ((c.tc : Thread Cert.GmlpKernelIdeal.nD Cert.GmlpKernelIdeal.τ).loc Cert.GmlpKernelIdeal.main_v5_3) = v3 c
          ∧ r.2.mem ((c.tc : Thread Cert.GmlpKernelIdeal.nD Cert.GmlpKernelIdeal.τ).loc Cert.GmlpKernelIdeal.main_v5_4) = v4 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
          ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v117) = v0 c
          ∧ r.2.mem ((c.tc : Thread Cert.GmlpReferenceIdeal.nD Cert.GmlpReferenceIdeal.τ).loc Cert.GmlpReferenceIdeal.main_v75) = v1 c
          ∧ r.2.mem ((c.tc : Thread Cert.GmlpReferenceIdeal.nD Cert.GmlpReferenceIdeal.τ).loc Cert.GmlpReferenceIdeal.main_v119) = v2 c
          ∧ r.2.mem ((c.tc : Thread Cert.GmlpReferenceIdeal.nD Cert.GmlpReferenceIdeal.τ).loc Cert.GmlpReferenceIdeal.main_v120) = v3 c
          ∧ r.2.mem ((c.tc : Thread Cert.GmlpReferenceIdeal.nD Cert.GmlpReferenceIdeal.τ).loc Cert.GmlpReferenceIdeal.main_v121) = v4 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v4_0)) (v1 : (c : Dev Cert.MixKernelIdeal.nD) → Buf (Elt Ideal) ((c.tc : Thread Cert.MixKernelIdeal.nD Cert.MixKernelIdeal.τ).loc Cert.MixKernelIdeal.main_v4_1)) (v2 : (c : Dev Cert.MixKernelIdeal.nD) → Buf (Elt Ideal) ((c.tc : Thread Cert.MixKernelIdeal.nD Cert.MixKernelIdeal.τ).loc Cert.MixKernelIdeal.main_v4_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4_0) = v0 c
          ∧ r.2.mem ((c.tc : Thread Cert.MixKernelIdeal.nD Cert.MixKernelIdeal.τ).loc Cert.MixKernelIdeal.main_v4_1) = v1 c
          ∧ r.2.mem ((c.tc : Thread Cert.MixKernelIdeal.nD Cert.MixKernelIdeal.τ).loc Cert.MixKernelIdeal.main_v4_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v41) = v0 c
          ∧ r.2.mem ((c.tc : Thread Cert.MixReferenceIdeal.nD Cert.MixReferenceIdeal.τ).loc Cert.MixReferenceIdeal.main_v42) = v1 c
          ∧ r.2.mem ((c.tc : Thread Cert.MixReferenceIdeal.nD Cert.MixReferenceIdeal.τ).loc Cert.MixReferenceIdeal.main_v43) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_NrmKernel_NrmKernelIdeal : Prop :=
  True

def algebraic_NrmKernelIdeal_NrmReferenceIdeal [hNrmKernelIdeal : Cert.NrmKernelIdeal.Facts] [hNrmReferenceIdeal : Cert.NrmReferenceIdeal.Facts] : Prop :=
  ∀ (m : (ℓ : Loc Cert.NrmKernelIdeal.nD Cert.NrmKernelIdeal.τ Cert.NrmKernelIdeal.sig) → Buf (Elt Ideal) ℓ) (g : Dev Cert.NrmKernelIdeal.nD → PrngReg)
    (m' : (ℓ : Loc Cert.NrmReferenceIdeal.nD Cert.NrmReferenceIdeal.τ Cert.NrmReferenceIdeal.sig) → Buf (Elt Ideal) ℓ) (g' : Dev Cert.NrmReferenceIdeal.nD → PrngReg), Pre_NrmKernelIdeal m →
    (∀ c : Dev Cert.NrmKernelIdeal.nD,
      m' ((c.tc : Thread Cert.NrmReferenceIdeal.nD Cert.NrmReferenceIdeal.τ).loc Cert.NrmReferenceIdeal.main_arg0) = m ((c.tc : Thread Cert.NrmKernelIdeal.nD Cert.NrmKernelIdeal.τ).loc Cert.NrmKernelIdeal.main_arg0)
      ∧ m' ((c.tc : Thread Cert.NrmReferenceIdeal.nD Cert.NrmReferenceIdeal.τ).loc Cert.NrmReferenceIdeal.main_arg1) = m ((c.tc : Thread Cert.NrmKernelIdeal.nD Cert.NrmKernelIdeal.τ).loc Cert.NrmKernelIdeal.main_arg1)) →
    ∃ (v0 : (c : Dev Cert.NrmKernelIdeal.nD) → Buf (Elt Ideal) ((c.tc : Thread Cert.NrmKernelIdeal.nD Cert.NrmKernelIdeal.τ).loc Cert.NrmKernelIdeal.main_v1)),
      θ_run (Cert.NrmKernelIdeal.defs (F := Ideal)) (onTc (τ := Cert.NrmKernelIdeal.τ) (Cert.NrmKernelIdeal.main (F := Ideal))) ⟨m, fun _ => 0, g⟩ (fun r => ∀ c : Dev Cert.NrmKernelIdeal.nD,
          r.2.mem ((c.tc : Thread Cert.NrmKernelIdeal.nD Cert.NrmKernelIdeal.τ).loc Cert.NrmKernelIdeal.main_v1) = v0 c
          ∧ r.2.mem ((c.tc : Thread Cert.NrmKernelIdeal.nD Cert.NrmKernelIdeal.τ).loc Cert.NrmKernelIdeal.main_arg0) = m ((c.tc : Thread Cert.NrmKernelIdeal.nD Cert.NrmKernelIdeal.τ).loc Cert.NrmKernelIdeal.main_arg0)
          ∧ r.2.mem ((c.tc : Thread Cert.NrmKernelIdeal.nD Cert.NrmKernelIdeal.τ).loc Cert.NrmKernelIdeal.main_arg1) = m ((c.tc : Thread Cert.NrmKernelIdeal.nD Cert.NrmKernelIdeal.τ).loc Cert.NrmKernelIdeal.main_arg1))
      ∧ θ_run (Cert.NrmReferenceIdeal.defs (F := Ideal)) (onTc (τ := Cert.NrmReferenceIdeal.τ) (Cert.NrmReferenceIdeal.main (F := Ideal))) ⟨m', fun _ => 0, g'⟩ (fun r => ∀ c : Dev Cert.NrmReferenceIdeal.nD,
          r.2.mem ((c.tc : Thread Cert.NrmReferenceIdeal.nD Cert.NrmReferenceIdeal.τ).loc Cert.NrmReferenceIdeal.main_v13) = v0 c
          ∧ r.2.mem ((c.tc : Thread Cert.NrmReferenceIdeal.nD Cert.NrmReferenceIdeal.τ).loc Cert.NrmReferenceIdeal.main_arg0) = m' ((c.tc : Thread Cert.NrmReferenceIdeal.nD Cert.NrmReferenceIdeal.τ).loc Cert.NrmReferenceIdeal.main_arg0)
          ∧ r.2.mem ((c.tc : Thread Cert.NrmReferenceIdeal.nD Cert.NrmReferenceIdeal.τ).loc Cert.NrmReferenceIdeal.main_arg1) = m' ((c.tc : Thread Cert.NrmReferenceIdeal.nD Cert.NrmReferenceIdeal.τ).loc Cert.NrmReferenceIdeal.main_arg1))

def preserves_OnrKernel_OnrKernelIdeal : Prop :=
  True

def algebraic_OnrKernelIdeal_OnrReferenceIdeal [hOnrKernelIdeal : Cert.OnrKernelIdeal.Facts] [hOnrReferenceIdeal : Cert.OnrReferenceIdeal.Facts] : Prop :=
  ∀ (m : (ℓ : Loc Cert.OnrKernelIdeal.nD Cert.OnrKernelIdeal.τ Cert.OnrKernelIdeal.sig) → Buf (Elt Ideal) ℓ) (g : Dev Cert.OnrKernelIdeal.nD → PrngReg)
    (m' : (ℓ : Loc Cert.OnrReferenceIdeal.nD Cert.OnrReferenceIdeal.τ Cert.OnrReferenceIdeal.sig) → Buf (Elt Ideal) ℓ) (g' : Dev Cert.OnrReferenceIdeal.nD → PrngReg), Pre_OnrKernelIdeal m →
    (∀ c : Dev Cert.OnrKernelIdeal.nD,
      m' ((c.tc : Thread Cert.OnrReferenceIdeal.nD Cert.OnrReferenceIdeal.τ).loc Cert.OnrReferenceIdeal.main_arg0) = m ((c.tc : Thread Cert.OnrKernelIdeal.nD Cert.OnrKernelIdeal.τ).loc Cert.OnrKernelIdeal.main_arg0)
      ∧ m' ((c.tc : Thread Cert.OnrReferenceIdeal.nD Cert.OnrReferenceIdeal.τ).loc Cert.OnrReferenceIdeal.main_arg1) = m ((c.tc : Thread Cert.OnrKernelIdeal.nD Cert.OnrKernelIdeal.τ).loc Cert.OnrKernelIdeal.main_arg1)
      ∧ m' ((c.tc : Thread Cert.OnrReferenceIdeal.nD Cert.OnrReferenceIdeal.τ).loc Cert.OnrReferenceIdeal.main_arg2) = m ((c.tc : Thread Cert.OnrKernelIdeal.nD Cert.OnrKernelIdeal.τ).loc Cert.OnrKernelIdeal.main_arg2)
      ∧ m' ((c.tc : Thread Cert.OnrReferenceIdeal.nD Cert.OnrReferenceIdeal.τ).loc Cert.OnrReferenceIdeal.main_arg3) = m ((c.tc : Thread Cert.OnrKernelIdeal.nD Cert.OnrKernelIdeal.τ).loc Cert.OnrKernelIdeal.main_arg3)) →
    ∃ (v0 : (c : Dev Cert.OnrKernelIdeal.nD) → Buf (Elt Ideal) ((c.tc : Thread Cert.OnrKernelIdeal.nD Cert.OnrKernelIdeal.τ).loc Cert.OnrKernelIdeal.main_v3_0)) (v1 : (c : Dev Cert.OnrKernelIdeal.nD) → Buf (Elt Ideal) ((c.tc : Thread Cert.OnrKernelIdeal.nD Cert.OnrKernelIdeal.τ).loc Cert.OnrKernelIdeal.main_v3_1)),
      θ_run (Cert.OnrKernelIdeal.defs (F := Ideal)) (onTc (τ := Cert.OnrKernelIdeal.τ) (Cert.OnrKernelIdeal.main (F := Ideal))) ⟨m, fun _ => 0, g⟩ (fun r => ∀ c : Dev Cert.OnrKernelIdeal.nD,
          r.2.mem ((c.tc : Thread Cert.OnrKernelIdeal.nD Cert.OnrKernelIdeal.τ).loc Cert.OnrKernelIdeal.main_v3_0) = v0 c
          ∧ r.2.mem ((c.tc : Thread Cert.OnrKernelIdeal.nD Cert.OnrKernelIdeal.τ).loc Cert.OnrKernelIdeal.main_v3_1) = v1 c
          ∧ r.2.mem ((c.tc : Thread Cert.OnrKernelIdeal.nD Cert.OnrKernelIdeal.τ).loc Cert.OnrKernelIdeal.main_arg0) = m ((c.tc : Thread Cert.OnrKernelIdeal.nD Cert.OnrKernelIdeal.τ).loc Cert.OnrKernelIdeal.main_arg0)
          ∧ r.2.mem ((c.tc : Thread Cert.OnrKernelIdeal.nD Cert.OnrKernelIdeal.τ).loc Cert.OnrKernelIdeal.main_arg1) = m ((c.tc : Thread Cert.OnrKernelIdeal.nD Cert.OnrKernelIdeal.τ).loc Cert.OnrKernelIdeal.main_arg1)
          ∧ r.2.mem ((c.tc : Thread Cert.OnrKernelIdeal.nD Cert.OnrKernelIdeal.τ).loc Cert.OnrKernelIdeal.main_arg2) = m ((c.tc : Thread Cert.OnrKernelIdeal.nD Cert.OnrKernelIdeal.τ).loc Cert.OnrKernelIdeal.main_arg2)
          ∧ r.2.mem ((c.tc : Thread Cert.OnrKernelIdeal.nD Cert.OnrKernelIdeal.τ).loc Cert.OnrKernelIdeal.main_arg3) = m ((c.tc : Thread Cert.OnrKernelIdeal.nD Cert.OnrKernelIdeal.τ).loc Cert.OnrKernelIdeal.main_arg3))
      ∧ θ_run (Cert.OnrReferenceIdeal.defs (F := Ideal)) (onTc (τ := Cert.OnrReferenceIdeal.τ) (Cert.OnrReferenceIdeal.main (F := Ideal))) ⟨m', fun _ => 0, g'⟩ (fun r => ∀ c : Dev Cert.OnrReferenceIdeal.nD,
          r.2.mem ((c.tc : Thread Cert.OnrReferenceIdeal.nD Cert.OnrReferenceIdeal.τ).loc Cert.OnrReferenceIdeal.main_v2) = v0 c
          ∧ r.2.mem ((c.tc : Thread Cert.OnrReferenceIdeal.nD Cert.OnrReferenceIdeal.τ).loc Cert.OnrReferenceIdeal.main_v16) = v1 c
          ∧ r.2.mem ((c.tc : Thread Cert.OnrReferenceIdeal.nD Cert.OnrReferenceIdeal.τ).loc Cert.OnrReferenceIdeal.main_arg0) = m' ((c.tc : Thread Cert.OnrReferenceIdeal.nD Cert.OnrReferenceIdeal.τ).loc Cert.OnrReferenceIdeal.main_arg0)
          ∧ r.2.mem ((c.tc : Thread Cert.OnrReferenceIdeal.nD Cert.OnrReferenceIdeal.τ).loc Cert.OnrReferenceIdeal.main_arg1) = m' ((c.tc : Thread Cert.OnrReferenceIdeal.nD Cert.OnrReferenceIdeal.τ).loc Cert.OnrReferenceIdeal.main_arg1)
          ∧ r.2.mem ((c.tc : Thread Cert.OnrReferenceIdeal.nD Cert.OnrReferenceIdeal.τ).loc Cert.OnrReferenceIdeal.main_arg2) = m' ((c.tc : Thread Cert.OnrReferenceIdeal.nD Cert.OnrReferenceIdeal.τ).loc Cert.OnrReferenceIdeal.main_arg2)
          ∧ r.2.mem ((c.tc : Thread Cert.OnrReferenceIdeal.nD Cert.OnrReferenceIdeal.τ).loc Cert.OnrReferenceIdeal.main_arg3) = m' ((c.tc : Thread Cert.OnrReferenceIdeal.nD Cert.OnrReferenceIdeal.τ).loc Cert.OnrReferenceIdeal.main_arg3))

def preserves_CvfKernel_CvfKernelIdeal : Prop :=
  True

def algebraic_CvfKernelIdeal_CvfReferenceIdeal [hCvfKernelIdeal : Cert.CvfKernelIdeal.Facts] [hCvfReferenceIdeal : Cert.CvfReferenceIdeal.Facts] : Prop :=
  ∀ (m : (ℓ : Loc Cert.CvfKernelIdeal.nD Cert.CvfKernelIdeal.τ Cert.CvfKernelIdeal.sig) → Buf (Elt Ideal) ℓ) (g : Dev Cert.CvfKernelIdeal.nD → PrngReg)
    (m' : (ℓ : Loc Cert.CvfReferenceIdeal.nD Cert.CvfReferenceIdeal.τ Cert.CvfReferenceIdeal.sig) → Buf (Elt Ideal) ℓ) (g' : Dev Cert.CvfReferenceIdeal.nD → PrngReg), Pre_CvfKernelIdeal m →
    (∀ c : Dev Cert.CvfKernelIdeal.nD,
      m' ((c.tc : Thread Cert.CvfReferenceIdeal.nD Cert.CvfReferenceIdeal.τ).loc Cert.CvfReferenceIdeal.main_arg0) = m ((c.tc : Thread Cert.CvfKernelIdeal.nD Cert.CvfKernelIdeal.τ).loc Cert.CvfKernelIdeal.main_arg0)
      ∧ m' ((c.tc : Thread Cert.CvfReferenceIdeal.nD Cert.CvfReferenceIdeal.τ).loc Cert.CvfReferenceIdeal.main_arg1) = m ((c.tc : Thread Cert.CvfKernelIdeal.nD Cert.CvfKernelIdeal.τ).loc Cert.CvfKernelIdeal.main_arg1)) →
    ∃ (v0 : (c : Dev Cert.CvfKernelIdeal.nD) → Buf (Elt Ideal) ((c.tc : Thread Cert.CvfKernelIdeal.nD Cert.CvfKernelIdeal.τ).loc Cert.CvfKernelIdeal.main_v0)),
      θ_run (Cert.CvfKernelIdeal.defs (F := Ideal)) (onTc (τ := Cert.CvfKernelIdeal.τ) (Cert.CvfKernelIdeal.main (F := Ideal))) ⟨m, fun _ => 0, g⟩ (fun r => ∀ c : Dev Cert.CvfKernelIdeal.nD,
          r.2.mem ((c.tc : Thread Cert.CvfKernelIdeal.nD Cert.CvfKernelIdeal.τ).loc Cert.CvfKernelIdeal.main_v0) = v0 c
          ∧ r.2.mem ((c.tc : Thread Cert.CvfKernelIdeal.nD Cert.CvfKernelIdeal.τ).loc Cert.CvfKernelIdeal.main_arg0) = m ((c.tc : Thread Cert.CvfKernelIdeal.nD Cert.CvfKernelIdeal.τ).loc Cert.CvfKernelIdeal.main_arg0)
          ∧ r.2.mem ((c.tc : Thread Cert.CvfKernelIdeal.nD Cert.CvfKernelIdeal.τ).loc Cert.CvfKernelIdeal.main_arg1) = m ((c.tc : Thread Cert.CvfKernelIdeal.nD Cert.CvfKernelIdeal.τ).loc Cert.CvfKernelIdeal.main_arg1))
      ∧ θ_run (Cert.CvfReferenceIdeal.defs (F := Ideal)) (onTc (τ := Cert.CvfReferenceIdeal.τ) (Cert.CvfReferenceIdeal.main (F := Ideal))) ⟨m', fun _ => 0, g'⟩ (fun r => ∀ c : Dev Cert.CvfReferenceIdeal.nD,
          r.2.mem ((c.tc : Thread Cert.CvfReferenceIdeal.nD Cert.CvfReferenceIdeal.τ).loc Cert.CvfReferenceIdeal.main_v29) = v0 c
          ∧ r.2.mem ((c.tc : Thread Cert.CvfReferenceIdeal.nD Cert.CvfReferenceIdeal.τ).loc Cert.CvfReferenceIdeal.main_arg0) = m' ((c.tc : Thread Cert.CvfReferenceIdeal.nD Cert.CvfReferenceIdeal.τ).loc Cert.CvfReferenceIdeal.main_arg0)
          ∧ r.2.mem ((c.tc : Thread Cert.CvfReferenceIdeal.nD Cert.CvfReferenceIdeal.τ).loc Cert.CvfReferenceIdeal.main_arg1) = m' ((c.tc : Thread Cert.CvfReferenceIdeal.nD Cert.CvfReferenceIdeal.τ).loc Cert.CvfReferenceIdeal.main_arg1))

def preserves_GmfKernel_GmfKernelIdeal : Prop :=
  IdealRules.named_const.Statement Cert.GmfKernelIdeal.κ "inv_sqrt_2" .f32 0x3F3504F3#32 (((Real.sqrt 2)⁻¹ : ℝ) : EReal)

def algebraic_GmfKernelIdeal_GmfReferenceIdeal [hGmfKernelIdeal : Cert.GmfKernelIdeal.Facts] [hGmfReferenceIdeal : Cert.GmfReferenceIdeal.Facts] : Prop :=
  ∀ (m : (ℓ : Loc Cert.GmfKernelIdeal.nD Cert.GmfKernelIdeal.τ Cert.GmfKernelIdeal.sig) → Buf (Elt Ideal) ℓ) (g : Dev Cert.GmfKernelIdeal.nD → PrngReg)
    (m' : (ℓ : Loc Cert.GmfReferenceIdeal.nD Cert.GmfReferenceIdeal.τ Cert.GmfReferenceIdeal.sig) → Buf (Elt Ideal) ℓ) (g' : Dev Cert.GmfReferenceIdeal.nD → PrngReg), Pre_GmfKernelIdeal m →
    (∀ c : Dev Cert.GmfKernelIdeal.nD,
      m' ((c.tc : Thread Cert.GmfReferenceIdeal.nD Cert.GmfReferenceIdeal.τ).loc Cert.GmfReferenceIdeal.main_arg0) = m ((c.tc : Thread Cert.GmfKernelIdeal.nD Cert.GmfKernelIdeal.τ).loc Cert.GmfKernelIdeal.main_arg0)
      ∧ m' ((c.tc : Thread Cert.GmfReferenceIdeal.nD Cert.GmfReferenceIdeal.τ).loc Cert.GmfReferenceIdeal.main_arg1) = m ((c.tc : Thread Cert.GmfKernelIdeal.nD Cert.GmfKernelIdeal.τ).loc Cert.GmfKernelIdeal.main_arg1)
      ∧ m' ((c.tc : Thread Cert.GmfReferenceIdeal.nD Cert.GmfReferenceIdeal.τ).loc Cert.GmfReferenceIdeal.main_arg2) = m ((c.tc : Thread Cert.GmfKernelIdeal.nD Cert.GmfKernelIdeal.τ).loc Cert.GmfKernelIdeal.main_arg2)
      ∧ m' ((c.tc : Thread Cert.GmfReferenceIdeal.nD Cert.GmfReferenceIdeal.τ).loc Cert.GmfReferenceIdeal.main_arg3) = m ((c.tc : Thread Cert.GmfKernelIdeal.nD Cert.GmfKernelIdeal.τ).loc Cert.GmfKernelIdeal.main_arg3)
      ∧ m' ((c.tc : Thread Cert.GmfReferenceIdeal.nD Cert.GmfReferenceIdeal.τ).loc Cert.GmfReferenceIdeal.main_arg4) = m ((c.tc : Thread Cert.GmfKernelIdeal.nD Cert.GmfKernelIdeal.τ).loc Cert.GmfKernelIdeal.main_arg4)) →
    ∃ (v0 : (c : Dev Cert.GmfKernelIdeal.nD) → Buf (Elt Ideal) ((c.tc : Thread Cert.GmfKernelIdeal.nD Cert.GmfKernelIdeal.τ).loc Cert.GmfKernelIdeal.main_v5)),
      θ_run (Cert.GmfKernelIdeal.defs (F := Ideal)) (onTc (τ := Cert.GmfKernelIdeal.τ) (Cert.GmfKernelIdeal.main (F := Ideal))) ⟨m, fun _ => 0, g⟩ (fun r => ∀ c : Dev Cert.GmfKernelIdeal.nD,
          r.2.mem ((c.tc : Thread Cert.GmfKernelIdeal.nD Cert.GmfKernelIdeal.τ).loc Cert.GmfKernelIdeal.main_v5) = v0 c
          ∧ r.2.mem ((c.tc : Thread Cert.GmfKernelIdeal.nD Cert.GmfKernelIdeal.τ).loc Cert.GmfKernelIdeal.main_arg0) = m ((c.tc : Thread Cert.GmfKernelIdeal.nD Cert.GmfKernelIdeal.τ).loc Cert.GmfKernelIdeal.main_arg0)
          ∧ r.2.mem ((c.tc : Thread Cert.GmfKernelIdeal.nD Cert.GmfKernelIdeal.τ).loc Cert.GmfKernelIdeal.main_arg1) = m ((c.tc : Thread Cert.GmfKernelIdeal.nD Cert.GmfKernelIdeal.τ).loc Cert.GmfKernelIdeal.main_arg1)
          ∧ r.2.mem ((c.tc : Thread Cert.GmfKernelIdeal.nD Cert.GmfKernelIdeal.τ).loc Cert.GmfKernelIdeal.main_arg2) = m ((c.tc : Thread Cert.GmfKernelIdeal.nD Cert.GmfKernelIdeal.τ).loc Cert.GmfKernelIdeal.main_arg2)
          ∧ r.2.mem ((c.tc : Thread Cert.GmfKernelIdeal.nD Cert.GmfKernelIdeal.τ).loc Cert.GmfKernelIdeal.main_arg3) = m ((c.tc : Thread Cert.GmfKernelIdeal.nD Cert.GmfKernelIdeal.τ).loc Cert.GmfKernelIdeal.main_arg3)
          ∧ r.2.mem ((c.tc : Thread Cert.GmfKernelIdeal.nD Cert.GmfKernelIdeal.τ).loc Cert.GmfKernelIdeal.main_arg4) = m ((c.tc : Thread Cert.GmfKernelIdeal.nD Cert.GmfKernelIdeal.τ).loc Cert.GmfKernelIdeal.main_arg4))
      ∧ θ_run (Cert.GmfReferenceIdeal.defs (F := Ideal)) (onTc (τ := Cert.GmfReferenceIdeal.τ) (Cert.GmfReferenceIdeal.main (F := Ideal))) ⟨m', fun _ => 0, g'⟩ (fun r => ∀ c : Dev Cert.GmfReferenceIdeal.nD,
          r.2.mem ((c.tc : Thread Cert.GmfReferenceIdeal.nD Cert.GmfReferenceIdeal.τ).loc Cert.GmfReferenceIdeal.main_v49) = v0 c
          ∧ r.2.mem ((c.tc : Thread Cert.GmfReferenceIdeal.nD Cert.GmfReferenceIdeal.τ).loc Cert.GmfReferenceIdeal.main_arg0) = m' ((c.tc : Thread Cert.GmfReferenceIdeal.nD Cert.GmfReferenceIdeal.τ).loc Cert.GmfReferenceIdeal.main_arg0)
          ∧ r.2.mem ((c.tc : Thread Cert.GmfReferenceIdeal.nD Cert.GmfReferenceIdeal.τ).loc Cert.GmfReferenceIdeal.main_arg1) = m' ((c.tc : Thread Cert.GmfReferenceIdeal.nD Cert.GmfReferenceIdeal.τ).loc Cert.GmfReferenceIdeal.main_arg1)
          ∧ r.2.mem ((c.tc : Thread Cert.GmfReferenceIdeal.nD Cert.GmfReferenceIdeal.τ).loc Cert.GmfReferenceIdeal.main_arg2) = m' ((c.tc : Thread Cert.GmfReferenceIdeal.nD Cert.GmfReferenceIdeal.τ).loc Cert.GmfReferenceIdeal.main_arg2)
          ∧ r.2.mem ((c.tc : Thread Cert.GmfReferenceIdeal.nD Cert.GmfReferenceIdeal.τ).loc Cert.GmfReferenceIdeal.main_arg3) = m' ((c.tc : Thread Cert.GmfReferenceIdeal.nD Cert.GmfReferenceIdeal.τ).loc Cert.GmfReferenceIdeal.main_arg3)
          ∧ r.2.mem ((c.tc : Thread Cert.GmfReferenceIdeal.nD Cert.GmfReferenceIdeal.τ).loc Cert.GmfReferenceIdeal.main_arg4) = m' ((c.tc : Thread Cert.GmfReferenceIdeal.nD Cert.GmfReferenceIdeal.τ).loc Cert.GmfReferenceIdeal.main_arg4))

def preserves_AtfKernel_AtfKernelIdeal : Prop :=
  True

def algebraic_AtfKernelIdeal_AtfReferenceIdeal [hAtfKernelIdeal : Cert.AtfKernelIdeal.Facts] [hAtfReferenceIdeal : Cert.AtfReferenceIdeal.Facts] : Prop :=
  ∀ (m : (ℓ : Loc Cert.AtfKernelIdeal.nD Cert.AtfKernelIdeal.τ Cert.AtfKernelIdeal.sig) → Buf (Elt Ideal) ℓ) (g : Dev Cert.AtfKernelIdeal.nD → PrngReg)
    (m' : (ℓ : Loc Cert.AtfReferenceIdeal.nD Cert.AtfReferenceIdeal.τ Cert.AtfReferenceIdeal.sig) → Buf (Elt Ideal) ℓ) (g' : Dev Cert.AtfReferenceIdeal.nD → PrngReg), Pre_AtfKernelIdeal m →
    (∀ c : Dev Cert.AtfKernelIdeal.nD,
      m' ((c.tc : Thread Cert.AtfReferenceIdeal.nD Cert.AtfReferenceIdeal.τ).loc Cert.AtfReferenceIdeal.main_arg0) = m ((c.tc : Thread Cert.AtfKernelIdeal.nD Cert.AtfKernelIdeal.τ).loc Cert.AtfKernelIdeal.main_arg0)
      ∧ m' ((c.tc : Thread Cert.AtfReferenceIdeal.nD Cert.AtfReferenceIdeal.τ).loc Cert.AtfReferenceIdeal.main_arg1) = m ((c.tc : Thread Cert.AtfKernelIdeal.nD Cert.AtfKernelIdeal.τ).loc Cert.AtfKernelIdeal.main_arg1)) →
    ∃ (v0 : (c : Dev Cert.AtfKernelIdeal.nD) → Buf (Elt Ideal) ((c.tc : Thread Cert.AtfKernelIdeal.nD Cert.AtfKernelIdeal.τ).loc Cert.AtfKernelIdeal.main_v0)),
      θ_run (Cert.AtfKernelIdeal.defs (F := Ideal)) (onTc (τ := Cert.AtfKernelIdeal.τ) (Cert.AtfKernelIdeal.main (F := Ideal))) ⟨m, fun _ => 0, g⟩ (fun r => ∀ c : Dev Cert.AtfKernelIdeal.nD,
          r.2.mem ((c.tc : Thread Cert.AtfKernelIdeal.nD Cert.AtfKernelIdeal.τ).loc Cert.AtfKernelIdeal.main_v0) = v0 c
          ∧ r.2.mem ((c.tc : Thread Cert.AtfKernelIdeal.nD Cert.AtfKernelIdeal.τ).loc Cert.AtfKernelIdeal.main_arg0) = m ((c.tc : Thread Cert.AtfKernelIdeal.nD Cert.AtfKernelIdeal.τ).loc Cert.AtfKernelIdeal.main_arg0)
          ∧ r.2.mem ((c.tc : Thread Cert.AtfKernelIdeal.nD Cert.AtfKernelIdeal.τ).loc Cert.AtfKernelIdeal.main_arg1) = m ((c.tc : Thread Cert.AtfKernelIdeal.nD Cert.AtfKernelIdeal.τ).loc Cert.AtfKernelIdeal.main_arg1))
      ∧ θ_run (Cert.AtfReferenceIdeal.defs (F := Ideal)) (onTc (τ := Cert.AtfReferenceIdeal.τ) (Cert.AtfReferenceIdeal.main (F := Ideal))) ⟨m', fun _ => 0, g'⟩ (fun r => ∀ c : Dev Cert.AtfReferenceIdeal.nD,
          r.2.mem ((c.tc : Thread Cert.AtfReferenceIdeal.nD Cert.AtfReferenceIdeal.τ).loc Cert.AtfReferenceIdeal.main_v24) = v0 c
          ∧ r.2.mem ((c.tc : Thread Cert.AtfReferenceIdeal.nD Cert.AtfReferenceIdeal.τ).loc Cert.AtfReferenceIdeal.main_arg0) = m' ((c.tc : Thread Cert.AtfReferenceIdeal.nD Cert.AtfReferenceIdeal.τ).loc Cert.AtfReferenceIdeal.main_arg0)
          ∧ r.2.mem ((c.tc : Thread Cert.AtfReferenceIdeal.nD Cert.AtfReferenceIdeal.τ).loc Cert.AtfReferenceIdeal.main_arg1) = m' ((c.tc : Thread Cert.AtfReferenceIdeal.nD Cert.AtfReferenceIdeal.τ).loc Cert.AtfReferenceIdeal.main_arg1))

def preserves_SwgKernel_SwgKernelIdeal : Prop :=
  True

def algebraic_SwgKernelIdeal_SwgReferenceIdeal_pre_finite_swg [hSwgKernelIdeal : Cert.SwgKernelIdeal.Facts] [hSwgReferenceIdeal : Cert.SwgReferenceIdeal.Facts] [hPre_finite_swg : Cert.Pre_finite_swg.Facts] : Prop :=
  ∀ (m : (ℓ : Loc Cert.SwgKernelIdeal.nD Cert.SwgKernelIdeal.τ Cert.SwgKernelIdeal.sig) → Buf (Elt Ideal) ℓ) (g : Dev Cert.SwgKernelIdeal.nD → PrngReg)
    (m' : (ℓ : Loc Cert.SwgReferenceIdeal.nD Cert.SwgReferenceIdeal.τ Cert.SwgReferenceIdeal.sig) → Buf (Elt Ideal) ℓ) (g' : Dev Cert.SwgReferenceIdeal.nD → PrngReg), Pre_SwgKernelIdeal_finite_swg m →
    (∀ c : Dev Cert.SwgKernelIdeal.nD,
      m' ((c.tc : Thread Cert.SwgReferenceIdeal.nD Cert.SwgReferenceIdeal.τ).loc Cert.SwgReferenceIdeal.main_arg0) = m ((c.tc : Thread Cert.SwgKernelIdeal.nD Cert.SwgKernelIdeal.τ).loc Cert.SwgKernelIdeal.main_arg0)
      ∧ m' ((c.tc : Thread Cert.SwgReferenceIdeal.nD Cert.SwgReferenceIdeal.τ).loc Cert.SwgReferenceIdeal.main_arg1) = m ((c.tc : Thread Cert.SwgKernelIdeal.nD Cert.SwgKernelIdeal.τ).loc Cert.SwgKernelIdeal.main_arg1)) →
    ∃ (v0 : (c : Dev Cert.SwgKernelIdeal.nD) → Buf (Elt Ideal) ((c.tc : Thread Cert.SwgKernelIdeal.nD Cert.SwgKernelIdeal.τ).loc Cert.SwgKernelIdeal.main_v3_0)) (v1 : (c : Dev Cert.SwgKernelIdeal.nD) → Buf (Elt Ideal) ((c.tc : Thread Cert.SwgKernelIdeal.nD Cert.SwgKernelIdeal.τ).loc Cert.SwgKernelIdeal.main_v3_1)) (v2 : (c : Dev Cert.SwgKernelIdeal.nD) → Buf (Elt Ideal) ((c.tc : Thread Cert.SwgKernelIdeal.nD Cert.SwgKernelIdeal.τ).loc Cert.SwgKernelIdeal.main_v3_2)),
      θ_run (Cert.SwgKernelIdeal.defs (F := Ideal)) (onTc (τ := Cert.SwgKernelIdeal.τ) (Cert.SwgKernelIdeal.main (F := Ideal))) ⟨m, fun _ => 0, g⟩ (fun r => ∀ c : Dev Cert.SwgKernelIdeal.nD,
          r.2.mem ((c.tc : Thread Cert.SwgKernelIdeal.nD Cert.SwgKernelIdeal.τ).loc Cert.SwgKernelIdeal.main_v3_0) = v0 c
          ∧ r.2.mem ((c.tc : Thread Cert.SwgKernelIdeal.nD Cert.SwgKernelIdeal.τ).loc Cert.SwgKernelIdeal.main_v3_1) = v1 c
          ∧ r.2.mem ((c.tc : Thread Cert.SwgKernelIdeal.nD Cert.SwgKernelIdeal.τ).loc Cert.SwgKernelIdeal.main_v3_2) = v2 c
          ∧ r.2.mem ((c.tc : Thread Cert.SwgKernelIdeal.nD Cert.SwgKernelIdeal.τ).loc Cert.SwgKernelIdeal.main_arg0) = m ((c.tc : Thread Cert.SwgKernelIdeal.nD Cert.SwgKernelIdeal.τ).loc Cert.SwgKernelIdeal.main_arg0)
          ∧ r.2.mem ((c.tc : Thread Cert.SwgKernelIdeal.nD Cert.SwgKernelIdeal.τ).loc Cert.SwgKernelIdeal.main_arg1) = m ((c.tc : Thread Cert.SwgKernelIdeal.nD Cert.SwgKernelIdeal.τ).loc Cert.SwgKernelIdeal.main_arg1))
      ∧ θ_run (Cert.SwgReferenceIdeal.defs (F := Ideal)) (onTc (τ := Cert.SwgReferenceIdeal.τ) (Cert.SwgReferenceIdeal.main (F := Ideal))) ⟨m', fun _ => 0, g'⟩ (fun r => ∀ c : Dev Cert.SwgReferenceIdeal.nD,
          r.2.mem ((c.tc : Thread Cert.SwgReferenceIdeal.nD Cert.SwgReferenceIdeal.τ).loc Cert.SwgReferenceIdeal.main_v10) = v0 c
          ∧ r.2.mem ((c.tc : Thread Cert.SwgReferenceIdeal.nD Cert.SwgReferenceIdeal.τ).loc Cert.SwgReferenceIdeal.main_v11) = v1 c
          ∧ r.2.mem ((c.tc : Thread Cert.SwgReferenceIdeal.nD Cert.SwgReferenceIdeal.τ).loc Cert.SwgReferenceIdeal.main_v12) = v2 c
          ∧ r.2.mem ((c.tc : Thread Cert.SwgReferenceIdeal.nD Cert.SwgReferenceIdeal.τ).loc Cert.SwgReferenceIdeal.main_arg0) = m' ((c.tc : Thread Cert.SwgReferenceIdeal.nD Cert.SwgReferenceIdeal.τ).loc Cert.SwgReferenceIdeal.main_arg0)
          ∧ r.2.mem ((c.tc : Thread Cert.SwgReferenceIdeal.nD Cert.SwgReferenceIdeal.τ).loc Cert.SwgReferenceIdeal.main_arg1) = m' ((c.tc : Thread Cert.SwgReferenceIdeal.nD Cert.SwgReferenceIdeal.τ).loc Cert.SwgReferenceIdeal.main_arg1))

def preserves_WnnKernel_WnnKernelIdeal : Prop :=
  True

def algebraic_WnnKernelIdeal_WnnReferenceIdeal [hWnnKernelIdeal : Cert.WnnKernelIdeal.Facts] [hWnnReferenceIdeal : Cert.WnnReferenceIdeal.Facts] : Prop :=
  ∀ (m : (ℓ : Loc Cert.WnnKernelIdeal.nD Cert.WnnKernelIdeal.τ Cert.WnnKernelIdeal.sig) → Buf (Elt Ideal) ℓ) (g : Dev Cert.WnnKernelIdeal.nD → PrngReg)
    (m' : (ℓ : Loc Cert.WnnReferenceIdeal.nD Cert.WnnReferenceIdeal.τ Cert.WnnReferenceIdeal.sig) → Buf (Elt Ideal) ℓ) (g' : Dev Cert.WnnReferenceIdeal.nD → PrngReg), Pre_WnnKernelIdeal m →
    (∀ c : Dev Cert.WnnKernelIdeal.nD,
      m' ((c.tc : Thread Cert.WnnReferenceIdeal.nD Cert.WnnReferenceIdeal.τ).loc Cert.WnnReferenceIdeal.main_arg0) = m ((c.tc : Thread Cert.WnnKernelIdeal.nD Cert.WnnKernelIdeal.τ).loc Cert.WnnKernelIdeal.main_arg0)
      ∧ m' ((c.tc : Thread Cert.WnnReferenceIdeal.nD Cert.WnnReferenceIdeal.τ).loc Cert.WnnReferenceIdeal.main_arg1) = m ((c.tc : Thread Cert.WnnKernelIdeal.nD Cert.WnnKernelIdeal.τ).loc Cert.WnnKernelIdeal.main_arg1)
      ∧ m' ((c.tc : Thread Cert.WnnReferenceIdeal.nD Cert.WnnReferenceIdeal.τ).loc Cert.WnnReferenceIdeal.main_arg2) = m ((c.tc : Thread Cert.WnnKernelIdeal.nD Cert.WnnKernelIdeal.τ).loc Cert.WnnKernelIdeal.main_arg2)
      ∧ m' ((c.tc : Thread Cert.WnnReferenceIdeal.nD Cert.WnnReferenceIdeal.τ).loc Cert.WnnReferenceIdeal.main_arg3) = m ((c.tc : Thread Cert.WnnKernelIdeal.nD Cert.WnnKernelIdeal.τ).loc Cert.WnnKernelIdeal.main_arg3)) →
    ∃ (v0 : (c : Dev Cert.WnnKernelIdeal.nD) → Buf (Elt Ideal) ((c.tc : Thread Cert.WnnKernelIdeal.nD Cert.WnnKernelIdeal.τ).loc Cert.WnnKernelIdeal.main_v3_0)) (v1 : (c : Dev Cert.WnnKernelIdeal.nD) → Buf (Elt Ideal) ((c.tc : Thread Cert.WnnKernelIdeal.nD Cert.WnnKernelIdeal.τ).loc Cert.WnnKernelIdeal.main_v3_1)),
      θ_run (Cert.WnnKernelIdeal.defs (F := Ideal)) (onTc (τ := Cert.WnnKernelIdeal.τ) (Cert.WnnKernelIdeal.main (F := Ideal))) ⟨m, fun _ => 0, g⟩ (fun r => ∀ c : Dev Cert.WnnKernelIdeal.nD,
          r.2.mem ((c.tc : Thread Cert.WnnKernelIdeal.nD Cert.WnnKernelIdeal.τ).loc Cert.WnnKernelIdeal.main_v3_0) = v0 c
          ∧ r.2.mem ((c.tc : Thread Cert.WnnKernelIdeal.nD Cert.WnnKernelIdeal.τ).loc Cert.WnnKernelIdeal.main_v3_1) = v1 c
          ∧ r.2.mem ((c.tc : Thread Cert.WnnKernelIdeal.nD Cert.WnnKernelIdeal.τ).loc Cert.WnnKernelIdeal.main_arg0) = m ((c.tc : Thread Cert.WnnKernelIdeal.nD Cert.WnnKernelIdeal.τ).loc Cert.WnnKernelIdeal.main_arg0)
          ∧ r.2.mem ((c.tc : Thread Cert.WnnKernelIdeal.nD Cert.WnnKernelIdeal.τ).loc Cert.WnnKernelIdeal.main_arg1) = m ((c.tc : Thread Cert.WnnKernelIdeal.nD Cert.WnnKernelIdeal.τ).loc Cert.WnnKernelIdeal.main_arg1)
          ∧ r.2.mem ((c.tc : Thread Cert.WnnKernelIdeal.nD Cert.WnnKernelIdeal.τ).loc Cert.WnnKernelIdeal.main_arg2) = m ((c.tc : Thread Cert.WnnKernelIdeal.nD Cert.WnnKernelIdeal.τ).loc Cert.WnnKernelIdeal.main_arg2)
          ∧ r.2.mem ((c.tc : Thread Cert.WnnKernelIdeal.nD Cert.WnnKernelIdeal.τ).loc Cert.WnnKernelIdeal.main_arg3) = m ((c.tc : Thread Cert.WnnKernelIdeal.nD Cert.WnnKernelIdeal.τ).loc Cert.WnnKernelIdeal.main_arg3))
      ∧ θ_run (Cert.WnnReferenceIdeal.defs (F := Ideal)) (onTc (τ := Cert.WnnReferenceIdeal.τ) (Cert.WnnReferenceIdeal.main (F := Ideal))) ⟨m', fun _ => 0, g'⟩ (fun r => ∀ c : Dev Cert.WnnReferenceIdeal.nD,
          r.2.mem ((c.tc : Thread Cert.WnnReferenceIdeal.nD Cert.WnnReferenceIdeal.τ).loc Cert.WnnReferenceIdeal.main_v4) = v0 c
          ∧ r.2.mem ((c.tc : Thread Cert.WnnReferenceIdeal.nD Cert.WnnReferenceIdeal.τ).loc Cert.WnnReferenceIdeal.main_v18) = v1 c
          ∧ r.2.mem ((c.tc : Thread Cert.WnnReferenceIdeal.nD Cert.WnnReferenceIdeal.τ).loc Cert.WnnReferenceIdeal.main_arg0) = m' ((c.tc : Thread Cert.WnnReferenceIdeal.nD Cert.WnnReferenceIdeal.τ).loc Cert.WnnReferenceIdeal.main_arg0)
          ∧ r.2.mem ((c.tc : Thread Cert.WnnReferenceIdeal.nD Cert.WnnReferenceIdeal.τ).loc Cert.WnnReferenceIdeal.main_arg1) = m' ((c.tc : Thread Cert.WnnReferenceIdeal.nD Cert.WnnReferenceIdeal.τ).loc Cert.WnnReferenceIdeal.main_arg1)
          ∧ r.2.mem ((c.tc : Thread Cert.WnnReferenceIdeal.nD Cert.WnnReferenceIdeal.τ).loc Cert.WnnReferenceIdeal.main_arg2) = m' ((c.tc : Thread Cert.WnnReferenceIdeal.nD Cert.WnnReferenceIdeal.τ).loc Cert.WnnReferenceIdeal.main_arg2)
          ∧ r.2.mem ((c.tc : Thread Cert.WnnReferenceIdeal.nD Cert.WnnReferenceIdeal.τ).loc Cert.WnnReferenceIdeal.main_arg3) = m' ((c.tc : Thread Cert.WnnReferenceIdeal.nD Cert.WnnReferenceIdeal.τ).loc Cert.WnnReferenceIdeal.main_arg3))

def preserves_PnnKernel_PnnKernelIdeal : Prop :=
  True

def algebraic_PnnKernelIdeal_PnnReferenceIdeal [hPnnKernelIdeal : Cert.PnnKernelIdeal.Facts] [hPnnReferenceIdeal : Cert.PnnReferenceIdeal.Facts] : Prop :=
  ∀ (m : (ℓ : Loc Cert.PnnKernelIdeal.nD Cert.PnnKernelIdeal.τ Cert.PnnKernelIdeal.sig) → Buf (Elt Ideal) ℓ) (g : Dev Cert.PnnKernelIdeal.nD → PrngReg)
    (m' : (ℓ : Loc Cert.PnnReferenceIdeal.nD Cert.PnnReferenceIdeal.τ Cert.PnnReferenceIdeal.sig) → Buf (Elt Ideal) ℓ) (g' : Dev Cert.PnnReferenceIdeal.nD → PrngReg), Pre_PnnKernelIdeal m →
    (∀ c : Dev Cert.PnnKernelIdeal.nD,
      m' ((c.tc : Thread Cert.PnnReferenceIdeal.nD Cert.PnnReferenceIdeal.τ).loc Cert.PnnReferenceIdeal.main_arg0) = m ((c.tc : Thread Cert.PnnKernelIdeal.nD Cert.PnnKernelIdeal.τ).loc Cert.PnnKernelIdeal.main_arg0)
      ∧ m' ((c.tc : Thread Cert.PnnReferenceIdeal.nD Cert.PnnReferenceIdeal.τ).loc Cert.PnnReferenceIdeal.main_arg1) = m ((c.tc : Thread Cert.PnnKernelIdeal.nD Cert.PnnKernelIdeal.τ).loc Cert.PnnKernelIdeal.main_arg1)
      ∧ m' ((c.tc : Thread Cert.PnnReferenceIdeal.nD Cert.PnnReferenceIdeal.τ).loc Cert.PnnReferenceIdeal.main_arg2) = m ((c.tc : Thread Cert.PnnKernelIdeal.nD Cert.PnnKernelIdeal.τ).loc Cert.PnnKernelIdeal.main_arg2)) →
    ∃ (v0 : (c : Dev Cert.PnnKernelIdeal.nD) → Buf (Elt Ideal) ((c.tc : Thread Cert.PnnKernelIdeal.nD Cert.PnnKernelIdeal.τ).loc Cert.PnnKernelIdeal.main_v2)),
      θ_run (Cert.PnnKernelIdeal.defs (F := Ideal)) (onTc (τ := Cert.PnnKernelIdeal.τ) (Cert.PnnKernelIdeal.main (F := Ideal))) ⟨m, fun _ => 0, g⟩ (fun r => ∀ c : Dev Cert.PnnKernelIdeal.nD,
          r.2.mem ((c.tc : Thread Cert.PnnKernelIdeal.nD Cert.PnnKernelIdeal.τ).loc Cert.PnnKernelIdeal.main_v2) = v0 c
          ∧ r.2.mem ((c.tc : Thread Cert.PnnKernelIdeal.nD Cert.PnnKernelIdeal.τ).loc Cert.PnnKernelIdeal.main_arg0) = m ((c.tc : Thread Cert.PnnKernelIdeal.nD Cert.PnnKernelIdeal.τ).loc Cert.PnnKernelIdeal.main_arg0)
          ∧ r.2.mem ((c.tc : Thread Cert.PnnKernelIdeal.nD Cert.PnnKernelIdeal.τ).loc Cert.PnnKernelIdeal.main_arg1) = m ((c.tc : Thread Cert.PnnKernelIdeal.nD Cert.PnnKernelIdeal.τ).loc Cert.PnnKernelIdeal.main_arg1)
          ∧ r.2.mem ((c.tc : Thread Cert.PnnKernelIdeal.nD Cert.PnnKernelIdeal.τ).loc Cert.PnnKernelIdeal.main_arg2) = m ((c.tc : Thread Cert.PnnKernelIdeal.nD Cert.PnnKernelIdeal.τ).loc Cert.PnnKernelIdeal.main_arg2))
      ∧ θ_run (Cert.PnnReferenceIdeal.defs (F := Ideal)) (onTc (τ := Cert.PnnReferenceIdeal.τ) (Cert.PnnReferenceIdeal.main (F := Ideal))) ⟨m', fun _ => 0, g'⟩ (fun r => ∀ c : Dev Cert.PnnReferenceIdeal.nD,
          r.2.mem ((c.tc : Thread Cert.PnnReferenceIdeal.nD Cert.PnnReferenceIdeal.τ).loc Cert.PnnReferenceIdeal.main_v4) = v0 c
          ∧ r.2.mem ((c.tc : Thread Cert.PnnReferenceIdeal.nD Cert.PnnReferenceIdeal.τ).loc Cert.PnnReferenceIdeal.main_arg0) = m' ((c.tc : Thread Cert.PnnReferenceIdeal.nD Cert.PnnReferenceIdeal.τ).loc Cert.PnnReferenceIdeal.main_arg0)
          ∧ r.2.mem ((c.tc : Thread Cert.PnnReferenceIdeal.nD Cert.PnnReferenceIdeal.τ).loc Cert.PnnReferenceIdeal.main_arg1) = m' ((c.tc : Thread Cert.PnnReferenceIdeal.nD Cert.PnnReferenceIdeal.τ).loc Cert.PnnReferenceIdeal.main_arg1)
          ∧ r.2.mem ((c.tc : Thread Cert.PnnReferenceIdeal.nD Cert.PnnReferenceIdeal.τ).loc Cert.PnnReferenceIdeal.main_arg2) = m' ((c.tc : Thread Cert.PnnReferenceIdeal.nD Cert.PnnReferenceIdeal.τ).loc Cert.PnnReferenceIdeal.main_arg2))

def preserves_PntKernel_PntKernelIdeal : Prop :=
  True

def algebraic_PntKernelIdeal_PntReferenceIdeal [hPntKernelIdeal : Cert.PntKernelIdeal.Facts] [hPntReferenceIdeal : Cert.PntReferenceIdeal.Facts] : Prop :=
  ∀ (m : (ℓ : Loc Cert.PntKernelIdeal.nD Cert.PntKernelIdeal.τ Cert.PntKernelIdeal.sig) → Buf (Elt Ideal) ℓ) (g : Dev Cert.PntKernelIdeal.nD → PrngReg)
    (m' : (ℓ : Loc Cert.PntReferenceIdeal.nD Cert.PntReferenceIdeal.τ Cert.PntReferenceIdeal.sig) → Buf (Elt Ideal) ℓ) (g' : Dev Cert.PntReferenceIdeal.nD → PrngReg), Pre_PntKernelIdeal m →
    (∀ c : Dev Cert.PntKernelIdeal.nD,
      m' ((c.tc : Thread Cert.PntReferenceIdeal.nD Cert.PntReferenceIdeal.τ).loc Cert.PntReferenceIdeal.main_arg0) = m ((c.tc : Thread Cert.PntKernelIdeal.nD Cert.PntKernelIdeal.τ).loc Cert.PntKernelIdeal.main_arg0)
      ∧ m' ((c.tc : Thread Cert.PntReferenceIdeal.nD Cert.PntReferenceIdeal.τ).loc Cert.PntReferenceIdeal.main_arg1) = m ((c.tc : Thread Cert.PntKernelIdeal.nD Cert.PntKernelIdeal.τ).loc Cert.PntKernelIdeal.main_arg1)
      ∧ m' ((c.tc : Thread Cert.PntReferenceIdeal.nD Cert.PntReferenceIdeal.τ).loc Cert.PntReferenceIdeal.main_arg2) = m ((c.tc : Thread Cert.PntKernelIdeal.nD Cert.PntKernelIdeal.τ).loc Cert.PntKernelIdeal.main_arg2)) →
    ∃ (v0 : (c : Dev Cert.PntKernelIdeal.nD) → Buf (Elt Ideal) ((c.tc : Thread Cert.PntKernelIdeal.nD Cert.PntKernelIdeal.τ).loc Cert.PntKernelIdeal.main_v3)),
      θ_run (Cert.PntKernelIdeal.defs (F := Ideal)) (onTc (τ := Cert.PntKernelIdeal.τ) (Cert.PntKernelIdeal.main (F := Ideal))) ⟨m, fun _ => 0, g⟩ (fun r => ∀ c : Dev Cert.PntKernelIdeal.nD,
          r.2.mem ((c.tc : Thread Cert.PntKernelIdeal.nD Cert.PntKernelIdeal.τ).loc Cert.PntKernelIdeal.main_v3) = v0 c
          ∧ r.2.mem ((c.tc : Thread Cert.PntKernelIdeal.nD Cert.PntKernelIdeal.τ).loc Cert.PntKernelIdeal.main_arg0) = m ((c.tc : Thread Cert.PntKernelIdeal.nD Cert.PntKernelIdeal.τ).loc Cert.PntKernelIdeal.main_arg0)
          ∧ r.2.mem ((c.tc : Thread Cert.PntKernelIdeal.nD Cert.PntKernelIdeal.τ).loc Cert.PntKernelIdeal.main_arg1) = m ((c.tc : Thread Cert.PntKernelIdeal.nD Cert.PntKernelIdeal.τ).loc Cert.PntKernelIdeal.main_arg1)
          ∧ r.2.mem ((c.tc : Thread Cert.PntKernelIdeal.nD Cert.PntKernelIdeal.τ).loc Cert.PntKernelIdeal.main_arg2) = m ((c.tc : Thread Cert.PntKernelIdeal.nD Cert.PntKernelIdeal.τ).loc Cert.PntKernelIdeal.main_arg2))
      ∧ θ_run (Cert.PntReferenceIdeal.defs (F := Ideal)) (onTc (τ := Cert.PntReferenceIdeal.τ) (Cert.PntReferenceIdeal.main (F := Ideal))) ⟨m', fun _ => 0, g'⟩ (fun r => ∀ c : Dev Cert.PntReferenceIdeal.nD,
          r.2.mem ((c.tc : Thread Cert.PntReferenceIdeal.nD Cert.PntReferenceIdeal.τ).loc Cert.PntReferenceIdeal.main_v10) = v0 c
          ∧ r.2.mem ((c.tc : Thread Cert.PntReferenceIdeal.nD Cert.PntReferenceIdeal.τ).loc Cert.PntReferenceIdeal.main_arg0) = m' ((c.tc : Thread Cert.PntReferenceIdeal.nD Cert.PntReferenceIdeal.τ).loc Cert.PntReferenceIdeal.main_arg0)
          ∧ r.2.mem ((c.tc : Thread Cert.PntReferenceIdeal.nD Cert.PntReferenceIdeal.τ).loc Cert.PntReferenceIdeal.main_arg1) = m' ((c.tc : Thread Cert.PntReferenceIdeal.nD Cert.PntReferenceIdeal.τ).loc Cert.PntReferenceIdeal.main_arg1)
          ∧ r.2.mem ((c.tc : Thread Cert.PntReferenceIdeal.nD Cert.PntReferenceIdeal.τ).loc Cert.PntReferenceIdeal.main_arg2) = m' ((c.tc : Thread Cert.PntReferenceIdeal.nD Cert.PntReferenceIdeal.τ).loc Cert.PntReferenceIdeal.main_arg2))

def preserves_PtnKernel_PtnKernelIdeal : Prop :=
  True

def algebraic_PtnKernelIdeal_PtnReferenceIdeal [hPtnKernelIdeal : Cert.PtnKernelIdeal.Facts] [hPtnReferenceIdeal : Cert.PtnReferenceIdeal.Facts] : Prop :=
  ∀ (m : (ℓ : Loc Cert.PtnKernelIdeal.nD Cert.PtnKernelIdeal.τ Cert.PtnKernelIdeal.sig) → Buf (Elt Ideal) ℓ) (g : Dev Cert.PtnKernelIdeal.nD → PrngReg)
    (m' : (ℓ : Loc Cert.PtnReferenceIdeal.nD Cert.PtnReferenceIdeal.τ Cert.PtnReferenceIdeal.sig) → Buf (Elt Ideal) ℓ) (g' : Dev Cert.PtnReferenceIdeal.nD → PrngReg), Pre_PtnKernelIdeal m →
    (∀ c : Dev Cert.PtnKernelIdeal.nD,
      m' ((c.tc : Thread Cert.PtnReferenceIdeal.nD Cert.PtnReferenceIdeal.τ).loc Cert.PtnReferenceIdeal.main_arg0) = m ((c.tc : Thread Cert.PtnKernelIdeal.nD Cert.PtnKernelIdeal.τ).loc Cert.PtnKernelIdeal.main_arg0)
      ∧ m' ((c.tc : Thread Cert.PtnReferenceIdeal.nD Cert.PtnReferenceIdeal.τ).loc Cert.PtnReferenceIdeal.main_arg1) = m ((c.tc : Thread Cert.PtnKernelIdeal.nD Cert.PtnKernelIdeal.τ).loc Cert.PtnKernelIdeal.main_arg1)) →
    ∃ (v0 : (c : Dev Cert.PtnKernelIdeal.nD) → Buf (Elt Ideal) ((c.tc : Thread Cert.PtnKernelIdeal.nD Cert.PtnKernelIdeal.τ).loc Cert.PtnKernelIdeal.main_v0)),
      θ_run (Cert.PtnKernelIdeal.defs (F := Ideal)) (onTc (τ := Cert.PtnKernelIdeal.τ) (Cert.PtnKernelIdeal.main (F := Ideal))) ⟨m, fun _ => 0, g⟩ (fun r => ∀ c : Dev Cert.PtnKernelIdeal.nD,
          r.2.mem ((c.tc : Thread Cert.PtnKernelIdeal.nD Cert.PtnKernelIdeal.τ).loc Cert.PtnKernelIdeal.main_v0) = v0 c
          ∧ r.2.mem ((c.tc : Thread Cert.PtnKernelIdeal.nD Cert.PtnKernelIdeal.τ).loc Cert.PtnKernelIdeal.main_arg0) = m ((c.tc : Thread Cert.PtnKernelIdeal.nD Cert.PtnKernelIdeal.τ).loc Cert.PtnKernelIdeal.main_arg0)
          ∧ r.2.mem ((c.tc : Thread Cert.PtnKernelIdeal.nD Cert.PtnKernelIdeal.τ).loc Cert.PtnKernelIdeal.main_arg1) = m ((c.tc : Thread Cert.PtnKernelIdeal.nD Cert.PtnKernelIdeal.τ).loc Cert.PtnKernelIdeal.main_arg1))
      ∧ θ_run (Cert.PtnReferenceIdeal.defs (F := Ideal)) (onTc (τ := Cert.PtnReferenceIdeal.τ) (Cert.PtnReferenceIdeal.main (F := Ideal))) ⟨m', fun _ => 0, g'⟩ (fun r => ∀ c : Dev Cert.PtnReferenceIdeal.nD,
          r.2.mem ((c.tc : Thread Cert.PtnReferenceIdeal.nD Cert.PtnReferenceIdeal.τ).loc Cert.PtnReferenceIdeal.main_v12) = v0 c
          ∧ r.2.mem ((c.tc : Thread Cert.PtnReferenceIdeal.nD Cert.PtnReferenceIdeal.τ).loc Cert.PtnReferenceIdeal.main_arg0) = m' ((c.tc : Thread Cert.PtnReferenceIdeal.nD Cert.PtnReferenceIdeal.τ).loc Cert.PtnReferenceIdeal.main_arg0)
          ∧ r.2.mem ((c.tc : Thread Cert.PtnReferenceIdeal.nD Cert.PtnReferenceIdeal.τ).loc Cert.PtnReferenceIdeal.main_arg1) = m' ((c.tc : Thread Cert.PtnReferenceIdeal.nD Cert.PtnReferenceIdeal.τ).loc Cert.PtnReferenceIdeal.main_arg1))

def preserves_AdfKernel_AdfKernelIdeal : Prop :=
  True

def algebraic_AdfKernelIdeal_AdfReferenceIdeal [hAdfKernelIdeal : Cert.AdfKernelIdeal.Facts] [hAdfReferenceIdeal : Cert.AdfReferenceIdeal.Facts] : Prop :=
  ∀ (m : (ℓ : Loc Cert.AdfKernelIdeal.nD Cert.AdfKernelIdeal.τ Cert.AdfKernelIdeal.sig) → Buf (Elt Ideal) ℓ) (g : Dev Cert.AdfKernelIdeal.nD → PrngReg)
    (m' : (ℓ : Loc Cert.AdfReferenceIdeal.nD Cert.AdfReferenceIdeal.τ Cert.AdfReferenceIdeal.sig) → Buf (Elt Ideal) ℓ) (g' : Dev Cert.AdfReferenceIdeal.nD → PrngReg), Pre_AdfKernelIdeal m →
    (∀ c : Dev Cert.AdfKernelIdeal.nD,
      m' ((c.tc : Thread Cert.AdfReferenceIdeal.nD Cert.AdfReferenceIdeal.τ).loc Cert.AdfReferenceIdeal.main_arg0) = m ((c.tc : Thread Cert.AdfKernelIdeal.nD Cert.AdfKernelIdeal.τ).loc Cert.AdfKernelIdeal.main_arg0)
      ∧ m' ((c.tc : Thread Cert.AdfReferenceIdeal.nD Cert.AdfReferenceIdeal.τ).loc Cert.AdfReferenceIdeal.main_arg1) = m ((c.tc : Thread Cert.AdfKernelIdeal.nD Cert.AdfKernelIdeal.τ).loc Cert.AdfKernelIdeal.main_arg1)
      ∧ m' ((c.tc : Thread Cert.AdfReferenceIdeal.nD Cert.AdfReferenceIdeal.τ).loc Cert.AdfReferenceIdeal.main_arg2) = m ((c.tc : Thread Cert.AdfKernelIdeal.nD Cert.AdfKernelIdeal.τ).loc Cert.AdfKernelIdeal.main_arg2)
      ∧ m' ((c.tc : Thread Cert.AdfReferenceIdeal.nD Cert.AdfReferenceIdeal.τ).loc Cert.AdfReferenceIdeal.main_arg3) = m ((c.tc : Thread Cert.AdfKernelIdeal.nD Cert.AdfKernelIdeal.τ).loc Cert.AdfKernelIdeal.main_arg3)) →
    ∃ (v0 : (c : Dev Cert.AdfKernelIdeal.nD) → Buf (Elt Ideal) ((c.tc : Thread Cert.AdfKernelIdeal.nD Cert.AdfKernelIdeal.τ).loc Cert.AdfKernelIdeal.main_v0_0)) (v1 : (c : Dev Cert.AdfKernelIdeal.nD) → Buf (Elt Ideal) ((c.tc : Thread Cert.AdfKernelIdeal.nD Cert.AdfKernelIdeal.τ).loc Cert.AdfKernelIdeal.main_v0_1)) (v2 : (c : Dev Cert.AdfKernelIdeal.nD) → Buf (Elt Ideal) ((c.tc : Thread Cert.AdfKernelIdeal.nD Cert.AdfKernelIdeal.τ).loc Cert.AdfKernelIdeal.main_v0_2)),
      θ_run (Cert.AdfKernelIdeal.defs (F := Ideal)) (onTc (τ := Cert.AdfKernelIdeal.τ) (Cert.AdfKernelIdeal.main (F := Ideal))) ⟨m, fun _ => 0, g⟩ (fun r => ∀ c : Dev Cert.AdfKernelIdeal.nD,
          r.2.mem ((c.tc : Thread Cert.AdfKernelIdeal.nD Cert.AdfKernelIdeal.τ).loc Cert.AdfKernelIdeal.main_v0_0) = v0 c
          ∧ r.2.mem ((c.tc : Thread Cert.AdfKernelIdeal.nD Cert.AdfKernelIdeal.τ).loc Cert.AdfKernelIdeal.main_v0_1) = v1 c
          ∧ r.2.mem ((c.tc : Thread Cert.AdfKernelIdeal.nD Cert.AdfKernelIdeal.τ).loc Cert.AdfKernelIdeal.main_v0_2) = v2 c
          ∧ r.2.mem ((c.tc : Thread Cert.AdfKernelIdeal.nD Cert.AdfKernelIdeal.τ).loc Cert.AdfKernelIdeal.main_arg0) = m ((c.tc : Thread Cert.AdfKernelIdeal.nD Cert.AdfKernelIdeal.τ).loc Cert.AdfKernelIdeal.main_arg0)
          ∧ r.2.mem ((c.tc : Thread Cert.AdfKernelIdeal.nD Cert.AdfKernelIdeal.τ).loc Cert.AdfKernelIdeal.main_arg1) = m ((c.tc : Thread Cert.AdfKernelIdeal.nD Cert.AdfKernelIdeal.τ).loc Cert.AdfKernelIdeal.main_arg1)
          ∧ r.2.mem ((c.tc : Thread Cert.AdfKernelIdeal.nD Cert.AdfKernelIdeal.τ).loc Cert.AdfKernelIdeal.main_arg2) = m ((c.tc : Thread Cert.AdfKernelIdeal.nD Cert.AdfKernelIdeal.τ).loc Cert.AdfKernelIdeal.main_arg2)
          ∧ r.2.mem ((c.tc : Thread Cert.AdfKernelIdeal.nD Cert.AdfKernelIdeal.τ).loc Cert.AdfKernelIdeal.main_arg3) = m ((c.tc : Thread Cert.AdfKernelIdeal.nD Cert.AdfKernelIdeal.τ).loc Cert.AdfKernelIdeal.main_arg3))
      ∧ θ_run (Cert.AdfReferenceIdeal.defs (F := Ideal)) (onTc (τ := Cert.AdfReferenceIdeal.τ) (Cert.AdfReferenceIdeal.main (F := Ideal))) ⟨m', fun _ => 0, g'⟩ (fun r => ∀ c : Dev Cert.AdfReferenceIdeal.nD,
          r.2.mem ((c.tc : Thread Cert.AdfReferenceIdeal.nD Cert.AdfReferenceIdeal.τ).loc Cert.AdfReferenceIdeal.main_v23) = v0 c
          ∧ r.2.mem ((c.tc : Thread Cert.AdfReferenceIdeal.nD Cert.AdfReferenceIdeal.τ).loc Cert.AdfReferenceIdeal.main_v4) = v1 c
          ∧ r.2.mem ((c.tc : Thread Cert.AdfReferenceIdeal.nD Cert.AdfReferenceIdeal.τ).loc Cert.AdfReferenceIdeal.main_v10) = v2 c
          ∧ r.2.mem ((c.tc : Thread Cert.AdfReferenceIdeal.nD Cert.AdfReferenceIdeal.τ).loc Cert.AdfReferenceIdeal.main_arg0) = m' ((c.tc : Thread Cert.AdfReferenceIdeal.nD Cert.AdfReferenceIdeal.τ).loc Cert.AdfReferenceIdeal.main_arg0)
          ∧ r.2.mem ((c.tc : Thread Cert.AdfReferenceIdeal.nD Cert.AdfReferenceIdeal.τ).loc Cert.AdfReferenceIdeal.main_arg1) = m' ((c.tc : Thread Cert.AdfReferenceIdeal.nD Cert.AdfReferenceIdeal.τ).loc Cert.AdfReferenceIdeal.main_arg1)
          ∧ r.2.mem ((c.tc : Thread Cert.AdfReferenceIdeal.nD Cert.AdfReferenceIdeal.τ).loc Cert.AdfReferenceIdeal.main_arg2) = m' ((c.tc : Thread Cert.AdfReferenceIdeal.nD Cert.AdfReferenceIdeal.τ).loc Cert.AdfReferenceIdeal.main_arg2)
          ∧ r.2.mem ((c.tc : Thread Cert.AdfReferenceIdeal.nD Cert.AdfReferenceIdeal.τ).loc Cert.AdfReferenceIdeal.main_arg3) = m' ((c.tc : Thread Cert.AdfReferenceIdeal.nD Cert.AdfReferenceIdeal.τ).loc Cert.AdfReferenceIdeal.main_arg3))

def preserves_AdlKernel_AdlKernelIdeal : Prop :=
  True

def algebraic_AdlKernelIdeal_AdlReferenceIdeal [hAdlKernelIdeal : Cert.AdlKernelIdeal.Facts] [hAdlReferenceIdeal : Cert.AdlReferenceIdeal.Facts] : Prop :=
  ∀ (m : (ℓ : Loc Cert.AdlKernelIdeal.nD Cert.AdlKernelIdeal.τ Cert.AdlKernelIdeal.sig) → Buf (Elt Ideal) ℓ) (g : Dev Cert.AdlKernelIdeal.nD → PrngReg)
    (m' : (ℓ : Loc Cert.AdlReferenceIdeal.nD Cert.AdlReferenceIdeal.τ Cert.AdlReferenceIdeal.sig) → Buf (Elt Ideal) ℓ) (g' : Dev Cert.AdlReferenceIdeal.nD → PrngReg), Pre_AdlKernelIdeal m →
    (∀ c : Dev Cert.AdlKernelIdeal.nD,
      m' ((c.tc : Thread Cert.AdlReferenceIdeal.nD Cert.AdlReferenceIdeal.τ).loc Cert.AdlReferenceIdeal.main_arg0) = m ((c.tc : Thread Cert.AdlKernelIdeal.nD Cert.AdlKernelIdeal.τ).loc Cert.AdlKernelIdeal.main_arg0)
      ∧ m' ((c.tc : Thread Cert.AdlReferenceIdeal.nD Cert.AdlReferenceIdeal.τ).loc Cert.AdlReferenceIdeal.main_arg1) = m ((c.tc : Thread Cert.AdlKernelIdeal.nD Cert.AdlKernelIdeal.τ).loc Cert.AdlKernelIdeal.main_arg1)
      ∧ m' ((c.tc : Thread Cert.AdlReferenceIdeal.nD Cert.AdlReferenceIdeal.τ).loc Cert.AdlReferenceIdeal.main_arg2) = m ((c.tc : Thread Cert.AdlKernelIdeal.nD Cert.AdlKernelIdeal.τ).loc Cert.AdlKernelIdeal.main_arg2)
      ∧ m' ((c.tc : Thread Cert.AdlReferenceIdeal.nD Cert.AdlReferenceIdeal.τ).loc Cert.AdlReferenceIdeal.main_arg3) = m ((c.tc : Thread Cert.AdlKernelIdeal.nD Cert.AdlKernelIdeal.τ).loc Cert.AdlKernelIdeal.main_arg3)
      ∧ m' ((c.tc : Thread Cert.AdlReferenceIdeal.nD Cert.AdlReferenceIdeal.τ).loc Cert.AdlReferenceIdeal.main_arg4) = m ((c.tc : Thread Cert.AdlKernelIdeal.nD Cert.AdlKernelIdeal.τ).loc Cert.AdlKernelIdeal.main_arg4)
      ∧ m' ((c.tc : Thread Cert.AdlReferenceIdeal.nD Cert.AdlReferenceIdeal.τ).loc Cert.AdlReferenceIdeal.main_arg5) = m ((c.tc : Thread Cert.AdlKernelIdeal.nD Cert.AdlKernelIdeal.τ).loc Cert.AdlKernelIdeal.main_arg5)
      ∧ m' ((c.tc : Thread Cert.AdlReferenceIdeal.nD Cert.AdlReferenceIdeal.τ).loc Cert.AdlReferenceIdeal.main_arg6) = m ((c.tc : Thread Cert.AdlKernelIdeal.nD Cert.AdlKernelIdeal.τ).loc Cert.AdlKernelIdeal.main_arg6)
      ∧ m' ((c.tc : Thread Cert.AdlReferenceIdeal.nD Cert.AdlReferenceIdeal.τ).loc Cert.AdlReferenceIdeal.main_arg7) = m ((c.tc : Thread Cert.AdlKernelIdeal.nD Cert.AdlKernelIdeal.τ).loc Cert.AdlKernelIdeal.main_arg7)) →
    ∃ (v0 : (c : Dev Cert.AdlKernelIdeal.nD) → Buf (Elt Ideal) ((c.tc : Thread Cert.AdlKernelIdeal.nD Cert.AdlKernelIdeal.τ).loc Cert.AdlKernelIdeal.main_v0_0)) (v1 : (c : Dev Cert.AdlKernelIdeal.nD) → Buf (Elt Ideal) ((c.tc : Thread Cert.AdlKernelIdeal.nD Cert.AdlKernelIdeal.τ).loc Cert.AdlKernelIdeal.main_v0_1)) (v2 : (c : Dev Cert.AdlKernelIdeal.nD) → Buf (Elt Ideal) ((c.tc : Thread Cert.AdlKernelIdeal.nD Cert.AdlKernelIdeal.τ).loc Cert.AdlKernelIdeal.main_v0_2)) (v3 : (c : Dev Cert.AdlKernelIdeal.nD) → Buf (Elt Ideal) ((c.tc : Thread Cert.AdlKernelIdeal.nD Cert.AdlKernelIdeal.τ).loc Cert.AdlKernelIdeal.main_v0_3)),
      θ_run (Cert.AdlKernelIdeal.defs (F := Ideal)) (onTc (τ := Cert.AdlKernelIdeal.τ) (Cert.AdlKernelIdeal.main (F := Ideal))) ⟨m, fun _ => 0, g⟩ (fun r => ∀ c : Dev Cert.AdlKernelIdeal.nD,
          r.2.mem ((c.tc : Thread Cert.AdlKernelIdeal.nD Cert.AdlKernelIdeal.τ).loc Cert.AdlKernelIdeal.main_v0_0) = v0 c
          ∧ r.2.mem ((c.tc : Thread Cert.AdlKernelIdeal.nD Cert.AdlKernelIdeal.τ).loc Cert.AdlKernelIdeal.main_v0_1) = v1 c
          ∧ r.2.mem ((c.tc : Thread Cert.AdlKernelIdeal.nD Cert.AdlKernelIdeal.τ).loc Cert.AdlKernelIdeal.main_v0_2) = v2 c
          ∧ r.2.mem ((c.tc : Thread Cert.AdlKernelIdeal.nD Cert.AdlKernelIdeal.τ).loc Cert.AdlKernelIdeal.main_v0_3) = v3 c
          ∧ r.2.mem ((c.tc : Thread Cert.AdlKernelIdeal.nD Cert.AdlKernelIdeal.τ).loc Cert.AdlKernelIdeal.main_arg0) = m ((c.tc : Thread Cert.AdlKernelIdeal.nD Cert.AdlKernelIdeal.τ).loc Cert.AdlKernelIdeal.main_arg0)
          ∧ r.2.mem ((c.tc : Thread Cert.AdlKernelIdeal.nD Cert.AdlKernelIdeal.τ).loc Cert.AdlKernelIdeal.main_arg1) = m ((c.tc : Thread Cert.AdlKernelIdeal.nD Cert.AdlKernelIdeal.τ).loc Cert.AdlKernelIdeal.main_arg1)
          ∧ r.2.mem ((c.tc : Thread Cert.AdlKernelIdeal.nD Cert.AdlKernelIdeal.τ).loc Cert.AdlKernelIdeal.main_arg2) = m ((c.tc : Thread Cert.AdlKernelIdeal.nD Cert.AdlKernelIdeal.τ).loc Cert.AdlKernelIdeal.main_arg2)
          ∧ r.2.mem ((c.tc : Thread Cert.AdlKernelIdeal.nD Cert.AdlKernelIdeal.τ).loc Cert.AdlKernelIdeal.main_arg3) = m ((c.tc : Thread Cert.AdlKernelIdeal.nD Cert.AdlKernelIdeal.τ).loc Cert.AdlKernelIdeal.main_arg3)
          ∧ r.2.mem ((c.tc : Thread Cert.AdlKernelIdeal.nD Cert.AdlKernelIdeal.τ).loc Cert.AdlKernelIdeal.main_arg4) = m ((c.tc : Thread Cert.AdlKernelIdeal.nD Cert.AdlKernelIdeal.τ).loc Cert.AdlKernelIdeal.main_arg4)
          ∧ r.2.mem ((c.tc : Thread Cert.AdlKernelIdeal.nD Cert.AdlKernelIdeal.τ).loc Cert.AdlKernelIdeal.main_arg5) = m ((c.tc : Thread Cert.AdlKernelIdeal.nD Cert.AdlKernelIdeal.τ).loc Cert.AdlKernelIdeal.main_arg5)
          ∧ r.2.mem ((c.tc : Thread Cert.AdlKernelIdeal.nD Cert.AdlKernelIdeal.τ).loc Cert.AdlKernelIdeal.main_arg6) = m ((c.tc : Thread Cert.AdlKernelIdeal.nD Cert.AdlKernelIdeal.τ).loc Cert.AdlKernelIdeal.main_arg6)
          ∧ r.2.mem ((c.tc : Thread Cert.AdlKernelIdeal.nD Cert.AdlKernelIdeal.τ).loc Cert.AdlKernelIdeal.main_arg7) = m ((c.tc : Thread Cert.AdlKernelIdeal.nD Cert.AdlKernelIdeal.τ).loc Cert.AdlKernelIdeal.main_arg7))
      ∧ θ_run (Cert.AdlReferenceIdeal.defs (F := Ideal)) (onTc (τ := Cert.AdlReferenceIdeal.τ) (Cert.AdlReferenceIdeal.main (F := Ideal))) ⟨m', fun _ => 0, g'⟩ (fun r => ∀ c : Dev Cert.AdlReferenceIdeal.nD,
          r.2.mem ((c.tc : Thread Cert.AdlReferenceIdeal.nD Cert.AdlReferenceIdeal.τ).loc Cert.AdlReferenceIdeal.main_v34) = v0 c
          ∧ r.2.mem ((c.tc : Thread Cert.AdlReferenceIdeal.nD Cert.AdlReferenceIdeal.τ).loc Cert.AdlReferenceIdeal.main_v39) = v1 c
          ∧ r.2.mem ((c.tc : Thread Cert.AdlReferenceIdeal.nD Cert.AdlReferenceIdeal.τ).loc Cert.AdlReferenceIdeal.main_v44) = v2 c
          ∧ r.2.mem ((c.tc : Thread Cert.AdlReferenceIdeal.nD Cert.AdlReferenceIdeal.τ).loc Cert.AdlReferenceIdeal.main_v49) = v3 c
          ∧ r.2.mem ((c.tc : Thread Cert.AdlReferenceIdeal.nD Cert.AdlReferenceIdeal.τ).loc Cert.AdlReferenceIdeal.main_arg0) = m' ((c.tc : Thread Cert.AdlReferenceIdeal.nD Cert.AdlReferenceIdeal.τ).loc Cert.AdlReferenceIdeal.main_arg0)
          ∧ r.2.mem ((c.tc : Thread Cert.AdlReferenceIdeal.nD Cert.AdlReferenceIdeal.τ).loc Cert.AdlReferenceIdeal.main_arg1) = m' ((c.tc : Thread Cert.AdlReferenceIdeal.nD Cert.AdlReferenceIdeal.τ).loc Cert.AdlReferenceIdeal.main_arg1)
          ∧ r.2.mem ((c.tc : Thread Cert.AdlReferenceIdeal.nD Cert.AdlReferenceIdeal.τ).loc Cert.AdlReferenceIdeal.main_arg2) = m' ((c.tc : Thread Cert.AdlReferenceIdeal.nD Cert.AdlReferenceIdeal.τ).loc Cert.AdlReferenceIdeal.main_arg2)
          ∧ r.2.mem ((c.tc : Thread Cert.AdlReferenceIdeal.nD Cert.AdlReferenceIdeal.τ).loc Cert.AdlReferenceIdeal.main_arg3) = m' ((c.tc : Thread Cert.AdlReferenceIdeal.nD Cert.AdlReferenceIdeal.τ).loc Cert.AdlReferenceIdeal.main_arg3)
          ∧ r.2.mem ((c.tc : Thread Cert.AdlReferenceIdeal.nD Cert.AdlReferenceIdeal.τ).loc Cert.AdlReferenceIdeal.main_arg4) = m' ((c.tc : Thread Cert.AdlReferenceIdeal.nD Cert.AdlReferenceIdeal.τ).loc Cert.AdlReferenceIdeal.main_arg4)
          ∧ r.2.mem ((c.tc : Thread Cert.AdlReferenceIdeal.nD Cert.AdlReferenceIdeal.τ).loc Cert.AdlReferenceIdeal.main_arg5) = m' ((c.tc : Thread Cert.AdlReferenceIdeal.nD Cert.AdlReferenceIdeal.τ).loc Cert.AdlReferenceIdeal.main_arg5)
          ∧ r.2.mem ((c.tc : Thread Cert.AdlReferenceIdeal.nD Cert.AdlReferenceIdeal.τ).loc Cert.AdlReferenceIdeal.main_arg6) = m' ((c.tc : Thread Cert.AdlReferenceIdeal.nD Cert.AdlReferenceIdeal.τ).loc Cert.AdlReferenceIdeal.main_arg6)
          ∧ r.2.mem ((c.tc : Thread Cert.AdlReferenceIdeal.nD Cert.AdlReferenceIdeal.τ).loc Cert.AdlReferenceIdeal.main_arg7) = m' ((c.tc : Thread Cert.AdlReferenceIdeal.nD Cert.AdlReferenceIdeal.τ).loc Cert.AdlReferenceIdeal.main_arg7))

def preserves_SmlKernel_SmlKernelIdeal : Prop :=
  True

def algebraic_SmlKernelIdeal_SmlReferenceIdeal [hSmlKernelIdeal : Cert.SmlKernelIdeal.Facts] [hSmlReferenceIdeal : Cert.SmlReferenceIdeal.Facts] : Prop :=
  ∀ (m : (ℓ : Loc Cert.SmlKernelIdeal.nD Cert.SmlKernelIdeal.τ Cert.SmlKernelIdeal.sig) → Buf (Elt Ideal) ℓ) (g : Dev Cert.SmlKernelIdeal.nD → PrngReg)
    (m' : (ℓ : Loc Cert.SmlReferenceIdeal.nD Cert.SmlReferenceIdeal.τ Cert.SmlReferenceIdeal.sig) → Buf (Elt Ideal) ℓ) (g' : Dev Cert.SmlReferenceIdeal.nD → PrngReg), Pre_SmlKernelIdeal m →
    (∀ c : Dev Cert.SmlKernelIdeal.nD,
      m' ((c.tc : Thread Cert.SmlReferenceIdeal.nD Cert.SmlReferenceIdeal.τ).loc Cert.SmlReferenceIdeal.main_arg0) = m ((c.tc : Thread Cert.SmlKernelIdeal.nD Cert.SmlKernelIdeal.τ).loc Cert.SmlKernelIdeal.main_arg0)) →
    ∃ (v0 : (c : Dev Cert.SmlKernelIdeal.nD) → Buf (Elt Ideal) ((c.tc : Thread Cert.SmlKernelIdeal.nD Cert.SmlKernelIdeal.τ).loc Cert.SmlKernelIdeal.main_v0)),
      θ_run (Cert.SmlKernelIdeal.defs (F := Ideal)) (onTc (τ := Cert.SmlKernelIdeal.τ) (Cert.SmlKernelIdeal.main (F := Ideal))) ⟨m, fun _ => 0, g⟩ (fun r => ∀ c : Dev Cert.SmlKernelIdeal.nD,
          r.2.mem ((c.tc : Thread Cert.SmlKernelIdeal.nD Cert.SmlKernelIdeal.τ).loc Cert.SmlKernelIdeal.main_v0) = v0 c
          ∧ r.2.mem ((c.tc : Thread Cert.SmlKernelIdeal.nD Cert.SmlKernelIdeal.τ).loc Cert.SmlKernelIdeal.main_arg0) = m ((c.tc : Thread Cert.SmlKernelIdeal.nD Cert.SmlKernelIdeal.τ).loc Cert.SmlKernelIdeal.main_arg0))
      ∧ θ_run (Cert.SmlReferenceIdeal.defs (F := Ideal)) (onTc (τ := Cert.SmlReferenceIdeal.τ) (Cert.SmlReferenceIdeal.main (F := Ideal))) ⟨m', fun _ => 0, g'⟩ (fun r => ∀ c : Dev Cert.SmlReferenceIdeal.nD,
          r.2.mem ((c.tc : Thread Cert.SmlReferenceIdeal.nD Cert.SmlReferenceIdeal.τ).loc Cert.SmlReferenceIdeal.main_v0) = v0 c
          ∧ r.2.mem ((c.tc : Thread Cert.SmlReferenceIdeal.nD Cert.SmlReferenceIdeal.τ).loc Cert.SmlReferenceIdeal.main_arg0) = m' ((c.tc : Thread Cert.SmlReferenceIdeal.nD Cert.SmlReferenceIdeal.τ).loc Cert.SmlReferenceIdeal.main_arg0))

def preserves_AdhKernel_AdhKernelIdeal : Prop :=
  True

def algebraic_AdhKernelIdeal_AdhReferenceIdeal [hAdhKernelIdeal : Cert.AdhKernelIdeal.Facts] [hAdhReferenceIdeal : Cert.AdhReferenceIdeal.Facts] : Prop :=
  ∀ (m : (ℓ : Loc Cert.AdhKernelIdeal.nD Cert.AdhKernelIdeal.τ Cert.AdhKernelIdeal.sig) → Buf (Elt Ideal) ℓ) (g : Dev Cert.AdhKernelIdeal.nD → PrngReg)
    (m' : (ℓ : Loc Cert.AdhReferenceIdeal.nD Cert.AdhReferenceIdeal.τ Cert.AdhReferenceIdeal.sig) → Buf (Elt Ideal) ℓ) (g' : Dev Cert.AdhReferenceIdeal.nD → PrngReg), Pre_AdhKernelIdeal m →
    (∀ c : Dev Cert.AdhKernelIdeal.nD,
      m' ((c.tc : Thread Cert.AdhReferenceIdeal.nD Cert.AdhReferenceIdeal.τ).loc Cert.AdhReferenceIdeal.main_arg0) = m ((c.tc : Thread Cert.AdhKernelIdeal.nD Cert.AdhKernelIdeal.τ).loc Cert.AdhKernelIdeal.main_arg0)
      ∧ m' ((c.tc : Thread Cert.AdhReferenceIdeal.nD Cert.AdhReferenceIdeal.τ).loc Cert.AdhReferenceIdeal.main_arg1) = m ((c.tc : Thread Cert.AdhKernelIdeal.nD Cert.AdhKernelIdeal.τ).loc Cert.AdhKernelIdeal.main_arg1)) →
    ∃ (v0 : (c : Dev Cert.AdhKernelIdeal.nD) → Buf (Elt Ideal) ((c.tc : Thread Cert.AdhKernelIdeal.nD Cert.AdhKernelIdeal.τ).loc Cert.AdhKernelIdeal.main_v2)),
      θ_run (Cert.AdhKernelIdeal.defs (F := Ideal)) (onTc (τ := Cert.AdhKernelIdeal.τ) (Cert.AdhKernelIdeal.main (F := Ideal))) ⟨m, fun _ => 0, g⟩ (fun r => ∀ c : Dev Cert.AdhKernelIdeal.nD,
          r.2.mem ((c.tc : Thread Cert.AdhKernelIdeal.nD Cert.AdhKernelIdeal.τ).loc Cert.AdhKernelIdeal.main_v2) = v0 c
          ∧ r.2.mem ((c.tc : Thread Cert.AdhKernelIdeal.nD Cert.AdhKernelIdeal.τ).loc Cert.AdhKernelIdeal.main_arg0) = m ((c.tc : Thread Cert.AdhKernelIdeal.nD Cert.AdhKernelIdeal.τ).loc Cert.AdhKernelIdeal.main_arg0)
          ∧ r.2.mem ((c.tc : Thread Cert.AdhKernelIdeal.nD Cert.AdhKernelIdeal.τ).loc Cert.AdhKernelIdeal.main_arg1) = m ((c.tc : Thread Cert.AdhKernelIdeal.nD Cert.AdhKernelIdeal.τ).loc Cert.AdhKernelIdeal.main_arg1))
      ∧ θ_run (Cert.AdhReferenceIdeal.defs (F := Ideal)) (onTc (τ := Cert.AdhReferenceIdeal.τ) (Cert.AdhReferenceIdeal.main (F := Ideal))) ⟨m', fun _ => 0, g'⟩ (fun r => ∀ c : Dev Cert.AdhReferenceIdeal.nD,
          r.2.mem ((c.tc : Thread Cert.AdhReferenceIdeal.nD Cert.AdhReferenceIdeal.τ).loc Cert.AdhReferenceIdeal.main_v4) = v0 c
          ∧ r.2.mem ((c.tc : Thread Cert.AdhReferenceIdeal.nD Cert.AdhReferenceIdeal.τ).loc Cert.AdhReferenceIdeal.main_arg0) = m' ((c.tc : Thread Cert.AdhReferenceIdeal.nD Cert.AdhReferenceIdeal.τ).loc Cert.AdhReferenceIdeal.main_arg0)
          ∧ r.2.mem ((c.tc : Thread Cert.AdhReferenceIdeal.nD Cert.AdhReferenceIdeal.τ).loc Cert.AdhReferenceIdeal.main_arg1) = m' ((c.tc : Thread Cert.AdhReferenceIdeal.nD Cert.AdhReferenceIdeal.τ).loc Cert.AdhReferenceIdeal.main_arg1))

def preserves_SwpKernel_SwpKernelIdeal : Prop :=
  True

def algebraic_SwpKernelIdeal_SwpReferenceIdeal [hSwpKernelIdeal : Cert.SwpKernelIdeal.Facts] [hSwpReferenceIdeal : Cert.SwpReferenceIdeal.Facts] : Prop :=
  ∀ (m : (ℓ : Loc Cert.SwpKernelIdeal.nD Cert.SwpKernelIdeal.τ Cert.SwpKernelIdeal.sig) → Buf (Elt Ideal) ℓ) (g : Dev Cert.SwpKernelIdeal.nD → PrngReg)
    (m' : (ℓ : Loc Cert.SwpReferenceIdeal.nD Cert.SwpReferenceIdeal.τ Cert.SwpReferenceIdeal.sig) → Buf (Elt Ideal) ℓ) (g' : Dev Cert.SwpReferenceIdeal.nD → PrngReg), Pre_SwpKernelIdeal m →
    (∀ c : Dev Cert.SwpKernelIdeal.nD,
      m ((c.tc : Thread Cert.SwpKernelIdeal.nD Cert.SwpKernelIdeal.τ).loc Cert.SwpKernelIdeal.main_arg0) = Layout.block ⟨3, ![4, 2048, 2816]⟩ ⟨3, ![32, 2048, 2816]⟩ 0 8 c (m' (((0 : Dev Cert.SwpReferenceIdeal.nD).tc : Thread Cert.SwpReferenceIdeal.nD Cert.SwpReferenceIdeal.τ).loc Cert.SwpReferenceIdeal.main_arg0))) →
    ∃ (v0 : Buf (Elt Ideal) (((0 : Dev Cert.SwpReferenceIdeal.nD).tc : Thread Cert.SwpReferenceIdeal.nD Cert.SwpReferenceIdeal.τ).loc Cert.SwpReferenceIdeal.main_v8)),
      θ_run (Cert.SwpKernelIdeal.defs (F := Ideal)) (onTc (τ := Cert.SwpKernelIdeal.τ) (Cert.SwpKernelIdeal.main (F := Ideal))) ⟨m, fun _ => 0, g⟩ (fun r => ∀ c : Dev Cert.SwpKernelIdeal.nD,
          r.2.mem ((c.tc : Thread Cert.SwpKernelIdeal.nD Cert.SwpKernelIdeal.τ).loc Cert.SwpKernelIdeal.main_v1) = Layout.block ⟨3, ![4, 1024, 2816]⟩ ⟨3, ![32, 1024, 2816]⟩ 0 8 c v0
          ∧ r.2.mem ((c.tc : Thread Cert.SwpKernelIdeal.nD Cert.SwpKernelIdeal.τ).loc Cert.SwpKernelIdeal.main_arg0) = m ((c.tc : Thread Cert.SwpKernelIdeal.nD Cert.SwpKernelIdeal.τ).loc Cert.SwpKernelIdeal.main_arg0))
      ∧ θ_run (Cert.SwpReferenceIdeal.defs (F := Ideal)) (onTc (τ := Cert.SwpReferenceIdeal.τ) (Cert.SwpReferenceIdeal.main (F := Ideal))) ⟨m', fun _ => 0, g'⟩ (fun r =>
          r.2.mem (((0 : Dev Cert.SwpReferenceIdeal.nD).tc : Thread Cert.SwpReferenceIdeal.nD Cert.SwpReferenceIdeal.τ).loc Cert.SwpReferenceIdeal.main_v8) = v0
          ∧ r.2.mem (((0 : Dev Cert.SwpReferenceIdeal.nD).tc : Thread Cert.SwpReferenceIdeal.nD Cert.SwpReferenceIdeal.τ).loc Cert.SwpReferenceIdeal.main_arg0) = m' (((0 : Dev Cert.SwpReferenceIdeal.nD).tc : Thread Cert.SwpReferenceIdeal.nD Cert.SwpReferenceIdeal.τ).loc Cert.SwpReferenceIdeal.main_arg0))

def preserves_GatKernel_GatKernelIdeal : Prop :=
  True

def algebraic_GatKernelIdeal_GatReferenceIdeal [hGatKernelIdeal : Cert.GatKernelIdeal.Facts] [hGatReferenceIdeal : Cert.GatReferenceIdeal.Facts] : Prop :=
  ∀ (m : (ℓ : Loc Cert.GatKernelIdeal.nD Cert.GatKernelIdeal.τ Cert.GatKernelIdeal.sig) → Buf (Elt Ideal) ℓ) (g : Dev Cert.GatKernelIdeal.nD → PrngReg)
    (m' : (ℓ : Loc Cert.GatReferenceIdeal.nD Cert.GatReferenceIdeal.τ Cert.GatReferenceIdeal.sig) → Buf (Elt Ideal) ℓ) (g' : Dev Cert.GatReferenceIdeal.nD → PrngReg), Pre_GatKernelIdeal m →
    (∀ c : Dev Cert.GatKernelIdeal.nD,
      m ((c.tc : Thread Cert.GatKernelIdeal.nD Cert.GatKernelIdeal.τ).loc Cert.GatKernelIdeal.main_arg0) = Layout.block ⟨2, ![1288, 128]⟩ ⟨2, ![10304, 128]⟩ 0 8 c (m' (((0 : Dev Cert.GatReferenceIdeal.nD).tc : Thread Cert.GatReferenceIdeal.nD Cert.GatReferenceIdeal.τ).loc Cert.GatReferenceIdeal.main_arg0))) →
    ∃ (v0 : Buf (Elt Ideal) (((0 : Dev Cert.GatReferenceIdeal.nD).tc : Thread Cert.GatReferenceIdeal.nD Cert.GatReferenceIdeal.τ).loc Cert.GatReferenceIdeal.main_v0)),
      θ_run (Cert.GatKernelIdeal.defs (F := Ideal)) (onTc (τ := Cert.GatKernelIdeal.τ) (Cert.GatKernelIdeal.main (F := Ideal))) ⟨m, fun _ => 0, g⟩ (fun r => ∀ c : Dev Cert.GatKernelIdeal.nD,
          r.2.mem ((c.tc : Thread Cert.GatKernelIdeal.nD Cert.GatKernelIdeal.τ).loc Cert.GatKernelIdeal.main_v1) = v0
          ∧ r.2.mem ((c.tc : Thread Cert.GatKernelIdeal.nD Cert.GatKernelIdeal.τ).loc Cert.GatKernelIdeal.main_arg0) = m ((c.tc : Thread Cert.GatKernelIdeal.nD Cert.GatKernelIdeal.τ).loc Cert.GatKernelIdeal.main_arg0))
      ∧ θ_run (Cert.GatReferenceIdeal.defs (F := Ideal)) (onTc (τ := Cert.GatReferenceIdeal.τ) (Cert.GatReferenceIdeal.main (F := Ideal))) ⟨m', fun _ => 0, g'⟩ (fun r =>
          r.2.mem (((0 : Dev Cert.GatReferenceIdeal.nD).tc : Thread Cert.GatReferenceIdeal.nD Cert.GatReferenceIdeal.τ).loc Cert.GatReferenceIdeal.main_v0) = v0
          ∧ r.2.mem (((0 : Dev Cert.GatReferenceIdeal.nD).tc : Thread Cert.GatReferenceIdeal.nD Cert.GatReferenceIdeal.τ).loc Cert.GatReferenceIdeal.main_arg0) = m' (((0 : Dev Cert.GatReferenceIdeal.nD).tc : Thread Cert.GatReferenceIdeal.nD Cert.GatReferenceIdeal.τ).loc Cert.GatReferenceIdeal.main_arg0))

def preserves_SctKernel_SctKernelIdeal : Prop :=
  True

def algebraic_SctKernelIdeal_SctReferenceIdeal [hSctKernelIdeal : Cert.SctKernelIdeal.Facts] [hSctReferenceIdeal : Cert.SctReferenceIdeal.Facts] : Prop :=
  ∀ (m : (ℓ : Loc Cert.SctKernelIdeal.nD Cert.SctKernelIdeal.τ Cert.SctKernelIdeal.sig) → Buf (Elt Ideal) ℓ) (g : Dev Cert.SctKernelIdeal.nD → PrngReg)
    (m' : (ℓ : Loc Cert.SctReferenceIdeal.nD Cert.SctReferenceIdeal.τ Cert.SctReferenceIdeal.sig) → Buf (Elt Ideal) ℓ) (g' : Dev Cert.SctReferenceIdeal.nD → PrngReg), Pre_SctKernelIdeal m →
    (∀ c : Dev Cert.SctKernelIdeal.nD,
      m ((c.tc : Thread Cert.SctKernelIdeal.nD Cert.SctKernelIdeal.τ).loc Cert.SctKernelIdeal.main_arg0) = Layout.block ⟨3, ![4, 1024, 2816]⟩ ⟨3, ![32, 1024, 2816]⟩ 0 8 c (m' (((0 : Dev Cert.SctReferenceIdeal.nD).tc : Thread Cert.SctReferenceIdeal.nD Cert.SctReferenceIdeal.τ).loc Cert.SctReferenceIdeal.main_arg0))) →
    ∃ (v0 : Buf (Elt Ideal) (((0 : Dev Cert.SctReferenceIdeal.nD).tc : Thread Cert.SctReferenceIdeal.nD Cert.SctReferenceIdeal.τ).loc Cert.SctReferenceIdeal.main_v2)),
      θ_run (Cert.SctKernelIdeal.defs (F := Ideal)) (onTc (τ := Cert.SctKernelIdeal.τ) (Cert.SctKernelIdeal.main (F := Ideal))) ⟨m, fun _ => 0, g⟩ (fun r => ∀ c : Dev Cert.SctKernelIdeal.nD,
          r.2.mem ((c.tc : Thread Cert.SctKernelIdeal.nD Cert.SctKernelIdeal.τ).loc Cert.SctKernelIdeal.main_v17) = Layout.block ⟨3, ![4, 1024, 2816]⟩ ⟨3, ![32, 1024, 2816]⟩ 0 8 c v0
          ∧ r.2.mem ((c.tc : Thread Cert.SctKernelIdeal.nD Cert.SctKernelIdeal.τ).loc Cert.SctKernelIdeal.main_arg0) = m ((c.tc : Thread Cert.SctKernelIdeal.nD Cert.SctKernelIdeal.τ).loc Cert.SctKernelIdeal.main_arg0))
      ∧ θ_run (Cert.SctReferenceIdeal.defs (F := Ideal)) (onTc (τ := Cert.SctReferenceIdeal.τ) (Cert.SctReferenceIdeal.main (F := Ideal))) ⟨m', fun _ => 0, g'⟩ (fun r =>
          r.2.mem (((0 : Dev Cert.SctReferenceIdeal.nD).tc : Thread Cert.SctReferenceIdeal.nD Cert.SctReferenceIdeal.τ).loc Cert.SctReferenceIdeal.main_v2) = v0
          ∧ r.2.mem (((0 : Dev Cert.SctReferenceIdeal.nD).tc : Thread Cert.SctReferenceIdeal.nD Cert.SctReferenceIdeal.τ).loc Cert.SctReferenceIdeal.main_arg0) = m' (((0 : Dev Cert.SctReferenceIdeal.nD).tc : Thread Cert.SctReferenceIdeal.nD Cert.SctReferenceIdeal.τ).loc Cert.SctReferenceIdeal.main_arg0))

def Claim : Prop :=
  ∃ (hConvKernel : Cert.ConvKernel.Facts) (hConvKernelIdeal : Cert.ConvKernelIdeal.Facts) (hConvReferenceIdeal : Cert.ConvReferenceIdeal.Facts) (hRmsKernel : Cert.RmsKernel.Facts) (hRmsKernelIdeal : Cert.RmsKernelIdeal.Facts) (hRmsReferenceIdeal : Cert.RmsReferenceIdeal.Facts) (hMemKernel : Cert.MemKernel.Facts) (hMemKernelIdeal : Cert.MemKernelIdeal.Facts) (hMemReferenceIdeal : Cert.MemReferenceIdeal.Facts) (hLossKernel : Cert.LossKernel.Facts) (hLossKernelIdeal : Cert.LossKernelIdeal.Facts) (hLossReferenceIdeal : Cert.LossReferenceIdeal.Facts) (hXdhKernel : Cert.XdhKernel.Facts) (hXdhKernelIdeal : Cert.XdhKernelIdeal.Facts) (hXdhReferenceIdeal : Cert.XdhReferenceIdeal.Facts) (hDswKernel : Cert.DswKernel.Facts) (hDswKernelIdeal : Cert.DswKernelIdeal.Facts) (hDswReferenceIdeal : Cert.DswReferenceIdeal.Facts) (hAttnKernel : Cert.AttnKernel.Facts) (hAttnKernelIdeal : Cert.AttnKernelIdeal.Facts) (hAttnReferenceIdeal : Cert.AttnReferenceIdeal.Facts) (hGmlpKernel : Cert.GmlpKernel.Facts) (hGmlpKernelIdeal : Cert.GmlpKernelIdeal.Facts) (hGmlpReferenceIdeal : Cert.GmlpReferenceIdeal.Facts) (hMixKernel : Cert.MixKernel.Facts) (hMixKernelIdeal : Cert.MixKernelIdeal.Facts) (hMixReferenceIdeal : Cert.MixReferenceIdeal.Facts) (hNrmKernel : Cert.NrmKernel.Facts) (hNrmKernelIdeal : Cert.NrmKernelIdeal.Facts) (hNrmReferenceIdeal : Cert.NrmReferenceIdeal.Facts) (hOnrKernel : Cert.OnrKernel.Facts) (hOnrKernelIdeal : Cert.OnrKernelIdeal.Facts) (hOnrReferenceIdeal : Cert.OnrReferenceIdeal.Facts) (hCvfKernel : Cert.CvfKernel.Facts) (hCvfKernelIdeal : Cert.CvfKernelIdeal.Facts) (hCvfReferenceIdeal : Cert.CvfReferenceIdeal.Facts) (hGmfKernel : Cert.GmfKernel.Facts) (hGmfKernelIdeal : Cert.GmfKernelIdeal.Facts) (hGmfReferenceIdeal : Cert.GmfReferenceIdeal.Facts) (hAtfKernel : Cert.AtfKernel.Facts) (hAtfKernelIdeal : Cert.AtfKernelIdeal.Facts) (hAtfReferenceIdeal : Cert.AtfReferenceIdeal.Facts) (hSwgKernel : Cert.SwgKernel.Facts) (hSwgKernelIdeal : Cert.SwgKernelIdeal.Facts) (hSwgReferenceIdeal : Cert.SwgReferenceIdeal.Facts) (hWnnKernel : Cert.WnnKernel.Facts) (hWnnKernelIdeal : Cert.WnnKernelIdeal.Facts) (hWnnReferenceIdeal : Cert.WnnReferenceIdeal.Facts) (hPnnKernel : Cert.PnnKernel.Facts) (hPnnKernelIdeal : Cert.PnnKernelIdeal.Facts) (hPnnReferenceIdeal : Cert.PnnReferenceIdeal.Facts) (hPntKernel : Cert.PntKernel.Facts) (hPntKernelIdeal : Cert.PntKernelIdeal.Facts) (hPntReferenceIdeal : Cert.PntReferenceIdeal.Facts) (hPtnKernel : Cert.PtnKernel.Facts) (hPtnKernelIdeal : Cert.PtnKernelIdeal.Facts) (hPtnReferenceIdeal : Cert.PtnReferenceIdeal.Facts) (hAdfKernel : Cert.AdfKernel.Facts) (hAdfKernelIdeal : Cert.AdfKernelIdeal.Facts) (hAdfReferenceIdeal : Cert.AdfReferenceIdeal.Facts) (hAdlKernel : Cert.AdlKernel.Facts) (hAdlKernelIdeal : Cert.AdlKernelIdeal.Facts) (hAdlReferenceIdeal : Cert.AdlReferenceIdeal.Facts) (hSmlKernel : Cert.SmlKernel.Facts) (hSmlKernelIdeal : Cert.SmlKernelIdeal.Facts) (hSmlReferenceIdeal : Cert.SmlReferenceIdeal.Facts) (hAdhKernel : Cert.AdhKernel.Facts) (hAdhKernelIdeal : Cert.AdhKernelIdeal.Facts) (hAdhReferenceIdeal : Cert.AdhReferenceIdeal.Facts) (hSwpKernel : Cert.SwpKernel.Facts) (hSwpKernelIdeal : Cert.SwpKernelIdeal.Facts) (hSwpReferenceIdeal : Cert.SwpReferenceIdeal.Facts) (hGatKernel : Cert.GatKernel.Facts) (hGatKernelIdeal : Cert.GatKernelIdeal.Facts) (hGatReferenceIdeal : Cert.GatReferenceIdeal.Facts) (hSctKernel : Cert.SctKernel.Facts) (hSctKernelIdeal : Cert.SctKernelIdeal.Facts) (hSctReferenceIdeal : Cert.SctReferenceIdeal.Facts) (hPre_finite_dsw : Cert.Pre_finite_dsw.Facts) (hPre_finite_attn : Cert.Pre_finite_attn.Facts) (hPre_finite_gmlp : Cert.Pre_finite_gmlp.Facts) (hPre_finite_swg : Cert.Pre_finite_swg.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_XdhKernel (hXdhKernel := hXdhKernel)
    ∧ quiescent_XdhKernelIdeal (hXdhKernelIdeal := hXdhKernelIdeal)
    ∧ quiescent_XdhReferenceIdeal (hXdhReferenceIdeal := hXdhReferenceIdeal)
    ∧ quiescent_DswKernel (hDswKernel := hDswKernel)
    ∧ quiescent_DswKernelIdeal (hDswKernelIdeal := hDswKernelIdeal)
    ∧ quiescent_DswKernelIdeal_pre_finite_dsw (hDswKernelIdeal := hDswKernelIdeal) (hPre_finite_dsw := hPre_finite_dsw)
    ∧ quiescent_DswReferenceIdeal (hDswReferenceIdeal := hDswReferenceIdeal)
    ∧ quiescent_DswReferenceIdeal_pre_finite_dsw (hDswReferenceIdeal := hDswReferenceIdeal) (hPre_finite_dsw := hPre_finite_dsw)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_GmlpKernel (hGmlpKernel := hGmlpKernel)
    ∧ quiescent_GmlpKernelIdeal (hGmlpKernelIdeal := hGmlpKernelIdeal)
    ∧ quiescent_GmlpKernelIdeal_pre_finite_gmlp (hGmlpKernelIdeal := hGmlpKernelIdeal) (hPre_finite_gmlp := hPre_finite_gmlp)
    ∧ quiescent_GmlpReferenceIdeal (hGmlpReferenceIdeal := hGmlpReferenceIdeal)
    ∧ quiescent_GmlpReferenceIdeal_pre_finite_gmlp (hGmlpReferenceIdeal := hGmlpReferenceIdeal) (hPre_finite_gmlp := hPre_finite_gmlp)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_NrmKernel (hNrmKernel := hNrmKernel)
    ∧ quiescent_NrmKernelIdeal (hNrmKernelIdeal := hNrmKernelIdeal)
    ∧ quiescent_NrmReferenceIdeal (hNrmReferenceIdeal := hNrmReferenceIdeal)
    ∧ quiescent_OnrKernel (hOnrKernel := hOnrKernel)
    ∧ quiescent_OnrKernelIdeal (hOnrKernelIdeal := hOnrKernelIdeal)
    ∧ quiescent_OnrReferenceIdeal (hOnrReferenceIdeal := hOnrReferenceIdeal)
    ∧ quiescent_CvfKernel (hCvfKernel := hCvfKernel)
    ∧ quiescent_CvfKernelIdeal (hCvfKernelIdeal := hCvfKernelIdeal)
    ∧ quiescent_CvfReferenceIdeal (hCvfReferenceIdeal := hCvfReferenceIdeal)
    ∧ quiescent_GmfKernel (hGmfKernel := hGmfKernel)
    ∧ quiescent_GmfKernelIdeal (hGmfKernelIdeal := hGmfKernelIdeal)
    ∧ quiescent_GmfReferenceIdeal (hGmfReferenceIdeal := hGmfReferenceIdeal)
    ∧ quiescent_AtfKernel (hAtfKernel := hAtfKernel)
    ∧ quiescent_AtfKernelIdeal (hAtfKernelIdeal := hAtfKernelIdeal)
    ∧ quiescent_AtfReferenceIdeal (hAtfReferenceIdeal := hAtfReferenceIdeal)
    ∧ quiescent_SwgKernel (hSwgKernel := hSwgKernel)
    ∧ quiescent_SwgKernelIdeal (hSwgKernelIdeal := hSwgKernelIdeal)
    ∧ quiescent_SwgKernelIdeal_pre_finite_swg (hSwgKernelIdeal := hSwgKernelIdeal) (hPre_finite_swg := hPre_finite_swg)
    ∧ quiescent_SwgReferenceIdeal (hSwgReferenceIdeal := hSwgReferenceIdeal)
    ∧ quiescent_SwgReferenceIdeal_pre_finite_swg (hSwgReferenceIdeal := hSwgReferenceIdeal) (hPre_finite_swg := hPre_finite_swg)
    ∧ quiescent_WnnKernel (hWnnKernel := hWnnKernel)
    ∧ quiescent_WnnKernelIdeal (hWnnKernelIdeal := hWnnKernelIdeal)
    ∧ quiescent_WnnReferenceIdeal (hWnnReferenceIdeal := hWnnReferenceIdeal)
    ∧ quiescent_PnnKernel (hPnnKernel := hPnnKernel)
    ∧ quiescent_PnnKernelIdeal (hPnnKernelIdeal := hPnnKernelIdeal)
    ∧ quiescent_PnnReferenceIdeal (hPnnReferenceIdeal := hPnnReferenceIdeal)
    ∧ quiescent_PntKernel (hPntKernel := hPntKernel)
    ∧ quiescent_PntKernelIdeal (hPntKernelIdeal := hPntKernelIdeal)
    ∧ quiescent_PntReferenceIdeal (hPntReferenceIdeal := hPntReferenceIdeal)
    ∧ quiescent_PtnKernel (hPtnKernel := hPtnKernel)
    ∧ quiescent_PtnKernelIdeal (hPtnKernelIdeal := hPtnKernelIdeal)
    ∧ quiescent_PtnReferenceIdeal (hPtnReferenceIdeal := hPtnReferenceIdeal)
    ∧ quiescent_AdfKernel (hAdfKernel := hAdfKernel)
    ∧ quiescent_AdfKernelIdeal (hAdfKernelIdeal := hAdfKernelIdeal)
    ∧ quiescent_AdfReferenceIdeal (hAdfReferenceIdeal := hAdfReferenceIdeal)
    ∧ quiescent_AdlKernel (hAdlKernel := hAdlKernel)
    ∧ quiescent_AdlKernelIdeal (hAdlKernelIdeal := hAdlKernelIdeal)
    ∧ quiescent_AdlReferenceIdeal (hAdlReferenceIdeal := hAdlReferenceIdeal)
    ∧ quiescent_SmlKernel (hSmlKernel := hSmlKernel)
    ∧ quiescent_SmlKernelIdeal (hSmlKernelIdeal := hSmlKernelIdeal)
    ∧ quiescent_SmlReferenceIdeal (hSmlReferenceIdeal := hSmlReferenceIdeal)
    ∧ quiescent_AdhKernel (hAdhKernel := hAdhKernel)
    ∧ quiescent_AdhKernelIdeal (hAdhKernelIdeal := hAdhKernelIdeal)
    ∧ quiescent_AdhReferenceIdeal (hAdhReferenceIdeal := hAdhReferenceIdeal)
    ∧ quiescent_SwpKernel (hSwpKernel := hSwpKernel)
    ∧ quiescent_SwpKernelIdeal (hSwpKernelIdeal := hSwpKernelIdeal)
    ∧ quiescent_SwpReferenceIdeal (hSwpReferenceIdeal := hSwpReferenceIdeal)
    ∧ quiescent_GatKernel (hGatKernel := hGatKernel)
    ∧ quiescent_GatKernelIdeal (hGatKernelIdeal := hGatKernelIdeal)
    ∧ quiescent_GatReferenceIdeal (hGatReferenceIdeal := hGatReferenceIdeal)
    ∧ quiescent_SctKernel (hSctKernel := hSctKernel)
    ∧ quiescent_SctKernelIdeal (hSctKernelIdeal := hSctKernelIdeal)
    ∧ quiescent_SctReferenceIdeal (hSctReferenceIdeal := hSctReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_RmsKernel_RmsKernelIdeal
    ∧ algebraic_RmsKernelIdeal_RmsReferenceIdeal (hRmsKernelIdeal := hRmsKernelIdeal) (hRmsReferenceIdeal := hRmsReferenceIdeal)
    ∧ preserves_MemKernel_MemKernelIdeal
    ∧ algebraic_MemKernelIdeal_MemReferenceIdeal (hMemKernelIdeal := hMemKernelIdeal) (hMemReferenceIdeal := hMemReferenceIdeal)
    ∧ preserves_LossKernel_LossKernelIdeal
    ∧ algebraic_LossKernelIdeal_LossReferenceIdeal (hLossKernelIdeal := hLossKernelIdeal) (hLossReferenceIdeal := hLossReferenceIdeal)
    ∧ preserves_XdhKernel_XdhKernelIdeal
    ∧ algebraic_XdhKernelIdeal_XdhReferenceIdeal (hXdhKernelIdeal := hXdhKernelIdeal) (hXdhReferenceIdeal := hXdhReferenceIdeal)
    ∧ preserves_DswKernel_DswKernelIdeal
    ∧ algebraic_DswKernelIdeal_DswReferenceIdeal_pre_finite_dsw (hDswKernelIdeal := hDswKernelIdeal) (hDswReferenceIdeal := hDswReferenceIdeal) (hPre_finite_dsw := hPre_finite_dsw)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_GmlpKernel_GmlpKernelIdeal
    ∧ algebraic_GmlpKernelIdeal_GmlpReferenceIdeal_pre_finite_gmlp (hGmlpKernelIdeal := hGmlpKernelIdeal) (hGmlpReferenceIdeal := hGmlpReferenceIdeal) (hPre_finite_gmlp := hPre_finite_gmlp)
    ∧ preserves_MixKernel_MixKernelIdeal
    ∧ algebraic_MixKernelIdeal_MixReferenceIdeal (hMixKernelIdeal := hMixKernelIdeal) (hMixReferenceIdeal := hMixReferenceIdeal)
    ∧ preserves_NrmKernel_NrmKernelIdeal
    ∧ algebraic_NrmKernelIdeal_NrmReferenceIdeal (hNrmKernelIdeal := hNrmKernelIdeal) (hNrmReferenceIdeal := hNrmReferenceIdeal)
    ∧ preserves_OnrKernel_OnrKernelIdeal
    ∧ algebraic_OnrKernelIdeal_OnrReferenceIdeal (hOnrKernelIdeal := hOnrKernelIdeal) (hOnrReferenceIdeal := hOnrReferenceIdeal)
    ∧ preserves_CvfKernel_CvfKernelIdeal
    ∧ algebraic_CvfKernelIdeal_CvfReferenceIdeal (hCvfKernelIdeal := hCvfKernelIdeal) (hCvfReferenceIdeal := hCvfReferenceIdeal)
    ∧ preserves_GmfKernel_GmfKernelIdeal
    ∧ algebraic_GmfKernelIdeal_GmfReferenceIdeal (hGmfKernelIdeal := hGmfKernelIdeal) (hGmfReferenceIdeal := hGmfReferenceIdeal)
    ∧ preserves_AtfKernel_AtfKernelIdeal
    ∧ algebraic_AtfKernelIdeal_AtfReferenceIdeal (hAtfKernelIdeal := hAtfKernelIdeal) (hAtfReferenceIdeal := hAtfReferenceIdeal)
    ∧ preserves_SwgKernel_SwgKernelIdeal
    ∧ algebraic_SwgKernelIdeal_SwgReferenceIdeal_pre_finite_swg (hSwgKernelIdeal := hSwgKernelIdeal) (hSwgReferenceIdeal := hSwgReferenceIdeal) (hPre_finite_swg := hPre_finite_swg)
    ∧ preserves_WnnKernel_WnnKernelIdeal
    ∧ algebraic_WnnKernelIdeal_WnnReferenceIdeal (hWnnKernelIdeal := hWnnKernelIdeal) (hWnnReferenceIdeal := hWnnReferenceIdeal)
    ∧ preserves_PnnKernel_PnnKernelIdeal
    ∧ algebraic_PnnKernelIdeal_PnnReferenceIdeal (hPnnKernelIdeal := hPnnKernelIdeal) (hPnnReferenceIdeal := hPnnReferenceIdeal)
    ∧ preserves_PntKernel_PntKernelIdeal
    ∧ algebraic_PntKernelIdeal_PntReferenceIdeal (hPntKernelIdeal := hPntKernelIdeal) (hPntReferenceIdeal := hPntReferenceIdeal)
    ∧ preserves_PtnKernel_PtnKernelIdeal
    ∧ algebraic_PtnKernelIdeal_PtnReferenceIdeal (hPtnKernelIdeal := hPtnKernelIdeal) (hPtnReferenceIdeal := hPtnReferenceIdeal)
    ∧ preserves_AdfKernel_AdfKernelIdeal
    ∧ algebraic_AdfKernelIdeal_AdfReferenceIdeal (hAdfKernelIdeal := hAdfKernelIdeal) (hAdfReferenceIdeal := hAdfReferenceIdeal)
    ∧ preserves_AdlKernel_AdlKernelIdeal
    ∧ algebraic_AdlKernelIdeal_AdlReferenceIdeal (hAdlKernelIdeal := hAdlKernelIdeal) (hAdlReferenceIdeal := hAdlReferenceIdeal)
    ∧ preserves_SmlKernel_SmlKernelIdeal
    ∧ algebraic_SmlKernelIdeal_SmlReferenceIdeal (hSmlKernelIdeal := hSmlKernelIdeal) (hSmlReferenceIdeal := hSmlReferenceIdeal)
    ∧ preserves_AdhKernel_AdhKernelIdeal
    ∧ algebraic_AdhKernelIdeal_AdhReferenceIdeal (hAdhKernelIdeal := hAdhKernelIdeal) (hAdhReferenceIdeal := hAdhReferenceIdeal)
    ∧ preserves_SwpKernel_SwpKernelIdeal
    ∧ algebraic_SwpKernelIdeal_SwpReferenceIdeal (hSwpKernelIdeal := hSwpKernelIdeal) (hSwpReferenceIdeal := hSwpReferenceIdeal)
    ∧ preserves_GatKernel_GatKernelIdeal
    ∧ algebraic_GatKernelIdeal_GatReferenceIdeal (hGatKernelIdeal := hGatKernelIdeal) (hGatReferenceIdeal := hGatReferenceIdeal)
    ∧ preserves_SctKernel_SctKernelIdeal
    ∧ algebraic_SctKernelIdeal_SctReferenceIdeal (hSctKernelIdeal := hSctKernelIdeal) (hSctReferenceIdeal := hSctReferenceIdeal)
-- ==== Pre_finite_attn.lean ====
abbrev S8192x2048 : Shape := ⟨2, ![8192, 2048]⟩
abbrev S256x4096 : Shape := ⟨2, ![256, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S8192x2048 .bf16) (main_arg1 : FVec F S256x4096 .bf16) (main_arg2 : FVec F S8192x2048 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S256x4096 .bf16 := Host.absf main_arg1
  let main_cst_0 : FVec F S_ .bf16 := constant S_ .bf16 0x7F80#16
  let main_v5 : FVec F S256x4096 .bf16 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S8192x2048 .bf16 := Host.absf main_arg2
  let main_cst_2 : FVec F S_ .bf16 := constant S_ .bf16 0x7F80#16
  let main_v10 : FVec F S8192x2048 .bf16 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_finite_dsw.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .bf16) (main_arg1 : FVec F S2048x11264 .f32) (main_arg2 : FVec F S5632x2048 .f32) (main_arg3 : FVec F S8192x2048 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S8192x2048 .bf16 := Host.absf main_arg3
  let main_cst_4 : FVec F S_ .bf16 := constant S_ .bf16 0x7F80#16
  let main_v15 : FVec F S8192x2048 .bf16 := broadcastInDim S8192x2048 ![] bcast_S_S8192x2048 main_cst_4
  let main_v16 : IVec S8192x2048 1 := cmpf .olt main_v14 main_v15
  fn_part1 (F := F) main_v13 main_v16
-- ==== Pre_finite_gmlp.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S8192x4096 .bf16) (main_arg1 : FVec F S8192x2048 .bf16) (main_arg2 : FVec F S2048 .f32) (main_arg3 : FVec F S2048 .f32) (main_arg4 : FVec F S8x128x128 .f32) (main_arg5 : FVec F S8x128 .f32) : IVec S_ 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x2048 .bf16 := Host.absf main_arg1
  let main_cst_0 : FVec F S_ .bf16 := constant S_ .bf16 0x7F80#16
  let main_v5 : FVec F S8192x2048 .bf16 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Pre_finite_swg.lean ====
abbrev S8192x2048 : Shape := ⟨2, ![8192, 2048]⟩
abbrev S2048x11264 : Shape := ⟨2, ![2048, 11264]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S8192x2048 .bf16) (main_arg1 : FVec F S2048x11264 .f32) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  main_v8
-- ==== ConvKernel.lean ====
abbrev S8192x6144 : Shape := ⟨2, ![8192, 6144]⟩
abbrev S8192x2048 : Shape := ⟨2, ![8192, 2048]⟩
abbrev S3x2048 : Shape := ⟨2, ![3, 2048]⟩
abbrev S8x2048 : Shape := ⟨2, ![8, 2048]⟩
abbrev S128x2048 : Shape := ⟨2, ![128, 2048]⟩
abbrev S16x2048 : Shape := ⟨2, ![16, 2048]⟩
abbrev S128x6144 : Shape := ⟨2, ![128, 6144]⟩
abbrev S128x1 : Shape := ⟨2, ![128, 1]⟩
abbrev S1x2048 : Shape := ⟨2, ![1, 2048]⟩
abbrev S2048 : Shape := ⟨1, ![2048]⟩
abbrev S5x2048 : Shape := ⟨2, ![5, 2048]⟩

abbrev nBuf : Space → Nat
  | .hbm => 5
  | .vmem => 20
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S3x2048, .f32⟩
  | .hbm, ⟨3, _⟩ => ⟨S8192x6144, .bf16⟩
  | .hbm, ⟨4, _⟩ => ⟨S8x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S128x2048, .bf16⟩
  | .local _ .vmem, ⟨13, _⟩ => ⟨S128x2048, .bf16⟩
  | .local _ .vmem, ⟨14, _⟩ => ⟨S16x2048, .bf16⟩
  | .local _ .vmem, ⟨15, _⟩ => ⟨S16x2048, .bf16⟩
  | .local _ .vmem, ⟨16, _⟩ => ⟨S3x2048, .f32⟩
  | .local _ .vmem, ⟨17, _⟩ => ⟨S128x6144, .bf16⟩
  | .local _ .vmem, ⟨18, _⟩ => ⟨S128x6144, .bf16⟩
  | .local _ .vmem, ⟨19, _⟩ => ⟨S8x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_34 : BitVec 32 := 0#32
  let v121 : BitVec 1 := Scalar.cmpi .eq arg0 c0_i32_34
  let v122 : BitVec 32 := Scalar.extui v121
  let c0_i32_35 : BitVec 32 := 0#32
  let v123 : BitVec 1 := Scalar.cmpi .ne v122 c0_i32_35
  v123

def k0_cond2 (i : grid0.Coords) : BitVec 1 :=
  let arg0 : BitVec 32 := BitVec.ofNat 32 (i 0).val
  let c0_i32_36 : BitVec 32 := 0#32
  let v124 : BitVec 1 := Scalar.cmpi .sgt arg0 c0_i32_36
  let v125 : BitVec 32 := Scalar.extui v124
  let c0_i32_37 : BitVec 32 := 0#32
  let v126 : BitVec 1 := Scalar.cmpi .ne v125 c0_i32_37
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvReferenceIdeal.lean ====
abbrev S8192x6144 : Shape := ⟨2, ![8192, 6144]⟩
abbrev S8192x2048 : Shape := ⟨2, ![8192, 2048]⟩
abbrev S3x2048 : Shape := ⟨2, ![3, 2048]⟩
abbrev S_ : Shape := ⟨0, ![]⟩
abbrev S1x2048 : Shape := ⟨2, ![1, 2048]⟩
abbrev S8191x2048 : Shape := ⟨2, ![8191, 2048]⟩
abbrev S2x2048 : Shape := ⟨2, ![2, 2048]⟩
abbrev S8190x2048 : Shape := ⟨2, ![8190, 2048]⟩
abbrev S2048 : Shape := ⟨1, ![2048]⟩
abbrev S8x2048 : Shape := ⟨2, ![8, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S3x2048, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S1x2048, .f32⟩
  | .hbm, ⟨10, _⟩ => ⟨S8191x2048, .f32⟩
  | .hbm, ⟨11, _⟩ => ⟨S8192x2048, .f32⟩
  | .hbm, ⟨12, _⟩ => ⟨S_, .f32⟩
  | .hbm, ⟨13, _⟩ => ⟨S1x2048, .f32⟩
  | .hbm, ⟨14, _⟩ => ⟨S_, .f32⟩
  | .hbm, ⟨15, _⟩ => ⟨S2x2048, .f32⟩
  | .hbm, ⟨16, _⟩ => ⟨S8190x2048, .f32⟩
  | .hbm, ⟨17, _⟩ => ⟨S8192x2048, .f32⟩
  | .hbm, ⟨18, _⟩ => ⟨S_, .f32⟩
  | .hbm, ⟨19, _⟩ => ⟨S2x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S3x2048, .f32⟩
  | .hbm, ⟨63, _⟩ => ⟨S3x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S3x2048, .f32⟩
  | .hbm, ⟨75, _⟩ => ⟨S3x2048, .f32⟩
  | .hbm, ⟨76, _⟩ => ⟨S2x2048, .f32⟩
  | .hbm, ⟨77, _⟩ => ⟨S8190x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S1x2048, .f32⟩
  | .hbm, ⟨82, _⟩ => ⟨S8191x2048, .f32⟩
  | .hbm, ⟨83, _⟩ => ⟨S_, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x6144, .f32⟩
  | .hbm, ⟨89, _⟩ => ⟨S8192x6144, .bf16⟩
  | .hbm, ⟨90, _⟩ => ⟨S_, .i32⟩
  | .hbm, ⟨91, _⟩ => ⟨S_, .f32⟩
  | .hbm, ⟨92, _⟩ => ⟨S8x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== RmsKernel.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MemKernel.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemReferenceIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .bf16⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== LossKernel.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_19 : BitVec 32 := 0#32
  let v52 : BitVec 1 := Scalar.cmpi .ne v51 c0_i32_19
  v52

def k0_cond2 (i : grid0.Coords) : BitVec 1 :=
  let arg0 : BitVec 32 := BitVec.ofNat 32 (i 0).val
  let c0_i32_20 : BitVec 32 := 0#32
  let v53 : BitVec 1 := Scalar.cmpi .sgt arg0 c0_i32_20
  let v54 : BitVec 32 := Scalar.extui v53
  let c0_i32_21 : BitVec 32 := 0#32
  let v55 : BitVec 1 := Scalar.cmpi .ne v54 c0_i32_21
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== XdhKernel.lean ====
abbrev S8192x2048 : Shape := ⟨2, ![8192, 2048]⟩
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x2048, .bf16⟩
  | .hbm, ⟨6, _⟩ => ⟨S4x512x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_20 : BitVec 32 := 0#32
  let v40 : BitVec 1 := Scalar.cmpi .ne v39 c0_i32_20
  v40

def k0_cond2 (i : grid0.Coords) : BitVec 1 :=
  let arg1 : BitVec 32 := BitVec.ofNat 32 (i 1).val
  let c0_i32 : BitVec 32 := 0#32
  let v38 : BitVec 1 := Scalar.cmpi .eq arg1 c0_i32
  let v_true : BitVec 1 := 1#1
  let v41 : BitVec 1 := Scalar.xori v38 v_true
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== XdhReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048x2048, .f32⟩
  | .hbm, ⟨28, _⟩ => ⟨S2048x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | .hbm, ⟨57, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== DswKernel.lean ====
abbrev S8192x2048 : Shape := ⟨2, ![8192, 2048]⟩
abbrev S2048x11264 : Shape := ⟨2, ![2048, 11264]⟩
abbrev S5632x2048 : Shape := ⟨2, ![5632, 2048]⟩
abbrev S2048x4x2816 : Shape := ⟨3, ![2048, 4, 2816]⟩
abbrev S4x2048x2816 : Shape := ⟨3, ![4, 2048, 2816]⟩
abbrev S4x1408x2048 : Shape := ⟨3, ![4, 1408, 2048]⟩
abbrev S8192x5632 : Shape := ⟨2, ![8192, 5632]⟩
abbrev S256x2048 : Shape := ⟨2, ![256, 2048]⟩
abbrev S1x2048x2816 : Shape := ⟨3, ![1, 2048, 2816]⟩
abbrev S256x2816 : Shape := ⟨2, ![256, 2816]⟩
abbrev S2048x2816 : Shape := ⟨2, ![2048, 2816]⟩
abbrev S2x1408x2048 : Shape := ⟨3, ![2, 1408, 2048]⟩
abbrev S2816x2048 : Shape := ⟨2, ![2816, 2048]⟩

abbrev nBuf : Space → Nat
  | .hbm => 14
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S2048x11264, .bf16⟩
  | .hbm, ⟨5, _⟩ => ⟨S2048x4x2816, .bf16⟩
  | .hbm, ⟨6, _⟩ => ⟨S4x2048x2816, .bf16⟩
  | .hbm, ⟨7, _⟩ => ⟨S5632x2048, .bf16⟩
  | .hbm, ⟨8, _⟩ => ⟨S4x1408x2048, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .hbm, ⟨12, _⟩ => ⟨S8192x5632, .bf16⟩
  | .hbm, ⟨13, _⟩ => ⟨S8192x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2048, .bf16⟩
  | .local _ .vmem, ⟨11, _⟩ => ⟨S256x2048, .bf16⟩
  | .local _ .vmem, ⟨12, _⟩ => ⟨S2x1408x2048, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi v16 c2_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2x1408x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== DswReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S2048x5632 : Shape := ⟨2, ![2048, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S2048x5632, .f32⟩
  | .hbm, ⟨31, _⟩ => ⟨S5632x2048, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .bf16⟩
  | .hbm, ⟨40, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== AttnKernel.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S256x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v33 : BitVec 32 := Scalar.extui v0
  let c0_i32_17 : BitVec 32 := 0#32
  let v34 : BitVec 1 := Scalar.cmpi .ne v33 c0_i32_17
  v34

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v35 : BitVec 1 := Scalar.xori v0 v_true
  let v36 : BitVec 32 := Scalar.extui v35
  let c0_i32_18 : BitVec 32 := 0#32
  let v37 : BitVec 1 := Scalar.cmpi .ne v36 c0_i32_18
  v37

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_37 : BitVec 32 := 0#32
  let v71 : BitVec 1 := Scalar.cmpi .ne v70 c0_i32_37
  v71

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_38 : BitVec 1 := 1#1
  let v72 : BitVec 1 := Scalar.xori v0 true_38
  let v73 : BitVec 32 := Scalar.extui v72
  let c0_i32_39 : BitVec 32 := 0#32
  let v74 : BitVec 1 := Scalar.cmpi .ne v73 c0_i32_39
  v74

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_58 : BitVec 32 := 0#32
  let v108 : BitVec 1 := Scalar.cmpi .ne v107 c0_i32_58
  v108

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_59 : BitVec 1 := 1#1
  let v109 : BitVec 1 := Scalar.xori v0 true_59
  let v110 : BitVec 32 := Scalar.extui v109
  let c0_i32_60 : BitVec 32 := 0#32
  let v111 : BitVec 1 := Scalar.cmpi .ne v110 c0_i32_60
  v111

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v144 : BitVec 32 := Scalar.extui v0
  let c0_i32_79 : BitVec 32 := 0#32
  let v145 : BitVec 1 := Scalar.cmpi .ne v144 c0_i32_79
  v145

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_80 : BitVec 1 := 1#1
  let v146 : BitVec 1 := Scalar.xori v0 true_80
  let v147 : BitVec 32 := Scalar.extui v146
  let c0_i32_81 : BitVec 32 := 0#32
  let v148 : BitVec 1 := Scalar.cmpi .ne v147 c0_i32_81
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .f32⟩
  | .hbm, ⟨4, _⟩ => ⟨S256x4096, .f32⟩
  | .hbm, ⟨5, _⟩ => ⟨S8192x4x512, .f32⟩
  | .hbm, ⟨6, _⟩ => ⟨S256x2048, .f32⟩
  | .hbm, ⟨7, _⟩ => ⟨S256x2048, .f32⟩
  | .hbm, ⟨8, _⟩ => ⟨S256x4x512, .f32⟩
  | .hbm, ⟨9, _⟩ => ⟨S256x4x512, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x512x8192, .f32⟩
  | .hbm, ⟨53, _⟩ => ⟨S8192x4x512, .f32⟩
  | .hbm, ⟨54, _⟩ => ⟨S8192x2048, .f32⟩
  | .hbm, ⟨55, _⟩ => ⟨S8192x2048, .f32⟩
  | .hbm, ⟨56, _⟩ => ⟨S8192x4x512, .f32⟩
  | .hbm, ⟨57, _⟩ => ⟨S4x512x8192, .f32⟩
  | .hbm, ⟨58, _⟩ => ⟨S4x8192x256, .f32⟩
  | .hbm, ⟨59, _⟩ => ⟨S4x512x256, .f32⟩
  | .hbm, ⟨60, _⟩ => ⟨S256x4x512, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x512, .f32⟩
  | .hbm, ⟨79, _⟩ => ⟨S256x4x512, .f32⟩
  | .hbm, ⟨80, _⟩ => ⟨S4x8192x512, .f32⟩
  | .hbm, ⟨81, _⟩ => ⟨S8192x4x512, .f32⟩
  | .hbm, ⟨82, _⟩ => ⟨S256x2048, .f32⟩
  | .hbm, ⟨83, _⟩ => ⟨S256x2048, .f32⟩
  | .hbm, ⟨84, _⟩ => ⟨S256x4096, .f32⟩
  | .hbm, ⟨85, _⟩ => ⟨S8192x2048, .f32⟩
  | .hbm, ⟨86, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== GmlpKernel.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩

abbrev nBuf : Space → Nat
  | .hbm => 16
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x256, .f32⟩
  | .hbm, ⟨8, _⟩ => ⟨S128x2048, .f32⟩
  | .hbm, ⟨9, _⟩ => ⟨S1x2048, .f32⟩
  | .hbm, ⟨10, _⟩ => ⟨S1x2048, .f32⟩
  | .hbm, ⟨11, _⟩ => ⟨S8192x4096, .bf16⟩
  | .hbm, ⟨12, _⟩ => ⟨S8x128x128, .f32⟩
  | .hbm, ⟨13, _⟩ => ⟨S128x128, .f32⟩
  | .hbm, ⟨14, _⟩ => ⟨S1x2048, .f32⟩
  | .hbm, ⟨15, _⟩ => ⟨S1x2048, .f32⟩
  | .local _ .vmem, ⟨0, _⟩ => ⟨S128x4096, .bf16⟩
  | .local _ .vmem, ⟨1, _⟩ => ⟨S128x4096, .bf16⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x2048, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x128, .f32⟩
  | .local _ .vmem, ⟨12, _⟩ => ⟨S1x2048, .f32⟩
  | .local _ .vmem, ⟨13, _⟩ => ⟨S1x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v87 : BitVec 32 := Scalar.extui v0
  let c0_i32_31 : BitVec 32 := 0#32
  let v88 : BitVec 1 := Scalar.cmpi .ne v87 c0_i32_31
  v88

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v89 : BitVec 1 := Scalar.xori v0 v_true
  let v90 : BitVec 32 := Scalar.extui v89
  let c0_i32_32 : BitVec 32 := 0#32
  let v91 : BitVec 1 := Scalar.cmpi .ne v90 c0_i32_32
  v91

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v138 : BitVec 32 := Scalar.extui v0
  let c0_i32_47 : BitVec 32 := 0#32
  let v139 : BitVec 1 := Scalar.cmpi .ne v138 c0_i32_47
  v139

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_48 : BitVec 1 := 1#1
  let v140 : BitVec 1 := Scalar.xori v0 true_48
  let v141 : BitVec 32 := Scalar.extui v140
  let c0_i32_49 : BitVec 32 := 0#32
  let v142 : BitVec 1 := Scalar.cmpi .ne v141 c0_i32_49
  v142

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v189 : BitVec 32 := Scalar.extui v0
  let c0_i32_64 : BitVec 32 := 0#32
  let v190 : BitVec 1 := Scalar.cmpi .ne v189 c0_i32_64
  v190

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_65 : BitVec 1 := 1#1
  let v191 : BitVec 1 := Scalar.xori v0 true_65
  let v192 : BitVec 32 := Scalar.extui v191
  let c0_i32_66 : BitVec 32 := 0#32
  let v193 : BitVec 1 := Scalar.cmpi .ne v192 c0_i32_66
  v193

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v240 : BitVec 32 := Scalar.extui v0
  let c0_i32_81 : BitVec 32 := 0#32
  let v241 : BitVec 1 := Scalar.cmpi .ne v240 c0_i32_81
  v241

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_82 : BitVec 1 := 1#1
  let v242 : BitVec 1 := Scalar.xori v0 true_82
  let v243 : BitVec 32 := Scalar.extui v242
  let c0_i32_83 : BitVec 32 := 0#32
  let v244 : BitVec 1 := Scalar.cmpi .ne v243 c0_i32_83
  v244

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v291 : BitVec 32 := Scalar.extui v0
  let c0_i32_98 : BitVec 32 := 0#32
  let v292 : BitVec 1 := Scalar.cmpi .ne v291 c0_i32_98
  v292

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_99 : BitVec 1 := 1#1
  let v293 : BitVec 1 := Scalar.xori v0 true_99
  let v294 : BitVec 32 := Scalar.extui v293
  let c0_i32_100 : BitVec 32 := 0#32
  let v295 : BitVec 1 := Scalar.cmpi .ne v294 c0_i32_100
  v295

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v342 : BitVec 32 := Scalar.extui v0
  let c0_i32_115 : BitVec 32 := 0#32
  let v343 : BitVec 1 := Scalar.cmpi .ne v342 c0_i32_115
  v343

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_116 : BitVec 1 := 1#1
  let v344 : BitVec 1 := Scalar.xori v0 true_116
  let v345 : BitVec 32 := Scalar.extui v344
  let c0_i32_117 : BitVec 32 := 0#32
  let v346 : BitVec 1 := Scalar.cmpi .ne v345 c0_i32_117
  v346

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v393 : BitVec 32 := Scalar.extui v0
  let c0_i32_132 : BitVec 32 := 0#32
  let v394 : BitVec 1 := Scalar.cmpi .ne v393 c0_i32_132
  v394

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_133 : BitVec 1 := 1#1
  let v395 : BitVec 1 := Scalar.xori v0 true_133
  let v396 : BitVec 32 := Scalar.extui v395
  let c0_i32_134 : BitVec 32 := 0#32
  let v397 : BitVec 1 := Scalar.cmpi .ne v396 c0_i32_134
  v397

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v444 : BitVec 32 := Scalar.extui v0
  let c0_i32_149 : BitVec 32 := 0#32
  let v445 : BitVec 1 := Scalar.cmpi .ne v444 c0_i32_149
  v445

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_150 : BitVec 1 := 1#1
  let v446 : BitVec 1 := Scalar.xori v0 true_150
  let v447 : BitVec 32 := Scalar.extui v446
  let c0_i32_151 : BitVec 32 := 0#32
  let v448 : BitVec 1 := Scalar.cmpi .ne v447 c0_i32_151
  v448

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v489 : BitVec 32 := Scalar.extui v0
  let c0_i32_164 : BitVec 32 := 0#32
  let v490 : BitVec 1 := Scalar.cmpi .ne v489 c0_i32_164
  v490

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_165 : BitVec 1 := 1#1
  let v491 : BitVec 1 := Scalar.xori v0 true_165
  let v492 : BitVec 32 := Scalar.extui v491
  let c0_i32_166 : BitVec 32 := 0#32
  let v493 : BitVec 1 := Scalar.cmpi .ne v492 c0_i32_166
  v493

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpKernelIdeal.lean ====
variable {F : FTy → Type} [FloatOps F] [Named F]
def κ : String → Option EReal := fun
  | "inv_sqrt_2" => some (((Real.sqrt 2)⁻¹ : ℝ) : EReal)
  | "inv_sqrt_2pi" => some (((Real.sqrt (2 * Real.pi))⁻¹ : ℝ) : EReal)
  | _ => none
-- ==== GmlpReferenceIdeal.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 171
  | .vmem => 0
  | .smem => 0
  | _ => 0

abbrev hbmTy0_0 (i : Nat) : BufTy := match i % 128 with
  | 0 => ⟨S8192x4096, .bf16⟩
  | 1 => ⟨S8192x2048, .bf16⟩
  | 2 => ⟨S2048, .f32⟩
  | 3 => ⟨S2048, .f32⟩
  | 4 => ⟨S8x128x128, .f32⟩
  | 5 => ⟨S8x128, .f32⟩
  | 6 => ⟨S8192x4096, .f32⟩
  | 7 => ⟨S_, .f32⟩
  | 8 => ⟨S8192x4096, .f32⟩
  | 9 => ⟨S8192x4096, .f32⟩
  | 10 => ⟨S_, .f32⟩
  | 11 => ⟨S_, .f32⟩
  | 12 => ⟨S8192x4096, .f32⟩
  | 13 => ⟨S8192x4096, .f32⟩
  | 14 => ⟨S_, .f32⟩
  | 15 => ⟨S_, .f32⟩
  | 16 => ⟨S_, .f32⟩
  | 17 => ⟨S_, .f32⟩
  | 18 => ⟨S8192x4096, .f32⟩
  | 19 => ⟨S_, .f32⟩
  | 20 => ⟨S_, .f32⟩
  | 21 => ⟨S_, .f32⟩
  | 22 => ⟨S8192x4096, .f32⟩
  | 23 => ⟨S8192x4096, .f32⟩
  | 24 => ⟨S8192x4096, .f32⟩
  | 25 => ⟨S8192x4096, .f32⟩
  | 26 => ⟨S8192x4096, .f32⟩
  | 27 => ⟨S_, .f32⟩
  | 28 => ⟨S8192x4096, .f32⟩
  | 29 => ⟨S8192x4096, .f32⟩
  | 30 => ⟨S8192x4096, .f32⟩
  | 31 => ⟨S8192x2048, .f32⟩
  | 32 => ⟨S8192x2048, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x2048, .f32⟩
  | 40 => ⟨S8192x2048, .f32⟩
  | 41 => ⟨S8192x2048, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S1x2048, .f32⟩
  | 62 => ⟨S8192x2048, .f32⟩
  | 63 => ⟨S8192x2048, .f32⟩
  | 64 => ⟨S64x128x8x256, .f32⟩
  | 65 => ⟨S_, .i1⟩
  | 66 => ⟨S128x128, .i1⟩
  | 67 => ⟨S128x128, .i32⟩
  | 68 => ⟨S_, .i32⟩
  | 69 => ⟨S128x128, .i32⟩
  | 70 => ⟨S128x128, .i32⟩
  | 71 => ⟨S128x128, .i32⟩
  | 72 => ⟨S128x128, .i1⟩
  | 73 => ⟨S_, .i1⟩
  | 74 => ⟨S128x128, .i1⟩
  | 75 => ⟨S128x128, .i1⟩
  | 76 => ⟨S1x128x128, .i1⟩
  | 77 => ⟨S_, .f32⟩
  | 78 => ⟨S8x128x128, .f32⟩
  | 79 => ⟨S8x128x128, .i1⟩
  | 80 => ⟨S8x128x128, .f32⟩
  | 81 => ⟨S_, .f32⟩
  | 82 => ⟨S8x128x128, .f32⟩
  | 83 => ⟨S8x64x256x128, .f32⟩
  | 84 => ⟨S64x128x8x256, .f32⟩
  | 85 => ⟨S128x8, .f32⟩
  | 86 => ⟨S128x8x1, .f32⟩
  | 87 => ⟨S1x128x8x1, .f32⟩
  | 88 => ⟨S64x128x8x256, .f32⟩
  | 89 => ⟨S64x128x8x256, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S64x128x8x256, .f32⟩
  | 96 => ⟨S_, .f32⟩
  | 97 => ⟨S128x8, .f32⟩
  | 98 => ⟨S1x128x8x1, .f32⟩
  | 99 => ⟨S_, .f32⟩
  | 100 => ⟨S128x8, .f32⟩
  | 101 => ⟨S128x8x1, .f32⟩
  | 102 => ⟨S_, .f32⟩
  | 103 => ⟨S128x8, .f32⟩
  | 104 => ⟨S8x128, .f32⟩
  | 105 => ⟨S8x64x256x128, .f32⟩
  | 106 => ⟨S8x128x128, .f32⟩
  | 107 => ⟨S8x64x256x128, .f32⟩
  | 108 => ⟨S64x128x8x256, .f32⟩
  | 109 => ⟨S_, .f32⟩
  | 110 => ⟨S8x128x128, .f32⟩
  | 111 => ⟨S8x128x128, .f32⟩
  | 112 => ⟨S8192x2048, .f32⟩
  | 113 => ⟨S_, .f32⟩
  | 114 => ⟨S2048, .f32⟩
  | 115 => ⟨S1x2048, .f32⟩
  | 116 => ⟨S_, .f32⟩
  | 117 => ⟨S2048, .f32⟩
  | 118 => ⟨S8192x2048, .f32⟩
  | 119 => ⟨S_, .f32⟩
  | 120 => ⟨S2048, .f32⟩
  | 121 => ⟨S1x2048, .f32⟩
  | 122 => ⟨S8192x2048, .f32⟩
  | 123 => ⟨S8192x2048, .f32⟩
  | 124 => ⟨S_, .f32⟩
  | 125 => ⟨S2048, .f32⟩
  | 126 => ⟨S8192x2048, .f32⟩
  | 127 => ⟨S_, .f32⟩
  | _ => ⟨S8192x4096, .bf16⟩

abbrev hbmTy0_1 (i : Nat) : BufTy := match i % 128 with
  | 0 => ⟨S8192, .f32⟩
  | 1 => ⟨S8192x1, .f32⟩
  | 2 => ⟨S8192x2048, .f32⟩
  | 3 => ⟨S8192x2048, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x2048, .f32⟩
  | 11 => ⟨S8192x2048, .f32⟩
  | 12 => ⟨S8192x2048, .f32⟩
  | 13 => ⟨S8192x2048, .f32⟩
  | 14 => ⟨S8192x2048, .f32⟩
  | 15 => ⟨S8192x2048, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x2048, .f32⟩
  | 25 => ⟨S8192x2048, .f32⟩
  | 26 => ⟨S8192x4096, .f32⟩
  | 27 => ⟨S8192x4096, .f32⟩
  | 28 => ⟨S8192x4096, .f32⟩
  | 29 => ⟨S8192x4096, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S8192x4096, .f32⟩
  | 36 => ⟨S8192x4096, .bf16⟩
  | 37 => ⟨S128x8, .f32⟩
  | 38 => ⟨S_, .i32⟩
  | 39 => ⟨S_, .f32⟩
  | 40 => ⟨S128x128, .f32⟩
  | 41 => ⟨S1x2048, .f32⟩
  | 42 => ⟨S1x2048, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_0 : Ref sig .tc := ⟨.hbm, 73, rfl⟩
abbrev main_call0_v5 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51_1 : Ref sig .tc := ⟨.hbm, 79, rfl⟩
abbrev main_v51_0 : Ref sig .tc := ⟨.hbm, 80, rfl⟩
abbrev main_call1_cst : Ref sig .tc := ⟨.hbm, 81, rfl⟩
abbrev main_v51_2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_18 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_cst_21 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_cst_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_25 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_26 : Ref sig .tc := ⟨.hbm, 166, rfl⟩
abbrev main_call3_v0 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]
-- ==== MixKernel.lean ====
abbrev S8192x6144 : Shape := ⟨2, ![8192, 6144]⟩
abbrev S2048x6144 : Shape := ⟨2, ![2048, 6144]⟩
abbrev S8192x2048 : Shape := ⟨2, ![8192, 2048]⟩
abbrev S2048 : Shape := ⟨1, ![2048]⟩
abbrev S2048x4x1536 : Shape := ⟨3, ![2048, 4, 1536]⟩
abbrev S4x2048x1536 : Shape := ⟨3, ![4, 2048, 1536]⟩
abbrev S1x2048 : Shape := ⟨2, ![1, 2048]⟩
abbrev S512x1536 : Shape := ⟨2, ![512, 1536]⟩
abbrev S1x2048x1536 : Shape := ⟨3, ![1, 2048, 1536]⟩
abbrev S512x2048 : Shape := ⟨2, ![512, 2048]⟩
abbrev S512x512 : Shape := ⟨2, ![512, 512]⟩
abbrev S1x512x1536 : Shape := ⟨3, ![1, 512, 1536]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x6144, .bf16⟩
  | .hbm, ⟨6, _⟩ => ⟨S2048x4x1536, .bf16⟩
  | .hbm, ⟨7, _⟩ => ⟨S4x2048x1536, .bf16⟩
  | .hbm, ⟨8, _⟩ => ⟨S1x2048, .f32⟩
  | .hbm, ⟨9, _⟩ => ⟨S8192x2048, .f32⟩
  | .hbm, ⟨10, _⟩ => ⟨S8192x2048, .bf16⟩
  | .hbm, ⟨11, _⟩ => ⟨S1x2048, .f32⟩
  | .local _ .vmem, ⟨0, _⟩ => ⟨S512x1536, .bf16⟩
  | .local _ .vmem, ⟨1, _⟩ => ⟨S512x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![1, 16, 4], ![false, false, false]⟩

def k0_cond2 (i : grid0.Coords) : BitVec 1 :=
  let arg2 : BitVec 32 := BitVec.ofNat 32 (i 2).val
  let c3_i32 : BitVec 32 := 3#32
  let v36 : BitVec 1 := Scalar.cmpi .eq arg2 c3_i32
  let v37 : BitVec 32 := Scalar.extui v36
  let c0_i32_30 : BitVec 32 := 0#32
  let v38 : BitVec 1 := Scalar.cmpi .ne v37 c0_i32_30
  v38

def k0_cond3 (i : grid0.Coords) : BitVec 1 :=
  let arg1 : BitVec 32 := BitVec.ofNat 32 (i 1).val
  let c0_i32_49 : BitVec 32 := 0#32
  let v73 : BitVec 1 := Scalar.cmpi .eq arg1 c0_i32_49
  let v74 : BitVec 32 := Scalar.extui v73
  let c0_i32_50 : BitVec 32 := 0#32
  let v75 : BitVec 1 := Scalar.cmpi .ne v74 c0_i32_50
  v75

def k0_cond4 (i : grid0.Coords) : BitVec 1 :=
  let arg1 : BitVec 32 := BitVec.ofNat 32 (i 1).val
  let c0_i32_49 : BitVec 32 := 0#32
  let v73 : BitVec 1 := Scalar.cmpi .eq arg1 c0_i32_49
  let v_true : BitVec 1 := 1#1
  let v76 : BitVec 1 := Scalar.xori v73 v_true
  let v77 : BitVec 32 := Scalar.extui v76
  let c0_i32_51 : BitVec 32 := 0#32
  let v78 : BitVec 1 := Scalar.cmpi .ne v77 c0_i32_51
  v78

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MixReferenceIdeal.lean ====
abbrev S8192x6144 : Shape := ⟨2, ![8192, 6144]⟩
abbrev S2048x6144 : Shape := ⟨2, ![2048, 6144]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S6144x2048 : Shape := ⟨2, ![6144, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x6144, .f32⟩
  | .hbm, ⟨26, _⟩ => ⟨S8192x6144, .f32⟩
  | .hbm, ⟨27, _⟩ => ⟨S6144x2048, .f32⟩
  | .hbm, ⟨28, _⟩ => ⟨S2048x6144, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | .hbm, ⟨57, _⟩ => ⟨S1x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== NrmKernel.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NrmReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OnrKernel.lean ====
abbrev S8192x2048 : Shape := ⟨2, ![8192, 2048]⟩
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S4x512x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OnrReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== CvfKernel.lean ====
abbrev S8192x6144 : Shape := ⟨2, ![8192, 6144]⟩
abbrev S3x2048 : Shape := ⟨2, ![3, 2048]⟩
abbrev S8192x2048 : Shape := ⟨2, ![8192, 2048]⟩
abbrev S256x2048 : Shape := ⟨2, ![256, 2048]⟩
abbrev S16x2048 : Shape := ⟨2, ![16, 2048]⟩
abbrev S1x2048 : Shape := ⟨2, ![1, 2048]⟩
abbrev S256x1 : Shape := ⟨2, ![256, 1]⟩

abbrev nBuf : Space → Nat
  | .hbm => 3
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S3x2048, .f32⟩
  | .local _ .vmem, ⟨11, _⟩ => ⟨S256x2048, .bf16⟩
  | .local _ .vmem, ⟨12, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CvfReferenceIdeal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S1x2048 : Shape := ⟨2, ![1, 2048]⟩
abbrev S8191x2048 : Shape := ⟨2, ![8191, 2048]⟩
abbrev S2x2048 : Shape := ⟨2, ![2, 2048]⟩
abbrev S8190x2048 : Shape := ⟨2, ![8190, 2048]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S1x2048, .f32⟩
  | .hbm, ⟨9, _⟩ => ⟨S8191x2048, .f32⟩
  | .hbm, ⟨10, _⟩ => ⟨S8192x2048, .f32⟩
  | .hbm, ⟨11, _⟩ => ⟨S_, .f32⟩
  | .hbm, ⟨12, _⟩ => ⟨S2x2048, .f32⟩
  | .hbm, ⟨13, _⟩ => ⟨S8190x2048, .f32⟩
  | .hbm, ⟨14, _⟩ => ⟨S8192x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== GmfKernel.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S8192x2048 : Shape := ⟨2, ![8192, 2048]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x256, .f32⟩
  | .hbm, ⟨7, _⟩ => ⟨S128x2048, .f32⟩
  | .hbm, ⟨8, _⟩ => ⟨S1x2048, .f32⟩
  | .hbm, ⟨9, _⟩ => ⟨S1x2048, .f32⟩
  | .hbm, ⟨10, _⟩ => ⟨S8192x2048, .bf16⟩
  | .local _ .vmem, ⟨0, _⟩ => ⟨S128x4096, .bf16⟩
  | .local _ .vmem, ⟨1, _⟩ => ⟨S128x4096, .bf16⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmfKernelIdeal.lean ====
variable {F : FTy → Type} [FloatOps F] [Named F]
def κ : String → Option EReal := fun
  | "inv_sqrt_2" => some (((Real.sqrt 2)⁻¹ : ℝ) : EReal)
  | _ => none
-- ==== GmfReferenceIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S64x128x8x256, .f32⟩
  | .hbm, ⟨48, _⟩ => ⟨S_, .i1⟩
  | .hbm, ⟨49, _⟩ => ⟨S128x128, .i1⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .i1⟩
  | .hbm, ⟨57, _⟩ => ⟨S128x128, .i1⟩
  | .hbm, ⟨58, _⟩ => ⟨S128x128, .i1⟩
  | .hbm, ⟨59, _⟩ => ⟨S1x128x128, .i1⟩
  | .hbm, ⟨60, _⟩ => ⟨S_, .f32⟩
  | .hbm, ⟨61, _⟩ => ⟨S8x128x128, .f32⟩
  | .hbm, ⟨62, _⟩ => ⟨S8x128x128, .i1⟩
  | .hbm, ⟨63, _⟩ => ⟨S8x128x128, .f32⟩
  | .hbm, ⟨64, _⟩ => ⟨S8x64x256x128, .f32⟩
  | .hbm, ⟨65, _⟩ => ⟨S64x128x8x256, .f32⟩
  | .hbm, ⟨66, _⟩ => ⟨S128x8, .f32⟩
  | .hbm, ⟨67, _⟩ => ⟨S128x8x1, .f32⟩
  | .hbm, ⟨68, _⟩ => ⟨S1x128x8x1, .f32⟩
  | .hbm, ⟨69, _⟩ => ⟨S64x128x8x256, .f32⟩
  | .hbm, ⟨70, _⟩ => ⟨S64x128x8x256, .f32⟩
  | .hbm, ⟨71, _⟩ => ⟨S8192x2048, .f32⟩
  | .hbm, ⟨72, _⟩ => ⟨S8192x2048, .f32⟩
  | .hbm, ⟨73, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_0 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== AtfKernel.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AtfReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .f32⟩
  | .hbm, ⟨3, _⟩ => ⟨S256x4096, .f32⟩
  | .hbm, ⟨4, _⟩ => ⟨S8192x4x512, .f32⟩
  | .hbm, ⟨5, _⟩ => ⟨S256x2048, .f32⟩
  | .hbm, ⟨6, _⟩ => ⟨S256x2048, .f32⟩
  | .hbm, ⟨7, _⟩ => ⟨S256x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x512x8192, .f32⟩
  | .hbm, ⟨28, _⟩ => ⟨S8192x4x512, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== SwgKernel.lean ====
abbrev S8192x2048 : Shape := ⟨2, ![8192, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x5632 : Shape := ⟨2, ![8192, 5632]⟩
abbrev S256x2048 : Shape := ⟨2, ![256, 2048]⟩
abbrev S1x2048x2816 : Shape := ⟨3, ![1, 2048, 2816]⟩
abbrev S256x2816 : Shape := ⟨2, ![256, 2816]⟩
abbrev S2048x2816 : Shape := ⟨2, ![2048, 2816]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi v16 c2_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwgReferenceIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | .hbm, ⟨30, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== WnnKernel.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S4x1408x2048 : Shape := ⟨3, ![4, 1408, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S5632x2048, .bf16⟩
  | .hbm, ⟨5, _⟩ => ⟨S4x1408x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S4x1408x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WnnReferenceIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PnnKernel.lean ====
abbrev S8192x5632 : Shape := ⟨2, ![8192, 5632]⟩
abbrev S5632x2048 : Shape := ⟨2, ![5632, 2048]⟩
abbrev S8192x2048 : Shape := ⟨2, ![8192, 2048]⟩
abbrev S4x1408x2048 : Shape := ⟨3, ![4, 1408, 2048]⟩
abbrev S512x5632 : Shape := ⟨2, ![512, 5632]⟩
abbrev S4x1408x1024 : Shape := ⟨3, ![4, 1408, 1024]⟩
abbrev S512x1024 : Shape := ⟨2, ![512, 1024]⟩
abbrev S5632x1024 : Shape := ⟨2, ![5632, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S4x1408x2048, .bf16⟩
  | .hbm, ⟨5, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S4x1408x1024, .bf16⟩
  | .local _ .vmem, ⟨3, _⟩ => ⟨S4x1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PnnReferenceIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PntKernel.lean ====
abbrev S8192x5632 : Shape := ⟨2, ![8192, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x2048 : Shape := ⟨2, ![8192, 2048]⟩
abbrev S512x2816 : Shape := ⟨2, ![512, 2816]⟩
abbrev S1x2048x2816 : Shape := ⟨3, ![1, 2048, 2816]⟩
abbrev S512x2048 : Shape := ⟨2, ![512, 2048]⟩
abbrev S512x512 : Shape := ⟨2, ![512, 512]⟩
abbrev S1x512x2816 : Shape := ⟨3, ![1, 512, 2816]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .f32⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 4], ![false, false, false]⟩

def k0_cond1 (i : grid0.Coords) : BitVec 1 :=
  let arg2 : BitVec 32 := BitVec.ofNat 32 (i 2).val
  let c2_i32 : BitVec 32 := 2#32
  let v0 : BitVec 1 := Scalar.cmpi .sge arg2 c2_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_cond3 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_32 : BitVec 32 := 0#32
  let v44 : BitVec 1 := Scalar.cmpi .ne v43 c0_i32_32
  v44

def k0_cond4 (i : grid0.Coords) : BitVec 1 :=
  let arg2 : BitVec 32 := BitVec.ofNat 32 (i 2).val
  let c2_i32 : BitVec 32 := 2#32
  let v0 : BitVec 1 := Scalar.cmpi .sge arg2 c2_i32
  let v4 : BitVec 32 := Scalar.extui v0
  let c0_i32_0 : BitVec 32 := 0#32
  let v5 : BitVec 1 := Scalar.cmpi .ne v4 c0_i32_0
  v5

def k0_cond6 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_32 : BitVec 32 := 0#32
  let v44 : BitVec 1 := Scalar.cmpi .ne v43 c0_i32_32
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PntReferenceIdeal.lean ====
abbrev S8192x5632 : Shape := ⟨2, ![8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .f32⟩
  | .hbm, ⟨3, _⟩ => ⟨S_, .f32⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x11264, .f32⟩
  | .hbm, ⟨11, _⟩ => ⟨S11264x2048, .f32⟩
  | .hbm, ⟨12, _⟩ => ⟨S2048x11264, .f32⟩
  | .hbm, ⟨13, _⟩ => ⟨S8192x2048, .f32⟩
  | .hbm, ⟨14, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== PtnKernel.lean ====
abbrev S8192x5632 : Shape := ⟨2, ![8192, 5632]⟩
abbrev S8192x2048 : Shape := ⟨2, ![8192, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S1408x512 : Shape := ⟨2, ![1408, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PtnReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S5632x2048, .f32⟩
  | .hbm, ⟨15, _⟩ => ⟨S8192x5632, .f32⟩
  | .hbm, ⟨16, _⟩ => ⟨S4x1408x2048, .f32⟩
  | .hbm, ⟨17, _⟩ => ⟨S4x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdfKernel.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdfReferenceIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdlKernel.lean ====
abbrev S2x2048x2816 : Shape := ⟨3, ![2, 2048, 2816]⟩
abbrev S2048x2816 : Shape := ⟨2, ![2048, 2816]⟩
abbrev S1x128x2816 : Shape := ⟨3, ![1, 128, 2816]⟩
abbrev S128x2816 : Shape := ⟨2, ![128, 2816]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S2x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S128x2816, .f32⟩
  | .local _ .vmem, ⟨7, _⟩ => ⟨S128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdlReferenceIdeal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S1x2048x2816, .f32⟩
  | .hbm, ⟨9, _⟩ => ⟨S2048x2816, .f32⟩
  | .hbm, ⟨10, _⟩ => ⟨S1x2048x2816, .f32⟩
  | .hbm, ⟨11, _⟩ => ⟨S2048x2816, .f32⟩
  | .hbm, ⟨12, _⟩ => ⟨S1x2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S1x2048x2816, .f32⟩
  | .hbm, ⟨48, _⟩ => ⟨S2048x2816, .f32⟩
  | .hbm, ⟨49, _⟩ => ⟨S1x2048x2816, .f32⟩
  | .hbm, ⟨50, _⟩ => ⟨S1x2048x2816, .f32⟩
  | .hbm, ⟨51, _⟩ => ⟨S2x2048x2816, .f32⟩
  | .hbm, ⟨52, _⟩ => ⟨S1x2048x2816, .f32⟩
  | .hbm, ⟨53, _⟩ => ⟨S2048x2816, .f32⟩
  | .hbm, ⟨54, _⟩ => ⟨S1x2048x2816, .f32⟩
  | .hbm, ⟨55, _⟩ => ⟨S1x2048x2816, .f32⟩
  | .hbm, ⟨56, _⟩ => ⟨S2x2048x2816, .f32⟩
  | .hbm, ⟨57, _⟩ => ⟨S1x2048x2816, .f32⟩
  | .hbm, ⟨58, _⟩ => ⟨S2048x2816, .f32⟩
  | .hbm, ⟨59, _⟩ => ⟨S1x2048x2816, .f32⟩
  | .hbm, ⟨60, _⟩ => ⟨S1x2048x2816, .f32⟩
  | .hbm, ⟨61, _⟩ => ⟨S2x2048x2816, .f32⟩
  | .hbm, ⟨62, _⟩ => ⟨S1x2048x2816, .f32⟩
  | .hbm, ⟨63, _⟩ => ⟨S2048x2816, .f32⟩
  | .hbm, ⟨64, _⟩ => ⟨S1x2048x2816, .f32⟩
  | .hbm, ⟨65, _⟩ => ⟨S1x2048x2816, .f32⟩
  | .hbm, ⟨66, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== SmlKernel.lean ====
abbrev S8x1288x128 : Shape := ⟨3, ![8, 1288, 128]⟩
abbrev S1288x128 : Shape := ⟨2, ![1288, 128]⟩
abbrev S1x1288x128 : Shape := ⟨3, ![1, 1288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1288x128, .f32⟩
  | .hbm, ⟨1, _⟩ => ⟨S1288x128, .f32⟩
  | .local _ .vmem, ⟨0, _⟩ => ⟨S8x1288x128, .f32⟩
  | .local _ .vmem, ⟨1, _⟩ => ⟨S1288x128, .f32⟩
  | _, _ => ⟨S8x1288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmlReferenceIdeal.lean ====
abbrev S8x1288x128 : Shape := ⟨3, ![8, 1288, 128]⟩
abbrev S_ : Shape := ⟨0, ![]⟩
abbrev S1288x128 : Shape := ⟨2, ![1288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1288x128, .f32⟩
  | .hbm, ⟨1, _⟩ => ⟨S_, .f32⟩
  | .hbm, ⟨2, _⟩ => ⟨S1288x128, .f32⟩
  | _, _ => ⟨S8x1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdhKernel.lean ====
abbrev S4x2048x2816 : Shape := ⟨3, ![4, 2048, 2816]⟩
abbrev S4x1024x2816 : Shape := ⟨3, ![4, 1024, 2816]⟩
abbrev S_ : Shape := ⟨0, ![]⟩
abbrev S1 : Shape := ⟨1, ![1]⟩
abbrev S4x2x1024x2816 : Shape := ⟨4, ![4, 2, 1024, 2816]⟩
abbrev S1x1x512x2816 : Shape := ⟨4, ![1, 1, 512, 2816]⟩
abbrev S1x512x2816 : Shape := ⟨3, ![1, 512, 2816]⟩
abbrev S512x2816 : Shape := ⟨2, ![512, 2816]⟩

abbrev nBuf : Space → Nat
  | .hbm => 5
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S_, .i32⟩
  | .hbm, ⟨3, _⟩ => ⟨S4x2x1024x2816, .bf16⟩
  | .hbm, ⟨4, _⟩ => ⟨S4x1024x2816, .bf16⟩
  | .local _ .vmem, ⟨0, _⟩ => ⟨S1x1x512x2816, .bf16⟩
  | .local _ .vmem, ⟨1, _⟩ => ⟨S1x1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdhReferenceIdeal.lean ====
abbrev S4x2048x2816 : Shape := ⟨3, ![4, 2048, 2816]⟩
abbrev S4x1024x2816 : Shape := ⟨3, ![4, 1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S4x1024x2816, .bf16⟩
  | .hbm, ⟨3, _⟩ => ⟨S4x1024x2816, .f32⟩
  | .hbm, ⟨4, _⟩ => ⟨S4x1024x2816, .f32⟩
  | .hbm, ⟨5, _⟩ => ⟨S4x1024x2816, .f32⟩
  | .hbm, ⟨6, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SwpKernel.lean ====
abbrev S4x2048x2816 : Shape := ⟨3, ![4, 2048, 2816]⟩
abbrev S4x1024x2816 : Shape := ⟨3, ![4, 1024, 2816]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  v10
def k0_off1 (d0 : Dev nD) : Fin 3 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let v11 : BitVec 32 := v10
  let c0_i32_11 : BitVec 32 := 0#32
  ![0, v11.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v13 : BitVec 32 := Scalar.muli v2 c4_i32_6
  let v14 : BitVec 32 := Scalar.addi c0_i32_7 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_9 : BitVec 32 := 1#32
  let v17 : BitVec 32 := Scalar.muli v12 c1_i32_9
  let v18 : BitVec 32 := Scalar.addi v16 v17
  v18.toNat
def k0_mult2 (d0 : Dev nD) : BitVec 32 :=
  let c1_i32_18 : BitVec 32 := 1#32
  let v30 : BitVec 32 := Dev.word d0
  let c1_i32_17 : BitVec 32 := 1#32
  let v31 : BitVec 32 := Scalar.divsi v30 c1_i32_17
  let c2_i32_16 : BitVec 32 := 2#32
  let v32 : BitVec 32 := Scalar.remsi v31 c2_i32_16
  let v33 : BitVec 32 := Scalar.subi c1_i32_18 v32
  let c1024_i32_19 : BitVec 32 := 1024#32
  let v34 : BitVec 32 := Scalar.muli v33 c1024_i32_19
  v34
-- ==== SwpReferenceIdeal.lean ====
abbrev S32x2048x2816 : Shape := ⟨3, ![32, 2048, 2816]⟩
abbrev S4x2x4x2x1024x2816 : Shape := ⟨6, ![4, 2, 4, 2, 1024, 2816]⟩
abbrev S4x1x4x1x1024x2816 : Shape := ⟨6, ![4, 1, 4, 1, 1024, 2816]⟩
abbrev S4x4x1024x2816 : Shape := ⟨4, ![4, 4, 1024, 2816]⟩
abbrev S4x1x4x1024x2816 : Shape := ⟨5, ![4, 1, 4, 1024, 2816]⟩
abbrev S4x2x4x1024x2816 : Shape := ⟨5, ![4, 2, 4, 1024, 2816]⟩
abbrev S32x1024x2816 : Shape := ⟨3, ![32, 1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S32x2048x2816, .bf16⟩
  | .hbm, ⟨1, _⟩ => ⟨S4x2x4x2x1024x2816, .bf16⟩
  | .hbm, ⟨2, _⟩ => ⟨S4x1x4x1x1024x2816, .bf16⟩
  | .hbm, ⟨3, _⟩ => ⟨S4x4x1024x2816, .bf16⟩
  | .hbm, ⟨4, _⟩ => ⟨S4x1x4x1x1024x2816, .bf16⟩
  | .hbm, ⟨5, _⟩ => ⟨S4x4x1024x2816, .bf16⟩
  | .hbm, ⟨6, _⟩ => ⟨S4x1x4x1024x2816, .bf16⟩
  | .hbm, ⟨7, _⟩ => ⟨S4x1x4x1024x2816, .bf16⟩
  | .hbm, ⟨8, _⟩ => ⟨S4x2x4x1024x2816, .bf16⟩
  | .hbm, ⟨9, _⟩ => ⟨S32x1024x2816, .bf16⟩
  | _, _ => ⟨S32x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== GatKernel.lean ====
abbrev S1288x128 : Shape := ⟨2, ![1288, 128]⟩
abbrev S8x1288x128 : Shape := ⟨3, ![8, 1288, 128]⟩
abbrev S7 : Shape := ⟨1, ![7]⟩
abbrev S_ : Shape := ⟨0, ![]⟩
abbrev S1x1288x128 : Shape := ⟨3, ![1, 1288, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1288x128, .f32⟩
  | .hbm, ⟨1, _⟩ => ⟨S8x1288x128, .f32⟩
  | _, _ => ⟨S1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v27 : BitVec 32 := Scalar.muli v2 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v29 : BitVec 32 := Scalar.muli v5 c2_i32_22
  let v30 : BitVec 32 := Scalar.addi v28 v29
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_23 : BitVec 32 := 1#32
  let v31 : BitVec 32 := Scalar.muli v15 c1_i32_23
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_30 : BitVec 32 := 2#32
  let v41 : BitVec 32 := Scalar.muli v16 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v51 : BitVec 32 := Scalar.muli v2 c4_i32_36
  let v52 : BitVec 32 := Scalar.addi c0_i32_37 v51
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_38 : BitVec 32 := 2#32
  let v53 : BitVec 32 := Scalar.muli v17 c2_i32_38
  let v54 : BitVec 32 := Scalar.addi v52 v53
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_39 : BitVec 32 := 1#32
  let v55 : BitVec 32 := Scalar.muli v18 c1_i32_39
  let v56 : BitVec 32 := Scalar.addi v54 v55
  v56.toNat
def k0_dev4 (d0 : Dev nD) : Nat :=
  let c0_i32_44 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_43 : BitVec 32 := 4#32
  let v63 : BitVec 32 := Scalar.muli v19 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v67 : BitVec 32 := Scalar.muli v8 c1_i32_46
  let v68 : BitVec 32 := Scalar.addi v66 v67
  v68.toNat
def k0_dev5 (d0 : Dev nD) : Nat :=
  let c0_i32_52 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c4_i32_51 : BitVec 32 := 4#32
  let v75 : BitVec 32 := Scalar.muli v20 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_54 : BitVec 32 := 1#32
  let v79 : BitVec 32 := Scalar.muli v21 c1_i32_54
  let v80 : BitVec 32 := Scalar.addi v78 v79
  v80.toNat
def k0_dev6 (d0 : Dev nD) : Nat :=
  let c0_i32_59 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let c4_i32_58 : BitVec 32 := 4#32
  let v87 : BitVec 32 := Scalar.muli v22 c4_i32_58
  let v88 : BitVec 32 := Scalar.addi c0_i32_59 v87
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let c2_i32_60 : BitVec 32 := 2#32
  let v89 : BitVec 32 := Scalar.muli v23 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_66 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let c4_i32_65 : BitVec 32 := 4#32
  let v99 : BitVec 32 := Scalar.muli v24 c4_i32_65
  let v100 : BitVec 32 := Scalar.addi c0_i32_66 v99
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let c2_i32_67 : BitVec 32 := 2#32
  let v101 : BitVec 32 := Scalar.muli v25 c2_i32_67
  let v102 : BitVec 32 := Scalar.addi v100 v101
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let c1_i32_68 : BitVec 32 := 1#32
  let v103 : BitVec 32 := Scalar.muli v26 c1_i32_68
  let v104 : BitVec 32 := Scalar.addi v102 v103
  v104.toNat
def k0_off2 (d0 : Dev nD) : Fin 3 → Nat :=
  let c4_i32_71 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v111 : BitVec 32 := Scalar.muli c4_i32_71 v2
  let c2_i32_72 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v112 : BitVec 32 := Scalar.muli c2_i32_72 v5
  let v113 : BitVec 32 := Scalar.addi v111 v112
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v114 : BitVec 32 := Scalar.addi v113 v15
  let c0_i32_79 : BitVec 32 := 0#32
  let c0_i32_80 : BitVec 32 := 0#32
  ![v114.toNat, 0, 0]
def k0_off3 (d0 : Dev nD) : Fin 3 → Nat :=
  let c4_i32_83 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.muli c4_i32_83 v2
  let c2_i32_84 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v128 : BitVec 32 := Scalar.muli c2_i32_84 v16
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v130 : BitVec 32 := Scalar.addi v129 v8
  let c0_i32_91 : BitVec 32 := 0#32
  let c0_i32_92 : BitVec 32 := 0#32
  ![v130.toNat, 0, 0]
def k0_off4 (d0 : Dev nD) : Fin 3 → Nat :=
  let c4_i32_95 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.muli c4_i32_95 v2
  let c2_i32_96 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v144 : BitVec 32 := Scalar.muli c2_i32_96 v17
  let v145 : BitVec 32 := Scalar.addi v143 v144
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let v146 : BitVec 32 := Scalar.addi v145 v18
  let c0_i32_103 : BitVec 32 := 0#32
  let c0_i32_104 : BitVec 32 := 0#32
  ![v146.toNat, 0, 0]
def k0_off5 (d0 : Dev nD) : Fin 3 → Nat :=
  let c4_i32_107 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let v159 : BitVec 32 := Scalar.muli c4_i32_107 v19
  let c2_i32_108 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v160 : BitVec 32 := Scalar.muli c2_i32_108 v5
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v162 : BitVec 32 := Scalar.addi v161 v8
  let c0_i32_115 : BitVec 32 := 0#32
  let c0_i32_116 : BitVec 32 := 0#32
  ![v162.toNat, 0, 0]
def k0_off6 (d0 : Dev nD) : Fin 3 → Nat :=
  let c4_i32_119 : BitVec 32 := 4#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v175 : BitVec 32 := Scalar.muli c4_i32_119 v20
  let c2_i32_120 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v176 : BitVec 32 := Scalar.muli c2_i32_120 v5
  let v177 : BitVec 32 := Scalar.addi v175 v176
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v178 : BitVec 32 := Scalar.addi v177 v21
  let c0_i32_127 : BitVec 32 := 0#32
  let c0_i32_128 : BitVec 32 := 0#32
  ![v178.toNat, 0, 0]
def k0_off7 (d0 : Dev nD) : Fin 3 → Nat :=
  let c4_i32_131 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let v191 : BitVec 32 := Scalar.muli c4_i32_131 v22
  let c2_i32_132 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let v192 : BitVec 32 := Scalar.muli c2_i32_132 v23
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v194 : BitVec 32 := Scalar.addi v193 v8
  let c0_i32_139 : BitVec 32 := 0#32
  let c0_i32_140 : BitVec 32 := 0#32
  ![v194.toNat, 0, 0]
def k0_off8 (d0 : Dev nD) : Fin 3 → Nat :=
  let c4_i32_143 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let v207 : BitVec 32 := Scalar.muli c4_i32_143 v24
  let c2_i32_144 : BitVec 32 := 2#32
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let v208 : BitVec 32 := Scalar.muli c2_i32_144 v25
  let v209 : BitVec 32 := Scalar.addi v207 v208
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let v210 : BitVec 32 := Scalar.addi v209 v26
  let c0_i32_151 : BitVec 32 := 0#32
  let c0_i32_152 : BitVec 32 := 0#32
  ![v210.toNat, 0, 0]
-- ==== GatReferenceIdeal.lean ====
abbrev S10304x128 : Shape := ⟨2, ![10304, 128]⟩
abbrev S8x1288x128 : Shape := ⟨3, ![8, 1288, 128]⟩

abbrev nBuf : Space → Nat
  | .hbm => 2
  | .vmem => 0
  | .smem => 0
  | _ => 0

abbrev bufTy : (tb : Table) → Fin (tcTables nBuf tb) → BufTy
  | .hbm, ⟨0, _⟩ => ⟨S10304x128, .f32⟩
  | .hbm, ⟨1, _⟩ => ⟨S8x1288x128, .f32⟩
  | _, _ => ⟨S10304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SctKernel.lean ====
abbrev S4x1024x2816 : Shape := ⟨3, ![4, 1024, 2816]⟩
abbrev S3 : Shape := ⟨1, ![3]⟩
abbrev S1 : Shape := ⟨1, ![1]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x2816, .bf16⟩
  | .hbm, ⟨1, _⟩ => ⟨S4x1024x2816, .bf16⟩
  | .hbm, ⟨2, _⟩ => ⟨S4x1024x2816, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4x1024x2816, .i32⟩
  | .hbm, ⟨23, _⟩ => ⟨S4x1024x2816, .i1⟩
  | .hbm, ⟨24, _⟩ => ⟨S4x1024x2816, .bf16⟩
  | _, _ => ⟨S4x1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_c : Ref sig .tc := ⟨.hbm, 3, rfl⟩
abbrev main_c_0 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_1 : Ref sig .tc := ⟨.hbm, 9, rfl⟩
abbrev main_v7 : Ref sig .tc := ⟨.hbm, 10, rfl⟩
abbrev main_c_2 : Ref sig .tc := ⟨.hbm, 11, rfl⟩
abbrev main_v8 : Ref sig .tc := ⟨.hbm, 12, rfl⟩
abbrev main_c_3 : Ref sig .tc := ⟨.hbm, 13, rfl⟩
abbrev main_c_4 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_5 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_18 : BitVec 32 := 0#32
  let c0_i32_19 : BitVec 32 := 0#32
  ![v16.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v21 : BitVec 32 := Scalar.muli v9 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off3 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_28 : BitVec 32 := 0#32
  let c0_i32_29 : BitVec 32 := 0#32
  ![v18.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v37 : BitVec 32 := Scalar.muli v10 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_off4 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_38 : BitVec 32 := 0#32
  let c0_i32_39 : BitVec 32 := 0#32
  ![v20.toNat, 0, 0]
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v49 : BitVec 32 := Scalar.muli v11 c4_i32_32
  let v50 : BitVec 32 := Scalar.addi c0_i32_33 v49
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v51 : BitVec 32 := Scalar.muli v12 c2_i32_34
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v53 : BitVec 32 := Scalar.muli v8 c1_i32_35
  let v54 : BitVec 32 := Scalar.addi v52 v53
  v54.toNat
-- ==== SctReferenceIdeal.lean ====
abbrev S32x1024x2816 : Shape := ⟨3, ![32, 1024, 2816]⟩
abbrev S4x2x4x1024x2816 : Shape := ⟨5, ![4, 2, 4, 1024, 2816]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x2816, .bf16⟩
  | .hbm, ⟨1, _⟩ => ⟨S4x2x4x1024x2816, .bf16⟩
  | .hbm, ⟨2, _⟩ => ⟨S4x2x4x1024x2816, .bf16⟩
  | .hbm, ⟨3, _⟩ => ⟨S32x1024x2816, .bf16⟩
  | _, _ => ⟨S32x1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.ConvVal.lean ====
/-  The convolution gate's backward call: what its two result arrays hold after the run, as functions of the arguments.
    Row `n` of the products that the call shifts is `zc` (input gate times value) and `dc` (cotangent times output gate);
    both are taken to be zero outside of the sequence. -/
module

public import proofs.«01_k».proof.Proof.Gen.ConvKernelIdeal.Value
public import Idealize.ShloMosaic.Lib.Pointwise
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ConvMath

/-- The gates' packed array, the cotangent, and the taps. -/
abbrev TX := FVec Ideal ⟨2, ![8192, 6144]⟩ .bf16
abbrev TD := FVec Ideal ⟨2, ![8192, 2048]⟩ .bf16
abbrev TW := FVec Ideal ⟨2, ![3, 2048]⟩ .f32

/-- Input gate times value at row `n`, zero past the end. -/
def zc (X : TX) (n : ℕ) (j : Fin 2048) : EReal :=
  if h : n < 8192 then X (ix2 ⟨n, h⟩ ⟨2048 + j, by omega⟩) * X (ix2 ⟨n, h⟩ ⟨4096 + j, by omega⟩) else 0

/-- The same, `k` rows back, zero before the start. -/
def zb (X : TX) (k n : ℕ) (j : Fin 2048) : EReal := if k ≤ n then zc X (n - k) j else 0

/-- Cotangent times output gate at row `n`, zero past the end. -/
def dc (X : TX) (D : TD) (n : ℕ) (j : Fin 2048) : EReal :=
  if h : n < 8192 then D (ix2 ⟨n, h⟩ j) * X (ix2 ⟨n, h⟩ ⟨j, by omega⟩) else 0

/-- The convolution at row `n`. -/
def conv (X : TX) (W : TW) (n : ℕ) (j : Fin 2048) : EReal :=
  W (ix2 2 j) * zc X n j + W (ix2 1 j) * zb X 1 n j + W (ix2 0 j) * zb X 2 n j

/-- The cotangent of the convolution's operand at row `n`. -/
def dz (X : TX) (D : TD) (W : TW) (n : ℕ) (j : Fin 2048) : EReal :=
  W (ix2 2 j) * dc X D n j + W (ix2 1 j) * dc X D (n + 1) j + W (ix2 0 j) * dc X D (n + 2) j

/-- The packed gradient. -/
def out (X : TX) (D : TD) (W : TW) (r : Fin 8192) (q : Fin 6144) : EReal :=
  if h : (q : ℕ) < 2048 then D (ix2 r ⟨q, h⟩) * conv X W r ⟨q, h⟩
  else if h' : (q : ℕ) < 4096 then dz X D W r ⟨q - 2048, by omega⟩ * X (ix2 r ⟨q + 2048, by omega⟩)
  else dz X D W r ⟨q - 4096, by omega⟩ * X (ix2 r ⟨q - 2048, by omega⟩)

/-- What row `n` adds to row `k` of the taps' gradient. -/
def dwt (X : TX) (D : TD) (k : Fin 8) (j : Fin 2048) (n : ℕ) : EReal :=
  if (k : ℕ) < 1 then dc X D n j * zb X 2 n j
  else if (k : ℕ) < 2 then dc X D n j * zb X 1 n j
  else if (k : ℕ) < 3 then dc X D n j * zc X n j else 0

end Cert.ConvMath

namespace Cert.ConvKernelIdeal.Val

open Cert.ConvKernelIdeal Cert.ConvKernelIdeal.Gen Cert.ConvMath

variable (m : (ℓ : Loc nD τ sig) → Buf (Elt Ideal) ℓ)

theorem idx : ∀ t : Fin cfg0.N, win0_0.index t = ![t.val, 0] ∧ win0_1.index t = ![t.val, 1] ∧ win0_2.index t = ![t.val, 2]
  ∧ win0_3.index t = ![t.val * 8 - 1, 1] ∧ win0_4.index t = ![t.val * 8 - 1, 2] ∧ win0_5.index t = ![min (t.val * 8 + 8) 511, 0]
  ∧ win0_6.index t = ![t.val, 0] ∧ win0_7.index t = ![min (t.val * 8 + 8) 511, 0] ∧ win0_8.index t = ![0, 0]
  ∧ win0_9.index t = ![t.val, 0] ∧ win0_10.index t = ![0, 0] ∧ (grid0.coords t 0).val = t.val ∧ t.val < 64 :=
  (by decide +kernel : ∀ t : Fin grid0.N, _)

abbrev aX (c : Dev nD) : TX := m ((c : Thread nD τ).loc main_arg0)
abbrev aD (c : Dev nD) : TD := m ((c : Thread nD τ).loc main_arg1)
abbrev aW (c : Dev nD) : TW := m ((c : Thread nD τ).loc main_arg2)

theorem zc_at (c : Dev nD) (t : Fin cfg0.N) (r : Fin 128) (j : Fin 2048) :
    (show EReal from iblk m c 1 t (ix2 r j)) * (show EReal from iblk m c 2 t (ix2 r j)) = zc (aX m c) (t.val * 128 + r) j := by
  have ht := (idx t).2.2.2.2.2.2.2.2.2.2.2.2
  rw [zc, dif_pos (by omega)]
  refine Ideal.mul_congr ?_ ?_
  · blk_ext [iblk, V, idx t]
  · blk_ext [iblk, V, idx t]

theorem dc_at (c : Dev nD) (t : Fin cfg0.N) (r : Fin 128) (j : Fin 2048) :
    (show EReal from iblk m c 6 t (ix2 r j)) * (show EReal from iblk m c 0 t (ix2 r j)) = dc (aX m c) (aD m c) (t.val * 128 + r) j := by
  have ht := (idx t).2.2.2.2.2.2.2.2.2.2.2.2
  rw [dc, dif_pos (by omega)]
  refine Ideal.mul_congr ?_ ?_
  · blk_ext [iblk, V, idx t]
  · blk_ext [iblk, V, idx t]

/-- A row of the edge block before the tile, at a tile that is not the first. -/
theorem zp_at (c : Dev nD) (t : Fin cfg0.N) (h : 0 < t.val) (r : Fin 16) (j : Fin 2048) :
    (show EReal from iblk m c 3 t (ix2 r j)) * (show EReal from iblk m c 4 t (ix2 r j)) = zc (aX m c) (t.val * 128 - 16 + r) j := by
  have ht := (idx t).2.2.2.2.2.2.2.2.2.2.2.2
  rw [zc, dif_pos (by omega)]
  refine Ideal.mul_congr ?_ ?_
  · blk_ext [iblk, V, idx t]
  · blk_ext [iblk, V, idx t]

/-- A row of the edge block after the tile, at a tile that is not the last. -/
theorem dn_at (c : Dev nD) (t : Fin cfg0.N) (h : t.val < 63) (r : Fin 16) (j : Fin 2048) :
    (show EReal from iblk m c 7 t (ix2 r j)) * (show EReal from iblk m c 5 t (ix2 r j)) = dc (aX m c) (aD m c) (t.val * 128 + 128 + r) j := by
  have ht := (idx t).2.2.2.2.2.2.2.2.2.2.2.2
  rw [dc, dif_pos (by omega)]
  refine Ideal.mul_congr ?_ ?_
  · blk_ext [iblk, V, idx t]
  · blk_ext [iblk, V, idx t]

theorem w_at (c : Dev nD) (t : Fin cfg0.N) (k : Fin 3) (j : Fin 2048) :
    (show EReal from iblk m c 8 t (ix2 k j)) = aW m c (ix2 k j) := by
  blk_ext [iblk, V, idx t]

/-- A condition on an index word, selected on. -/
theorem sel_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb, WordCmp.select_ofBool]; simp

theorem sgt_at : ∀ i : Fin 64, Scalar.cmpi .sgt (BitVec.ofNat 32 i.val) 0#32 = BitVec.ofBool (decide (0 < i.val)) := by decide
theorem slt_at : ∀ i : Fin 64, Scalar.cmpi .slt (BitVec.ofNat 32 i.val) 63#32 = BitVec.ofBool (decide (i.val < 63)) := by decide

theorem pay7_at (c : Dev nD) (t : Fin cfg0.N) (k : ℕ) (r : Fin 16) (hk : r.val + k = 16) (j : Fin 2048) :
    k0_pay7 (F := Ideal) (grid0.coords t) (iblk m c 3 t) (iblk m c 4 t) (ix2 r j) = zb (aX m c) k (t.val * 128) j := by
  have ht := (idx t).2.2.2.2.2.2.2.2.2.2.2.2
  pointwise [k0_pay7]
  rw [(idx t).2.2.2.2.2.2.2.2.2.2.2.1, sgt_at ⟨t.val, ht⟩, WordCmp.select_ofBool]
  by_cases h : 0 < t.val
  · simp only [h, decide_true, if_true]
    refine (zp_at m c t h r j).trans ?_
    rw [zb, if_pos (by omega)]
    congr 1; omega
  · simp only [h, decide_false, Bool.false_eq_true, if_false]
    rw [zb, if_neg (by have h' := r.isLt; omega)]

theorem pay15_at (c : Dev nD) (t : Fin cfg0.N) (r : Fin 16) (j : Fin 2048) :
    k0_pay15 (F := Ideal) (BitVec.ofNat 32 (grid0.coords t 0)) (iblk m c 7 t) (iblk m c 5 t) (ix2 r j) = dc (aX m c) (aD m c) (t.val * 128 + 128 + r) j := by
  have ht := (idx t).2.2.2.2.2.2.2.2.2.2.2.2
  pointwise [k0_pay15]
  rw [(idx t).2.2.2.2.2.2.2.2.2.2.2.1, slt_at ⟨t.val, ht⟩, WordCmp.select_ofBool]
  by_cases h : t.val < 63
  · simp only [h, decide_true, if_true]
    exact dn_at m c t h r j
  · simp only [h, decide_false]
    rw [dc, dif_neg (by omega)]; rfl

theorem pay6_at (c : Dev nD) (t : Fin cfg0.N) (r : Fin 128) (j : Fin 2048) :
    k0_pay6 (F := Ideal) (iblk m c 1 t) (iblk m c 2 t) (ix2 r j) = zc (aX m c) (t.val * 128 + r) j := by
  pointwise [k0_pay6, k0_pay3, k0_pay4]
  exact zc_at m c t r j

theorem pay14_at (c : Dev nD) (t : Fin cfg0.N) (r : Fin 128) (j : Fin 2048) :
    k0_pay14 (F := Ideal) (k0_pay2 (iblk m c 0 t)) (k0_pay5 (iblk m c 6 t)) (ix2 r j) = dc (aX m c) (aD m c) (t.val * 128 + r) j := by
  pointwise [k0_pay14, k0_pay2, k0_pay5]
  exact dc_at m c t r j

theorem pay8_at (c : Dev nD) (t : Fin cfg0.N) (r : Fin 128) (j : Fin 2048) :
    k0_pay8 (F := Ideal) (grid0.coords t) (iblk m c 1 t) (iblk m c 2 t) (iblk m c 3 t) (iblk m c 4 t) (ix2 r j) = zb (aX m c) 1 (t.val * 128 + r) j := by
  pointwise [k0_pay8]
  rw [sel_eq (by omega) (by omega), pay7_at m c t 1 15 rfl j, pay6_at]
  split
  · next h => rw [h]; rfl
  · next h =>
    rw [zb, if_pos (by omega)]
    congr 1
    show t.val * 128 + (r.val + 128 - 1) % 128 = _
    omega

theorem pay12_at (c : Dev nD) (t : Fin cfg0.N) (r : Fin 128) (j : Fin 2048) :
    k0_pay12 (F := Ideal) (k0_pay9 (grid0.coords t) (iblk m c 1 t) (iblk m c 2 t) (iblk m c 3 t) (iblk m c 4 t)) k0_pay10
        (k0_pay11 (grid0.coords t) (iblk m c 3 t) (iblk m c 4 t)) (ix2 r j) = zb (aX m c) 2 (t.val * 128 + r) j := by
  pointwise [k0_pay12, k0_pay9, k0_pay10, k0_pay11]
  rw [sel_eq (by omega) (by omega), sel_eq (by omega) (by omega), pay7_at m c t 1 15 rfl j, pay7_at m c t 2 14 rfl j, pay6_at]
  split
  · next h =>
    rw [h, zb, zb]
    by_cases h0 : t.val = 0
    · rw [h0]; simp
    · rw [if_pos (by omega), if_pos (by omega)]; congr 1
  · next h =>
    split
    · next h' => rw [h']; rfl
    · next h' =>
      rw [zb, if_pos (by omega)]
      congr 1
      show t.val * 128 + (r.val + 128 - 2) % 128 = _
      omega

theorem pay19_at (c : Dev nD) (t : Fin cfg0.N) (r : Fin 128) (j : Fin 2048) :
    k0_pay19 (F := Ideal) (View.ld (iblk m c 8 t) (Rect.unit ![0, 0] ![1, 2048] inb_S3x2048_S1x2048_0_0))
      (k0_pay15 (BitVec.ofNat 32 ↑(grid0.coords t 0)) (iblk m c 7 t) (iblk m c 5 t))
      (k0_pay16 (BitVec.ofNat 32 ↑(grid0.coords t 0)) (k0_pay2 (iblk m c 0 t)) (k0_pay5 (iblk m c 6 t))
        (View.ld (iblk m c 8 t) (Rect.unit ![1, 0] ![1, 2048] inb_S3x2048_S1x2048_1_0))
        (View.ld (iblk m c 8 t) (Rect.unit ![2, 0] ![1, 2048] inb_S3x2048_S1x2048_2_0)) (iblk m c 7 t) (iblk m c 5 t))
      (iota Kind.tc S128x1 32 [0] iota_S128x1_d0_w32) (k0_pay17 (k0_pay2 (iblk m c 0 t)) (k0_pay5 (iblk m c 6 t)))
      k0_pay18 (ix2 r j) = dz (aX m c) (aD m c) (aW m c) (t.val * 128 + r) j := by
  pointwise [k0_pay19, k0_pay18, k0_pay17, k0_pay16]
  rw [sel_eq (by omega) (by omega), sel_eq (by omega) (by omega), sel_eq (by omega) (by omega), pay15_at, pay15_at, pay14_at, pay14_at, pay14_at, dz]
  refine Ideal.add_congr (Ideal.add_congr (Ideal.mul_congr (w_at m c t 2 j) rfl) (Ideal.mul_congr (w_at m c t 1 j) ?_)) (Ideal.mul_congr (w_at m c t 0 j) ?_)
  · split
    · next h => rw [h]; rfl
    · next h =>
      congr 1
      show t.val * 128 + (r.val + 128 - 127) % 128 = _
      omega
  · split
    · next h => rw [h]; rfl
    · next h =>
      split
      · next h' => rw [h']; rfl
      · next h' =>
        congr 1
        show t.val * 128 + (r.val + 128 - 126) % 128 = _
        omega

theorem pay13_at (c : Dev nD) (t : Fin cfg0.N) (r : Fin 128) (j : Fin 2048) :
    k0_pay13 (F := Ideal) (k0_pay6 (iblk m c 1 t) (iblk m c 2 t))
        (k0_pay8 (grid0.coords t) (iblk m c 1 t) (iblk m c 2 t) (iblk m c 3 t) (iblk m c 4 t))
        (k0_pay9 (grid0.coords t) (iblk m c 1 t) (iblk m c 2 t) (iblk m c 3 t) (iblk m c 4 t)) k0_pay10
        (k0_pay11 (grid0.coords t) (iblk m c 3 t) (iblk m c 4 t))
        (View.ld (iblk m c 8 t) (Rect.unit ![0, 0] ![1, 2048] inb_S3x2048_S1x2048_0_0))
        (View.ld (iblk m c 8 t) (Rect.unit ![1, 0] ![1, 2048] inb_S3x2048_S1x2048_1_0))
        (View.ld (iblk m c 8 t) (Rect.unit ![2, 0] ![1, 2048] inb_S3x2048_S1x2048_2_0)) (ix2 r j) = conv (aX m c) (aW m c) (t.val * 128 + r) j := by
  pointwise [k0_pay13]
  rw [pay6_at, pay8_at, pay12_at, conv]
  exact Ideal.add_congr (Ideal.add_congr (Ideal.mul_congr (w_at m c t 2 j) rfl) (Ideal.mul_congr (w_at m c t 1 j) rfl)) (Ideal.mul_congr (w_at m c t 0 j) rfl)

/-- The packed gradient's block that point `t` stores. -/
theorem o_at (c : Dev nD) (t : Fin cfg0.N) (y : S128x6144.Idx) (R : Fin 8192) (hR : R.val = t.val * 128 + (y 0).val) (q : Fin 6144) (hq : q.val = (y 1).val) :
    (show EReal from (outsAt0 m c t.val t.isLt).1 y) = out (aX m c) (aD m c) (aW m c) R q := by
  have p0 : ∀ (x0 : Fin 128) (x1 : Fin 2048), R.val = t.val * 128 + x0.val → q.val = 4096 + x1.val → dz (aX m c) (aD m c) (aW m c) (t.val * 128 + x0.val) x1 * (show EReal from iblk m c 1 t (ix2 x0 x1)) = out (aX m c) (aD m c) (aW m c) R q := by
    intro x0 x1 h0 h1
    rw [out, dif_neg (by omega), dif_neg (by omega)]
    refine Ideal.mul_congr (congrArg₂ (dz _ _ _) (by omega) (Fin.ext (by show x1.val = q.val - 4096; omega))) ?_
    blk_ext [iblk, V, idx t]
  have p1 : ∀ (x0 : Fin 128) (x1 : Fin 2048), R.val = t.val * 128 + x0.val → q.val = 2048 + x1.val → dz (aX m c) (aD m c) (aW m c) (t.val * 128 + x0.val) x1 * (show EReal from iblk m c 2 t (ix2 x0 x1)) = out (aX m c) (aD m c) (aW m c) R q := by
    intro x0 x1 h0 h1
    rw [out, dif_neg (by omega), dif_pos (by omega)]
    refine Ideal.mul_congr (congrArg₂ (dz _ _ _) (by omega) (Fin.ext (by show x1.val = q.val - 2048; omega))) ?_
    blk_ext [iblk, V, idx t]
  have p2 : ∀ (x0 : Fin 128) (x1 : Fin 2048), R.val = t.val * 128 + x0.val → q.val = x1.val → (show EReal from iblk m c 6 t (ix2 x0 x1)) * conv (aX m c) (aW m c) (t.val * 128 + x0.val) x1 = out (aX m c) (aD m c) (aW m c) R q := by
    intro x0 x1 h0 h1
    rw [out, dif_pos (by omega)]
    refine Ideal.mul_congr ?_ (congrArg₂ (conv _ _) (by omega) (Fin.ext (by show x1.val = q.val; omega)))
    blk_ext [iblk, V, idx t]
  have step : ∀ o : FVec Ideal S128x6144 .bf16, o = (outsAt0 m c t.val t.isLt).1 → (show EReal from o y) = out (aX m c) (aD m c) (aW m c) R q := by
    intro o ho
    by_cases h : t.val = 0
    on_goal 1 => rw [outsAt0_A m c t (by omega) (by omega)] at ho
    on_goal 2 => rw [outsAt0_B m c t (by omega) (by omega)] at ho
    all_goals
      rw [ho]
      frame_out
      canon_tiles x h
      case' piece0 => refine Eq.trans ?_ (p0 (x 0) (x 1) (by omega) (by omega)); idx_vars x; pointwise [k0_pay22, k0_pay3]; exact Ideal.mul_congr (pay19_at m c t x0 x1) rfl
      case' piece1 => refine Eq.trans ?_ (p1 (x 0) (x 1) (by omega) (by omega)); idx_vars x; pointwise [k0_pay21, k0_pay4]; exact Ideal.mul_congr (pay19_at m c t x0 x1) rfl
      case' piece2 => refine Eq.trans ?_ (p2 (x 0) (x 1) (by omega) (by omega)); idx_vars x; pointwise [k0_pay20, k0_pay5]; exact Ideal.mul_congr rfl (pay13_at m c t x0 x1)
  exact step _ rfl

/-- The four pieces of the taps' gradient, put under one sum. -/
theorem dwt_at (X : TX) (D : TD) (k : Fin 8) (j : Fin 2048) (n : Fin 128 → ℕ) :
    (if h : k.val < 1 then ∑ x, dc X D (n x) j * zb X 2 (n x) j
      else if h : k.val - 1 < 1 then ∑ x, dc X D (n x) j * zb X 1 (n x) j
      else if h : k.val - 1 - 1 < 1 then ∑ x, dc X D (n x) j * zc X (n x) j else 0) = ∑ r, dwt X D k j (n r) := by
  unfold dwt
  by_cases h1 : k.val < 1
  · simp only [h1, if_true, dif_pos]
  by_cases h2 : k.val < 2
  · simp only [h1, h2, if_true, if_false, show k.val - 1 < 1 by omega, dif_pos, dite_false]
  by_cases h3 : k.val < 3
  · simp only [h1, h2, h3, if_true, if_false, show ¬ k.val - 1 < 1 by omega, show k.val - 1 - 1 < 1 by omega, dif_pos, dite_false]
  · simp only [h1, h2, h3, if_false, show ¬ k.val - 1 < 1 by omega, show ¬ k.val - 1 - 1 < 1 by omega, dite_false, Finset.sum_const_zero]

theorem dw_A (c : Dev nD) (t : Fin cfg0.N) (h : t.val = 0) (k : Fin 8) (j : Fin 2048) :
    (show EReal from (outsAt0 m c t.val t.isLt).2 (ix2 k j)) = ∑ r : Fin 128, dwt (aX m c) (aD m c) k j (t.val * 128 + r) := by
  rw [outsAt0_A m c t (by omega) (by omega)]
  frame_out
  pointwise [k0_pay23]
  simp only [pay14_at, pay12_at, pay8_at, pay6_at]
  exact dwt_at _ _ k j _

theorem dw_B (c : Dev nD) (t : Fin cfg0.N) (h : 0 < t.val) (k : Fin 8) (j : Fin 2048) :
    (show EReal from (outsAt0 m c t.val t.isLt).2 (ix2 k j))
      = (show EReal from (outsAt0 m c (t.val - 1) (by have := t.isLt; omega)).2 (ix2 k j)) + ∑ r : Fin 128, dwt (aX m c) (aD m c) k j (t.val * 128 + r) := by
  have ht := (idx t).2.2.2.2.2.2.2.2.2.2.2.2
  rw [outsAt0_B m c t (by omega) (by omega)]
  frame_out
  pointwise [k0_pay1, k0_pay23]
  simp only [pay14_at, pay12_at, pay8_at, pay6_at]
  refine Ideal.add_congr rfl ?_
  exact dwt_at _ _ k j _

theorem final10 (c : Dev nD) : (dats m 0 c).arrAt 10 cfg0.N = fun y => ∑ n : Fin 8192, dwt (aX m c) (aD m c) (y 0) (y 1) n := by
  refine (dats m 0 c).arrAt_eq_of_covers 10 _ (by decide +kernel) fun t hf y => ?_
  blk_simp
  rw [after0_10]
  rw [Pipeline.eq_sum_fin_of_reset_step_apply_of_flush (fun n h => (outsAt0 m c n h).2) 64 (fun _ => 0)
    (fun t (y : S8x2048.Idx) => (∑ r : Fin 128, dwt (aX m c) (aD m c) (y 0) (y 1) (t.val * 128 + r) : EReal))
    (fun t h j => by idx_vars j; rw [zero_add]; exact dw_A m c t (by have ht := (idx t).2.2.2.2.2.2.2.2.2.2.2.2; omega) j0 j1)
    (fun t h j => by idx_vars j; exact dw_B m c t (by omega) j0 j1)
    t ((flush0_10 t).mp hf) _, zero_add]
  refine Fin.sum_mul_add_congr fun s k hl => ?_
  have e : ∀ (p p' : Fin 8) (l l' : Fin 2048) (n n' : ℕ), p = p' → l = l' → n = n' → dwt (aX m c) (aD m c) p l n = dwt (aX m c) (aD m c) p' l' n' := by
    rintro p _ l _ n _ rfl rfl rfl; rfl
  have ht := (idx t).2.2.2.2.2.2.2.2.2.2.2.2
  refine e _ _ _ _ _ _ (Fin.ext ?_) (Fin.ext ?_) ?_
  · blk_simp [idx t]
  · blk_simp [idx t]
  · show (64 * (t.val / 64) + s.val) * 128 + k.val = s.val * 128 + k.val
    omega

theorem final9 (c : Dev nD) : (dats m 0 c).arrAt 9 cfg0.N = fun y => out (aX m c) (aD m c) (aW m c) (y 0) (y 1) := by
  refine (dats m 0 c).arrAt_eq_of_covers 9 _ (by decide +kernel) fun t hf y => ?_
  blk_simp
  rw [after0_9]
  exact o_at m c t y _ (by blk_simp [idx t]) _ (by blk_simp [idx t])

end Cert.ConvKernelIdeal.Val

end
-- ==== Proof.ConvRef.lean ====
/-  The convolution gate's gradient as the reference states it (the transpose of the forward lines), read element by element:
    the packed gradient is `ConvMath.out`, the taps' gradient the sum of `ConvMath.dwt` over the sequence. -/
module

public import proofs.«01_k».proof.Proof.ConvVal
public import proofs.«01_k».proof.Proof.Gen.ConvReferenceIdeal.Read

@[expose] public section

set_option maxRecDepth 16384

noncomputable section

open Idealize.ShloMosaic Idealize.ShloMosaic.TcCoe Idealize.SL.Sem

namespace Cert.ConvReferenceIdeal.Val

open Cert.ConvReferenceIdeal Cert.ConvReferenceIdeal.Read Cert.ConvMath

variable (X : TX) (D : TD) (W : TW)

theorem v4_at (n : Fin 8192) (j : Fin 2048) : val_main_v4 (F := Ideal) X (ix2 n j) = zc X n j := by
  pointwise [val_main_v4, val_main_v3, val_main_v2, val_main_v0]
  rw [zc, dif_pos n.isLt]

theorem v32_at (n : Fin 8192) (j : Fin 2048) : val_main_v32 (F := Ideal) X D (ix2 n j) = dc X D n j := by
  pointwise [val_main_v32, val_main_v31, val_main_v1, val_main_v0]
  rw [dc, dif_pos n.isLt, mul_comm]

theorem v7_at (n : Fin 8192) (j : Fin 2048) : val_main_v7 (F := Ideal) X (ix2 n j) = zb X 1 n j := by
  pointwise [val_main_v7, val_main_v6, val_main_v5, val_main_cst]
  simp only [v4_at]
  rw [zb]
  split
  · rw [if_neg (by omega)]
  · rw [if_pos (by omega)]

theorem v11_at (n : Fin 8192) (j : Fin 2048) : val_main_v11 (F := Ideal) X (ix2 n j) = zb X 2 n j := by
  pointwise [val_main_v11, val_main_v10, val_main_v9, val_main_cst_1]
  simp only [v4_at]
  rw [zb]
  split
  · rw [if_neg (by omega)]
  · rw [if_pos (by omega)]

theorem v29_at (n : Fin 8192) (j : Fin 2048) : val_main_v29 (F := Ideal) X W (ix2 n j) = conv X W n j := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13]
  simp only [v4_at, v7_at, v11_at, conv]
  rw [add_comm (W (ix2 0 j) * _), add_comm, add_assoc]

theorem v67_at (n : Fin 8192) (j : Fin 2048) : val_main_v67 (F := Ideal) X D W (ix2 n j) = dz X D W n j := by
  pointwise [val_main_v67, val_main_v66, val_main_v65, val_main_v63, val_main_v62, val_main_v61, val_main_v52, val_main_v51, val_main_v43, val_main_v42, val_main_v35, val_main_v34, val_main_v26, val_main_v25, val_main_v24, val_main_v20, val_main_v19, val_main_v18, val_main_v15, val_main_v14, val_main_v13, val_main_cst_12, val_main_cst_13]
  simp only [v32_at, dz]
  rw [add_right_comm]
  refine Ideal.add_congr (Ideal.add_congr rfl ?_) ?_
  · split
    · rw [show n.val + 1 = 1 + n.val by omega]
    · rw [dc, dif_neg (by omega), mul_zero]
  · split
    · rw [show n.val + 2 = 2 + n.val by omega]
    · rw [dc, dif_neg (by omega), mul_zero]

theorem v71_at (r : Fin 8192) (q : Fin 6144) : val_main_v71 (F := Ideal) X D W (ix2 r q) = out X D W r q := by
  pointwise [val_main_v71, val_main_v70, val_main_v69, val_main_v68, val_main_v33, val_main_v31, val_main_v3, val_main_v2, val_main_v0]
  simp only [v67_at, v29_at, out]
  split
  · rfl
  · split
    · rw [dif_pos (by omega)]
      exact Ideal.mul_congr rfl (congrArg (fun q => X (ix2 r q)) (Fin.ext (by show 4096 + (q.val - 2048) = q.val + 2048; omega)))
    · rw [dif_neg (by omega), mul_comm]
      exact Ideal.mul_congr (congrArg (dz X D W r) (Fin.ext (by show q.val - 2048 - 2048 = q.val - 4096; omega)))
        (congrArg (fun q => X (ix2 r q)) (Fin.ext (by show 2048 + (q.val - 2048 - 2048) = q.val - 2048; omega)))

theorem v72_at (k : Fin 8) (j : Fin 2048) : val_main_v72 (F := Ideal) X D (ix2 k j) = ∑ n : Fin 8192, dwt X D k j n := by
  pointwise [val_main_v72, val_main_v59, val_main_v50, val_main_v58, val_main_v49, val_main_v41, val_main_v57, val_main_v48, val_main_v40, val_main_v56, val_main_v47, val_main_v39, val_main_v55, val_main_v46, val_main_v38, val_main_v54, val_main_v45, val_main_v37, val_main_v36, val_main_v44, val_main_v53, val_main_call0_v0, val_main_c, val_main_cst_3, val_main_cst_4, val_main_cst_5, val_main_cst_6, val_main_cst_7, val_main_cst_8, val_main_cst_9, val_main_cst_10, val_main_cst_11]
  simp only [v32_at, v4_at, v7_at, v11_at]
  simp only [Fin.sum_univ_one]
  fin_vals k with hk
  all_goals simp only [hk, dwt, Nat.reduceSub, Nat.reduceLT, Nat.reduceLeDiff, ↓reduceDIte, ↓reduceIte, zero_add, add_zero, Finset.sum_const_zero, and_true, and_false, true_and, false_and, and_self]
  all_goals exact (Ideal.scalar_sitofp_def (φ := .f32) (0#32)).trans (by norm_num)

theorem v71_fun : val_main_v71 (F := Ideal) X D W = fun y => out X D W (y 0) (y 1) := by
  funext y
  idx_vars y
  exact v71_at X D W y0 y1

theorem v72_fun : val_main_v72 (F := Ideal) X D = fun y => ∑ n : Fin 8192, dwt X D (y 0) (y 1) n := by
  funext y
  idx_vars y
  exact v72_at X D y0 y1

end Cert.ConvReferenceIdeal.Val

end
-- ==== Proof.ConvPair.lean ====
/-  The convolution gate's backward call and its reference: both frames and the value claim. -/
module

public import proofs.«01_k».proof.Defs
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.ConvKernelIdeal.Value
public import proofs.«01_k».proof.Proof.ConvRef
public import Idealize.ShloMosaic.Lib.Claim

@[expose] public section

set_option maxRecDepth 16384

noncomputable section

open Idealize.ShloMosaic Idealize.ShloMosaic.TcCoe Idealize.SL.Sem

namespace Cert.ConvPair

open Cert Cert.ConvMath

attribute [local instance] Cert.ConvKernel.Gen.facts Cert.ConvKernelIdeal.Gen.facts Cert.ConvReferenceIdeal.Gen.facts

theorem frameK : quiescent_ConvKernel := fun m ρ _ => Cert.ConvKernel.Gen.frame m ρ
theorem frameI : quiescent_ConvKernelIdeal := fun m ρ _ => Cert.ConvKernelIdeal.Gen.frame m ρ
theorem frameR : quiescent_ConvReferenceIdeal := fun m ρ _ =>
  (θ_run Cert.ConvReferenceIdeal.defs _ _).mono (fun r h => ⟨fun c => (h c).2.2, sem_eq_zero_of_no_sems (by decide) r.2⟩)
    (Cert.ConvReferenceIdeal.Value.run (F := Ideal) m ρ)

theorem value : algebraic_ConvKernelIdeal_ConvReferenceIdeal := by
  pair_intro
  · run_from Cert.ConvKernelIdeal.Value.run_blocks m g
  · run_from Cert.ConvReferenceIdeal.Value.run m' g'
    · exact (Cert.ConvReferenceIdeal.Read.val_main_v71_eq m' c).trans (by
        rw [(hagree c).1, (hagree c).2.1, (hagree c).2.2]; exact (Cert.ConvReferenceIdeal.Val.v71_fun _ _ _).trans (Cert.ConvKernelIdeal.Val.final9 m c).symm)
    · exact (Cert.ConvReferenceIdeal.Read.val_main_v72_eq _ _).trans ((Cert.ConvReferenceIdeal.Val.v72_fun _ _).trans (Cert.ConvKernelIdeal.Val.final10 m c).symm)

end Cert.ConvPair

end
-- ==== Proof.RealKit.lean ====
/-  Facts about the extended reals that the norm gradients need: a positive real factor distributes over every sum,
    and the gradient of the root-mean-square norm as the calls write it is the transposed forward lines' one, at every argument. -/
module

public import Idealize.ShloMosaic.PureOps.Ideal
public import Idealize.ShloMosaic.Lib.Pointwise

@[expose] public section

noncomputable section

open Idealize.ShloMosaic

namespace Cert.RealKit

/-- A positive real factor distributes over a sum, infinite summands included. -/
theorem coe_mul_add (c : ℝ) (hc : 0 < c) (a b : EReal) : (c : EReal) * (a + b) = (c : EReal) * a + (c : EReal) * b := by
  induction a <;> induction b
  all_goals first
    | (simp only [EReal.bot_add, EReal.add_bot, EReal.coe_mul_bot_of_pos hc, EReal.coe_mul_top_of_pos hc, EReal.top_add_top, EReal.top_add_coe, EReal.coe_add_top]; done)
    | (rw [← EReal.coe_add, ← EReal.coe_mul, ← EReal.coe_mul, ← EReal.coe_mul, ← EReal.coe_add, mul_add])
    | (simp only [EReal.coe_add_top, EReal.top_add_coe, EReal.coe_mul_top_of_pos hc, ← EReal.coe_mul])

theorem coe_mul_sum (c : ℝ) (hc : 0 < c) {ι : Type*} (s : Finset ι) (f : ι → EReal) : (c : EReal) * ∑ i ∈ s, f i = ∑ i ∈ s, (c : EReal) * f i := by
  classical
  induction s using Finset.induction_on with
  | empty => simp
  | insert i s hi ih => rw [Finset.sum_insert hi, Finset.sum_insert hi, coe_mul_add c hc, ih]

theorem add_self (a : EReal) : a + a = ((2 : ℝ) : EReal) * a := by
  induction a
  · rw [EReal.coe_mul_bot_of_pos (by norm_num)]; rfl
  · rw [← EReal.coe_add, ← EReal.coe_mul, two_mul]
  · rw [EReal.coe_mul_top_of_pos (by norm_num)]; rfl

theorem mul_self_nonneg (a : EReal) : 0 ≤ a * a := by
  induction a
  · simp
  · rw [← EReal.coe_mul]; exact_mod_cast _root_.mul_self_nonneg _
  · simp

/-- The mean square plus a positive constant. -/
def msq (n e : ℝ) {k : ℕ} (x : Fin k → EReal) : EReal := Ideal.div (∑ j, x j * x j) (n : EReal) + (e : EReal)

theorem msq_cases (n e : ℝ) (hn : 0 < n) (he : 0 < e) {k : ℕ} (x : Fin k → EReal) : msq n e x = ⊤ ∨ ∃ μ : ℝ, 0 < μ ∧ msq n e x = (μ : EReal) := by
  have h : (0 : EReal) ≤ ∑ j, x j * x j := Finset.sum_nonneg fun j _ => mul_self_nonneg _
  unfold msq
  generalize (∑ j, x j * x j) = s at h
  rw [Ideal.div_coe hn.ne']
  induction s
  · simp at h
  · next r =>
    right
    have hr : 0 ≤ r := by exact_mod_cast h
    refine ⟨r * (1 / n) + e, by positivity, ?_⟩
    rw [EReal.coe_add, EReal.coe_mul]
  · left
    rw [EReal.top_mul_coe_of_pos (by positivity)]; simp

/-- The norm's gradient as the calls write it, … -/
def dxK (n e : ℝ) {k : ℕ} (x u : Fin k → EReal) (j : Fin k) : EReal :=
  Ideal.rsqrt (msq n e x) * (u j - x j * Ideal.rsqrt (msq n e x) * Ideal.div (∑ i, u i * (x i * Ideal.rsqrt (msq n e x))) (n : EReal))

/-- … and the one factor of the transposed forward lines. -/
def back (n e : ℝ) {k : ℕ} (x u : Fin k → EReal) : EReal :=
  Ideal.div ((∑ i, x i * u i) * (((-(1 / 2) : ℝ) : EReal) * Ideal.div (Ideal.rsqrt (msq n e x)) (msq n e x))) (n : EReal)

theorem dx_eq (n e : ℝ) (hn : 0 < n) (he : 0 < e) {k : ℕ} (x u : Fin k → EReal) (j : Fin k) :
    dxK n e x u j = u j * Ideal.rsqrt (msq n e x) + x j * back n e x u + back n e x u * x j := by
  unfold dxK back
  rcases msq_cases n e hn he x with h | ⟨μ, hμ, h⟩
  · simp only [h, Ideal.rsqrt_top, mul_zero, zero_mul, Ideal.div_coe hn.ne', Finset.sum_const_zero]
    simp [Ideal.div]
  · simp only [h, Ideal.rsqrt_coe, if_neg hμ.not_gt, if_neg hμ.ne', Ideal.div_coe hn.ne', Ideal.div_coe hμ.ne']
    have hρ : 0 < (Real.sqrt μ)⁻¹ := by positivity
    have h2 : (Real.sqrt μ)⁻¹ * (Real.sqrt μ)⁻¹ = 1 / μ := by
      rw [← mul_inv, Real.mul_self_sqrt hμ.le, one_div]
    generalize (Real.sqrt μ)⁻¹ = ρ at *
    have hs : ∑ i, u i * (x i * (ρ : EReal)) = (ρ : EReal) * ∑ i, x i * u i := by
      rw [coe_mul_sum ρ hρ]
      exact Finset.sum_congr rfl fun i _ => by rw [mul_comm (x i), mul_left_comm, mul_comm (u i)]
    rw [hs]
    generalize (∑ i, x i * u i) = S
    rw [sub_eq_add_neg, coe_mul_add ρ hρ, mul_comm (u j), add_assoc]
    congr 1
    rw [mul_comm (x j) (_ * _), add_self, ← h2]
    have e1 : (ρ : EReal) * -(x j * ρ * (ρ * S * ((1 / n : ℝ) : EReal))) = ((-(ρ * ρ * ρ * (1 / n)) : ℝ) : EReal) * (S * x j) := by
      rw [EReal.coe_neg, EReal.coe_mul, EReal.coe_mul, EReal.coe_mul, EReal.neg_mul, mul_neg]
      congr 1
      ac_rfl
    rw [e1]
    have e2 : -(ρ * ρ * ρ * (1 / n)) = 2 * (-(1 / 2) * (ρ * (ρ * ρ)) * (1 / n)) := by ring
    rw [e2]
    simp only [EReal.coe_mul]
    ac_rfl

end Cert.RealKit

end
-- ==== Proof.Consts.lean ====
/-  The printed float constants the value proofs read, each as the real number its word stands for. -/
module

public import Idealize.ShloMosaic.PureOps.Ideal
public import Idealize.ShloMosaic.Lib.Pointwise

@[expose] public section

noncomputable section

open Idealize.ShloMosaic

namespace Cert.Consts

theorem c2048 : Ideal.ofBits .f32 0x45000000#32 = ((2048 : ℝ) : EReal) := by simp [Ideal.ofBits, Ideal.ieee, -EReal.coe_mul]; norm_num
theorem cmhalf : Ideal.ofBits .f32 0xBF000000#32 = ((-(1 / 2) : ℝ) : EReal) := by simp [Ideal.ofBits, Ideal.ieee, -EReal.coe_mul]; norm_num
theorem chalf : Ideal.ofBits .f32 0x3F000000#32 = ((1 / 2 : ℝ) : EReal) := by simp [Ideal.ofBits, Ideal.ieee, -EReal.coe_mul]; norm_num
theorem ctwo : Ideal.ofBits .f32 0x40000000#32 = ((2 : ℝ) : EReal) := by simp [Ideal.ofBits, Ideal.ieee, -EReal.coe_mul]; norm_num
theorem cfour : Ideal.ofBits .f32 0x40800000#32 = ((4 : ℝ) : EReal) := by simp [Ideal.ofBits, Ideal.ieee, -EReal.coe_mul]; norm_num
theorem cone : Ideal.ofBits .f32 0x3F800000#32 = ((1 : ℝ) : EReal) := by simp [Ideal.ofBits, Ideal.ieee, -EReal.coe_mul]; norm_num
theorem cinv2048 : Ideal.ofBits .f32 0x3A000000#32 = ((1 / 2048 : ℝ) : EReal) := by simp [Ideal.ofBits, Ideal.ieee, -EReal.coe_mul]; norm_num

/-- The root-mean-square norm's added constant, as its word has it. -/
def epsR : ℝ := 8796093 / 2 ^ 43
theorem epsR_pos : 0 < epsR := by unfold epsR; positivity
theorem ceps : Ideal.ofBits .f32 0x358637BD#32 = (epsR : EReal) := by simp [Ideal.ofBits, Ideal.ieee, -EReal.coe_mul, epsR]; norm_num

/-- The layer norm's. -/
def epsL : ℝ := 2748779 / 2 ^ 38
theorem epsL_pos : 0 < epsL := by unfold epsL; positivity
theorem cepsL : Ideal.ofBits .f32 0x3727C5AC#32 = (epsL : EReal) := by simp [Ideal.ofBits, Ideal.ieee, -EReal.coe_mul, epsL]; norm_num

theorem cinf32 : Ideal.ofBits .f32 0x7F800000#32 = (⊤ : EReal) := by simp [Ideal.ofBits, Ideal.ieee]
theorem cninf32 : Ideal.ofBits .f32 0xFF800000#32 = (⊥ : EReal) := by simp [Ideal.ofBits, Ideal.ieee]
/-- One over the square root of 512, as its word has it. -/
theorem csc : Ideal.ofBits .f32 0x3D3504F3#32 = ((11863283 / 2 ^ 28 : ℝ) : EReal) := by simp [Ideal.ofBits, Ideal.ieee, -EReal.coe_mul]; norm_num
theorem cinf16 : Ideal.ofBits .bf16 0x7F80#16 = (⊤ : EReal) := by simp [Ideal.ofBits, Ideal.ieee]

end Cert.Consts

end
-- ==== Proof.RmsVal.lean ====
/-  The norm's backward call beside its residual: what its three result arrays hold after the run, as functions of the arguments. -/
module

public import proofs.«01_k».proof.Proof.Gen.RmsKernelIdeal.Value
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsMath

open Cert.RealKit Cert.Consts

abbrev TX := FVec Ideal ⟨2, ![8192, 2048]⟩ .f32
abbrev TG := FVec Ideal ⟨1, ![2048]⟩ .f32
abbrev TD := FVec Ideal ⟨2, ![8192, 2048]⟩ .bf16

/-- The norm's gradient plus the residual's cotangent. -/
def dx (x : TX) (g : TG) (d : TD) (q : TX) (n : Fin 8192) (j : Fin 2048) : EReal :=
  dxK 2048 epsR (fun i => x (ix2 n i)) (fun i => d (ix2 n i) * g (ix1 i)) j + q (ix2 n j)

/-- What row `n` adds to the gain's gradient. -/
def dg (x : TX) (d : TD) (j : Fin 2048) (n : ℕ) : EReal :=
  if h : n < 8192 then d (ix2 ⟨n, h⟩ j) * (x (ix2 ⟨n, h⟩ j) * Ideal.rsqrt (msq 2048 epsR fun i => x (ix2 ⟨n, h⟩ i))) else 0

end Cert.RmsMath

namespace Cert.RmsKernelIdeal.Val

open Cert.RmsKernelIdeal Cert.RmsKernelIdeal.Gen Cert.RealKit Cert.Consts Cert.RmsMath

variable (m : (ℓ : Loc nD τ sig) → Buf (Elt Ideal) ℓ)

theorem idx : ∀ t : Fin cfg0.N, win0_0.index t = ![t.val, 0] ∧ win0_1.index t = ![0, 0] ∧ win0_2.index t = ![t.val, 0]
  ∧ win0_3.index t = ![t.val, 0] ∧ win0_4.index t = ![t.val, 0] ∧ win0_5.index t = ![t.val, 0] ∧ win0_6.index t = ![0, 0] ∧ t.val < 32 :=
  (by decide +kernel : ∀ t : Fin grid0.N, _)

abbrev aX (c : Dev nD) : TX := m ((c : Thread nD τ).loc main_arg0)
abbrev aG (c : Dev nD) : TG := m ((c : Thread nD τ).loc main_arg1)
abbrev aD (c : Dev nD) : TD := m ((c : Thread nD τ).loc main_arg2)
abbrev aQ (c : Dev nD) : TX := m ((c : Thread nD τ).loc main_arg3)

theorem x_at (c : Dev nD) (t : Fin cfg0.N) (n : Fin 8192) (r : Fin 256) (hn : n.val = t.val * 256 + r.val) (j : Fin 2048) :
    (show EReal from iblk m c 0 t (ix2 r j)) = aX m c (ix2 n j) := by
  blk_ext [iblk, V, idx t]
theorem g_at (c : Dev nD) (t : Fin cfg0.N) (j : Fin 2048) :
    (show EReal from iblk m c 1 t (ix2 0 j)) = aG m c (ix1 j) := by
  blk_simp [iblk]
  entry_read
  have e : (((View.whole main_v0).slice (win0_1.rect t)).emb (ix2 0 j) : S1x2048.Idx) = ix2 0 j := by
    blk_ext [idx t]
  refine (congrArg (shapeCast (main_v0.ty.shape) (m (c, Proc.tc.devRef main_arg1)) shapeCasts_S2048_S1x2048) e).trans ?_
  show shapeCast S1x2048 _ _ _ = _
  pointwise []
theorem d_at (c : Dev nD) (t : Fin cfg0.N) (n : Fin 8192) (r : Fin 256) (hn : n.val = t.val * 256 + r.val) (j : Fin 2048) :
    (show EReal from iblk m c 2 t (ix2 r j)) = aD m c (ix2 n j) := by
  blk_ext [iblk, V, idx t]
theorem q_at (c : Dev nD) (t : Fin cfg0.N) (n : Fin 8192) (r : Fin 256) (hn : n.val = t.val * 256 + r.val) (j : Fin 2048) :
    (show EReal from iblk m c 3 t (ix2 r j)) = aQ m c (ix2 n j) := by
  blk_ext [iblk, V, idx t]

theorem pay6_at (x : Vec Ideal S256x2048 .f32) (g : Vec Ideal S1x2048 .f32) (d : Vec Ideal S256x2048 .bf16) (q : Vec Ideal S256x2048 .f32) (r : Fin 256) (j : Fin 2048) :
    k0_pay6 (F := Ideal) x g d q (ix2 r j) = dxK 2048 epsR (fun i => x (ix2 r i)) (fun i => d (ix2 r i) * g (ix2 0 i)) j + q (ix2 r j) := by
  pointwise [k0_pay6, k0_pay4, k0_pay3, k0_pay2]
  rw [c2048, ceps]; rfl

theorem pay5_at (x : Vec Ideal S256x2048 .f32) (d : Vec Ideal S256x2048 .bf16) (j : Fin 2048) :
    k0_pay5 (F := Ideal) x d (ix2 0 j) = ∑ r : Fin 256, d (ix2 r j) * (x (ix2 r j) * Ideal.rsqrt (msq 2048 epsR fun i => x (ix2 r i))) := by
  pointwise [k0_pay5, k0_pay4, k0_pay3, k0_pay2]
  rw [c2048, ceps]; rfl

theorem dx_at (c : Dev nD) (t : Fin cfg0.N) (r : Fin 256) (j : Fin 2048) (n : Fin 8192) (hn : n.val = t.val * 256 + r.val) :
    k0_pay6 (F := Ideal) (iblk m c 0 t) (iblk m c 1 t) (iblk m c 2 t) (iblk m c 3 t) (ix2 r j) = dx (aX m c) (aG m c) (aD m c) (aQ m c) n j := by
  refine (pay6_at _ _ _ _ r j).trans ?_
  unfold dx
  refine Ideal.add_congr ?_ (q_at m c t n r hn j)
  congr 1
  · exact funext fun i => x_at m c t n r hn i
  · exact funext fun i => Ideal.mul_congr (d_at m c t n r hn i) (g_at m c t i)

theorem dg_at (c : Dev nD) (t : Fin cfg0.N) (j : Fin 2048) :
    k0_pay5 (F := Ideal) (iblk m c 0 t) (iblk m c 2 t) (ix2 0 j) = ∑ r : Fin 256, dg (aX m c) (aD m c) j (t.val * 256 + r.val) := by
  refine (pay5_at _ _ j).trans (Finset.sum_congr rfl fun r _ => ?_)
  have ht := (idx t).2.2.2.2.2.2.2
  rw [dg, dif_pos (by omega)]
  refine Ideal.mul_congr (d_at m c t _ r rfl j) (Ideal.mul_congr (x_at m c t _ r rfl j) ?_)
  congr 2
  exact funext fun i => x_at m c t _ r rfl i

theorem o_at (c : Dev nD) (t : Fin cfg0.N) (y : S256x2048.Idx) (n : Fin 8192) (hn : n.val = t.val * 256 + (y 0).val) (j : Fin 2048) (hj : j.val = (y 1).val) :
    (show EReal from (outsAt0 m c t.val t.isLt).1 y) = dx (aX m c) (aG m c) (aD m c) (aQ m c) n j := by
  have ht := (idx t).2.2.2.2.2.2.2
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem ob_at (c : Dev nD) (t : Fin cfg0.N) (y : S256x2048.Idx) (n : Fin 8192) (hn : n.val = t.val * 256 + (y 0).val) (j : Fin 2048) (hj : j.val = (y 1).val) :
    (show EReal from (outsAt0 m c t.val t.isLt).2.1 y) = dx (aX m c) (aG m c) (aD m c) (aQ m c) n j := by
  have ht := (idx t).2.2.2.2.2.2.2
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem dg_A (c : Dev nD) (t : Fin cfg0.N) (h : t.val = 0) (r : Fin 1) (j : Fin 2048) :
    (show EReal from (outsAt0 m c t.val t.isLt).2.2 (ix2 r j)) = ∑ r : Fin 256, dg (aX m c) (aD m c) j (t.val * 256 + r.val) := by
  have ht := (idx t).2.2.2.2.2.2.2
  rw [outsAt0_A m c t (by omega) (by omega)]
  frame_out
  obtain rfl : r = 0 := Subsingleton.elim _ _
  exact dg_at m c t j

theorem dg_B (c : Dev nD) (t : Fin cfg0.N) (h : t.val ≠ 0) (r : Fin 1) (j : Fin 2048) :
    (show EReal from (outsAt0 m c t.val t.isLt).2.2 (ix2 r j)) = (show EReal from (outsAt0 m c (t.val - 1) (by omega)).2.2 (ix2 r j)) + ∑ r : Fin 256, dg (aX m c) (aD m c) j (t.val * 256 + r.val) := by
  have ht := (idx t).2.2.2.2.2.2.2
  rw [outsAt0_B m c t (by omega) (by omega)]
  frame_out
  pointwise [k0_pay1]
  obtain rfl : r = 0 := Subsingleton.elim _ _
  exact Ideal.add_congr rfl (dg_at m c t j)

theorem final6 (c : Dev nD) : (dats m 0 c).arrAt 6 cfg0.N = fun y => ∑ n : Fin 8192, dg (aX m c) (aD m c) (y 1) n := by
  refine (dats m 0 c).arrAt_eq_of_covers 6 _ (by decide +kernel) fun t hf y => ?_
  blk_simp
  rw [after0_6]
  rw [Pipeline.eq_sum_fin_of_reset_step_apply_of_flush (fun n h => (outsAt0 m c n h).2.2) 32 (fun _ => 0)
    (fun t (y : S1x2048.Idx) => (∑ r : Fin 256, dg (aX m c) (aD m c) (y 1) (t.val * 256 + r) : EReal))
    (fun t h j => by idx_vars j; rw [zero_add]; exact dg_A m c t (by have ht := (idx t).2.2.2.2.2.2.2; omega) j0 j1)
    (fun t h j => by idx_vars j; exact dg_B m c t (by omega) j0 j1)
    t ((flush0_6 t).mp hf) _, zero_add]
  refine Fin.sum_mul_add_congr fun s k hl => ?_
  have e : ∀ (l l' : Fin 2048) (n n' : ℕ), l = l' → n = n' → dg (aX m c) (aD m c) l n = dg (aX m c) (aD m c) l' n' := by
    rintro l _ n _ rfl rfl; rfl
  have ht := (idx t).2.2.2.2.2.2.2
  refine e _ _ _ _ (Fin.ext ?_) ?_
  · blk_simp [idx t]
  · show (32 * (t.val / 32) + s.val) * 256 + k.val = s.val * 256 + k.val
    omega

theorem final4 (c : Dev nD) : (dats m 0 c).arrAt 4 cfg0.N = fun y => dx (aX m c) (aG m c) (aD m c) (aQ m c) (y 0) (y 1) := by
  refine (dats m 0 c).arrAt_eq_of_covers 4 _ (by decide +kernel) fun t hf y => ?_
  blk_simp
  rw [after0_4]
  exact o_at m c t y _ (by blk_simp [idx t]) _ (by blk_simp [idx t])

theorem final5 (c : Dev nD) : (dats m 0 c).arrAt 5 cfg0.N = fun y => dx (aX m c) (aG m c) (aD m c) (aQ m c) (y 0) (y 1) := by
  refine (dats m 0 c).arrAt_eq_of_covers 5 _ (by decide +kernel) fun t hf y => ?_
  blk_simp
  rw [after0_5]
  exact ob_at m c t y _ (by blk_simp [idx t]) _ (by blk_simp [idx t])

end Cert.RmsKernelIdeal.Val

end
-- ==== Proof.RmsRef.lean ====
/-  The norm's gradient beside its residual as the reference states it, read element by element. -/
module

public import proofs.«01_k».proof.Proof.RmsVal
public import proofs.«01_k».proof.Proof.Gen.RmsReferenceIdeal.Read

@[expose] public section

set_option maxRecDepth 16384

noncomputable section

open Idealize.ShloMosaic Idealize.ShloMosaic.TcCoe Idealize.SL.Sem

namespace Cert.RmsReferenceIdeal.Val

open Cert.RmsReferenceIdeal Cert.RmsReferenceIdeal.Read Cert.RealKit Cert.Consts Cert.RmsMath

variable (x : TX) (g : TG) (d : TD) (q : TX)

theorem v37_fun : val_main_v37 (F := Ideal) x g d q = fun y => dx x g d q (y 0) (y 1) := by
  funext y
  idx_vars y
  pointwise [val_main_v37, val_main_v35, val_main_v28, val_main_v27, val_main_v21, val_main_v16, val_main_v20, val_main_v13, val_main_v26, val_main_v7, val_main_v6, val_main_v4, val_main_v2, val_main_v1, val_main_v0, val_main_cst, val_main_v3, val_main_cst_0, val_main_v5, val_main_cst_1, val_main_v34, val_main_v33, val_main_v32, val_main_v31, val_main_v29, val_main_v25, val_main_v24, val_main_v23, val_main_cst_5, val_main_v10, val_main_v9, val_main_cst_2, val_main_v8, val_main_v30, val_main_cst_6, val_main_cst_7, val_main_v36]
  simp only [Fin.sum_univ_one, c2048, ceps, cmhalf]
  rw [dx, dx_eq _ _ (by norm_num) epsR_pos, add_comm _ (q (ix2 y0 y1)), ← add_assoc, ← add_assoc]
  rfl

theorem v38_fun : val_main_v38 (F := Ideal) x g d q = fun y => dx x g d q (y 0) (y 1) := by
  unfold val_main_v38
  rw [v37_fun]
  funext y
  idx_vars y
  pointwise []

theorem v39_fun : val_main_v39 (F := Ideal) x d = fun y => ∑ n : Fin 8192, dg x d (y 1) n := by
  funext y
  idx_vars y
  pointwise [val_main_v39, val_main_v22, val_main_v19, val_main_v18, val_main_v17, val_main_v12, val_main_v11, val_main_v7, val_main_v6, val_main_v4, val_main_v2, val_main_v1, val_main_v0, val_main_cst, val_main_v3, val_main_cst_0, val_main_v5, val_main_cst_1, val_main_v16, val_main_cst_3, val_main_cst_4]
  simp only [Fin.sum_univ_one, c2048, ceps]
  refine Finset.sum_congr rfl fun n _ => ?_
  rw [dg, dif_pos n.isLt, mul_comm]
  rfl

end Cert.RmsReferenceIdeal.Val

end
-- ==== Proof.RmsPair.lean ====
/-  The norm's backward call beside its residual and its reference: the frames and the value claim. -/
module

public import proofs.«01_k».proof.Defs
public import proofs.«01_k».proof.Proof.Gen.RmsKernel.Frame
public import proofs.«01_k».proof.Proof.Gen.RmsKernelIdeal.Frame
public import proofs.«01_k».proof.Proof.Gen.RmsReferenceIdeal.Run
public import proofs.«01_k».proof.Proof.Gen.RmsReferenceIdeal.Read
public import proofs.«01_k».proof.Proof.Gen.RmsKernelIdeal.Value
public import proofs.«01_k».proof.Proof.RmsRef
public import Idealize.ShloMosaic.Lib.Claim

@[expose] public section

set_option maxRecDepth 16384

noncomputable section

open Idealize.ShloMosaic Idealize.ShloMosaic.TcCoe Idealize.SL.Sem

namespace Cert.RmsPair

open Cert Cert.RmsMath

attribute [local instance] Cert.RmsKernel.Gen.facts Cert.RmsKernelIdeal.Gen.facts Cert.RmsReferenceIdeal.Gen.facts

theorem frameK : quiescent_RmsKernel := fun m ρ _ => Cert.RmsKernel.Gen.frame m ρ
theorem frameI : quiescent_RmsKernelIdeal := fun m ρ _ => Cert.RmsKernelIdeal.Gen.frame m ρ
theorem frameR : quiescent_RmsReferenceIdeal := fun m ρ _ =>
  (θ_run Cert.RmsReferenceIdeal.defs _ _).mono (fun r h => ⟨fun c => (h c).2.2.2, sem_eq_zero_of_no_sems (by decide) r.2⟩)
    (Cert.RmsReferenceIdeal.Value.run (F := Ideal) m ρ)

theorem value : algebraic_RmsKernelIdeal_RmsReferenceIdeal := by
  pair_intro
  · run_from Cert.RmsKernelIdeal.Value.run_blocks m g
  · run_from Cert.RmsReferenceIdeal.Value.run m' g'
    · exact (Cert.RmsReferenceIdeal.Read.val_main_v37_eq _ _ _ _).trans ((Cert.RmsReferenceIdeal.Val.v37_fun _ _ _ _).trans (Cert.RmsKernelIdeal.Val.final4 m c).symm)
    · exact (Cert.RmsReferenceIdeal.Read.val_main_v38_eq m' c).trans (by
        rw [(hagree c).1, (hagree c).2.1, (hagree c).2.2.1, (hagree c).2.2.2]; exact (Cert.RmsReferenceIdeal.Val.v38_fun _ _ _ _).trans (Cert.RmsKernelIdeal.Val.final5 m c).symm)
    · exact (Cert.RmsReferenceIdeal.Read.val_main_v39_eq _ _).trans ((Cert.RmsReferenceIdeal.Val.v39_fun _ _).trans (Cert.RmsKernelIdeal.Val.final6 m c).symm)

end Cert.RmsPair

end
-- ==== Proof.MemVal.lean ====
/-  The memory norm's backward call (one point, no residual): what its three result arrays hold after the run, as functions of
    the arguments, and the reference's arrays read to the same functions. -/
module

public import proofs.«01_k».proof.Proof.Gen.MemKernelIdeal.Value
public import proofs.«01_k».proof.Proof.Gen.MemReferenceIdeal.Read
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemMath

open Cert.RealKit Cert.Consts

abbrev TX := FVec Ideal ⟨2, ![256, 2048]⟩ .f32
abbrev TG := FVec Ideal ⟨1, ![2048]⟩ .f32

/-- The norm's gradient. -/
def dx (x : TX) (g : TG) (d : TX) (n : Fin 256) (j : Fin 2048) : EReal :=
  dxK 2048 epsR (fun i => x (ix2 n i)) (fun i => d (ix2 n i) * g (ix1 i)) j

/-- The gain's gradient. -/
def dg (x d : TX) (j : Fin 2048) : EReal :=
  ∑ n : Fin 256, d (ix2 n j) * (x (ix2 n j) * Ideal.rsqrt (msq 2048 epsR fun i => x (ix2 n i)))

end Cert.MemMath

namespace Cert.MemKernelIdeal.Val

open Cert.MemKernelIdeal Cert.MemKernelIdeal.Gen Cert.RealKit Cert.Consts Cert.MemMath

variable (m : (ℓ : Loc nD τ sig) → Buf (Elt Ideal) ℓ)

theorem idx : ∀ t : Fin cfg0.N, win0_0.index t = ![0, 0] ∧ win0_1.index t = ![0, 0] ∧ win0_2.index t = ![0, 0]
  ∧ win0_3.index t = ![0, 0] ∧ win0_4.index t = ![0, 0] ∧ win0_5.index t = ![0, 0] :=
  (by decide +kernel : ∀ t : Fin grid0.N, _)

abbrev aX (c : Dev nD) : TX := m ((c : Thread nD τ).loc main_arg0)
abbrev aG (c : Dev nD) : TG := m ((c : Thread nD τ).loc main_arg1)
abbrev aD (c : Dev nD) : TX := m ((c : Thread nD τ).loc main_arg2)

theorem x_at (c : Dev nD) (t : Fin cfg0.N) (r : Fin 256) (j : Fin 2048) : (show EReal from iblk m c 0 t (ix2 r j)) = aX m c (ix2 r j) := by
  blk_ext [iblk, V, idx t]
theorem g_at (c : Dev nD) (t : Fin cfg0.N) (j : Fin 2048) : (show EReal from iblk m c 1 t (ix2 0 j)) = aG m c (ix1 j) := by
  blk_simp [iblk]
  entry_read
  have e : (((View.whole main_v0).slice (win0_1.rect t)).emb (ix2 0 j) : S1x2048.Idx) = ix2 0 j := by
    blk_ext [idx t]
  refine (congrArg (shapeCast (main_v0.ty.shape) (m (c, Proc.tc.devRef main_arg1)) shapeCasts_S2048_S1x2048) e).trans ?_
  show shapeCast S1x2048 _ _ _ = _
  pointwise []
theorem d_at (c : Dev nD) (t : Fin cfg0.N) (r : Fin 256) (j : Fin 2048) : (show EReal from iblk m c 2 t (ix2 r j)) = aD m c (ix2 r j) := by
  blk_ext [iblk, V, idx t]

theorem dx_at (c : Dev nD) (t : Fin cfg0.N) (r : Fin 256) (j : Fin 2048) :
    k0_pay4 (F := Ideal) (iblk m c 0 t) (iblk m c 1 t) (iblk m c 2 t) (ix2 r j) = dx (aX m c) (aG m c) (aD m c) r j := by
  have h (x : Vec Ideal S256x2048 .f32) (g : Vec Ideal S1x2048 .f32) (d : Vec Ideal S256x2048 .f32) :
      k0_pay4 (F := Ideal) x g d (ix2 r j) = dxK 2048 epsR (fun i => x (ix2 r i)) (fun i => d (ix2 r i) * g (ix2 0 i)) j := by
    pointwise [k0_pay4, k0_pay3, k0_pay2]
    rw [c2048, ceps]; rfl
  refine (h _ _ _).trans ?_
  unfold dx
  congr 1
  · exact funext fun i => x_at m c t r i
  · exact funext fun i => Ideal.mul_congr (d_at m c t r i) (g_at m c t i)

theorem dg_at (c : Dev nD) (t : Fin cfg0.N) (j : Fin 2048) :
    k0_pay5 (F := Ideal) (iblk m c 0 t) (iblk m c 2 t) (ix2 0 j) = dg (aX m c) (aD m c) j := by
  have h (x d : Vec Ideal S256x2048 .f32) :
      k0_pay5 (F := Ideal) x d (ix2 0 j) = ∑ r : Fin 256, d (ix2 r j) * (x (ix2 r j) * Ideal.rsqrt (msq 2048 epsR fun i => x (ix2 r i))) := by
    pointwise [k0_pay5, k0_pay3, k0_pay2]
    rw [c2048, ceps]; rfl
  refine (h _ _).trans (Finset.sum_congr rfl fun r _ => ?_)
  refine Ideal.mul_congr (d_at m c t r j) (Ideal.mul_congr (x_at m c t r j) ?_)
  congr 2
  exact funext fun i => x_at m c t r i

theorem final3 (c : Dev nD) : (dats m 0 c).arrAt 3 cfg0.N = fun y => dx (aX m c) (aG m c) (aD m c) (y 0) (y 1) := by
  refine (dats m 0 c).arrAt_eq_of_covers 3 _ (by decide +kernel) fun t hf y => ?_
  blk_simp
  rw [after0_3]
  unfold outsAt0
  frame_out
  change S256x2048.Idx at y
  idx_vars y
  refine (dx_at m c t y0 y1).trans ?_
  congr 1
  · exact Fin.ext (by blk_simp [idx t])
  · exact Fin.ext (by blk_simp [idx t])

theorem final4 (c : Dev nD) : (dats m 0 c).arrAt 4 cfg0.N = fun y => dx (aX m c) (aG m c) (aD m c) (y 0) (y 1) := by
  refine (dats m 0 c).arrAt_eq_of_covers 4 _ (by decide +kernel) fun t hf y => ?_
  blk_simp
  rw [after0_4]
  unfold outsAt0
  frame_out
  change S256x2048.Idx at y
  idx_vars y
  refine (dx_at m c t y0 y1).trans ?_
  congr 1
  · exact Fin.ext (by blk_simp [idx t])
  · exact Fin.ext (by blk_simp [idx t])

theorem final5 (c : Dev nD) : (dats m 0 c).arrAt 5 cfg0.N = fun y => dg (aX m c) (aD m c) (y 1) := by
  refine (dats m 0 c).arrAt_eq_of_covers 5 _ (by decide +kernel) fun t hf y => ?_
  blk_simp
  rw [after0_5]
  unfold outsAt0
  frame_out
  change S1x2048.Idx at y
  idx_vars y
  obtain rfl : y0 = 0 := Subsingleton.elim _ _
  refine (dg_at m c t y1).trans ?_
  congr 1
  exact Fin.ext (by blk_simp [idx t])

end Cert.MemKernelIdeal.Val

namespace Cert.MemReferenceIdeal.Val

open Cert.MemReferenceIdeal Cert.MemReferenceIdeal.Read Cert.RealKit Cert.Consts Cert.MemMath

variable (x : TX) (g : TG) (d : TX)

theorem v35_fun : val_main_v35 (F := Ideal) x g d = fun y => dx x g d (y 0) (y 1) := by
  funext y
  idx_vars y
  pointwise [val_main_v35, val_main_v33, val_main_v26, val_main_v20, val_main_v19, val_main_v13, val_main_v25, val_main_v7, val_main_v6, val_main_v4, val_main_v2, val_main_v1, val_main_v0, val_main_cst, val_main_v3, val_main_cst_0, val_main_v5, val_main_cst_1, val_main_v32, val_main_v31, val_main_v30, val_main_v29, val_main_v27, val_main_v24, val_main_v23, val_main_v22, val_main_cst_5, val_main_v10, val_main_v9, val_main_cst_2, val_main_v8, val_main_v28, val_main_cst_6, val_main_cst_7, val_main_v34]
  simp only [Fin.sum_univ_one, c2048, ceps, cmhalf]
  rw [dx, dx_eq _ _ (by norm_num) epsR_pos]
  rfl

theorem v36_fun : val_main_v36 (F := Ideal) x g d = fun y => dx x g d (y 0) (y 1) := by
  unfold val_main_v36
  rw [v35_fun]
  funext y
  idx_vars y
  pointwise []

theorem v37_fun : val_main_v37 (F := Ideal) x d = fun y => dg x d (y 1) := by
  funext y
  idx_vars y
  pointwise [val_main_v37, val_main_v21, val_main_v18, val_main_v17, val_main_v16, val_main_v12, val_main_v11, val_main_v7, val_main_v6, val_main_v4, val_main_v2, val_main_v1, val_main_v0, val_main_cst, val_main_v3, val_main_cst_0, val_main_v5, val_main_cst_1, val_main_cst_3, val_main_cst_4]
  simp only [Fin.sum_univ_one, c2048, ceps]
  refine Finset.sum_congr rfl fun n _ => ?_
  rw [mul_comm]
  rfl

end Cert.MemReferenceIdeal.Val

end
-- ==== Proof.MemPair.lean ====
/-  The memory norm's backward call and its reference: the frames and the value claim. -/
module

public import proofs.«01_k».proof.Defs
public import proofs.«01_k».proof.Proof.Gen.MemKernel.Frame
public import proofs.«01_k».proof.Proof.Gen.MemKernelIdeal.Frame
public import proofs.«01_k».proof.Proof.Gen.MemReferenceIdeal.Run
public import proofs.«01_k».proof.Proof.Gen.MemReferenceIdeal.Read
public import proofs.«01_k».proof.Proof.Gen.MemKernelIdeal.Value
public import proofs.«01_k».proof.Proof.MemVal
public import Idealize.ShloMosaic.Lib.Claim

@[expose] public section

set_option maxRecDepth 16384

noncomputable section

open Idealize.ShloMosaic Idealize.ShloMosaic.TcCoe Idealize.SL.Sem

namespace Cert.MemPair

open Cert

attribute [local instance] Cert.MemKernel.Gen.facts Cert.MemKernelIdeal.Gen.facts Cert.MemReferenceIdeal.Gen.facts

theorem frameK : quiescent_MemKernel := fun m ρ _ => Cert.MemKernel.Gen.frame m ρ
theorem frameI : quiescent_MemKernelIdeal := fun m ρ _ => Cert.MemKernelIdeal.Gen.frame m ρ
theorem frameR : quiescent_MemReferenceIdeal := fun m ρ _ =>
  (θ_run Cert.MemReferenceIdeal.defs _ _).mono (fun r h => ⟨fun c => (h c).2.2.2, sem_eq_zero_of_no_sems (by decide) r.2⟩)
    (Cert.MemReferenceIdeal.Value.run (F := Ideal) m ρ)

theorem value : algebraic_MemKernelIdeal_MemReferenceIdeal := by
  pair_intro
  · run_from Cert.MemKernelIdeal.Value.run_blocks m g
  · run_from Cert.MemReferenceIdeal.Value.run m' g'
    · exact (Cert.MemReferenceIdeal.Read.val_main_v35_eq _ _ _).trans ((Cert.MemReferenceIdeal.Val.v35_fun _ _ _).trans (Cert.MemKernelIdeal.Val.final3 m c).symm)
    · exact (Cert.MemReferenceIdeal.Read.val_main_v36_eq _ _ _).trans ((Cert.MemReferenceIdeal.Val.v36_fun _ _ _).trans (Cert.MemKernelIdeal.Val.final4 m c).symm)
    · exact (Cert.MemReferenceIdeal.Read.val_main_v37_eq _ _).trans ((Cert.MemReferenceIdeal.Val.v37_fun _ _).trans (Cert.MemKernelIdeal.Val.final5 m c).symm)

end Cert.MemPair

end
-- ==== Proof.LossVal.lean ====
/-  The loss head: what its four result arrays hold after the run, as functions of the arguments. -/
module

public import proofs.«01_k».proof.Proof.Gen.LossKernelIdeal.Frame
public import proofs.«01_k».proof.Proof.Gen.LossReferenceIdeal.Read
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossMath

open Cert.RealKit Cert.Consts

abbrev TX := FVec Ideal ⟨2, ![8192, 2048]⟩ .f32
abbrev TG := FVec Ideal ⟨1, ![2048]⟩ .f32

/-- The norm's result less the target. -/
def diff (x : TX) (g : TG) (t : TX) (n : Fin 8192) (j : Fin 2048) : EReal :=
  x (ix2 n j) * Ideal.rsqrt (msq 2048 epsR fun i => x (ix2 n i)) * g (ix1 j) - t (ix2 n j)

/-- The gradient of the loss with the state. -/
def dx (x : TX) (g : TG) (t : TX) (n : Fin 8192) (j : Fin 2048) : EReal :=
  dxK 2048 epsR (fun i => x (ix2 n i)) (fun i => diff x g t n i * ((1 / 2048 : ℝ) : EReal) * g (ix1 i)) j

/-- What row `n` adds to the gain's gradient, and to a lane of the squared error. -/
def dg (x : TX) (g : TG) (t : TX) (j : Fin 2048) (n : ℕ) : EReal :=
  if h : n < 8192 then diff x g t ⟨n, h⟩ j * ((1 / 2048 : ℝ) : EReal) * (x (ix2 ⟨n, h⟩ j) * Ideal.rsqrt (msq 2048 epsR fun i => x (ix2 ⟨n, h⟩ i))) else 0
def sqe (x : TX) (g : TG) (t : TX) (j : Fin 2048) (n : ℕ) : EReal :=
  if h : n < 8192 then diff x g t ⟨n, h⟩ j * diff x g t ⟨n, h⟩ j else 0

/-- The loss. -/
def loss (x : TX) (g : TG) (t : TX) : EReal :=
  Ideal.div (((1 / 2 : ℝ) : EReal) * ∑ j : Fin 2048, ∑ n : Fin 8192, sqe x g t j n) ((2048 : ℝ) : EReal)

end Cert.LossMath

namespace Cert.LossKernelIdeal.Val

open Cert.LossKernelIdeal Cert.LossKernelIdeal.Gen Cert.RealKit Cert.Consts Cert.LossMath

variable (m : (ℓ : Loc nD τ sig) → Buf (Elt Ideal) ℓ)

theorem idx : ∀ t : Fin cfg0.N, win0_0.index t = ![t.val, 0] ∧ win0_1.index t = ![0, 0] ∧ win0_2.index t = ![t.val, 0]
  ∧ win0_3.index t = ![t.val, 0] ∧ win0_4.index t = ![t.val, 0] ∧ win0_5.index t = ![0, 0] ∧ win0_6.index t = ![0, 0] ∧ t.val < 32 :=
  (by decide +kernel : ∀ t : Fin grid0.N, _)

theorem lt (t : Fin cfg0.N) : t.val < 32 := (idx t).2.2.2.2.2.2.2

abbrev aX (c : Dev nD) : TX := m ((c : Thread nD τ).loc main_arg0)
abbrev aG (c : Dev nD) : TG := m ((c : Thread nD τ).loc main_arg1)
abbrev aT (c : Dev nD) : TX := m ((c : Thread nD τ).loc main_arg2)

theorem x_at (c : Dev nD) (t : Fin cfg0.N) (n : Fin 8192) (r : Fin 256) (hn : n.val = t.val * 256 + r.val) (j : Fin 2048) :
    (show EReal from iblk m c 0 t (ix2 r j)) = aX m c (ix2 n j) := by
  blk_ext [iblk, V, idx t]
theorem t_at (c : Dev nD) (t : Fin cfg0.N) (n : Fin 8192) (r : Fin 256) (hn : n.val = t.val * 256 + r.val) (j : Fin 2048) :
    (show EReal from iblk m c 2 t (ix2 r j)) = aT m c (ix2 n j) := by
  blk_ext [iblk, V, idx t]
theorem g_at (c : Dev nD) (t : Fin cfg0.N) (j : Fin 2048) :
    (show EReal from iblk m c 1 t (ix2 0 j)) = aG m c (ix1 j) := by
  blk_simp [iblk]
  entry_read
  have e : (((View.whole main_v0).slice (win0_1.rect t)).emb (ix2 0 j) : S1x2048.Idx) = ix2 0 j := by
    blk_ext [idx t]
  refine (congrArg (shapeCast (main_v0.ty.shape) (m (c, Proc.tc.devRef main_arg1)) shapeCasts_S2048_S1x2048) e).trans ?_
  show shapeCast S1x2048 _ _ _ = _
  pointwise []

theorem diff_at (c : Dev nD) (t : Fin cfg0.N) (r : Fin 256) (j : Fin 2048) (n : Fin 8192) (hn : n.val = t.val * 256 + r.val) :
    k0_pay7 (F := Ideal) (iblk m c 0 t) (iblk m c 1 t) (iblk m c 2 t) (ix2 r j) = diff (aX m c) (aG m c) (aT m c) n j := by
  have h (x : Vec Ideal S256x2048 .f32) (g : Vec Ideal S1x2048 .f32) (t : Vec Ideal S256x2048 .f32) :
      k0_pay7 (F := Ideal) x g t (ix2 r j) = x (ix2 r j) * Ideal.rsqrt (msq 2048 epsR fun i => x (ix2 r i)) * g (ix2 0 j) - t (ix2 r j) := by
    pointwise [k0_pay7, k0_pay6]
    rw [c2048, ceps]; rfl
  refine (h _ _ _).trans ?_
  unfold diff
  refine congr (congrArg _ (Ideal.mul_congr (Ideal.mul_congr (x_at m c t n r hn j) ?_) (g_at m c t j))) (t_at m c t n r hn j)
  congr 2
  exact funext fun i => x_at m c t n r hn i

theorem pay8_at (c : Dev nD) (t : Fin cfg0.N) (r : Fin 256) (j : Fin 2048) (n : Fin 8192) (hn : n.val = t.val * 256 + r.val) :
    k0_pay8 (F := Ideal) (iblk m c 0 t) (iblk m c 1 t) (iblk m c 2 t) (ix2 r j) = diff (aX m c) (aG m c) (aT m c) n j * ((1 / 2048 : ℝ) : EReal) := by
  pointwise [k0_pay8]
  rw [cinv2048]
  exact Ideal.mul_congr (diff_at m c t r j n hn) rfl

theorem dx_at (c : Dev nD) (t : Fin cfg0.N) (r : Fin 256) (j : Fin 2048) (n : Fin 8192) (hn : n.val = t.val * 256 + r.val) :
    k0_pay11 (F := Ideal) (iblk m c 0 t) (iblk m c 1 t) (iblk m c 2 t) (ix2 r j) = dx (aX m c) (aG m c) (aT m c) n j := by
  have h (x : Vec Ideal S256x2048 .f32) (g : Vec Ideal S1x2048 .f32) (t : Vec Ideal S256x2048 .f32) :
      k0_pay11 (F := Ideal) x g t (ix2 r j) = dxK 2048 epsR (fun i => x (ix2 r i)) (fun i => k0_pay8 (F := Ideal) x g t (ix2 r i) * g (ix2 0 i)) j := by
    pointwise [k0_pay11, k0_pay10, k0_pay9, k0_pay6]
    rw [c2048, ceps]; rfl
  refine (h _ _ _).trans ?_
  unfold dx
  congr 1
  · exact funext fun i => x_at m c t n r hn i
  · exact funext fun i => Ideal.mul_congr (pay8_at m c t r i n hn) (g_at m c t i)

theorem dg_at (c : Dev nD) (t : Fin cfg0.N) (j : Fin 2048) :
    k0_pay1 (F := Ideal) (k0_pay12 (iblk m c 0 t) (iblk m c 1 t) (iblk m c 2 t)) (ix2 0 j) = ∑ r : Fin 256, dg (aX m c) (aG m c) (aT m c) j (t.val * 256 + r.val) := by
  have h (x : Vec Ideal S256x2048 .f32) (g : Vec Ideal S1x2048 .f32) (t : Vec Ideal S256x2048 .f32) :
      k0_pay1 (F := Ideal) (k0_pay12 x g t) (ix2 0 j) = ∑ r : Fin 256, k0_pay8 (F := Ideal) x g t (ix2 r j) * (x (ix2 r j) * Ideal.rsqrt (msq 2048 epsR fun i => x (ix2 r i))) := by
    pointwise [k0_pay1, k0_pay12, k0_pay10, k0_pay9]
    rw [c2048, ceps]; rfl
  refine (h _ _ _).trans (Finset.sum_congr rfl fun r _ => ?_)
  have ht := lt t
  rw [dg, dif_pos (by omega)]
  refine Ideal.mul_congr (pay8_at m c t r j _ rfl) (Ideal.mul_congr (x_at m c t _ r rfl j) ?_)
  congr 2
  exact funext fun i => x_at m c t _ r rfl i

theorem sq_at (c : Dev nD) (t : Fin cfg0.N) (j : Fin 2048) :
    k0_pay3 (F := Ideal) (k0_pay7 (iblk m c 0 t) (iblk m c 1 t) (iblk m c 2 t)) (ix2 0 j) = ∑ r : Fin 256, sqe (aX m c) (aG m c) (aT m c) j (t.val * 256 + r.val) := by
  pointwise [k0_pay3]
  refine Finset.sum_congr rfl fun r _ => ?_
  have ht := lt t
  rw [sqe, dif_pos (by omega)]
  exact Ideal.mul_congr (diff_at m c t r j _ rfl) (diff_at m c t r j _ rfl)

theorem o_at (c : Dev nD) (t : Fin cfg0.N) (y : S256x2048.Idx) (n : Fin 8192) (hn : n.val = t.val * 256 + (y 0).val) (j : Fin 2048) (hj : j.val = (y 1).val) :
    (show EReal from (outsAt0 m c t.val t.isLt).1 y) = dx (aX m c) (aG m c) (aT m c) n j := by
  have ht := lt t
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem final3 (c : Dev nD) : (dats m 0 c).arrAt 3 cfg0.N = fun y => dx (aX m c) (aG m c) (aT m c) (y 0) (y 1) := by
  refine (dats m 0 c).arrAt_eq_of_covers 3 _ (by decide +kernel) fun t hf y => ?_
  blk_simp
  rw [after0_3]
  exact o_at m c t y _ (by blk_simp [idx t]) _ (by blk_simp [idx t])

theorem ob_at (c : Dev nD) (t : Fin cfg0.N) (y : S256x2048.Idx) (n : Fin 8192) (hn : n.val = t.val * 256 + (y 0).val) (j : Fin 2048) (hj : j.val = (y 1).val) :
    (show EReal from (outsAt0 m c t.val t.isLt).2.1 y) = dx (aX m c) (aG m c) (aT m c) n j := by
  have ht := lt t
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem final4 (c : Dev nD) : (dats m 0 c).arrAt 4 cfg0.N = fun y => dx (aX m c) (aG m c) (aT m c) (y 0) (y 1) := by
  refine (dats m 0 c).arrAt_eq_of_covers 4 _ (by decide +kernel) fun t hf y => ?_
  blk_simp
  rw [after0_4]
  exact ob_at m c t y _ (by blk_simp [idx t]) _ (by blk_simp [idx t])

theorem dg_A (c : Dev nD) (t : Fin cfg0.N) (h : t.val = 0) (r : Fin 1) (j : Fin 2048) :
    (show EReal from (outsAt0 m c t.val t.isLt).2.2.1 (ix2 r j)) = ∑ r : Fin 256, dg (aX m c) (aG m c) (aT m c) j (t.val * 256 + r.val) := by
  have ht := lt t
  rw [outsAt0_A m c t (by omega) (by omega)]
  frame_out
  obtain rfl : r = 0 := Subsingleton.elim _ _
  exact dg_at m c t j

theorem dg_B (c : Dev nD) (t : Fin cfg0.N) (h : t.val ≠ 0) (r : Fin 1) (j : Fin 2048) :
    (show EReal from (outsAt0 m c t.val t.isLt).2.2.1 (ix2 r j)) = (show EReal from (outsAt0 m c (t.val - 1) (by omega)).2.2.1 (ix2 r j))
      + ∑ r : Fin 256, dg (aX m c) (aG m c) (aT m c) j (t.val * 256 + r.val) := by
  have ht := lt t
  rw [outsAt0_B m c t (by omega) (by omega)]
  frame_out
  pointwise [k0_pay4]
  obtain rfl : r = 0 := Subsingleton.elim _ _
  exact Ideal.add_congr rfl (dg_at m c t j)

theorem final5 (c : Dev nD) : (dats m 0 c).arrAt 5 cfg0.N = fun y => ∑ n : Fin 8192, dg (aX m c) (aG m c) (aT m c) (y 1) n := by
  refine (dats m 0 c).arrAt_eq_of_covers 5 _ (by decide +kernel) fun t hf y => ?_
  blk_simp
  rw [after0_5]
  rw [Pipeline.eq_sum_fin_of_reset_step_apply_of_flush (fun n h => (outsAt0 m c n h).2.2.1) 32 (fun _ => 0)
    (fun t (y : S1x2048.Idx) => (∑ r : Fin 256, dg (aX m c) (aG m c) (aT m c) (y 1) (t.val * 256 + r) : EReal))
    (fun t h j => by idx_vars j; rw [zero_add]; exact dg_A m c t (by have ht := lt t; omega) j0 j1)
    (fun t h j => by idx_vars j; exact dg_B m c t (by omega) j0 j1)
    t ((flush0_5 t).mp hf) _, zero_add]
  refine Fin.sum_mul_add_congr fun s k hl => ?_
  have e : ∀ (l l' : Fin 2048) (n n' : ℕ), l = l' → n = n' → dg (aX m c) (aG m c) (aT m c) l n = dg (aX m c) (aG m c) (aT m c) l' n' := by
    rintro l _ n _ rfl rfl; rfl
  have ht := lt t
  refine e _ _ _ _ (Fin.ext ?_) ?_
  · blk_simp [idx t]
  · show (32 * (t.val / 32) + s.val) * 256 + k.val = s.val * 256 + k.val
    omega

theorem sq_A (c : Dev nD) (t : Fin cfg0.N) (h : t.val = 0) (r : Fin 1) (j : Fin 2048) :
    (show EReal from (outsAt0 m c t.val t.isLt).2.2.2 (ix2 r j)) = ∑ r : Fin 256, sqe (aX m c) (aG m c) (aT m c) j (t.val * 256 + r.val) := by
  have ht := lt t
  rw [outsAt0_A m c t (by omega) (by omega)]
  frame_out
  obtain rfl : r = 0 := Subsingleton.elim _ _
  exact sq_at m c t j

theorem sq_B (c : Dev nD) (t : Fin cfg0.N) (h : t.val ≠ 0) (r : Fin 1) (j : Fin 2048) :
    (show EReal from (outsAt0 m c t.val t.isLt).2.2.2 (ix2 r j)) = (show EReal from (outsAt0 m c (t.val - 1) (by omega)).2.2.2 (ix2 r j))
      + ∑ r : Fin 256, sqe (aX m c) (aG m c) (aT m c) j (t.val * 256 + r.val) := by
  have ht := lt t
  rw [outsAt0_B m c t (by omega) (by omega)]
  frame_out
  pointwise [k0_pay5]
  obtain rfl : r = 0 := Subsingleton.elim _ _
  exact Ideal.add_congr rfl (sq_at m c t j)

theorem final6 (c : Dev nD) : (dats m 0 c).arrAt 6 cfg0.N = fun y => ∑ n : Fin 8192, sqe (aX m c) (aG m c) (aT m c) (y 1) n := by
  refine (dats m 0 c).arrAt_eq_of_covers 6 _ (by decide +kernel) fun t hf y => ?_
  blk_simp
  rw [after0_6]
  rw [Pipeline.eq_sum_fin_of_reset_step_apply_of_flush (fun n h => (outsAt0 m c n h).2.2.2) 32 (fun _ => 0)
    (fun t (y : S1x2048.Idx) => (∑ r : Fin 256, sqe (aX m c) (aG m c) (aT m c) (y 1) (t.val * 256 + r) : EReal))
    (fun t h j => by idx_vars j; rw [zero_add]; exact sq_A m c t (by have ht := lt t; omega) j0 j1)
    (fun t h j => by idx_vars j; exact sq_B m c t (by omega) j0 j1)
    t ((flush0_6 t).mp hf) _, zero_add]
  refine Fin.sum_mul_add_congr fun s k hl => ?_
  have e : ∀ (l l' : Fin 2048) (n n' : ℕ), l = l' → n = n' → sqe (aX m c) (aG m c) (aT m c) l n = sqe (aX m c) (aG m c) (aT m c) l' n' := by
    rintro l _ n _ rfl rfl; rfl
  have ht := lt t
  refine e _ _ _ _ (Fin.ext ?_) ?_
  · blk_simp [idx t]
  · show (32 * (t.val / 32) + s.val) * 256 + k.val = s.val * 256 + k.val
    omega

end Cert.LossKernelIdeal.Val

namespace Cert.LossReferenceIdeal.Val

open Cert.LossReferenceIdeal Cert.LossReferenceIdeal.Read Cert.RealKit Cert.Consts Cert.LossMath

variable (x : TX) (g : TG) (t : TX)

/-- The loss's factor and the square's, together. -/
theorem half_two (a : EReal) : Ideal.div ((1 / 2 : ℝ) : EReal) ((2048 : ℝ) : EReal) * (((2 : ℝ) : EReal) * a) = a * ((1 / 2048 : ℝ) : EReal) := by
  rw [Ideal.div_coe (by norm_num), ← EReal.coe_mul, ← mul_assoc, ← EReal.coe_mul, mul_comm]
  norm_num

theorem v50_fun : val_main_v50 (F := Ideal) x g t = fun y => dx x g t (y 0) (y 1) := by
  funext y
  idx_vars y
  pointwise [val_main_v50, val_main_v48, val_main_v41, val_main_v35, val_main_v30, val_main_v29, val_main_v28, val_main_v26, val_main_v25, val_main_cst_8, val_main_cst_9, val_main_v27, val_main_cst_10, val_main_v19, val_main_v18, val_main_cst_3, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_v34, val_main_v40, val_main_v47, val_main_v46, val_main_v45, val_main_v44, val_main_v42, val_main_v39, val_main_v38, val_main_v37, val_main_cst_13, val_main_v10, val_main_v9, val_main_cst_2, val_main_v8, val_main_v43, val_main_cst_14, val_main_cst_15, val_main_v49]
  simp only [Fin.sum_univ_one, c2048, ceps, cmhalf, chalf, ctwo, half_two]
  rw [dx, dx_eq _ _ (by norm_num) epsR_pos]
  rfl

theorem v51_fun : val_main_v51 (F := Ideal) x g t = fun y => dx x g t (y 0) (y 1) := by
  unfold val_main_v51
  rw [v50_fun]
  funext y
  idx_vars y
  pointwise []

theorem v52_fun : val_main_v52 (F := Ideal) x g t = fun y => ∑ n : Fin 8192, dg x g t (y 1) n := by
  funext y
  idx_vars y
  pointwise [val_main_v52, val_main_v36, val_main_v33, val_main_v32, val_main_v31, val_main_v12, val_main_v11, val_main_v7, val_main_v6, val_main_v4, val_main_v2, val_main_v1, val_main_v0, val_main_cst, val_main_v3, val_main_cst_0, val_main_v5, val_main_cst_1, val_main_v30, val_main_v29, val_main_v28, val_main_v26, val_main_v25, val_main_cst_8, val_main_cst_9, val_main_v27, val_main_cst_10, val_main_v19, val_main_v18, val_main_cst_3, val_main_v16, val_main_v15, val_main_v14, val_main_v13, val_main_cst_11, val_main_cst_12]
  simp only [Fin.sum_univ_one, c2048, ceps, cmhalf, chalf, ctwo, half_two]
  refine Finset.sum_congr rfl fun n _ => ?_
  rw [dg, dif_pos n.isLt, mul_comm]
  rfl

theorem v24_fun : val_main_v24 (F := Ideal) x g t = fun _ => loss x g t := by
  funext y
  pointwise [val_main_v24, val_main_cst_7, val_main_v23, val_main_v22, val_main_v20, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_cst_4, val_main_v21, val_main_cst_5, val_main_cst_6]
  simp only [c2048, ceps, chalf]
  rw [loss]
  simp only [Ideal.div_coe (show (2048 : ℝ) ≠ 0 by norm_num)]
  rw [Finset.sum_comm, mul_assoc]
  congr 1
  rw [mul_comm _ ((1 / 2048 : ℝ) : EReal), coe_mul_sum _ (by norm_num)]
  refine Finset.sum_congr rfl fun n _ => ?_
  rw [mul_comm]
  congr 1
  refine Finset.sum_congr rfl fun j _ => ?_
  rw [sqe, dif_pos n.isLt]
  simp only [diff, msq, Ideal.div_coe (show (2048 : ℝ) ≠ 0 by norm_num)]

end Cert.LossReferenceIdeal.Val

end
-- ==== Proof.LossPair.lean ====
/-  The loss head and its reference: the frames and the value claim. -/
module

public import proofs.«01_k».proof.Defs
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.LossReferenceIdeal.Read
public import proofs.«01_k».proof.Proof.LossVal
public import Idealize.ShloMosaic.Lib.Claim

@[expose] public section

set_option maxRecDepth 16384

noncomputable section

open Idealize.ShloMosaic Idealize.ShloMosaic.TcCoe Idealize.SL.Sem

namespace Cert.LossPair

open Cert

attribute [local instance] Cert.LossKernel.Gen.facts Cert.LossKernelIdeal.Gen.facts Cert.LossReferenceIdeal.Gen.facts

theorem frameK : quiescent_LossKernel := fun m ρ _ => Cert.LossKernel.Gen.frame m ρ
theorem frameI : quiescent_LossKernelIdeal := fun m ρ _ => Cert.LossKernelIdeal.Gen.frame m ρ
theorem frameR : quiescent_LossReferenceIdeal := fun m ρ _ =>
  (θ_run Cert.LossReferenceIdeal.defs _ _).mono (fun r h => ⟨fun c => (h c).2.2.2.2, sem_eq_zero_of_no_sems (by decide) r.2⟩)
    (Cert.LossReferenceIdeal.Value.run (F := Ideal) m ρ)

open Cert.LossKernelIdeal Cert.LossKernelIdeal.Gen Cert.Consts in
/-- What the host lines after the grid make of the lanes: the loss. -/
theorem tail (m : (ℓ : Loc nD τ sig) → Buf (Elt Ideal) ℓ) (c : Dev nD) :
    Pipeline.afterTail₀ cfgs (dats m) 0 (V0 m) [hostOps1] c main_v4 =
      fun _ => Cert.LossMath.loss (Val.aX m c) (Val.aG m c) (Val.aT m c) := by
  have h : Pipeline.withArrays (cfgs 0).spec c (V0 m c) (fun w => (dats m 0 c).arrAt w (cfgs 0).N) (Proc.devRef .tc main_v1_3)
      = fun y => ∑ n : Fin 8192, Cert.LossMath.sqe (Val.aX m c) (Val.aG m c) (Val.aT m c) (y 1) n :=
    (Pipeline.withArrays_arr (cfgs 0).spec (by decide) c (V0 m c) (fun w => (dats m 0 c).arrAt w (cfgs 0).N) 6).trans (Val.final6 m c)
  unfold Pipeline.afterTail₀
  simp only [hostOps1, List.flatten_cons, List.flatten_nil, List.append_nil]
  after_results
  rw [h]
  funext y
  pointwise []
  simp only [Fin.sum_univ_one, c2048, chalf]
  rfl

theorem value : algebraic_LossKernelIdeal_LossReferenceIdeal := by
  pair_intro
  · run_from Cert.LossKernelIdeal.Gen.run_main m g
    all_goals exact Cert.LossKernelIdeal.Gen.W_main_arg1 m _ c
  · run_from Cert.LossReferenceIdeal.Value.run m' g'
    · exact (Cert.LossReferenceIdeal.Read.val_main_v50_eq m' c).trans (by
        rw [(hagree c).1, (hagree c).2.1, (hagree c).2.2]; exact ((Cert.LossReferenceIdeal.Val.v50_fun _ _ _).trans (Cert.LossKernelIdeal.Val.final3 m c).symm))
    · exact (Cert.LossReferenceIdeal.Read.val_main_v51_eq m' c).trans (by
        rw [(hagree c).1, (hagree c).2.1, (hagree c).2.2]; exact ((Cert.LossReferenceIdeal.Val.v51_fun _ _ _).trans (Cert.LossKernelIdeal.Val.final4 m c).symm))
    · exact (Cert.LossReferenceIdeal.Read.val_main_v52_eq _ _ _).trans ((Cert.LossReferenceIdeal.Val.v52_fun _ _ _).trans (Cert.LossKernelIdeal.Val.final5 m c).symm)
    · exact (Cert.LossReferenceIdeal.Read.val_main_v24_eq _ _ _).trans ((Cert.LossReferenceIdeal.Val.v24_fun _ _ _).trans (tail m c).symm)

end Cert.LossPair

end
-- ==== Proof.XdhVal.lean ====
/-  The query product's backward call fused with the norm's, beside its residual: what its three result arrays hold after the run, as functions of the arguments. -/
module

public import proofs.«01_k».proof.Proof.Gen.XdhKernelIdeal.Value
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.XdhMath

open Cert.RealKit Cert.Consts

abbrev TX := FVec Ideal ⟨2, ![8192, 2048]⟩ .f32
abbrev TG := FVec Ideal ⟨1, ![2048]⟩ .f32
abbrev TD := FVec Ideal ⟨2, ![8192, 2048]⟩ .bf16
abbrev TW := FVec Ideal ⟨2, ![2048, 2048]⟩ .f32

/-- The cotangent of the norm's result: the query's against the weight. -/
def dh (d : TD) (w : TW) (n : Fin 8192) (i : Fin 2048) : EReal := ∑ k : Fin 2048, d (ix2 n k) * w (ix2 i k)

/-- The norm's gradient plus the residual's cotangent. -/
def dx (d : TD) (w : TW) (x : TX) (g : TG) (q : TX) (n : Fin 8192) (j : Fin 2048) : EReal :=
  dxK 2048 epsR (fun i => x (ix2 n i)) (fun i => dh d w n i * g (ix1 i)) j + q (ix2 n j)

/-- What row `n` adds to the gain's gradient. -/
def dg (d : TD) (w : TW) (x : TX) (j : Fin 2048) (n : ℕ) : EReal :=
  if h : n < 8192 then dh d w ⟨n, h⟩ j * (x (ix2 ⟨n, h⟩ j) * Ideal.rsqrt (msq 2048 epsR fun i => x (ix2 ⟨n, h⟩ i))) else 0

end Cert.XdhMath

namespace Cert.XdhKernelIdeal.Val

open Cert.XdhKernelIdeal Cert.XdhKernelIdeal.Gen Cert.RealKit Cert.Consts Cert.XdhMath

variable (m : (ℓ : Loc nD τ sig) → Buf (Elt Ideal) ℓ)

theorem idx : ∀ t : Fin cfg0.N, win0_0.index t = ![t.val, 0] ∧ win0_1.index t = ![0, 0, 0] ∧ win0_2.index t = ![t.val, 0]
  ∧ win0_3.index t = ![0, 0] ∧ win0_4.index t = ![t.val, 0] ∧ win0_5.index t = ![t.val, 0] ∧ win0_6.index t = ![t.val, 0] ∧ win0_7.index t = ![0, 0] ∧ t.val < 16 :=
  (by decide +kernel : ∀ t : Fin grid0.N, _)

theorem lt (t : Fin cfg0.N) : t.val < 16 := (idx t).2.2.2.2.2.2.2.2

abbrev aD (c : Dev nD) : TD := m ((c : Thread nD τ).loc main_arg0)
abbrev aW (c : Dev nD) : TW := m ((c : Thread nD τ).loc main_arg1)
abbrev aX (c : Dev nD) : TX := m ((c : Thread nD τ).loc main_arg2)
abbrev aG (c : Dev nD) : TG := m ((c : Thread nD τ).loc main_arg3)
abbrev aQ (c : Dev nD) : TX := m ((c : Thread nD τ).loc main_arg4)

theorem d_at (c : Dev nD) (t : Fin cfg0.N) (n : Fin 8192) (r : Fin 512) (hn : n.val = t.val * 512 + r.val) (j : Fin 2048) :
    (show EReal from iblk m c 0 t (ix2 r j)) = aD m c (ix2 n j) := by
  blk_ext [iblk, V, idx t]
theorem x_at (c : Dev nD) (t : Fin cfg0.N) (n : Fin 8192) (r : Fin 512) (hn : n.val = t.val * 512 + r.val) (j : Fin 2048) :
    (show EReal from iblk m c 2 t (ix2 r j)) = aX m c (ix2 n j) := by
  blk_ext [iblk, V, idx t]
theorem q_at (c : Dev nD) (t : Fin cfg0.N) (n : Fin 8192) (r : Fin 512) (hn : n.val = t.val * 512 + r.val) (j : Fin 2048) :
    (show EReal from iblk m c 4 t (ix2 r j)) = aQ m c (ix2 n j) := by
  blk_ext [iblk, V, idx t]
theorem g_at (c : Dev nD) (t : Fin cfg0.N) (j : Fin 2048) :
    (show EReal from iblk m c 3 t (ix2 0 j)) = aG m c (ix1 j) := by
  blk_simp [iblk]
  entry_read
  have e : (((View.whole main_v2).slice (win0_3.rect t)).emb (ix2 0 j) : S1x2048.Idx) = ix2 0 j := by
    blk_ext [idx t]
  refine (congrArg (shapeCast (main_v2.ty.shape) (m (c, Proc.tc.devRef main_arg3)) shapeCasts_S2048_S1x2048) e).trans ?_
  show shapeCast S1x2048 _ _ _ = _
  pointwise []
theorem w_at (c : Dev nD) (t : Fin cfg0.N) (p : Fin 4) (r : Fin 512) (k : Fin 2048) (i : Fin 2048) (hi : i.val = p.val * 512 + r.val) :
    (show EReal from iblk m c 1 t (ix3 p r k)) = aW m c (ix2 i k) := by
  blk_simp [iblk]
  entry_read
  have e : (((View.whole main_v1).slice (win0_1.rect t)).emb (ix3 p r k) : S4x512x2048.Idx) = ix3 p r k := by
    blk_ext [idx t]
  refine (congrArg (shapeCast (main_v1.ty.shape) (truncf (F := Ideal) FTy.bf16 (m (c, Proc.tc.devRef main_arg1)) bitsLt_bf16_f32) shapeCasts_S2048x2048_S4x512x2048) e).trans ?_
  have h (W : FVec Ideal S2048x2048 .f32) : shapeCast S4x512x2048 (truncf (F := Ideal) FTy.bf16 W bitsLt_bf16_f32) shapeCasts_S2048x2048_S4x512x2048 (ix3 p r k) = W (ix2 i k) := by
    pointwise []
    blk_ext []
  exact h _

theorem pay3_at (c : Dev nD) (t : Fin cfg0.N) (r : Fin 512) (i : Fin 2048) (n : Fin 8192) (hn : n.val = t.val * 512 + r.val) :
    k0_pay3 (F := Ideal) (iblk m c 0 t) (iblk m c 1 t) (ix2 r i) = dh (aD m c) (aW m c) n i := by
  pointwise [k0_pay3]
  unfold dh
  exact Finset.sum_congr rfl fun k _ => Ideal.mul_congr (d_at m c t n r hn k) (w_at m c t _ _ k i (by show i.val = i.val / 512 * 512 + i.val % 512; omega))

theorem dx_at (c : Dev nD) (t : Fin cfg0.N) (r : Fin 512) (j : Fin 2048) (n : Fin 8192) (hn : n.val = t.val * 512 + r.val) :
    k0_pay7 (F := Ideal) (iblk m c 0 t) (iblk m c 1 t) (iblk m c 2 t) (iblk m c 3 t) (iblk m c 4 t) (ix2 r j) = dx (aD m c) (aW m c) (aX m c) (aG m c) (aQ m c) n j := by
  have h (d : Vec Ideal S512x2048 .bf16) (w : Vec Ideal S4x512x2048 .bf16) (x : Vec Ideal S512x2048 .f32) (g : Vec Ideal S1x2048 .f32) (q : Vec Ideal S512x2048 .f32) :
      k0_pay7 (F := Ideal) d w x g q (ix2 r j) = dxK 2048 epsR (fun i => x (ix2 r i)) (fun i => k0_pay3 (F := Ideal) d w (ix2 r i) * g (ix2 0 i)) j + q (ix2 r j) := by
    pointwise [k0_pay7, k0_pay5, k0_pay4]
    rw [c2048, ceps]; rfl
  refine (h _ _ _ _ _).trans ?_
  unfold dx
  refine Ideal.add_congr ?_ (q_at m c t n r hn j)
  congr 1
  · exact funext fun i => x_at m c t n r hn i
  · exact funext fun i => Ideal.mul_congr (pay3_at m c t r i n hn) (g_at m c t i)

theorem dg_at (c : Dev nD) (t : Fin cfg0.N) (j : Fin 2048) :
    k0_pay6 (F := Ideal) (iblk m c 0 t) (iblk m c 1 t) (iblk m c 2 t) (ix2 0 j) = ∑ r : Fin 512, dg (aD m c) (aW m c) (aX m c) j (t.val * 512 + r.val) := by
  have h (d : Vec Ideal S512x2048 .bf16) (w : Vec Ideal S4x512x2048 .bf16) (x : Vec Ideal S512x2048 .f32) :
      k0_pay6 (F := Ideal) d w x (ix2 0 j) = ∑ r : Fin 512, k0_pay3 (F := Ideal) d w (ix2 r j) * (x (ix2 r j) * Ideal.rsqrt (msq 2048 epsR fun i => x (ix2 r i))) := by
    pointwise [k0_pay6, k0_pay5, k0_pay4]
    rw [c2048, ceps]; rfl
  refine (h _ _ _).trans (Finset.sum_congr rfl fun r _ => ?_)
  have ht := lt t
  rw [dg, dif_pos (by omega)]
  refine Ideal.mul_congr (pay3_at m c t r j _ rfl) (Ideal.mul_congr (x_at m c t _ r rfl j) ?_)
  congr 2
  exact funext fun i => x_at m c t _ r rfl i

theorem o_at (c : Dev nD) (t : Fin cfg0.N) (y : S512x2048.Idx) (n : Fin 8192) (hn : n.val = t.val * 512 + (y 0).val) (j : Fin 2048) (hj : j.val = (y 1).val) :
    (show EReal from (outsAt0 m c t.val t.isLt).1 y) = dx (aD m c) (aW m c) (aX m c) (aG m c) (aQ m c) n j := by
  have ht := lt t
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem ob_at (c : Dev nD) (t : Fin cfg0.N) (y : S512x2048.Idx) (n : Fin 8192) (hn : n.val = t.val * 512 + (y 0).val) (j : Fin 2048) (hj : j.val = (y 1).val) :
    (show EReal from (outsAt0 m c t.val t.isLt).2.1 y) = dx (aD m c) (aW m c) (aX m c) (aG m c) (aQ m c) n j := by
  have ht := lt t
  idx_vars y
  obtain rfl : j = y1 := Fin.ext hj
  by_cases h : t.val = 0
  on_goal 1 => rw [outsAt0_A m c t (by omega) (by omega)]
  on_goal 2 => rw [outsAt0_B m c t (by omega) (by omega)]
  all_goals frame_out
  all_goals exact dx_at m c t y0 j n hn

theorem dg_A (c : Dev nD) (t : Fin cfg0.N) (h : t.val = 0) (r : Fin 1) (j : Fin 2048) :
    (show EReal from (outsAt0 m c t.val t.isLt).2.2 (ix2 r j)) = ∑ r : Fin 512, dg (aD m c) (aW m c) (aX m c) j (t.val * 512 + r.val) := by
  have ht := lt t
  rw [outsAt0_A m c t (by omega) (by omega)]
  frame_out
  obtain rfl : r = 0 := Subsingleton.elim _ _
  exact dg_at m c t j

theorem dg_B (c : Dev nD) (t : Fin cfg0.N) (h : t.val ≠ 0) (r : Fin 1) (j : Fin 2048) :
    (show EReal from (outsAt0 m c t.val t.isLt).2.2 (ix2 r j)) = (show EReal from (outsAt0 m c (t.val - 1) (by omega)).2.2 (ix2 r j)) + ∑ r : Fin 512, dg (aD m c) (aW m c) (aX m c) j (t.val * 512 + r.val) := by
  have ht := lt t
  rw [outsAt0_B m c t (by omega) (by omega)]
  frame_out
  pointwise [k0_pay2]
  obtain rfl : r = 0 := Subsingleton.elim _ _
  exact Ideal.add_congr rfl (dg_at m c t j)

theorem final7 (c : Dev nD) : (dats m 0 c).arrAt 7 cfg0.N = fun y => ∑ n : Fin 8192, dg (aD m c) (aW m c) (aX m c) (y 1) n := by
  refine (dats m 0 c).arrAt_eq_of_covers 7 _ (by decide +kernel) fun t hf y => ?_
  blk_simp
  rw [after0_7]
  rw [Pipeline.eq_sum_fin_of_reset_step_apply_of_flush (fun n h => (outsAt0 m c n h).2.2) 16 (fun _ => 0)
    (fun t (y : S1x2048.Idx) => (∑ r : Fin 512, dg (aD m c) (aW m c) (aX m c) (y 1) (t.val * 512 + r) : EReal))
    (fun t h j => by idx_vars j; rw [zero_add]; exact dg_A m c t (by have ht := lt t; omega) j0 j1)
    (fun t h j => by idx_vars j; exact dg_B m c t (by omega) j0 j1)
    t ((flush0_7 t).mp hf) _, zero_add]
  refine Fin.sum_mul_add_congr fun s k hl => ?_
  have e : ∀ (l l' : Fin 2048) (n n' : ℕ), l = l' → n = n' → dg (aD m c) (aW m c) (aX m c) l n = dg (aD m c) (aW m c) (aX m c) l' n' := by
    rintro l _ n _ rfl rfl; rfl
  have ht := lt t
  refine e _ _ _ _ (Fin.ext ?_) ?_
  · blk_simp [idx t]
  · show (16 * (t.val / 16) + s.val) * 512 + k.val = s.val * 512 + k.val
    omega

theorem final5 (c : Dev nD) : (dats m 0 c).arrAt 5 cfg0.N = fun y => dx (aD m c) (aW m c) (aX m c) (aG m c) (aQ m c) (y 0) (y 1) := by
  refine (dats m 0 c).arrAt_eq_of_covers 5 _ (by decide +kernel) fun t hf y => ?_
  blk_simp
  rw [after0_5]
  exact o_at m c t y _ (by blk_simp [idx t]) _ (by blk_simp [idx t])

theorem final6 (c : Dev nD) : (dats m 0 c).arrAt 6 cfg0.N = fun y => dx (aD m c) (aW m c) (aX m c) (aG m c) (aQ m c) (y 0) (y 1) := by
  refine (dats m 0 c).arrAt_eq_of_covers 6 _ (by decide +kernel) fun t hf y => ?_
  blk_simp
  rw [after0_6]
  exact ob_at m c t y _ (by blk_simp [idx t]) _ (by blk_simp [idx t])

end Cert.XdhKernelIdeal.Val

end
-- ==== Proof.XdhRef.lean ====
/-  The query product's gradient fused with the norm's as the reference states it, read element by element. -/
module

public import proofs.«01_k».proof.Proof.XdhVal
public import proofs.«01_k».proof.Proof.Gen.XdhReferenceIdeal.Read

@[expose] public section

set_option maxRecDepth 16384

noncomputable section

open Idealize.ShloMosaic Idealize.ShloMosaic.TcCoe Idealize.SL.Sem

namespace Cert.XdhReferenceIdeal.Val

open Cert.XdhReferenceIdeal Cert.XdhReferenceIdeal.Read Cert.RealKit Cert.Consts Cert.XdhMath

variable (d : TD) (w : TW) (x : TX) (g : TG) (q : TX)

theorem v20_at (n : Fin 8192) (i : Fin 2048) : val_main_v20 (F := Ideal) d w (ix2 n i) = dh d w n i := by
  pointwise [val_main_v20, val_main_v17]
  rfl

theorem v41_fun : val_main_v41 (F := Ideal) d w x g q = fun y => dx d w x g q (y 0) (y 1) := by
  funext y
  idx_vars y
  pointwise [val_main_v41, val_main_v39, val_main_v32, val_main_v31, val_main_v25, val_main_v24, val_main_v13, val_main_v30, val_main_v7, val_main_v6, val_main_v4, val_main_v2, val_main_v1, val_main_v0, val_main_cst, val_main_v3, val_main_cst_0, val_main_v5, val_main_cst_1, val_main_v38, val_main_v37, val_main_v36, val_main_v35, val_main_v33, val_main_v29, val_main_v28, val_main_v27, val_main_cst_5, val_main_v10, val_main_v9, val_main_cst_2, val_main_v8, val_main_v34, val_main_cst_6, val_main_cst_7, val_main_v40]
  simp only [Fin.sum_univ_one, c2048, ceps, v20_at, cmhalf]
  rw [dx, dx_eq _ _ (by norm_num) epsR_pos, add_comm _ (q (ix2 y0 y1)), ← add_assoc, ← add_assoc]
  rfl

theorem v42_fun : val_main_v42 (F := Ideal) d w x g q = fun y => dx d w x g q (y 0) (y 1) := by
  unfold val_main_v42
  rw [v41_fun]
  funext y
  idx_vars y
  pointwise []

theorem v43_fun : val_main_v43 (F := Ideal) d w x = fun y => ∑ n : Fin 8192, dg d w x (y 1) n := by
  funext y
  idx_vars y
  pointwise [val_main_v43, val_main_v26, val_main_v23, val_main_v22, val_main_v21, val_main_v12, val_main_v11, val_main_v7, val_main_v6, val_main_v4, val_main_v2, val_main_v1, val_main_v0, val_main_cst, val_main_v3, val_main_cst_0, val_main_v5, val_main_cst_1, val_main_cst_3, val_main_cst_4]
  simp only [Fin.sum_univ_one, c2048, ceps, v20_at]
  refine Finset.sum_congr rfl fun n _ => ?_
  rw [dg, dif_pos n.isLt, mul_comm]
  rfl

end Cert.XdhReferenceIdeal.Val

end
-- ==== Proof.XdhPair.lean ====
/-  The query product's backward call fused with the norm's and its reference: the frames and the value claim. -/
module

public import proofs.«01_k».proof.Defs
public import proofs.«01_k».proof.Proof.Gen.XdhKernel.Frame
public import proofs.«01_k».proof.Proof.Gen.XdhKernelIdeal.Frame
public import proofs.«01_k».proof.Proof.Gen.XdhReferenceIdeal.Run
public import proofs.«01_k».proof.Proof.Gen.XdhReferenceIdeal.Read
public import proofs.«01_k».proof.Proof.Gen.XdhKernelIdeal.Value
public import proofs.«01_k».proof.Proof.XdhRef
public import Idealize.ShloMosaic.Lib.Claim

@[expose] public section

set_option maxRecDepth 16384

noncomputable section

open Idealize.ShloMosaic Idealize.ShloMosaic.TcCoe Idealize.SL.Sem

namespace Cert.XdhPair

open Cert

attribute [local instance] Cert.XdhKernel.Gen.facts Cert.XdhKernelIdeal.Gen.facts Cert.XdhReferenceIdeal.Gen.facts

theorem frameK : quiescent_XdhKernel := fun m ρ _ => Cert.XdhKernel.Gen.frame m ρ
theorem frameI : quiescent_XdhKernelIdeal := fun m ρ _ => Cert.XdhKernelIdeal.Gen.frame m ρ
theorem frameR : quiescent_XdhReferenceIdeal := fun m ρ _ =>
  (θ_run Cert.XdhReferenceIdeal.defs _ _).mono (fun r h => ⟨fun c => (h c).2.2.2, sem_eq_zero_of_no_sems (by decide) r.2⟩)
    (Cert.XdhReferenceIdeal.Value.run (F := Ideal) m ρ)

theorem value : algebraic_XdhKernelIdeal_XdhReferenceIdeal := by
  pair_intro
  · run_from Cert.XdhKernelIdeal.Value.run_blocks m g
  · run_from Cert.XdhReferenceIdeal.Value.run m' g'
    · exact (Cert.XdhReferenceIdeal.Read.val_main_v41_eq m' c).trans (by
        rw [(hagree c).1, (hagree c).2.1, (hagree c).2.2.1, (hagree c).2.2.2.1, (hagree c).2.2.2.2]; exact ((Cert.XdhReferenceIdeal.Val.v41_fun _ _ _ _ _).trans (Cert.XdhKernelIdeal.Val.final5 m c).symm))
    · exact (Cert.XdhReferenceIdeal.Read.val_main_v42_eq m' c).trans (by
        rw [(hagree c).1, (hagree c).2.1, (hagree c).2.2.1, (hagree c).2.2.2.1, (hagree c).2.2.2.2]; exact ((Cert.XdhReferenceIdeal.Val.v42_fun _ _ _ _ _).trans (Cert.XdhKernelIdeal.Val.final6 m c).symm))
    · exact (Cert.XdhReferenceIdeal.Read.val_main_v43_eq _ _ _).trans ((Cert.XdhReferenceIdeal.Val.v43_fun _ _ _).trans (Cert.XdhKernelIdeal.Val.final7 m c).symm)

end Cert.XdhPair

end
-- ==== Proof.Finite.lean ====
/-  What a precondition of finite arrays says of their entries. -/
module

public import Idealize.ShloMosaic.PureOps.Ideal
public import Idealize.ShloMosaic.Lib.Pointwise
public import Idealize.ShloMosaic.Lib.ReduceAll
public import Idealize.ShloMosaic.Lib.Affine
public import proofs.«01_k».proof.Proof.Consts

@[expose] public section

noncomputable section

open Idealize.ShloMosaic

namespace Cert.Finite

/-- A number whose magnitude is below infinity is a real. -/
theorem real_of_abs_lt {x : EReal} (h : max x (-x) < ⊤) : x ≠ ⊤ ∧ x ≠ ⊥ := by
  refine ⟨?_, ?_⟩ <;> (rintro rfl; simp at h)

/-- An array whose entries all have a magnitude below infinity has neither infinity as an entry. -/
theorem of_all {s s0 : Shape} [Subsingleton s0.Idx] {φ : FTy} {w : BitVec φ.bits} (hw : Ideal.ofBits φ w = (⊤ : EReal)) (x : FVec Ideal s φ)
    {axes : List (Fin s.rank)} {dims : Fin s0.rank → Fin s.rank} {hb : s0.BroadcastsInDim s dims} {hr : s.ReducesTo axes s0} {hu : 0 < s0.numel} {j : s0.Idx}
    (h : Host.reduce IntOp.andi (cmpf .olt (Host.absf x) (broadcastInDim s dims hb (constant s0 φ w))) (constantI s0 1 1#1) hr hu j = 1#1)
    (i : s.Idx) : ∃ r : ℝ, x i = (r : EReal) := by
  have h1 := Host.reduce_andi_all _ _ hr hu j h i
  have h2 : BitVec.ofBool (decide (max (show EReal from x i) (-(show EReal from x i)) < Ideal.ofBits φ w)) = 1#1 := h1
  rw [hw] at h2
  have h3 : max (show EReal from x i) (-(show EReal from x i)) < ⊤ := by
    by_contra hn
    rw [decide_eq_false hn] at h2
    exact absurd h2 (by decide)
  have h4 := real_of_abs_lt h3
  exact ⟨EReal.toReal (x i), (EReal.coe_toReal h4.1 h4.2).symm⟩

theorem andi_one {a b : BitVec 1} (h : a &&& b = 1#1) : a = 1#1 ∧ b = 1#1 := by
  revert a b; decide

end Cert.Finite

end
-- ==== Proof.DswRun.lean ====
/-  The run of the gated unit's two calls, read at the results of the second. -/
module

public import proofs.«01_k».proof.Proof.Gen.DswKernelIdeal.Frame
public import Idealize.ShloMosaic.PureOps.Ideal

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DswKernelIdeal.Val

open Cert.DswKernelIdeal Cert.DswKernelIdeal.Gen

variable (m : (ℓ : Loc nD τ sig) → Buf (Elt Ideal) ℓ) (ρ : Dev nD → PrngReg)

set_option backward.isDefEq.respectTransparency.types false in
/-- The run of both calls: the two results hold what the backward call leaves, and the arguments are kept. -/
theorem run : θ_run (defs (F := Ideal)) (onTc (τ := τ) (main (F := Ideal))) ⟨m, fun _ => 0, ρ⟩ (fun r => ∀ c : Dev nD,
      r.2.mem ((c.tc : Thread nD τ).loc main_v6_0) = (dat1 (V2 m ρ) c).arrAt 4 cfg1.N
      ∧ r.2.mem ((c.tc : Thread nD τ).loc main_v6_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v6_0 (by decide))).trans (W3_arr m ρ c 4),
       (h c _ (mem_uc main_v6_1 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.DswKernelIdeal.Val

end
-- ==== Proof.DswVal.lean ====
/-  The gated unit's forward call followed by its backward call: what the two result arrays hold after the run, as functions of the arguments. -/
module

public import proofs.«01_k».proof.Proof.Gen.DswKernelIdeal.Frame
public import proofs.«01_k».proof.Proof.RealKit
public import proofs.«01_k».proof.Proof.Consts
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DswMath

open Cert.RealKit Cert.Consts

abbrev TH := FVec Ideal ⟨2, ![8192, 2048]⟩ .bf16
abbrev TW := FVec Ideal ⟨2, ![2048, 11264]⟩ .f32
abbrev TV := FVec Ideal ⟨2, ![5632, 2048]⟩ .f32

/-- The product with column `f` of the packed weight: the gate below 5632, the up projection from there on. -/
def pre (h : TH) (w : TW) (n : Fin 8192) (f : ℕ) : EReal := if hf : f < 11264 then ∑ k : Fin 2048, h (ix2 n k) * w (ix2 k ⟨f, hf⟩) else 0

/-- The cotangent of the activation. -/
def da (v : TV) (dy : TH) (n : Fin 8192) (f : ℕ) : EReal := if hf : f < 5632 then ∑ k : Fin 2048, dy (ix2 n k) * v (ix2 ⟨f, hf⟩ k) else 0

/-- The logistic function as the forward call has it. -/
def sg (x : EReal) : EReal := ((1 / 2 : ℝ) : EReal) * Ideal.tanh (((1 / 2 : ℝ) : EReal) * x) + ((1 / 2 : ℝ) : EReal)

/-- What the forward call saves for the gate's gradient, and for the up projection's. -/
def byGate (h : TH) (w : TW) (n : Fin 8192) (f : ℕ) : EReal :=
  pre h w n (5632 + f) * (sg (pre h w n f) * (((1 : ℝ) : EReal) + pre h w n f * (((1 : ℝ) : EReal) - sg (pre h w n f))))
def byUp (h : TH) (w : TW) (n : Fin 8192) (f : ℕ) : EReal := pre h w n f * sg (pre h w n f)

end Cert.DswMath

namespace Cert.DswKernelIdeal.Val

open Cert.DswKernelIdeal Cert.DswKernelIdeal.Gen Cert.RealKit Cert.Consts Cert.DswMath

variable (m : (ℓ : Loc nD τ sig) → Buf (Elt Ideal) ℓ) (ρ : Dev nD → PrngReg)

theorem idx0 : ∀ t : Fin cfg0.N, win0_0.index t = ![t.val % 32, 0] ∧ win0_1.index t = ![t.val / 32, 0, 0] ∧ win0_2.index t = ![t.val / 32 + 2, 0, 0]
  ∧ win0_3.index t = ![t.val % 32, t.val / 32] ∧ win0_4.index t = ![t.val % 32, t.val / 32] ∧ win0_5.index t = ![t.val % 32, t.val / 32] ∧ t.val < 64 :=
  (by decide +kernel : ∀ t : Fin grid0.N, _)
theorem idx1 : ∀ t : Fin cfg1.N, win1_0.index t = ![t.val % 32, 0] ∧ win1_1.index t = ![t.val / 32, 0, 0] ∧ win1_2.index t = ![t.val % 32, t.val / 32]
  ∧ win1_3.index t = ![t.val % 32, t.val / 32] ∧ win1_4.index t = ![t.val % 32, t.val / 32] ∧ win1_5.index t = ![t.val % 32, t.val / 32] ∧ t.val < 64 :=
  (by decide +kernel : ∀ t : Fin grid1.N, _)

abbrev aH (c : Dev nD) : TH := m ((c : Thread nD τ).loc main_arg0)
abbrev aW (c : Dev nD) : TW := m ((c : Thread nD τ).loc main_arg1)
abbrev aV (c : Dev nD) : TV := m ((c : Thread nD τ).loc main_arg2)
abbrev aY (c : Dev nD) : TH := m ((c : Thread nD τ).loc main_arg3)

theorem V1_h (c : Dev nD) : V1 m ρ c main_arg0 = aH m c := W1_args m ρ c main_arg0 (by decide)
theorem V1_w (c : Dev nD) : V1 m ρ c main_v2 = (transpose S4x2048x2816 [1, 0, 2] (shapeCast S2048x4x2816 (truncf (F := Ideal) .bf16 (aW m c) bitsLt_bf16_f32) shapeCasts_S2048x11264_S2048x4x2816) transposes_S2048x4x2816_S4x2048x2816_1_0_2 : FVec Ideal S4x2048x2816 .bf16) := by
  show StableHlo.after hostOps0 (W0 m ρ c) _ = _
  unfold hostOps0
  after_results
  rfl
theorem V1_v (c : Dev nD) : V1 m ρ c main_v4 = (shapeCast S4x1408x2048 (truncf (F := Ideal) .bf16 (aV m c) bitsLt_bf16_f32) shapeCasts_S5632x2048_S4x1408x2048 : FVec Ideal S4x1408x2048 .bf16) := by
  show StableHlo.after hostOps0 (W0 m ρ c) _ = _
  unfold hostOps0
  after_results
  rfl

theorem h_at (c : Dev nD) (t : Fin cfg0.N) (n : Fin 8192) (r : Fin 256) (hn : n.val = t.val % 32 * 256 + r.val) (j : Fin 2048) :
    (show EReal from iblk0 (V1 m ρ) c 0 t (ix2 r j)) = aH m c (ix2 n j) := by
  blk_simp [iblk0]
  rw [show V1 m ρ c (Pipeline.arrRef spec0 0) = aH m c from V1_h m ρ c]
  blk_ext [idx0 t]

theorem panel (W : TW) (p : Fin 4) (k : Fin 2048) (f : Fin 2816) (j : Fin 11264) (hj : j.val = p.val * 2816 + f.val) :
    (transpose S4x2048x2816 [1, 0, 2] (shapeCast S2048x4x2816 (truncf (F := Ideal) .bf16 W bitsLt_bf16_f32) shapeCasts_S2048x11264_S2048x4x2816) transposes_S2048x4x2816_S4x2048x2816_1_0_2 : FVec Ideal S4x2048x2816 .bf16) (ix3 p k f) = W (ix2 k j) := by
  pointwise []
  blk_ext []

theorem w1_at (c : Dev nD) (t : Fin cfg0.N) (k : Fin 2048) (f : Fin 2816) (j : Fin 11264) (hj : j.val = t.val / 32 * 2816 + f.val) :
    (show EReal from iblk0 (V1 m ρ) c 1 t (ix3 0 k f)) = aW m c (ix2 k j) := by
  have ht := (idx0 t).2.2.2.2.2.2
  blk_simp [iblk0]
  rw [show V1 m ρ c (Pipeline.arrRef spec0 1) = _ from V1_w m ρ c]
  have e : (((View.whole main_v2).slice (win0_1.rect t)).emb (ix3 0 k f) : S4x2048x2816.Idx) = ix3 (⟨t.val / 32, by omega⟩ : Fin 4) k f := by
    blk_ext [idx0 t]
  exact (congrArg _ e).trans (panel (aW m c) _ k f j hj)

theorem w2_at (c : Dev nD) (t : Fin cfg0.N) (k : Fin 2048) (f : Fin 2816) (j : Fin 11264) (hj : j.val = 5632 + t.val / 32 * 2816 + f.val) :
    (show EReal from iblk0 (V1 m ρ) c 2 t (ix3 0 k f)) = aW m c (ix2 k j) := by
  have ht := (idx0 t).2.2.2.2.2.2
  blk_simp [iblk0]
  rw [show V1 m ρ c (Pipeline.arrRef spec0 2) = _ from V1_w m ρ c]
  have e : (((View.whole main_v2).slice (win0_2.rect t)).emb (ix3 0 k f) : S4x2048x2816.Idx) = ix3 (⟨t.val / 32 + 2, by omega⟩ : Fin 4) k f := by
    blk_ext [idx0 t]
  exact (congrArg _ e).trans (panel (aW m c) _ k f j (by show j.val = (t.val / 32 + 2) * 2816 + f.val; omega))

theorem pay1_at (c : Dev nD) (t : Fin cfg0.N) (r : Fin 256) (f : Fin 2816) (n : Fin 8192) (hn : n.val = t.val % 32 * 256 + r.val) (e : ℕ) (he : e = t.val / 32 * 2816 + f.val) :
    k0_pay1 (F := Ideal) (iblk0 (V1 m ρ) c 0 t) (iblk0 (V1 m ρ) c 1 t) (ix2 r f) = pre (aH m c) (aW m c) n e := by
  have ht := (idx0 t).2.2.2.2.2.2
  pointwise [k0_pay1]
  rw [pre, dif_pos (show e < 11264 by omega)]
  exact Finset.sum_congr rfl fun k _ => Ideal.mul_congr (h_at m ρ c t n r hn k) (w1_at m ρ c t k f _ he)

theorem pay2_at (c : Dev nD) (t : Fin cfg0.N) (r : Fin 256) (f : Fin 2816) (n : Fin 8192) (hn : n.val = t.val % 32 * 256 + r.val) (e : ℕ) (he : e = t.val / 32 * 2816 + f.val) :
    k0_pay2 (F := Ideal) (iblk0 (V1 m ρ) c 0 t) (iblk0 (V1 m ρ) c 2 t) (ix2 r f) = pre (aH m c) (aW m c) n (5632 + e) := by
  have ht := (idx0 t).2.2.2.2.2.2
  pointwise [k0_pay2]
  rw [pre, dif_pos (show 5632 + e < 11264 by omega)]
  exact Finset.sum_congr rfl fun k _ => Ideal.mul_congr (h_at m ρ c t n r hn k) (w2_at m ρ c t k f _ (by show 5632 + e = _; omega))

theorem o3_at (c : Dev nD) (t : Fin cfg0.N) (y : S256x2816.Idx) (n : Fin 8192) (hn : n.val = t.val % 32 * 256 + (y 0).val) (e : ℕ) (he : e = t.val / 32 * 2816 + (y 1).val) :
    (show EReal from out0_3 (iblk0 (V1 m ρ) c 0 t) (iblk0 (V1 m ρ) c 1 t) (iblk0 (V1 m ρ) c 2 t) y) = byGate (aH m c) (aW m c) n e := by
  frame_out
  idx_vars y
  have h (x : Vec Ideal S256x2048 .bf16) (a b : Vec Ideal S1x2048x2816 .bf16) : k0_pay5 (F := Ideal) x a b (ix2 y0 y1)
      = k0_pay2 (F := Ideal) x b (ix2 y0 y1) * (sg (k0_pay1 (F := Ideal) x a (ix2 y0 y1)) * (((1 : ℝ) : EReal) + k0_pay1 (F := Ideal) x a (ix2 y0 y1) * (((1 : ℝ) : EReal) - sg (k0_pay1 (F := Ideal) x a (ix2 y0 y1))))) := by
    pointwise [k0_pay5, k0_pay3]
    rw [chalf, EReal.coe_one]; rfl
  refine (h _ _ _).trans ?_
  rw [pay1_at m ρ c t y0 y1 n hn _ he, pay2_at m ρ c t y0 y1 n hn _ he]
  rfl

theorem final3 (c : Dev nD) : (dat0 (V1 m ρ) c).arrAt 3 cfg0.N = (fun y => byGate (aH m c) (aW m c) (y 0) (y 1).val : FVec Ideal S8192x5632 .bf16) := by
  refine (dat0 (V1 m ρ) c).arrAt_eq_of_covers 3 _ (by decide +kernel) fun t hf y => ?_
  blk_simp
  rw [after0_3]
  exact o3_at m ρ c t y _ (by blk_simp [idx0 t]) _ (by blk_simp [idx0 t])

theorem o4_at (c : Dev nD) (t : Fin cfg0.N) (y : S256x2816.Idx) (n : Fin 8192) (hn : n.val = t.val % 32 * 256 + (y 0).val) (e : ℕ) (he : e = t.val / 32 * 2816 + (y 1).val) :
    (show EReal from out0_4 (iblk0 (V1 m ρ) c 0 t) (iblk0 (V1 m ρ) c 1 t) (iblk0 (V1 m ρ) c 2 t) y) = byUp (aH m c) (aW m c) n e := by
  frame_out
  idx_vars y
  have h (x : Vec Ideal S256x2048 .bf16) (a : Vec Ideal S1x2048x2816 .bf16) : k0_pay6 (F := Ideal) x a (ix2 y0 y1)
      = k0_pay1 (F := Ideal) x a (ix2 y0 y1) * sg (k0_pay1 (F := Ideal) x a (ix2 y0 y1)) := by
    pointwise [k0_pay6, k0_pay4, k0_pay3]
    rw [chalf]; rfl
  refine (h _ _).trans ?_
  rw [pay1_at m ρ c t y0 y1 n hn _ he]
  rfl

theorem final4 (c : Dev nD) : (dat0 (V1 m ρ) c).arrAt 4 cfg0.N = (fun y => byUp (aH m c) (aW m c) (y 0) (y 1).val : FVec Ideal S8192x5632 .bf16) := by
  refine (dat0 (V1 m ρ) c).arrAt_eq_of_covers 4 _ (by decide +kernel) fun t hf y => ?_
  blk_simp
  rw [after0_4]
  exact o4_at m ρ c t y _ (by blk_simp [idx0 t]) _ (by blk_simp [idx0 t])

/-! ### The backward call -/

theorem V2_bg (c : Dev nD) : V2 m ρ c main_v5_0 = (fun y => byGate (aH m c) (aW m c) (y 0) (y 1).val : FVec Ideal S8192x5632 .bf16) :=
  (hF0 m ρ c 3).symm.trans (final3 m ρ c)
theorem V2_bu (c : Dev nD) : V2 m ρ c main_v5_1 = (fun y => byUp (aH m c) (aW m c) (y 0) (y 1).val : FVec Ideal S8192x5632 .bf16) :=
  (hF0 m ρ c 4).symm.trans (final4 m ρ c)
theorem V2_y (c : Dev nD) : V2 m ρ c main_arg3 = aY m c := W2_args m ρ c main_arg3 (by decide)
theorem V2_v (c : Dev nD) : V2 m ρ c main_v4 = (shapeCast S4x1408x2048 (truncf (F := Ideal) .bf16 (aV m c) bitsLt_bf16_f32) shapeCasts_S5632x2048_S4x1408x2048 : FVec Ideal S4x1408x2048 .bf16) :=
  (W2_of m ρ c main_v4 (by decide)).trans (V1_v m ρ c)

theorem y_at (c : Dev nD) (t : Fin cfg1.N) (n : Fin 8192) (r : Fin 256) (hn : n.val = t.val % 32 * 256 + r.val) (j : Fin 2048) :
    (show EReal from iblk1 (V2 m ρ) c 0 t (ix2 r j)) = aY m c (ix2 n j) := by
  blk_simp [iblk1]
  rw [show V2 m ρ c (Pipeline.arrRef spec1 0) = aY m c from V2_y m ρ c]
  blk_ext [idx1 t]

theorem bg_at (c : Dev nD) (t : Fin cfg1.N) (n : Fin 8192) (r : Fin 256) (hn : n.val = t.val % 32 * 256 + r.val) (f : Fin 2816) (e : ℕ) (he : e = t.val / 32 * 2816 + f.val) :
    (show EReal from iblk1 (V2 m ρ) c 2 t (ix2 r f)) = byGate (aH m c) (aW m c) n e := by
  blk_simp [iblk1]
  rw [show V2 m ρ c (Pipeline.arrRef spec1 2) = _ from V2_bg m ρ c]
  have q : ∀ (n n' : Fin 8192) (e e' : ℕ), n = n' → e = e' → byGate (aH m c) (aW m c) n e = byGate (aH m c) (aW m c) n' e' := by
    rintro n _ e _ rfl rfl; rfl
  refine q _ _ _ _ (Fin.ext ?_) ?_ <;> blk_simp [idx1 t] <;> omega

theorem bu_at (c : Dev nD) (t : Fin cfg1.N) (n : Fin 8192) (r : Fin 256) (hn : n.val = t.val % 32 * 256 + r.val) (f : Fin 2816) (e : ℕ) (he : e = t.val / 32 * 2816 + f.val) :
    (show EReal from iblk1 (V2 m ρ) c 3 t (ix2 r f)) = byUp (aH m c) (aW m c) n e := by
  blk_simp [iblk1]
  rw [show V2 m ρ c (Pipeline.arrRef spec1 3) = _ from V2_bu m ρ c]
  have q : ∀ (n n' : Fin 8192) (e e' : ℕ), n = n' → e = e' → byUp (aH m c) (aW m c) n e = byUp (aH m c) (aW m c) n' e' := by
    rintro n _ e _ rfl rfl; rfl
  refine q _ _ _ _ (Fin.ext ?_) ?_ <;> blk_simp [idx1 t] <;> omega

theorem v_at (c : Dev nD) (t : Fin cfg1.N) (p : Fin 2) (r : Fin 1408) (k : Fin 2048) (i : Fin 5632) (hi : i.val = t.val / 32 * 2816 + p.val * 1408 + r.val) :
    (show EReal from iblk1 (V2 m ρ) c 1 t (ix3 p r k)) = aV m c (ix2 i k) := by
  have ht := (idx1 t).2.2.2.2.2.2
  blk_simp [iblk1]
  rw [show V2 m ρ c (Pipeline.arrRef spec1 1) = _ from V2_v m ρ c]
  have e : (((View.whole main_v4).slice (win1_1.rect t)).emb (ix3 p r k) : S4x1408x2048.Idx) = ix3 (⟨t.val / 32 * 2 + p.val, by omega⟩ : Fin 4) r k := by
    blk_ext [idx1 t]
  refine (congrArg _ e).trans ?_
  have h (W : TV) : shapeCast S4x1408x2048 (truncf (F := Ideal) .bf16 W bitsLt_bf16_f32) shapeCasts_S5632x2048_S4x1408x2048 (ix3 (⟨t.val / 32 * 2 + p.val, by omega⟩ : Fin 4) r k) = W (ix2 i k) := by
    pointwise []
    blk_ext []
  exact h _

theorem pay1'_at (c : Dev nD) (t : Fin cfg1.N) (r : Fin 256) (f : Fin 2816) (n : Fin 8192) (hn : n.val = t.val % 32 * 256 + r.val) (e : ℕ) (he : e = t.val / 32 * 2816 + f.val) :
    k1_pay1 (F := Ideal) (iblk1 (V2 m ρ) c 1 t) (iblk1 (V2 m ρ) c 0 t) (ix2 r f) = da (aV m c) (aY m c) n e * ((1 / 2 : ℝ) : EReal) := by
  have ht := (idx1 t).2.2.2.2.2.2
  pointwise [k1_pay1]
  rw [chalf, da, dif_pos (show e < 5632 by omega)]
  refine Ideal.mul_congr (Finset.sum_congr rfl fun k _ => Ideal.mul_congr (y_at m ρ c t n r hn k) (v_at m ρ c t _ _ k _ ?_)) rfl
  show e = t.val / 32 * 2816 + f.val / 1408 * 1408 + f.val % 1408
  omega

theorem o1_4_at (c : Dev nD) (t : Fin cfg1.N) (y : S256x2816.Idx) (n : Fin 8192) (hn : n.val = t.val % 32 * 256 + (y 0).val) (e : ℕ) (he : e = t.val / 32 * 2816 + (y 1).val) :
    (show EReal from out1_4 (iblk1 (V2 m ρ) c 0 t) (iblk1 (V2 m ρ) c 1 t) (iblk1 (V2 m ρ) c 2 t) (iblk1 (V2 m ρ) c 3 t) y) = da (aV m c) (aY m c) n e * ((1 / 2 : ℝ) : EReal) * byGate (aH m c) (aW m c) n e := by
  frame_out
  idx_vars y
  pointwise [k1_pay2]
  exact Ideal.mul_congr (pay1'_at m ρ c t y0 y1 n hn e he) (bg_at m ρ c t n y0 hn y1 e he)

theorem final1_4 (c : Dev nD) : (dat1 (V2 m ρ) c).arrAt 4 cfg1.N = (fun y => da (aV m c) (aY m c) (y 0) (y 1).val * ((1 / 2 : ℝ) : EReal) * byGate (aH m c) (aW m c) (y 0) (y 1).val : FVec Ideal S8192x5632 .bf16) := by
  refine (dat1 (V2 m ρ) c).arrAt_eq_of_covers 4 _ (by decide +kernel) fun t hf y => ?_
  blk_simp
  rw [after1_4]
  exact o1_4_at m ρ c t y _ (by blk_simp [idx1 t]) _ (by blk_simp [idx1 t])

theorem o1_5_at (c : Dev nD) (t : Fin cfg1.N) (y : S256x2816.Idx) (n : Fin 8192) (hn : n.val = t.val % 32 * 256 + (y 0).val) (e : ℕ) (he : e = t.val / 32 * 2816 + (y 1).val) :
    (show EReal from out1_5 (iblk1 (V2 m ρ) c 0 t) (iblk1 (V2 m ρ) c 1 t) (iblk1 (V2 m ρ) c 2 t) (iblk1 (V2 m ρ) c 3 t) y) = da (aV m c) (aY m c) n e * ((1 / 2 : ℝ) : EReal) * byUp (aH m c) (aW m c) n e := by
  frame_out
  idx_vars y
  pointwise [k1_pay3]
  exact Ideal.mul_congr (pay1'_at m ρ c t y0 y1 n hn e he) (bu_at m ρ c t n y0 hn y1 e he)

theorem final1_5 (c : Dev nD) : (dat1 (V2 m ρ) c).arrAt 5 cfg1.N = (fun y => da (aV m c) (aY m c) (y 0) (y 1).val * ((1 / 2 : ℝ) : EReal) * byUp (aH m c) (aW m c) (y 0) (y 1).val : FVec Ideal S8192x5632 .bf16) := by
  refine (dat1 (V2 m ρ) c).arrAt_eq_of_covers 5 _ (by decide +kernel) fun t hf y => ?_
  blk_simp
  rw [after1_5]
  exact o1_5_at m ρ c t y _ (by blk_simp [idx1 t]) _ (by blk_simp [idx1 t])

end Cert.DswKernelIdeal.Val

end
-- ==== Proof.DswRef.lean ====
/-  The gated unit's gradient as the reference states it, read element by element, at arguments that are reals. -/
module

public import proofs.«01_k».proof.Proof.DswVal
public import proofs.«01_k».proof.Proof.Gen.DswReferenceIdeal.Read

@[expose] public section

set_option maxRecDepth 16384

noncomputable section

open Idealize.ShloMosaic Idealize.ShloMosaic.TcCoe Idealize.SL.Sem

namespace Cert.DswMath

open Cert.RealKit Cert.Consts

/-- A sum of products of reals is a real. -/
theorem real_sum {n : ℕ} (a b : Fin n → EReal) (ha : ∀ k, ∃ r : ℝ, a k = r) (hb : ∀ k, ∃ r : ℝ, b k = r) : ∃ r : ℝ, ∑ k, a k * b k = (r : EReal) := by
  choose a' ha using ha
  choose b' hb using hb
  refine ⟨∑ k, a' k * b' k, ?_⟩
  rw [show ((∑ k, a' k * b' k : ℝ) : EReal) = ∑ k, ((a' k * b' k : ℝ) : EReal) from map_sum (⟨⟨Real.toEReal, EReal.coe_zero⟩, EReal.coe_add⟩ : ℝ →+ EReal) _ _]
  exact Finset.sum_congr rfl fun k _ => by rw [ha, hb, EReal.coe_mul]

theorem logistic_form (x : ℝ) : Ideal.div 1 (1 + Ideal.exp (-(x : EReal))) = (((1 + Real.exp (-x))⁻¹ : ℝ) : EReal) := Ideal.logistic_coe x

theorem pre_real (h : TH) (w : TW) (hh : ∀ i, ∃ r : ℝ, h i = r) (hw : ∀ i, ∃ r : ℝ, w i = r) (n : Fin 8192) (e : ℕ) : ∃ r : ℝ, pre h w n e = r := by
  unfold pre
  split
  · exact real_sum _ _ (fun k => hh _) fun k => hw _
  · exact ⟨0, rfl⟩

theorem da_real (v : TV) (dy : TH) (hv : ∀ i, ∃ r : ℝ, v i = r) (hy : ∀ i, ∃ r : ℝ, dy i = r) (n : Fin 8192) (e : ℕ) : ∃ r : ℝ, da v dy n e = r := by
  unfold da
  split
  · exact real_sum _ _ (fun k => hy _) fun k => hv _
  · exact ⟨0, rfl⟩

theorem sg_coe (x : ℝ) : sg x = (((1 + Real.exp (-x))⁻¹ : ℝ) : EReal) := by
  unfold sg
  rw [← EReal.coe_mul, Ideal.tanh_coe, ← EReal.coe_mul, ← EReal.coe_add]
  congr 1
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, e1]
  generalize Real.exp (1 / 2 * x) = a at *
  generalize Real.exp (-(1 / 2 * x)) = b at *
  obtain rfl : a = b⁻¹ := eq_inv_of_mul_eq_one_left e2
  field_simp
  ring

end Cert.DswMath

namespace Cert.DswReferenceIdeal.Val

open Cert.DswReferenceIdeal Cert.DswReferenceIdeal.Read Cert.RealKit Cert.Consts Cert.DswMath

variable (h : TH) (w : TW) (v : TV) (dy : TH)

theorem v1_at (n : Fin 8192) (e : Fin 11264) : val_main_v1 (F := Ideal) h w (ix2 n e) = pre h w n e := by
  pointwise [val_main_v1, val_main_v0]
  rw [pre, dif_pos e.isLt]

theorem v14_at (n : Fin 8192) (f : Fin 5632) : val_main_v14 (F := Ideal) v dy (ix2 n f) = ((1 / 2 : ℝ) : EReal) * da v dy n f := by
  pointwise [val_main_v14, val_main_v11, val_main_v10, val_main_cst_0, val_main_v9]
  rw [da, dif_pos f.isLt, coe_mul_sum _ (by norm_num)]
  refine Finset.sum_congr rfl fun k _ => ?_
  rw [chalf, mul_assoc]

theorem v18_fun (hh : ∀ i, ∃ r : ℝ, h i = r) (hw : ∀ i, ∃ r : ℝ, w i = r) (hv : ∀ i, ∃ r : ℝ, v i = r) (hy : ∀ i, ∃ r : ℝ, dy i = r) :
    val_main_v18 (F := Ideal) h w v dy = fun y => da v dy (y 0) (y 1).val * ((1 / 2 : ℝ) : EReal) * byGate h w (y 0) (y 1).val := by
  funext y
  idx_vars y
  pointwise [val_main_v18, val_main_v17, val_main_call1_v1, val_main_v16, val_main_v3, val_main_v4_2, val_main_call0_v4, val_main_call0_cst_0, val_main_call0_v3, val_main_call0_v2, val_main_call0_cst, val_main_call0_v1, val_main_call0_v0, val_main_v2, val_main_call1_v2, val_main_call1_v0, val_main_v4_1, val_main_call0_v7, val_main_call0_v6, val_main_call0_cst_1]
  simp only [v1_at, v14_at]
  rw [byGate]
  obtain ⟨g, hg⟩ := pre_real h w hh hw y0 y1
  obtain ⟨u, hu⟩ := pre_real h w hh hw y0 (5632 + y1)
  obtain ⟨d, hd⟩ := da_real v dy hv hy y0 y1
  simp only [hg, hu, hd, sg_coe, logistic_form]
  simp only [← EReal.coe_one, ← EReal.coe_mul, ← EReal.coe_add, ← EReal.coe_sub]
  congr 1
  ring

theorem v19_fun (hh : ∀ i, ∃ r : ℝ, h i = r) (hw : ∀ i, ∃ r : ℝ, w i = r) (hv : ∀ i, ∃ r : ℝ, v i = r) (hy : ∀ i, ∃ r : ℝ, dy i = r) :
    val_main_v19 (F := Ideal) h w v dy = fun y => da v dy (y 0) (y 1).val * ((1 / 2 : ℝ) : EReal) * byUp h w (y 0) (y 1).val := by
  funext y
  idx_vars y
  pointwise [val_main_v19, val_main_v15, val_main_v4_0, val_main_v2, val_main_v4_2, val_main_call0_v4, val_main_call0_cst_0, val_main_call0_v3, val_main_call0_v2, val_main_call0_cst, val_main_call0_v1, val_main_call0_v0]
  simp only [v1_at, v14_at]
  rw [byUp]
  obtain ⟨g, hg⟩ := pre_real h w hh hw y0 y1
  obtain ⟨u, hu⟩ := pre_real h w hh hw y0 (5632 + y1)
  obtain ⟨d, hd⟩ := da_real v dy hv hy y0 y1
  simp only [hg, hu, hd, sg_coe, logistic_form]
  simp only [← EReal.coe_one, ← EReal.coe_mul, ← EReal.coe_add, ← EReal.coe_sub]
  congr 1
  ring

end Cert.DswReferenceIdeal.Val

end
-- ==== Proof.DswPair.lean ====
/-  The gated unit's gradient and its reference: the frames and the equality. -/
module

public import proofs.«01_k».proof.Defs
public import proofs.«01_k».proof.Proof.Gen.DswKernel.Frame
public import proofs.«01_k».proof.Proof.Gen.DswKernelIdeal.Frame
public import proofs.«01_k».proof.Proof.Gen.DswReferenceIdeal.Run
public import proofs.«01_k».proof.Proof.Gen.DswReferenceIdeal.Read
public import proofs.«01_k».proof.Proof.Gen.Pre_finite_dsw
public import proofs.«01_k».proof.Proof.Finite
public import proofs.«01_k».proof.Proof.DswRun
public import proofs.«01_k».proof.Proof.DswRef
public import Idealize.ShloMosaic.Lib.Claim

@[expose] public section

set_option maxRecDepth 16384

noncomputable section

open Idealize.ShloMosaic Idealize.ShloMosaic.TcCoe Idealize.SL.Sem

namespace Cert.DswPair

open Cert

attribute [local instance] Cert.DswKernel.Gen.facts Cert.DswKernelIdeal.Gen.facts Cert.DswReferenceIdeal.Gen.facts Cert.Pre_finite_dsw.Gen.facts

theorem frameK : quiescent_DswKernel := fun m ρ _ => Cert.DswKernel.Gen.frame m ρ
theorem frameI : quiescent_DswKernelIdeal := fun m ρ _ => Cert.DswKernelIdeal.Gen.frame m ρ
theorem frameR : quiescent_DswReferenceIdeal := fun m ρ _ =>
  (θ_run Cert.DswReferenceIdeal.defs _ _).mono (fun r h => ⟨fun c => (h c).2.2, sem_eq_zero_of_no_sems (by decide) r.2⟩)
    (Cert.DswReferenceIdeal.Value.run (F := Ideal) m ρ)

/-- Arguments that pass the check are reals in every entry. -/
theorem reals (h w v dy) (H : Cert.Pre_finite_dsw.fn (F := Ideal) h w v dy = fun _ => 1#1) :
    (∀ i, ∃ r : ℝ, h i = (r : EReal)) ∧ (∀ i, ∃ r : ℝ, w i = (r : EReal)) ∧ (∀ i, ∃ r : ℝ, v i = (r : EReal)) ∧ (∀ i, ∃ r : ℝ, dy i = (r : EReal)) := by
  have H := congrFun H ix0
  unfold Cert.Pre_finite_dsw.fn Cert.Pre_finite_dsw.fn_part1 at H
  obtain ⟨H, h3⟩ := Cert.Finite.andi_one H
  obtain ⟨H, h2⟩ := Cert.Finite.andi_one H
  obtain ⟨h0, h1⟩ := Cert.Finite.andi_one H
  exact ⟨Cert.Finite.of_all Cert.Consts.cinf16 h h0, Cert.Finite.of_all Cert.Consts.cinf32 w h1,
    Cert.Finite.of_all Cert.Consts.cinf32 v h2, Cert.Finite.of_all Cert.Consts.cinf16 dy h3⟩

theorem value : algebraic_DswKernelIdeal_DswReferenceIdeal_pre_finite_dsw := by
  pair_intro
  · exact Cert.DswKernelIdeal.Val.run m g
  · run_from Cert.DswReferenceIdeal.Value.run m' g'
    · obtain ⟨h0, h1, h2, h3⟩ := reals _ _ _ _ (hpre c)
      exact (Cert.DswReferenceIdeal.Read.val_main_v18_eq _ _ _ _).trans ((Cert.DswReferenceIdeal.Val.v18_fun _ _ _ _ h0 h1 h2 h3).trans (Cert.DswKernelIdeal.Val.final1_4 m g c).symm)
    · obtain ⟨h0, h1, h2, h3⟩ := reals _ _ _ _ (hpre c)
      exact (Cert.DswReferenceIdeal.Read.val_main_v19_eq _ _ _ _).trans ((Cert.DswReferenceIdeal.Val.v19_fun _ _ _ _ h0 h1 h2 h3).trans (Cert.DswKernelIdeal.Val.final1_5 m g c).symm)

end Cert.DswPair

end
-- ==== Proof.AttnVal.lean ====
/-  The attention's backward call: what the two result arrays hold after the run, as functions of the arguments. -/
module

public import proofs.«01_k».proof.Proof.Gen.AttnKernelIdeal.Frame
public import proofs.«01_k».proof.Proof.RealKit
public import proofs.«01_k».proof.Proof.Consts
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnMath

open Cert.RealKit Cert.Consts

abbrev TQ := FVec Ideal ⟨2, ![8192, 2048]⟩ .bf16
abbrev TK := FVec Ideal ⟨2, ![256, 4096]⟩ .bf16

/-- The scale as the literal both programs have. -/
def sc : EReal := Ideal.ofBits .f32 0x3D3504F3#32

/-- The largest score of a row, from the identity of the maximum. -/
def mx (s : Fin 256 → EReal) : EReal := Finset.fold max (Ideal.ofBits .f32 0xFF800000#32) s Finset.univ

/-- The softmax of a row. -/
def smx (s : Fin 256 → EReal) (i : Fin 256) : EReal :=
  Ideal.div (Ideal.exp (s i - mx s)) (∑ j : Fin 256, Ideal.exp (s j - mx s))

/-- The gradient of the scores of a row: `s` the scores, `p` the gradient of the weights. -/
def dsm (s p : Fin 256 → EReal) (i : Fin 256) : EReal := smx s i * (p i - ∑ j : Fin 256, p j * smx s j) * sc

/-- Column `d` of head `a` in an array of the queries' width, and in the packed keys and values. -/
def cq (a : Fin 4) (d : Fin 512) : Fin 2048 := ⟨a.val * 512 + d.val, by omega⟩
def ck (a : Fin 4) (d : Fin 512) : Fin 4096 := ⟨a.val * 512 + d.val, by omega⟩
def cv (a : Fin 4) (d : Fin 512) : Fin 4096 := ⟨2048 + a.val * 512 + d.val, by omega⟩

/-- The scores of row `n` in head `a`, and the gradient of its weights. -/
def S (Q : TQ) (K : TK) (n : Fin 8192) (a : Fin 4) (i : Fin 256) : EReal :=
  (∑ d : Fin 512, Q (ix2 n (cq a d)) * K (ix2 i (ck a d))) * sc
def DP (K : TK) (D : TQ) (n : Fin 8192) (a : Fin 4) (i : Fin 256) : EReal :=
  ∑ d : Fin 512, D (ix2 n (cq a d)) * K (ix2 i (cv a d))

/-- The queries' gradient. -/
def dq (Q : TQ) (K : TK) (D : TQ) (n : Fin 8192) (j : Fin 2048) : EReal :=
  ∑ i : Fin 256, dsm (S Q K n ⟨j.val / 512, by omega⟩) (DP K D n ⟨j.val / 512, by omega⟩) i * K (ix2 i ⟨j.val, by omega⟩)

/-- What row `n` adds to the gradient of the packed keys and values. -/
def dkv (Q : TQ) (K : TK) (D : TQ) (i : Fin 256) (j : Fin 4096) (n : ℕ) : EReal :=
  if h : n < 8192 then
    if hj : j.val < 2048 then
      dsm (S Q K ⟨n, h⟩ ⟨j.val / 512, by omega⟩) (DP K D ⟨n, h⟩ ⟨j.val / 512, by omega⟩) i * Q (ix2 ⟨n, h⟩ ⟨j.val, hj⟩)
    else smx (S Q K ⟨n, h⟩ ⟨(j.val - 2048) / 512, by omega⟩) i * D (ix2 ⟨n, h⟩ ⟨j.val - 2048, by omega⟩)
  else 0

end Cert.AttnMath

namespace Cert.AttnKernelIdeal.Val

open Cert.AttnKernelIdeal Cert.AttnKernelIdeal.Gen Cert.RealKit Cert.Consts Cert.AttnMath

variable (m : (ℓ : Loc nD τ sig) → Buf (Elt Ideal) ℓ)

abbrev aQ (c : Dev nD) : TQ := m (c, Proc.tc.devRef main_arg0)
abbrev aK (c : Dev nD) : TK := m (c, Proc.tc.devRef main_arg1)
abbrev aD (c : Dev nD) : TQ := m (c, Proc.tc.devRef main_arg2)

theorem idx : ∀ t : Fin cfg0.N, win0_0.index t = ![t.val, 0] ∧ win0_1.index t = ![0, 0] ∧ win0_2.index t = ![t.val, 0]
  ∧ win0_3.index t = ![t.val, 0] ∧ win0_4.index t = ![0, 0] ∧ t.val < 16 :=
  (by decide +kernel : ∀ t : Fin grid0.N, _)

theorem lt (t : Fin cfg0.N) : t.val < 16 := (idx t).2.2.2.2.2

theorem q_at (c : Dev nD) (t : Fin cfg0.N) (n : Fin 8192) (r : Fin 512) (hn : n.val = t.val * 512 + r.val) (j : Fin 2048) :
    (show EReal from iblk m c 0 t (ix2 r j)) = aQ m c (ix2 n j) := by
  blk_ext [iblk, V, idx t]
theorem k_at (c : Dev nD) (t : Fin cfg0.N) (i : Fin 256) (j : Fin 4096) :
    (show EReal from iblk m c 1 t (ix2 i j)) = aK m c (ix2 i j) := by
  blk_ext [iblk, V, idx t]
theorem d_at (c : Dev nD) (t : Fin cfg0.N) (n : Fin 8192) (r : Fin 512) (hn : n.val = t.val * 512 + r.val) (j : Fin 2048) :
    (show EReal from iblk m c 2 t (ix2 r j)) = aD m c (ix2 n j) := by
  blk_ext [iblk, V, idx t]

/-- The columns of one head, loaded from a block. -/
abbrev lQ (x : Vec Ideal S512x2048 .bf16) (o : ℕ) (h : ∀ b : Fin 2, (![0, o] : Fin 2 → ℕ) b + (![512, 512] : Fin 2 → ℕ) b ≤ S512x2048.size b) : Vec Ideal S512x512 .bf16 := View.ld (S := S512x2048) x (Rect.unit ![0, o] ![512, 512] h)
abbrev lK (x : Vec Ideal S256x4096 .bf16) (o : ℕ) (h : ∀ b : Fin 2, (![0, o] : Fin 2 → ℕ) b + (![256, 512] : Fin 2 → ℕ) b ≤ S256x4096.size b) : Vec Ideal S256x512 .bf16 := View.ld (S := S256x4096) x (Rect.unit ![0, o] ![256, 512] h)

theorem lq_at (c : Dev nD) (t : Fin cfg0.N) (n : Fin 8192) (r : Fin 512) (hn : n.val = t.val * 512 + r.val) (a : Fin 4) (o : ℕ) (ho : o = a.val * 512) (h) (d : Fin 512) :
    lQ (iblk m c 0 t) o h (ix2 r d) = aQ m c (ix2 n (cq a d)) :=
  (View.ld_unit_apply_of _ _ _ _ _ (ix2 r (cq a d)) (by intro b; fin_cases b <;> simp [cq, ho])).trans (q_at m c t n r hn _)
theorem ld_at (c : Dev nD) (t : Fin cfg0.N) (n : Fin 8192) (r : Fin 512) (hn : n.val = t.val * 512 + r.val) (a : Fin 4) (o : ℕ) (ho : o = a.val * 512) (h) (d : Fin 512) :
    lQ (iblk m c 2 t) o h (ix2 r d) = aD m c (ix2 n (cq a d)) :=
  (View.ld_unit_apply_of _ _ _ _ _ (ix2 r (cq a d)) (by intro b; fin_cases b <;> simp [cq, ho])).trans (d_at m c t n r hn _)
theorem lk_at (c : Dev nD) (t : Fin cfg0.N) (i : Fin 256) (a : Fin 4) (o : ℕ) (ho : o = a.val * 512) (h) (d : Fin 512) :
    lK (iblk m c 1 t) o h (ix2 i d) = aK m c (ix2 i (ck a d)) :=
  (View.ld_unit_apply_of _ _ _ _ _ (ix2 i (ck a d)) (by intro b; fin_cases b <;> simp [ck, ho])).trans (k_at m c t i _)
theorem lv_at (c : Dev nD) (t : Fin cfg0.N) (i : Fin 256) (a : Fin 4) (o : ℕ) (ho : o = 2048 + a.val * 512) (h) (d : Fin 512) :
    lK (iblk m c 1 t) o h (ix2 i d) = aK m c (ix2 i (cv a d)) :=
  (View.ld_unit_apply_of _ _ _ _ _ (ix2 i (cv a d)) (by intro b; fin_cases b <;> simp [cv, ho])).trans (k_at m c t i _)

theorem pay5_at (c : Dev nD) (t : Fin cfg0.N) (n : Fin 8192) (r : Fin 512) (hn : n.val = t.val * 512 + r.val) (a : Fin 4) (o : ℕ) (ho : o = a.val * 512) (h h') (i : Fin 256) :
    k0_pay5 (F := Ideal) (lQ (iblk m c 0 t) o h) (lK (iblk m c 1 t) o h') (ix2 r i) = smx (S (aQ m c) (aK m c) n a) i := by
  have e (x : Vec Ideal S512x512 .bf16) (k : Vec Ideal S256x512 .bf16) :
      k0_pay5 (F := Ideal) x k (ix2 r i) = smx (fun i => (∑ d : Fin 512, x (ix2 r d) * k (ix2 i d)) * sc) i := by
    pointwise [k0_pay5]
    rfl
  refine (e _ _).trans (congrArg (fun s => smx s i) (funext fun i => ?_))
  exact Ideal.mul_congr (Finset.sum_congr rfl fun d _ => Ideal.mul_congr (lq_at m c t n r hn a o ho h d) (lk_at m c t i a o ho h' d)) rfl

theorem pay6_at (c : Dev nD) (t : Fin cfg0.N) (n : Fin 8192) (r : Fin 512) (hn : n.val = t.val * 512 + r.val) (a : Fin 4) (o p : ℕ) (ho : o = a.val * 512) (hp : p = 2048 + a.val * 512) (h h' h'' h3) (i : Fin 256) :
    k0_pay6 (F := Ideal) (lQ (iblk m c 0 t) o h) (lK (iblk m c 1 t) o h') (lK (iblk m c 1 t) p h'') (lQ (iblk m c 2 t) o h3) (ix2 r i)
      = dsm (S (aQ m c) (aK m c) n a) (DP (aK m c) (aD m c) n a) i := by
  have e (x : Vec Ideal S512x512 .bf16) (k v : Vec Ideal S256x512 .bf16) (y : Vec Ideal S512x512 .bf16) :
      k0_pay6 (F := Ideal) x k v y (ix2 r i)
        = k0_pay5 (F := Ideal) x k (ix2 r i) * ((∑ d : Fin 512, y (ix2 r d) * v (ix2 i d)) - ∑ j : Fin 256, (∑ d : Fin 512, y (ix2 r d) * v (ix2 j d)) * k0_pay5 (F := Ideal) x k (ix2 r j)) * sc := by
    pointwise [k0_pay6]
    rfl
  refine (e _ _ _ _).trans ?_
  have dp (i : Fin 256) : (∑ d : Fin 512, lQ (iblk m c 2 t) o h3 (ix2 r d) * lK (iblk m c 1 t) p h'' (ix2 i d) : EReal) = DP (aK m c) (aD m c) n a i :=
    Finset.sum_congr rfl fun d _ => Ideal.mul_congr (ld_at m c t n r hn a o ho h3 d) (lv_at m c t i a p hp h'' d)
  unfold dsm
  simp only [dp, pay5_at m c t n r hn a o ho h h']

theorem dq_ld (c : Dev nD) (t : Fin cfg0.N) (a : Fin 4) (o p : ℕ) (ho : o = a.val * 512) (hp : p = 2048 + a.val * 512) (h h' h'' h3)
    (x : S512x512.Idx) (n : Fin 8192) (hn : n.val = t.val * 512 + (x 0).val) (j : Fin 2048) (hj : j.val = a.val * 512 + (x 1).val) :
    k0_pay7 (F := Ideal) (lQ (iblk m c 0 t) o h) (lK (iblk m c 1 t) o h') (lK (iblk m c 1 t) p h'') (lQ (iblk m c 2 t) o h3) x
      = dq (aQ m c) (aK m c) (aD m c) n j := by
  idx_vars x
  have hx1 : x1.val < 512 := x1.isLt
  have hj : j.val = a.val * 512 + x1.val := hj
  have e (q : Vec Ideal S512x512 .bf16) (k v : Vec Ideal S256x512 .bf16) (y : Vec Ideal S512x512 .bf16) :
      k0_pay7 (F := Ideal) q k v y (ix2 x0 x1) = ∑ i : Fin 256, k0_pay6 (F := Ideal) q k v y (ix2 x0 i) * k (ix2 i x1) := by
    pointwise [k0_pay7]
  refine (e _ _ _ _).trans (Finset.sum_congr rfl fun i _ => Ideal.mul_congr ?_ ?_)
  · rw [show (⟨j.val / 512, by omega⟩ : Fin 4) = a from Fin.ext (by show j.val / 512 = _; omega)]
    exact pay6_at m c t n x0 hn a o p ho hp h h' h'' h3 i
  · rw [show (⟨j.val, by omega⟩ : Fin 4096) = ck a x1 from Fin.ext hj]
    exact lk_at m c t i a o ho h' x1

theorem dk_ld (c : Dev nD) (t : Fin cfg0.N) (a : Fin 4) (o p : ℕ) (ho : o = a.val * 512) (hp : p = 2048 + a.val * 512) (h h' h'' h3)
    (x : S256x512.Idx) (i : Fin 256) (hi : i.val = (x 0).val) (j : Fin 4096) (hj : j.val = a.val * 512 + (x 1).val) :
    k0_pay8 (F := Ideal) (lQ (iblk m c 0 t) o h) (lK (iblk m c 1 t) o h') (lK (iblk m c 1 t) p h'') (lQ (iblk m c 2 t) o h3) x
      = ∑ r : Fin 512, dkv (aQ m c) (aK m c) (aD m c) i j (t.val * 512 + r.val) := by
  idx_vars x
  have hx1 : x1.val < 512 := x1.isLt
  have hj : j.val = a.val * 512 + x1.val := hj
  obtain rfl : i = x0 := Fin.ext hi
  have ht := lt t
  have e (q : Vec Ideal S512x512 .bf16) (k v : Vec Ideal S256x512 .bf16) (y : Vec Ideal S512x512 .bf16) :
      k0_pay8 (F := Ideal) q k v y (ix2 i x1) = ∑ r : Fin 512, k0_pay6 (F := Ideal) q k v y (ix2 r i) * q (ix2 r x1) := by
    pointwise [k0_pay8]
  have ej : (⟨j.val / 512, by omega⟩ : Fin 4) = a := Fin.ext (by show j.val / 512 = _; omega)
  refine (e _ _ _ _).trans (Finset.sum_congr rfl fun r _ => ?_)
  rw [dkv, dif_pos (by omega), dif_pos (by omega), ej, show (⟨j.val, by omega⟩ : Fin 2048) = cq a x1 from Fin.ext hj]
  exact Ideal.mul_congr (pay6_at m c t _ r rfl a o p ho hp h h' h'' h3 i) (lq_at m c t _ r rfl a o ho h x1)

theorem dv_ld (c : Dev nD) (t : Fin cfg0.N) (a : Fin 4) (o : ℕ) (ho : o = a.val * 512) (h h' h3)
    (x : S256x512.Idx) (i : Fin 256) (hi : i.val = (x 0).val) (j : Fin 4096) (hj : j.val = 2048 + a.val * 512 + (x 1).val) :
    k0_pay9 (F := Ideal) (lQ (iblk m c 0 t) o h) (lK (iblk m c 1 t) o h') (lQ (iblk m c 2 t) o h3) x
      = ∑ r : Fin 512, dkv (aQ m c) (aK m c) (aD m c) i j (t.val * 512 + r.val) := by
  idx_vars x
  have hx1 : x1.val < 512 := x1.isLt
  have hj : j.val = 2048 + a.val * 512 + x1.val := hj
  obtain rfl : i = x0 := Fin.ext hi
  have ht := lt t
  have e (q : Vec Ideal S512x512 .bf16) (k : Vec Ideal S256x512 .bf16) (y : Vec Ideal S512x512 .bf16) :
      k0_pay9 (F := Ideal) q k y (ix2 i x1) = ∑ r : Fin 512, k0_pay5 (F := Ideal) q k (ix2 r i) * y (ix2 r x1) := by
    pointwise [k0_pay9]
  have ej : (⟨(j.val - 2048) / 512, by omega⟩ : Fin 4) = a := Fin.ext (by show (j.val - 2048) / 512 = _; omega)
  refine (e _ _ _).trans (Finset.sum_congr rfl fun r _ => ?_)
  rw [dkv, dif_pos (by omega), dif_neg (by omega), ej, show (⟨j.val - 2048, by omega⟩ : Fin 2048) = cq a x1 from Fin.ext (by show j.val - 2048 = a.val * 512 + x1.val; omega)]
  exact Ideal.mul_congr (pay5_at m c t _ r rfl a o ho h h' i) (ld_at m c t _ r rfl a o ho h3 x1)

theorem pay14_eq : k0_pay14 (F := Ideal) = k0_pay7 := rfl
theorem pay21_eq : k0_pay21 (F := Ideal) = k0_pay7 := rfl
theorem pay29_eq : k0_pay29 (F := Ideal) = k0_pay7 := rfl

theorem o3_at (c : Dev nD) (t : Fin cfg0.N) (y : S512x2048.Idx) (n : Fin 8192) (hn : n.val = t.val * 512 + (y 0).val) (j : Fin 2048) (hj : j.val = (y 1).val) :
    (show EReal from (outsAt0 m c t.val t.isLt).1 y) = dq (aQ m c) (aK m c) (aD m c) n j := by
  have ht := lt t
  by_cases h : t.val = 0
  on_goal 1 => rw [outsAt0_A m c t (by omega) (by omega) (by omega) (by omega) (by omega) (by omega) (by omega) (by omega)]
  on_goal 2 => rw [outsAt0_B m c t (by omega) (by omega) (by omega) (by omega) (by omega) (by omega) (by omega) (by omega)]
  all_goals
    frame_out
    canon_tiles x h
    case' piece0 => rw [pay29_eq]; exact dq_ld m c t 3 _ _ rfl rfl _ _ _ _ x n (by omega) j (by show _ = 3 * 512 + _; omega)
    case' piece1 => rw [pay21_eq]; exact dq_ld m c t 2 _ _ rfl rfl _ _ _ _ x n (by omega) j (by show _ = 2 * 512 + _; omega)
    case' piece2 => rw [pay14_eq]; exact dq_ld m c t 1 _ _ rfl rfl _ _ _ _ x n (by omega) j (by show _ = 1 * 512 + _; omega)
    case' piece3 => exact dq_ld m c t 0 _ _ rfl rfl _ _ _ _ x n (by omega) j (by show _ = 0 * 512 + _; omega)

theorem pay15_eq : k0_pay15 (F := Ideal) = k0_pay8 := rfl
theorem pay22_eq : k0_pay22 (F := Ideal) = k0_pay8 := rfl
theorem pay1_eq (q y : Vec Ideal S512x512 .bf16) (k v : Vec Ideal S256x512 .bf16) : k0_pay1 (F := Ideal) q (k0_pay28 q k v y) = k0_pay8 q k v y := rfl
theorem pay16_eq : k0_pay16 (F := Ideal) = k0_pay9 := rfl
theorem pay24_eq (q y : Vec Ideal S512x512 .bf16) (k : Vec Ideal S256x512 .bf16) : k0_pay24 (F := Ideal) y (k0_pay23 q k) = k0_pay9 q k y := rfl
theorem pay2_eq (q y : Vec Ideal S512x512 .bf16) (k : Vec Ideal S256x512 .bf16) : k0_pay2 (F := Ideal) y (k0_pay27 q k) = k0_pay9 q k y := rfl

theorem pay10_at (a old : Vec Ideal S256x512 .f32) (x : S256x512.Idx) : k0_pay10 (F := Ideal) a old x = old x + a x := by
  idx_vars x
  pointwise [k0_pay10]
theorem pay11_eq : k0_pay11 (F := Ideal) = k0_pay10 := rfl
theorem pay17_eq : k0_pay17 (F := Ideal) = k0_pay10 := rfl
theorem pay18_eq : k0_pay18 (F := Ideal) = k0_pay10 := rfl
theorem pay25_eq : k0_pay25 (F := Ideal) = k0_pay10 := rfl
theorem pay26_eq (q y : Vec Ideal S512x512 .bf16) (k : Vec Ideal S256x512 .bf16) (old) : k0_pay26 (F := Ideal) y (k0_pay23 q k) old = k0_pay10 (k0_pay9 q k y) old := rfl
theorem pay3_eq (q y : Vec Ideal S512x512 .bf16) (k v : Vec Ideal S256x512 .bf16) (old) : k0_pay3 (F := Ideal) q (k0_pay28 q k v y) old = k0_pay10 (k0_pay8 q k v y) old := rfl
theorem pay4_eq (q y : Vec Ideal S512x512 .bf16) (k : Vec Ideal S256x512 .bf16) (old) : k0_pay4 (F := Ideal) y (k0_pay27 q k) old = k0_pay10 (k0_pay9 q k y) old := rfl

theorem dkv_A (c : Dev nD) (t : Fin cfg0.N) (h : t.val = 0) (y : S256x4096.Idx) (i : Fin 256) (hi : i.val = (y 0).val) (j : Fin 4096) (hj : j.val = (y 1).val) :
    (show EReal from (outsAt0 m c t.val t.isLt).2 y) = ∑ r : Fin 512, dkv (aQ m c) (aK m c) (aD m c) i j (t.val * 512 + r.val) := by
  have ht := lt t
  rw [outsAt0_A m c t (by omega) (by omega) (by omega) (by omega) (by omega) (by omega) (by omega) (by omega)]
  frame_out
  canon_tiles x h
  case' piece0 => rw [pay2_eq]; exact dv_ld m c t 3 _ rfl _ _ _ x i (by omega) j (by show _ = 2048 + 3 * 512 + _; omega)
  case' piece1 => rw [pay1_eq]; exact dk_ld m c t 3 _ _ rfl rfl _ _ _ _ x i (by omega) j (by show _ = 3 * 512 + _; omega)
  case' piece2 => rw [pay24_eq]; exact dv_ld m c t 2 _ rfl _ _ _ x i (by omega) j (by show _ = 2048 + 2 * 512 + _; omega)
  case' piece3 => rw [pay22_eq]; exact dk_ld m c t 2 _ _ rfl rfl _ _ _ _ x i (by omega) j (by show _ = 2 * 512 + _; omega)
  case' piece4 => rw [pay16_eq]; exact dv_ld m c t 1 _ rfl _ _ _ x i (by omega) j (by show _ = 2048 + 1 * 512 + _; omega)
  case' piece5 => rw [pay15_eq]; exact dk_ld m c t 1 _ _ rfl rfl _ _ _ _ x i (by omega) j (by show _ = 1 * 512 + _; omega)
  case' piece6 => exact dv_ld m c t 0 _ rfl _ _ _ x i (by omega) j (by show _ = 2048 + 0 * 512 + _; omega)
  case' piece7 => exact dk_ld m c t 0 _ _ rfl rfl _ _ _ _ x i (by omega) j (by show _ = 0 * 512 + _; omega)

/-- What is kept of the result before a point, loaded at the columns the point adds to. -/
theorem old_at (o : Vec Ideal S256x4096 .f32) (off : ℕ) (h) (x : S256x512.Idx) (y : S256x4096.Idx) (h0 : (y 0).val = (x 0).val) (h1 : (y 1).val = off + (x 1).val) :
    (show EReal from View.ld (S := S256x4096) o (Rect.unit ![0, off] ![256, 512] h) x) = o y :=
  View.ld_unit_apply_of _ _ _ _ _ y (by intro b; fin_cases b <;> simp [h0, h1])

theorem dkv_B (c : Dev nD) (t : Fin cfg0.N) (h : t.val ≠ 0) (y : S256x4096.Idx) (i : Fin 256) (hi : i.val = (y 0).val) (j : Fin 4096) (hj : j.val = (y 1).val) :
    (show EReal from (outsAt0 m c t.val t.isLt).2 y) = (show EReal from (outsAt0 m c (t.val - 1) (by omega)).2 y)
      + ∑ r : Fin 512, dkv (aQ m c) (aK m c) (aD m c) i j (t.val * 512 + r.val) := by
  have ht := lt t
  rw [outsAt0_B m c t (by omega) (by omega) (by omega) (by omega) (by omega) (by omega) (by omega) (by omega)]
  frame_out
  generalize (outsAt0 m c (t.val - 1) _).2 = old
  canon_tiles x h
  case' piece0 => rw [pay4_eq, pay10_at]; exact Ideal.add_congr (old_at old _ _ x y (by omega) (by omega)) (dv_ld m c t 3 _ rfl _ _ _ x i (by omega) j (by show _ = 2048 + 3 * 512 + _; omega))
  case' piece1 => rw [pay3_eq, pay10_at]; exact Ideal.add_congr (old_at old _ _ x y (by omega) (by omega)) (dk_ld m c t 3 _ _ rfl rfl _ _ _ _ x i (by omega) j (by show _ = 3 * 512 + _; omega))
  case' piece2 => rw [pay26_eq, pay10_at]; exact Ideal.add_congr (old_at old _ _ x y (by omega) (by omega)) (dv_ld m c t 2 _ rfl _ _ _ x i (by omega) j (by show _ = 2048 + 2 * 512 + _; omega))
  case' piece3 => rw [pay25_eq, pay22_eq, pay10_at]; exact Ideal.add_congr (old_at old _ _ x y (by omega) (by omega)) (dk_ld m c t 2 _ _ rfl rfl _ _ _ _ x i (by omega) j (by show _ = 2 * 512 + _; omega))
  case' piece4 => rw [pay18_eq, pay16_eq, pay10_at]; exact Ideal.add_congr (old_at old _ _ x y (by omega) (by omega)) (dv_ld m c t 1 _ rfl _ _ _ x i (by omega) j (by show _ = 2048 + 1 * 512 + _; omega))
  case' piece5 => rw [pay17_eq, pay15_eq, pay10_at]; exact Ideal.add_congr (old_at old _ _ x y (by omega) (by omega)) (dk_ld m c t 1 _ _ rfl rfl _ _ _ _ x i (by omega) j (by show _ = 1 * 512 + _; omega))
  case' piece6 => rw [pay11_eq, pay10_at]; exact Ideal.add_congr (old_at old _ _ x y (by omega) (by omega)) (dv_ld m c t 0 _ rfl _ _ _ x i (by omega) j (by show _ = 2048 + 0 * 512 + _; omega))
  case' piece7 => rw [pay10_at]; exact Ideal.add_congr (old_at old _ _ x y (by omega) (by omega)) (dk_ld m c t 0 _ _ rfl rfl _ _ _ _ x i (by omega) j (by show _ = 0 * 512 + _; omega))

theorem final3 (c : Dev nD) : (dats m 0 c).arrAt 3 cfg0.N = fun y => dq (aQ m c) (aK m c) (aD m c) (y 0) (y 1) := by
  refine (dats m 0 c).arrAt_eq_of_covers 3 _ (by decide +kernel) fun t hf y => ?_
  blk_simp
  rw [after0_3]
  exact o3_at m c t y _ (by blk_simp [idx t]) _ (by blk_simp [idx t])

theorem final4 (c : Dev nD) : (dats m 0 c).arrAt 4 cfg0.N = fun y => ∑ n : Fin 8192, dkv (aQ m c) (aK m c) (aD m c) (y 0) (y 1) n := by
  refine (dats m 0 c).arrAt_eq_of_covers 4 _ (by decide +kernel) fun t hf y => ?_
  blk_simp
  rw [after0_4]
  rw [Pipeline.eq_sum_fin_of_reset_step_apply_of_flush (fun n h => (outsAt0 m c n h).2) 16 (fun _ => 0)
    (fun t (y : S256x4096.Idx) => (∑ r : Fin 512, dkv (aQ m c) (aK m c) (aD m c) (y 0) (y 1) (t.val * 512 + r) : EReal))
    (fun t h j => by rw [zero_add]; exact dkv_A m c t (by have ht := lt t; omega) j _ rfl _ rfl)
    (fun t h j => dkv_B m c t (by omega) j _ rfl _ rfl)
    t ((flush0_4 t).mp hf) _, zero_add]
  refine Fin.sum_mul_add_congr fun s k hl => ?_
  have e : ∀ (i i' : Fin 256) (l l' : Fin 4096) (n n' : ℕ), i = i' → l = l' → n = n' → dkv (aQ m c) (aK m c) (aD m c) i l n = dkv (aQ m c) (aK m c) (aD m c) i' l' n' := by
    rintro i _ l _ n _ rfl rfl rfl; rfl
  have ht := lt t
  refine e _ _ _ _ _ _ (Fin.ext ?_) (Fin.ext ?_) ?_
  · blk_simp [idx t]
  · blk_simp [idx t]
  · show (16 * (t.val / 16) + s.val) * 512 + k.val = s.val * 512 + k.val
    omega

end Cert.AttnKernelIdeal.Val

end
-- ==== Proof.AttnRef.lean ====
/-  The attention's gradient as the reference states it, read element by element, at arguments that are reals. -/
module

public import proofs.«01_k».proof.Proof.AttnVal
public import proofs.«01_k».proof.Proof.DswRef
public import proofs.«01_k».proof.Proof.Gen.AttnReferenceIdeal.Read

@[expose] public section

set_option maxRecDepth 16384

noncomputable section

open Idealize.ShloMosaic Idealize.ShloMosaic.TcCoe Idealize.SL.Sem

namespace Cert.AttnMath

open Cert.RealKit Cert.Consts

/-- A sum of reals, as a real. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) _ _

theorem sc_real : ∃ r : ℝ, sc = r := by
  refine ⟨(11863283 / 2 ^ 28 : ℝ), ?_⟩
  exact csc

/-- The largest of finitely many reals is a real. -/
theorem mx_real (s : Fin 256 → EReal) (hs : ∀ i, ∃ r : ℝ, s i = r) : ∃ r : ℝ, mx s = r := by
  obtain ⟨i, _, hi⟩ := Finset.exists_mem_eq_sup Finset.univ ⟨(0 : Fin 256), Finset.mem_univ _⟩ s
  refine (hs i).imp fun r hr => ?_
  rw [← hr, ← hi, mx, cninf32]
  rfl

/-- The two ways to write the gradient of the softmax's argument, at reals. -/
theorem dsm_form (s p : Fin 256 → EReal) (hs : ∀ i, ∃ r : ℝ, s i = r) (hp : ∀ i, ∃ r : ℝ, p i = r) (i : Fin 256) :
    (Ideal.div (p i) (∑ j, Ideal.exp (s j - mx s))
        + ∑ _u : Fin 1, -∑ x : Fin 256, p x * Ideal.div 1 ((∑ j, Ideal.exp (s j - mx s)) * (∑ j, Ideal.exp (s j - mx s))) * Ideal.exp (s x - mx s))
      * Ideal.exp (s i - mx s) * sc = dsm s p i := by
  obtain ⟨μ, hμ⟩ := mx_real s hs
  choose s' hs using hs
  choose p' hp using hp
  have he (j) : Ideal.exp (s j - mx s) = ((Real.exp (s' j - μ) : ℝ) : EReal) := by
    rw [hs, hμ, ← EReal.coe_sub, Ideal.exp_coe]
  unfold dsm smx
  simp only [he, hp, ← coe_sum]
  have hz : (0 : ℝ) < ∑ j : Fin 256, Real.exp (s' j - μ) := Finset.sum_pos (fun j _ => Real.exp_pos _) ⟨0, Finset.mem_univ _⟩
  generalize (∑ j : Fin 256, Real.exp (s' j - μ)) = z at *
  obtain ⟨σ, hσ⟩ := sc_real
  rw [hσ]
  simp only [← EReal.coe_mul, Ideal.div_coe hz.ne', Ideal.div_coe (mul_pos hz hz).ne', ← EReal.coe_one, ← EReal.coe_sub, ← EReal.coe_neg, ← coe_sum, ← EReal.coe_add]
  congr 1
  have e : (∑ x : Fin 256, p' x * (1 * (1 / (z * z))) * Real.exp (s' x - μ)) = (∑ x : Fin 256, p' x * (Real.exp (s' x - μ) * (1 / z))) * (1 / z) := by
    rw [Finset.sum_mul]
    refine Finset.sum_congr rfl fun x _ => ?_
    field_simp
  rw [Finset.sum_const, Finset.card_univ, Fintype.card_fin, one_smul, e]
  ring

end Cert.AttnMath

namespace Cert.AttnReferenceIdeal.Val

open Cert.AttnReferenceIdeal Cert.AttnReferenceIdeal.Gen Cert.AttnReferenceIdeal.Read Cert.RealKit Cert.Consts Cert.AttnMath

variable (Q : TQ) (K : TK) (D : TQ)

theorem v9_at (a : Fin 4) (n : Fin 8192) (i : Fin 256) : val_main_v9 (F := Ideal) Q K (ix3 a n i) = S Q K n a i := by
  pointwise [val_main_v9, val_main_v8, val_main_cst, val_main_v7, val_main_v2, val_main_v0, val_main_v5, val_main_v3, val_main_v1]
  rfl

theorem red (X : FVec Ideal S4x8192x256 .f32) (a : Fin 4) (n : Fin 8192) :
    Host.reduce FloatOps.maximumf X (constant (F := Ideal) S_ .f32 0xFF800000#32) reducesTo_S4x8192x256_S4x8192_d2 h_S_ (ix2 a n) = mx (fun i => X (ix3 a n i)) := by
  pointwise []
  rfl

theorem v16_at (a : Fin 4) (n : Fin 8192) : val_main_v16 (F := Ideal) (ix2 a n) = Ideal.ofBits .f32 0xFF800000#32 := by
  pointwise [val_main_v16, val_main_cst_2]

theorem v10_at (a : Fin 4) (n : Fin 8192) : val_main_v10 (F := Ideal) Q K (ix2 a n) = mx (S Q K n a) :=
  (red _ a n).trans (congrArg mx (funext fun i => v9_at Q K a n i))

theorem v17_at (a : Fin 4) (n : Fin 8192) : val_main_v17 (F := Ideal) Q K (ix2 a n) = mx (S Q K n a) := by
  rw [val_main_v17_apply, v16_at, v10_at, cninf32]
  exact max_eq_right bot_le

theorem v30_at (a : Fin 4) (n : Fin 8192) (i : Fin 256) : val_main_v30 (F := Ideal) Q K (ix3 a n i) = Ideal.exp (S Q K n a i - mx (S Q K n a)) := by
  pointwise [val_main_v30, val_main_v29, val_main_v28, val_main_v27]
  rw [v9_at, v17_at]

theorem v31_at (a : Fin 4) (n : Fin 8192) : val_main_v31 (F := Ideal) Q K (ix2 a n) = ∑ i : Fin 256, Ideal.exp (S Q K n a i - mx (S Q K n a)) := by
  pointwise [val_main_v31, val_main_cst_8]
  simp only [v30_at]

theorem v34_at (a : Fin 4) (n : Fin 8192) (i : Fin 256) : val_main_v34 (F := Ideal) Q K (ix3 a n i) = smx (S Q K n a) i := by
  pointwise [val_main_v34, val_main_v33, val_main_v32]
  rw [v30_at, v31_at]
  rfl

theorem v44_at (a : Fin 4) (n : Fin 8192) (i : Fin 256) : val_main_v44 (F := Ideal) K D (ix3 a n i) = DP K D n a i := by
  pointwise [val_main_v44, val_main_v43, val_main_v42, val_main_v41, val_main_v6, val_main_v4, val_main_v1]
  refine Finset.sum_congr rfl fun d _ => Ideal.mul_congr rfl (congrArg K ?_)
  blk_ext [cv]

variable (hq : ∀ i, ∃ r : ℝ, Q i = r) (hk : ∀ i, ∃ r : ℝ, K i = r) (hd : ∀ i, ∃ r : ℝ, D i = r)
include hq hk hd

theorem v60_at (a : Fin 4) (n : Fin 8192) (i : Fin 256) : val_main_v60 (F := Ideal) Q K D (ix3 a n i) = dsm (S Q K n a) (DP K D n a) i := by
  pointwise [val_main_v60, val_main_v59, val_main_v58, val_main_v57, val_main_v56, val_main_v55, val_main_v54, val_main_v53, val_main_v52, val_main_v51, val_main_v50, val_main_v49, val_main_v48, val_main_v47, val_main_v37, val_main_v35, val_main_v36, val_main_v32, val_main_cst_12, val_main_cst_11, val_main_cst_10, val_main_cst_9]
  simp only [v44_at, v31_at, v30_at]
  refine dsm_form (S Q K n a) (DP K D n a) (fun i => ?_) (fun i => ?_) i
  · obtain ⟨x, hx⟩ := Cert.DswMath.real_sum (fun d : Fin 512 => Q (ix2 n (cq a d))) (fun d => K (ix2 i (ck a d))) (fun _ => hq _) fun _ => hk _
    obtain ⟨y, hy⟩ := sc_real
    exact ⟨x * y, by rw [S, hx, hy, EReal.coe_mul]⟩
  · exact Cert.DswMath.real_sum _ _ (fun _ => hd _) fun _ => hk _

theorem v69_fun : val_main_v69 (F := Ideal) Q K D = fun y => dq Q K D (y 0) (y 1) := by
  funext y
  idx_vars y
  pointwise [val_main_v69, val_main_v68, val_main_v64, val_main_v63, val_main_v5, val_main_v3, val_main_v1]
  simp only [v60_at Q K D hq hk hd]
  rfl

theorem v66_at (i : Fin 256) (j : Fin 2048) : val_main_v66 (F := Ideal) Q K D (ix2 i j) = ∑ n : Fin 8192, dkv Q K D i ⟨j.val, by omega⟩ n := by
  pointwise [val_main_v66, val_main_v62, val_main_v61, val_main_v2, val_main_v0]
  simp only [v60_at Q K D hq hk hd]
  refine Finset.sum_congr rfl fun n _ => ?_
  rw [dkv, dif_pos n.isLt, dif_pos j.isLt]

omit hq hk hd in
theorem v65_at (i : Fin 256) (j : Fin 2048) : val_main_v65 (F := Ideal) Q K D (ix2 i j) = ∑ n : Fin 8192, dkv Q K D i ⟨2048 + j.val, by omega⟩ n := by
  pointwise [val_main_v65, val_main_v46, val_main_v45, val_main_v43, val_main_v42, val_main_v41]
  simp only [v34_at]
  refine Finset.sum_congr rfl fun n _ => ?_
  rw [dkv, dif_pos n.isLt, dif_neg (by show ¬ 2048 + j.val < 2048; omega), mul_comm]
  have e1 : (⟨(2048 + j.val - 2048) / 512, by omega⟩ : Fin 4) = ⟨j.val / 512, by omega⟩ := Fin.ext (by show (2048 + j.val - 2048) / 512 = j.val / 512; omega)
  have e2 : (⟨2048 + j.val - 2048, by omega⟩ : Fin 2048) = j := Fin.ext (by show 2048 + j.val - 2048 = _; omega)
  rw [e1, e2]

theorem v67_fun : val_main_v67 (F := Ideal) Q K D = fun y => ∑ n : Fin 8192, dkv Q K D (y 0) (y 1) n := by
  funext y
  idx_vars y
  pointwise [val_main_v67]
  split
  · next h => exact v66_at Q K D hq hk hd y0 ⟨y1.val, h⟩
  · next h =>
    refine (v65_at Q K D y0 ⟨y1.val - 2048, by omega⟩).trans ?_
    rw [show (⟨2048 + (y1.val - 2048), by omega⟩ : Fin 4096) = y1 from Fin.ext (by show 2048 + (y1.val - 2048) = y1.val; omega)]

end Cert.AttnReferenceIdeal.Val

end
-- ==== Proof.AttnPair.lean ====
/-  The attention's gradient and its reference: the frames and the equality. -/
module

public import proofs.«01_k».proof.Defs
public import proofs.«01_k».proof.Proof.Gen.AttnKernel.Frame
public import proofs.«01_k».proof.Proof.Gen.AttnKernelIdeal.Frame
public import proofs.«01_k».proof.Proof.Gen.AttnReferenceIdeal.Run
public import proofs.«01_k».proof.Proof.Gen.AttnReferenceIdeal.Read
public import proofs.«01_k».proof.Proof.Gen.AttnKernelIdeal.Value
public import proofs.«01_k».proof.Proof.Gen.Pre_finite_attn
public import proofs.«01_k».proof.Proof.Finite
public import proofs.«01_k».proof.Proof.AttnRef
public import Idealize.ShloMosaic.Lib.Claim

@[expose] public section

set_option maxRecDepth 16384

noncomputable section

open Idealize.ShloMosaic Idealize.ShloMosaic.TcCoe Idealize.SL.Sem

namespace Cert.AttnPair

open Cert

attribute [local instance] Cert.AttnKernel.Gen.facts Cert.AttnKernelIdeal.Gen.facts Cert.AttnReferenceIdeal.Gen.facts Cert.Pre_finite_attn.Gen.facts

theorem frameK : quiescent_AttnKernel := fun m ρ _ => Cert.AttnKernel.Gen.frame m ρ
theorem frameI : quiescent_AttnKernelIdeal := fun m ρ _ => Cert.AttnKernelIdeal.Gen.frame m ρ
theorem frameR : quiescent_AttnReferenceIdeal := fun m ρ _ =>
  (θ_run Cert.AttnReferenceIdeal.defs _ _).mono (fun r h => ⟨fun c => (h c).2.2, sem_eq_zero_of_no_sems (by decide) r.2⟩)
    (Cert.AttnReferenceIdeal.Value.run (F := Ideal) m ρ)

/-- Arguments that pass the check are reals in every entry. -/
theorem reals (q k d) (H : Cert.Pre_finite_attn.fn (F := Ideal) q k d = fun _ => 1#1) :
    (∀ i, ∃ r : ℝ, q i = (r : EReal)) ∧ (∀ i, ∃ r : ℝ, k i = (r : EReal)) ∧ (∀ i, ∃ r : ℝ, d i = (r : EReal)) := by
  have H := congrFun H ix0
  unfold Cert.Pre_finite_attn.fn at H
  obtain ⟨H, h2⟩ := Cert.Finite.andi_one H
  obtain ⟨h0, h1⟩ := Cert.Finite.andi_one H
  exact ⟨Cert.Finite.of_all Cert.Consts.cinf16 q h0, Cert.Finite.of_all Cert.Consts.cinf16 k h1, Cert.Finite.of_all Cert.Consts.cinf16 d h2⟩

theorem value : algebraic_AttnKernelIdeal_AttnReferenceIdeal_pre_finite_attn := by
  pair_intro
  · run_from Cert.AttnKernelIdeal.Value.run_blocks m g
  · run_from Cert.AttnReferenceIdeal.Value.run m' g'
    · obtain ⟨h0, h1, h2⟩ := reals _ _ _ (hpre c)
      exact (Cert.AttnReferenceIdeal.Read.val_main_v69_eq m' c).trans (by
        rw [(hagree c).1, (hagree c).2.1, (hagree c).2.2]; exact ((Cert.AttnReferenceIdeal.Val.v69_fun _ _ _ h0 h1 h2).trans (Cert.AttnKernelIdeal.Val.final3 m c).symm))
    · obtain ⟨h0, h1, h2⟩ := reals _ _ _ (hpre c)
      exact (Cert.AttnReferenceIdeal.Read.val_main_v67_eq m' c).trans (by
        rw [(hagree c).1, (hagree c).2.1, (hagree c).2.2]; exact ((Cert.AttnReferenceIdeal.Val.v67_fun _ _ _ h0 h1 h2).trans (Cert.AttnKernelIdeal.Val.final4 m c).symm))

end Cert.AttnPair

end
-- ==== Proof.GmlpVal.lean ====
/-  The spatial gating unit's backward call: what the five result arrays hold after the run, as functions of the arguments. -/
module

public import proofs.«01_k».proof.Proof.Gen.GmlpKernelIdeal.Frame
public import proofs.«01_k».proof.Proof.RealKit
public import proofs.«01_k».proof.Proof.Consts
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpMath

open Cert.RealKit Cert.Consts

/-- One block of 128 rows: the hidden rows, the cotangent's rows, the norm's gain and shift, the mixing weights and the bias. -/
structure Blk where
  Z : Fin 128 → Fin 4096 → EReal
  P : Fin 128 → Fin 2048 → EReal
  g : Fin 2048 → EReal
  b : Fin 2048 → EReal
  W : Fin 8 → Fin 128 → Fin 128 → EReal
  B : Fin 8 → Fin 128 → EReal

/-- The two named constants. -/
def c1 : EReal := (((Real.sqrt 2)⁻¹ : ℝ) : EReal)
def c2 : EReal := (((Real.sqrt (2 * Real.pi))⁻¹ : ℝ) : EReal)
def k2048 : EReal := Ideal.ofBits .f32 0x45000000#32
def khalf : EReal := Ideal.ofBits .f32 0x3F000000#32
def kmhalf : EReal := Ideal.ofBits .f32 0xBF000000#32
def keps : EReal := Ideal.ofBits .f32 0x3727C5AC#32

/-- The normal distribution function, the activation's derivative, and the activation. -/
def cdf (x : EReal) : EReal := khalf * (1 + Ideal.erf (x * c1))
def gd (x : EReal) : EReal := cdf x + x * (c2 * Ideal.exp (kmhalf * x * x))
def gl (x : EReal) : EReal := x * cdf x

def lo (j : Fin 2048) : Fin 4096 := ⟨j.val, by omega⟩
def hi (j : Fin 2048) : Fin 4096 := ⟨2048 + j.val, by omega⟩
/-- The head of a column, and column `e` of head `h`. -/
def hd (j : Fin 2048) : Fin 8 := ⟨j.val / 256, by omega⟩
def col (h : Fin 8) (e : Fin 256) : Fin 2048 := ⟨h.val * 256 + e.val, by omega⟩

theorem hd_col (h : Fin 8) (e : Fin 256) : hd (col h e) = h := Fin.ext (by show (h.val * 256 + e.val) / 256 = h.val; omega)

namespace Blk
variable (k : Blk)

def u (t : Fin 128) (j : Fin 2048) : EReal := gl (k.Z t (lo j))
def v (t : Fin 128) (j : Fin 2048) : EReal := gl (k.Z t (hi j))
def xc (t : Fin 128) (j : Fin 2048) : EReal := k.v t j - Ideal.div (∑ i : Fin 2048, k.v t i) k2048
def rs (t : Fin 128) : EReal := Ideal.rsqrt (Ideal.div (∑ i : Fin 2048, k.xc t i * k.xc t i) k2048 + keps)
def vh (t : Fin 128) (j : Fin 2048) : EReal := k.xc t j * k.rs t
def vln (t : Fin 128) (j : Fin 2048) : EReal := k.vh t j * k.g j + k.b j
/-- The lower triangle of the mixing weights. -/
def wm (h : Fin 8) (t s : Fin 128) : EReal := if s.val ≤ t.val then k.W h t s else 0
def f (t : Fin 128) (j : Fin 2048) : EReal := (∑ s : Fin 128, k.wm (hd j) t s * k.vln s j) + k.B (hd j) t
def df (t : Fin 128) (j : Fin 2048) : EReal := k.P t j * k.u t j
def dvln (s : Fin 128) (j : Fin 2048) : EReal := ∑ t : Fin 128, k.wm (hd j) t s * k.df t j
def dvh (s : Fin 128) (j : Fin 2048) : EReal := k.dvln s j * k.g j
def dv (s : Fin 128) (j : Fin 2048) : EReal :=
  k.rs s * (k.dvh s j - Ideal.div (∑ i : Fin 2048, k.dvh s i) k2048 - k.vh s j * Ideal.div (∑ i : Fin 2048, k.dvh s i * k.vh s i) k2048)

/-- The five results of one block; the last four are summed over the blocks. -/
def dzL (t : Fin 128) (j : Fin 2048) : EReal := k.P t j * k.f t j * gd (k.Z t (lo j))
def dzR (t : Fin 128) (j : Fin 2048) : EReal := k.dv t j * gd (k.Z t (hi j))
def dz (t : Fin 128) (j : Fin 4096) : EReal := if h : j.val < 2048 then k.dzL t ⟨j.val, h⟩ else k.dzR t ⟨j.val - 2048, by omega⟩
def dW (h : Fin 8) (t s : Fin 128) : EReal := if s.val ≤ t.val then ∑ e : Fin 256, k.df t (col h e) * k.vln s (col h e) else 0
def dB (t : Fin 128) (l : Fin 128) : EReal := if h : l.val < 8 then ∑ e : Fin 256, k.df t (col ⟨l.val, h⟩ e) else 0
def dg (j : Fin 2048) : EReal := ∑ t : Fin 128, k.dvln t j * k.vh t j
def db (j : Fin 2048) : EReal := ∑ t : Fin 128, k.dvln t j

end Blk

abbrev TZ := FVec Ideal ⟨2, ![8192, 4096]⟩ .bf16
abbrev TP := FVec Ideal ⟨2, ![8192, 2048]⟩ .bf16
abbrev TG := FVec Ideal ⟨1, ![2048]⟩ .f32
abbrev TW := FVec Ideal ⟨3, ![8, 128, 128]⟩ .f32
abbrev TB := FVec Ideal ⟨2, ![8, 128]⟩ .f32

/-- Block `q` of the arguments. -/
def blkOf (Z : TZ) (P : TP) (g b : TG) (W : TW) (B : TB) (q : ℕ) : Blk where
  Z t j := Z (ix2 ⟨(q * 128 + t.val) % 8192, Nat.mod_lt _ (by omega)⟩ j)
  P t j := P (ix2 ⟨(q * 128 + t.val) % 8192, Nat.mod_lt _ (by omega)⟩ j)
  g j := g (ix1 j)
  b j := b (ix1 j)
  W h t s := W (ix3 h t s)
  B h t := B (ix2 h t)

end Cert.GmlpMath

namespace Cert.GmlpKernelIdeal.Val

open Cert.GmlpKernelIdeal Cert.GmlpKernelIdeal.Gen Cert.RealKit Cert.Consts Cert.GmlpMath

/-- A block of the kernel's six windows. -/
def blk (z : Vec Ideal S128x4096 .bf16) (p : Vec Ideal S128x2048 .bf16) (g b : Vec Ideal S1x2048 .f32) (W : Vec Ideal S8x128x128 .f32) (B : Vec Ideal S128x2048 .f32) : Blk where
  Z t j := z (ix2 t j)
  P t j := p (ix2 t j)
  g j := g (ix2 0 j)
  b j := b (ix2 0 j)
  W h t s := W (ix3 h t s)
  B h t := B (ix2 t (col h 0))

/-- What a comparison of two places picks. -/
theorem keep {a b : ℕ} (ha : a < 128) (hb : b < 128) (x : EReal) :
    Scalar.select (IntOp.cmpi .sge (BitVec.ofNat 32 a) (BitVec.ofNat 32 b)) x 0 = if b ≤ a then x else 0 := by
  unfold Scalar.select
  rw [WordCmp.cmpi_sge_ofNat (w := 32) (by omega) (by omega)]
  exact if_congr (WordCmp.ofBool_decide_eq_one_iff _) rfl rfl
theorem lane {a b : ℕ} (ha : a < 128) (hb : b < 128) (x : EReal) :
    Scalar.select (IntOp.cmpi .eq (BitVec.ofNat 32 a) (BitVec.ofNat 32 b)) x 0 = if a = b then x else 0 := by
  unfold Scalar.select
  rw [WordCmp.cmpi_eq_ofNat (w := 32) (by omega) (by omega)]
  exact if_congr (WordCmp.ofBool_decide_eq_one_iff _) rfl rfl

section pays
variable (z : Vec Ideal S128x4096 .bf16) (p : Vec Ideal S128x2048 .bf16) (g b : Vec Ideal S1x2048 .f32) (W : Vec Ideal S8x128x128 .f32) (B : Vec Ideal S128x2048 .f32)

theorem pay4_at (t : Fin 128) (j : Fin 4096) : k0_pay4 (F := Ideal) z (ix2 t j) = (blk z p g b W B).Z t j := by
  pointwise [k0_pay4]
  rfl
theorem pay5_at (t : Fin 128) (j : Fin 4096) : k0_pay5 (F := Ideal) z (ix2 t j) = cdf ((blk z p g b W B).Z t j) := by
  pointwise [k0_pay4, k0_pay5]
  rfl
theorem pay7_at (t : Fin 128) (j : Fin 2048) : k0_pay7 (F := Ideal) z (ix2 t j) = (blk z p g b W B).u t j := by
  pointwise [k0_pay4, k0_pay5, k0_pay6, k0_pay7]
  rfl
theorem pay8_at (t : Fin 128) (j : Fin 2048) : k0_pay8 (F := Ideal) z (ix2 t j) = (blk z p g b W B).xc t j := by
  pointwise [k0_pay4, k0_pay5, k0_pay6, k0_pay8]
  rfl
theorem pay9_at (t : Fin 128) : k0_pay9 (F := Ideal) z (ix2 t 0) = (blk z p g b W B).rs t := by
  pointwise [k0_pay9]
  simp only [pay8_at z p g b W B]
  rfl
theorem pay10_at (t : Fin 128) (j : Fin 2048) : k0_pay10 (F := Ideal) z (ix2 t j) = (blk z p g b W B).vh t j := by
  pointwise [k0_pay10]
  rw [pay8_at z p g b W B, pay9_at z p g b W B]
  rfl
theorem pay11_at (t : Fin 128) (j : Fin 2048) : k0_pay11 (F := Ideal) z g b (ix2 t j) = (blk z p g b W B).vln t j := by
  pointwise [k0_pay11]
  rw [pay10_at z p g b W B]
  rfl
theorem pay12_at (t : Fin 128) (j : Fin 2048) : k0_pay12 (F := Ideal) p (ix2 t j) = (blk z p g b W B).P t j := by
  pointwise [k0_pay12]
  rfl

/-- The columns of one head. -/
theorem slice_at {n : ℕ} {φ : FTy} (o : ℕ) (x : FVec Ideal ⟨2, ![128, n]⟩ φ) (hs : (⟨2, ![128, n]⟩ : Shape).Slices ![0, o] S128x256)
    (t : Fin 128) (e : Fin 256) (j : Fin n) (hj : j.val = o + e.val) : extractStridedSlice S128x256 ![0, o] x hs (ix2 t e) = x (ix2 t j) :=
  extractStridedSlice_apply _ _ _ _ _ (by intro a; fin_cases a <;> simp [hj])

/-- The weights of one head, loaded from the block. -/
abbrev lW (o : ℕ) (h : ∀ b : Fin 3, (![o, 0, 0] : Fin 3 → ℕ) b + (![1, 128, 128] : Fin 3 → ℕ) b ≤ S8x128x128.size b) : Vec Ideal S1x128x128 .f32 := View.ld (S := S8x128x128) W (Rect.unit ![o, 0, 0] ![1, 128, 128] h)
/-- The bias of one head, loaded from the block. -/
abbrev lB (o : ℕ) (h : ∀ b : Fin 2, (![0, o] : Fin 2 → ℕ) b + (![128, 256] : Fin 2 → ℕ) b ≤ S128x2048.size b) : Vec Ideal S128x256 .f32 := View.ld (S := S128x2048) B (Rect.unit ![0, o] ![128, 256] h)

theorem wm_at (h : Fin 8) (ho) (t s : Fin 128) : k0_pay14 (F := Ideal) (lW W h.val ho) (ix2 t s) = (blk z p g b W B).wm h t s := by
  have e (x : Vec Ideal S1x128x128 .f32) : k0_pay14 (F := Ideal) x (ix2 t s) = if s.val ≤ t.val then x (ix3 0 t s) else 0 := by
    pointwise [k0_pay14, k0_pay13]
    exact keep t.isLt s.isLt _
  rw [e, show lW W h.val ho (ix3 0 t s) = W (ix3 h t s) from View.ld_unit_apply_of _ _ _ _ _ _ (by intro b; fin_cases b <;> simp)]
  rfl

/-- The gradient of a head's mixed rows. -/
def dfP (o : ℕ) (hs : S128x2048.Slices ![0, o] S128x256) : FVec Ideal S128x256 .f32 :=
  mulf (extractStridedSlice S128x256 ![0, o] (k0_pay12 (F := Ideal) p) hs) (extractStridedSlice S128x256 ![0, o] (k0_pay7 (F := Ideal) z) hs)

theorem dfP_at (h : Fin 8) (o : ℕ) (ho : o = h.val * 256) (hs) (t : Fin 128) (e : Fin 256) : dfP z p o hs (ix2 t e) = (blk z p g b W B).df t (col h e) := by
  have ej : (col h e).val = o + e.val := by rw [ho]; rfl
  exact Ideal.mul_congr ((slice_at o _ hs t e (col h e) ej).trans (pay12_at z p g b W B t _)) ((slice_at o _ hs t e (col h e) ej).trans (pay7_at z p g b W B t _))

/-- The gradient of a head's normalized rows. -/
def dvP (o : ℕ) (hs : S128x2048.Slices ![0, o] S128x256) (x : Vec Ideal S1x128x128 .f32) : FVec Ideal S128x256 .f32 :=
  matmul dot_S128x128_S128x256_S128x256_0_0_1_1_n_n none (k0_pay14 (F := Ideal) x) (truncf .bf16 (dfP z p o hs) bitsLt_bf16_f32) (constant S128x256 .f32 0x00000000#32)

theorem dvP_at (h : Fin 8) (o : ℕ) (ho : o = h.val * 256) (hs hw) (s : Fin 128) (e : Fin 256) : dvP z p o hs (lW W h.val hw) (ix2 s e) = (blk z p g b W B).dvln s (col h e) := by
  have e (x : FVec Ideal S128x128 .bf16) (y : FVec Ideal S128x256 .f32) :
      matmul (F := Ideal) dot_S128x128_S128x256_S128x256_0_0_1_1_n_n none x (truncf .bf16 y bitsLt_bf16_f32) (constant S128x256 .f32 0x00000000#32) (ix2 s e)
        = ∑ t : Fin 128, x (ix2 t s) * y (ix2 t e) := by
    pointwise
  refine (e _ _).trans (Finset.sum_congr rfl fun t _ => Ideal.mul_congr ?_ (dfP_at z p g b W B h o ho hs t _))
  rw [hd_col]
  exact wm_at z p g b W B h hw t s

/-- The gradient of a head's weights. -/
def dwP (o : ℕ) (hs : S128x2048.Slices ![0, o] S128x256) : FVec Ideal S128x128 .f32 :=
  select k0_pay13 (matmul dot_S128x256_S128x256_S128x128_1_1_0_0_n_n none (truncf .bf16 (dfP z p o hs) bitsLt_bf16_f32)
    (extractStridedSlice S128x256 ![0, o] (k0_pay11 (F := Ideal) z g b) hs) (constant S128x128 .f32 0x00000000#32)) (broadcast S128x128 (Scalar.ofBits (F := Ideal) .f32 0x00000000#32))

theorem dwP_at (h : Fin 8) (o : ℕ) (ho : o = h.val * 256) (hs) (t s : Fin 128) : dwP z p g b o hs (ix2 t s) = (blk z p g b W B).dW h t s := by
  have e (x : FVec Ideal S128x256 .f32) (y : FVec Ideal S128x256 .bf16) :
      select k0_pay13 (matmul (F := Ideal) dot_S128x256_S128x256_S128x128_1_1_0_0_n_n none (truncf .bf16 x bitsLt_bf16_f32) y (constant S128x128 .f32 0x00000000#32))
          (broadcast S128x128 (Scalar.ofBits (F := Ideal) .f32 0x00000000#32)) (ix2 t s)
        = if s.val ≤ t.val then ∑ e : Fin 256, x (ix2 t e) * y (ix2 s e) else 0 := by
    pointwise [k0_pay13]
    exact keep t.isLt s.isLt _
  refine (e _ _).trans (if_congr Iff.rfl (Finset.sum_congr rfl fun e _ => Ideal.mul_congr (dfP_at z p g b W B h o ho hs t _) ?_) rfl)
  exact (slice_at o _ hs s e (col h e) (by rw [ho]; rfl)).trans (pay11_at z p g b W B s _)

/-- The left half of the hidden rows' gradient in one head. -/
def dzP (o : ℕ) (hs : S128x2048.Slices ![0, o] S128x256) (hs' : S128x4096.Slices ![0, o] S128x256) (x : Vec Ideal S1x128x128 .f32) (y : Vec Ideal S128x256 .f32) : FVec Ideal S128x256 .bf16 :=
  truncf .bf16 (mulf (mulf (extractStridedSlice S128x256 ![0, o] (k0_pay12 (F := Ideal) p) hs)
      (addf (matmul dot_S128x128_S128x256_S128x256_1_0_0_1_n_n none (k0_pay14 (F := Ideal) x) (extractStridedSlice S128x256 ![0, o] (k0_pay11 (F := Ideal) z g b) hs) (constant S128x256 .f32 0x00000000#32))
        (shapeCast S128x256 y shapeCasts_S128x256_S128x256)))
    (addf (extractStridedSlice S128x256 ![0, o] (k0_pay5 (F := Ideal) z) hs')
      (mulf (extractStridedSlice S128x256 ![0, o] (k0_pay4 (F := Ideal) z) hs')
        (mulf (broadcast S128x256 (Named.named κ "inv_sqrt_2pi" 0x3ECC422A#32))
          (exp (mulf (mulf (broadcast S128x256 (Scalar.ofBits .f32 0xBF000000#32)) (extractStridedSlice S128x256 ![0, o] (k0_pay4 (F := Ideal) z) hs')) (extractStridedSlice S128x256 ![0, o] (k0_pay4 (F := Ideal) z) hs'))))))) bitsLt_bf16_f32

theorem dzP_at (h : Fin 8) (o : ℕ) (ho : o = h.val * 256) (hs hs' hw hB) (t : Fin 128) (e : Fin 256)
    (hb : ∀ h t e, B (ix2 t (col h e)) = B (ix2 t (col h 0))) :
    dzP z p g b o hs hs' (lW W h.val hw) (lB B o hB) (ix2 t e) = (blk z p g b W B).dzL t (col h e) := by
  have e1 (a : FVec Ideal S128x256 .f32) (x : FVec Ideal S128x128 .bf16) (v : FVec Ideal S128x256 .bf16) (y : Vec Ideal S128x256 .f32) (q r : FVec Ideal S128x256 .f32) :
      truncf .bf16 (mulf (F := Ideal) (mulf a
          (addf (matmul dot_S128x128_S128x256_S128x256_1_0_0_1_n_n none x v (constant S128x256 .f32 0x00000000#32)) (shapeCast S128x256 y shapeCasts_S128x256_S128x256)))
        (addf q (mulf r (mulf (broadcast S128x256 (Named.named κ "inv_sqrt_2pi" 0x3ECC422A#32))
          (exp (mulf (mulf (broadcast S128x256 (Scalar.ofBits .f32 0xBF000000#32)) r) r)))))) bitsLt_bf16_f32 (ix2 t e)
      = a (ix2 t e) * ((∑ s : Fin 128, x (ix2 t s) * v (ix2 s e)) + y (ix2 t e))
        * (q (ix2 t e) + r (ix2 t e) * (c2 * Ideal.exp (kmhalf * r (ix2 t e) * r (ix2 t e)))) := by
    pointwise
    rfl
  have ej : (col h e).val = o + e.val := by rw [ho]; rfl
  have ej' : (lo (col h e)).val = o + e.val := ej
  refine (e1 _ _ _ _ _ _).trans (Ideal.mul_congr (Ideal.mul_congr ((slice_at o _ hs t e (col h e) ej).trans (pay12_at z p g b W B t _)) (Ideal.add_congr (Finset.sum_congr rfl fun s _ => Ideal.mul_congr ?_ ?_) ?_)) ?_)
  · rw [hd_col]
    exact wm_at z p g b W B h hw t s
  · exact (slice_at o _ hs s e (col h e) ej).trans (pay11_at z p g b W B s _)
  · rw [hd_col]
    exact (View.ld_unit_apply_of _ _ _ _ _ (ix2 t (col h e)) (by intro b; fin_cases b <;> simp [ej])).trans (hb h t e)
  · rw [(slice_at o _ hs' t e (lo (col h e)) ej').trans (pay5_at z p g b W B t _), (slice_at o _ hs' t e (lo (col h e)) ej').trans (pay4_at z p g b W B t _)]
    rfl

/-- Eight heads' columns side by side. -/
theorem cat_at (d0 d1 d2 d3 d4 d5 d6 d7 : FVec Ideal S128x256 .f32) (F : Fin 128 → Fin 2048 → EReal)
    (h0 : ∀ t e, d0 (ix2 t e) = F t (col 0 e)) (h1 : ∀ t e, d1 (ix2 t e) = F t (col 1 e)) (h2 : ∀ t e, d2 (ix2 t e) = F t (col 2 e)) (h3 : ∀ t e, d3 (ix2 t e) = F t (col 3 e))
    (h4 : ∀ t e, d4 (ix2 t e) = F t (col 4 e)) (h5 : ∀ t e, d5 (ix2 t e) = F t (col 5 e)) (h6 : ∀ t e, d6 (ix2 t e) = F t (col 6 e)) (h7 : ∀ t e, d7 (ix2 t e) = F t (col 7 e))
    (t : Fin 128) (j : Fin 2048) :
    concatenate (α := EReal) S128x2048 1 [⟨S128x256, d0⟩, ⟨S128x256, d1⟩, ⟨S128x256, d2⟩, ⟨S128x256, d3⟩, ⟨S128x256, d4⟩, ⟨S128x256, d5⟩, ⟨S128x256, d6⟩, ⟨S128x256, d7⟩] concatenates_S128x256_S128x256_S128x256_S128x256_S128x256_S128x256_S128x256_S128x256_S128x2048_d1 (ix2 t j)
      = F t j := by
  have fin (j' : Fin 2048) (e : j'.val = j.val) : F t j' = F t j := congrArg (F t) (Fin.ext e)
  pointwise
  split
  · exact (h0 t _).trans (fin _ (by show 0 * 256 + j.val = _; omega))
  split
  · exact (h1 t _).trans (fin _ (by show 1 * 256 + (j.val - 256) = _; omega))
  split
  · exact (h2 t _).trans (fin _ (by show 2 * 256 + (j.val - 256 - 256) = _; omega))
  split
  · exact (h3 t _).trans (fin _ (by show 3 * 256 + (j.val - 256 - 256 - 256) = _; omega))
  split
  · exact (h4 t _).trans (fin _ (by show 4 * 256 + (j.val - 256 - 256 - 256 - 256) = _; omega))
  split
  · exact (h5 t _).trans (fin _ (by show 5 * 256 + (j.val - 256 - 256 - 256 - 256 - 256) = _; omega))
  split
  · exact (h6 t _).trans (fin _ (by show 6 * 256 + (j.val - 256 - 256 - 256 - 256 - 256 - 256) = _; omega))
  exact (h7 t _).trans (fin _ (by show 7 * 256 + (j.val - 256 - 256 - 256 - 256 - 256 - 256 - 256) = _; omega))

theorem pay106_at (v : FVec Ideal S128x2048 .f32) (t : Fin 128) (j : Fin 2048) (hv : ∀ t j, v (ix2 t j) = (blk z p g b W B).dvh t j) :
    k0_pay106 (F := Ideal) (k0_pay4 (F := Ideal) z) (k0_pay5 (F := Ideal) z) (k0_pay9 (F := Ideal) z) (k0_pay10 (F := Ideal) z) v (ix2 t j) = (blk z p g b W B).dzR t j := by
  pointwise [k0_pay106]
  simp only [hv, pay4_at z p g b W B, pay5_at z p g b W B, pay9_at z p g b W B, pay10_at z p g b W B]
  rfl
theorem pay107_at (v : FVec Ideal S128x2048 .f32) (j : Fin 2048) (hv : ∀ t j, v (ix2 t j) = (blk z p g b W B).dvln t j) :
    k0_pay107 (F := Ideal) (k0_pay10 (F := Ideal) z) v (ix2 0 j) = (blk z p g b W B).dg j := by
  pointwise [k0_pay107]
  simp only [hv, pay10_at z p g b W B]
  rfl
theorem pay108_at (v : FVec Ideal S128x2048 .f32) (j : Fin 2048) (hv : ∀ t j, v (ix2 t j) = (blk z p g b W B).dvln t j) :
    k0_pay108 (F := Ideal) v (ix2 0 j) = (blk z p g b W B).db j := by
  pointwise [k0_pay108]
  simp only [hv]
  rfl

/-- One head's column of the bias gradient, zero in the other columns. -/
def dbP (o : ℕ) (hs : S128x2048.Slices ![0, o] S128x256) (w : BitVec 32) : FVec Ideal S128x128 .f32 :=
  select (cmpi .eq (iota .tc S128x128 32 [1] iota_S128x128_d1_w32) (broadcast S128x128 w))
    (broadcastTo S128x128 (shapeCast S128x1 (shapeCast S128x1 (multiReduction .add [1] S128 (dfP z p o hs) 0x00000000#32 reduces_S128x256_S128 (.inl rfl) rfl) shapeCasts_S128_S128x1) shapeCasts_S128x1_S128x1) broadcasts_S128x1_S128x128)
    (broadcast S128x128 (Scalar.ofBits (F := Ideal) .f32 0x00000000#32))

theorem dbP_at (h : Fin 8) (o : ℕ) (ho : o = h.val * 256) (hs) (t l : Fin 128) :
    dbP z p o hs (BitVec.ofNat 32 h.val) (ix2 t l) = if l.val = h.val then ∑ e : Fin 256, (blk z p g b W B).df t (col h e) else 0 := by
  have e (x : FVec Ideal S128x256 .f32) (w : BitVec 32) : select (cmpi .eq (iota .tc S128x128 32 [1] iota_S128x128_d1_w32) (broadcast S128x128 w))
    (broadcastTo S128x128 (shapeCast S128x1 (shapeCast S128x1 (multiReduction (F := Ideal) .add [1] S128 x 0x00000000#32 reduces_S128x256_S128 (.inl rfl) rfl) shapeCasts_S128_S128x1) shapeCasts_S128x1_S128x1) broadcasts_S128x1_S128x128)
    (broadcast S128x128 (Scalar.ofBits (F := Ideal) .f32 0x00000000#32)) (ix2 t l) = Scalar.select (IntOp.cmpi .eq (BitVec.ofNat 32 l.val) w) (∑ e : Fin 256, x (ix2 t e)) (0 : EReal) := by
    pointwise
  refine (e _ _).trans ((lane l.isLt (by omega) _).trans (if_congr Iff.rfl (Finset.sum_congr rfl fun e _ => dfP_at z p g b W B h o ho hs t e) rfl))

end pays

variable (m : (ℓ : Loc nD τ sig) → Buf (Elt Ideal) ℓ)

abbrev aZ (c : Dev nD) : TZ := m (c, Proc.tc.devRef main_arg0)
abbrev aP (c : Dev nD) : TP := m (c, Proc.tc.devRef main_arg1)
abbrev aG (c : Dev nD) : TG := m (c, Proc.tc.devRef main_arg2)
abbrev aH (c : Dev nD) : TG := m (c, Proc.tc.devRef main_arg3)
abbrev aW (c : Dev nD) : TW := m (c, Proc.tc.devRef main_arg4)
abbrev aB (c : Dev nD) : TB := m (c, Proc.tc.devRef main_arg5)
/-- Block `q` of the arguments a device holds. -/
abbrev K (c : Dev nD) (q : ℕ) : Blk := blkOf (aZ m c) (aP m c) (aG m c) (aH m c) (aW m c) (aB m c) q

theorem idx : ∀ t : Fin cfg0.N, win0_0.index t = ![t.val, 0] ∧ win0_1.index t = ![t.val, 0] ∧ win0_2.index t = ![0, 0]
  ∧ win0_3.index t = ![0, 0] ∧ win0_4.index t = ![0, 0, 0] ∧ win0_5.index t = ![0, 0] ∧ win0_6.index t = ![t.val, 0] ∧ win0_7.index t = ![0, 0, 0]
  ∧ win0_8.index t = ![0, 0] ∧ win0_9.index t = ![0, 0] ∧ win0_10.index t = ![0, 0] ∧ t.val < 64 :=
  (by decide +kernel : ∀ t : Fin grid0.N, _)

theorem lt (t : Fin cfg0.N) : t.val < 64 := (idx t).2.2.2.2.2.2.2.2.2.2.2

theorem z_at (c : Dev nD) (t : Fin cfg0.N) (r : Fin 128) (n : Fin 8192) (hn : n.val = t.val * 128 + r.val) (j : Fin 4096) :
    (show EReal from iblk m c 0 t (ix2 r j)) = aZ m c (ix2 n j) := by
  blk_ext [iblk, V, idx t]
theorem p_at (c : Dev nD) (t : Fin cfg0.N) (r : Fin 128) (n : Fin 8192) (hn : n.val = t.val * 128 + r.val) (j : Fin 2048) :
    (show EReal from iblk m c 1 t (ix2 r j)) = aP m c (ix2 n j) := by
  blk_ext [iblk, V, idx t]
theorem w_at (c : Dev nD) (t : Fin cfg0.N) (h : Fin 8) (r s : Fin 128) :
    (show EReal from iblk m c 4 t (ix3 h r s)) = aW m c (ix3 h r s) := by
  blk_ext [iblk, V, idx t]
theorem g_at (c : Dev nD) (t : Fin cfg0.N) (j : Fin 2048) :
    (show EReal from iblk m c 2 t (ix2 0 j)) = aG m c (ix1 j) := by
  blk_simp [iblk]
  entry_read
  have e : (((View.whole main_v3).slice (win0_2.rect t)).emb (ix2 0 j) : S1x2048.Idx) = ix2 0 j := by
    blk_ext [idx t]
  refine (congrArg (shapeCast (main_v3.ty.shape) (m (c, Proc.tc.devRef main_arg2)) shapeCasts_S2048_S1x2048) e).trans ?_
  show shapeCast S1x2048 _ _ _ = _
  pointwise []
theorem h_at (c : Dev nD) (t : Fin cfg0.N) (j : Fin 2048) :
    (show EReal from iblk m c 3 t (ix2 0 j)) = aH m c (ix1 j) := by
  blk_simp [iblk]
  entry_read
  have e : (((View.whole main_v4).slice (win0_3.rect t)).emb (ix2 0 j) : S1x2048.Idx) = ix2 0 j := by
    blk_ext [idx t]
  refine (congrArg (shapeCast (main_v4.ty.shape) (m (c, Proc.tc.devRef main_arg3)) shapeCasts_S2048_S1x2048) e).trans ?_
  show shapeCast S1x2048 _ _ _ = _
  pointwise []
theorem b_at (c : Dev nD) (t : Fin cfg0.N) (h : Fin 8) (e : Fin 256) (r : Fin 128) :
    (show EReal from iblk m c 5 t (ix2 r (col h e))) = aB m c (ix2 h r) := by
  blk_simp [iblk]
  entry_read
  have ee : (((View.whole main_v2).slice (win0_5.rect t)).emb (ix2 r (col h e)) : S128x2048.Idx) = ix2 r (col h e) := by
    blk_ext [idx t]
  refine (congrArg (shapeCast (main_v2.ty.shape) (broadcastInDim S128x8x256 ![0, 1] bcast_S128x8_S128x8x256_0_1
    (transpose S128x8 [1, 0] (m (c, Proc.tc.devRef main_arg5)) transposes_S8x128_S128x8_1_0)) shapeCasts_S128x8x256_S128x2048) ee).trans ?_
  have q (B : FVec Ideal S8x128 .f32) : shapeCast S128x2048 (broadcastInDim S128x8x256 ![0, 1] bcast_S128x8_S128x8x256_0_1
    (transpose S128x8 [1, 0] B transposes_S8x128_S128x8_1_0)) shapeCasts_S128x8x256_S128x2048 (ix2 r (col h e)) = B (ix2 h r) := by
    pointwise []
    exact congrArg (fun q => B (ix2 q r)) (Fin.ext (by show (h.val * 256 + e.val) / 256 = h.val; omega))
  exact q _

/-- The windows of one point hold one block of the arguments. -/
theorem blk_eq (c : Dev nD) (t : Fin cfg0.N) :
    blk (iblk m c 0 t) (iblk m c 1 t) (iblk m c 2 t) (iblk m c 3 t) (iblk m c 4 t) (iblk m c 5 t) = K m c t.val := by
  have ht := lt t
  refine Blk.mk.injEq .. |>.mpr ⟨?_, ?_, ?_, ?_, ?_, ?_⟩
  · exact funext fun r => funext fun j => z_at m c t r _ (Nat.mod_eq_of_lt (by omega)) j
  · exact funext fun r => funext fun j => p_at m c t r _ (Nat.mod_eq_of_lt (by omega)) j
  · exact funext fun j => g_at m c t j
  · exact funext fun j => h_at m c t j
  · exact funext fun h => funext fun r => funext fun s => w_at m c t h r s
  · exact funext fun h => funext fun r => b_at m c t h 0 r

theorem dz_ld (c : Dev nD) (t : Fin cfg0.N) (h : Fin 8) (o : ℕ) (ho : o = h.val * 256) (hs hs' hw hB) (x : S128x256.Idx)
    (r : Fin 128) (hr : r.val = (x 0).val) (j : Fin 4096) (hj : j.val = o + (x 1).val) :
    dzP (iblk m c 0 t) (iblk m c 1 t) (iblk m c 2 t) (iblk m c 3 t) o hs hs' (lW (iblk m c 4 t) h.val hw) (lB (iblk m c 5 t) o hB) x = (K m c t.val).dz r j := by
  idx_vars x
  have hx1 : x1.val < 256 := x1.isLt
  have hj : j.val = o + x1.val := hj
  obtain rfl : r = x0 := Fin.ext hr
  have e := dzP_at (iblk m c 0 t) (iblk m c 1 t) (iblk m c 2 t) (iblk m c 3 t) (iblk m c 4 t) (iblk m c 5 t) h o ho hs hs' hw hB r x1
    (fun h r e => (b_at m c t h e r).trans (b_at m c t h 0 r).symm)
  rw [blk_eq] at e
  refine e.trans ?_
  rw [Blk.dz, dif_pos (by omega)]
  exact congrArg _ (Fin.ext (by show h.val * 256 + x1.val = j.val; omega))

theorem dvln_at (c : Dev nD) (t : Fin cfg0.N) (r : Fin 128) (j : Fin 2048) (hs0 hs1 hs2 hs3 hs4 hs5 hs6 hs7 hw0 hw1 hw2 hw3 hw4 hw5 hw6 hw7) :
    concatenate (α := EReal) S128x2048 1
      [⟨S128x256, dvP (iblk m c 0 t) (iblk m c 1 t) 0 hs0 (lW (iblk m c 4 t) 0 hw0)⟩, ⟨S128x256, dvP (iblk m c 0 t) (iblk m c 1 t) 256 hs1 (lW (iblk m c 4 t) 1 hw1)⟩,
        ⟨S128x256, dvP (iblk m c 0 t) (iblk m c 1 t) 512 hs2 (lW (iblk m c 4 t) 2 hw2)⟩, ⟨S128x256, dvP (iblk m c 0 t) (iblk m c 1 t) 768 hs3 (lW (iblk m c 4 t) 3 hw3)⟩,
        ⟨S128x256, dvP (iblk m c 0 t) (iblk m c 1 t) 1024 hs4 (lW (iblk m c 4 t) 4 hw4)⟩, ⟨S128x256, dvP (iblk m c 0 t) (iblk m c 1 t) 1280 hs5 (lW (iblk m c 4 t) 5 hw5)⟩,
        ⟨S128x256, dvP (iblk m c 0 t) (iblk m c 1 t) 1536 hs6 (lW (iblk m c 4 t) 6 hw6)⟩, ⟨S128x256, dvP (iblk m c 0 t) (iblk m c 1 t) 1792 hs7 (lW (iblk m c 4 t) 7 hw7)⟩]
      concatenates_S128x256_S128x256_S128x256_S128x256_S128x256_S128x256_S128x256_S128x256_S128x2048_d1 (ix2 r j)
      = (K m c t.val).dvln r j := by
  rw [← blk_eq]
  have d (h : Fin 8) (o : ℕ) (ho : o = h.val * 256) (hs hw) (s e) := dvP_at (iblk m c 0 t) (iblk m c 1 t) (iblk m c 2 t) (iblk m c 3 t) (iblk m c 4 t) (iblk m c 5 t) h o ho hs hw s e
  exact cat_at _ _ _ _ _ _ _ _ _ (d 0 0 rfl hs0 hw0) (d 1 256 rfl hs1 hw1) (d 2 512 rfl hs2 hw2) (d 3 768 rfl hs3 hw3) (d 4 1024 rfl hs4 hw4) (d 5 1280 rfl hs5 hw5) (d 6 1536 rfl hs6 hw6) (d 7 1792 rfl hs7 hw7) r j

theorem dzR_ld (c : Dev nD) (t : Fin cfg0.N) (v : FVec Ideal S128x2048 .f32) (hv : ∀ r j, v (ix2 r j) = (K m c t.val).dvh r j)
    (x : S128x2048.Idx) (r : Fin 128) (hr : r.val = (x 0).val) (j : Fin 4096) (hj : j.val = 2048 + (x 1).val) :
    k0_pay106 (F := Ideal) (k0_pay4 (F := Ideal) (iblk m c 0 t)) (k0_pay5 (F := Ideal) (iblk m c 0 t)) (k0_pay9 (F := Ideal) (iblk m c 0 t)) (k0_pay10 (F := Ideal) (iblk m c 0 t)) v x = (K m c t.val).dz r j := by
  idx_vars x
  have hx1 : x1.val < 2048 := x1.isLt
  have hj : j.val = 2048 + x1.val := hj
  obtain rfl : r = x0 := Fin.ext hr
  rw [← blk_eq] at hv ⊢
  refine (pay106_at _ _ _ _ _ _ v r x1 hv).trans ?_
  rw [Blk.dz, dif_neg (by omega)]
  exact congrArg _ (Fin.ext (by show x1.val = j.val - 2048; omega))

theorem pay105_at (u d : FVec Ideal S128x2048 .f32) (d0 d1 d2 d3 d4 d5 d6 : FVec Ideal S128x256 .f32) (w : FVec Ideal S128x128 .bf16) (g : Vec Ideal S1x2048 .f32) (r : Fin 128) (j : Fin 2048) :
    k0_pay105 (F := Ideal) u d d0 d1 d2 d3 d4 d5 d6 w g (ix2 r j) = k0_pay104 (F := Ideal) u d d0 d1 d2 d3 d4 d5 d6 w (ix2 r j) * g (ix2 0 j) := by
  pointwise [k0_pay105]

set_option maxHeartbeats 1000000 in
theorem o6_at (c : Dev nD) (t : Fin cfg0.N) (y : S128x4096.Idx) :
    (show EReal from (outsAt0 m c t.val t.isLt).1 y) = (K m c t.val).dz (y 0) (y 1) := by
  have ht := lt t
  by_cases h : t.val = 0
  on_goal 1 => rw [outsAt0_A m c t (by omega) (by omega) (by omega) (by omega) (by omega) (by omega) (by omega) (by omega) (by omega) (by omega) (by omega) (by omega) (by omega) (by omega) (by omega) (by omega) (by omega) (by omega)]
  on_goal 2 => rw [outsAt0_B m c t (by omega) (by omega) (by omega) (by omega) (by omega) (by omega) (by omega) (by omega) (by omega) (by omega) (by omega) (by omega) (by omega) (by omega) (by omega) (by omega) (by omega) (by omega)]
  all_goals
    frame_out
    canon_tiles x h using View.cover_of_tiledBy _ ![128, 256] (by sl_kernel_rfl) y
    case' piece0 =>
      exact dzR_ld m c t _ (fun r j => (pay105_at _ _ _ _ _ _ _ _ _ _ _ r j).trans (Ideal.mul_congr (dvln_at m c t r j _ _ _ _ _ _ _ _ _ _ _ _ _ _ _ _) (g_at m c t j))) x (y 0) (by omega) (y 1) (by omega)
    case' piece1 => exact dz_ld m c t 7 1792 rfl _ _ _ _ x (y 0) (by omega) (y 1) (by omega)
    case' piece2 => exact dz_ld m c t 6 1536 rfl _ _ _ _ x (y 0) (by omega) (y 1) (by omega)
    case' piece3 => exact dz_ld m c t 5 1280 rfl _ _ _ _ x (y 0) (by omega) (y 1) (by omega)
    case' piece4 => exact dz_ld m c t 4 1024 rfl _ _ _ _ x (y 0) (by omega) (y 1) (by omega)
    case' piece5 => exact dz_ld m c t 3 768 rfl _ _ _ _ x (y 0) (by omega) (y 1) (by omega)
    case' piece6 => exact dz_ld m c t 2 512 rfl slices_S128x2048_o0_512_S128x256 slices_S128x4096_o0_512_S128x256 _ _ x (y 0) (by omega) (y 1) (by omega)
    case' piece7 => exact dz_ld m c t 1 256 rfl _ _ _ _ x (y 0) (by omega) (y 1) (by omega)
    case' piece8 => exact dz_ld m c t 0 0 rfl _ _ _ _ x (y 0) (by omega) (y 1) (by omega)

theorem dw_ld (c : Dev nD) (t : Fin cfg0.N) (h : Fin 8) (o : ℕ) (ho : o = h.val * 256) (hs : S128x2048.Slices ![0, o] S128x256) (x : S1x128x128.Idx)
    (h' : Fin 8) (hh : h'.val = h.val + (x 0).val) (r : Fin 128) (hr : r.val = (x 1).val) (s : Fin 128) (hr' : s.val = (x 2).val) :
    shapeCast S1x128x128 (dwP (iblk m c 0 t) (iblk m c 1 t) (iblk m c 2 t) (iblk m c 3 t) o hs) shapeCasts_S128x128_S1x128x128 x = (K m c t.val).dW h' r s := by
  idx_vars x
  obtain rfl : x0 = 0 := Subsingleton.elim _ _
  obtain rfl : r = x1 := Fin.ext hr
  obtain rfl : s = x2 := Fin.ext hr'
  obtain rfl : h' = h := Fin.ext hh
  have e (v : FVec Ideal S128x128 .f32) : shapeCast S1x128x128 v shapeCasts_S128x128_S1x128x128 (ix3 0 r s) = v (ix2 r s) := by
    pointwise
  rw [← blk_eq]
  exact (e _).trans (dwP_at _ _ _ _ _ _ h' o ho hs r s)

set_option maxHeartbeats 1000000 in
theorem o7_A (c : Dev nD) (t : Fin cfg0.N) (h : t.val = 0) (y : S8x128x128.Idx) :
    (show EReal from (outsAt0 m c t.val t.isLt).2.1 y) = (K m c t.val).dW (y 0) (y 1) (y 2) := by
  have ht := lt t
  rw [outsAt0_A m c t (by omega) (by omega) (by omega) (by omega) (by omega) (by omega) (by omega) (by omega) (by omega) (by omega) (by omega) (by omega) (by omega) (by omega) (by omega) (by omega) (by omega) (by omega)]
  frame_out
  canon_tiles x h
  case' piece0 => exact dw_ld m c t 7 1792 rfl slices_S128x2048_o0_1792_S128x256 x (y 0) (by omega) (y 1) (by omega) (y 2) (by omega)
  case' piece1 => exact dw_ld m c t 6 1536 rfl slices_S128x2048_o0_1536_S128x256 x (y 0) (by omega) (y 1) (by omega) (y 2) (by omega)
  case' piece2 => exact dw_ld m c t 5 1280 rfl slices_S128x2048_o0_1280_S128x256 x (y 0) (by omega) (y 1) (by omega) (y 2) (by omega)
  case' piece3 => exact dw_ld m c t 4 1024 rfl slices_S128x2048_o0_1024_S128x256 x (y 0) (by omega) (y 1) (by omega) (y 2) (by omega)
  case' piece4 => exact dw_ld m c t 3 768 rfl slices_S128x2048_o0_768_S128x256 x (y 0) (by omega) (y 1) (by omega) (y 2) (by omega)
  case' piece5 => exact dw_ld m c t 2 512 rfl slices_S128x2048_o0_512_S128x256 x (y 0) (by omega) (y 1) (by omega) (y 2) (by omega)
  case' piece6 => exact dw_ld m c t 1 256 rfl slices_S128x2048_o0_256_S128x256 x (y 0) (by omega) (y 1) (by omega) (y 2) (by omega)
  case' piece7 => exact dw_ld m c t 0 0 rfl slices_S128x2048_o0_0_S128x256 x (y 0) (by omega) (y 1) (by omega) (y 2) (by omega)

theorem dw_add (c : Dev nD) (t : Fin cfg0.N) (h : Fin 8) (o : ℕ) (ho : o = h.val * 256) (hs : S128x2048.Slices ![0, o] S128x256) (hw) (x : S1x128x128.Idx) (y : S8x128x128.Idx)
    (h0 : (y 0).val = h.val + (x 0).val) (h1 : (y 1).val = (x 1).val) (h2 : (y 2).val = (x 2).val) (old : Vec Ideal S8x128x128 .f32) :
    shapeCast S1x128x128 (addf (shapeCast S128x128 (lW old h.val hw) shapeCasts_S1x128x128_S128x128) (dwP (iblk m c 0 t) (iblk m c 1 t) (iblk m c 2 t) (iblk m c 3 t) o hs)) shapeCasts_S128x128_S1x128x128 x
      = (old y : EReal) + (K m c t.val).dW (y 0) (y 1) (y 2) := by
  rw [← dw_ld m c t h o ho hs x _ h0 _ h1 _ h2]
  have e (v : FVec Ideal S1x128x128 .f32) (w : FVec Ideal S128x128 .f32) :
      shapeCast S1x128x128 (addf (shapeCast S128x128 v shapeCasts_S1x128x128_S128x128) w) shapeCasts_S128x128_S1x128x128 x = v x + shapeCast S1x128x128 w shapeCasts_S128x128_S1x128x128 x := by
    idx_vars x
    pointwise
    obtain rfl : x0 = 0 := Subsingleton.elim _ _
    rfl
  refine (e _ _).trans (Ideal.add_congr ?_ rfl)
  exact View.ld_unit_apply_of _ _ _ _ _ y (by intro b; fin_cases b <;> simp [h0, h1, h2])

set_option maxHeartbeats 1000000 in
theorem o7_B (c : Dev nD) (t : Fin cfg0.N) (h : t.val ≠ 0) (y : S8x128x128.Idx) :
    (show EReal from (outsAt0 m c t.val t.isLt).2.1 y) = (show EReal from (outsAt0 m c (t.val - 1) (by omega)).2.1 y) + (K m c t.val).dW (y 0) (y 1) (y 2) := by
  have ht := lt t
  rw [outsAt0_B m c t (by omega) (by omega) (by omega) (by omega) (by omega) (by omega) (by omega) (by omega) (by omega) (by omega) (by omega) (by omega) (by omega) (by omega) (by omega) (by omega) (by omega) (by omega)]
  frame_out
  generalize (outsAt0 m c (t.val - 1) _).2.1 = old
  canon_tiles x h
  case' piece0 => exact dw_add m c t 7 1792 rfl slices_S128x2048_o0_1792_S128x256 _ x y (by omega) (by omega) (by omega) old
  case' piece1 => exact dw_add m c t 6 1536 rfl slices_S128x2048_o0_1536_S128x256 _ x y (by omega) (by omega) (by omega) old
  case' piece2 => exact dw_add m c t 5 1280 rfl slices_S128x2048_o0_1280_S128x256 _ x y (by omega) (by omega) (by omega) old
  case' piece3 => exact dw_add m c t 4 1024 rfl slices_S128x2048_o0_1024_S128x256 _ x y (by omega) (by omega) (by omega) old
  case' piece4 => exact dw_add m c t 3 768 rfl slices_S128x2048_o0_768_S128x256 _ x y (by omega) (by omega) (by omega) old
  case' piece5 => exact dw_add m c t 2 512 rfl slices_S128x2048_o0_512_S128x256 _ x y (by omega) (by omega) (by omega) old
  case' piece6 => exact dw_add m c t 1 256 rfl slices_S128x2048_o0_256_S128x256 _ x y (by omega) (by omega) (by omega) old
  case' piece7 => exact dw_add m c t 0 0 rfl slices_S128x2048_o0_0_S128x256 _ x y (by omega) (by omega) (by omega) old

theorem pick (n : ℕ) (S : Fin 8 → EReal) : 0 + (if n = 0 then S 0 else 0) + (if n = 1 then S 1 else 0) + (if n = 2 then S 2 else 0) + (if n = 3 then S 3 else 0) + (if n = 4 then S 4 else 0) + (if n = 5 then S 5 else 0) + (if n = 6 then S 6 else 0) + (if n = 7 then S 7 else 0) = if h : n < 8 then S ⟨n, h⟩ else 0 := by
  by_cases h : n < 8
  · interval_cases n <;> simp
  · rw [dif_neg h, if_neg (by omega), if_neg (by omega), if_neg (by omega), if_neg (by omega), if_neg (by omega), if_neg (by omega), if_neg (by omega), if_neg (by omega)]
    simp

theorem db_ld (c : Dev nD) (t : Fin cfg0.N) (y : S128x128.Idx) :
    (addf (addf (addf (addf (addf (addf (addf (addf (broadcast S128x128 (Scalar.ofBits (F := Ideal) .f32 0x00000000#32)) (dbP (iblk m c 0 t) (iblk m c 1 t) 0 slices_S128x2048_o0_0_S128x256 0#32)) (dbP (iblk m c 0 t) (iblk m c 1 t) 256 slices_S128x2048_o0_256_S128x256 1#32)) (dbP (iblk m c 0 t) (iblk m c 1 t) 512 slices_S128x2048_o0_512_S128x256 2#32)) (dbP (iblk m c 0 t) (iblk m c 1 t) 768 slices_S128x2048_o0_768_S128x256 3#32)) (dbP (iblk m c 0 t) (iblk m c 1 t) 1024 slices_S128x2048_o0_1024_S128x256 4#32)) (dbP (iblk m c 0 t) (iblk m c 1 t) 1280 slices_S128x2048_o0_1280_S128x256 5#32)) (dbP (iblk m c 0 t) (iblk m c 1 t) 1536 slices_S128x2048_o0_1536_S128x256 6#32)) (dbP (iblk m c 0 t) (iblk m c 1 t) 1792 slices_S128x2048_o0_1792_S128x256 7#32)) y = (K m c t.val).dB (y 0) (y 1) := by
  idx_vars y
  have d (h : Fin 8) (o : ℕ) (ho : o = h.val * 256) (hs) := dbP_at (iblk m c 0 t) (iblk m c 1 t) (iblk m c 2 t) (iblk m c 3 t) (iblk m c 4 t) (iblk m c 5 t) h o ho hs y0 y1
  rw [blk_eq] at d
  refine Eq.trans ?_ (pick y1.val fun h => ∑ e : Fin 256, (K m c t.val).df y0 (col h e))
  have e (z a0 a1 a2 a3 a4 a5 a6 a7 : FVec Ideal S128x128 .f32) : addf (addf (addf (addf (addf (addf (addf (addf z a0) a1) a2) a3) a4) a5) a6) a7 (ix2 y0 y1)
    = z (ix2 y0 y1) + a0 (ix2 y0 y1) + a1 (ix2 y0 y1) + a2 (ix2 y0 y1) + a3 (ix2 y0 y1) + a4 (ix2 y0 y1) + a5 (ix2 y0 y1) + a6 (ix2 y0 y1) + a7 (ix2 y0 y1) := rfl
  have z : broadcast S128x128 (Scalar.ofBits (F := Ideal) .f32 0x00000000#32) (ix2 y0 y1) = (0 : EReal) := by pointwise
  refine (e _ _ _ _ _ _ _ _ _).trans ?_
  refine Ideal.add_congr (Ideal.add_congr (Ideal.add_congr (Ideal.add_congr (Ideal.add_congr (Ideal.add_congr (Ideal.add_congr (Ideal.add_congr z ?_) ?_) ?_) ?_) ?_) ?_) ?_) ?_
  · exact d 0 0 rfl _
  · exact d 1 256 rfl _
  · exact d 2 512 rfl _
  · exact d 3 768 rfl _
  · exact d 4 1024 rfl _
  · exact d 5 1280 rfl _
  · exact d 6 1536 rfl _
  · exact d 7 1792 rfl _

theorem pay1_at (a old : FVec Ideal S128x128 .f32) (y : S128x128.Idx) : k0_pay1 (F := Ideal) a old y = old y + a y := by
  idx_vars y
  pointwise [k0_pay1]
theorem pay2_at (a old : FVec Ideal S1x2048 .f32) (y : S1x2048.Idx) : k0_pay2 (F := Ideal) a old y = old y + a y := by
  idx_vars y
  pointwise [k0_pay2]
theorem pay3_at (a old : FVec Ideal S1x2048 .f32) (y : S1x2048.Idx) : k0_pay3 (F := Ideal) a old y = old y + a y := by
  idx_vars y
  pointwise [k0_pay3]

theorem o8_A (c : Dev nD) (t : Fin cfg0.N) (h : t.val = 0) (y : S128x128.Idx) :
    (show EReal from (outsAt0 m c t.val t.isLt).2.2.1 y) = (K m c t.val).dB (y 0) (y 1) := by
  have ht := lt t
  rw [outsAt0_A m c t (by omega) (by omega) (by omega) (by omega) (by omega) (by omega) (by omega) (by omega) (by omega) (by omega) (by omega) (by omega) (by omega) (by omega) (by omega) (by omega) (by omega) (by omega)]
  frame_out
  exact db_ld m c t y
theorem o8_B (c : Dev nD) (t : Fin cfg0.N) (h : t.val ≠ 0) (y : S128x128.Idx) :
    (show EReal from (outsAt0 m c t.val t.isLt).2.2.1 y) = (show EReal from (outsAt0 m c (t.val - 1) (by omega)).2.2.1 y) + (K m c t.val).dB (y 0) (y 1) := by
  have ht := lt t
  rw [outsAt0_B m c t (by omega) (by omega) (by omega) (by omega) (by omega) (by omega) (by omega) (by omega) (by omega) (by omega) (by omega) (by omega) (by omega) (by omega) (by omega) (by omega) (by omega) (by omega)]
  frame_out
  rw [pay1_at]
  exact Ideal.add_congr rfl (db_ld m c t y)

theorem dg_ld (c : Dev nD) (t : Fin cfg0.N) (v : FVec Ideal S128x2048 .f32) (hv : ∀ r j, v (ix2 r j) = (K m c t.val).dvln r j) (y : S1x2048.Idx) :
    k0_pay107 (F := Ideal) (k0_pay10 (F := Ideal) (iblk m c 0 t)) v y = (K m c t.val).dg (y 1) := by
  idx_vars y
  obtain rfl : y0 = 0 := Subsingleton.elim _ _
  rw [← blk_eq] at hv ⊢
  exact pay107_at _ _ _ _ _ _ v y1 hv
theorem dh_ld (c : Dev nD) (t : Fin cfg0.N) (v : FVec Ideal S128x2048 .f32) (hv : ∀ r j, v (ix2 r j) = (K m c t.val).dvln r j) (y : S1x2048.Idx) :
    k0_pay108 (F := Ideal) v y = (K m c t.val).db (y 1) := by
  idx_vars y
  obtain rfl : y0 = 0 := Subsingleton.elim _ _
  rw [← blk_eq] at hv ⊢
  exact pay108_at _ _ _ _ _ _ v y1 hv

theorem o9_A (c : Dev nD) (t : Fin cfg0.N) (h : t.val = 0) (y : S1x2048.Idx) :
    (show EReal from (outsAt0 m c t.val t.isLt).2.2.2.1 y) = (K m c t.val).dg (y 1) := by
  have ht := lt t
  rw [outsAt0_A m c t (by omega) (by omega) (by omega) (by omega) (by omega) (by omega) (by omega) (by omega) (by omega) (by omega) (by omega) (by omega) (by omega) (by omega) (by omega) (by omega) (by omega) (by omega)]
  frame_out
  exact dg_ld m c t _ (fun r j => dvln_at m c t r j _ _ _ _ _ _ _ _ _ _ _ _ _ _ _ _) y
theorem o9_B (c : Dev nD) (t : Fin cfg0.N) (h : t.val ≠ 0) (y : S1x2048.Idx) :
    (show EReal from (outsAt0 m c t.val t.isLt).2.2.2.1 y) = (show EReal from (outsAt0 m c (t.val - 1) (by omega)).2.2.2.1 y) + (K m c t.val).dg (y 1) := by
  have ht := lt t
  rw [outsAt0_B m c t (by omega) (by omega) (by omega) (by omega) (by omega) (by omega) (by omega) (by omega) (by omega) (by omega) (by omega) (by omega) (by omega) (by omega) (by omega) (by omega) (by omega) (by omega)]
  frame_out
  rw [pay2_at]
  exact Ideal.add_congr rfl (dg_ld m c t _ (fun r j => dvln_at m c t r j _ _ _ _ _ _ _ _ _ _ _ _ _ _ _ _) y)
theorem o10_A (c : Dev nD) (t : Fin cfg0.N) (h : t.val = 0) (y : S1x2048.Idx) :
    (show EReal from (outsAt0 m c t.val t.isLt).2.2.2.2 y) = (K m c t.val).db (y 1) := by
  have ht := lt t
  rw [outsAt0_A m c t (by omega) (by omega) (by omega) (by omega) (by omega) (by omega) (by omega) (by omega) (by omega) (by omega) (by omega) (by omega) (by omega) (by omega) (by omega) (by omega) (by omega) (by omega)]
  frame_out
  exact dh_ld m c t _ (fun r j => dvln_at m c t r j _ _ _ _ _ _ _ _ _ _ _ _ _ _ _ _) y
theorem o10_B (c : Dev nD) (t : Fin cfg0.N) (h : t.val ≠ 0) (y : S1x2048.Idx) :
    (show EReal from (outsAt0 m c t.val t.isLt).2.2.2.2 y) = (show EReal from (outsAt0 m c (t.val - 1) (by omega)).2.2.2.2 y) + (K m c t.val).db (y 1) := by
  have ht := lt t
  rw [outsAt0_B m c t (by omega) (by omega) (by omega) (by omega) (by omega) (by omega) (by omega) (by omega) (by omega) (by omega) (by omega) (by omega) (by omega) (by omega) (by omega) (by omega) (by omega) (by omega)]
  frame_out
  rw [pay3_at]
  exact Ideal.add_congr rfl (dh_ld m c t _ (fun r j => dvln_at m c t r j _ _ _ _ _ _ _ _ _ _ _ _ _ _ _ _) y)

theorem final6 (c : Dev nD) : (dats m 0 c).arrAt 6 cfg0.N = fun y => (K m c ((y 0).val / 128)).dz ⟨(y 0).val % 128, Nat.mod_lt _ (by omega)⟩ (y 1) := by
  refine (dats m 0 c).arrAt_eq_of_covers 6 _ (by decide +kernel) fun t hf y => ?_
  blk_simp
  rw [after0_6]
  refine (o6_at m c t y).trans ?_
  have e1 : (win0_6.blk t).view.emb y 1 = y 1 := Fin.ext (by blk_simp [idx t])
  have ht := lt t
  have hy : (y 0).val < 128 := (y 0).isLt
  have hi : win0_6.index t 0 = t.val := by blk_simp [idx t]
  have hd : (win0_6.index t 0 * 128 + (y 0).val) / 128 = t.val := by rw [hi]; omega
  have hm : (win0_6.index t 0 * 128 + (y 0).val) % 128 = (y 0).val := by rw [hi]; omega
  rw [e1, hd]
  exact congrArg (fun r => (K m c t.val).dz r (y 1)) (Fin.ext hm.symm)

theorem final7 (c : Dev nD) : (dats m 0 c).arrAt 7 cfg0.N = fun y => ∑ q : Fin 64, (K m c q.val).dW (y 0) (y 1) (y 2) := by
  refine (dats m 0 c).arrAt_eq_of_covers 7 _ (by decide +kernel) fun t hf y => ?_
  blk_simp
  rw [after0_7]
  rw [Pipeline.eq_sum_fin_of_reset_step_apply_of_flush (fun n h => (outsAt0 m c n h).2.1) 64 (fun _ => 0)
    (fun t (y : S8x128x128.Idx) => ((K m c t.val).dW (y 0) (y 1) (y 2) : EReal))
    (fun t h j => by rw [zero_add]; exact o7_A m c t (by have ht := lt t; omega) j)
    (fun t h j => o7_B m c t (by omega) j)
    t ((flush0_7 t).mp hf) _, zero_add]
  have e0 : (win0_7.blk t).view.emb y 0 = y 0 := Fin.ext (by blk_simp [idx t])
  have e1 : (win0_7.blk t).view.emb y 1 = y 1 := Fin.ext (by blk_simp [idx t])
  have e2 : (win0_7.blk t).view.emb y 2 = y 2 := Fin.ext (by blk_simp [idx t])
  have ht := lt t
  have h0 : 64 * (t.val / 64) = 0 := by omega
  simp only [e0, e1, e2, h0, Nat.zero_add]

theorem final8 (c : Dev nD) : (dats m 0 c).arrAt 8 cfg0.N = fun y => ∑ q : Fin 64, (K m c q.val).dB (y 0) (y 1) := by
  refine (dats m 0 c).arrAt_eq_of_covers 8 _ (by decide +kernel) fun t hf y => ?_
  blk_simp
  rw [after0_8]
  rw [Pipeline.eq_sum_fin_of_reset_step_apply_of_flush (fun n h => (outsAt0 m c n h).2.2.1) 64 (fun _ => 0)
    (fun t (y : S128x128.Idx) => ((K m c t.val).dB (y 0) (y 1) : EReal))
    (fun t h j => by rw [zero_add]; exact o8_A m c t (by have ht := lt t; omega) j)
    (fun t h j => o8_B m c t (by omega) j)
    t ((flush0_8 t).mp hf) _, zero_add]
  have e0 : (win0_8.blk t).view.emb y 0 = y 0 := Fin.ext (by blk_simp [idx t])
  have e1 : (win0_8.blk t).view.emb y 1 = y 1 := Fin.ext (by blk_simp [idx t])
  have ht := lt t
  have h0 : 64 * (t.val / 64) = 0 := by omega
  simp only [e0, e1, h0, Nat.zero_add]

theorem final9 (c : Dev nD) : (dats m 0 c).arrAt 9 cfg0.N = fun y => ∑ q : Fin 64, (K m c q.val).dg (y 1) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.2.1) 64 (fun _ => 0)
    (fun t (y : S1x2048.Idx) => ((K m c t.val).dg (y 1) : EReal))
    (fun t h j => by rw [zero_add]; exact o9_A m c t (by have ht := lt t; omega) j)
    (fun t h j => o9_B m c t (by omega) j)
    t ((flush0_9 t).mp hf) _, zero_add]
  have e1 : (win0_9.blk t).view.emb y 1 = y 1 := Fin.ext (by blk_simp [idx t])
  have ht := lt t
  have h0 : 64 * (t.val / 64) = 0 := by omega
  simp only [e1, h0, Nat.zero_add]

theorem final10 (c : Dev nD) : (dats m 0 c).arrAt 10 cfg0.N = fun y => ∑ q : Fin 64, (K m c q.val).db (y 1) := by
  refine (dats m 0 c).arrAt_eq_of_covers 10 _ (by decide +kernel) fun t hf y => ?_
  blk_simp
  rw [after0_10]
  rw [Pipeline.eq_sum_fin_of_reset_step_apply_of_flush (fun n h => (outsAt0 m c n h).2.2.2.2) 64 (fun _ => 0)
    (fun t (y : S1x2048.Idx) => ((K m c t.val).db (y 1) : EReal))
    (fun t h j => by rw [zero_add]; exact o10_A m c t (by have ht := lt t; omega) j)
    (fun t h j => o10_B m c t (by omega) j)
    t ((flush0_10 t).mp hf) _, zero_add]
  have e1 : (win0_10.blk t).view.emb y 1 = y 1 := Fin.ext (by blk_simp [idx t])
  have ht := lt t
  have h0 : 64 * (t.val / 64) = 0 := by omega
  simp only [e1, h0, Nat.zero_add]

end Cert.GmlpKernelIdeal.Val
end
-- ==== Proof.GmlpRef.lean ====
/-  The spatial gating unit's gradient as the reference states it, read element by element, at arguments that are reals. -/
module

public import proofs.«01_k».proof.Proof.GmlpVal
public import proofs.«01_k».proof.Proof.AttnRef
public import proofs.«01_k».proof.Proof.Gen.GmlpReferenceIdeal.Read

@[expose] public section

set_option maxRecDepth 16384

noncomputable section

open Idealize.ShloMosaic Idealize.ShloMosaic.TcCoe Idealize.SL.Sem

namespace Cert.GmlpMath

open Cert.RealKit Cert.Consts

/-- The row of block `q` at its line `t`. -/
def row (q : Fin 64) (t : Fin 128) : Fin 8192 := ⟨q.val * 128 + t.val, by omega⟩

/-- A sum over a row of 8192, block by block. -/
theorem sum_rows (f : Fin 8192 → EReal) : ∑ n, f n = ∑ q : Fin 64, ∑ t : Fin 128, f (row q t) := by
  symm
  exact Fin.sum_mul_add_congr fun s k hl => rfl

/-- A sum over the first and last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (a : Fin n1) (b : Fin n2) :
    Ideal.hostReduceAdd h v 0 (ix2 a b) = ∑ k : Fin n0, ∑ l : Fin n3, v (ix4 k a b l) := by
  unfold Ideal.hostReduceAdd
  rw [zero_add]
  refine (Finset.sum_filter_eq_sum_of_fiber _ (fun k : Fin n0 × Fin n3 => ix4 k.1 a b k.2)
    (fun _ _ e => Prod.ext (congrFun e 0) (congrFun e 3)) (fun i => ⟨fun e => ⟨(i 0, i 3), ?_⟩, ?_⟩) v).trans (Fintype.sum_prod_type _)
  · funext c
    fin_cases c
    · rfl
    · exact (congrFun e 0).symm
    · exact (congrFun e 1).symm
    · rfl
  · rintro ⟨k, rfl⟩
    funext c
    fin_cases c <;> rfl

theorem div_root (x : EReal) : Ideal.div x (Ideal.sqrt (Ideal.ofBits .f32 0x40000000#32)) = x * c1 := by
  rw [ctwo, Ideal.sqrt_coe, if_neg (by norm_num), Ideal.div_coe (by positivity), one_div]
  rfl

/-- The norm's gradient at a centred row: the transposed lines' form is the calls'. -/
theorem dv_form (x u : Fin 2048 → ℝ) (hx : ∑ i, x i = 0) (X U : Fin 2048 → EReal) (hX : ∀ i, X i = x i) (hU : ∀ i, U i = u i) (j : Fin 2048) :
    U j * Ideal.rsqrt (Ideal.div (∑ i, X i * X i) k2048 + keps)
        + X j * (∑ _v : Fin 1, Ideal.div ((∑ i, X i * U i) * (kmhalf * Ideal.div (Ideal.rsqrt (Ideal.div (∑ i, X i * X i) k2048 + keps)) (Ideal.div (∑ i, X i * X i) k2048 + keps))) k2048)
        + (∑ _v : Fin 1, Ideal.div ((∑ i, X i * U i) * (kmhalf * Ideal.div (Ideal.rsqrt (Ideal.div (∑ i, X i * X i) k2048 + keps)) (Ideal.div (∑ i, X i * X i) k2048 + keps))) k2048) * X j
        + (∑ _w : Fin 1, Ideal.div (∑ l, -(U l * Ideal.rsqrt (Ideal.div (∑ i, X i * X i) k2048 + keps)
            + X l * (∑ _v : Fin 1, Ideal.div ((∑ i, X i * U i) * (kmhalf * Ideal.div (Ideal.rsqrt (Ideal.div (∑ i, X i * X i) k2048 + keps)) (Ideal.div (∑ i, X i * X i) k2048 + keps))) k2048)
            + (∑ _v : Fin 1, Ideal.div ((∑ i, X i * U i) * (kmhalf * Ideal.div (Ideal.rsqrt (Ideal.div (∑ i, X i * X i) k2048 + keps)) (Ideal.div (∑ i, X i * X i) k2048 + keps))) k2048) * X l)) k2048)
      = Ideal.rsqrt (Ideal.div (∑ i, X i * X i) k2048 + keps) * (U j - Ideal.div (∑ i, U i) k2048
        - X j * Ideal.rsqrt (Ideal.div (∑ i, X i * X i) k2048 + keps) * Ideal.div (∑ i, U i * (X i * Ideal.rsqrt (Ideal.div (∑ i, X i * X i) k2048 + keps))) k2048) := by
  have hμ : 0 < (∑ i, x i * x i) * (1 / 2048) + epsL := by
    have := epsL_pos
    have : 0 ≤ ∑ i, x i * x i := Finset.sum_nonneg fun i _ => _root_.mul_self_nonneg _
    positivity
  have hM : Ideal.div (∑ i, X i * X i) k2048 + keps = (((∑ i, x i * x i) * (1 / 2048) + epsL : ℝ) : EReal) := by
    simp only [hX, k2048, keps, c2048, cepsL, ← EReal.coe_mul, ← Cert.AttnMath.coe_sum, Ideal.div_coe (by norm_num : (2048 : ℝ) ≠ 0), ← EReal.coe_add]
  simp only [hM]
  generalize (∑ i, x i * x i) * (1 / 2048) + epsL = μ at hμ
  have h2 : 1 / μ = (Real.sqrt μ)⁻¹ * (Real.sqrt μ)⁻¹ := by rw [← mul_inv, Real.mul_self_sqrt hμ.le, one_div]
  simp only [Ideal.rsqrt_coe, if_neg hμ.not_gt, if_neg hμ.ne', Ideal.div_coe hμ.ne', h2]
  generalize (Real.sqrt μ)⁻¹ = ρ
  simp only [hX, hU, k2048, kmhalf, c2048, cmhalf, Ideal.div_coe (by norm_num : (2048 : ℝ) ≠ 0), Finset.univ_unique, Finset.sum_singleton]
  simp only [← EReal.coe_mul, ← EReal.coe_add, ← EReal.coe_sub, ← EReal.coe_neg, ← Cert.AttnMath.coe_sum]
  congr 1
  have e1 : ∑ i, u i * (x i * ρ) = (∑ i, x i * u i) * ρ := by
    rw [Finset.sum_mul]
    exact Finset.sum_congr rfl fun i _ => by ring
  rw [e1]
  generalize (∑ i, x i * u i) = A
  have e2 (B : ℝ) : ∑ l, -(u l * ρ + x l * B + B * x l) = -((∑ l, u l) * ρ) := by
    have : ∑ l, -(u l * ρ + x l * B + B * x l) = -((∑ l, u l) * ρ + (∑ l, x l) * B + B * ∑ l, x l) := by
      rw [Finset.sum_mul, Finset.sum_mul, Finset.mul_sum, ← Finset.sum_add_distrib, ← Finset.sum_add_distrib, Finset.sum_neg_distrib]
    rw [this, hx]
    ring
  rw [e2]
  ring

theorem root_pi : Ideal.div (Ideal.ofBits .f32 0x40000000#32) (Ideal.sqrt (Ideal.ofBits .f32 0x40800000#32 * Ideal.atan 1)) = ((2 / Real.sqrt Real.pi : ℝ) : EReal) := by
  have h4 : Ideal.ofBits .f32 0x40800000#32 = ((4 : ℝ) : EReal) := cfour
  have ha : Ideal.atan 1 = ((Real.arctan 1 : ℝ) : EReal) := rfl
  rw [h4, ctwo, ha, ← EReal.coe_mul, Real.arctan_one, show (4 : ℝ) * (Real.pi / 4) = Real.pi by ring, Ideal.sqrt_coe, if_neg Real.pi_pos.not_gt, Ideal.div_coe (by have := Real.pi_pos; positivity), ← EReal.coe_mul]
  congr 1
  ring

/-- The activation's derivative times a cotangent: the transposed lines' form is the calls'. -/
theorem slope_form (z d : ℝ) :
    Ideal.div ((khalf * (z : EReal) * (d : EReal)) * (Ideal.div (Ideal.ofBits .f32 0x40000000#32) (Ideal.sqrt (Ideal.ofBits .f32 0x40800000#32 * Ideal.atan 1))
        * Ideal.exp (-Ideal.div (z : EReal) (Ideal.sqrt (Ideal.ofBits .f32 0x40000000#32)) * Ideal.div (z : EReal) (Ideal.sqrt (Ideal.ofBits .f32 0x40000000#32)))))
        (Ideal.sqrt (Ideal.ofBits .f32 0x40000000#32))
      + khalf * ((d : EReal) * (1 + Ideal.erf (Ideal.div (z : EReal) (Ideal.sqrt (Ideal.ofBits .f32 0x40000000#32))))) = (d : EReal) * gd z := by
  rw [root_pi]
  simp only [div_root, gd, cdf, c1, c2, khalf, kmhalf, chalf, cmhalf, ← EReal.coe_mul, ← EReal.coe_neg, Ideal.exp_coe, Ideal.erf_coe, ← EReal.coe_one, ← EReal.coe_add]
  congr 1
  have hp := Real.pi_pos
  have h2 : (Real.sqrt 2)⁻¹ * (Real.sqrt 2)⁻¹ = 1 / 2 := by rw [← mul_inv, Real.mul_self_sqrt (by norm_num), one_div]
  have e : -(z * (Real.sqrt 2)⁻¹) * (z * (Real.sqrt 2)⁻¹) = -(1 / 2) * z * z := by
    rw [show -(z * (Real.sqrt 2)⁻¹) * (z * (Real.sqrt 2)⁻¹) = -(z * z * ((Real.sqrt 2)⁻¹ * (Real.sqrt 2)⁻¹)) by ring, h2]
    ring
  have e3 : (Real.sqrt (2 * Real.pi))⁻¹ = (Real.sqrt 2)⁻¹ * (Real.sqrt Real.pi)⁻¹ := by rw [Real.sqrt_mul (by norm_num), mul_inv]
  rw [e, e3]
  ring

/-- All the entries a block reads are reals. -/
structure Blk.Fin (k : Blk) : Prop where
  Z : ∀ t j, ∃ r : ℝ, k.Z t j = r
  P : ∀ t j, ∃ r : ℝ, k.P t j = r
  g : ∀ j, ∃ r : ℝ, k.g j = r
  b : ∀ j, ∃ r : ℝ, k.b j = r
  W : ∀ h t s, ∃ r : ℝ, k.W h t s = r
  B : ∀ h t, ∃ r : ℝ, k.B h t = r

theorem gl_real (x : EReal) (h : ∃ r : ℝ, x = r) : ∃ r : ℝ, gl x = r := by
  obtain ⟨r, rfl⟩ := h
  simp only [gl, cdf, c1, khalf, chalf, ← EReal.coe_mul, Ideal.erf_coe, ← EReal.coe_one, ← EReal.coe_add]
  exact ⟨_, rfl⟩

theorem Blk.Fin.xc {k : Blk} (H : k.Fin) (t : _root_.Fin 128) : ∃ x : _root_.Fin 2048 → ℝ, ∑ i, x i = 0 ∧ ∀ i, k.xc t i = x i := by
  have hv (i) := gl_real _ (H.Z t (hi i))
  choose v hv using hv
  refine ⟨fun i => v i - (∑ j, v j) * (1 / 2048), ?_, fun i => ?_⟩
  · rw [Finset.sum_sub_distrib, Finset.sum_const, Finset.card_univ, Fintype.card_fin]
    simp
    ring
  · unfold Blk.xc Blk.v
    simp only [hv, k2048, c2048, Ideal.div_coe (by norm_num : (2048 : ℝ) ≠ 0), ← Cert.AttnMath.coe_sum, ← EReal.coe_mul, ← EReal.coe_sub]

theorem Blk.Fin.rs {k : Blk} (H : k.Fin) (t : _root_.Fin 128) : ∃ r : ℝ, k.rs t = r := by
  obtain ⟨x, hx, h⟩ := H.xc t
  have hμ : 0 < (∑ i, x i * x i) * (1 / 2048) + epsL := by
    have := epsL_pos
    have : 0 ≤ ∑ i, x i * x i := Finset.sum_nonneg fun i _ => _root_.mul_self_nonneg _
    positivity
  unfold Blk.rs
  simp only [h, k2048, keps, c2048, cepsL, ← EReal.coe_mul, ← Cert.AttnMath.coe_sum, Ideal.div_coe (by norm_num : (2048 : ℝ) ≠ 0), ← EReal.coe_add, Ideal.rsqrt_coe, if_neg hμ.not_gt, if_neg hμ.ne']
  exact ⟨_, rfl⟩

theorem Blk.Fin.wm {k : Blk} (H : k.Fin) (h : _root_.Fin 8) (t s : _root_.Fin 128) : ∃ r : ℝ, k.wm h t s = r := by
  unfold Blk.wm
  split
  · exact H.W h t s
  · exact ⟨0, rfl⟩

theorem Blk.Fin.vln {k : Blk} (H : k.Fin) (t : _root_.Fin 128) (j : _root_.Fin 2048) : ∃ r : ℝ, k.vln t j = r := by
  obtain ⟨x, -, h⟩ := H.xc t
  obtain ⟨ρ, hρ⟩ := H.rs t
  obtain ⟨g, hg⟩ := H.g j
  obtain ⟨b, hb⟩ := H.b j
  exact ⟨x j * ρ * g + b, by rw [Blk.vln, Blk.vh, h, hρ, hg, hb]; rfl⟩

theorem Blk.Fin.f {k : Blk} (H : k.Fin) (t : _root_.Fin 128) (j : _root_.Fin 2048) : ∃ r : ℝ, k.f t j = r := by
  obtain ⟨x, hx⟩ := Cert.DswMath.real_sum _ _ (fun s => H.wm (hd j) t s) fun s => H.vln s j
  obtain ⟨b, hb⟩ := H.B (hd j) t
  exact ⟨x + b, by rw [Blk.f, hx, hb]; rfl⟩

theorem Blk.Fin.dvln {k : Blk} (H : k.Fin) (s : _root_.Fin 128) (j : _root_.Fin 2048) : ∃ r : ℝ, k.dvln s j = r := by
  refine Cert.DswMath.real_sum _ _ (fun t => H.wm (hd j) t s) fun t => ?_
  obtain ⟨p, hp⟩ := H.P t j
  obtain ⟨u, hu⟩ := gl_real _ (H.Z t (lo j))
  exact ⟨p * u, by rw [Blk.df, Blk.u, hp, hu]; rfl⟩

theorem Blk.Fin.dv {k : Blk} (H : k.Fin) (s : _root_.Fin 128) (j : _root_.Fin 2048) : ∃ r : ℝ, k.dv s j = r := by
  obtain ⟨x, -, h⟩ := H.xc s
  obtain ⟨ρ, hρ⟩ := H.rs s
  have hu (i) : ∃ r : ℝ, k.dvh s i = r := by
    obtain ⟨a, ha⟩ := H.dvln s i
    obtain ⟨g, hg⟩ := H.g i
    exact ⟨a * g, by rw [Blk.dvh, ha, hg]; rfl⟩
  choose u hu using hu
  simp only [Blk.dv, Blk.vh, h, hρ, hu, k2048, c2048, Ideal.div_coe (by norm_num : (2048 : ℝ) ≠ 0), ← EReal.coe_mul, ← Cert.AttnMath.coe_sum, ← EReal.coe_sub]
  exact ⟨_, rfl⟩

end Cert.GmlpMath

namespace Cert.GmlpReferenceIdeal.Val

open Cert.GmlpReferenceIdeal Cert.GmlpReferenceIdeal.Gen Cert.GmlpReferenceIdeal.Read Cert.RealKit Cert.Consts Cert.GmlpMath

variable (Z : TZ) (P : TP) (g b : TG) (W : TW) (B : TB)

abbrev K (q : Fin 64) : Blk := blkOf Z P g b W B q.val

theorem Z_row (q : Fin 64) (t : Fin 128) (j : Fin 4096) : Z (ix2 (row q t) j) = (K Z P g b W B q).Z t j := by
  show _ = Z (ix2 _ j)
  congr 2
  exact Fin.ext (Nat.mod_eq_of_lt (by omega)).symm
theorem P_row (q : Fin 64) (t : Fin 128) (j : Fin 2048) : P (ix2 (row q t) j) = (K Z P g b W B q).P t j := by
  show _ = P (ix2 _ j)
  congr 2
  exact Fin.ext (Nat.mod_eq_of_lt (by omega)).symm

theorem v18_at (n : Fin 8192) (j : Fin 4096) : val_main_v18 (F := Ideal) Z (ix2 n j) = gl (Z (ix2 n j)) := by
  pointwise [val_main_v18, val_main_v2, val_main_v17, val_main_v16, val_main_v1, val_main_cst, val_main_cst_4, val_main_v8, val_main_v5, val_main_v4, val_main_v3, val_main_cst_0, val_main_v0]
  rw [div_root, gl, cdf, khalf, mul_comm (Ideal.ofBits _ _), mul_assoc]

theorem v20_at (q : Fin 64) (t : Fin 128) (j : Fin 2048) : val_main_v20 (F := Ideal) Z (ix2 (row q t) j) = (K Z P g b W B q).v t j := by
  pointwise [val_main_v20]
  rw [v18_at, Z_row Z P g b W B]
  rfl
theorem v19_at (q : Fin 64) (t : Fin 128) (j : Fin 2048) : val_main_v19 (F := Ideal) Z (ix2 (row q t) j) = (K Z P g b W B q).u t j := by
  pointwise [val_main_v19]
  rw [v18_at, Z_row Z P g b W B]
  rfl
theorem v26_at (q : Fin 64) (t : Fin 128) (j : Fin 2048) : val_main_v26 (F := Ideal) Z (ix2 (row q t) j) = (K Z P g b W B q).xc t j := by
  pointwise [val_main_v26, val_main_v25, val_main_v24, val_main_v23, val_main_v22, val_main_v21, val_main_cst_5, val_main_cst_6]
  simp only [v20_at Z P g b W B]
  rfl
theorem v33_at (q : Fin 64) (t : Fin 128) (u : Fin 1) : val_main_v33 (F := Ideal) Z (ix2 (row q t) u) = Ideal.div (∑ i, (K Z P g b W B q).xc t i * (K Z P g b W B q).xc t i) k2048 + keps := by
  pointwise [val_main_v33, val_main_v32, val_main_v31, val_main_v30, val_main_v29, val_main_v28, val_main_v27, val_main_cst_7, val_main_cst_8, val_main_cst_9]
  simp only [v26_at Z P g b W B]
  rfl
theorem v39_at (q : Fin 64) (t : Fin 128) (j : Fin 2048) : val_main_v39 (F := Ideal) Z (ix2 (row q t) j) = (K Z P g b W B q).vh t j := by
  pointwise [val_main_v39, val_main_v38, val_main_v34]
  simp only [v26_at Z P g b W B, v33_at Z P g b W B]
  rfl
theorem v45_at (q : Fin 64) (t : Fin 128) (j : Fin 2048) : val_main_v45 (F := Ideal) Z g b (ix2 (row q t) j) = (K Z P g b W B q).vln t j := by
  pointwise [val_main_v45, val_main_v44, val_main_v43, val_main_v42, val_main_v41, val_main_v40]
  simp only [v39_at Z P g b W B]
  rfl
theorem v46_at (q : Fin 64) (t : Fin 128) (h : Fin 8) (e : Fin 256) : val_main_v46 (F := Ideal) Z g b (ix4 q t h e) = (K Z P g b W B q).vln t (col h e) := by
  pointwise [val_main_v46]
  exact v45_at Z P g b W B q t (col h e)
theorem sel_at (h : Fin 8) (t s : Fin 128) (x y : EReal) : Scalar.select (val_main_v51_1 (F := Ideal) (ix3 h t s)) x y = if s.val ≤ t.val then x else y := by
  pointwise [val_main_v51_1, val_main_v49, val_main_v48, val_main_v47, val_main_call0_v5, val_main_call0_v4, val_main_call0_v3, val_main_call0_v2, val_main_call0_v1, val_main_call0_v0, val_main_c, val_main_call0_c, val_main_call0_c_0]
  have e0 : IntOp.addi (BitVec.ofNat 32 t.val) 0#32 = BitVec.ofNat 32 t.val := WordCmp.addi_ofNat t.val 0
  rw [e0, WordCmp.cmpi_sge_ofNat (w := 32) (by omega) (by omega)]
  unfold Scalar.select
  by_cases h : s.val ≤ t.val <;> simp [h]

theorem v51_at (h : Fin 8) (t s : Fin 128) : val_main_v51_0 (F := Ideal) W (ix3 h t s) = (if s.val ≤ t.val then W (ix3 h t s) else 0) := by
  pointwise [val_main_v51_0, val_main_v50, val_main_cst_11]
  exact (sel_at h t s _ _)
theorem v59_at (q : Fin 64) (t : Fin 128) (j : Fin 2048) : val_main_v59 (F := Ideal) Z g b W B (ix2 (row q t) j) = (K Z P g b W B q).f t j := by
  pointwise [val_main_v59, val_main_v58, val_main_v57, val_main_v56, val_main_v55, val_main_v54, val_main_v53, val_main_v52]
  simp only [v51_at]
  have e1 : (⟨(row q t).val / 128, by omega⟩ : Fin 64) = q := Fin.ext (by show (q.val * 128 + t.val) / 128 = q.val; omega)
  have e2 : (⟨(row q t).val % 128, by omega⟩ : Fin 128) = t := Fin.ext (by show (q.val * 128 + t.val) % 128 = t.val; omega)
  have e3 : col ⟨j.val / 256, by omega⟩ ⟨j.val % 256, by omega⟩ = j := Fin.ext (by show j.val / 256 * 256 + j.val % 256 = j.val; omega)
  simp only [e1, e2, v46_at Z P g b W B, e3]
  refine Ideal.add_congr (Finset.sum_congr rfl fun s _ => ?_) rfl
  rw [mul_comm]
  exact Ideal.mul_congr (if_congr (by rw [show (row q t).val % 128 = t.val from congrArg Fin.val e2]) rfl rfl) rfl
theorem v62_at (q : Fin 64) (t : Fin 128) (j : Fin 2048) : val_main_v62 (F := Ideal) Z P (ix2 (row q t) j) = (K Z P g b W B q).df t j := by
  pointwise [val_main_v62, val_main_v61]
  simp only [v19_at Z P g b W B, P_row Z P g b W B]
  exact mul_comm _ _
theorem v64_at (q : Fin 64) (t : Fin 128) (h : Fin 8) (e : Fin 256) : val_main_v64 (F := Ideal) Z P (ix4 q t h e) = (K Z P g b W B q).df t (col h e) := by
  pointwise [val_main_v64]
  exact v62_at Z P g b W B q t (col h e)
theorem v76_at (q : Fin 64) (t : Fin 128) (j : Fin 2048) : val_main_v76 (F := Ideal) Z P W (ix2 (row q t) j) = (K Z P g b W B q).dvln t j := by
  pointwise [val_main_v76, val_main_v74, val_main_v73, val_main_v71]
  simp only [v51_at]
  have e1 : (⟨(row q t).val / 128, by omega⟩ : Fin 64) = q := Fin.ext (by show (q.val * 128 + t.val) / 128 = q.val; omega)
  have e2 : (⟨(row q t).val % 128, by omega⟩ : Fin 128) = t := Fin.ext (by show (q.val * 128 + t.val) % 128 = t.val; omega)
  have e3 : col ⟨j.val / 256, by omega⟩ ⟨j.val % 256, by omega⟩ = j := Fin.ext (by show j.val / 256 * 256 + j.val % 256 = j.val; omega)
  simp only [e1, e2, v64_at Z P g b W B, e3]
  refine Finset.sum_congr rfl fun s _ => ?_
  rw [mul_comm]
  exact Ideal.mul_congr (if_congr (by rw [show (row q t).val % 128 = t.val from congrArg Fin.val e2]) rfl rfl) rfl
theorem v75_at (h : Fin 8) (t s : Fin 128) : val_main_v75 (F := Ideal) Z P g b (ix3 h t s) = ∑ q : Fin 64, (K Z P g b W B q).dW h t s := by
  pointwise [val_main_v75, val_main_v72, val_main_v71, val_main_call2_v0, val_main_call2_cst]
  rw [sel_at]
  unfold Blk.dW
  simp only [v64_at Z P g b W B, v46_at Z P g b W B]
  split <;> simp
theorem v65_at (t : Fin 128) (h : Fin 8) : val_main_v65 (F := Ideal) Z P (ix2 t h) = ∑ q : Fin 64, ∑ e : Fin 256, (K Z P g b W B q).df t (col h e) := by
  pointwise [val_main_v65, val_main_cst_12]
  rw [sum_outer]
  simp only [v64_at Z P g b W B]
theorem v67_at (t : Fin 128) (h : Fin 8) : val_main_v67 (F := Ideal) Z P (ix2 t h) = val_main_v65 (F := Ideal) Z P (ix2 t h) := by
  pointwise [val_main_v67, val_main_cst_13]
  rw [sum_outer]
  pointwise [val_main_v66]
  simp only [Finset.univ_unique, Finset.sum_singleton]
theorem v119_at (t l : Fin 128) : val_main_v119 (F := Ideal) Z P (ix2 t l) = ∑ q : Fin 64, (K Z P g b W B q).dB t l := by
  pointwise [val_main_v119, val_main_v118, val_main_v70, val_main_v69, val_main_v68, val_main_cst_14, val_main_call3_v0, val_main_c_26]
  simp only [v67_at, v65_at Z P g b W B, Finset.univ_unique, Finset.sum_singleton]
  unfold Blk.dB
  split
  · rfl
  · rw [Finset.sum_const_zero]
    show (((0#32 : BitVec 32).toInt : ℝ) : EReal) = 0
    simp
theorem v120_at (j : Fin 2048) : val_main_v120 (F := Ideal) Z P W (ix2 0 j) = ∑ q : Fin 64, (K Z P g b W B q).dg j := by
  pointwise [val_main_v120, val_main_v85, val_main_v82, val_main_v81, val_main_v80, val_main_cst_17, val_main_cst_18]
  simp only [Finset.univ_unique, Finset.sum_singleton, sum_rows, v39_at Z P g b W B, v76_at Z P g b W B]
  simp only [mul_comm]
  rfl
theorem v121_at (j : Fin 2048) : val_main_v121 (F := Ideal) Z P W (ix2 0 j) = ∑ q : Fin 64, (K Z P g b W B q).db j := by
  pointwise [val_main_v121, val_main_v79, val_main_v78, val_main_v77, val_main_cst_15, val_main_cst_16]
  simp only [Finset.univ_unique, Finset.sum_singleton, sum_rows, v76_at Z P g b W B]
  rfl
variable (H : ∀ q, (K Z P g b W B q).Fin)
include H

theorem v107_at (q : Fin 64) (t : Fin 128) (j : Fin 2048) : val_main_v107 (F := Ideal) Z P g W (ix2 (row q t) j) = (K Z P g b W B q).dv t j := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v84, val_main_v83, val_main_v40, val_main_v37, val_main_v36, val_main_v35, val_main_v34, val_main_cst_10, val_main_cst_19, val_main_cst_20, val_main_cst_21, val_main_cst_22, val_main_cst_23, val_main_cst_24]
  simp only [v26_at Z P g b W B, v33_at Z P g b W B, v76_at Z P g b W B]
  obtain ⟨x, hx, h⟩ := (H q).xc t
  have hu (i) : ∃ r : ℝ, (K Z P g b W B q).dvln t i * g (ix1 i) = r := by
    obtain ⟨a, ha⟩ := (H q).dvln t i
    obtain ⟨c, hc⟩ := (H q).g i
    exact ⟨a * c, by rw [ha]; exact congrArg (_ * ·) hc⟩
  choose u hu using hu
  exact dv_form x u hx _ (fun i => (K Z P g b W B q).dvln t i * g (ix1 i)) h hu j
theorem v117_at (q : Fin 64) (t : Fin 128) (j : Fin 4096) : val_main_v117 (F := Ideal) Z P g b W B (ix2 (row q t) j) = (K Z P g b W B q).dz t j := by
  pointwise [val_main_v117, val_main_v116, val_main_v115, val_main_v114, val_main_v113, val_main_v112, val_main_v111, val_main_v110, val_main_v109, val_main_v108, val_main_v63, val_main_v61, val_main_cst_25, val_main_v2, val_main_v1, val_main_cst, val_main_v17, val_main_v16, val_main_cst_4, val_main_v15, val_main_v14, val_main_v13, val_main_v12, val_main_v11, val_main_v10, val_main_v9, val_main_cst_3, val_main_v8, val_main_v7, val_main_v6, val_main_cst_2, val_main_cst_1, val_main_v5, val_main_v4, val_main_v3, val_main_cst_0, val_main_v0]
  simp only [v59_at Z P g b W B, P_row Z P g b W B, Z_row Z P g b W B, v107_at Z P g b W B H]
  obtain ⟨z, hz⟩ := (H q).Z t j
  unfold Blk.dz
  split
  · next hj =>
    obtain ⟨p, hp⟩ := (H q).P t ⟨j.val, hj⟩
    obtain ⟨f, hf⟩ := (H q).f t ⟨j.val, hj⟩
    unfold Blk.dzL
    rw [hz, hp, hf, ← EReal.coe_mul, show lo ⟨j.val, hj⟩ = j from rfl, hz]
    exact slope_form z (p * f)
  · next hj =>
    obtain ⟨d, hd⟩ := (H q).dv t ⟨j.val - 2048, by omega⟩
    unfold Blk.dzR
    rw [hz, hd, show hi ⟨j.val - 2048, by omega⟩ = j from Fin.ext (by show 2048 + (j.val - 2048) = j.val; omega), hz]
    exact slope_form z d

theorem v117_fun : val_main_v117 (F := Ideal) Z P g b W B
    = fun y => (blkOf Z P g b W B ((y 0).val / 128)).dz ⟨(y 0).val % 128, Nat.mod_lt _ (by omega)⟩ (y 1) := by
  funext y
  idx_vars y
  have e : row ⟨y0.val / 128, by omega⟩ ⟨y0.val % 128, Nat.mod_lt _ (by omega)⟩ = y0 := Fin.ext (Nat.div_add_mod' y0.val 128)
  have := v117_at Z P g b W B H ⟨y0.val / 128, by omega⟩ ⟨y0.val % 128, Nat.mod_lt _ (by omega)⟩ y1
  rw [e] at this
  exact this

omit H

theorem v75_fun : val_main_v75 (F := Ideal) Z P g b = fun y => ∑ q : Fin 64, (blkOf Z P g b W B q.val).dW (y 0) (y 1) (y 2) := by
  funext y
  idx_vars y
  exact v75_at Z P g b W B y0 y1 y2

theorem v119_fun : val_main_v119 (F := Ideal) Z P = fun y => ∑ q : Fin 64, (blkOf Z P g b W B q.val).dB (y 0) (y 1) := by
  funext y
  idx_vars y
  exact v119_at Z P g b W B y0 y1

theorem v120_fun : val_main_v120 (F := Ideal) Z P W = fun y => ∑ q : Fin 64, (blkOf Z P g b W B q.val).dg (y 1) := by
  funext y
  idx_vars y
  rw [Subsingleton.elim y0 0]
  exact v120_at Z P g b W B y1

theorem v121_fun : val_main_v121 (F := Ideal) Z P W = fun y => ∑ q : Fin 64, (blkOf Z P g b W B q.val).db (y 1) := by
  funext y
  idx_vars y
  rw [Subsingleton.elim y0 0]
  exact v121_at Z P g b W B y1

/-- Real arguments make real blocks. -/
theorem fin_of (hZ : ∀ i, ∃ r : ℝ, Z i = r) (hP : ∀ i, ∃ r : ℝ, P i = r) (hg : ∀ i, ∃ r : ℝ, g i = r) (hb : ∀ i, ∃ r : ℝ, b i = r)
    (hW : ∀ i, ∃ r : ℝ, W i = r) (hB : ∀ i, ∃ r : ℝ, B i = r) (q : Fin 64) : (K Z P g b W B q).Fin where
  Z t j := by
    rw [← Z_row]
    exact hZ _
  P t j := by
    rw [← P_row]
    exact hP _
  g j := hg _
  b j := hb _
  W h t s := hW _
  B h t := hB _

end Cert.GmlpReferenceIdeal.Val

end
-- ==== Proof.GmlpPair.lean ====
/-  The spatial gating unit's gradient and its reference: the frames and the equality. -/
module

public import proofs.«01_k».proof.Defs
public import proofs.«01_k».proof.Proof.Gen.GmlpKernel.Frame
public import proofs.«01_k».proof.Proof.Gen.GmlpKernelIdeal.Frame
public import proofs.«01_k».proof.Proof.Gen.GmlpReferenceIdeal.Run
public import proofs.«01_k».proof.Proof.Gen.GmlpReferenceIdeal.Read
public import proofs.«01_k».proof.Proof.Gen.GmlpKernelIdeal.Value
public import proofs.«01_k».proof.Proof.Gen.Pre_finite_gmlp
public import proofs.«01_k».proof.Proof.Finite
public import proofs.«01_k».proof.Proof.GmlpRef
public import Idealize.ShloMosaic.Lib.Claim

@[expose] public section

set_option maxRecDepth 16384

noncomputable section

open Idealize.ShloMosaic Idealize.ShloMosaic.TcCoe Idealize.SL.Sem

namespace Cert.GmlpPair

open Cert

attribute [local instance] Cert.GmlpKernel.Gen.facts Cert.GmlpKernelIdeal.Gen.facts Cert.GmlpReferenceIdeal.Gen.facts Cert.Pre_finite_gmlp.Gen.facts

theorem frameK : quiescent_GmlpKernel := fun m ρ _ => Cert.GmlpKernel.Gen.frame m ρ
theorem frameI : quiescent_GmlpKernelIdeal := fun m ρ _ => Cert.GmlpKernelIdeal.Gen.frame m ρ
theorem frameR : quiescent_GmlpReferenceIdeal := fun m ρ _ =>
  (θ_run Cert.GmlpReferenceIdeal.defs _ _).mono (fun r h => ⟨fun c => (h c).2.2.2.2.2, sem_eq_zero_of_no_sems (by decide) r.2⟩)
    (Cert.GmlpReferenceIdeal.Value.run (F := Ideal) m ρ)

/-- Each named constant's literal is its real number, rounded. -/
theorem keeps : preserves_GmlpKernel_GmlpKernelIdeal :=
  ⟨IdealRules.named_const.statement Cert.GmlpKernelIdeal.κ "inv_sqrt_2" .f32 0x3F3504F3#32 (((Real.sqrt 2)⁻¹ : ℝ) : EReal) rfl,
    IdealRules.named_const.statement Cert.GmlpKernelIdeal.κ "inv_sqrt_2pi" .f32 0x3ECC422A#32 (((Real.sqrt (2 * Real.pi))⁻¹ : ℝ) : EReal) rfl⟩

/-- Arguments that pass the check are reals in every entry. -/
theorem reals (z p g b w s) (H : Cert.Pre_finite_gmlp.fn (F := Ideal) z p g b w s = fun _ => 1#1) :
    (∀ i, ∃ r : ℝ, z i = (r : EReal)) ∧ (∀ i, ∃ r : ℝ, p i = (r : EReal)) ∧ (∀ i, ∃ r : ℝ, g i = (r : EReal))
      ∧ (∀ i, ∃ r : ℝ, b i = (r : EReal)) ∧ (∀ i, ∃ r : ℝ, w i = (r : EReal)) ∧ (∀ i, ∃ r : ℝ, s i = (r : EReal)) := by
  have H := congrFun H ix0
  unfold Cert.Pre_finite_gmlp.fn Cert.Pre_finite_gmlp.fn_part1 at H
  obtain ⟨H, h5⟩ := Cert.Finite.andi_one H
  obtain ⟨H, h4⟩ := Cert.Finite.andi_one H
  obtain ⟨H, h3⟩ := Cert.Finite.andi_one H
  obtain ⟨H, h2⟩ := Cert.Finite.andi_one H
  obtain ⟨h0, h1⟩ := Cert.Finite.andi_one H
  exact ⟨Cert.Finite.of_all Cert.Consts.cinf16 z h0, Cert.Finite.of_all Cert.Consts.cinf16 p h1, Cert.Finite.of_all Cert.Consts.cinf32 g h2,
    Cert.Finite.of_all Cert.Consts.cinf32 b h3, Cert.Finite.of_all Cert.Consts.cinf32 w h4, Cert.Finite.of_all Cert.Consts.cinf32 s h5⟩

theorem value : algebraic_GmlpKernelIdeal_GmlpReferenceIdeal_pre_finite_gmlp := by
  pair_intro
  · run_from Cert.GmlpKernelIdeal.Value.run_blocks m g
  · run_from Cert.GmlpReferenceIdeal.Value.run m' g'
    · obtain ⟨h0, h1, h2, h3, h4, h5⟩ := reals _ _ _ _ _ _ (hpre c)
      exact (Cert.GmlpReferenceIdeal.Read.val_main_v117_eq _).trans (by
        rw [show StableHlo.launchContents m' c (Proc.tc.devRef Cert.GmlpReferenceIdeal.main_arg0) = _ from (hagree c).1, show StableHlo.launchContents m' c (Proc.tc.devRef Cert.GmlpReferenceIdeal.main_arg1) = _ from (hagree c).2.1, show StableHlo.launchContents m' c (Proc.tc.devRef Cert.GmlpReferenceIdeal.main_arg2) = _ from (hagree c).2.2.1, show StableHlo.launchContents m' c (Proc.tc.devRef Cert.GmlpReferenceIdeal.main_arg3) = _ from (hagree c).2.2.2.1, show StableHlo.launchContents m' c (Proc.tc.devRef Cert.GmlpReferenceIdeal.main_arg4) = _ from (hagree c).2.2.2.2.1, show StableHlo.launchContents m' c (Proc.tc.devRef Cert.GmlpReferenceIdeal.main_arg5) = _ from (hagree c).2.2.2.2.2]
        exact (Cert.GmlpReferenceIdeal.Val.v117_fun _ _ _ _ _ _ (Cert.GmlpReferenceIdeal.Val.fin_of _ _ _ _ _ _ h0 h1 h2 h3 h4 h5)).trans (Cert.GmlpKernelIdeal.Val.final6 m c).symm)
    · obtain ⟨h0, h1, h2, h3, h4, h5⟩ := reals _ _ _ _ _ _ (hpre c)
      exact (Cert.GmlpReferenceIdeal.Read.val_main_v75_eq _).trans (by
        rw [show StableHlo.launchContents m' c (Proc.tc.devRef Cert.GmlpReferenceIdeal.main_arg0) = _ from (hagree c).1, show StableHlo.launchContents m' c (Proc.tc.devRef Cert.GmlpReferenceIdeal.main_arg1) = _ from (hagree c).2.1, show StableHlo.launchContents m' c (Proc.tc.devRef Cert.GmlpReferenceIdeal.main_arg2) = _ from (hagree c).2.2.1, show StableHlo.launchContents m' c (Proc.tc.devRef Cert.GmlpReferenceIdeal.main_arg3) = _ from (hagree c).2.2.2.1]
        exact (Cert.GmlpReferenceIdeal.Val.v75_fun _ _ _ _ _ _).trans (Cert.GmlpKernelIdeal.Val.final7 m c).symm)
    · obtain ⟨h0, h1, h2, h3, h4, h5⟩ := reals _ _ _ _ _ _ (hpre c)
      exact (Cert.GmlpReferenceIdeal.Read.val_main_v119_eq _).trans (by
        rw [show StableHlo.launchContents m' c (Proc.tc.devRef Cert.GmlpReferenceIdeal.main_arg0) = _ from (hagree c).1, show StableHlo.launchContents m' c (Proc.tc.devRef Cert.GmlpReferenceIdeal.main_arg1) = _ from (hagree c).2.1]
        exact (Cert.GmlpReferenceIdeal.Val.v119_fun _ _ _ _ _ _).trans (Cert.GmlpKernelIdeal.Val.final8 m c).symm)
    · obtain ⟨h0, h1, h2, h3, h4, h5⟩ := reals _ _ _ _ _ _ (hpre c)
      exact (Cert.GmlpReferenceIdeal.Read.val_main_v120_eq _).trans (by
        rw [show StableHlo.launchContents m' c (Proc.tc.devRef Cert.GmlpReferenceIdeal.main_arg0) = _ from (hagree c).1, show StableHlo.launchContents m' c (Proc.tc.devRef Cert.GmlpReferenceIdeal.main_arg1) = _ from (hagree c).2.1, show StableHlo.launchContents m' c (Proc.tc.devRef Cert.GmlpReferenceIdeal.main_arg4) = _ from (hagree c).2.2.2.2.1]
        exact (Cert.GmlpReferenceIdeal.Val.v120_fun _ _ _ _ _ _).trans (Cert.GmlpKernelIdeal.Val.final9 m c).symm)
    · obtain ⟨h0, h1, h2, h3, h4, h5⟩ := reals _ _ _ _ _ _ (hpre c)
      exact (Cert.GmlpReferenceIdeal.Read.val_main_v121_eq _).trans (by
        rw [show StableHlo.launchContents m' c (Proc.tc.devRef Cert.GmlpReferenceIdeal.main_arg0) = _ from (hagree c).1, show StableHlo.launchContents m' c (Proc.tc.devRef Cert.GmlpReferenceIdeal.main_arg1) = _ from (hagree c).2.1, show StableHlo.launchContents m' c (Proc.tc.devRef Cert.GmlpReferenceIdeal.main_arg4) = _ from (hagree c).2.2.2.2.1]
        exact (Cert.GmlpReferenceIdeal.Val.v121_fun _ _ _ _ _ _).trans (Cert.GmlpKernelIdeal.Val.final10 m c).symm)

end Cert.GmlpPair

end
-- ==== Proof.MixVal.lean ====
/-  The mixing product's backward call fused with the norm's, beside its residual: what its three result arrays hold after the run, as functions of the arguments. -/
module

public import proofs.«01_k».proof.Proof.Gen.MixKernelIdeal.Value
public import proofs.«01_k».proof.Proof.RealKit
public import proofs.«01_k».proof.Proof.Consts
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixMath

open Cert.RealKit Cert.Consts

abbrev TX := FVec Ideal ⟨2, ![8192, 2048]⟩ .f32
abbrev TG := FVec Ideal ⟨1, ![2048]⟩ .f32
abbrev TD := FVec Ideal ⟨2, ![8192, 6144]⟩ .bf16
abbrev TW := FVec Ideal ⟨2, ![2048, 6144]⟩ .f32

/-- The cotangent of the norm's result: the product's against the weight. -/
def dh (d : TD) (w : TW) (n : Fin 8192) (i : Fin 2048) : EReal := ∑ k : Fin 6144, d (ix2 n k) * w (ix2 i k)

/-- One summand of it. -/
def tm (d : TD) (w : TW) (n : Fin 8192) (i : Fin 2048) (k : ℕ) : EReal := if h : k < 6144 then d (ix2 n ⟨k, h⟩) * w (ix2 i ⟨k, h⟩) else 0

/-- The norm's gradient plus the residual's cotangent. -/
def dx (d : TD) (w : TW) (x : TX) (g : TG) (q : TX) (n : Fin 8192) (j : Fin 2048) : EReal :=
  dxK 2048 epsR (fun i => x (ix2 n i)) (fun i => dh d w n i * g (ix1 i)) j + q (ix2 n j)

/-- What row `n` adds to the gain's gradient. -/
def dg (d : TD) (w : TW) (x : TX) (j : Fin 2048) (n : ℕ) : EReal :=
  if h : n < 8192 then dh d w ⟨n, h⟩ j * (x (ix2 ⟨n, h⟩ j) * Ideal.rsqrt (msq 2048 epsR fun i => x (ix2 ⟨n, h⟩ i))) else 0

end Cert.MixMath

namespace Cert.MixKernelIdeal.Val

open Cert.MixKernelIdeal Cert.MixKernelIdeal.Gen Cert.RealKit Cert.Consts Cert.MixMath

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0]
  ∧ win0_3.index t = ![0, 0] ∧ win0_4.index t = ![t.val / 4, 0] ∧ win0_5.index t = ![t.val / 4, 0] ∧ win0_6.index t = ![t.val / 4, 0] ∧ win0_7.index t = ![0, 0] ∧ t.val < 64 :=
  (by decide +kernel : ∀ t : Fin grid0.N, _)

theorem lt (t : Fin cfg0.N) : t.val < 64 := (idx t).2.2.2.2.2.2.2.2

abbrev aD (c : Dev nD) : TD := m ((c : Thread nD τ).loc main_arg0)
abbrev aW (c : Dev nD) : TW := m ((c : Thread nD τ).loc main_arg1)
abbrev aX (c : Dev nD) : TX := m ((c : Thread nD τ).loc main_arg2)
abbrev aG (c : Dev nD) : TG := m ((c : Thread nD τ).loc main_arg3)
abbrev aQ (c : Dev nD) : TX := m ((c : Thread nD τ).loc main_arg4)

theorem d_at (c : Dev nD) (t : Fin cfg0.N) (n : Fin 8192) (r : Fin 512) (hn : n.val = t.val / 4 * 512 + r.val) (k : Fin 1536) (j : Fin 6144) (hj : j.val = t.val % 4 * 1536 + k.val) :
    (show EReal from iblk m c 0 t (ix2 r k)) = aD m c (ix2 n j) := by
  blk_ext [iblk, V, idx t]
theorem x_at (c : Dev nD) (t : Fin cfg0.N) (n : Fin 8192) (r : Fin 512) (hn : n.val = t.val / 4 * 512 + r.val) (j : Fin 2048) :
    (show EReal from iblk m c 2 t (ix2 r j)) = aX m c (ix2 n j) := by
  blk_ext [iblk, V, idx t]
theorem q_at (c : Dev nD) (t : Fin cfg0.N) (n : Fin 8192) (r : Fin 512) (hn : n.val = t.val / 4 * 512 + r.val) (j : Fin 2048) :
    (show EReal from iblk m c 4 t (ix2 r j)) = aQ m c (ix2 n j) := by
  blk_ext [iblk, V, idx t]
theorem g_at (c : Dev nD) (t : Fin cfg0.N) (j : Fin 2048) :
    (show EReal from iblk m c 3 t (ix2 0 j)) = aG m c (ix1 j) := by
  blk_simp [iblk]
  entry_read
  have e : (((View.whole main_v3).slice (win0_3.rect t)).emb (ix2 0 j) : S1x2048.Idx) = ix2 0 j := by
    blk_ext [idx t]
  refine (congrArg (shapeCast (main_v3.ty.shape) (m (c, Proc.tc.devRef main_arg3)) shapeCasts_S2048_S1x2048) e).trans ?_
  show shapeCast S1x2048 _ _ _ = _
  pointwise []

theorem panel (W : TW) (p : Fin 4) (i : Fin 2048) (k : Fin 1536) (j : Fin 6144) (hj : j.val = p.val * 1536 + k.val) :
    (transpose S4x2048x1536 [1, 0, 2] (shapeCast S2048x4x1536 (truncf (F := Ideal) .bf16 W bitsLt_bf16_f32) shapeCasts_S2048x6144_S2048x4x1536) transposes_S2048x4x1536_S4x2048x1536_1_0_2 : FVec Ideal S4x2048x1536 .bf16) (ix3 p i k) = W (ix2 i j) := by
  pointwise []
  blk_ext []

theorem V_w (c : Dev nD) : V m c main_v2 = (transpose S4x2048x1536 [1, 0, 2] (shapeCast S2048x4x1536 (truncf (F := Ideal) .bf16 (aW m c) bitsLt_bf16_f32) shapeCasts_S2048x6144_S2048x4x1536) transposes_S2048x4x1536_S4x2048x1536_1_0_2 : FVec Ideal S4x2048x1536 .bf16) := by
  entry_read
  rfl

theorem w_at (c : Dev nD) (t : Fin cfg0.N) (i : Fin 2048) (k : Fin 1536) (j : Fin 6144) (hj : j.val = t.val % 4 * 1536 + k.val) :
    (show EReal from iblk m c 1 t (ix3 0 i k)) = aW m c (ix2 i j) := by
  blk_simp [iblk]
  rw [show V m c (Pipeline.arrRef spec0 1) = _ from V_w m c]
  have e : (((View.whole main_v2).slice (win0_1.rect t)).emb (ix3 0 i k) : S4x2048x1536.Idx) = ix3 (⟨t.val % 4, by omega⟩ : Fin 4) i k := by
    blk_ext [idx t]
  exact (congrArg _ e).trans (panel (aW m c) _ i k j hj)

/-- What one point adds to the product's running sum. -/
def part (c : Dev nD) (t : ℕ) (y : S512x2048.Idx) : EReal :=
  if h : t / 4 * 512 + (y 0).val < 8192 then ∑ k : Fin 1536, tm (aD m c) (aW m c) ⟨t / 4 * 512 + (y 0).val, h⟩ (y 1) (t % 4 * 1536 + k.val) else 0

theorem pay10_at (d : Vec Ideal S512x1536 .bf16) (old : Vec Ideal S512x512 .f32) (w : Vec Ideal S1x512x1536 .bf16) (r s : Fin 512) :
    k0_pay10 (F := Ideal) d old w (ix2 r s) = old (ix2 r s) + ∑ k : Fin 1536, d (ix2 r k) * w (ix3 0 s k) := by
  pointwise [k0_pay10]

theorem pay11_eq : k0_pay11 (F := Ideal) = k0_pay10 := rfl
theorem pay2_eq : k0_pay2 (F := Ideal) = k0_pay10 := rfl
theorem pay1_eq (d : Vec Ideal S512x1536 .bf16) (old : Vec Ideal S512x512 .f32) (w : Vec Ideal S1x512x1536 .bf16) : k0_pay1 (F := Ideal) (k0_pay12 d old w) = k0_pay10 d old w := rfl

theorem piece (c : Dev nD) (t : Fin cfg0.N) (old : Vec Ideal S512x2048 .f32) (o : ℕ) (h h') (x : S512x512.Idx) (y : S512x2048.Idx) (h0 : (y 0).val = (x 0).val) (h1 : (y 1).val = o + (x 1).val) :
    (show EReal from k0_pay10 (F := Ideal) (iblk m c 0 t) (View.ld (S := S512x2048) old (Rect.unit ![0, o] ![512, 512] h)) (View.ld (S := S1x2048x1536) (iblk m c 1 t) (Rect.unit ![0, o, 0] ![1, 512, 1536] h')) x)
      = (show EReal from old y) + part m c t.val y := by
  have ht := lt t
  have y0 := (y 0).isLt
  have y0' : (y 0).val < 512 := y0
  idx_vars x
  refine (pay10_at _ _ _ _ _).trans (Ideal.add_congr ?_ ?_)
  · exact View.ld_unit_apply_of _ _ _ _ _ y (by intro b; fin_cases b <;> simp [h0, h1])
  · rw [part, dif_pos (by omega)]
    refine Finset.sum_congr rfl fun k _ => ?_
    unfold tm
    rw [dif_pos (show t.val % 4 * 1536 + k.val < 6144 by omega)]
    refine Ideal.mul_congr (d_at m c t _ x0 (by show t.val / 4 * 512 + (y 0).val = _; rw [h0]) k _ rfl) ?_
    refine Eq.trans ?_ (w_at m c t (y 1) k _ rfl)
    exact View.ld_unit_apply_of _ _ _ _ _ (ix3 0 (y 1) k) (by intro b; fin_cases b <;> simp [h1])

/-- A load of the whole scratch after stores reads what they leave. -/
theorem readWhole (L : List (View.Piece (Elt Ideal) S512x2048 .f32)) (h) :
    (View.whole cc0_scratch0).readCov L (Rect.unit (s := S512x2048) ![0, 0] ![512, 2048] h).toLoadRect = View.canon L := by
  rw [View.readCov_eq_canon']
  funext j
  refine congrArg _ (funext fun a => Fin.ext ?_)
  fin_cases a <;> simp [LoadRect.idx, Rect.toLoadRect, Rect.unit]

theorem pay9_at (y : S512x2048.Idx) : k0_pay9 (F := Ideal) y = (0 : EReal) := by
  idx_vars y
  pointwise [k0_pay9]

theorem piece0 (c : Dev nD) (t : Fin cfg0.N) (ld : Vec Ideal S512x512 .f32) (o : ℕ) (h h') (hl : ld = View.ld (S := S512x2048) (k0_pay9 (F := Ideal)) (Rect.unit ![0, o] ![512, 512] h)) (x : S512x512.Idx) (y : S512x2048.Idx)
    (h0 : (y 0).val = (x 0).val) (h1 : (y 1).val = o + (x 1).val) :
    (show EReal from k0_pay10 (F := Ideal) (iblk m c 0 t) ld (View.ld (S := S1x2048x1536) (iblk m c 1 t) (Rect.unit ![0, o, 0] ![1, 512, 1536] h')) x) = part m c t.val y := by
  rw [hl]
  refine (piece m c t (k0_pay9 (F := Ideal)) o _ _ x y h0 h1).trans ?_
  rw [pay9_at]
  exact zero_add _

theorem acc_A (c : Dev nD) (t : Fin cfg0.N) (h : t.val % 4 = 0) (y : S512x2048.Idx) :
    (show EReal from (outsAt0 m c t.val t.isLt).2.2.2 y) = part m c t.val y := by
  rw [outsAt0_A m c t (by omega) (by omega)]
  frame_out
  refine View.canon_append_of_piecesOf (Val := Elt Ideal) (e := .f32) (part m c t.val) [_] [_, _, _, _] ⟨fun x => ?_, fun x => ?_, fun x => ?_, fun x => ?_, trivial⟩ y ?_
  on_goal 5 => exact View.cover_of_tiledBy _ ![512, 512] (by sl_kernel_rfl) y
  · rw [pay2_eq]
    exact piece0 m c t _ 1536 _ _ ((View.readCov_skip _ _ _ _ _ rfl).trans ((View.readCov_skip _ _ _ _ _ rfl).trans ((View.readCov_skip _ _ _ _ _ rfl).trans (View.readCov_fill _ _ _ _ _ (by decide))))) x _ (by simp [Rect.emb, Rect.unit]) (by simp [Rect.emb, Rect.unit])
  · rw [pay1_eq]
    exact piece0 m c t _ 1024 _ _ ((View.readCov_skip _ _ _ _ _ rfl).trans ((View.readCov_skip _ _ _ _ _ rfl).trans (View.readCov_fill _ _ _ _ _ (by decide)))) x _ (by simp [Rect.emb, Rect.unit]) (by simp [Rect.emb, Rect.unit])
  · rw [pay11_eq]
    exact piece0 m c t _ 512 _ _ ((View.readCov_skip _ _ _ _ _ rfl).trans (View.readCov_fill _ _ _ _ _ (by decide))) x _ (by simp [Rect.emb, Rect.unit]) (by simp [Rect.emb, Rect.unit])
  · exact piece0 m c t _ 0 _ _ (View.readCov_fill _ _ _ _ _ (by decide)) x _ (by simp [Rect.emb, Rect.unit]) (by simp [Rect.emb, Rect.unit])

theorem acc_B (c : Dev nD) (t : Fin cfg0.N) (h : ¬ t.val % 4 = 0) (y : S512x2048.Idx) :
    (show EReal from (outsAt0 m c t.val t.isLt).2.2.2 y) = (show EReal from (outsAt0 m c (t.val - 1) (by omega)).2.2.2 y) + part m c t.val y := by
  have ht := lt t
  by_cases h3 : t.val % 4 = 3
  on_goal 1 => by_cases h4 : t.val < 4
  on_goal 1 => rw [outsAt0_C m c t (by omega) (by omega) (by omega) (by omega)]
  on_goal 2 => rw [outsAt0_D m c t (by omega) (by omega) (by omega) (by omega)]
  on_goal 3 => rw [outsAt0_B m c t (by omega) (by omega)]
  all_goals
    frame_out
    rw [read_unread_whole]
    generalize (outsAt0 m c (t.val - 1) _).2.2.2 = old
    canon_tiles x h
    case' piece0 => rw [pay2_eq]; exact piece m c t old 1536 _ _ x y (by omega) (by omega)
    case' piece1 => rw [pay1_eq]; exact piece m c t old 1024 _ _ x y (by omega) (by omega)
    case' piece2 => rw [pay11_eq]; exact piece m c t old 512 _ _ x y (by omega) (by omega)
    case' piece3 => exact piece m c t old 0 _ _ x y (by omega) (by omega)

theorem acc_at (c : Dev nD) (t : Fin cfg0.N) (h : t.val % 4 = 3) (y : S512x2048.Idx) (n : Fin 8192) (hn : n.val = t.val / 4 * 512 + (y 0).val) :
    (show EReal from (outsAt0 m c t.val t.isLt).2.2.2 y) = dh (aD m c) (aW m c) n (y 1) := by
  have ht := lt t
  rw [Pipeline.eq_sum_fin_of_reset_step_apply_of_flush (fun n h => (outsAt0 m c n h).2.2.2) 4 (fun _ => 0)
    (fun t (y : S512x2048.Idx) => (part m c t.val y : EReal))
    (fun t h j => by rw [zero_add]; exact acc_A m c t h j)
    (fun t h j => acc_B m c t h j)
    t h y, zero_add]
  have e : dh (aD m c) (aW m c) n (y 1) = ∑ k : Fin 6144, tm (aD m c) (aW m c) n (y 1) k.val :=
    Finset.sum_congr rfl fun k _ => by unfold tm; rw [dif_pos k.isLt]
  rw [e]
  have p (s : Fin 4) : part m c (4 * (t.val / 4) + s.val) y = ∑ k : Fin 1536, tm (aD m c) (aW m c) n (y 1) (s.val * 1536 + k.val) := by
    have e1 : (4 * (t.val / 4) + s.val) / 4 = t.val / 4 := by omega
    have e2 : (4 * (t.val / 4) + s.val) % 4 = s.val := by omega
    rw [part, dif_pos (by rw [e1, ← hn]; exact n.isLt), e2]
    refine Finset.sum_congr rfl fun k _ => ?_
    congr 1
    exact Fin.ext (by show _ * 512 + _ = n.val; rw [e1]; exact hn.symm)
  refine (Finset.sum_congr rfl fun s _ => p s).trans ?_
  exact Fin.sum_mul_add_congr fun s k hl => rfl

theorem lds_at (c : Dev nD) (t : Fin cfg0.N) (h : t.val % 4 = 3) : (outsAt0 m c t.val t.isLt).2.2.2 = fun y : S512x2048.Idx => dh (aD m c) (aW m c) ⟨t.val / 4 * 512 + (y 0).val, by have := lt t; have y0 := (y 0).isLt; have y0' : (y 0).val < 512 := y0; omega⟩ (y 1) :=
  funext fun y => acc_at m c t h y _ rfl

theorem dx_at (c : Dev nD) (t : Fin cfg0.N) (A : Vec Ideal S512x2048 .f32) (r : Fin 512) (j : Fin 2048) (n : Fin 8192) (hn : n.val = t.val / 4 * 512 + r.val)
    (hA : ∀ i : Fin 2048, A (ix2 r i) = dh (aD m c) (aW m c) n i) :
    k0_pay7 (F := Ideal) A (iblk m c 2 t) (iblk m c 3 t) (iblk m c 4 t) (ix2 r j) = dx (aD m c) (aW m c) (aX m c) (aG m c) (aQ m c) n j := by
  have h (A x : Vec Ideal S512x2048 .f32) (g : Vec Ideal S1x2048 .f32) (q : Vec Ideal S512x2048 .f32) :
      k0_pay7 (F := Ideal) A x g q (ix2 r j) = dxK 2048 epsR (fun i => x (ix2 r i)) (fun i => A (ix2 r i) * g (ix2 0 i)) j + q (ix2 r j) := by
    pointwise [k0_pay7, k0_pay5, k0_pay4]
    rw [c2048, ceps]; rfl
  refine (h _ _ _ _).trans ?_
  unfold dx
  refine Ideal.add_congr ?_ (q_at m c t n r hn j)
  congr 1
  · exact funext fun i => x_at m c t n r hn i
  · exact funext fun i => Ideal.mul_congr (hA i) (g_at m c t i)

theorem dg_at (c : Dev nD) (t : Fin cfg0.N) (A : Vec Ideal S512x2048 .f32) (j : Fin 2048)
    (hA : ∀ (r : Fin 512) (n : Fin 8192), n.val = t.val / 4 * 512 + r.val → ∀ i : Fin 2048, A (ix2 r i) = dh (aD m c) (aW m c) n i) :
    k0_pay6 (F := Ideal) A (iblk m c 2 t) (ix2 0 j) = ∑ r : Fin 512, dg (aD m c) (aW m c) (aX m c) j (t.val / 4 * 512 + r.val) := by
  have h (A x : Vec Ideal S512x2048 .f32) :
      k0_pay6 (F := Ideal) A x (ix2 0 j) = ∑ r : Fin 512, A (ix2 r j) * (x (ix2 r j) * Ideal.rsqrt (msq 2048 epsR fun i => x (ix2 r i))) := by
    pointwise [k0_pay6, k0_pay5, k0_pay4]
    rw [c2048, ceps]; rfl
  refine (h _ _).trans (Finset.sum_congr rfl fun r _ => ?_)
  have ht := lt t
  rw [dg, dif_pos (by omega)]
  refine Ideal.mul_congr (hA r _ rfl j) (Ideal.mul_congr (x_at m c t _ r rfl j) ?_)
  congr 2
  exact funext fun i => x_at m c t _ r rfl i

theorem o_at (c : Dev nD) (t : Fin cfg0.N) (h : t.val % 4 = 3) (y : S512x2048.Idx) (n : Fin 8192) (hn : n.val = t.val / 4 * 512 + (y 0).val) (j : Fin 2048) (hj : j.val = (y 1).val) :
    (show EReal from (outsAt0 m c t.val t.isLt).1 y) = dx (aD m c) (aW m c) (aX m c) (aG m c) (aQ m c) n j
      ∧ (show EReal from (outsAt0 m c t.val t.isLt).2.1 y) = dx (aD m c) (aW m c) (aX m c) (aG m c) (aQ m c) n j := by
  have ht := lt t
  have e := acc_at m c t h
  idx_vars y
  obtain rfl : j = y1 := Fin.ext hj
  by_cases h4 : t.val < 4
  on_goal 1 => rw [outsAt0_C m c t (by omega) (by omega) (by omega) (by omega)] at e ⊢
  on_goal 2 => rw [outsAt0_D m c t (by omega) (by omega) (by omega) (by omega)] at e ⊢
  all_goals
    frame_out at e
    constructor
    all_goals
      frame_out
      rw [readWhole]
    · exact dx_at m c t _ y0 j n hn fun i => e (ix2 y0 i) n hn
    · exact dx_at m c t _ y0 j n hn fun i => e (ix2 y0 i) n hn

theorem dg_C (c : Dev nD) (t : Fin cfg0.N) (h : t.val % 4 = 3) (h4 : t.val < 4) (r : Fin 1) (j : Fin 2048) :
    (show EReal from (outsAt0 m c t.val t.isLt).2.2.1 (ix2 r j)) = ∑ r : Fin 512, dg (aD m c) (aW m c) (aX m c) j (t.val / 4 * 512 + r.val) := by
  have ht := lt t
  have e := acc_at m c t h
  rw [outsAt0_C m c t (by omega) (by omega) (by omega) (by omega)] at e ⊢
  frame_out at e
  frame_out
  rw [readWhole]
  obtain rfl : r = 0 := Subsingleton.elim _ _
  exact dg_at m c t _ j fun r n hn i => e (ix2 r i) n hn

theorem dg_D (c : Dev nD) (t : Fin cfg0.N) (h : t.val % 4 = 3) (h4 : ¬ t.val < 4) (r : Fin 1) (j : Fin 2048) :
    (show EReal from (outsAt0 m c t.val t.isLt).2.2.1 (ix2 r j)) = (show EReal from (outsAt0 m c (t.val - 1) (by omega)).2.2.1 (ix2 r j)) + ∑ r : Fin 512, dg (aD m c) (aW m c) (aX m c) j (t.val / 4 * 512 + r.val) := by
  have ht := lt t
  have e := acc_at m c t h
  rw [outsAt0_D m c t (by omega) (by omega) (by omega) (by omega)] at e ⊢
  frame_out at e
  frame_out
  rw [readWhole]
  have k (a b : Vec Ideal S1x2048 .f32) : k0_pay3 (F := Ideal) a b (ix2 r j) = b (ix2 r j) + a (ix2 r j) := by
    pointwise [k0_pay3]
  refine (k _ _).trans (Ideal.add_congr rfl ?_)
  obtain rfl : r = 0 := Subsingleton.elim _ _
  exact dg_at m c t _ j fun r n hn i => e (ix2 r i) n hn

theorem dg_hold (c : Dev nD) (t : Fin cfg0.N) (h : t.val % 4 ≠ 3) (h0 : t.val ≠ 0) (r : Fin 1) (j : Fin 2048) :
    (show EReal from (outsAt0 m c t.val t.isLt).2.2.1 (ix2 r j)) = (show EReal from (outsAt0 m c (t.val - 1) (by omega)).2.2.1 (ix2 r j)) := by
  have ht := lt t
  by_cases h4 : t.val % 4 = 0
  on_goal 1 => rw [outsAt0_A m c t (by omega) (by omega)]
  on_goal 2 => rw [outsAt0_B m c t (by omega) (by omega)]
  all_goals rfl

/-- After a row tile's last point the gain's gradient is the sum over the rows so far. -/
theorem dg_sum (c : Dev nD) (r : Fin 1) (j : Fin 2048) : ∀ (n : ℕ) (hn : n < cfg0.N), 3 ≤ n →
    (show EReal from (outsAt0 m c n hn).2.2.1 (ix2 r j)) = ∑ s ∈ Finset.range ((n + 1) / 4), ∑ r : Fin 512, dg (aD m c) (aW m c) (aX m c) j (s * 512 + r.val) := by
  intro n
  induction n with
  | zero => intro hn h; omega
  | succ n ih =>
    intro hn h
    by_cases h3 : (n + 1) % 4 = 3
    · rw [show (n + 1 + 1) / 4 = (n + 1) / 4 + 1 by omega, Finset.sum_range_succ]
      by_cases h4 : n + 1 < 4
      · rw [show (n + 1) / 4 = 0 by omega, Finset.sum_range_zero, zero_add]
        exact (dg_C m c ⟨n + 1, hn⟩ h3 h4 r j).trans (by show ∑ r : Fin 512, dg _ _ _ j ((n + 1) / 4 * 512 + r.val) = _; rw [show (n + 1) / 4 = 0 by omega])
      · exact (dg_D m c ⟨n + 1, hn⟩ h3 h4 r j).trans (Ideal.add_congr (ih _ (by omega)) rfl)
    · rw [show (n + 1 + 1) / 4 = (n + 1) / 4 by omega]
      exact (dg_hold m c ⟨n + 1, hn⟩ h3 (Nat.succ_ne_zero n) r j).trans (ih _ (by omega))

theorem final7 (c : Dev nD) : (dats m 0 c).arrAt 7 cfg0.N = fun y => ∑ n : Fin 8192, dg (aD m c) (aW m c) (aX m c) (y 1) n := by
  refine (dats m 0 c).arrAt_eq_of_covers 7 _ (by decide +kernel) fun t hf y => ?_
  have ht := lt t
  have hf' := (flush0_7 t).mp hf
  blk_simp
  rw [after0_7]
  have e1 : (((cfg0.win 7).blk t).view.emb y 1) = y 1 := Fin.ext (by blk_simp [idx t])
  idx_vars y
  refine (dg_sum m c y0 y1 t.val t.isLt (by omega)).trans ?_
  rw [show (t.val + 1) / 4 = 16 by omega, Finset.sum_range]
  rw [e1]
  exact Fin.sum_mul_add_congr fun s k hl => rfl

theorem final5 (c : Dev nD) : (dats m 0 c).arrAt 5 cfg0.N = fun y => dx (aD m c) (aW m c) (aX m c) (aG m c) (aQ m c) (y 0) (y 1) := by
  refine (dats m 0 c).arrAt_eq_of_covers 5 _ (by decide +kernel) fun t hf y => ?_
  blk_simp
  rw [after0_5]
  exact (o_at m c t ((flush0_5 t).mp hf) y _ (by blk_simp [idx t]) _ (by blk_simp [idx t])).1

theorem final6 (c : Dev nD) : (dats m 0 c).arrAt 6 cfg0.N = fun y => dx (aD m c) (aW m c) (aX m c) (aG m c) (aQ m c) (y 0) (y 1) := by
  refine (dats m 0 c).arrAt_eq_of_covers 6 _ (by decide +kernel) fun t hf y => ?_
  blk_simp
  rw [after0_6]
  exact (o_at m c t ((flush0_6 t).mp hf) y _ (by blk_simp [idx t]) _ (by blk_simp [idx t])).2

end Cert.MixKernelIdeal.Val

end
-- ==== Proof.MixRef.lean ====
/-  The mixing product's gradient fused with the norm's as the reference states it, read element by element. -/
module

public import proofs.«01_k».proof.Proof.MixVal
public import proofs.«01_k».proof.Proof.Gen.MixReferenceIdeal.Read

@[expose] public section

set_option maxRecDepth 16384

noncomputable section

open Idealize.ShloMosaic Idealize.ShloMosaic.TcCoe Idealize.SL.Sem

namespace Cert.MixReferenceIdeal.Val

open Cert.MixReferenceIdeal Cert.MixReferenceIdeal.Read Cert.RealKit Cert.Consts Cert.MixMath

variable (d : TD) (w : TW) (x : TX) (g : TG) (q : TX)

theorem v20_at (n : Fin 8192) (i : Fin 2048) : val_main_v20 (F := Ideal) d w (ix2 n i) = dh d w n i := by
  pointwise [val_main_v20, val_main_v17]
  rfl

theorem v41_fun : val_main_v41 (F := Ideal) d w x g q = fun y => dx d w x g q (y 0) (y 1) := by
  funext y
  idx_vars y
  pointwise [val_main_v41, val_main_v39, val_main_v32, val_main_v31, val_main_v25, val_main_v24, val_main_v13, val_main_v30, val_main_v7, val_main_v6, val_main_v4, val_main_v2, val_main_v1, val_main_v0, val_main_cst, val_main_v3, val_main_cst_0, val_main_v5, val_main_cst_1, val_main_v38, val_main_v37, val_main_v36, val_main_v35, val_main_v33, val_main_v29, val_main_v28, val_main_v27, val_main_cst_5, val_main_v10, val_main_v9, val_main_cst_2, val_main_v8, val_main_v34, val_main_cst_6, val_main_cst_7, val_main_v40]
  simp only [Fin.sum_univ_one, c2048, ceps, v20_at, cmhalf]
  rw [dx, dx_eq _ _ (by norm_num) epsR_pos, add_comm _ (q (ix2 y0 y1)), ← add_assoc, ← add_assoc]
  rfl

theorem v42_fun : val_main_v42 (F := Ideal) d w x g q = fun y => dx d w x g q (y 0) (y 1) := by
  unfold val_main_v42
  rw [v41_fun]
  funext y
  idx_vars y
  pointwise []

theorem v43_fun : val_main_v43 (F := Ideal) d w x = fun y => ∑ n : Fin 8192, dg d w x (y 1) n := by
  funext y
  idx_vars y
  pointwise [val_main_v43, val_main_v26, val_main_v23, val_main_v22, val_main_v21, val_main_v12, val_main_v11, val_main_v7, val_main_v6, val_main_v4, val_main_v2, val_main_v1, val_main_v0, val_main_cst, val_main_v3, val_main_cst_0, val_main_v5, val_main_cst_1, val_main_cst_3, val_main_cst_4]
  simp only [Fin.sum_univ_one, c2048, ceps, v20_at]
  refine Finset.sum_congr rfl fun n _ => ?_
  rw [dg, dif_pos n.isLt, mul_comm]
  rfl

end Cert.MixReferenceIdeal.Val

end
-- ==== Proof.MixPair.lean ====
/-  The mixing product's backward call fused with the norm's and its reference: the frames and the value claim. -/
module

public import proofs.«01_k».proof.Defs
public import proofs.«01_k».proof.Proof.Gen.MixKernel.Frame
public import proofs.«01_k».proof.Proof.Gen.MixKernelIdeal.Frame
public import proofs.«01_k».proof.Proof.Gen.MixReferenceIdeal.Run
public import proofs.«01_k».proof.Proof.Gen.MixReferenceIdeal.Read
public import proofs.«01_k».proof.Proof.Gen.MixKernelIdeal.Value
public import proofs.«01_k».proof.Proof.MixRef
public import Idealize.ShloMosaic.Lib.Claim

@[expose] public section

set_option maxRecDepth 16384

noncomputable section

open Idealize.ShloMosaic Idealize.ShloMosaic.TcCoe Idealize.SL.Sem

namespace Cert.MixPair

open Cert

attribute [local instance] Cert.MixKernel.Gen.facts Cert.MixKernelIdeal.Gen.facts Cert.MixReferenceIdeal.Gen.facts

theorem frameK : quiescent_MixKernel := fun m ρ _ => Cert.MixKernel.Gen.frame m ρ
theorem frameI : quiescent_MixKernelIdeal := fun m ρ _ => Cert.MixKernelIdeal.Gen.frame m ρ
theorem frameR : quiescent_MixReferenceIdeal := fun m ρ _ =>
  (θ_run Cert.MixReferenceIdeal.defs _ _).mono (fun r h => ⟨fun c => (h c).2.2.2, sem_eq_zero_of_no_sems (by decide) r.2⟩)
    (Cert.MixReferenceIdeal.Value.run (F := Ideal) m ρ)

theorem value : algebraic_MixKernelIdeal_MixReferenceIdeal := by
  pair_intro
  · run_from Cert.MixKernelIdeal.Value.run_blocks m g
  · run_from Cert.MixReferenceIdeal.Value.run m' g'
    · exact (Cert.MixReferenceIdeal.Read.val_main_v41_eq m' c).trans (by
        rw [(hagree c).1, (hagree c).2.1, (hagree c).2.2.1, (hagree c).2.2.2.1, (hagree c).2.2.2.2]; exact ((Cert.MixReferenceIdeal.Val.v41_fun _ _ _ _ _).trans (Cert.MixKernelIdeal.Val.final5 m c).symm))
    · exact (Cert.MixReferenceIdeal.Read.val_main_v42_eq m' c).trans (by
        rw [(hagree c).1, (hagree c).2.1, (hagree c).2.2.1, (hagree c).2.2.2.1, (hagree c).2.2.2.2]; exact ((Cert.MixReferenceIdeal.Val.v42_fun _ _ _ _ _).trans (Cert.MixKernelIdeal.Val.final6 m c).symm))
    · exact (Cert.MixReferenceIdeal.Read.val_main_v43_eq _ _ _).trans ((Cert.MixReferenceIdeal.Val.v43_fun _ _ _).trans (Cert.MixKernelIdeal.Val.final7 m c).symm)

end Cert.MixPair

end
-- ==== Proof.NrmVal.lean ====
/-  The norm's forward call: what its result array holds after the run, as a function of the arguments. -/
module

public import proofs.«01_k».proof.Proof.Gen.NrmKernelIdeal.Value
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NrmMath

open Cert.RealKit Cert.Consts

abbrev TX := FVec Ideal ⟨2, ![8192, 2048]⟩ .f32
abbrev TG := FVec Ideal ⟨1, ![2048]⟩ .f32

/-- The normalised row times the gain. -/
def nm (x : TX) (g : TG) (n : Fin 8192) (j : Fin 2048) : EReal := x (ix2 n j) * Ideal.rsqrt (msq 2048 epsR fun i => x (ix2 n i)) * g (ix1 j)

end Cert.NrmMath

namespace Cert.NrmKernelIdeal.Val

open Cert.NrmKernelIdeal Cert.NrmKernelIdeal.Gen Cert.RealKit Cert.Consts Cert.NrmMath

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 16 :=
  (by decide +kernel : ∀ t : Fin grid0.N, _)

abbrev aX (c : Dev nD) : TX := m ((c : Thread nD τ).loc main_arg0)
abbrev aG (c : Dev nD) : TG := m ((c : Thread nD τ).loc main_arg1)

theorem x_at (c : Dev nD) (t : Fin cfg0.N) (n : Fin 8192) (r : Fin 512) (hn : n.val = t.val * 512 + r.val) (j : Fin 2048) :
    (show EReal from iblk m c 0 t (ix2 r j)) = aX m c (ix2 n j) := by
  blk_ext [iblk, V, idx t]
theorem g_at (c : Dev nD) (t : Fin cfg0.N) (j : Fin 2048) :
    (show EReal from iblk m c 1 t (ix2 0 j)) = aG m c (ix1 j) := by
  blk_simp [iblk]
  entry_read
  have e : (((View.whole main_v0).slice (win0_1.rect t)).emb (ix2 0 j) : S1x2048.Idx) = ix2 0 j := by
    blk_ext [idx t]
  refine (congrArg (shapeCast (main_v0.ty.shape) (m (c, Proc.tc.devRef main_arg1)) shapeCasts_S2048_S1x2048) e).trans ?_
  show shapeCast S1x2048 _ _ _ = _
  pointwise []

theorem o_at (c : Dev nD) (t : Fin cfg0.N) (y : S512x2048.Idx) (n : Fin 8192) (hn : n.val = t.val * 512 + (y 0).val) (j : Fin 2048) (hj : j.val = (y 1).val) :
    (show EReal from out0_2 (iblk m c 0 t) (iblk m c 1 t) y) = nm (aX m c) (aG m c) n j := by
  frame_out
  idx_vars y
  obtain rfl : j = y1 := Fin.ext hj
  have h (x : Vec Ideal S512x2048 .f32) (g : Vec Ideal S1x2048 .f32) :
      k0_pay1 (F := Ideal) x g (ix2 y0 j) = x (ix2 y0 j) * Ideal.rsqrt (msq 2048 epsR fun i => x (ix2 y0 i)) * g (ix2 0 j) := by
    pointwise [k0_pay1]
    rw [c2048, ceps]; rfl
  refine (h _ _).trans ?_
  unfold nm
  refine Ideal.mul_congr (Ideal.mul_congr (x_at m c t n y0 hn j) ?_) (g_at m c t j)
  congr 2
  exact funext fun i => x_at m c t n y0 hn i

theorem final2 (c : Dev nD) : (dats m 0 c).arrAt 2 cfg0.N = fun y => nm (aX m c) (aG m c) (y 0) (y 1) := by
  refine (dats m 0 c).arrAt_eq_of_covers 2 _ (by decide +kernel) fun t hf y => ?_
  blk_simp
  rw [after0_2]
  exact o_at m c t y _ (by blk_simp [idx t]) _ (by blk_simp [idx t])

end Cert.NrmKernelIdeal.Val

end
-- ==== Proof.NrmRef.lean ====
/-  The norm as the reference states it, read element by element. -/
module

public import proofs.«01_k».proof.Proof.NrmVal
public import proofs.«01_k».proof.Proof.Gen.NrmReferenceIdeal.Read

@[expose] public section

set_option maxRecDepth 16384

noncomputable section

open Idealize.ShloMosaic Idealize.ShloMosaic.TcCoe Idealize.SL.Sem

namespace Cert.NrmReferenceIdeal.Val

open Cert.NrmReferenceIdeal Cert.NrmReferenceIdeal.Read Cert.RealKit Cert.Consts Cert.NrmMath

theorem v13_fun (x : TX) (g : TG) : val_main_v13 (F := Ideal) x g = fun y => nm x g (y 0) (y 1) := by
  funext y
  idx_vars y
  pointwise [val_main_v13, val_main_v12, val_main_v11, val_main_v10, val_main_v9, val_main_v8, val_main_v7, val_main_v6, val_main_v5, val_main_cst_1, val_main_v4, val_main_v3, val_main_cst_0, val_main_v2, val_main_v1, val_main_v0, val_main_cst]
  rw [c2048, ceps]
  rfl

end Cert.NrmReferenceIdeal.Val

end
-- ==== Proof.NrmPair.lean ====
/-  The norm's forward call and its reference: the frames and the value claim. -/
module

public import proofs.«01_k».proof.Defs
public import proofs.«01_k».proof.Proof.Gen.NrmKernel.Frame
public import proofs.«01_k».proof.Proof.Gen.NrmKernelIdeal.Frame
public import proofs.«01_k».proof.Proof.Gen.NrmReferenceIdeal.Run
public import proofs.«01_k».proof.Proof.Gen.NrmReferenceIdeal.Read
public import proofs.«01_k».proof.Proof.Gen.NrmKernelIdeal.Value
public import proofs.«01_k».proof.Proof.NrmRef
public import Idealize.ShloMosaic.Lib.Claim

@[expose] public section

set_option maxRecDepth 16384

noncomputable section

open Idealize.ShloMosaic Idealize.ShloMosaic.TcCoe Idealize.SL.Sem

namespace Cert.NrmPair

open Cert

attribute [local instance] Cert.NrmKernel.Gen.facts Cert.NrmKernelIdeal.Gen.facts Cert.NrmReferenceIdeal.Gen.facts

theorem frameK : quiescent_NrmKernel := fun m ρ _ => Cert.NrmKernel.Gen.frame m ρ
theorem frameI : quiescent_NrmKernelIdeal := fun m ρ _ => Cert.NrmKernelIdeal.Gen.frame m ρ
theorem frameR : quiescent_NrmReferenceIdeal := fun m ρ _ =>
  (θ_run Cert.NrmReferenceIdeal.defs _ _).mono (fun r h => ⟨fun c => (h c).2, sem_eq_zero_of_no_sems (by decide) r.2⟩)
    (Cert.NrmReferenceIdeal.Value.run (F := Ideal) m ρ)

theorem value : algebraic_NrmKernelIdeal_NrmReferenceIdeal := by
  pair_intro
  · run_from Cert.NrmKernelIdeal.Value.run_blocks m g
  · run_from Cert.NrmReferenceIdeal.Value.run m' g'
    exact (Cert.NrmReferenceIdeal.Read.val_main_v13_eq _ _).trans ((Cert.NrmReferenceIdeal.Val.v13_fun _ _).trans (Cert.NrmKernelIdeal.Val.final2 m c).symm)

end Cert.NrmPair

end
-- ==== Proof.OnrVal.lean ====
/-  The attention's output product with the norm behind it: what its two result arrays hold after the run, as functions of the arguments. -/
module

public import proofs.«01_k».proof.Proof.Gen.OnrKernelIdeal.Value
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OnrMath

open Cert.RealKit Cert.Consts

abbrev TO := FVec Ideal ⟨2, ![8192, 2048]⟩ .bf16
abbrev TW := FVec Ideal ⟨2, ![2048, 2048]⟩ .f32
abbrev TX := FVec Ideal ⟨2, ![8192, 2048]⟩ .f32
abbrev TG := FVec Ideal ⟨1, ![2048]⟩ .f32

/-- The residual plus the product. -/
def yv (o : TO) (w : TW) (x : TX) (n : Fin 8192) (j : Fin 2048) : EReal := x (ix2 n j) + ∑ k : Fin 2048, o (ix2 n k) * w (ix2 k j)

/-- Its normalised row times the gain. -/
def nm (o : TO) (w : TW) (x : TX) (g : TG) (n : Fin 8192) (j : Fin 2048) : EReal := yv o w x n j * Ideal.rsqrt (msq 2048 epsR fun i => yv o w x n i) * g (ix1 j)

end Cert.OnrMath

namespace Cert.OnrKernelIdeal.Val

open Cert.OnrKernelIdeal Cert.OnrKernelIdeal.Gen Cert.RealKit Cert.Consts Cert.OnrMath

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ t.val < 16 :=
  (by decide +kernel : ∀ t : Fin grid0.N, _)

abbrev aO (c : Dev nD) : TO := m ((c : Thread nD τ).loc main_arg0)
abbrev aW (c : Dev nD) : TW := m ((c : Thread nD τ).loc main_arg1)
abbrev aX (c : Dev nD) : TX := m ((c : Thread nD τ).loc main_arg2)
abbrev aG (c : Dev nD) : TG := m ((c : Thread nD τ).loc main_arg3)

theorem a_at (c : Dev nD) (t : Fin cfg0.N) (n : Fin 8192) (r : Fin 512) (hn : n.val = t.val * 512 + r.val) (j : Fin 2048) :
    (show EReal from iblk m c 0 t (ix2 r j)) = aO m c (ix2 n j) := by
  blk_ext [iblk, V, idx t]
theorem x_at (c : Dev nD) (t : Fin cfg0.N) (n : Fin 8192) (r : Fin 512) (hn : n.val = t.val * 512 + r.val) (j : Fin 2048) :
    (show EReal from iblk m c 2 t (ix2 r j)) = aX m c (ix2 n j) := by
  blk_ext [iblk, V, idx t]
theorem g_at (c : Dev nD) (t : Fin cfg0.N) (j : Fin 2048) :
    (show EReal from iblk m c 3 t (ix2 0 j)) = aG m c (ix1 j) := by
  blk_simp [iblk]
  entry_read
  have e : (((View.whole main_v2).slice (win0_3.rect t)).emb (ix2 0 j) : S1x2048.Idx) = ix2 0 j := by
    blk_ext [idx t]
  refine (congrArg (shapeCast (main_v2.ty.shape) (m (c, Proc.tc.devRef main_arg3)) shapeCasts_S2048_S1x2048) e).trans ?_
  show shapeCast S1x2048 _ _ _ = _
  pointwise []
theorem w_at (c : Dev nD) (t : Fin cfg0.N) (p : Fin 4) (r : Fin 512) (k : Fin 2048) (i : Fin 2048) (hi : i.val = p.val * 512 + r.val) :
    (show EReal from iblk m c 1 t (ix3 p r k)) = aW m c (ix2 i k) := by
  blk_simp [iblk]
  entry_read
  have e : (((View.whole main_v1).slice (win0_1.rect t)).emb (ix3 p r k) : S4x512x2048.Idx) = ix3 p r k := by
    blk_ext [idx t]
  refine (congrArg (shapeCast (main_v1.ty.shape) (truncf (F := Ideal) FTy.bf16 (m (c, Proc.tc.devRef main_arg1)) bitsLt_bf16_f32) shapeCasts_S2048x2048_S4x512x2048) e).trans ?_
  have h (W : FVec Ideal S2048x2048 .f32) : shapeCast S4x512x2048 (truncf (F := Ideal) FTy.bf16 W bitsLt_bf16_f32) shapeCasts_S2048x2048_S4x512x2048 (ix3 p r k) = W (ix2 i k) := by
    pointwise []
    blk_ext []
  exact h _

theorem pay1_at (c : Dev nD) (t : Fin cfg0.N) (r : Fin 512) (j : Fin 2048) (n : Fin 8192) (hn : n.val = t.val * 512 + r.val) :
    k0_pay1 (F := Ideal) (iblk m c 0 t) (iblk m c 1 t) (iblk m c 2 t) (ix2 r j) = yv (aO m c) (aW m c) (aX m c) n j := by
  pointwise [k0_pay1]
  unfold yv
  refine Ideal.add_congr (x_at m c t n r hn j) (Finset.sum_congr rfl fun k _ => Ideal.mul_congr (a_at m c t n r hn k) (w_at m c t _ _ j k (by show k.val = k.val / 512 * 512 + k.val % 512; omega)))

theorem o4_at (c : Dev nD) (t : Fin cfg0.N) (y : S512x2048.Idx) (n : Fin 8192) (hn : n.val = t.val * 512 + (y 0).val) (j : Fin 2048) (hj : j.val = (y 1).val) :
    (show EReal from out0_4 (iblk m c 0 t) (iblk m c 1 t) (iblk m c 2 t) (iblk m c 3 t) y) = yv (aO m c) (aW m c) (aX m c) n j := by
  frame_out
  idx_vars y
  obtain rfl : j = y1 := Fin.ext hj
  exact pay1_at m c t y0 j n hn

theorem o5_at (c : Dev nD) (t : Fin cfg0.N) (y : S512x2048.Idx) (n : Fin 8192) (hn : n.val = t.val * 512 + (y 0).val) (j : Fin 2048) (hj : j.val = (y 1).val) :
    (show EReal from out0_5 (iblk m c 0 t) (iblk m c 1 t) (iblk m c 2 t) (iblk m c 3 t) y) = nm (aO m c) (aW m c) (aX m c) (aG m c) n j := by
  frame_out
  idx_vars y
  obtain rfl : j = y1 := Fin.ext hj
  have h (o : Vec Ideal S512x2048 .bf16) (w : Vec Ideal S4x512x2048 .bf16) (x : Vec Ideal S512x2048 .f32) (g : Vec Ideal S1x2048 .f32) :
      k0_pay2 (F := Ideal) o w x g (ix2 y0 j) = k0_pay1 (F := Ideal) o w x (ix2 y0 j) * Ideal.rsqrt (msq 2048 epsR fun i => k0_pay1 (F := Ideal) o w x (ix2 y0 i)) * g (ix2 0 j) := by
    pointwise [k0_pay2]
    rw [c2048, ceps]; rfl
  refine (h _ _ _ _).trans ?_
  unfold nm
  refine Ideal.mul_congr (Ideal.mul_congr (pay1_at m c t y0 j n hn) ?_) (g_at m c t j)
  congr 2
  exact funext fun i => pay1_at m c t y0 i n hn

theorem final4 (c : Dev nD) : (dats m 0 c).arrAt 4 cfg0.N = fun y => yv (aO m c) (aW m c) (aX m c) (y 0) (y 1) := by
  refine (dats m 0 c).arrAt_eq_of_covers 4 _ (by decide +kernel) fun t hf y => ?_
  blk_simp
  rw [after0_4]
  exact o4_at m c t y _ (by blk_simp [idx t]) _ (by blk_simp [idx t])

theorem final5 (c : Dev nD) : (dats m 0 c).arrAt 5 cfg0.N = fun y => nm (aO m c) (aW m c) (aX m c) (aG m c) (y 0) (y 1) := by
  refine (dats m 0 c).arrAt_eq_of_covers 5 _ (by decide +kernel) fun t hf y => ?_
  blk_simp
  rw [after0_5]
  exact o5_at m c t y _ (by blk_simp [idx t]) _ (by blk_simp [idx t])

end Cert.OnrKernelIdeal.Val

end
-- ==== Proof.OnrRef.lean ====
/-  The attention's output product with the norm behind it as the reference states it, read element by element. -/
module

public import proofs.«01_k».proof.Proof.OnrVal
public import proofs.«01_k».proof.Proof.Gen.OnrReferenceIdeal.Read

@[expose] public section

set_option maxRecDepth 16384

noncomputable section

open Idealize.ShloMosaic Idealize.ShloMosaic.TcCoe Idealize.SL.Sem

namespace Cert.OnrReferenceIdeal.Val

open Cert.OnrReferenceIdeal Cert.OnrReferenceIdeal.Read Cert.RealKit Cert.Consts Cert.OnrMath

variable (o : TO) (w : TW) (x : TX) (g : TG)

theorem v2_at (n : Fin 8192) (j : Fin 2048) : val_main_v2 (F := Ideal) o w x (ix2 n j) = yv o w x n j := by
  pointwise [val_main_v2, val_main_v1, val_main_v0]
  rfl

theorem v2_fun : val_main_v2 (F := Ideal) o w x = fun y => yv o w x (y 0) (y 1) := by
  funext y
  idx_vars y
  exact v2_at o w x y0 y1

theorem v16_fun : val_main_v16 (F := Ideal) o w x g = fun y => nm o w x g (y 0) (y 1) := by
  funext y
  idx_vars y
  pointwise [val_main_v16, val_main_v15, val_main_v14, val_main_v13, val_main_v12, val_main_v11, val_main_v10, val_main_v9, val_main_v8, val_main_cst_1, val_main_v7, val_main_v6, val_main_cst_0, val_main_v5, val_main_v4, val_main_v3, val_main_cst]
  simp only [c2048, ceps, v2_at]
  rfl

end Cert.OnrReferenceIdeal.Val

end
-- ==== Proof.OnrPair.lean ====
/-  The attention's output product with the norm behind it and its reference: the frames and the value claim. -/
module

public import proofs.«01_k».proof.Defs
public import proofs.«01_k».proof.Proof.Gen.OnrKernel.Frame
public import proofs.«01_k».proof.Proof.Gen.OnrKernelIdeal.Frame
public import proofs.«01_k».proof.Proof.Gen.OnrReferenceIdeal.Run
public import proofs.«01_k».proof.Proof.Gen.OnrReferenceIdeal.Read
public import proofs.«01_k».proof.Proof.Gen.OnrKernelIdeal.Value
public import proofs.«01_k».proof.Proof.OnrRef
public import Idealize.ShloMosaic.Lib.Claim

@[expose] public section

set_option maxRecDepth 16384

noncomputable section

open Idealize.ShloMosaic Idealize.ShloMosaic.TcCoe Idealize.SL.Sem

namespace Cert.OnrPair

open Cert

attribute [local instance] Cert.OnrKernel.Gen.facts Cert.OnrKernelIdeal.Gen.facts Cert.OnrReferenceIdeal.Gen.facts

theorem frameK : quiescent_OnrKernel := fun m ρ _ => Cert.OnrKernel.Gen.frame m ρ
theorem frameI : quiescent_OnrKernelIdeal := fun m ρ _ => Cert.OnrKernelIdeal.Gen.frame m ρ
theorem frameR : quiescent_OnrReferenceIdeal := fun m ρ _ =>
  (θ_run Cert.OnrReferenceIdeal.defs _ _).mono (fun r h => ⟨fun c => (h c).2.2, sem_eq_zero_of_no_sems (by decide) r.2⟩)
    (Cert.OnrReferenceIdeal.Value.run (F := Ideal) m ρ)

theorem value : algebraic_OnrKernelIdeal_OnrReferenceIdeal := by
  pair_intro
  · run_from Cert.OnrKernelIdeal.Value.run_blocks m g
  · run_from Cert.OnrReferenceIdeal.Value.run m' g'
    · exact (Cert.OnrReferenceIdeal.Read.val_main_v2_eq _ _ _).trans ((Cert.OnrReferenceIdeal.Val.v2_fun _ _ _).trans (Cert.OnrKernelIdeal.Val.final4 m c).symm)
    · exact (Cert.OnrReferenceIdeal.Read.val_main_v16_eq _ _ _ _).trans ((Cert.OnrReferenceIdeal.Val.v16_fun _ _ _ _).trans (Cert.OnrKernelIdeal.Val.final5 m c).symm)

end Cert.OnrPair

end
-- ==== Proof.CvfVal.lean ====
/-  The convolution gate's forward call: what its result array holds after the run, as a function of the arguments. -/
module

public import proofs.«01_k».proof.Proof.Gen.CvfKernelIdeal.Value
public import proofs.«01_k».proof.Proof.RealKit
public import proofs.«01_k».proof.Proof.Consts
public import Idealize.ShloMosaic.Lib.Pointwise
public import Idealize.ShloMosaic.Lib.Pipeline.ValueKit
public import proofs.«01_k».proof.Proof.ConvVal

@[expose] public section

set_option maxRecDepth 16384

noncomputable section

open Idealize.ShloMosaic Idealize.ShloMosaic.TcCoe Idealize.SL.Sem
open Idealize.ShloMosaic.Pipeline (Dat)

namespace Cert.CvfMath

open Cert.ConvMath

/-- The output gate times the convolution. -/
def gate (X : TX) (W : TW) (n : Fin 8192) (j : Fin 2048) : EReal := X (ix2 n ⟨j, by omega⟩) * conv X W n j

end Cert.CvfMath

namespace Cert.CvfKernelIdeal.Val

open Cert.CvfKernelIdeal Cert.CvfKernelIdeal.Gen Cert.ConvMath Cert.CvfMath
open Cert.ConvKernelIdeal.Val (sel_eq sgt_at)

variable (m : (ℓ : Loc nD τ sig) → Buf (Elt Ideal) ℓ)

theorem idx : ∀ t : Fin cfg0.N, win0_0.index t = ![t.val, 0] ∧ win0_1.index t = ![t.val, 1] ∧ win0_2.index t = ![t.val, 2]
  ∧ win0_3.index t = ![t.val * 16 - 1, 1] ∧ win0_4.index t = ![t.val * 16 - 1, 2] ∧ win0_5.index t = ![0, 0] ∧ win0_6.index t = ![t.val, 0]
  ∧ (grid0.coords t 0).val = t.val ∧ t.val < 32 :=
  (by decide +kernel : ∀ t : Fin grid0.N, _)

theorem lt (t : Fin cfg0.N) : t.val < 32 := (idx t).2.2.2.2.2.2.2.2
theorem pt (t : Fin cfg0.N) : (grid0.coords t 0).val = t.val := (idx t).2.2.2.2.2.2.2.1

abbrev aX (c : Dev nD) : TX := m ((c : Thread nD τ).loc main_arg0)
abbrev aW (c : Dev nD) : TW := m ((c : Thread nD τ).loc main_arg1)

theorem w_at (c : Dev nD) (t : Fin cfg0.N) (k : Fin 3) (j : Fin 2048) :
    (show EReal from iblk m c 5 t (ix2 k j)) = aW m c (ix2 k j) := by
  blk_ext [iblk, V, idx t]

theorem pay2_at (c : Dev nD) (t : Fin cfg0.N) (r : Fin 256) (j : Fin 2048) :
    k0_pay2 (F := Ideal) (iblk m c 1 t) (iblk m c 2 t) (ix2 r j) = zc (aX m c) (t.val * 256 + r) j := by
  have ht := lt t
  pointwise [k0_pay2]
  rw [zc, dif_pos (by omega)]
  refine Ideal.mul_congr ?_ ?_
  · blk_ext [iblk, V, idx t]
  · blk_ext [iblk, V, idx t]

/-- The last rows before the tile; zero in front of the first tile. -/
theorem pay3_at (c : Dev nD) (t : Fin cfg0.N) (k : ℕ) (r : Fin 16) (hk : r.val + k = 16) (j : Fin 2048) :
    k0_pay3 (F := Ideal) (grid0.coords t) (iblk m c 3 t) (iblk m c 4 t) (ix2 r j) = zb (aX m c) k (t.val * 256) j := by
  have ht := lt t
  pointwise [k0_pay3]
  rw [pt t, sgt_at ⟨t.val, by omega⟩, WordCmp.select_ofBool]
  by_cases h : 0 < t.val
  · simp only [h, decide_true, if_true]
    rw [zb, if_pos (by omega), zc, dif_pos (by omega)]
    refine Ideal.mul_congr ?_ ?_
    · blk_ext [iblk, V, idx t]
    · blk_ext [iblk, V, idx t]
  · simp only [h, decide_false, Bool.false_eq_true, if_false]
    rw [zb, if_neg (by have h' := r.isLt; omega)]

/-- The convolution as the call sums it. -/
theorem pay1_at (c : Dev nD) (t : Fin cfg0.N) (r : Fin 256) (j : Fin 2048) :
    k0_pay1 (F := Ideal) (k0_pay3 (grid0.coords t) (iblk m c 3 t) (iblk m c 4 t))
      (k0_pay4 (grid0.coords t) (iblk m c 1 t) (iblk m c 2 t) (iblk m c 3 t) (iblk m c 4 t)
        (View.ld (iblk m c 5 t) (Rect.unit ![2, 0] ![1, 2048] inb_S3x2048_S1x2048_2_0))
        (View.ld (iblk m c 5 t) (Rect.unit ![1, 0] ![1, 2048] inb_S3x2048_S1x2048_1_0)))
      (View.ld (iblk m c 5 t) (Rect.unit ![0, 0] ![1, 2048] inb_S3x2048_S1x2048_0_0)) (iota .tc S256x1 32 [0] iota_S256x1_d0_w32)
      (k0_pay5 (iblk m c 1 t) (iblk m c 2 t)) k0_pay6 (k0_pay7 (grid0.coords t) (iblk m c 3 t) (iblk m c 4 t)) (iblk m c 0 t) (ix2 r j)
      = (show EReal from iblk m c 0 t (ix2 r j)) * conv (aX m c) (aW m c) (t.val * 256 + r) j := by
  pointwise [k0_pay1, k0_pay4, k0_pay5, k0_pay6, k0_pay7]
  rw [sel_eq (by omega) (by omega), sel_eq (by omega) (by omega), sel_eq (by omega) (by omega), pay3_at m c t 1 15 rfl j, pay3_at m c t 2 14 rfl j, pay2_at, pay2_at, pay2_at, conv]
  refine Ideal.mul_congr rfl (Ideal.add_congr (Ideal.add_congr (Ideal.mul_congr (w_at m c t 2 j) rfl) (Ideal.mul_congr (w_at m c t 1 j) ?_)) (Ideal.mul_congr (w_at m c t 0 j) ?_))
  · split
    · next h => rw [h]; rfl
    · next h =>
      rw [zb, if_pos (by omega)]
      congr 1
      show t.val * 256 + (r.val + 256 - 1) % 256 = _
      omega
  · split
    · next h =>
      rw [h, zb, zb]
      by_cases h0 : t.val = 0
      · rw [h0]; simp
      · rw [if_pos (by omega), if_pos (by omega)]; congr 1
    · next h =>
      split
      · next h' => rw [h']; rfl
      · next h' =>
        rw [zb, if_pos (by omega)]
        congr 1
        show t.val * 256 + (r.val + 256 - 2) % 256 = _
        omega

theorem o_at (c : Dev nD) (t : Fin cfg0.N) (y : S256x2048.Idx) (n : Fin 8192) (hn : n.val = t.val * 256 + (y 0).val) (j : Fin 2048) (hj : j.val = (y 1).val) :
    (show EReal from out0_6 (grid0.coords t) (iblk m c 0 t) (iblk m c 1 t) (iblk m c 2 t) (iblk m c 3 t) (iblk m c 4 t) (iblk m c 5 t) y) = gate (aX m c) (aW m c) n j := by
  frame_out
  idx_vars y
  obtain rfl : j = y1 := Fin.ext hj
  refine (pay1_at m c t y0 j).trans ?_
  unfold gate
  rw [hn]
  refine Ideal.mul_congr ?_ rfl
  blk_ext [iblk, V, idx t]

theorem final6 (c : Dev nD) : (dats m 0 c).arrAt 6 cfg0.N = fun y => gate (aX m c) (aW m c) (y 0) (y 1) := by
  refine (dats m 0 c).arrAt_eq_of_covers 6 _ (by decide +kernel) fun t hf y => ?_
  blk_simp
  rw [after0_6]
  exact o_at m c t y _ (by blk_simp [idx t]) _ (by blk_simp [idx t])

end Cert.CvfKernelIdeal.Val

end
-- ==== Proof.CvfRef.lean ====
/-  The convolution gate as the reference states it, read element by element. -/
module

public import proofs.«01_k».proof.Proof.CvfVal
public import proofs.«01_k».proof.Proof.Gen.CvfReferenceIdeal.Read

@[expose] public section

set_option maxRecDepth 16384

noncomputable section

open Idealize.ShloMosaic Idealize.ShloMosaic.TcCoe Idealize.SL.Sem

namespace Cert.CvfReferenceIdeal.Val

open Cert.CvfReferenceIdeal Cert.CvfReferenceIdeal.Read Cert.ConvMath Cert.CvfMath

variable (X : TX) (W : TW)

theorem v4_at (n : Fin 8192) (j : Fin 2048) : val_main_v4 (F := Ideal) X (ix2 n j) = zc X n j := by
  pointwise [val_main_v4, val_main_v3, val_main_v2, val_main_v0]
  rw [zc, dif_pos n.isLt]

/-- One row back. -/
theorem v7_at (n : Fin 8192) (j : Fin 2048) : val_main_v7 (F := Ideal) X (ix2 n j) = zb X 1 n j := by
  pointwise [val_main_v7, val_main_v6, val_main_v5, val_main_cst]
  simp only [v4_at]
  rw [zb]
  split
  · rw [if_neg (by omega)]
  · rw [if_pos (by omega)]

/-- Two rows back. -/
theorem v10_at (n : Fin 8192) (j : Fin 2048) : val_main_v10 (F := Ideal) X (ix2 n j) = zb X 2 n j := by
  pointwise [val_main_v10, val_main_v9, val_main_v8, val_main_cst_0]
  simp only [v4_at]
  rw [zb]
  split
  · rw [if_neg (by omega)]
  · rw [if_pos (by omega)]

theorem v29_fun : val_main_v29 (F := Ideal) X W = fun y => gate X W (y 0) (y 1) := by
  funext y
  idx_vars y
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v1, val_main_v0]
  simp only [v4_at, v7_at, v10_at, gate, conv]
  rw [add_comm (W (ix2 0 _) * _), add_comm (W (ix2 1 _) * _ + _), add_assoc]

end Cert.CvfReferenceIdeal.Val

end
-- ==== Proof.CvfPair.lean ====
/-  The convolution gate's forward call and its reference: the frames and the value claim. -/
module

public import proofs.«01_k».proof.Defs
public import proofs.«01_k».proof.Proof.Gen.CvfKernel.Frame
public import proofs.«01_k».proof.Proof.Gen.CvfKernelIdeal.Frame
public import proofs.«01_k».proof.Proof.Gen.CvfReferenceIdeal.Run
public import proofs.«01_k».proof.Proof.Gen.CvfReferenceIdeal.Read
public import proofs.«01_k».proof.Proof.Gen.CvfKernelIdeal.Value
public import proofs.«01_k».proof.Proof.CvfRef
public import Idealize.ShloMosaic.Lib.Claim

@[expose] public section

set_option maxRecDepth 16384

noncomputable section

open Idealize.ShloMosaic Idealize.ShloMosaic.TcCoe Idealize.SL.Sem

namespace Cert.CvfPair

open Cert

attribute [local instance] Cert.CvfKernel.Gen.facts Cert.CvfKernelIdeal.Gen.facts Cert.CvfReferenceIdeal.Gen.facts

theorem frameK : quiescent_CvfKernel := fun m ρ _ => Cert.CvfKernel.Gen.frame m ρ
theorem frameI : quiescent_CvfKernelIdeal := fun m ρ _ => Cert.CvfKernelIdeal.Gen.frame m ρ
theorem frameR : quiescent_CvfReferenceIdeal := fun m ρ _ =>
  (θ_run Cert.CvfReferenceIdeal.defs _ _).mono (fun r h => ⟨fun c => (h c).2, sem_eq_zero_of_no_sems (by decide) r.2⟩)
    (Cert.CvfReferenceIdeal.Value.run (F := Ideal) m ρ)

theorem value : algebraic_CvfKernelIdeal_CvfReferenceIdeal := by
  pair_intro
  · run_from Cert.CvfKernelIdeal.Value.run_blocks m g
  · run_from Cert.CvfReferenceIdeal.Value.run m' g'
    exact (Cert.CvfReferenceIdeal.Read.val_main_v29_eq _ _).trans ((Cert.CvfReferenceIdeal.Val.v29_fun _ _).trans (Cert.CvfKernelIdeal.Val.final6 m c).symm)

end Cert.CvfPair

end
-- ==== Proof.GmfVal.lean ====
/-  The spatial gating unit's forward call: what its result array holds after the run, as a function of the arguments. -/
module

public import proofs.«01_k».proof.Proof.Gen.GmfKernelIdeal.Value
public import proofs.«01_k».proof.Proof.RealKit
public import proofs.«01_k».proof.Proof.Consts
public import Idealize.ShloMosaic.Lib.Pointwise
public import Idealize.ShloMosaic.Lib.Pipeline.ValueKit
public import proofs.«01_k».proof.Proof.GmlpVal

@[expose] public section

set_option maxRecDepth 16384

noncomputable section

open Idealize.ShloMosaic Idealize.ShloMosaic.TcCoe Idealize.SL.Sem
open Idealize.ShloMosaic.Pipeline (Dat)

namespace Cert.GmfMath

open Cert.GmlpMath

/-- A block of the arguments; the forward call has no cotangent. -/
abbrev fwdOf (Z : TZ) (g b : TG) (W : TW) (B : TB) (q : ℕ) : Blk := blkOf Z (fun _ => 0) g b W B q

/-- The gated row. -/
def gate (k : Blk) (t : Fin 128) (j : Fin 2048) : EReal := k.u t j * k.f t j

end Cert.GmfMath

namespace Cert.GmfKernelIdeal.Val

open Cert.GmfKernelIdeal Cert.GmfKernelIdeal.Gen Cert.RealKit Cert.Consts Cert.GmlpMath Cert.GmfMath
open Cert.GmlpKernelIdeal.Val (keep)

/-- A block of the kernel's five windows. -/
def blk (z : Vec Ideal S128x4096 .bf16) (g b : Vec Ideal S1x2048 .f32) (W : Vec Ideal S8x128x128 .f32) (B : Vec Ideal S128x2048 .f32) : Blk where
  Z t j := z (ix2 t j)
  P t j := 0
  g j := g (ix2 0 j)
  b j := b (ix2 0 j)
  W h t s := W (ix3 h t s)
  B h t := B (ix2 t (col h 0))

section pays
variable (z : Vec Ideal S128x4096 .bf16) (g b : Vec Ideal S1x2048 .f32) (W : Vec Ideal S8x128x128 .f32) (B : Vec Ideal S128x2048 .f32)

theorem pay3_at (t : Fin 128) (j : Fin 2048) : k0_pay3 (F := Ideal) z (ix2 t j) = (blk z g b W B).u t j := by
  pointwise [k0_pay3, k0_pay2]
  rfl
theorem pay4_at (t : Fin 128) (j : Fin 2048) : k0_pay4 (F := Ideal) z g b (ix2 t j) = (blk z g b W B).vln t j := by
  pointwise [k0_pay4, k0_pay2]
  rfl

/-- The columns of one head. -/
theorem slice_at {φ : FTy} (o : ℕ) (x : FVec Ideal S128x2048 φ) (hs : S128x2048.Slices ![0, o] S128x256)
    (t : Fin 128) (e : Fin 256) (j : Fin 2048) (hj : j.val = o + e.val) : extractStridedSlice S128x256 ![0, o] x hs (ix2 t e) = x (ix2 t j) :=
  extractStridedSlice_apply _ _ _ _ _ (by intro a; fin_cases a <;> simp [hj])

/-- The weights and the bias of one head, loaded from their blocks. -/
abbrev lW (o : ℕ) (h : ∀ b : Fin 3, (![o, 0, 0] : Fin 3 → ℕ) b + (![1, 128, 128] : Fin 3 → ℕ) b ≤ S8x128x128.size b) : Vec Ideal S1x128x128 .f32 := View.ld (S := S8x128x128) W (Rect.unit ![o, 0, 0] ![1, 128, 128] h)
abbrev lB (o : ℕ) (h : ∀ b : Fin 2, (![0, o] : Fin 2 → ℕ) b + (![128, 256] : Fin 2 → ℕ) b ≤ S128x2048.size b) : Vec Ideal S128x256 .f32 := View.ld (S := S128x2048) B (Rect.unit ![0, o] ![128, 256] h)

/-- The lower triangle of one head's weights. -/
def wmP (x : Vec Ideal S1x128x128 .f32) : FVec Ideal S128x128 .bf16 :=
  truncf .bf16 (select k0_pay5 (k0_pay6 (F := Ideal) x) (broadcast S128x128 (Scalar.ofBits (F := Ideal) .f32 0x00000000#32))) bitsLt_bf16_f32

theorem wm_at (h : Fin 8) (ho) (t s : Fin 128) : wmP (lW W h.val ho) (ix2 t s) = (blk z g b W B).wm h t s := by
  have e (x : Vec Ideal S1x128x128 .f32) : wmP x (ix2 t s) = if s.val ≤ t.val then x (ix3 0 t s) else 0 := by
    pointwise [wmP, k0_pay5, k0_pay6]
    exact keep t.isLt s.isLt _
  rw [e, show lW W h.val ho (ix3 0 t s) = W (ix3 h t s) from View.ld_unit_apply_of _ _ _ _ _ _ (by intro b; fin_cases b <;> simp)]
  rfl

/-- One head's gated rows. -/
def gP (u : FVec Ideal S128x2048 .f32) (v : FVec Ideal S128x2048 .bf16) (o : ℕ) (hs : S128x2048.Slices ![0, o] S128x256) (x : Vec Ideal S1x128x128 .f32) (y : Vec Ideal S128x256 .f32) : FVec Ideal S128x256 .bf16 :=
  truncf .bf16 (mulf (extractStridedSlice S128x256 ![0, o] u hs)
    (addf (matmul dot_S128x128_S128x256_S128x256_1_0_0_1_n_n none (wmP x) (extractStridedSlice S128x256 ![0, o] v hs) (constant S128x256 .f32 0x00000000#32))
      (shapeCast S128x256 y shapeCasts_S128x256_S128x256))) bitsLt_bf16_f32

theorem gP_at (h : Fin 8) (o : ℕ) (ho : o = h.val * 256) (hs hw hB) (t : Fin 128) (e : Fin 256)
    (hb : ∀ h t e, B (ix2 t (col h e)) = B (ix2 t (col h 0))) :
    gP (k0_pay3 (F := Ideal) z) (k0_pay4 (F := Ideal) z g b) o hs (lW W h.val hw) (lB B o hB) (ix2 t e) = gate (blk z g b W B) t (col h e) := by
  have e1 (u : FVec Ideal S128x256 .f32) (x : FVec Ideal S128x128 .bf16) (v : FVec Ideal S128x256 .bf16) (y : Vec Ideal S128x256 .f32) :
      truncf .bf16 (mulf (F := Ideal) u (addf (matmul dot_S128x128_S128x256_S128x256_1_0_0_1_n_n none x v (constant S128x256 .f32 0x00000000#32))
        (shapeCast S128x256 y shapeCasts_S128x256_S128x256))) bitsLt_bf16_f32 (ix2 t e)
      = u (ix2 t e) * ((∑ s : Fin 128, x (ix2 t s) * v (ix2 s e)) + y (ix2 t e)) := by
    pointwise
  have ej : (col h e).val = o + e.val := by rw [ho]; rfl
  refine (e1 _ _ _ _).trans (Ideal.mul_congr ((slice_at o _ hs t e (col h e) ej).trans (pay3_at z g b W B t _)) (Ideal.add_congr (Finset.sum_congr rfl fun s _ => Ideal.mul_congr ?_ ?_) ?_))
  · rw [hd_col]
    exact wm_at z g b W B h hw t s
  · exact (slice_at o _ hs s e (col h e) ej).trans (pay4_at z g b W B s _)
  · rw [hd_col]
    exact (View.ld_unit_apply_of _ _ _ _ _ (ix2 t (col h e)) (by intro b; fin_cases b <;> simp [ej])).trans (hb h t e)

end pays

variable (m : (ℓ : Loc nD τ sig) → Buf (Elt Ideal) ℓ)

abbrev aZ (c : Dev nD) : TZ := m (c, Proc.tc.devRef main_arg0)
abbrev aG (c : Dev nD) : TG := m (c, Proc.tc.devRef main_arg1)
abbrev aH (c : Dev nD) : TG := m (c, Proc.tc.devRef main_arg2)
abbrev aW (c : Dev nD) : TW := m (c, Proc.tc.devRef main_arg3)
abbrev aB (c : Dev nD) : TB := m (c, Proc.tc.devRef main_arg4)
/-- Block `q` of the arguments a device holds. -/
abbrev K (c : Dev nD) (q : ℕ) : Blk := fwdOf (aZ m c) (aG m c) (aH m c) (aW m c) (aB m c) q

theorem idx : ∀ t : Fin cfg0.N, win0_0.index t = ![t.val, 0] ∧ win0_1.index t = ![0, 0] ∧ win0_2.index t = ![0, 0]
  ∧ win0_3.index t = ![0, 0, 0] ∧ win0_4.index t = ![0, 0] ∧ win0_5.index t = ![t.val, 0] ∧ t.val < 64 :=
  (by decide +kernel : ∀ t : Fin grid0.N, _)

theorem lt (t : Fin cfg0.N) : t.val < 64 := (idx t).2.2.2.2.2.2

theorem z_at (c : Dev nD) (t : Fin cfg0.N) (r : Fin 128) (n : Fin 8192) (hn : n.val = t.val * 128 + r.val) (j : Fin 4096) :
    (show EReal from iblk m c 0 t (ix2 r j)) = aZ m c (ix2 n j) := by
  blk_ext [iblk, V, idx t]
theorem w_at (c : Dev nD) (t : Fin cfg0.N) (h : Fin 8) (r s : Fin 128) :
    (show EReal from iblk m c 3 t (ix3 h r s)) = aW m c (ix3 h r s) := by
  blk_ext [iblk, V, idx t]
theorem g_at (c : Dev nD) (t : Fin cfg0.N) (j : Fin 2048) :
    (show EReal from iblk m c 1 t (ix2 0 j)) = aG m c (ix1 j) := by
  blk_simp [iblk]
  entry_read
  have e : (((View.whole main_v3).slice (win0_1.rect t)).emb (ix2 0 j) : S1x2048.Idx) = ix2 0 j := by
    blk_ext [idx t]
  refine (congrArg (shapeCast (main_v3.ty.shape) (m (c, Proc.tc.devRef main_arg1)) shapeCasts_S2048_S1x2048) e).trans ?_
  show shapeCast S1x2048 _ _ _ = _
  pointwise []
theorem h_at (c : Dev nD) (t : Fin cfg0.N) (j : Fin 2048) :
    (show EReal from iblk m c 2 t (ix2 0 j)) = aH m c (ix1 j) := by
  blk_simp [iblk]
  entry_read
  have e : (((View.whole main_v4).slice (win0_2.rect t)).emb (ix2 0 j) : S1x2048.Idx) = ix2 0 j := by
    blk_ext [idx t]
  refine (congrArg (shapeCast (main_v4.ty.shape) (m (c, Proc.tc.devRef main_arg2)) shapeCasts_S2048_S1x2048) e).trans ?_
  show shapeCast S1x2048 _ _ _ = _
  pointwise []
theorem b_at (c : Dev nD) (t : Fin cfg0.N) (h : Fin 8) (e : Fin 256) (r : Fin 128) :
    (show EReal from iblk m c 4 t (ix2 r (col h e))) = aB m c (ix2 h r) := by
  blk_simp [iblk]
  entry_read
  have ee : (((View.whole main_v2).slice (win0_4.rect t)).emb (ix2 r (col h e)) : S128x2048.Idx) = ix2 r (col h e) := by
    blk_ext [idx t]
  refine (congrArg (shapeCast (main_v2.ty.shape) (broadcastInDim S128x8x256 ![0, 1] bcast_S128x8_S128x8x256_0_1
    (transpose S128x8 [1, 0] (m (c, Proc.tc.devRef main_arg4)) transposes_S8x128_S128x8_1_0)) shapeCasts_S128x8x256_S128x2048) ee).trans ?_
  have q (B : FVec Ideal S8x128 .f32) : shapeCast S128x2048 (broadcastInDim S128x8x256 ![0, 1] bcast_S128x8_S128x8x256_0_1
    (transpose S128x8 [1, 0] B transposes_S8x128_S128x8_1_0)) shapeCasts_S128x8x256_S128x2048 (ix2 r (col h e)) = B (ix2 h r) := by
    pointwise []
    exact congrArg (fun q => B (ix2 q r)) (Fin.ext (by show (h.val * 256 + e.val) / 256 = h.val; omega))
  exact q _

/-- The windows of one point hold one block of the arguments. -/
theorem blk_eq (c : Dev nD) (t : Fin cfg0.N) :
    blk (iblk m c 0 t) (iblk m c 1 t) (iblk m c 2 t) (iblk m c 3 t) (iblk m c 4 t) = K m c t.val := by
  have ht := lt t
  refine Blk.mk.injEq .. |>.mpr ⟨?_, rfl, ?_, ?_, ?_, ?_⟩
  · exact funext fun r => funext fun j => z_at m c t r _ (Nat.mod_eq_of_lt (by omega)) j
  · exact funext fun j => g_at m c t j
  · exact funext fun j => h_at m c t j
  · exact funext fun h => funext fun r => funext fun s => w_at m c t h r s
  · exact funext fun h => funext fun r => b_at m c t h 0 r

theorem o_ld (c : Dev nD) (t : Fin cfg0.N) (h : Fin 8) (o : ℕ) (ho : o = h.val * 256) (hs hw hB) (x : S128x256.Idx)
    (r : Fin 128) (hr : r.val = (x 0).val) (j : Fin 2048) (hj : j.val = o + (x 1).val) :
    gP (k0_pay3 (F := Ideal) (iblk m c 0 t)) (k0_pay4 (F := Ideal) (iblk m c 0 t) (iblk m c 1 t) (iblk m c 2 t)) o hs (lW (iblk m c 3 t) h.val hw) (lB (iblk m c 4 t) o hB) x
      = gate (K m c t.val) r j := by
  idx_vars x
  have hx1 : x1.val < 256 := x1.isLt
  have hj : j.val = o + x1.val := hj
  obtain rfl : r = x0 := Fin.ext hr
  have e := gP_at (iblk m c 0 t) (iblk m c 1 t) (iblk m c 2 t) (iblk m c 3 t) (iblk m c 4 t) h o ho hs hw hB r x1
    (fun h r e => (b_at m c t h e r).trans (b_at m c t h 0 r).symm)
  rw [blk_eq] at e
  exact e.trans (congrArg _ (Fin.ext (by show h.val * 256 + x1.val = j.val; omega)))

/-- The gated rows of the activation, as point `t` computes them. -/
theorem o5_at (c : Dev nD) (t : Fin cfg0.N) (y : S128x2048.Idx) :
    (show EReal from out0_5 (iblk m c 0 t) (iblk m c 1 t) (iblk m c 2 t) (iblk m c 3 t) (iblk m c 4 t) y) = gate (K m c t.val) (y 0) (y 1) := by
  unfold_out out0_5
  frame_out
  canon_tiles x h using View.cover_of_tiledBy _ ![128, 256] (by sl_kernel_rfl) y
  case' piece0 => exact o_ld m c t 7 1792 rfl _ _ _ x (y 0) (by omega) (y 1) (by show _ = 1792 + _; omega)
  case' piece1 => exact o_ld m c t 6 1536 rfl _ _ _ x (y 0) (by omega) (y 1) (by show _ = 1536 + _; omega)
  case' piece2 => exact o_ld m c t 5 1280 rfl _ _ _ x (y 0) (by omega) (y 1) (by show _ = 1280 + _; omega)
  case' piece3 => exact o_ld m c t 4 1024 rfl _ _ _ x (y 0) (by omega) (y 1) (by show _ = 1024 + _; omega)
  case' piece4 => exact o_ld m c t 3 768 rfl _ _ _ x (y 0) (by omega) (y 1) (by show _ = 768 + _; omega)
  case' piece5 => exact o_ld m c t 2 512 rfl _ _ _ x (y 0) (by omega) (y 1) (by show _ = 512 + _; omega)
  case' piece6 => exact o_ld m c t 1 256 rfl _ _ _ x (y 0) (by omega) (y 1) (by show _ = 256 + _; omega)
  case' piece7 => exact o_ld m c t 0 0 rfl _ _ _ x (y 0) (by omega) (y 1) (by show _ = 0 + _; omega)

theorem final5 (c : Dev nD) : (dats m 0 c).arrAt 5 cfg0.N = fun y => gate (K m c ((y 0).val / 128)) ⟨(y 0).val % 128, Nat.mod_lt _ (by omega)⟩ (y 1) := by
  refine (dats m 0 c).arrAt_eq_of_covers 5 _ (by decide +kernel) fun t hf y => ?_
  blk_simp
  rw [after0_5]
  refine (o5_at m c t y).trans ?_
  have e1 : (win0_5.blk t).view.emb y 1 = y 1 := Fin.ext (by blk_simp [idx t])
  have ht := lt t
  have hy : (y 0).val < 128 := (y 0).isLt
  have hi : win0_5.index t 0 = t.val := by blk_simp [idx t]
  have hd : (win0_5.index t 0 * 128 + (y 0).val) / 128 = t.val := by rw [hi]; omega
  have hm : (win0_5.index t 0 * 128 + (y 0).val) % 128 = (y 0).val := by rw [hi]; omega
  rw [e1, hd]
  exact congrArg (fun r => gate (K m c t.val) r (y 1)) (Fin.ext hm.symm)

end Cert.GmfKernelIdeal.Val

end
-- ==== Proof.GmfRef.lean ====
/-  The spatial gating unit as the reference states it, read element by element. -/
module

public import proofs.«01_k».proof.Proof.GmfVal
public import proofs.«01_k».proof.Proof.GmlpRef
public import proofs.«01_k».proof.Proof.Gen.GmfReferenceIdeal.Read

@[expose] public section

set_option maxRecDepth 16384

noncomputable section

open Idealize.ShloMosaic Idealize.ShloMosaic.TcCoe Idealize.SL.Sem

namespace Cert.GmfReferenceIdeal.Val

open Cert.GmfReferenceIdeal Cert.GmfReferenceIdeal.Gen Cert.GmfReferenceIdeal.Read Cert.RealKit Cert.Consts Cert.GmlpMath Cert.GmfMath

variable (Z : TZ) (g b : TG) (W : TW) (B : TB)

abbrev K (q : Fin 64) : Blk := fwdOf Z g b W B q.val

theorem Z_row (q : Fin 64) (t : Fin 128) (j : Fin 4096) : Z (ix2 (row q t) j) = (K Z g b W B q).Z t j := by
  show _ = Z (ix2 _ j)
  congr 2
  exact Fin.ext (Nat.mod_eq_of_lt (by omega)).symm

/-- The activation. -/
theorem v9_at (n : Fin 8192) (j : Fin 4096) : val_main_v9 (F := Ideal) Z (ix2 n j) = gl (Z (ix2 n j)) := by
  pointwise [val_main_v9, val_main_v8, val_main_v7, val_main_cst_1, val_main_v6, val_main_v5, val_main_v4, val_main_v3, val_main_cst_0, val_main_v2, val_main_v1, val_main_cst, val_main_v0]
  rw [div_root, gl, cdf, khalf, mul_comm (Ideal.ofBits _ _), mul_assoc]

theorem v11_at (q : Fin 64) (t : Fin 128) (j : Fin 2048) : val_main_v11 (F := Ideal) Z (ix2 (row q t) j) = (K Z g b W B q).v t j := by
  pointwise [val_main_v11]
  rw [v9_at, Z_row Z g b W B]
  rfl
theorem v10_at (q : Fin 64) (t : Fin 128) (j : Fin 2048) : val_main_v10 (F := Ideal) Z (ix2 (row q t) j) = (K Z g b W B q).u t j := by
  pointwise [val_main_v10]
  rw [v9_at, Z_row Z g b W B]
  rfl

/-- The centred row. -/
theorem v17_at (q : Fin 64) (t : Fin 128) (j : Fin 2048) : val_main_v17 (F := Ideal) Z (ix2 (row q t) j) = (K Z g b W B q).xc t j := by
  pointwise [val_main_v17, val_main_v16, val_main_v15, val_main_v14, val_main_v13, val_main_v12, val_main_cst_2, val_main_cst_3]
  simp only [v11_at Z g b W B]
  rfl
theorem v24_at (q : Fin 64) (t : Fin 128) (u : Fin 1) : val_main_v24 (F := Ideal) Z (ix2 (row q t) u) = Ideal.div (∑ i, (K Z g b W B q).xc t i * (K Z g b W B q).xc t i) k2048 + keps := by
  pointwise [val_main_v24, val_main_v23, val_main_v22, val_main_v21, val_main_v20, val_main_v19, val_main_v18, val_main_cst_4, val_main_cst_5, val_main_cst_6]
  simp only [v17_at Z g b W B]
  rfl

/-- The normalised row. -/
theorem v33_at (q : Fin 64) (t : Fin 128) (j : Fin 2048) : val_main_v33 (F := Ideal) Z g b (ix2 (row q t) j) = (K Z g b W B q).vln t j := by
  pointwise [val_main_v33, val_main_v32, val_main_v31, val_main_v30, val_main_v29, val_main_v28, val_main_v27, val_main_v26, val_main_v25]
  simp only [v17_at Z g b W B, v24_at Z g b W B]
  rfl
theorem v34_at (q : Fin 64) (t : Fin 128) (h : Fin 8) (e : Fin 256) : val_main_v34 (F := Ideal) Z g b (ix4 q t h e) = (K Z g b W B q).vln t (col h e) := by
  pointwise [val_main_v34]
  exact v33_at Z g b W B q t (col h e)

/-- The lower triangle of the weights. -/
theorem v39_at (h : Fin 8) (t s : Fin 128) : val_main_v39 (F := Ideal) W (ix3 h t s) = (if s.val ≤ t.val then W (ix3 h t s) else 0) := by
  pointwise [val_main_v39, val_main_v38, val_main_cst_7, val_main_call1_v0, val_main_v37, val_main_v36, val_main_v35, val_main_call0_v5, val_main_call0_v4, val_main_call0_v3, val_main_call0_v2, val_main_call0_v1, val_main_call0_v0, val_main_c, val_main_call0_c, val_main_call0_c_0]
  have e0 : IntOp.addi (BitVec.ofNat 32 t.val) 0#32 = BitVec.ofNat 32 t.val := WordCmp.addi_ofNat t.val 0
  rw [e0, WordCmp.cmpi_sge_ofNat (w := 32) (by omega) (by omega)]
  unfold Scalar.select
  by_cases h : s.val ≤ t.val <;> simp [h]

/-- The mixed row with its bias. -/
theorem v47_at (q : Fin 64) (t : Fin 128) (j : Fin 2048) : val_main_v47 (F := Ideal) Z g b W B (ix2 (row q t) j) = (K Z g b W B q).f t j := by
  pointwise [val_main_v47, val_main_v46, val_main_v45, val_main_v44, val_main_v43, val_main_v42, val_main_v41, val_main_v40]
  simp only [v39_at]
  have e1 : (⟨(row q t).val / 128, by omega⟩ : Fin 64) = q := Fin.ext (by show (q.val * 128 + t.val) / 128 = q.val; omega)
  have e2 : (⟨(row q t).val % 128, by omega⟩ : Fin 128) = t := Fin.ext (by show (q.val * 128 + t.val) % 128 = t.val; omega)
  have e3 : col ⟨j.val / 256, by omega⟩ ⟨j.val % 256, by omega⟩ = j := Fin.ext (by show j.val / 256 * 256 + j.val % 256 = j.val; omega)
  simp only [e1, e2, v34_at Z g b W B, e3]
  refine Ideal.add_congr (Finset.sum_congr rfl fun s _ => ?_) rfl
  rw [mul_comm]
  exact Ideal.mul_congr (if_congr (by rw [show (row q t).val % 128 = t.val from congrArg Fin.val e2]) rfl rfl) rfl

theorem v49_fun : val_main_v49 (F := Ideal) Z g b W B = fun y => gate (fwdOf Z g b W B ((y 0).val / 128)) ⟨(y 0).val % 128, Nat.mod_lt _ (by omega)⟩ (y 1) := by
  funext y
  idx_vars y
  have e : row ⟨y0.val / 128, by omega⟩ ⟨y0.val % 128, Nat.mod_lt _ (by omega)⟩ = y0 := Fin.ext (Nat.div_add_mod' y0.val 128)
  have h (q : Fin 64) (t : Fin 128) : val_main_v49 (F := Ideal) Z g b W B (ix2 (row q t) y1) = gate (K Z g b W B q) t y1 := by
    pointwise [val_main_v49, val_main_v48]
    rw [v10_at Z g b W B, v47_at]
    rfl
  have := h ⟨y0.val / 128, by omega⟩ ⟨y0.val % 128, Nat.mod_lt _ (by omega)⟩
  rw [e] at this
  exact this

end Cert.GmfReferenceIdeal.Val

end
-- ==== Proof.GmfPair.lean ====
/-  The spatial gating unit's forward call and its reference: the frames and the value claim. -/
module

public import proofs.«01_k».proof.Defs
public import proofs.«01_k».proof.Proof.Gen.GmfKernel.Frame
public import proofs.«01_k».proof.Proof.Gen.GmfKernelIdeal.Frame
public import proofs.«01_k».proof.Proof.Gen.GmfReferenceIdeal.Run
public import proofs.«01_k».proof.Proof.Gen.GmfReferenceIdeal.Read
public import proofs.«01_k».proof.Proof.Gen.GmfKernelIdeal.Value
public import proofs.«01_k».proof.Proof.GmfRef
public import Idealize.ShloMosaic.Lib.Claim

@[expose] public section

set_option maxRecDepth 16384

noncomputable section

open Idealize.ShloMosaic Idealize.ShloMosaic.TcCoe Idealize.SL.Sem

namespace Cert.GmfPair

open Cert

attribute [local instance] Cert.GmfKernel.Gen.facts Cert.GmfKernelIdeal.Gen.facts Cert.GmfReferenceIdeal.Gen.facts

theorem frameK : quiescent_GmfKernel := fun m ρ _ => Cert.GmfKernel.Gen.frame m ρ
theorem frameI : quiescent_GmfKernelIdeal := fun m ρ _ => Cert.GmfKernelIdeal.Gen.frame m ρ
theorem frameR : quiescent_GmfReferenceIdeal := fun m ρ _ =>
  (θ_run Cert.GmfReferenceIdeal.defs _ _).mono (fun r h => ⟨fun c => (h c).2, sem_eq_zero_of_no_sems (by decide) r.2⟩)
    (Cert.GmfReferenceIdeal.Value.run (F := Ideal) m ρ)

/-- The named constant's literal is its real number, rounded. -/
theorem keeps : preserves_GmfKernel_GmfKernelIdeal :=
  IdealRules.named_const.statement Cert.GmfKernelIdeal.κ "inv_sqrt_2" .f32 0x3F3504F3#32 (((Real.sqrt 2)⁻¹ : ℝ) : EReal) rfl

theorem value : algebraic_GmfKernelIdeal_GmfReferenceIdeal := by
  pair_intro
  · run_from Cert.GmfKernelIdeal.Value.run_blocks m g
  · run_from Cert.GmfReferenceIdeal.Value.run m' g'
    exact (Cert.GmfReferenceIdeal.Read.val_main_v49_eq m' c).trans (by
      rw [(hagree c).1, (hagree c).2.1, (hagree c).2.2.1, (hagree c).2.2.2.1, (hagree c).2.2.2.2]; exact ((Cert.GmfReferenceIdeal.Val.v49_fun _ _ _ _ _).trans (Cert.GmfKernelIdeal.Val.final5 m c).symm))

end Cert.GmfPair

end
-- ==== Proof.AtfVal.lean ====
/-  The attention's forward call: what its result array holds after the run, as a function of the arguments. -/
module

public import proofs.«01_k».proof.Proof.Gen.AtfKernelIdeal.Value
public import proofs.«01_k».proof.Proof.RealKit
public import proofs.«01_k».proof.Proof.Consts
public import Idealize.ShloMosaic.Lib.Pointwise
public import Idealize.ShloMosaic.Lib.Pipeline.ValueKit
public import proofs.«01_k».proof.Proof.AttnVal

@[expose] public section

set_option maxRecDepth 16384

noncomputable section

open Idealize.ShloMosaic Idealize.ShloMosaic.TcCoe Idealize.SL.Sem
open Idealize.ShloMosaic.Pipeline (Dat)

namespace Cert.AtfMath

open Cert.AttnMath

/-- The weighted sum of the values of column `j`'s head. -/
def att (Q : TQ) (K : TK) (n : Fin 8192) (j : Fin 2048) : EReal :=
  ∑ i : Fin 256, smx (S Q K n ⟨j.val / 512, by omega⟩) i * K (ix2 i ⟨2048 + j.val, by omega⟩)

end Cert.AtfMath

namespace Cert.AtfKernelIdeal.Val

open Cert.AtfKernelIdeal Cert.AtfKernelIdeal.Gen Cert.RealKit Cert.Consts Cert.AttnMath Cert.AtfMath

variable (m : (ℓ : Loc nD τ sig) → Buf (Elt Ideal) ℓ)

abbrev aQ (c : Dev nD) : TQ := m (c, Proc.tc.devRef main_arg0)
abbrev aK (c : Dev nD) : TK := m (c, Proc.tc.devRef main_arg1)

theorem idx : ∀ t : Fin cfg0.N, win0_0.index t = ![t.val, 0] ∧ win0_1.index t = ![0, 0] ∧ win0_2.index t = ![t.val, 0] ∧ t.val < 16 :=
  (by decide +kernel : ∀ t : Fin grid0.N, _)

theorem q_at (c : Dev nD) (t : Fin cfg0.N) (n : Fin 8192) (r : Fin 512) (hn : n.val = t.val * 512 + r.val) (j : Fin 2048) :
    (show EReal from iblk m c 0 t (ix2 r j)) = aQ m c (ix2 n j) := by
  blk_ext [iblk, V, idx t]
theorem k_at (c : Dev nD) (t : Fin cfg0.N) (i : Fin 256) (j : Fin 4096) :
    (show EReal from iblk m c 1 t (ix2 i j)) = aK m c (ix2 i j) := by
  blk_ext [iblk, V, idx t]

/-- The columns of one head, loaded from a block. -/
abbrev lQ (x : Vec Ideal S512x2048 .bf16) (o : ℕ) (h : ∀ b : Fin 2, (![0, o] : Fin 2 → ℕ) b + (![512, 512] : Fin 2 → ℕ) b ≤ S512x2048.size b) : Vec Ideal S512x512 .bf16 := View.ld (S := S512x2048) x (Rect.unit ![0, o] ![512, 512] h)
abbrev lK (x : Vec Ideal S256x4096 .bf16) (o : ℕ) (h : ∀ b : Fin 2, (![0, o] : Fin 2 → ℕ) b + (![256, 512] : Fin 2 → ℕ) b ≤ S256x4096.size b) : Vec Ideal S256x512 .bf16 := View.ld (S := S256x4096) x (Rect.unit ![0, o] ![256, 512] h)

theorem o_ld (c : Dev nD) (t : Fin cfg0.N) (a : Fin 4) (o p : ℕ) (ho : o = a.val * 512) (hp : p = 2048 + a.val * 512) (h h' h'')
    (x : S512x512.Idx) (n : Fin 8192) (hn : n.val = t.val * 512 + (x 0).val) (j : Fin 2048) (hj : j.val = a.val * 512 + (x 1).val) :
    k0_pay2 (F := Ideal) (lQ (iblk m c 0 t) o h) (lK (iblk m c 1 t) o h') (lK (iblk m c 1 t) p h'') x = att (aQ m c) (aK m c) n j := by
  idx_vars x
  have hx1 : x1.val < 512 := x1.isLt
  have hj : j.val = a.val * 512 + x1.val := hj
  have e (q : Vec Ideal S512x512 .bf16) (k v : Vec Ideal S256x512 .bf16) :
      k0_pay2 (F := Ideal) q k v (ix2 x0 x1) = ∑ i : Fin 256, smx (fun i => (∑ d : Fin 512, q (ix2 x0 d) * k (ix2 i d)) * sc) i * v (ix2 i x1) := by
    pointwise [k0_pay2]
    rfl
  refine (e _ _ _).trans (Finset.sum_congr rfl fun i _ => Ideal.mul_congr (congrArg (fun s => smx s i) (funext fun i => ?_)) ?_)
  · rw [show (⟨j.val / 512, by omega⟩ : Fin 4) = a from Fin.ext (by show j.val / 512 = _; omega)]
    refine Ideal.mul_congr (Finset.sum_congr rfl fun d _ => Ideal.mul_congr ?_ ?_) rfl
    · exact (View.ld_unit_apply_of _ _ _ _ _ (ix2 x0 (cq a d)) (by intro b; fin_cases b <;> simp [cq, ho])).trans (q_at m c t n x0 hn _)
    · exact (View.ld_unit_apply_of _ _ _ _ _ (ix2 i (ck a d)) (by intro b; fin_cases b <;> simp [ck, ho])).trans (k_at m c t i _)
  · rw [show (⟨2048 + j.val, by omega⟩ : Fin 4096) = cv a x1 from Fin.ext (by show 2048 + j.val = 2048 + a.val * 512 + x1.val; omega)]
    exact (View.ld_unit_apply_of _ _ _ _ _ (ix2 i (cv a x1)) (by intro b; fin_cases b <;> simp [cv, hp])).trans (k_at m c t i _)

theorem pay1_eq (q : Vec Ideal S512x512 .bf16) (k v : Vec Ideal S256x512 .bf16) : k0_pay1 (F := Ideal) (k0_pay6 q k) (k0_pay7 q k) v = k0_pay2 q k v := rfl
theorem pay4_eq (q : Vec Ideal S512x512 .bf16) (k v : Vec Ideal S256x512 .bf16) : k0_pay4 (F := Ideal) (k0_pay3 q k) v = k0_pay2 q k v := rfl
theorem pay5_eq : k0_pay5 (F := Ideal) = k0_pay2 := rfl

theorem o2_at (c : Dev nD) (t : Fin cfg0.N) (y : S512x2048.Idx) (n : Fin 8192) (hn : n.val = t.val * 512 + (y 0).val) (j : Fin 2048) (hj : j.val = (y 1).val) :
    (show EReal from out0_2 (iblk m c 0 t) (iblk m c 1 t) y) = att (aQ m c) (aK m c) n j := by
  frame_out
  canon_tiles x h
  case' piece0 => rw [pay1_eq]; exact o_ld m c t 3 _ _ rfl rfl _ _ _ x n (by omega) j (by show _ = 3 * 512 + _; omega)
  case' piece1 => rw [pay5_eq]; exact o_ld m c t 2 _ _ rfl rfl _ _ _ x n (by omega) j (by show _ = 2 * 512 + _; omega)
  case' piece2 => rw [pay4_eq]; exact o_ld m c t 1 _ _ rfl rfl _ _ _ x n (by omega) j (by show _ = 1 * 512 + _; omega)
  case' piece3 => exact o_ld m c t 0 _ _ rfl rfl _ _ _ x n (by omega) j (by show _ = 0 * 512 + _; omega)

theorem final2 (c : Dev nD) : (dats m 0 c).arrAt 2 cfg0.N = fun y => att (aQ m c) (aK m c) (y 0) (y 1) := by
  refine (dats m 0 c).arrAt_eq_of_covers 2 _ (by decide +kernel) fun t hf y => ?_
  blk_simp
  rw [after0_2]
  exact o2_at m c t y _ (by blk_simp [idx t]) _ (by blk_simp [idx t])

end Cert.AtfKernelIdeal.Val

end
-- ==== Proof.AtfRef.lean ====
/-  The attention as the reference states it, read element by element. -/
module

public import proofs.«01_k».proof.Proof.AtfVal
public import proofs.«01_k».proof.Proof.Gen.AtfReferenceIdeal.Read

@[expose] public section

set_option maxRecDepth 16384

noncomputable section

open Idealize.ShloMosaic Idealize.ShloMosaic.TcCoe Idealize.SL.Sem

namespace Cert.AtfReferenceIdeal.Val

open Cert.AtfReferenceIdeal Cert.AtfReferenceIdeal.Gen Cert.AtfReferenceIdeal.Read Cert.RealKit Cert.Consts Cert.AttnMath Cert.AtfMath

variable (Q : TQ) (K : TK)

/-- The scores. -/
theorem v9_at (a : Fin 4) (n : Fin 8192) (i : Fin 256) : val_main_v9 (F := Ideal) Q K (ix3 a n i) = S Q K n a i := by
  pointwise [val_main_v9, val_main_v8, val_main_cst, val_main_v7, val_main_v2, val_main_v0, val_main_v5, val_main_v3, val_main_v1]
  rfl

theorem red (X : FVec Ideal S4x8192x256 .f32) (a : Fin 4) (n : Fin 8192) :
    Host.reduce FloatOps.maximumf X (constant (F := Ideal) S_ .f32 0xFF800000#32) reducesTo_S4x8192x256_S4x8192_d2 h_S_ (ix2 a n) = mx (fun i => X (ix3 a n i)) := by
  pointwise []
  rfl

theorem v11_at (a : Fin 4) (n : Fin 8192) : val_main_v11 (F := Ideal) (ix2 a n) = Ideal.ofBits .f32 0xFF800000#32 := by
  pointwise [val_main_v11, val_main_cst_1]

theorem v10_at (a : Fin 4) (n : Fin 8192) : val_main_v10 (F := Ideal) Q K (ix2 a n) = mx (S Q K n a) :=
  (red _ a n).trans (congrArg mx (funext fun i => v9_at Q K a n i))

/-- The largest score of a row. -/
theorem v12_at (a : Fin 4) (n : Fin 8192) : val_main_v12 (F := Ideal) Q K (ix2 a n) = mx (S Q K n a) := by
  rw [val_main_v12_apply, v11_at, v10_at, cninf32]
  exact max_eq_right bot_le

theorem v16_at (a : Fin 4) (n : Fin 8192) (i : Fin 256) : val_main_v16 (F := Ideal) Q K (ix3 a n i) = Ideal.exp (S Q K n a i - mx (S Q K n a)) := by
  pointwise [val_main_v16, val_main_v15, val_main_v14, val_main_v13]
  rw [v9_at, v12_at]

theorem v17_at (a : Fin 4) (n : Fin 8192) : val_main_v17 (F := Ideal) Q K (ix2 a n) = ∑ i : Fin 256, Ideal.exp (S Q K n a i - mx (S Q K n a)) := by
  pointwise [val_main_v17, val_main_cst_2]
  simp only [v16_at]

/-- The weights. -/
theorem v20_at (a : Fin 4) (n : Fin 8192) (i : Fin 256) : val_main_v20 (F := Ideal) Q K (ix3 a n i) = smx (S Q K n a) i := by
  pointwise [val_main_v20, val_main_v19, val_main_v18]
  rw [v16_at, v17_at]
  rfl

theorem v24_fun : val_main_v24 (F := Ideal) Q K = fun y => att Q K (y 0) (y 1) := by
  funext y
  idx_vars y
  pointwise [val_main_v24, val_main_v23, val_main_v22, val_main_v21, val_main_v6, val_main_v4, val_main_v1]
  simp only [v20_at]
  refine Finset.sum_congr rfl fun i _ => ?_
  rw [mul_comm]

end Cert.AtfReferenceIdeal.Val

end
-- ==== Proof.AtfPair.lean ====
/-  The attention's forward call and its reference: the frames and the value claim. -/
module

public import proofs.«01_k».proof.Defs
public import proofs.«01_k».proof.Proof.Gen.AtfKernel.Frame
public import proofs.«01_k».proof.Proof.Gen.AtfKernelIdeal.Frame
public import proofs.«01_k».proof.Proof.Gen.AtfReferenceIdeal.Run
public import proofs.«01_k».proof.Proof.Gen.AtfReferenceIdeal.Read
public import proofs.«01_k».proof.Proof.Gen.AtfKernelIdeal.Value
public import proofs.«01_k».proof.Proof.AtfRef
public import Idealize.ShloMosaic.Lib.Claim

@[expose] public section

set_option maxRecDepth 16384

noncomputable section

open Idealize.ShloMosaic Idealize.ShloMosaic.TcCoe Idealize.SL.Sem

namespace Cert.AtfPair

open Cert

attribute [local instance] Cert.AtfKernel.Gen.facts Cert.AtfKernelIdeal.Gen.facts Cert.AtfReferenceIdeal.Gen.facts

theorem frameK : quiescent_AtfKernel := fun m ρ _ => Cert.AtfKernel.Gen.frame m ρ
theorem frameI : quiescent_AtfKernelIdeal := fun m ρ _ => Cert.AtfKernelIdeal.Gen.frame m ρ
theorem frameR : quiescent_AtfReferenceIdeal := fun m ρ _ =>
  (θ_run Cert.AtfReferenceIdeal.defs _ _).mono (fun r h => ⟨fun c => (h c).2, sem_eq_zero_of_no_sems (by decide) r.2⟩)
    (Cert.AtfReferenceIdeal.Value.run (F := Ideal) m ρ)

theorem value : algebraic_AtfKernelIdeal_AtfReferenceIdeal := by
  pair_intro
  · run_from Cert.AtfKernelIdeal.Value.run_blocks m g
  · run_from Cert.AtfReferenceIdeal.Value.run m' g'
    exact (Cert.AtfReferenceIdeal.Read.val_main_v24_eq _ _).trans ((Cert.AtfReferenceIdeal.Val.v24_fun _ _).trans (Cert.AtfKernelIdeal.Val.final2 m c).symm)

end Cert.AtfPair

end
-- ==== Proof.SwgVal.lean ====
/-  The gated unit's forward call with what it saves for its gradient -/
module

public import proofs.«01_k».proof.Proof.Gen.SwgKernelIdeal.Value
public import proofs.«01_k».proof.Proof.RealKit
public import proofs.«01_k».proof.Proof.Consts
public import Idealize.ShloMosaic.Lib.Pointwise
public import Idealize.ShloMosaic.Lib.Pipeline.ValueKit
public import proofs.«01_k».proof.Proof.DswRef

@[expose] public section

set_option maxRecDepth 16384

noncomputable section

open Idealize.ShloMosaic Idealize.ShloMosaic.TcCoe Idealize.SL.Sem
open Idealize.ShloMosaic.Pipeline (Dat)

namespace Cert.SwgKernelIdeal.Val

open Cert.SwgKernelIdeal Cert.SwgKernelIdeal.Gen Cert.RealKit Cert.Consts Cert.DswMath

/-- The gated unit itself. -/
def act (h : TH) (w : TW) (n : Fin 8192) (f : ℕ) : EReal := pre h w n f * sg (pre h w n f) * pre h w n (5632 + f)

variable (m : (ℓ : Loc nD τ sig) → Buf (Elt Ideal) ℓ)

theorem idx : ∀ t : Fin cfg0.N, win0_0.index t = ![t.val % 32, 0] ∧ win0_1.index t = ![t.val / 32, 0, 0] ∧ win0_2.index t = ![t.val / 32 + 2, 0, 0]
  ∧ win0_3.index t = ![t.val % 32, t.val / 32] ∧ win0_4.index t = ![t.val % 32, t.val / 32] ∧ win0_5.index t = ![t.val % 32, t.val / 32] ∧ t.val < 64 :=
  (by decide +kernel : ∀ t : Fin grid0.N, _)

abbrev aH (c : Dev nD) : TH := m ((c : Thread nD τ).loc main_arg0)
abbrev aW (c : Dev nD) : TW := m ((c : Thread nD τ).loc main_arg1)

/-- The weight cut into four column panels. -/
abbrev panels (W : TW) : FVec Ideal S4x2048x2816 .bf16 :=
  transpose S4x2048x2816 [1, 0, 2] (shapeCast S2048x4x2816 (truncf (F := Ideal) .bf16 W bitsLt_bf16_f32) shapeCasts_S2048x11264_S2048x4x2816) transposes_S2048x4x2816_S4x2048x2816_1_0_2

theorem panels_at (W : TW) (p : Fin 4) (k : Fin 2048) (f : Fin 2816) (e : ℕ) (he : e = p.val * 2816 + f.val) :
    panels W (ix3 p k f) = W (ix2 k ⟨e, by omega⟩) := by
  unfold panels
  pointwise []
  blk_ext []

theorem V_w (c : Dev nD) : V m c main_v2 = panels (aW m c) := by
  entry_read
  rfl

/-- Row `r` of the block of rows against column `f` of a weight panel is one entry of the product. -/
theorem dot_at (c : Dev nD) (t : Fin cfg0.N) (x : Vec Ideal S1x2048x2816 .bf16) (p : Fin 4)
    (hx : ∀ k f, x (ix3 0 k f) = panels (aW m c) (ix3 p k f)) (r : Fin 256) (f : Fin 2816)
    (n : Fin 8192) (hn : n.val = t.val % 32 * 256 + r.val) (e : ℕ) (he : e = p.val * 2816 + f.val) :
    k0_pay1 (F := Ideal) (iblk m c 0 t) x (ix2 r f) = pre (aH m c) (aW m c) n e := by
  pointwise [k0_pay1]
  rw [pre, dif_pos (show e < 11264 by omega)]
  refine Finset.sum_congr rfl fun k _ => Ideal.mul_congr ?_ ((hx k f).trans (panels_at (aW m c) p k f e he))
  blk_ext [iblk, V, idx t]

theorem pay2_eq : k0_pay2 (F := Ideal) = k0_pay1 := rfl

theorem x1_at (c : Dev nD) (t : Fin cfg0.N) (p : Fin 4) (hp : p.val = t.val / 32) (k : Fin 2048) (f : Fin 2816) :
    (show EReal from iblk m c 1 t (ix3 0 k f)) = panels (aW m c) (ix3 p k f) := by
  blk_simp [iblk]
  rw [show V m c (Pipeline.arrRef spec0 1) = _ from V_w m c]
  exact congrArg (panels (aW m c)) (by blk_ext [idx t])

theorem x2_at (c : Dev nD) (t : Fin cfg0.N) (p : Fin 4) (hp : p.val = t.val / 32 + 2) (k : Fin 2048) (f : Fin 2816) :
    (show EReal from iblk m c 2 t (ix3 0 k f)) = panels (aW m c) (ix3 p k f) := by
  blk_simp [iblk]
  rw [show V m c (Pipeline.arrRef spec0 2) = _ from V_w m c]
  exact congrArg (panels (aW m c)) (by blk_ext [idx t])

section rows
variable (c : Dev nD) (t : Fin cfg0.N) (r : Fin 256) (f : Fin 2816) (n : Fin 8192) (hn : n.val = t.val % 32 * 256 + r.val) (e : ℕ) (he : e = t.val / 32 * 2816 + f.val)
include hn he

theorem gate_at : k0_pay1 (F := Ideal) (iblk m c 0 t) (iblk m c 1 t) (ix2 r f) = pre (aH m c) (aW m c) n e := by
  have ht := (idx t).2.2.2.2.2.2
  exact dot_at m c t _ ⟨t.val / 32, by omega⟩ (x1_at m c t _ rfl) r f n hn e he

theorem up_at : k0_pay2 (F := Ideal) (iblk m c 0 t) (iblk m c 2 t) (ix2 r f) = pre (aH m c) (aW m c) n (5632 + e) := by
  have ht := (idx t).2.2.2.2.2.2
  rw [pay2_eq]
  exact dot_at m c t _ ⟨t.val / 32 + 2, by omega⟩ (x2_at m c t _ rfl) r f n hn _ (by show 5632 + e = (t.val / 32 + 2) * 2816 + f.val; omega)

theorem sg_at : k0_pay3 (F := Ideal) (iblk m c 0 t) (iblk m c 1 t) (ix2 r f) = sg (pre (aH m c) (aW m c) n e) := by
  rw [← gate_at m c t r f n hn e he]
  pointwise [k0_pay3]
  rw [chalf]; rfl
end rows

theorem o3_at (c : Dev nD) (t : Fin cfg0.N) (y : S256x2816.Idx) (n : Fin 8192) (hn : n.val = t.val % 32 * 256 + (y 0).val) (e : ℕ) (he : e = t.val / 32 * 2816 + (y 1).val) :
    (show EReal from out0_3 (iblk m c 0 t) (iblk m c 1 t) (iblk m c 2 t) y) = byGate (aH m c) (aW m c) n e := by
  frame_out
  idx_vars y
  pointwise [k0_pay5]
  rw [gate_at m c t y0 y1 n hn e he, up_at m c t y0 y1 n hn e he, sg_at m c t y0 y1 n hn e he, byGate, EReal.coe_one]

theorem o4_at (c : Dev nD) (t : Fin cfg0.N) (y : S256x2816.Idx) (n : Fin 8192) (hn : n.val = t.val % 32 * 256 + (y 0).val) (e : ℕ) (he : e = t.val / 32 * 2816 + (y 1).val) :
    (show EReal from out0_4 (iblk m c 0 t) (iblk m c 1 t) (iblk m c 2 t) y) = byUp (aH m c) (aW m c) n e := by
  frame_out
  idx_vars y
  pointwise [k0_pay6, k0_pay4]
  rw [gate_at m c t y0 y1 n hn e he, sg_at m c t y0 y1 n hn e he, byUp]

theorem o5_at (c : Dev nD) (t : Fin cfg0.N) (y : S256x2816.Idx) (n : Fin 8192) (hn : n.val = t.val % 32 * 256 + (y 0).val) (e : ℕ) (he : e = t.val / 32 * 2816 + (y 1).val) :
    (show EReal from out0_5 (iblk m c 0 t) (iblk m c 1 t) (iblk m c 2 t) y) = act (aH m c) (aW m c) n e := by
  frame_out
  idx_vars y
  pointwise [k0_pay7, k0_pay4]
  rw [gate_at m c t y0 y1 n hn e he, up_at m c t y0 y1 n hn e he, sg_at m c t y0 y1 n hn e he, act]

theorem final3 (c : Dev nD) : (dats m 0 c).arrAt 3 cfg0.N = (fun y => byGate (aH m c) (aW m c) (y 0) (y 1).val : FVec Ideal S8192x5632 .bf16) := by
  refine (dats m 0 c).arrAt_eq_of_covers 3 _ (by decide +kernel) fun t hf y => ?_
  blk_simp
  rw [after0_3]
  exact o3_at m c t y _ (by blk_simp [idx t]) _ (by blk_simp [idx t])

theorem final4 (c : Dev nD) : (dats m 0 c).arrAt 4 cfg0.N = (fun y => byUp (aH m c) (aW m c) (y 0) (y 1).val : FVec Ideal S8192x5632 .bf16) := by
  refine (dats m 0 c).arrAt_eq_of_covers 4 _ (by decide +kernel) fun t hf y => ?_
  blk_simp
  rw [after0_4]
  exact o4_at m c t y _ (by blk_simp [idx t]) _ (by blk_simp [idx t])

theorem final5 (c : Dev nD) : (dats m 0 c).arrAt 5 cfg0.N = (fun y => act (aH m c) (aW m c) (y 0) (y 1).val : FVec Ideal S8192x5632 .bf16) := by
  refine (dats m 0 c).arrAt_eq_of_covers 5 _ (by decide +kernel) fun t hf y => ?_
  blk_simp
  rw [after0_5]
  exact o5_at m c t y _ (by blk_simp [idx t]) _ (by blk_simp [idx t])

end Cert.SwgKernelIdeal.Val

end
-- ==== Proof.SwgRef.lean ====
/-  The gated unit's forward call as the reference states it, at arguments that are reals -/
module

public import proofs.«01_k».proof.Proof.SwgVal
public import proofs.«01_k».proof.Proof.Gen.SwgReferenceIdeal.Read

@[expose] public section

set_option maxRecDepth 16384

noncomputable section

open Idealize.ShloMosaic Idealize.ShloMosaic.TcCoe Idealize.SL.Sem

namespace Cert.SwgReferenceIdeal.Val

open Cert.SwgReferenceIdeal Cert.SwgReferenceIdeal.Read Cert.RealKit Cert.Consts Cert.DswMath

variable (h : TH) (w : TW)

theorem v1_at (n : Fin 8192) (e : Fin 11264) : val_main_v1 (F := Ideal) h w (ix2 n e) = pre h w n e := by
  pointwise [val_main_v1, val_main_v0]
  rw [pre, dif_pos e.isLt]

theorem v10_fun (hh : ∀ i, ∃ r : ℝ, h i = r) (hw : ∀ i, ∃ r : ℝ, w i = r) : val_main_v10 (F := Ideal) h w = fun y => byGate h w (y 0) (y 1).val := by
  funext y
  idx_vars y
  pointwise [val_main_v10, val_main_v9, val_main_call1_v1, val_main_call1_v2, val_main_call1_v0, val_main_v8, val_main_v6, val_main_cst, val_main_v3, val_main_v2, val_main_v4_1, val_main_call0_v7, val_main_call0_v6, val_main_call0_cst_1, val_main_v4_2, val_main_call0_v4, val_main_call0_cst_0, val_main_call0_v3, val_main_call0_v2, val_main_call0_cst, val_main_call0_v1, val_main_call0_v0]
  simp only [v1_at]
  rw [byGate]
  obtain ⟨g, hg⟩ := pre_real h w hh hw y0 y1
  obtain ⟨u, hu⟩ := pre_real h w hh hw y0 (5632 + y1)
  simp only [hg, hu, sg_coe, logistic_form]
  simp only [← EReal.coe_one, ← EReal.coe_mul, ← EReal.coe_add, ← EReal.coe_sub]
  congr 1
  ring

theorem v11_fun (hh : ∀ i, ∃ r : ℝ, h i = r) (hw : ∀ i, ∃ r : ℝ, w i = r) : val_main_v11 (F := Ideal) h w = fun y => byUp h w (y 0) (y 1).val := by
  funext y
  idx_vars y
  pointwise [val_main_v11, val_main_v7, val_main_v6, val_main_cst, val_main_v4_0, val_main_v2, val_main_v4_2, val_main_call0_v4, val_main_call0_cst_0, val_main_call0_v3, val_main_call0_v2, val_main_call0_cst, val_main_call0_v1, val_main_call0_v0]
  simp only [v1_at]
  rw [byUp]
  obtain ⟨g, hg⟩ := pre_real h w hh hw y0 y1
  simp only [hg, sg_coe, logistic_form, mul_one]

theorem v12_fun (hh : ∀ i, ∃ r : ℝ, h i = r) (hw : ∀ i, ∃ r : ℝ, w i = r) : val_main_v12 (F := Ideal) h w = fun y => SwgKernelIdeal.Val.act h w (y 0) (y 1).val := by
  funext y
  idx_vars y
  pointwise [val_main_v12, val_main_v5, val_main_v3, val_main_v4_0, val_main_v2, val_main_v4_2, val_main_call0_v4, val_main_call0_cst_0, val_main_call0_v3, val_main_call0_v2, val_main_call0_cst, val_main_call0_v1, val_main_call0_v0]
  simp only [v1_at]
  rw [SwgKernelIdeal.Val.act]
  obtain ⟨g, hg⟩ := pre_real h w hh hw y0 y1
  simp only [hg, sg_coe, logistic_form]

end Cert.SwgReferenceIdeal.Val

end
-- ==== Proof.SwgPair.lean ====
/-  The gated unit's forward call and its reference: the frames and the equality. -/
module

public import proofs.«01_k».proof.Defs
public import proofs.«01_k».proof.Proof.Gen.SwgKernel.Frame
public import proofs.«01_k».proof.Proof.Gen.SwgKernelIdeal.Frame
public import proofs.«01_k».proof.Proof.Gen.SwgReferenceIdeal.Run
public import proofs.«01_k».proof.Proof.Gen.SwgReferenceIdeal.Read
public import proofs.«01_k».proof.Proof.Gen.SwgKernelIdeal.Value
public import proofs.«01_k».proof.Proof.Gen.Pre_finite_swg
public import proofs.«01_k».proof.Proof.Finite
public import proofs.«01_k».proof.Proof.SwgRef
public import Idealize.ShloMosaic.Lib.Claim

@[expose] public section

set_option maxRecDepth 16384

noncomputable section

open Idealize.ShloMosaic Idealize.ShloMosaic.TcCoe Idealize.SL.Sem

namespace Cert.SwgPair

open Cert

attribute [local instance] Cert.SwgKernel.Gen.facts Cert.SwgKernelIdeal.Gen.facts Cert.SwgReferenceIdeal.Gen.facts Cert.Pre_finite_swg.Gen.facts

theorem frameK : quiescent_SwgKernel := fun m ρ _ => Cert.SwgKernel.Gen.frame m ρ
theorem frameI : quiescent_SwgKernelIdeal := fun m ρ _ => Cert.SwgKernelIdeal.Gen.frame m ρ
theorem frameR : quiescent_SwgReferenceIdeal := fun m ρ _ =>
  (θ_run Cert.SwgReferenceIdeal.defs _ _).mono (fun r h => ⟨fun c => (h c).2.2.2, sem_eq_zero_of_no_sems (by decide) r.2⟩)
    (Cert.SwgReferenceIdeal.Value.run (F := Ideal) m ρ)

/-- Arguments that pass the check are reals in every entry. -/
theorem reals (h w) (H : Cert.Pre_finite_swg.fn (F := Ideal) h w = fun _ => 1#1) :
    (∀ i, ∃ r : ℝ, h i = (r : EReal)) ∧ (∀ i, ∃ r : ℝ, w i = (r : EReal)) := by
  have H := congrFun H ix0
  unfold Cert.Pre_finite_swg.fn at H
  obtain ⟨h0, h1⟩ := Cert.Finite.andi_one H
  exact ⟨Cert.Finite.of_all Cert.Consts.cinf16 h h0, Cert.Finite.of_all Cert.Consts.cinf32 w h1⟩

theorem value : algebraic_SwgKernelIdeal_SwgReferenceIdeal_pre_finite_swg := by
  pair_intro
  · run_from Cert.SwgKernelIdeal.Value.run_blocks m g
  · run_from Cert.SwgReferenceIdeal.Value.run m' g'
    · obtain ⟨h0, h1⟩ := reals _ _ (hpre c)
      exact (Cert.SwgReferenceIdeal.Read.val_main_v10_eq _ _).trans ((Cert.SwgReferenceIdeal.Val.v10_fun _ _ h0 h1).trans (Cert.SwgKernelIdeal.Val.final3 m c).symm)
    · obtain ⟨h0, h1⟩ := reals _ _ (hpre c)
      exact (Cert.SwgReferenceIdeal.Read.val_main_v11_eq _ _).trans ((Cert.SwgReferenceIdeal.Val.v11_fun _ _ h0 h1).trans (Cert.SwgKernelIdeal.Val.final4 m c).symm)
    · obtain ⟨h0, h1⟩ := reals _ _ (hpre c)
      exact (Cert.SwgReferenceIdeal.Read.val_main_v12_eq _ _).trans ((Cert.SwgReferenceIdeal.Val.v12_fun _ _ h0 h1).trans (Cert.SwgKernelIdeal.Val.final5 m c).symm)

end Cert.SwgPair

end
-- ==== Proof.WnnVal.lean ====
/-  The feed-forward block's second product with the next norm behind it: what its two result arrays hold after the run, as functions of the arguments. -/
module

public import proofs.«01_k».proof.Proof.Gen.WnnKernelIdeal.Value
public import proofs.«01_k».proof.Proof.RealKit
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WnnMath

open Cert.RealKit Cert.Consts

abbrev TO := FVec Ideal ⟨2, ![8192, 5632]⟩ .bf16
abbrev TW := FVec Ideal ⟨2, ![5632, 2048]⟩ .f32
abbrev TX := FVec Ideal ⟨2, ![8192, 2048]⟩ .f32
abbrev TG := FVec Ideal ⟨1, ![2048]⟩ .f32

/-- The residual plus half the product. -/
def yv (o : TO) (w : TW) (x : TX) (n : Fin 8192) (j : Fin 2048) : EReal := x (ix2 n j) + ((1 / 2 : ℝ) : EReal) * ∑ k : Fin 5632, o (ix2 n k) * w (ix2 k j)

/-- Its normalised row times the gain. -/
def nm (o : TO) (w : TW) (x : TX) (g : TG) (n : Fin 8192) (j : Fin 2048) : EReal := yv o w x n j * Ideal.rsqrt (msq 2048 epsR fun i => yv o w x n i) * g (ix1 j)

end Cert.WnnMath

namespace Cert.WnnKernelIdeal.Val

open Cert.WnnKernelIdeal Cert.WnnKernelIdeal.Gen Cert.RealKit Cert.Consts Cert.WnnMath

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ t.val < 32 :=
  (by decide +kernel : ∀ t : Fin grid0.N, _)

abbrev aO (c : Dev nD) : TO := m ((c : Thread nD τ).loc main_arg0)
abbrev aW (c : Dev nD) : TW := m ((c : Thread nD τ).loc main_arg1)
abbrev aX (c : Dev nD) : TX := m ((c : Thread nD τ).loc main_arg2)
abbrev aG (c : Dev nD) : TG := m ((c : Thread nD τ).loc main_arg3)

theorem a_at (c : Dev nD) (t : Fin cfg0.N) (n : Fin 8192) (r : Fin 256) (hn : n.val = t.val * 256 + r.val) (j : Fin 5632) :
    (show EReal from iblk m c 0 t (ix2 r j)) = aO m c (ix2 n j) := by
  blk_ext [iblk, V, idx t]
theorem x_at (c : Dev nD) (t : Fin cfg0.N) (n : Fin 8192) (r : Fin 256) (hn : n.val = t.val * 256 + r.val) (j : Fin 2048) :
    (show EReal from iblk m c 2 t (ix2 r j)) = aX m c (ix2 n j) := by
  blk_ext [iblk, V, idx t]
theorem g_at (c : Dev nD) (t : Fin cfg0.N) (j : Fin 2048) :
    (show EReal from iblk m c 3 t (ix2 0 j)) = aG m c (ix1 j) := by
  blk_simp [iblk]
  entry_read
  have e : (((View.whole main_v2).slice (win0_3.rect t)).emb (ix2 0 j) : S1x2048.Idx) = ix2 0 j := by
    blk_ext [idx t]
  refine (congrArg (shapeCast (main_v2.ty.shape) (m (c, Proc.tc.devRef main_arg3)) shapeCasts_S2048_S1x2048) e).trans ?_
  show shapeCast S1x2048 _ _ _ = _
  pointwise []
theorem w_at (c : Dev nD) (t : Fin cfg0.N) (p : Fin 4) (r : Fin 1408) (k : Fin 2048) (i : Fin 5632) (hi : i.val = p.val * 1408 + r.val) :
    (show EReal from iblk m c 1 t (ix3 p r k)) = aW m c (ix2 i k) := by
  blk_simp [iblk]
  entry_read
  have e : (((View.whole main_v1).slice (win0_1.rect t)).emb (ix3 p r k) : S4x1408x2048.Idx) = ix3 p r k := by
    blk_ext [idx t]
  refine (congrArg (shapeCast (main_v1.ty.shape) (truncf (F := Ideal) FTy.bf16 (m (c, Proc.tc.devRef main_arg1)) bitsLt_bf16_f32) shapeCasts_S5632x2048_S4x1408x2048) e).trans ?_
  have h (W : FVec Ideal S5632x2048 .f32) : shapeCast S4x1408x2048 (truncf (F := Ideal) FTy.bf16 W bitsLt_bf16_f32) shapeCasts_S5632x2048_S4x1408x2048 (ix3 p r k) = W (ix2 i k) := by
    pointwise []
    blk_ext []
  exact h _

theorem pay1_at (c : Dev nD) (t : Fin cfg0.N) (r : Fin 256) (j : Fin 2048) (n : Fin 8192) (hn : n.val = t.val * 256 + r.val) :
    k0_pay1 (F := Ideal) (iblk m c 0 t) (iblk m c 1 t) (iblk m c 2 t) (ix2 r j) = yv (aO m c) (aW m c) (aX m c) n j := by
  pointwise [k0_pay1]
  rw [chalf]
  unfold yv
  rw [mul_comm]
  refine Ideal.add_congr (x_at m c t n r hn j) (Ideal.mul_congr rfl (Finset.sum_congr rfl fun k _ => Ideal.mul_congr (a_at m c t n r hn k) (w_at m c t _ _ j k (by show k.val = k.val / 1408 * 1408 + k.val % 1408; omega))))

theorem o4_at (c : Dev nD) (t : Fin cfg0.N) (y : S256x2048.Idx) (n : Fin 8192) (hn : n.val = t.val * 256 + (y 0).val) (j : Fin 2048) (hj : j.val = (y 1).val) :
    (show EReal from out0_4 (iblk m c 0 t) (iblk m c 1 t) (iblk m c 2 t) (iblk m c 3 t) y) = yv (aO m c) (aW m c) (aX m c) n j := by
  frame_out
  idx_vars y
  obtain rfl : j = y1 := Fin.ext hj
  exact pay1_at m c t y0 j n hn

theorem o5_at (c : Dev nD) (t : Fin cfg0.N) (y : S256x2048.Idx) (n : Fin 8192) (hn : n.val = t.val * 256 + (y 0).val) (j : Fin 2048) (hj : j.val = (y 1).val) :
    (show EReal from out0_5 (iblk m c 0 t) (iblk m c 1 t) (iblk m c 2 t) (iblk m c 3 t) y) = nm (aO m c) (aW m c) (aX m c) (aG m c) n j := by
  frame_out
  idx_vars y
  obtain rfl : j = y1 := Fin.ext hj
  have h (o : Vec Ideal S256x5632 .bf16) (w : Vec Ideal S4x1408x2048 .bf16) (x : Vec Ideal S256x2048 .f32) (g : Vec Ideal S1x2048 .f32) :
      k0_pay2 (F := Ideal) o w x g (ix2 y0 j) = k0_pay1 (F := Ideal) o w x (ix2 y0 j) * Ideal.rsqrt (msq 2048 epsR fun i => k0_pay1 (F := Ideal) o w x (ix2 y0 i)) * g (ix2 0 j) := by
    pointwise [k0_pay2]
    rw [c2048, ceps]; rfl
  refine (h _ _ _ _).trans ?_
  unfold nm
  refine Ideal.mul_congr (Ideal.mul_congr (pay1_at m c t y0 j n hn) ?_) (g_at m c t j)
  congr 2
  exact funext fun i => pay1_at m c t y0 i n hn

theorem final4 (c : Dev nD) : (dats m 0 c).arrAt 4 cfg0.N = fun y => yv (aO m c) (aW m c) (aX m c) (y 0) (y 1) := by
  refine (dats m 0 c).arrAt_eq_of_covers 4 _ (by decide +kernel) fun t hf y => ?_
  blk_simp
  rw [after0_4]
  exact o4_at m c t y _ (by blk_simp [idx t]) _ (by blk_simp [idx t])

theorem final5 (c : Dev nD) : (dats m 0 c).arrAt 5 cfg0.N = fun y => nm (aO m c) (aW m c) (aX m c) (aG m c) (y 0) (y 1) := by
  refine (dats m 0 c).arrAt_eq_of_covers 5 _ (by decide +kernel) fun t hf y => ?_
  blk_simp
  rw [after0_5]
  exact o5_at m c t y _ (by blk_simp [idx t]) _ (by blk_simp [idx t])

end Cert.WnnKernelIdeal.Val

end
-- ==== Proof.WnnRef.lean ====
/-  The feed-forward block's second product with the next norm behind it as the reference states it, read element by element. -/
module

public import proofs.«01_k».proof.Proof.WnnVal
public import proofs.«01_k».proof.Proof.Gen.WnnReferenceIdeal.Read

@[expose] public section

set_option maxRecDepth 16384

noncomputable section

open Idealize.ShloMosaic Idealize.ShloMosaic.TcCoe Idealize.SL.Sem

namespace Cert.WnnReferenceIdeal.Val

open Cert.WnnReferenceIdeal Cert.WnnReferenceIdeal.Read Cert.RealKit Cert.Consts Cert.WnnMath

variable (o : TO) (w : TW) (x : TX) (g : TG)

theorem v4_at (n : Fin 8192) (j : Fin 2048) : val_main_v4 (F := Ideal) o w x (ix2 n j) = yv o w x n j := by
  pointwise [val_main_v4, val_main_v3, val_main_v2, val_main_v1, val_main_v0, val_main_cst]
  rw [chalf]
  rfl

theorem v4_fun : val_main_v4 (F := Ideal) o w x = fun y => yv o w x (y 0) (y 1) := by
  funext y
  idx_vars y
  exact v4_at o w x y0 y1

theorem v18_fun : val_main_v18 (F := Ideal) o w x g = fun y => nm o w x g (y 0) (y 1) := by
  funext y
  idx_vars y
  pointwise [val_main_v18, val_main_v17, val_main_v16, val_main_v15, val_main_v14, val_main_v13, val_main_v12, val_main_v11, val_main_v10, val_main_v9, val_main_v8, val_main_v7, val_main_v6, val_main_v5, val_main_cst_0, val_main_cst_1, val_main_cst_2]
  simp only [c2048, ceps, v4_at]
  rfl

end Cert.WnnReferenceIdeal.Val

end
-- ==== Proof.WnnPair.lean ====
/-  The feed-forward block's second product with the next norm behind it and its reference: the frames and the value claim. -/
module

public import proofs.«01_k».proof.Defs
public import proofs.«01_k».proof.Proof.Gen.WnnKernel.Frame
public import proofs.«01_k».proof.Proof.Gen.WnnKernelIdeal.Frame
public import proofs.«01_k».proof.Proof.Gen.WnnReferenceIdeal.Run
public import proofs.«01_k».proof.Proof.Gen.WnnReferenceIdeal.Read
public import proofs.«01_k».proof.Proof.Gen.WnnKernelIdeal.Value
public import proofs.«01_k».proof.Proof.WnnRef
public import Idealize.ShloMosaic.Lib.Claim

@[expose] public section

set_option maxRecDepth 16384

noncomputable section

open Idealize.ShloMosaic Idealize.ShloMosaic.TcCoe Idealize.SL.Sem

namespace Cert.WnnPair

open Cert

attribute [local instance] Cert.WnnKernel.Gen.facts Cert.WnnKernelIdeal.Gen.facts Cert.WnnReferenceIdeal.Gen.facts

theorem frameK : quiescent_WnnKernel := fun m ρ _ => Cert.WnnKernel.Gen.frame m ρ
theorem frameI : quiescent_WnnKernelIdeal := fun m ρ _ => Cert.WnnKernelIdeal.Gen.frame m ρ
theorem frameR : quiescent_WnnReferenceIdeal := fun m ρ _ =>
  (θ_run Cert.WnnReferenceIdeal.defs _ _).mono (fun r h => ⟨fun c => (h c).2.2, sem_eq_zero_of_no_sems (by decide) r.2⟩)
    (Cert.WnnReferenceIdeal.Value.run (F := Ideal) m ρ)

theorem value : algebraic_WnnKernelIdeal_WnnReferenceIdeal := by
  pair_intro
  · run_from Cert.WnnKernelIdeal.Value.run_blocks m g
  · run_from Cert.WnnReferenceIdeal.Value.run m' g'
    · exact (Cert.WnnReferenceIdeal.Read.val_main_v4_eq _ _ _).trans ((Cert.WnnReferenceIdeal.Val.v4_fun _ _ _).trans (Cert.WnnKernelIdeal.Val.final4 m c).symm)
    · exact (Cert.WnnReferenceIdeal.Read.val_main_v18_eq _ _ _ _).trans ((Cert.WnnReferenceIdeal.Val.v18_fun _ _ _ _).trans (Cert.WnnKernelIdeal.Val.final5 m c).symm)

end Cert.WnnPair

end
-- ==== Proof.PnnVal.lean ====
/-  The feed-forward block's second product: what its result array holds after the run, as functions of the arguments. -/
module

public import proofs.«01_k».proof.Proof.Gen.PnnKernelIdeal.Value
public import proofs.«01_k».proof.Proof.WnnVal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PnnKernelIdeal.Val

open Cert.PnnKernelIdeal Cert.PnnKernelIdeal.Gen Cert.RealKit Cert.Consts Cert.WnnMath

variable (m : (ℓ : Loc nD τ sig) → Buf (Elt Ideal) ℓ)

theorem idx : ∀ t : Fin cfg0.N, win0_0.index t = ![t.val % 16, 0] ∧ win0_1.index t = ![0, 0, t.val / 16] ∧ win0_2.index t = ![t.val % 16, t.val / 16]
    ∧ win0_3.index t = ![t.val % 16, t.val / 16] ∧ t.val < 32 :=
  (by decide +kernel : ∀ t : Fin grid0.N, _)

abbrev aO (c : Dev nD) : TO := m ((c : Thread nD τ).loc main_arg0)
abbrev aW (c : Dev nD) : TW := m ((c : Thread nD τ).loc main_arg1)
abbrev aX (c : Dev nD) : TX := m ((c : Thread nD τ).loc main_arg2)

theorem a_at (c : Dev nD) (t : Fin cfg0.N) (n : Fin 8192) (r : Fin 512) (hn : n.val = t.val % 16 * 512 + r.val) (j : Fin 5632) :
    (show EReal from iblk m c 0 t (ix2 r j)) = aO m c (ix2 n j) := by
  blk_ext [iblk, V, idx t]
theorem x_at (c : Dev nD) (t : Fin cfg0.N) (n : Fin 8192) (r : Fin 512) (hn : n.val = t.val % 16 * 512 + r.val) (j : Fin 2048) (s : Fin 1024) (hj : j.val = t.val / 16 * 1024 + s.val) :
    (show EReal from iblk m c 2 t (ix2 r s)) = aX m c (ix2 n j) := by
  blk_ext [iblk, V, idx t]
theorem w_at (c : Dev nD) (t : Fin cfg0.N) (p : Fin 4) (r : Fin 1408) (s : Fin 1024) (i : Fin 5632) (hi : i.val = p.val * 1408 + r.val) (j : Fin 2048) (hj : j.val = t.val / 16 * 1024 + s.val) :
    (show EReal from iblk m c 1 t (ix3 p r s)) = aW m c (ix2 i j) := by
  blk_simp [iblk]
  entry_read
  have e : (((View.whole main_v1).slice (win0_1.rect t)).emb (ix3 p r s) : S4x1408x2048.Idx) = ix3 p r j := by
    blk_ext [idx t]
  refine (congrArg (shapeCast (main_v1.ty.shape) (truncf (F := Ideal) FTy.bf16 (m (c, Proc.tc.devRef main_arg1)) bitsLt_bf16_f32) shapeCasts_S5632x2048_S4x1408x2048) e).trans ?_
  have h (W : FVec Ideal S5632x2048 .f32) : shapeCast S4x1408x2048 (truncf (F := Ideal) FTy.bf16 W bitsLt_bf16_f32) shapeCasts_S5632x2048_S4x1408x2048 (ix3 p r j) = W (ix2 i j) := by
    pointwise []
    blk_ext []
  exact h _

theorem pay1_at (c : Dev nD) (t : Fin cfg0.N) (r : Fin 512) (s : Fin 1024) (n : Fin 8192) (hn : n.val = t.val % 16 * 512 + r.val) (j : Fin 2048) (hj : j.val = t.val / 16 * 1024 + s.val) :
    k0_pay1 (F := Ideal) (iblk m c 0 t) (iblk m c 1 t) (iblk m c 2 t) (ix2 r s) = yv (aO m c) (aW m c) (aX m c) n j := by
  pointwise [k0_pay1]
  rw [chalf]
  unfold yv
  rw [mul_comm]
  refine Ideal.add_congr (x_at m c t n r hn j s hj) (Ideal.mul_congr rfl (Finset.sum_congr rfl fun k _ => Ideal.mul_congr (a_at m c t n r hn k) (w_at m c t _ _ s k (by show k.val = k.val / 1408 * 1408 + k.val % 1408; omega) j hj)))

theorem o3_at (c : Dev nD) (t : Fin cfg0.N) (y : S512x1024.Idx) (n : Fin 8192) (hn : n.val = t.val % 16 * 512 + (y 0).val) (j : Fin 2048) (hj : j.val = t.val / 16 * 1024 + (y 1).val) :
    (show EReal from out0_3 (iblk m c 0 t) (iblk m c 1 t) (iblk m c 2 t) y) = yv (aO m c) (aW m c) (aX m c) n j := by
  frame_out
  idx_vars y
  exact pay1_at m c t y0 y1 n hn j hj

theorem final3 (c : Dev nD) : (dats m 0 c).arrAt 3 cfg0.N = fun y => yv (aO m c) (aW m c) (aX m c) (y 0) (y 1) := by
  refine (dats m 0 c).arrAt_eq_of_covers 3 _ (by decide +kernel) fun t hf y => ?_
  blk_simp
  rw [after0_3]
  exact o3_at m c t y _ (by blk_simp [idx t]) _ (by blk_simp [idx t])

end Cert.PnnKernelIdeal.Val

end
-- ==== Proof.PnnRef.lean ====
/-  The feed-forward block's second product as the reference states it, read element by element. -/
module

public import proofs.«01_k».proof.Proof.PnnVal
public import proofs.«01_k».proof.Proof.Gen.PnnReferenceIdeal.Read

@[expose] public section

set_option maxRecDepth 16384

noncomputable section

open Idealize.ShloMosaic Idealize.ShloMosaic.TcCoe Idealize.SL.Sem

namespace Cert.PnnReferenceIdeal.Val

open Cert.PnnReferenceIdeal Cert.PnnReferenceIdeal.Read Cert.RealKit Cert.Consts Cert.WnnMath

variable (o : TO) (w : TW) (x : TX)

theorem v4_at (n : Fin 8192) (j : Fin 2048) : val_main_v4 (F := Ideal) o w x (ix2 n j) = yv o w x n j := by
  pointwise [val_main_v4, val_main_v3, val_main_v2, val_main_v1, val_main_v0, val_main_cst]
  rw [chalf]
  rfl

theorem v4_fun : val_main_v4 (F := Ideal) o w x = fun y => yv o w x (y 0) (y 1) := by
  funext y
  idx_vars y
  exact v4_at o w x y0 y1

end Cert.PnnReferenceIdeal.Val

end
-- ==== Proof.PnnPair.lean ====
/-  The feed-forward block's second product and its reference: the frames and the value claim. -/
module

public import proofs.«01_k».proof.Defs
public import proofs.«01_k».proof.Proof.Gen.PnnKernel.Frame
public import proofs.«01_k».proof.Proof.Gen.PnnKernelIdeal.Frame
public import proofs.«01_k».proof.Proof.Gen.PnnReferenceIdeal.Run
public import proofs.«01_k».proof.Proof.Gen.PnnReferenceIdeal.Read
public import proofs.«01_k».proof.Proof.Gen.PnnKernelIdeal.Value
public import proofs.«01_k».proof.Proof.PnnRef
public import Idealize.ShloMosaic.Lib.Claim

@[expose] public section

set_option maxRecDepth 16384

noncomputable section

open Idealize.ShloMosaic Idealize.ShloMosaic.TcCoe Idealize.SL.Sem

namespace Cert.PnnPair

open Cert

attribute [local instance] Cert.PnnKernel.Gen.facts Cert.PnnKernelIdeal.Gen.facts Cert.PnnReferenceIdeal.Gen.facts

theorem frameK : quiescent_PnnKernel := fun m ρ _ => Cert.PnnKernel.Gen.frame m ρ
theorem frameI : quiescent_PnnKernelIdeal := fun m ρ _ => Cert.PnnKernelIdeal.Gen.frame m ρ
theorem frameR : quiescent_PnnReferenceIdeal := fun m ρ _ =>
  (θ_run Cert.PnnReferenceIdeal.defs _ _).mono (fun r h => ⟨fun c => (h c).2, sem_eq_zero_of_no_sems (by decide) r.2⟩)
    (Cert.PnnReferenceIdeal.Value.run (F := Ideal) m ρ)

theorem value : algebraic_PnnKernelIdeal_PnnReferenceIdeal := by
  pair_intro
  · run_from Cert.PnnKernelIdeal.Value.run_blocks m g
  · run_from Cert.PnnReferenceIdeal.Value.run m' g'
    exact (Cert.PnnReferenceIdeal.Read.val_main_v4_eq _ _ _).trans ((Cert.PnnReferenceIdeal.Val.v4_fun _ _ _).trans (Cert.PnnKernelIdeal.Val.final3 m c).symm)

end Cert.PnnPair

end
-- ==== Proof.PntVal.lean ====
/-  The feed-forward block's first product, its backward call for the input: what its result array holds after the run, as a function of the arguments. -/
module

public import proofs.«01_k».proof.Proof.Gen.PntKernelIdeal.Value
public import proofs.«01_k».proof.Proof.Consts
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PntMath

abbrev TD := FVec Ideal ⟨2, ![8192, 5632]⟩ .bf16
abbrev TW := FVec Ideal ⟨2, ![2048, 11264]⟩ .f32

/-- The two cotangents side by side. -/
def both (d u : TD) (n : Fin 8192) (k : Fin 11264) : EReal := if h : k.val < 5632 then d (ix2 n ⟨k.val, h⟩) else u (ix2 n ⟨k.val - 5632, by omega⟩)

/-- One summand of the product. -/
def tm (d u : TD) (w : TW) (n : Fin 8192) (i : Fin 2048) (k : ℕ) : EReal := if h : k < 11264 then both d u n ⟨k, h⟩ * w (ix2 i ⟨k, h⟩) else 0

/-- The product against the weight's rows. -/
def dh (d u : TD) (w : TW) (n : Fin 8192) (i : Fin 2048) : EReal := ∑ k : Fin 11264, both d u n k * w (ix2 i k)

end Cert.PntMath

namespace Cert.PntKernelIdeal.Val

open Cert.PntKernelIdeal Cert.PntKernelIdeal.Gen Cert.PntMath

variable (m : (ℓ : Loc nD τ sig) → Buf (Elt Ideal) ℓ)

theorem idx : ∀ t : Fin cfg0.N, win0_0.index t = ![t.val / 4, min (t.val % 4) 1] ∧ win0_1.index t = ![t.val % 4, 0, 0] ∧ win0_2.index t = ![t.val / 4, t.val % 4 - 2]
  ∧ win0_3.index t = ![t.val / 4, 0] ∧ t.val < 64 :=
  (by decide +kernel : ∀ t : Fin grid0.N, _)

theorem lt (t : Fin cfg0.N) : t.val < 64 := (idx t).2.2.2.2

abbrev aD (c : Dev nD) : TD := m ((c : Thread nD τ).loc main_arg0)
abbrev aU (c : Dev nD) : TD := m ((c : Thread nD τ).loc main_arg1)
abbrev aW (c : Dev nD) : TW := m ((c : Thread nD τ).loc main_arg2)

theorem d_at (c : Dev nD) (t : Fin cfg0.N) (h : t.val % 4 ≤ 1) (n : Fin 8192) (r : Fin 512) (hn : n.val = t.val / 4 * 512 + r.val) (k : Fin 2816) (j : Fin 11264) (hj : j.val = t.val % 4 * 2816 + k.val) :
    (show EReal from iblk m c 0 t (ix2 r k)) = both (aD m c) (aU m c) n j := by
  rw [both, dif_pos (by omega)]
  have e : min (t.val % 4) 1 = t.val % 4 := by omega
  blk_ext [iblk, V, idx t, e]
theorem u_at (c : Dev nD) (t : Fin cfg0.N) (h : 2 ≤ t.val % 4) (n : Fin 8192) (r : Fin 512) (hn : n.val = t.val / 4 * 512 + r.val) (k : Fin 2816) (j : Fin 11264) (hj : j.val = t.val % 4 * 2816 + k.val) :
    (show EReal from iblk m c 2 t (ix2 r k)) = both (aD m c) (aU m c) n j := by
  rw [both, dif_neg (by omega)]
  blk_ext [iblk, V, idx t]

theorem panel (W : TW) (p : Fin 4) (i : Fin 2048) (k : Fin 2816) (j : Fin 11264) (hj : j.val = p.val * 2816 + k.val) :
    (transpose S4x2048x2816 [1, 0, 2] (shapeCast S2048x4x2816 (truncf (F := Ideal) .bf16 W bitsLt_bf16_f32) shapeCasts_S2048x11264_S2048x4x2816) transposes_S2048x4x2816_S4x2048x2816_1_0_2 : FVec Ideal S4x2048x2816 .bf16) (ix3 p i k) = W (ix2 i j) := by
  pointwise []
  blk_ext []

theorem V_w (c : Dev nD) : V m c main_v2 = (transpose S4x2048x2816 [1, 0, 2] (shapeCast S2048x4x2816 (truncf (F := Ideal) .bf16 (aW m c) bitsLt_bf16_f32) shapeCasts_S2048x11264_S2048x4x2816) transposes_S2048x4x2816_S4x2048x2816_1_0_2 : FVec Ideal S4x2048x2816 .bf16) := by
  entry_read
  rfl

theorem w_at (c : Dev nD) (t : Fin cfg0.N) (i : Fin 2048) (k : Fin 2816) (j : Fin 11264) (hj : j.val = t.val % 4 * 2816 + k.val) :
    (show EReal from iblk m c 1 t (ix3 0 i k)) = aW m c (ix2 i j) := by
  blk_simp [iblk]
  rw [show V m c (Pipeline.arrRef spec0 1) = _ from V_w m c]
  have e : (((View.whole main_v2).slice (win0_1.rect t)).emb (ix3 0 i k) : S4x2048x2816.Idx) = ix3 (⟨t.val % 4, by omega⟩ : Fin 4) i k := by
    blk_ext [idx t]
  exact (congrArg _ e).trans (panel (aW m c) _ i k j hj)

/-- What one point adds to the product's running sum. -/
def part (c : Dev nD) (t : ℕ) (y : S512x2048.Idx) : EReal :=
  if h : t / 4 * 512 + (y 0).val < 8192 then ∑ k : Fin 2816, tm (aD m c) (aU m c) (aW m c) ⟨t / 4 * 512 + (y 0).val, h⟩ (y 1) (t % 4 * 2816 + k.val) else 0

theorem pay10_at (d : Vec Ideal S512x2816 .bf16) (old : Vec Ideal S512x512 .f32) (w : Vec Ideal S1x512x2816 .bf16) (r s : Fin 512) :
    k0_pay10 (F := Ideal) d old w (ix2 r s) = old (ix2 r s) + ∑ k : Fin 2816, d (ix2 r k) * w (ix3 0 s k) := by
  pointwise [k0_pay10]

theorem pays : (k0_pay1 (F := Ideal) = k0_pay10 ∧ k0_pay3 (F := Ideal) = k0_pay10 ∧ k0_pay6 (F := Ideal) = k0_pay10)
    ∧ k0_pay7 (F := Ideal) = k0_pay10 ∧ k0_pay8 (F := Ideal) = k0_pay10 ∧ k0_pay11 (F := Ideal) = k0_pay10 ∧ k0_pay12 (F := Ideal) = k0_pay10 :=
  ⟨⟨rfl, rfl, rfl⟩, rfl, rfl, rfl, rfl⟩

/-- The cotangent's block a point contracts over. -/
def cur (c : Dev nD) (t : Fin cfg0.N) : Vec Ideal S512x2816 .bf16 := if t.val % 4 ≤ 1 then iblk m c 0 t else iblk m c 2 t

theorem cur_at (c : Dev nD) (t : Fin cfg0.N) (n : Fin 8192) (r : Fin 512) (hn : n.val = t.val / 4 * 512 + r.val) (k : Fin 2816) (j : Fin 11264) (hj : j.val = t.val % 4 * 2816 + k.val) :
    (show EReal from cur m c t (ix2 r k)) = both (aD m c) (aU m c) n j := by
  by_cases h : t.val % 4 ≤ 1
  · rw [cur, if_pos h]; exact d_at m c t h n r hn k j hj
  · rw [cur, if_neg h]; exact u_at m c t (by omega) n r hn k j hj

theorem piece (c : Dev nD) (t : Fin cfg0.N) (old : Vec Ideal S512x2048 .f32) (o : ℕ) (h h') (x : S512x512.Idx) (y : S512x2048.Idx) (h0 : (y 0).val = (x 0).val) (h1 : (y 1).val = o + (x 1).val) :
    (show EReal from k0_pay10 (F := Ideal) (cur m c t) (View.ld (S := S512x2048) old (Rect.unit ![0, o] ![512, 512] h)) (View.ld (S := S1x2048x2816) (iblk m c 1 t) (Rect.unit ![0, o, 0] ![1, 512, 2816] h')) x)
      = (show EReal from old y) + part m c t.val y := by
  have ht := lt t
  have y0 := (y 0).isLt
  have y0' : (y 0).val < 512 := y0
  idx_vars x
  refine (pay10_at _ _ _ _ _).trans (Ideal.add_congr ?_ ?_)
  · exact View.ld_unit_apply_of _ _ _ _ _ y (by intro b; fin_cases b <;> simp [h0, h1])
  · rw [part, dif_pos (by omega)]
    refine Finset.sum_congr rfl fun k _ => ?_
    unfold tm
    rw [dif_pos (show t.val % 4 * 2816 + k.val < 11264 by omega)]
    refine Ideal.mul_congr (cur_at m c t _ x0 (by show t.val / 4 * 512 + (y 0).val = _; rw [h0]) k _ rfl) ?_
    refine Eq.trans ?_ (w_at m c t (y 1) k _ rfl)
    exact View.ld_unit_apply_of _ _ _ _ _ (ix3 0 (y 1) k) (by intro b; fin_cases b <;> simp [h1])

/-- A load of the whole scratch after stores reads what they leave. -/
theorem readWhole (L : List (View.Piece (Elt Ideal) S512x2048 .f32)) (h) :
    (View.whole cc0_scratch0).readCov L (Rect.unit (s := S512x2048) ![0, 0] ![512, 2048] h).toLoadRect = View.canon L := by
  rw [View.readCov_eq_canon']
  funext j
  refine congrArg _ (funext fun a => Fin.ext ?_)
  fin_cases a <;> simp [LoadRect.idx, Rect.toLoadRect, Rect.unit]

theorem pay9_at (y : S512x2048.Idx) : k0_pay9 (F := Ideal) y = (0 : EReal) := by
  idx_vars y
  pointwise [k0_pay9]

theorem piece0 (c : Dev nD) (t : Fin cfg0.N) (ld : Vec Ideal S512x512 .f32) (o : ℕ) (h h') (hl : ld = View.ld (S := S512x2048) (k0_pay9 (F := Ideal)) (Rect.unit ![0, o] ![512, 512] h)) (x : S512x512.Idx) (y : S512x2048.Idx)
    (h0 : (y 0).val = (x 0).val) (h1 : (y 1).val = o + (x 1).val) :
    (show EReal from k0_pay10 (F := Ideal) (cur m c t) ld (View.ld (S := S1x2048x2816) (iblk m c 1 t) (Rect.unit ![0, o, 0] ![1, 512, 2816] h')) x) = part m c t.val y := by
  rw [hl]
  refine (piece m c t (k0_pay9 (F := Ideal)) o _ _ x y h0 h1).trans ?_
  rw [pay9_at]
  exact zero_add _

theorem acc_A (c : Dev nD) (t : Fin cfg0.N) (h : t.val % 4 = 0) (y : S512x2048.Idx) :
    (show EReal from (outsAt0 m c t.val t.isLt).2 y) = part m c t.val y := by
  rw [outsAt0_A m c t (by omega) (by omega) (by omega) (by omega)]
  have hc : iblk m c 0 t = cur m c t := (if_pos (by omega)).symm
  frame_out
  rw [hc]
  refine View.canon_append_of_piecesOf (Val := Elt Ideal) (e := .f32) (part m c t.val) [_] [_, _, _, _] ⟨fun x => ?_, fun x => ?_, fun x => ?_, fun x => ?_, trivial⟩ y ?_
  on_goal 5 => exact View.cover_of_tiledBy _ ![512, 512] (by sl_kernel_rfl) y
  · exact piece0 m c t _ 1536 _ _ ((View.readCov_skip _ _ _ _ _ rfl).trans ((View.readCov_skip _ _ _ _ _ rfl).trans ((View.readCov_skip _ _ _ _ _ rfl).trans (View.readCov_fill _ _ _ _ _ (by decide))))) x _ (by simp [Rect.emb, Rect.unit]) (by simp [Rect.emb, Rect.unit])
  · exact piece0 m c t _ 1024 _ _ ((View.readCov_skip _ _ _ _ _ rfl).trans ((View.readCov_skip _ _ _ _ _ rfl).trans (View.readCov_fill _ _ _ _ _ (by decide)))) x _ (by simp [Rect.emb, Rect.unit]) (by simp [Rect.emb, Rect.unit])
  · exact piece0 m c t _ 512 _ _ ((View.readCov_skip _ _ _ _ _ rfl).trans (View.readCov_fill _ _ _ _ _ (by decide))) x _ (by simp [Rect.emb, Rect.unit]) (by simp [Rect.emb, Rect.unit])
  · exact piece0 m c t _ 0 _ _ (View.readCov_fill _ _ _ _ _ (by decide)) x _ (by simp [Rect.emb, Rect.unit]) (by simp [Rect.emb, Rect.unit])

theorem acc_B (c : Dev nD) (t : Fin cfg0.N) (h : ¬ t.val % 4 = 0) (y : S512x2048.Idx) :
    (show EReal from (outsAt0 m c t.val t.isLt).2 y) = (show EReal from (outsAt0 m c (t.val - 1) (by omega)).2 y) + part m c t.val y := by
  have ht := lt t
  by_cases h1 : t.val % 4 = 1
  on_goal 1 => rw [outsAt0_B m c t (by omega) (by omega) (by omega) (by omega)]
  on_goal 1 => have hc : iblk m c 0 t = cur m c t := (if_pos (by omega)).symm
  on_goal 2 => by_cases h3 : t.val % 4 = 3
  on_goal 2 => rw [outsAt0_D m c t (by omega) (by omega) (by omega) (by omega)]
  on_goal 3 => rw [outsAt0_C m c t (by omega) (by omega) (by omega) (by omega)]
  on_goal 2 => have hc : iblk m c 2 t = cur m c t := (if_neg (by omega)).symm
  on_goal 3 => have hc : iblk m c 2 t = cur m c t := (if_neg (by omega)).symm
  all_goals
    frame_out
    rw [read_unread_whole, hc]
    generalize (outsAt0 m c (t.val - 1) _).2 = old
    canon_tiles x h
    case' piece0 => exact piece m c t old 1536 _ _ x y (by omega) (by omega)
    case' piece1 => exact piece m c t old 1024 _ _ x y (by omega) (by omega)
    case' piece2 => exact piece m c t old 512 _ _ x y (by omega) (by omega)
    case' piece3 => exact piece m c t old 0 _ _ x y (by omega) (by omega)

theorem acc_at (c : Dev nD) (t : Fin cfg0.N) (h : t.val % 4 = 3) (y : S512x2048.Idx) (n : Fin 8192) (hn : n.val = t.val / 4 * 512 + (y 0).val) :
    (show EReal from (outsAt0 m c t.val t.isLt).2 y) = dh (aD m c) (aU m c) (aW m c) n (y 1) := by
  have ht := lt t
  rw [Pipeline.eq_sum_fin_of_reset_step_apply_of_flush (fun n h => (outsAt0 m c n h).2) 4 (fun _ => 0)
    (fun t (y : S512x2048.Idx) => (part m c t.val y : EReal))
    (fun t h j => by rw [zero_add]; exact acc_A m c t h j)
    (fun t h j => acc_B m c t h j)
    t h y, zero_add]
  have e : dh (aD m c) (aU m c) (aW m c) n (y 1) = ∑ k : Fin 11264, tm (aD m c) (aU m c) (aW m c) n (y 1) k.val :=
    Finset.sum_congr rfl fun k _ => by unfold tm; rw [dif_pos k.isLt]
  rw [e]
  have p (s : Fin 4) : part m c (4 * (t.val / 4) + s.val) y = ∑ k : Fin 2816, tm (aD m c) (aU m c) (aW m c) n (y 1) (s.val * 2816 + k.val) := by
    have e1 : (4 * (t.val / 4) + s.val) / 4 = t.val / 4 := by omega
    have e2 : (4 * (t.val / 4) + s.val) % 4 = s.val := by omega
    rw [part, dif_pos (by rw [e1, ← hn]; exact n.isLt), e2]
    refine Finset.sum_congr rfl fun k _ => ?_
    congr 1
    exact Fin.ext (by show _ * 512 + _ = n.val; rw [e1]; exact hn.symm)
  refine (Finset.sum_congr rfl fun s _ => p s).trans ?_
  exact Fin.sum_mul_add_congr fun s k hl => rfl

theorem pay2_at (v : Vec Ideal S512x2048 .f32) (y : S512x2048.Idx) : (show EReal from k0_pay2 (F := Ideal) v y) = v y := by
  idx_vars y
  pointwise [k0_pay2]

theorem o_at (c : Dev nD) (t : Fin cfg0.N) (h : t.val % 4 = 3) (y : S512x2048.Idx) (n : Fin 8192) (hn : n.val = t.val / 4 * 512 + (y 0).val) (j : Fin 2048) (hj : j.val = (y 1).val) :
    (show EReal from (outsAt0 m c t.val t.isLt).1 y) = dh (aD m c) (aU m c) (aW m c) n j := by
  have ht := lt t
  have e := acc_at m c t h y n hn
  obtain rfl : j = y 1 := Fin.ext hj
  rw [outsAt0_D m c t (by omega) (by omega) (by omega) (by omega)] at e ⊢
  frame_out at e
  frame_out
  rw [readWhole]
  exact (pay2_at _ y).trans e

theorem final3 (c : Dev nD) : (dats m 0 c).arrAt 3 cfg0.N = fun y => dh (aD m c) (aU m c) (aW m c) (y 0) (y 1) := by
  refine (dats m 0 c).arrAt_eq_of_covers 3 _ (by decide +kernel) fun t hf y => ?_
  blk_simp
  rw [after0_3]
  exact o_at m c t ((flush0_3 t).mp hf) y _ (by blk_simp [idx t]) _ (by blk_simp [idx t])

end Cert.PntKernelIdeal.Val

end
-- ==== Proof.PntRef.lean ====
/-  The feed-forward block's first product, its backward call for the input, as the reference states it, read element by element. -/
module

public import proofs.«01_k».proof.Proof.PntVal
public import proofs.«01_k».proof.Proof.Gen.PntReferenceIdeal.Read

@[expose] public section

set_option maxRecDepth 16384

noncomputable section

open Idealize.ShloMosaic Idealize.ShloMosaic.TcCoe Idealize.SL.Sem

namespace Cert.PntReferenceIdeal.Val

open Cert.PntReferenceIdeal Cert.PntReferenceIdeal.Read Cert.PntMath

variable (d u : TD) (w : TW)

theorem v6_at (n : Fin 8192) (k : Fin 11264) : val_main_v6 (F := Ideal) d u (ix2 n k) = both d u n k := by
  pointwise [val_main_v6, val_main_v5, val_main_v4]
  rfl

theorem v10_fun : val_main_v10 (F := Ideal) d u w = fun y => dh d u w (y 0) (y 1) := by
  funext y
  idx_vars y
  pointwise [val_main_v10, val_main_v9]
  simp only [v6_at]
  rfl

end Cert.PntReferenceIdeal.Val

end
-- ==== Proof.PntPair.lean ====
/-  The feed-forward block's first product's backward call for its input and its reference: the frames and the value claim. -/
module

public import proofs.«01_k».proof.Defs
public import proofs.«01_k».proof.Proof.Gen.PntKernel.Frame
public import proofs.«01_k».proof.Proof.Gen.PntKernelIdeal.Frame
public import proofs.«01_k».proof.Proof.Gen.PntReferenceIdeal.Run
public import proofs.«01_k».proof.Proof.Gen.PntReferenceIdeal.Read
public import proofs.«01_k».proof.Proof.Gen.PntKernelIdeal.Value
public import proofs.«01_k».proof.Proof.PntRef
public import Idealize.ShloMosaic.Lib.Claim

@[expose] public section

set_option maxRecDepth 16384

noncomputable section

open Idealize.ShloMosaic Idealize.ShloMosaic.TcCoe Idealize.SL.Sem

namespace Cert.PntPair

open Cert

attribute [local instance] Cert.PntKernel.Gen.facts Cert.PntKernelIdeal.Gen.facts Cert.PntReferenceIdeal.Gen.facts

theorem frameK : quiescent_PntKernel := fun m ρ _ => Cert.PntKernel.Gen.frame m ρ
theorem frameI : quiescent_PntKernelIdeal := fun m ρ _ => Cert.PntKernelIdeal.Gen.frame m ρ
theorem frameR : quiescent_PntReferenceIdeal := fun m ρ _ =>
  (θ_run Cert.PntReferenceIdeal.defs _ _).mono (fun r h => ⟨fun c => (h c).2, sem_eq_zero_of_no_sems (by decide) r.2⟩)
    (Cert.PntReferenceIdeal.Value.run (F := Ideal) m ρ)

theorem value : algebraic_PntKernelIdeal_PntReferenceIdeal := by
  pair_intro
  · run_from Cert.PntKernelIdeal.Value.run_blocks m g
  · run_from Cert.PntReferenceIdeal.Value.run m' g'
    exact (Cert.PntReferenceIdeal.Read.val_main_v10_eq _ _ _).trans ((Cert.PntReferenceIdeal.Val.v10_fun _ _ _).trans (Cert.PntKernelIdeal.Val.final3 m c).symm)

end Cert.PntPair

end
-- ==== Proof.PtnVal.lean ====
/-  The feed-forward block's second product, its backward call for the weight: what its result array holds after the run, as a function of the arguments. -/
module

public import proofs.«01_k».proof.Proof.Gen.PtnKernelIdeal.Value
public import proofs.«01_k».proof.Proof.RealKit
public import proofs.«01_k».proof.Proof.Consts
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PtnMath

abbrev TA := FVec Ideal ⟨2, ![8192, 5632]⟩ .bf16
abbrev TD := FVec Ideal ⟨2, ![8192, 2048]⟩ .bf16

/-- One summand of the product. -/
def tm (a : TA) (d : TD) (i : Fin 5632) (j : Fin 2048) (n : ℕ) : EReal := if h : n < 8192 then a (ix2 ⟨n, h⟩ i) * d (ix2 ⟨n, h⟩ j) else 0

/-- The product of the activation's columns and the cotangent's. -/
def pr (a : TA) (d : TD) (i : Fin 5632) (j : Fin 2048) : EReal := ∑ n : Fin 8192, a (ix2 n i) * d (ix2 n j)

/-- Half of it, at a panel's row. -/
def dw (a : TA) (d : TD) (p : Fin 4) (r : Fin 1408) (j : Fin 2048) : EReal := ((1 / 2 : ℝ) : EReal) * pr a d ⟨p.val * 1408 + r.val, by omega⟩ j

end Cert.PtnMath

namespace Cert.PtnKernelIdeal.Val

open Cert.PtnKernelIdeal Cert.PtnKernelIdeal.Gen Cert.PtnMath Cert.Consts

variable (m : (ℓ : Loc nD τ sig) → Buf (Elt Ideal) ℓ)

theorem idx : ∀ t : Fin cfg0.N, win0_0.index t = ![t.val % 4, t.val / 4 % 4] ∧ win0_1.index t = ![t.val % 4, t.val / 16] ∧ win0_2.index t = ![t.val / 4 % 4, 0, t.val / 16] ∧ t.val < 32 :=
  (by decide +kernel : ∀ t : Fin grid0.N, _)

theorem lt (t : Fin cfg0.N) : t.val < 32 := (idx t).2.2.2

abbrev aA (c : Dev nD) : TA := m ((c : Thread nD τ).loc main_arg0)
abbrev aD (c : Dev nD) : TD := m ((c : Thread nD τ).loc main_arg1)

theorem a_at (c : Dev nD) (t : Fin cfg0.N) (k : Fin 2048) (n : Fin 8192) (hn : n.val = t.val % 4 * 2048 + k.val) (r : Fin 1408) (i : Fin 5632) (hi : i.val = t.val / 4 % 4 * 1408 + r.val) :
    (show EReal from iblk m c 0 t (ix2 k r)) = aA m c (ix2 n i) := by
  blk_ext [iblk, V, idx t]
theorem d_at (c : Dev nD) (t : Fin cfg0.N) (k : Fin 2048) (n : Fin 8192) (hn : n.val = t.val % 4 * 2048 + k.val) (s : Fin 1024) (j : Fin 2048) (hj : j.val = t.val / 16 * 1024 + s.val) :
    (show EReal from iblk m c 1 t (ix2 k s)) = aD m c (ix2 n j) := by
  blk_ext [iblk, V, idx t]

/-- What one point adds to the product's running sum. -/
def part (c : Dev nD) (t : ℕ) (y : S1408x1024.Idx) : EReal :=
  if h : t / 4 % 4 * 1408 + (y 0).val < 5632 ∧ t / 16 * 1024 + (y 1).val < 2048 then ∑ k : Fin 2048, tm (aA m c) (aD m c) ⟨t / 4 % 4 * 1408 + (y 0).val, h.1⟩ ⟨t / 16 * 1024 + (y 1).val, h.2⟩ (t % 4 * 2048 + k.val) else 0

theorem pay2_at (a : Vec Ideal S2048x1408 .bf16) (old : Vec Ideal S1408x512 .f32) (d : Vec Ideal S2048x512 .bf16) (r : Fin 1408) (s : Fin 512) :
    k0_pay2 (F := Ideal) a old d (ix2 r s) = old (ix2 r s) + ∑ k : Fin 2048, a (ix2 k r) * d (ix2 k s) := by
  pointwise [k0_pay2]

theorem piece (c : Dev nD) (t : Fin cfg0.N) (old : Vec Ideal S1408x1024 .f32) (o : ℕ) (h h') (x : S1408x512.Idx) (y : S1408x1024.Idx) (h0 : (y 0).val = (x 0).val) (h1 : (y 1).val = o + (x 1).val) :
    (show EReal from k0_pay2 (F := Ideal) (iblk m c 0 t) (View.ld (S := S1408x1024) old (Rect.unit ![0, o] ![1408, 512] h)) (View.ld (S := S2048x1024) (iblk m c 1 t) (Rect.unit ![0, o] ![2048, 512] h')) x)
      = (show EReal from old y) + part m c t.val y := by
  have ht := lt t
  have y0 : (y 0).val < 1408 := (y 0).isLt
  have y1 : (y 1).val < 1024 := (y 1).isLt
  idx_vars x
  refine (pay2_at _ _ _ _ _).trans (Ideal.add_congr ?_ ?_)
  · exact View.ld_unit_apply_of _ _ _ _ _ y (by intro b; fin_cases b <;> simp [h0, h1])
  · rw [part, dif_pos (by omega)]
    refine Finset.sum_congr rfl fun k _ => ?_
    unfold tm
    rw [dif_pos (show t.val % 4 * 2048 + k.val < 8192 by omega)]
    refine Ideal.mul_congr (a_at m c t k _ rfl x0 _ (by show t.val / 4 % 4 * 1408 + (y 0).val = _; rw [h0])) ?_
    refine Eq.trans ?_ (d_at m c t k _ rfl (y 1) _ rfl)
    exact View.ld_unit_apply_of _ _ _ _ _ (ix2 k (y 1)) (by intro b; fin_cases b <;> simp [h1])

/-- A load of the whole scratch after stores reads what they leave. -/
theorem readWhole (L : List (View.Piece (Elt Ideal) S1408x1024 .f32)) (h) :
    (View.whole cc0_scratch0).readCov L (Rect.unit (s := S1408x1024) ![0, 0] ![1408, 1024] h).toLoadRect = View.canon L := by
  rw [View.readCov_eq_canon']
  funext j
  refine congrArg _ (funext fun a => Fin.ext ?_)
  fin_cases a <;> simp [LoadRect.idx, Rect.toLoadRect, Rect.unit]

theorem pay1_at (y : S1408x1024.Idx) : k0_pay1 (F := Ideal) y = (0 : EReal) := by
  idx_vars y
  pointwise [k0_pay1]

theorem piece0 (c : Dev nD) (t : Fin cfg0.N) (ld : Vec Ideal S1408x512 .f32) (o : ℕ) (h h') (hl : ld = View.ld (S := S1408x1024) (k0_pay1 (F := Ideal)) (Rect.unit ![0, o] ![1408, 512] h)) (x : S1408x512.Idx) (y : S1408x1024.Idx)
    (h0 : (y 0).val = (x 0).val) (h1 : (y 1).val = o + (x 1).val) :
    (show EReal from k0_pay2 (F := Ideal) (iblk m c 0 t) ld (View.ld (S := S2048x1024) (iblk m c 1 t) (Rect.unit ![0, o] ![2048, 512] h')) x) = part m c t.val y := by
  rw [hl]
  refine (piece m c t (k0_pay1 (F := Ideal)) o _ _ x y h0 h1).trans ?_
  rw [pay1_at]
  exact zero_add _

theorem acc_A (c : Dev nD) (t : Fin cfg0.N) (h : t.val % 4 = 0) (y : S1408x1024.Idx) :
    (show EReal from (outsAt0 m c t.val t.isLt).2 y) = part m c t.val y := by
  rw [outsAt0_A m c t (by omega) (by omega)]
  frame_out
  refine View.canon_append_of_piecesOf (Val := Elt Ideal) (e := .f32) (part m c t.val) [_] [_, _] ⟨fun x => ?_, fun x => ?_, trivial⟩ y ?_
  on_goal 3 => exact View.cover_of_tiledBy _ ![1408, 512] (by sl_kernel_rfl) y
  · exact piece0 m c t _ 512 _ _ ((View.readCov_skip _ _ _ _ _ rfl).trans (View.readCov_fill _ _ _ _ _ (by decide))) x _ (by simp [Rect.emb, Rect.unit]) (by simp [Rect.emb, Rect.unit])
  · exact piece0 m c t _ 0 _ _ (View.readCov_fill _ _ _ _ _ (by decide)) x _ (by simp [Rect.emb, Rect.unit]) (by simp [Rect.emb, Rect.unit])

theorem acc_B (c : Dev nD) (t : Fin cfg0.N) (h : ¬ t.val % 4 = 0) (y : S1408x1024.Idx) :
    (show EReal from (outsAt0 m c t.val t.isLt).2 y) = (show EReal from (outsAt0 m c (t.val - 1) (by omega)).2 y) + part m c t.val y := by
  have ht := lt t
  by_cases h3 : t.val % 4 = 3
  on_goal 1 => rw [outsAt0_C m c t (by omega) (by omega)]
  on_goal 2 => rw [outsAt0_B m c t (by omega) (by omega)]
  all_goals
    frame_out
    rw [read_unread_whole]
    generalize (outsAt0 m c (t.val - 1) _).2 = old
    canon_tiles x h
    case' piece0 => exact piece m c t old 512 _ _ x y (by omega) (by omega)
    case' piece1 => exact piece m c t old 0 _ _ x y (by omega) (by omega)

theorem acc_at (c : Dev nD) (t : Fin cfg0.N) (h : t.val % 4 = 3) (y : S1408x1024.Idx) (i : Fin 5632) (hi : i.val = t.val / 4 % 4 * 1408 + (y 0).val) (j : Fin 2048) (hj : j.val = t.val / 16 * 1024 + (y 1).val) :
    (show EReal from (outsAt0 m c t.val t.isLt).2 y) = pr (aA m c) (aD m c) i j := by
  have ht := lt t
  rw [Pipeline.eq_sum_fin_of_reset_step_apply_of_flush (fun n h => (outsAt0 m c n h).2) 4 (fun _ => 0)
    (fun t (y : S1408x1024.Idx) => (part m c t.val y : EReal))
    (fun t h j => by rw [zero_add]; exact acc_A m c t h j)
    (fun t h j => acc_B m c t h j)
    t h y, zero_add]
  have e : pr (aA m c) (aD m c) i j = ∑ k : Fin 8192, tm (aA m c) (aD m c) i j k.val :=
    Finset.sum_congr rfl fun k _ => by unfold tm; rw [dif_pos k.isLt]
  rw [e]
  have p (s : Fin 4) : part m c (4 * (t.val / 4) + s.val) y = ∑ k : Fin 2048, tm (aA m c) (aD m c) i j (s.val * 2048 + k.val) := by
    have e1 : (4 * (t.val / 4) + s.val) / 4 = t.val / 4 := by omega
    have e2 : (4 * (t.val / 4) + s.val) % 4 = s.val := by omega
    have e3 : (4 * (t.val / 4) + s.val) / 16 = t.val / 16 := by omega
    rw [part, dif_pos (by rw [e1, e3, ← hi, ← hj]; exact ⟨i.isLt, j.isLt⟩), e2]
    refine Finset.sum_congr rfl fun k _ => ?_
    congr 1
    · exact Fin.ext (by show _ * 1408 + _ = i.val; rw [e1]; exact hi.symm)
    · exact Fin.ext (by show _ * 1024 + _ = j.val; rw [e3]; exact hj.symm)
  refine (Finset.sum_congr rfl fun s _ => p s).trans ?_
  exact Fin.sum_mul_add_congr fun s k hl => rfl

theorem o_at (c : Dev nD) (t : Fin cfg0.N) (h : t.val % 4 = 3) (y : S1x1408x1024.Idx) (p : Fin 4) (hp : p.val = t.val / 4 % 4 + (y 0).val) (r : Fin 1408) (hr : r.val = (y 1).val) (j : Fin 2048) (hj : j.val = t.val / 16 * 1024 + (y 2).val) :
    (show EReal from (outsAt0 m c t.val t.isLt).1 y) = dw (aA m c) (aD m c) p r j := by
  have ht := lt t
  idx_vars y
  obtain rfl : r = y1 := Fin.ext hr
  have h0 : p.val = t.val / 4 % 4 := by have := y0.isLt; omega
  have e := acc_at m c t h (ix2 r y2) ⟨p.val * 1408 + r.val, by omega⟩ (by show p.val * 1408 + r.val = t.val / 4 % 4 * 1408 + r.val; rw [h0]) j hj
  rw [outsAt0_C m c t (by omega) (by omega)] at e ⊢
  frame_out at e
  frame_out
  rw [readWhole]
  have k (v : Vec Ideal S1408x1024 .f32) : k0_pay4 (F := Ideal) v (ix3 y0 r y2) = ((1 / 2 : ℝ) : EReal) * v (ix2 r y2) := by
    pointwise [k0_pay4]
    rw [chalf, mul_comm]
  refine (k _).trans ?_
  unfold dw
  exact Ideal.mul_congr rfl e

theorem final2 (c : Dev nD) : (dats m 0 c).arrAt 2 cfg0.N = fun y => dw (aA m c) (aD m c) (y 0) (y 1) (y 2) := by
  refine (dats m 0 c).arrAt_eq_of_covers 2 _ (by decide +kernel) fun t hf y => ?_
  blk_simp
  rw [after0_2]
  exact o_at m c t ((flush0_2 t).mp hf) y _ (by blk_simp [idx t]) _ (by blk_simp [idx t]) _ (by blk_simp [idx t])

end Cert.PtnKernelIdeal.Val

end
-- ==== Proof.PtnRef.lean ====
/-  The feed-forward block's second product, its backward call for the weight, as the reference states it, read element by element. -/
module

public import proofs.«01_k».proof.Proof.PtnVal
public import proofs.«01_k».proof.Proof.Gen.PtnReferenceIdeal.Read

@[expose] public section

set_option maxRecDepth 16384

noncomputable section

open Idealize.ShloMosaic Idealize.ShloMosaic.TcCoe Idealize.SL.Sem

namespace Cert.PtnReferenceIdeal.Val

open Cert.PtnReferenceIdeal Cert.PtnReferenceIdeal.Read Cert.PtnMath Cert.Consts Cert.RealKit

variable (a : TA) (d : TD)

theorem v9_at (i : Fin 5632) (j : Fin 2048) : val_main_v9 (F := Ideal) a d (ix2 i j) = ((1 / 2 : ℝ) : EReal) * pr a d i j := by
  pointwise [val_main_v9, val_main_v8, val_main_v7, val_main_v6, val_main_cst_1, val_main_v5, val_main_v1]
  rw [chalf]
  unfold pr
  rw [coe_mul_sum (1 / 2) (by norm_num)]
  refine Finset.sum_congr rfl fun n _ => ?_
  rw [mul_assoc, mul_comm (d _)]

theorem v12_fun : val_main_v12 (F := Ideal) a d = fun y => dw a d (y 0) (y 1) (y 2) := by
  funext y
  idx_vars y
  pointwise [val_main_v12, val_main_v11]
  refine (v9_at a d _ _).trans ?_
  unfold dw
  congr 2

end Cert.PtnReferenceIdeal.Val

end
-- ==== Proof.PtnPair.lean ====
/-  The feed-forward block's second product's backward call for its weight and its reference: the frames and the value claim. -/
module

public import proofs.«01_k».proof.Defs
public import proofs.«01_k».proof.Proof.Gen.PtnKernel.Frame
public import proofs.«01_k».proof.Proof.Gen.PtnKernelIdeal.Frame
public import proofs.«01_k».proof.Proof.Gen.PtnReferenceIdeal.Run
public import proofs.«01_k».proof.Proof.Gen.PtnReferenceIdeal.Read
public import proofs.«01_k».proof.Proof.Gen.PtnKernelIdeal.Value
public import proofs.«01_k».proof.Proof.PtnRef
public import Idealize.ShloMosaic.Lib.Claim

@[expose] public section

set_option maxRecDepth 16384

noncomputable section

open Idealize.ShloMosaic Idealize.ShloMosaic.TcCoe Idealize.SL.Sem

namespace Cert.PtnPair

open Cert

attribute [local instance] Cert.PtnKernel.Gen.facts Cert.PtnKernelIdeal.Gen.facts Cert.PtnReferenceIdeal.Gen.facts

theorem frameK : quiescent_PtnKernel := fun m ρ _ => Cert.PtnKernel.Gen.frame m ρ
theorem frameI : quiescent_PtnKernelIdeal := fun m ρ _ => Cert.PtnKernelIdeal.Gen.frame m ρ
theorem frameR : quiescent_PtnReferenceIdeal := fun m ρ _ =>
  (θ_run Cert.PtnReferenceIdeal.defs _ _).mono (fun r h => ⟨fun c => (h c).2, sem_eq_zero_of_no_sems (by decide) r.2⟩)
    (Cert.PtnReferenceIdeal.Value.run (F := Ideal) m ρ)

theorem value : algebraic_PtnKernelIdeal_PtnReferenceIdeal := by
  pair_intro
  · run_from Cert.PtnKernelIdeal.Value.run_blocks m g
  · run_from Cert.PtnReferenceIdeal.Value.run m' g'
    exact (Cert.PtnReferenceIdeal.Read.val_main_v12_eq _ _).trans ((Cert.PtnReferenceIdeal.Val.v12_fun _ _).trans (Cert.PtnKernelIdeal.Val.final2 m c).symm)

end Cert.PtnPair

end
-- ==== Proof.AdfRef.lean ====
/-  The optimiser's step on one flat array as the reference states it: the same operations, element by element. -/
module

public import proofs.«01_k».proof.Proof.Consts
public import proofs.«01_k».proof.Proof.Gen.AdfKernelIdeal.Value
public import proofs.«01_k».proof.Proof.Gen.AdfReferenceIdeal.Read

@[expose] public section

set_option maxRecDepth 16384

noncomputable section

open Idealize.ShloMosaic Idealize.ShloMosaic.TcCoe Idealize.SL.Sem

namespace Cert.AdfReferenceIdeal.Val

open Cert.AdfReferenceIdeal Cert.AdfReferenceIdeal.Read

/-- The first moment. -/
theorem v4_fun (m g : FVec Ideal S1024x128 .f32) : val_main_v4 (F := Ideal) m g = Cert.AdfKernelIdeal.Value.G5 (F := Ideal) g m := by
  funext y
  idx_vars y
  pointwise [val_main_v4, val_main_v3, val_main_v2, val_main_v1, val_main_v0, val_main_cst, val_main_cst_0, Cert.AdfKernelIdeal.Value.G5]

/-- The second moment. -/
theorem v10_fun (v g : FVec Ideal S1024x128 .f32) : val_main_v10 (F := Ideal) v g = Cert.AdfKernelIdeal.Value.G6 (F := Ideal) g v := by
  funext y
  idx_vars y
  pointwise [val_main_v10, val_main_v9, val_main_v8, val_main_v7, val_main_v6, val_main_v5, val_main_cst_1, val_main_cst_2, Cert.AdfKernelIdeal.Value.G6]

/-- The weight's change. -/
theorem v23_fun (w m v g : FVec Ideal S1024x128 .f32) : val_main_v23 (F := Ideal) w m v g = Cert.AdfKernelIdeal.Value.G4 (F := Ideal) w g m v := by
  funext y
  idx_vars y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, Cert.AdfKernelIdeal.Value.G4]

end Cert.AdfReferenceIdeal.Val

end
-- ==== Proof.AdfPair.lean ====
/-  The optimiser's step on one flat array and its reference: the frames and the value claim. -/
module

public import proofs.«01_k».proof.Defs
public import proofs.«01_k».proof.Proof.Gen.AdfKernel.Frame
public import proofs.«01_k».proof.Proof.Gen.AdfKernelIdeal.Frame
public import proofs.«01_k».proof.Proof.Gen.AdfReferenceIdeal.Run
public import proofs.«01_k».proof.Proof.Gen.AdfReferenceIdeal.Read
public import proofs.«01_k».proof.Proof.Gen.AdfKernelIdeal.Value
public import proofs.«01_k».proof.Proof.AdfRef
public import Idealize.ShloMosaic.Lib.Claim

@[expose] public section

set_option maxRecDepth 16384

noncomputable section

open Idealize.ShloMosaic Idealize.ShloMosaic.TcCoe Idealize.SL.Sem

namespace Cert.AdfPair

open Cert

attribute [local instance] Cert.AdfKernel.Gen.facts Cert.AdfKernelIdeal.Gen.facts Cert.AdfReferenceIdeal.Gen.facts

theorem frameK : quiescent_AdfKernel := fun m ρ _ => Cert.AdfKernel.Gen.frame m ρ
theorem frameI : quiescent_AdfKernelIdeal := fun m ρ _ => Cert.AdfKernelIdeal.Gen.frame m ρ
theorem frameR : quiescent_AdfReferenceIdeal := fun m ρ _ =>
  (θ_run Cert.AdfReferenceIdeal.defs _ _).mono (fun r h => ⟨fun c => (h c).2.2.2, sem_eq_zero_of_no_sems (by decide) r.2⟩)
    (Cert.AdfReferenceIdeal.Value.run (F := Ideal) m ρ)

theorem value : algebraic_AdfKernelIdeal_AdfReferenceIdeal := by
  pair_intro
  · run_from Cert.AdfKernelIdeal.Value.run m g
  · run_from Cert.AdfReferenceIdeal.Value.run m' g'
    · exact (Cert.AdfReferenceIdeal.Read.val_main_v23_eq _ _ _ _).trans (Cert.AdfReferenceIdeal.Val.v23_fun _ _ _ _)
    · exact (Cert.AdfReferenceIdeal.Read.val_main_v4_eq _ _).trans (Cert.AdfReferenceIdeal.Val.v4_fun _ _)
    · exact (Cert.AdfReferenceIdeal.Read.val_main_v10_eq _ _).trans (Cert.AdfReferenceIdeal.Val.v10_fun _ _)

end Cert.AdfPair

end
-- ==== Proof.AdlVal.lean ====
/-  The optimiser's step on one layer of a stacked weight: what the kernel leaves in its four results. The second layer's rows are written,
    the first layer's stay what the arguments carry. -/
module

public import proofs.«01_k».proof.Proof.Consts
public import Idealize.ShloMosaic.Lib.Pipeline.ValueKit
public import proofs.«01_k».proof.Proof.Gen.AdlKernelIdeal.Value

@[expose] public section

set_option maxRecDepth 16384

noncomputable section

open Idealize.ShloMosaic Idealize.ShloMosaic.TcCoe Idealize.SL.Sem

open Idealize.ShloMosaic.Pipeline (Dat)

namespace Cert.AdlMath

abbrev TS := FVec Ideal ⟨3, ![2, 2048, 2816]⟩ .f32
abbrev TG := FVec Ideal ⟨2, ![2048, 2816]⟩ .f32

/-- The first moment's step. -/
def m1 (m g : EReal) : EReal := Ideal.ofBits .f32 0x3F666666#32 * m + Ideal.ofBits .f32 0x3DCCCCCD#32 * g

/-- The second moment's step. -/
def v1 (v g : EReal) : EReal := Ideal.ofBits .f32 0x3F7FBE77#32 * v + Ideal.ofBits .f32 0x3A83126F#32 * (g * g)

/-- The weight's change. -/
def d1 (w m v g : EReal) : EReal :=
  Ideal.ofBits .f32 0xBA83126F#32 * (Ideal.div (Ideal.div (m1 m g) (Ideal.ofBits .f32 0x3F26BD02#32))
    (Ideal.sqrt (Ideal.div (v1 v g) (Ideal.ofBits .f32 0x3C231ACC#32)) + Ideal.ofBits .f32 0x322BCC77#32) + Ideal.ofBits .f32 0x3C23D70A#32 * w)

/-- The carried stack with its second layer replaced. -/
def stack (old : TS) (new : Fin 2048 → Fin 2816 → EReal) : TS := fun y => if (y 0).val = 1 then new (y 1) (y 2) else old y

end Cert.AdlMath

namespace Cert.AdlKernelIdeal.Val

open Cert.AdlKernelIdeal Cert.AdlKernelIdeal.Gen Cert.AdlMath

variable (m : (ℓ : Loc nD τ sig) → Buf (Elt Ideal) ℓ)

theorem idx : ∀ t : Fin cfg0.N, win0_0.index t = ![1, t.val, 0] ∧ win0_1.index t = ![1, t.val, 0] ∧ win0_2.index t = ![1, t.val, 0] ∧ win0_3.index t = ![t.val, 0]
  ∧ win0_4.index t = ![1, t.val, 0] ∧ win0_5.index t = ![1, t.val, 0] ∧ win0_6.index t = ![1, t.val, 0] ∧ win0_7.index t = ![1, t.val, 0] ∧ t.val < 16 :=
  (by decide +kernel : ∀ t : Fin grid0.N, _)

abbrev aW (c : Dev nD) : TS := m ((c : Thread nD τ).loc main_arg0)
abbrev aM (c : Dev nD) : TS := m ((c : Thread nD τ).loc main_arg1)
abbrev aV (c : Dev nD) : TS := m ((c : Thread nD τ).loc main_arg2)
abbrev aG (c : Dev nD) : TG := m ((c : Thread nD τ).loc main_arg3)
abbrev a4 (c : Dev nD) : TS := m ((c : Thread nD τ).loc main_arg4)
abbrev a5 (c : Dev nD) : TS := m ((c : Thread nD τ).loc main_arg5)
abbrev a6 (c : Dev nD) : TS := m ((c : Thread nD τ).loc main_arg6)
abbrev a7 (c : Dev nD) : TS := m ((c : Thread nD τ).loc main_arg7)

theorem w_at (c : Dev nD) (t : Fin cfg0.N) (r : Fin 128) (n : Fin 2048) (hn : n.val = t.val * 128 + r.val) (k : Fin 2816) :
    (show EReal from iblk m c 0 t (ix3 0 r k)) = aW m c (ix3 1 n k) := by
  blk_ext [iblk, V, idx t]
theorem m_at (c : Dev nD) (t : Fin cfg0.N) (r : Fin 128) (n : Fin 2048) (hn : n.val = t.val * 128 + r.val) (k : Fin 2816) :
    (show EReal from iblk m c 1 t (ix3 0 r k)) = aM m c (ix3 1 n k) := by
  blk_ext [iblk, V, idx t]
theorem v_at (c : Dev nD) (t : Fin cfg0.N) (r : Fin 128) (n : Fin 2048) (hn : n.val = t.val * 128 + r.val) (k : Fin 2816) :
    (show EReal from iblk m c 2 t (ix3 0 r k)) = aV m c (ix3 1 n k) := by
  blk_ext [iblk, V, idx t]
theorem g_at (c : Dev nD) (t : Fin cfg0.N) (r : Fin 128) (n : Fin 2048) (hn : n.val = t.val * 128 + r.val) (k : Fin 2816) :
    (show EReal from iblk m c 3 t (ix2 r k)) = aG m c (ix2 n k) := by
  blk_ext [iblk, V, idx t]

theorem V4 (c : Dev nD) : V m c main_v0_0 = a4 m c := by
  entry_read
  rfl
theorem V5 (c : Dev nD) : V m c main_v0_1 = a5 m c := by
  entry_read
  rfl
theorem V6 (c : Dev nD) : V m c main_v0_2 = a6 m c := by
  entry_read
  rfl
theorem V7 (c : Dev nD) : V m c main_v0_3 = a7 m c := by
  entry_read
  rfl

theorem pay4_at (g : Vec Ideal S128x2816 .f32) (a : Vec Ideal S1x128x2816 .f32) (r : Fin 128) (k : Fin 2816) :
    k0_pay4 (F := Ideal) g a (ix2 r k) = m1 (a (ix3 0 r k)) (g (ix2 r k)) := by
  unfold m1
  pointwise [k0_pay4]
theorem pay5_at (g : Vec Ideal S128x2816 .f32) (a : Vec Ideal S1x128x2816 .f32) (r : Fin 128) (k : Fin 2816) :
    k0_pay5 (F := Ideal) g a (ix2 r k) = v1 (a (ix3 0 r k)) (g (ix2 r k)) := by
  unfold v1
  pointwise [k0_pay5]
theorem pay6_at (g : Vec Ideal S128x2816 .f32) (w a v : Vec Ideal S1x128x2816 .f32) (r : Fin 128) (k : Fin 2816) :
    k0_pay6 (F := Ideal) g w a v (ix2 r k) = d1 (w (ix3 0 r k)) (a (ix3 0 r k)) (v (ix3 0 r k)) (g (ix2 r k)) := by
  unfold d1
  pointwise [k0_pay6]
  rw [pay4_at, pay5_at]
/-- A block stored with a unit axis in front holds the same elements. -/
theorem lift_at (x : FVec Ideal S128x2816 .f32) (z : Fin 1) (r : Fin 128) (k : Fin 2816) :
    (k0_pay7 (F := Ideal) x (ix3 z r k) = x (ix2 r k) ∧ k0_pay1 (F := Ideal) x (ix3 z r k) = x (ix2 r k))
      ∧ k0_pay2 (F := Ideal) x (ix3 z r k) = x (ix2 r k) ∧ k0_pay3 (F := Ideal) x (ix3 z r k) = x (ix2 r k) := by
  refine ⟨⟨?_, ?_⟩, ?_, ?_⟩
  · pointwise [k0_pay7]
  · pointwise [k0_pay1]
  · pointwise [k0_pay2]
  · pointwise [k0_pay3]

theorem o_at (c : Dev nD) (t : Fin cfg0.N) (y : S1x128x2816.Idx) (n : Fin 2048) (hn : n.val = t.val * 128 + (y 1).val) (k : Fin 2816) (hk : k.val = (y 2).val) :
    ((show EReal from (outsAt0 m c t).1 y) = aG m c (ix2 n k)
      ∧ (show EReal from (outsAt0 m c t).2.1 y) = d1 (aW m c (ix3 1 n k)) (aM m c (ix3 1 n k)) (aV m c (ix3 1 n k)) (aG m c (ix2 n k)))
      ∧ (show EReal from (outsAt0 m c t).2.2.1 y) = m1 (aM m c (ix3 1 n k)) (aG m c (ix2 n k))
      ∧ (show EReal from (outsAt0 m c t).2.2.2 y) = v1 (aV m c (ix3 1 n k)) (aG m c (ix2 n k)) := by
  idx_vars y
  obtain rfl : k = y2 := Fin.ext hk
  have w := w_at m c t y1 n hn k
  have a := m_at m c t y1 n hn k
  have v := v_at m c t y1 n hn k
  have g := g_at m c t y1 n hn k
  rw [outsAt0]
  refine ⟨⟨?_, ?_⟩, ?_, ?_⟩
  · frame_out
    exact (lift_at _ y0 y1 k).1.1.trans g
  · frame_out
    refine (lift_at _ y0 y1 k).1.2.trans ((pay6_at _ _ _ _ y1 k).trans ?_)
    exact congr (congr (congr (congrArg d1 w) a) v) g
  · frame_out
    exact (lift_at _ y0 y1 k).2.1.trans ((pay4_at _ _ y1 k).trans (congr (congrArg m1 a) g))
  · frame_out
    exact (lift_at _ y0 y1 k).2.2.trans ((pay5_at _ _ y1 k).trans (congr (congrArg v1 v) g))

theorem final4 (c : Dev nD) : (dats m 0 c).arrAt 4 cfg0.N = stack (a4 m c) fun n k => aG m c (ix2 n k) := by
  refine (dats m 0 c).arrAt_eq_of_coversWhere_of_agree 4 _ (fun β => β (0 : Fin 3) = 1) (by decide +kernel) (fun t hf y => ?_) (fun j hj => ?_)
  · blk_simp
    rw [after0_4]
    refine Eq.trans ?_ (if_pos (by blk_simp [idx t])).symm
    exact (o_at m c t y _ (by blk_simp [idx t]) _ (by blk_simp [idx t])).1.1
  · refine (congrFun ((A_eq m c 4).trans (V4 m c)) _).trans ?_
    exact (if_neg fun e => hj ((Nat.div_one _).trans e)).symm

theorem final5 (c : Dev nD) : (dats m 0 c).arrAt 5 cfg0.N = stack (a5 m c) fun n k => d1 (aW m c (ix3 1 n k)) (aM m c (ix3 1 n k)) (aV m c (ix3 1 n k)) (aG m c (ix2 n k)) := by
  refine (dats m 0 c).arrAt_eq_of_coversWhere_of_agree 5 _ (fun β => β (0 : Fin 3) = 1) (by decide +kernel) (fun t hf y => ?_) (fun j hj => ?_)
  · blk_simp
    rw [after0_5]
    refine Eq.trans ?_ (if_pos (by blk_simp [idx t])).symm
    exact (o_at m c t y _ (by blk_simp [idx t]) _ (by blk_simp [idx t])).1.2
  · refine (congrFun ((A_eq m c 5).trans (V5 m c)) _).trans ?_
    exact (if_neg fun e => hj ((Nat.div_one _).trans e)).symm

theorem final6 (c : Dev nD) : (dats m 0 c).arrAt 6 cfg0.N = stack (a6 m c) fun n k => m1 (aM m c (ix3 1 n k)) (aG m c (ix2 n k)) := by
  refine (dats m 0 c).arrAt_eq_of_coversWhere_of_agree 6 _ (fun β => β (0 : Fin 3) = 1) (by decide +kernel) (fun t hf y => ?_) (fun j hj => ?_)
  · blk_simp
    rw [after0_6]
    refine Eq.trans ?_ (if_pos (by blk_simp [idx t])).symm
    exact (o_at m c t y _ (by blk_simp [idx t]) _ (by blk_simp [idx t])).2.1
  · refine (congrFun ((A_eq m c 6).trans (V6 m c)) _).trans ?_
    exact (if_neg fun e => hj ((Nat.div_one _).trans e)).symm

theorem final7 (c : Dev nD) : (dats m 0 c).arrAt 7 cfg0.N = stack (a7 m c) fun n k => v1 (aV m c (ix3 1 n k)) (aG m c (ix2 n k)) := by
  refine (dats m 0 c).arrAt_eq_of_coversWhere_of_agree 7 _ (fun β => β (0 : Fin 3) = 1) (by decide +kernel) (fun t hf y => ?_) (fun j hj => ?_)
  · blk_simp
    rw [after0_7]
    refine Eq.trans ?_ (if_pos (by blk_simp [idx t])).symm
    exact (o_at m c t y _ (by blk_simp [idx t]) _ (by blk_simp [idx t])).2.2
  · refine (congrFun ((A_eq m c 7).trans (V7 m c)) _).trans ?_
    exact (if_neg fun e => hj ((Nat.div_one _).trans e)).symm

end Cert.AdlKernelIdeal.Val

end
-- ==== Proof.AdlRef.lean ====
/-  The optimiser's step on one layer as the reference states it: the carried first layer beside the second layer's step. -/
module

public import Idealize.ShloMosaic.Lib.Pointwise
public import proofs.«01_k».proof.Proof.AdlVal
public import proofs.«01_k».proof.Proof.Gen.AdlReferenceIdeal.Read

@[expose] public section

set_option maxRecDepth 16384

noncomputable section

open Idealize.ShloMosaic Idealize.ShloMosaic.TcCoe Idealize.SL.Sem

namespace Cert.AdlReferenceIdeal.Val

open Cert.AdlReferenceIdeal Cert.AdlReferenceIdeal.Read Cert.AdlMath

theorem g_at (g : TG) (n : Fin 2048) (k : Fin 2816) : val_main_v33 (F := Ideal) g (ix3 0 n k) = g (ix2 n k) := by
  pointwise [val_main_v33]

theorem m_at (a : TS) (g : TG) (n : Fin 2048) (k : Fin 2816) : val_main_v10 (F := Ideal) a g (ix2 n k) = m1 (a (ix3 1 n k)) (g (ix2 n k)) := by
  unfold m1
  pointwise [val_main_v10, val_main_v9, val_main_v8, val_main_v7, val_main_v6, val_main_v3, val_main_v2, val_main_cst, val_main_cst_0]

theorem v_at (a : TS) (g : TG) (n : Fin 2048) (k : Fin 2816) : val_main_v16 (F := Ideal) a g (ix2 n k) = v1 (a (ix3 1 n k)) (g (ix2 n k)) := by
  unfold v1
  pointwise [val_main_v16, val_main_v15, val_main_v14, val_main_v13, val_main_v12, val_main_v11, val_main_v5, val_main_v4, val_main_cst_1, val_main_cst_2]

theorem d_at (w a v : TS) (g : TG) (n : Fin 2048) (k : Fin 2816) :
    val_main_v29 (F := Ideal) w a v g (ix2 n k) = d1 (w (ix3 1 n k)) (a (ix3 1 n k)) (v (ix3 1 n k)) (g (ix2 n k)) := by
  unfold d1
  rw [← m_at, ← v_at]
  pointwise [val_main_v29, val_main_v28, val_main_v27, val_main_v26, val_main_v25, val_main_v24, val_main_v23, val_main_v22, val_main_v21, val_main_v20, val_main_v19,
    val_main_v18, val_main_v17, val_main_v1, val_main_v0, val_main_cst_3, val_main_cst_4, val_main_cst_5, val_main_cst_6, val_main_cst_7]

/-- Two layers side by side: the carried stack with its second layer replaced. -/
theorem stack_of (old : TS) (z o : FVec Ideal ⟨3, ![1, 2048, 2816]⟩ .f32) (new : Fin 2048 → Fin 2816 → EReal)
    (hz : ∀ n k, z (ix3 0 n k) = old (ix3 0 n k)) (ho : ∀ n k, o (ix3 0 n k) = new n k) (h) :
    concatenate S2x2048x2816 0 [⟨S1x2048x2816, z⟩, ⟨S1x2048x2816, o⟩] h = stack old new := by
  funext y
  idx_vars y
  unfold stack
  refine (concatenate_pair_apply _ z o h _).trans ?_
  by_cases e : y0.val = 1
  · obtain rfl : y0 = 1 := Fin.ext e
    refine Eq.trans ?_ (if_pos rfl).symm
    refine (dif_neg (show ¬ 1 < 1 by omega)).trans ?_
    refine Eq.trans (congrArg o ?_) (ho y1 y2)
    exact funext fun b => Fin.ext (by fin_cases b <;> rfl)
  · obtain rfl : y0 = 0 := Fin.ext (by omega)
    refine Eq.trans ?_ (if_neg e).symm
    refine (dif_pos (show 0 < 1 by omega)).trans ?_
    refine Eq.trans (congrArg z ?_) (hz y1 y2)
    exact funext fun b => Fin.ext (by fin_cases b <;> rfl)

theorem c4_at (x : TS) (n : Fin 2048) (k : Fin 2816) : val_main_v32 (F := Ideal) x (ix3 0 n k) = x (ix3 0 n k) := by
  pointwise [val_main_v32, val_main_v31, val_main_v30]
theorem c5_at (x : TS) (n : Fin 2048) (k : Fin 2816) : val_main_v37 (F := Ideal) x (ix3 0 n k) = x (ix3 0 n k) := by
  pointwise [val_main_v37, val_main_v36, val_main_v35]
theorem c6_at (x : TS) (n : Fin 2048) (k : Fin 2816) : val_main_v42 (F := Ideal) x (ix3 0 n k) = x (ix3 0 n k) := by
  pointwise [val_main_v42, val_main_v41, val_main_v40]
theorem c7_at (x : TS) (n : Fin 2048) (k : Fin 2816) : val_main_v47 (F := Ideal) x (ix3 0 n k) = x (ix3 0 n k) := by
  pointwise [val_main_v47, val_main_v46, val_main_v45]

theorem n5_at (w a v : TS) (g : TG) (n : Fin 2048) (k : Fin 2816) :
    val_main_v38 (F := Ideal) w a v g (ix3 0 n k) = d1 (w (ix3 1 n k)) (a (ix3 1 n k)) (v (ix3 1 n k)) (g (ix2 n k)) := by
  refine Eq.trans ?_ (d_at w a v g n k)
  pointwise [val_main_v38]
theorem n6_at (a : TS) (g : TG) (n : Fin 2048) (k : Fin 2816) : val_main_v43 (F := Ideal) a g (ix3 0 n k) = m1 (a (ix3 1 n k)) (g (ix2 n k)) := by
  refine Eq.trans ?_ (m_at a g n k)
  pointwise [val_main_v43]
theorem n7_at (v : TS) (g : TG) (n : Fin 2048) (k : Fin 2816) : val_main_v48 (F := Ideal) v g (ix3 0 n k) = v1 (v (ix3 1 n k)) (g (ix2 n k)) := by
  refine Eq.trans ?_ (v_at v g n k)
  pointwise [val_main_v48]

end Cert.AdlReferenceIdeal.Val

end
-- ==== Proof.AdlPair.lean ====
/-  The optimiser's step on one layer and its reference: the frames and the value claim. -/
module

public import proofs.«01_k».proof.Defs
public import proofs.«01_k».proof.Proof.Gen.AdlKernel.Frame
public import proofs.«01_k».proof.Proof.Gen.AdlKernelIdeal.Frame
public import proofs.«01_k».proof.Proof.Gen.AdlReferenceIdeal.Run
public import proofs.«01_k».proof.Proof.Gen.AdlReferenceIdeal.Read
public import proofs.«01_k».proof.Proof.Gen.AdlKernelIdeal.Value
public import proofs.«01_k».proof.Proof.AdlRef
public import Idealize.ShloMosaic.Lib.Claim

@[expose] public section

set_option maxRecDepth 16384

noncomputable section

open Idealize.ShloMosaic Idealize.ShloMosaic.TcCoe Idealize.SL.Sem

namespace Cert.AdlPair

open Cert

attribute [local instance] Cert.AdlKernel.Gen.facts Cert.AdlKernelIdeal.Gen.facts Cert.AdlReferenceIdeal.Gen.facts

theorem frameK : quiescent_AdlKernel := fun m ρ _ => Cert.AdlKernel.Gen.frame m ρ
theorem frameI : quiescent_AdlKernelIdeal := fun m ρ _ => Cert.AdlKernelIdeal.Gen.frame m ρ
theorem frameR : quiescent_AdlReferenceIdeal := fun m ρ _ =>
  (θ_run Cert.AdlReferenceIdeal.defs _ _).mono (fun r h => ⟨fun c => (h c).2.2.2.2, sem_eq_zero_of_no_sems (by decide) r.2⟩)
    (Cert.AdlReferenceIdeal.Value.run (F := Ideal) m ρ)

theorem value : algebraic_AdlKernelIdeal_AdlReferenceIdeal := by
  pair_intro
  · run_from Cert.AdlKernelIdeal.Value.run_blocks m g
  · run_from Cert.AdlReferenceIdeal.Value.run m' g'
    · refine (Cert.AdlReferenceIdeal.Read.val_main_v34_eq _ _).trans ((Cert.AdlReferenceIdeal.Val.stack_of _ _ _ _ (Cert.AdlReferenceIdeal.Val.c4_at _) (Cert.AdlReferenceIdeal.Val.g_at _) _).trans ?_)
      simp only [hagree c]
      exact (Cert.AdlKernelIdeal.Val.final4 m c).symm
    · refine (Cert.AdlReferenceIdeal.Read.val_main_v39_eq _ _ _ _ _).trans ((Cert.AdlReferenceIdeal.Val.stack_of _ _ _ _ (Cert.AdlReferenceIdeal.Val.c5_at _) (Cert.AdlReferenceIdeal.Val.n5_at _ _ _ _) _).trans ?_)
      simp only [hagree c]
      exact (Cert.AdlKernelIdeal.Val.final5 m c).symm
    · refine (Cert.AdlReferenceIdeal.Read.val_main_v44_eq _ _ _).trans ((Cert.AdlReferenceIdeal.Val.stack_of _ _ _ _ (Cert.AdlReferenceIdeal.Val.c6_at _) (Cert.AdlReferenceIdeal.Val.n6_at _ _) _).trans ?_)
      simp only [hagree c]
      exact (Cert.AdlKernelIdeal.Val.final6 m c).symm
    · refine (Cert.AdlReferenceIdeal.Read.val_main_v49_eq _ _ _).trans ((Cert.AdlReferenceIdeal.Val.stack_of _ _ _ _ (Cert.AdlReferenceIdeal.Val.c7_at _) (Cert.AdlReferenceIdeal.Val.n7_at _ _) _).trans ?_)
      simp only [hagree c]
      exact (Cert.AdlKernelIdeal.Val.final7 m c).symm

end Cert.AdlPair

end
-- ==== Proof.SmlRef.lean ====
/-  The sum of eight stacked arrays: the kernel's seven additions are the reference's sum over the leading axis. -/
module

public import Idealize.ShloMosaic.Lib.Pointwise
public import Idealize.ShloMosaic.Lib.Pipeline.ValueKit
public import Idealize.ShloMosaic.Lib.Pipeline.ReadBack
public import proofs.«01_k».proof.Proof.Gen.SmlKernelIdeal.Value
public import proofs.«01_k».proof.Proof.Gen.SmlReferenceIdeal.Read

@[expose] public section

set_option maxRecDepth 16384

noncomputable section

open Idealize.ShloMosaic Idealize.ShloMosaic.TcCoe Idealize.SL.Sem

namespace Cert.SmlReferenceIdeal.Val

open Cert.SmlReferenceIdeal Cert.SmlReferenceIdeal.Read

theorem v0_fun (x : FVec Ideal S8x1288x128 .f32) : val_main_v0 (F := Ideal) x = Cert.SmlKernelIdeal.Value.G1 (F := Ideal) x := by
  funext y
  idx_vars y
  have k (a b c d e f g h : Vec Ideal ⟨3, ![1, 1288, 128]⟩ .f32) : Cert.SmlKernelIdeal.Gen.k0_pay1 (F := Ideal) a b c d e f g h (ix2 y0 y1)
      = a (ix3 0 y0 y1) + b (ix3 0 y0 y1) + c (ix3 0 y0 y1) + d (ix3 0 y0 y1) + e (ix3 0 y0 y1) + f (ix3 0 y0 y1) + g (ix3 0 y0 y1) + h (ix3 0 y0 y1) := by
    pointwise [Cert.SmlKernelIdeal.Gen.k0_pay1]
  refine Eq.trans ?_ (k _ _ _ _ _ _ _ _).symm
  pointwise [val_main_v0, val_main_cst]
  exact Fin.sum_univ_eight _

end Cert.SmlReferenceIdeal.Val

end
-- ==== Proof.SmlPair.lean ====
/-  The sum of eight stacked arrays and its reference: the frames and the value claim. -/
module

public import proofs.«01_k».proof.Defs
public import proofs.«01_k».proof.Proof.Gen.SmlKernel.Frame
public import proofs.«01_k».proof.Proof.Gen.SmlKernelIdeal.Frame
public import proofs.«01_k».proof.Proof.Gen.SmlReferenceIdeal.Run
public import proofs.«01_k».proof.Proof.Gen.SmlReferenceIdeal.Read
public import proofs.«01_k».proof.Proof.Gen.SmlKernelIdeal.Value
public import proofs.«01_k».proof.Proof.SmlRef
public import Idealize.ShloMosaic.Lib.Claim

@[expose] public section

set_option maxRecDepth 16384

noncomputable section

open Idealize.ShloMosaic Idealize.ShloMosaic.TcCoe Idealize.SL.Sem

namespace Cert.SmlPair

open Cert

attribute [local instance] Cert.SmlKernel.Gen.facts Cert.SmlKernelIdeal.Gen.facts Cert.SmlReferenceIdeal.Gen.facts

theorem frameK : quiescent_SmlKernel := fun m ρ _ => Cert.SmlKernel.Gen.frame m ρ
theorem frameI : quiescent_SmlKernelIdeal := fun m ρ _ => Cert.SmlKernelIdeal.Gen.frame m ρ
theorem frameR : quiescent_SmlReferenceIdeal := fun m ρ _ =>
  (θ_run Cert.SmlReferenceIdeal.defs _ _).mono (fun r h => ⟨fun c => (h c).2, sem_eq_zero_of_no_sems (by decide) r.2⟩)
    (Cert.SmlReferenceIdeal.Value.run (F := Ideal) m ρ)

attribute [local irreducible] Idealize.ShloMosaic.Host.reduceAdd Idealize.ShloMosaic.Pipeline.Dat.arrAt

theorem value : algebraic_SmlKernelIdeal_SmlReferenceIdeal := by
  pair_intro
  · run_from Cert.SmlKernelIdeal.Value.run_blocks m g
  · run_from Cert.SmlReferenceIdeal.Value.run m' g'
    exact (Cert.SmlReferenceIdeal.Read.val_main_v0_eq _).trans ((Cert.SmlReferenceIdeal.Val.v0_fun _).trans (Cert.SmlKernelIdeal.Value.final1 m c).symm)

end Cert.SmlPair

end
-- ==== Proof.AdhVal.lean ====
/-  The sum of two half panels: what the result array holds after the run, as a function of the arguments. -/
module

public import proofs.«01_k».proof.Proof.Gen.AdhKernelIdeal.Frame
public import proofs.«01_k».proof.Proof.Gen.AdhKernel.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdhKernel.Val

open Cert.AdhKernel Cert.AdhKernel.Gen

variable (m : (ℓ : Loc nD τ sig) → Buf (Elt Bits) ℓ)

/-- The prefetched place is zero. -/
theorem place_zero : tbl m 0 = (fun _ => 0#32 : IVec S1 32) := by
  show StableHlo.after hostOps0 (fun b => m (0, b)) (Proc.devRef .tc main_v0) = _
  unfold hostOps0
  after_results
  rfl

theorem map_eq (i : grid0.Coords) : cc0_transform_0 inb_S1_S1_0 numel1_S1 (tbl m) i = ![(BitVec.ofNat 32 (i 0).val).toNat, 0, (BitVec.ofNat 32 (i 1).val).toNat, 0] := by
  have h : (tbl m).at 0 (Rect.unit (s := S1) ![0] S1.size inb_S1_S1_0) numel1_S1 = 0#32 := congrFun (place_zero m) _
  unfold cc0_transform_0
  simp only [h]
  rfl

/-- At that place every block of the first argument lies inside it. -/
theorem ok : Ok m := by
  unfold Ok ok0
  intro i
  rw [map_eq]
  exact ⟨(by decide : ∀ (i : grid0.Coords) a, ((![(BitVec.ofNat 32 (i 0).val).toNat, 0, (BitVec.ofNat 32 (i 1).val).toNat, 0] : Fin 4 → ℕ) a + 1) * S1x1x512x2816.size a ≤ S4x2x1024x2816.size a) i,
    .inr (Affine.block_words_dvd (of_decide_eq_true rfl) (by decide))⟩

end Cert.AdhKernel.Val

namespace Cert.AdhKernelIdeal.Val

open Cert.AdhKernelIdeal Cert.AdhKernelIdeal.Gen

variable (m : (ℓ : Loc nD τ sig) → Buf (Elt Ideal) ℓ) (ρ : Dev nD → PrngReg)

/-- The prefetched place is zero. -/
theorem place_zero : tbl m 0 = (fun _ => 0#32 : IVec S1 32) := by
  show StableHlo.after hostOps0 (fun b => m (0, b)) (Proc.devRef .tc main_v0) = _
  unfold hostOps0
  after_results
  rfl

theorem map_eq (i : grid0.Coords) : cc0_transform_0 inb_S1_S1_0 numel1_S1 (tbl m) i = ![(BitVec.ofNat 32 (i 0).val).toNat, 0, (BitVec.ofNat 32 (i 1).val).toNat, 0] := by
  have h : (tbl m).at 0 (Rect.unit (s := S1) ![0] S1.size inb_S1_S1_0) numel1_S1 = 0#32 := congrFun (place_zero m) _
  unfold cc0_transform_0
  simp only [h]
  rfl

/-- At that place every block of the first argument lies inside it. -/
theorem ok : Ok m := by
  unfold Ok ok0
  intro i
  rw [map_eq]
  exact ⟨(by decide : ∀ (i : grid0.Coords) a, ((![(BitVec.ofNat 32 (i 0).val).toNat, 0, (BitVec.ofNat 32 (i 1).val).toNat, 0] : Fin 4 → ℕ) a + 1) * S1x1x512x2816.size a ≤ S4x2x1024x2816.size a) i,
    .inr (Affine.block_words_dvd (of_decide_eq_true rfl) (by decide))⟩

abbrev TA := FVec Ideal S4x2048x2816 .bf16
abbrev TB := FVec Ideal S4x1024x2816 .bf16
abbrev aA (c : Dev nD) : TA := m ((c : Thread nD τ).loc main_arg0)
abbrev aB (c : Dev nD) : TB := m ((c : Thread nD τ).loc main_arg1)

theorem V_a (c : Dev nD) : V m c main_v1 = (shapeCast S4x2x1024x2816 (aA m c) shapeCasts_S4x2048x2816_S4x2x1024x2816 : FVec Ideal S4x2x1024x2816 .bf16) := by
  show StableHlo.after hostOps0 (fun b => m (c, b)) (Proc.devRef .tc main_v1) = _
  unfold hostOps0
  after_results
  rfl

theorem idx0 (t : Fin (cfgM m (ok m)).N) : ((cfgM m (ok m)).win 0).index t = ![t.val / 2, 0, t.val % 2, 0] := by
  refine (map_eq m (grid0.coords t)).trans ?_
  exact (by decide +kernel : ∀ t : Fin grid0.N, (![(BitVec.ofNat 32 (grid0.coords t 0).val).toNat, 0, (BitVec.ofNat 32 (grid0.coords t 1).val).toNat, 0] : Fin 4 → ℕ) = ![t.val / 2, 0, t.val % 2, 0]) t
theorem idx1 (t : Fin (cfgM m (ok m)).N) : ((cfgM m (ok m)).win 1).index t = ![t.val / 2, t.val % 2, 0] :=
  (by decide +kernel : ∀ t : Fin grid0.N, cc0_transform_1 (grid0.coords t) = ![t.val / 2, t.val % 2, 0]) t
theorem idx2 (t : Fin (cfgM m (ok m)).N) : ((cfgM m (ok m)).win 2).index t = ![t.val / 2, t.val % 2, 0] :=
  (by decide +kernel : ∀ t : Fin grid0.N, cc0_transform_2 (grid0.coords t) = ![t.val / 2, t.val % 2, 0]) t

theorem lt (t : Fin (cfgM m (ok m)).N) : t.val < 8 := (by decide : ∀ t : Fin grid0.N, t.val < 8) t

/-- Where the blocks of a grid point lie in the second argument and the result, and in the first argument cut into halves. -/
def at3 (t : Fin (cfgM m (ok m)).N) (y : S1x512x2816.Idx) : S4x1024x2816.Idx
  | ⟨0, _⟩ => (⟨t.val / 2, by have := lt m t; omega⟩ : Fin 4)
  | ⟨1, _⟩ => (⟨t.val % 2 * 512 + (y 1).val, by have h : (y 1).val < 512 := (y 1).isLt; omega⟩ : Fin 1024)
  | ⟨2, _⟩ => y 2
def at4 (t : Fin (cfgM m (ok m)).N) (y : S1x1x512x2816.Idx) : S4x2x1024x2816.Idx
  | ⟨0, _⟩ => (⟨t.val / 2, by have := lt m t; omega⟩ : Fin 4)
  | ⟨1, _⟩ => (0 : Fin 2)
  | ⟨2, _⟩ => (⟨t.val % 2 * 512 + (y 2).val, by have h : (y 2).val < 512 := (y 2).isLt; omega⟩ : Fin 1024)
  | ⟨3, _⟩ => y 3

theorem unit0 (k : Fin 1) : k.val = 0 := by omega

theorem emb0 (t : Fin (cfgM m (ok m)).N) (y : S1x1x512x2816.Idx) : (((cfgM m (ok m)).win 0).blk t).view.emb y = at4 m t y := by
  refine funext fun a => Fin.ext ?_
  refine (Pipeline.Window.rect_emb_val ((cfgM m (ok m)).win 0) t y a rfl).trans ?_
  rw [idx0]
  have h0 := unit0 (y 0)
  have h1 := unit0 (y 1)
  match a with
  | ⟨0, _⟩ => show t.val / 2 * 1 + (y 0).val = t.val / 2; omega
  | ⟨1, _⟩ => show 0 * 1 + (y 1).val = 0; omega
  | ⟨2, _⟩ => rfl
  | ⟨3, _⟩ => show 0 * 2816 + (y 3).val = (y 3).val; omega

theorem emb1 (t : Fin (cfgM m (ok m)).N) (y : S1x512x2816.Idx) : (((cfgM m (ok m)).win 1).blk t).view.emb y = at3 m t y := by
  refine funext fun a => Fin.ext ?_
  refine (Pipeline.Window.rect_emb_val ((cfgM m (ok m)).win 1) t y a rfl).trans ?_
  rw [idx1]
  have h0 := unit0 (y 0)
  match a with
  | ⟨0, _⟩ => show t.val / 2 * 1 + (y 0).val = t.val / 2; omega
  | ⟨1, _⟩ => rfl
  | ⟨2, _⟩ => show 0 * 2816 + (y 2).val = (y 2).val; omega

theorem emb2 (t : Fin (cfgM m (ok m)).N) (y : S1x512x2816.Idx) : (((cfgM m (ok m)).win 2).blk t).view.emb y = at3 m t y := by
  refine funext fun a => Fin.ext ?_
  refine (Pipeline.Window.rect_emb_val ((cfgM m (ok m)).win 2) t y a rfl).trans ?_
  rw [idx2]
  have h0 := unit0 (y 0)
  match a with
  | ⟨0, _⟩ => show t.val / 2 * 1 + (y 0).val = t.val / 2; omega
  | ⟨1, _⟩ => rfl
  | ⟨2, _⟩ => show 0 * 2816 + (y 2).val = (y 2).val; omega

/-- The first half of a panel, as an index of the whole. -/
def firstHalf (i : S4x1024x2816.Idx) : S4x2048x2816.Idx
  | ⟨0, _⟩ => i 0
  | ⟨1, _⟩ => (⟨(i 1).val, by have h : (i 1).val < 1024 := (i 1).isLt; omega⟩ : Fin 2048)
  | ⟨2, _⟩ => i 2

/-- What the result holds: the first half of the panels plus the half that came. -/
def val (c : Dev nD) : TB := fun i => aA m c (firstHalf i) + aB m c i

/-- A block of the second argument, and one of the first. -/
theorem b_at (c : Dev nD) (t : Fin (cfgM m (ok m)).N) (y : S1x512x2816.Idx) : iblk m (ok m) c 1 t y = aB m c (at3 m t y) :=
  (show iblk m (ok m) c 1 t y = V m c main_arg1 ((((cfgM m (ok m)).win 1).blk t).view.emb y) from rfl).trans
    ((congrArg _ (emb1 m t y)).trans (congrFun (V_main_arg1 m c) _))

theorem a_at (c : Dev nD) (t : Fin (cfgM m (ok m)).N) (y : S1x1x512x2816.Idx) (z : S1x512x2816.Idx) (h1 : (z 1).val = (y 2).val) (h2 : (z 2).val = (y 3).val) :
    iblk m (ok m) c 0 t y = aA m c (firstHalf (at3 m t z)) := by
  refine (show iblk m (ok m) c 0 t y = V m c main_v1 ((((cfgM m (ok m)).win 0).blk t).view.emb y) from rfl).trans ?_
  refine (congrArg _ (emb0 m t y)).trans ((congrFun (V_a m c) _).trans (shapeCast_apply _ _ _ _ ?_))
  rw [Shape.rowMajor_val_three, Shape.rowMajor_val_four]
  show (t.val / 2 * 2048 + (t.val % 2 * 512 + (z 1).val)) * 2816 + (z 2).val
    = ((t.val / 2 * 2 + 0) * 1024 + (t.val % 2 * 512 + (y 2).val)) * 2816 + (y 3).val
  omega

/-- What the body leaves of two blocks: their sum. -/
theorem out_A (c : Dev nD) (i : grid0.Coords) (arg3 : Memref sig .tc .vmem S1x1x512x2816 .bf16) (h3 : arg3.IsWhole)
    (arg4 : Memref sig .tc .vmem S1x512x2816 .bf16) (h4 : arg4.IsWhole) (arg5 : Memref sig .tc .vmem S1x512x2816 .bf16) (h5 : arg5.IsWhole)
    (x0 : Vec Ideal S1x1x512x2816 .bf16) (x1 : Vec Ideal S1x512x2816 .bf16) (xt : TbBuf0 (F := Ideal) c tbM0_0) (r : Fin 512) (e : Fin 2816) :
    (show EReal from out0_A_2 c i arg3 h3 arg4 h4 arg5 h5 x0 x1 xt (ix3 0 r e)) = (show EReal from x0 (ix4 0 0 r e)) + x1 (ix3 0 r e) := by
  frame_out
  pointwise [k0_pay1]

theorem out_at (c : Dev nD) (t : Fin (cfgM m (ok m)).N) (y : S1x512x2816.Idx) : outsAt0 m (ok m) c t y = val m c (at3 m t y) := by
  idx_vars y
  obtain rfl : y0 = 0 := Subsingleton.elim _ _
  unfold outsAt0
  refine (out_A c _ _ _ _ _ _ _ _ _ _ y1 y2).trans ?_
  exact Ideal.add_congr (a_at m c t (ix4 0 0 y1 y2) (ix3 0 y1 y2) rfl rfl) (b_at m c t _)

theorem flushed_eq (c : Dev nD) (t : Fin (cfgM m (ok m)).N) :
    (dats m (ok m) 0 c).flushed 2 t = (((cfgM m (ok m)).win 2).blk t).view.read (Elt Ideal) (val m c) := by
  show ((cfgM m (ok m)).win 2).cut (grid0.coords t) ((dats m (ok m) 0 c).after 2 t) = _
  rw [after0_2]
  refine funext fun y => ?_
  refine (show _ = outsAt0 m (ok m) c t y from rfl).trans ((out_at m c t y).trans ?_)
  exact congrArg (val m c) (emb2 m t y).symm

/-- Every index of the result lies in the block of some point. -/
theorem cover (i : S4x1024x2816.Idx) :
    ∃ t : Fin (cfgM m (ok m)).N, ((cfgM m (ok m)).win 2).flush t = true ∧ i ∈ (((cfgM m (ok m)).win 2).blk t).view.set := by
  have h0 : (i 0).val < 4 := (i 0).isLt
  have h1 : (i 1).val < 1024 := (i 1).isLt
  have hN : grid0.N = 8 := by decide
  let t : Fin (cfgM m (ok m)).N := (⟨2 * (i 0).val + (i 1).val / 512, by omega⟩ : Fin grid0.N)
  let y : S1x512x2816.Idx := ix3 0 (⟨(i 1).val % 512, by omega⟩ : Fin 512) (i 2)
  have e : at3 m t y = i := by
    refine funext fun a => Fin.ext ?_
    match a with
    | ⟨0, _⟩ => show (2 * (i 0).val + (i 1).val / 512) / 2 = (i 0).val; omega
    | ⟨1, _⟩ => show (2 * (i 0).val + (i 1).val / 512) % 2 * 512 + (i 1).val % 512 = (i 1).val; omega
    | ⟨2, _⟩ => rfl
  refine ⟨t, flush0_2 _ t, ?_⟩
  rw [← e, ← emb2 m t y]
  exact Finset.mem_map_of_mem _ (Finset.mem_univ y)

theorem final2 (c : Dev nD) : (dats m (ok m) 0 c).arrAt 2 (cfgM m (ok m)).N = val m c :=
  (dats m (ok m) 0 c).arrAt_eq_of_cover 2 (val m c) (fun t _ => flushed_eq m c t) (cover m)

/-- The run, read: the result at the sum, both arguments unchanged. -/
theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final2 m c), h.2 c⟩)
    (θ_run_and (run_main m ρ (ok m)) (unchanged m ρ (ok m)))

end Cert.AdhKernelIdeal.Val

end
-- ==== Proof.AdhPair.lean ====
/-  The sum of two half panels and its reference: the frames and the value claim. -/
module

public import proofs.«01_k».proof.Defs
public import proofs.«01_k».proof.Proof.Gen.AdhReferenceIdeal.Run
public import proofs.«01_k».proof.Proof.Gen.AdhReferenceIdeal.Read
public import proofs.«01_k».proof.Proof.AdhVal

@[expose] public section

set_option maxRecDepth 16384

noncomputable section

open Idealize.ShloMosaic Idealize.ShloMosaic.TcCoe Idealize.SL.Sem

namespace Cert.AdhPair

open Cert

attribute [local instance] Cert.AdhKernel.Gen.facts Cert.AdhKernelIdeal.Gen.facts Cert.AdhReferenceIdeal.Gen.facts

theorem frameK : quiescent_AdhKernel := fun m ρ _ => Cert.AdhKernel.Gen.frame m ρ (Cert.AdhKernel.Val.ok m)
theorem frameI : quiescent_AdhKernelIdeal := fun m ρ _ => Cert.AdhKernelIdeal.Gen.frame m ρ (Cert.AdhKernelIdeal.Val.ok m)
theorem frameR : quiescent_AdhReferenceIdeal := fun m ρ _ =>
  (θ_run Cert.AdhReferenceIdeal.defs _ _).mono (fun r h => ⟨fun c => (h c).2, sem_eq_zero_of_no_sems (by decide) r.2⟩)
    (Cert.AdhReferenceIdeal.Value.run (F := Ideal) m ρ)

open Cert.AdhReferenceIdeal Cert.AdhReferenceIdeal.Read in
/-- The reference at an index: the first half's entry plus the other's. -/
theorem ref_at (x : FVec Ideal S4x2048x2816 .bf16) (y : FVec Ideal S4x1024x2816 .bf16) (i : S4x1024x2816.Idx) :
    (show EReal from val_main_v4 (F := Ideal) x y i) = x (Cert.AdhKernelIdeal.Val.firstHalf i) + y i := by
  pointwise [val_main_v4, val_main_v3, val_main_v2, val_main_v1, val_main_v0]
  exact Ideal.add_congr (congrArg x (funext fun a => match a with | ⟨0, _⟩ => rfl | ⟨1, _⟩ => rfl | ⟨2, _⟩ => rfl)) rfl

theorem value : algebraic_AdhKernelIdeal_AdhReferenceIdeal := by
  pair_intro
  · exact Cert.AdhKernelIdeal.Val.run m g
  · run_from Cert.AdhReferenceIdeal.Value.run m' g'
    exact (Cert.AdhReferenceIdeal.Read.val_main_v4_eq _ _).trans (funext fun i => ref_at _ _ i)

end Cert.AdhPair

end
-- ==== Proof.SwpRun.lean ====
/-  The swap of half panels between the two devices of a chip: every device sends the half it does not keep to its mate and receives
    the mate's half, one transfer each way. This module runs the kernel on the whole mesh: every execution ends, every device's result
    holds the half its mate sent, the arguments are unchanged and every counter is back at zero.
    Each device has two semaphores, one for the transfer it sends and one for the transfer it receives. Both are fired once. Nothing is
    waited for before the send: the mate's result array is handed to the sender when the mesh is launched. -/
module

public import proofs.«01_k».proof.Proof.Gen.SwpKernelIdeal
public import proofs.«01_k».proof.Proof.Gen.SwpKernelIdeal.Skeleton
public import proofs.«01_k».proof.Proof.Gen.SwpKernelIdeal.Launch
public import proofs.«01_k».proof.Proof.Gen.SwpKernelIdeal.Points
public import Idealize.ShloMosaic.Lib.Pipeline.Launch
public import Idealize.ShloMosaic.Lib.Pipeline.Kit
public import Idealize.ShloMosaic.Lib.Tactic

@[expose] public section

noncomputable section

namespace Cert.SwpProof

open Cert.SwpKernelIdeal Cert.SwpKernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra the proof's assertions are over. -/
abbrev MS (F : FTy → Type) := MT nD τ sig Unit (Elt F) ℕ (UR sig nD τ) ℕ
abbrev EE : Emb (UR sig nD τ) (MS F) := emb₁

variable (m : (ℓ : Loc nD τ sig) → Buf (Elt F) ℓ) (ρ : Dev nD → PrngReg)

/-! ## Mates, memory and cells -/

/-- The device a device sends to, as the kernel computes it. -/
def mate (c : Dev nD) : Dev nD := ⟨k0_dev1 c, k0_dev1_lt c⟩

theorem mate_mate (c : Dev nD) : mate (mate c) = c := by
  have h := c.isLt
  apply Fin.ext
  show k0_dev1 (mate c) = c.val
  rw [k0_dev1_eq, show (mate c).val = _ from k0_dev1_eq c]
  have : nD = 8 := rfl
  omega

def mates : Dev nD ≃ Dev nD := ⟨mate, mate, mate_mate, mate_mate⟩

abbrev argM : Memref sig .tc .hbm S4x2048x2816 .bf16 := Memref.whole main_arg0
abbrev resM : Memref sig .tc .hbm S4x1024x2816 .bf16 := Memref.whole main_v1
/-- The half of its panels a device sends away. -/
abbrev halfM (c : Dev nD) : Memref sig .tc .hbm S4x1024x2816 .bf16 :=
  argM.slice (Rect.unit (s := S4x2048x2816) (k0_off1 c) S4x1024x2816.size (k0_off1_inb c)) (fun _ => rfl)

abbrev sentS : DmaSem sig := ((cc0_scratch0.slice (Rect.unit (s := S1) ![0] S1.size inb_S1_S1_0)).squeeze S_ squeezes_S1_S_).sem
abbrev gotS : DmaSem sig := ((cc0_scratch1.slice (Rect.unit (s := S1) ![0] S1.size inb_S1_S1_0)).squeeze S_ squeezes_S1_S_).sem

/-- A device's two semaphores. -/
abbrev sems : Fin 2 → SemLoc sig := fun | 0 => .dma sentS | 1 => .dma gotS
abbrev cell (ck : Dev nD × Fin 2) : GSem nD τ sig := ((ck.1 : Thread nD τ), sems ck.2)
abbrev sentCell (c : Dev nD) : GSem nD τ sig := ((c : Thread nD τ), .dma sentS)
abbrev gotCell (c : Dev nD) : GSem nD τ sig := ((c : Thread nD τ), .dma gotS)

/-- A transfer's credit. -/
def N : ℕ := (resM : Memref sig .tc .hbm S4x1024x2816 .bf16).view.dmaCredit

theorem N_res : (resM : Memref sig .tc .hbm S4x1024x2816 .bf16).view.dmaCredit = N := rfl
theorem N_half (c : Dev nD) : (halfM c).view.dmaCredit = N := rfl

theorem N_pos : 0 < N := View.dmaCredit_pos _ (Shape.numel_pos fun a => by fin_cases a <;> exact Nat.succ_pos _)

theorem sent_ne_got : (SemLoc.dma sentS : SemLoc sig) ≠ .dma gotS := by decide

/-- What a device's result holds in the end: the half its mate sent. -/
def landed (c : Dev nD) : Buf (Elt F) ((c : Thread nD τ).loc main_v1) :=
  (halfM (mate c)).view.read (Elt F) (m ((mate c : Thread nD τ).loc main_arg0))

def argPts (c : Dev nD) : sProp (MS F) := ((c : Thread nD τ).loc main_arg0) ↦{fullShare} m ((c : Thread nD τ).loc main_arg0)
def resPts (c : Dev nD) (f : Buf (Elt F) ((c : Thread nD τ).loc main_v1)) : sProp (MS F) := ((c : Thread nD τ).loc main_v1) ↦{fullShare} f
/-- The half of its argument a device lends to its transfer. -/
def halfPts (c : Dev nD) : sProp (MS F) :=
  (halfM c).view.loc (c : Thread nD τ) ↦[(halfM c).view.set]{fullShare} m ((c : Thread nD τ).loc main_arg0)

/-- What it keeps of it meanwhile. -/
def keptPts (c : Dev nD) : sProp (MS F) :=
  ((c : Thread nD τ).loc main_arg0) ↦[Finset.univ \ (halfM c).view.set]{fullShare} m ((c : Thread nD τ).loc main_arg0)

theorem arg_split (c : Dev nD) : argPts m c ⊣⊢ iprop(halfPts m c ∗ keptPts m c) := pointsTo_split_subset (Finset.subset_univ _)

instance halfPts_storable (c : Dev nD) : BI.Storable (upEmb : UEmb _ (MS F)) (halfPts m c) := by unfold halfPts; infer_instance
instance resPts_storable (c : Dev nD) (f) : BI.Storable (upEmb : UEmb _ (MS F)) (resPts c f) := by unfold resPts; infer_instance

/-! ## The schedule: each cell one duty, the transfer's credit -/

def plan : Rounds.Schedule (GSem nD τ sig) Unit (MS F) where
  duties g r := if r = 0 ∧ g.1.2 = .tc then {()} else ∅
  unitless _ := False
  amount _ _ _ := N
  payload g _ _ := if g.2 = .dma gotS then resPts g.1.1 (landed m g.1.1) else halfPts m g.1.1
  amount_pos _ _ _ _ := N_pos

instance plan_storable (g : GSem nD τ sig) (r : ℕ) (d : Unit) : BI.Storable (upEmb : UEmb _ (MS F)) ((plan m).payload g r d) := by
  show BI.Storable upEmb (if g.2 = .dma gotS then resPts g.1.1 (landed m g.1.1) else halfPts m g.1.1)
  split <;> infer_instance

theorem duties_now (c : Dev nD) (sm : SemLoc sig) : (plan m).duties ((c : Thread nD τ), sm) 0 = {()} := by dsimp only [plan]; exact if_pos ⟨rfl, rfl⟩
theorem duties_later (g : GSem nD τ sig) (r : ℕ) (hr : 1 ≤ r) : (plan m).duties g r = ∅ := by dsimp only [plan]; exact if_neg fun h => by omega
theorem expect_now (c : Dev nD) (sm : SemLoc sig) : (plan m).expect ((c : Thread nD τ), sm) 0 = N := by
  unfold Schedule.expect Schedule.amountOf; rw [duties_now, Finset.sum_singleton]; dsimp only [plan]
theorem payload_sent (c : Dev nD) (u : Unit) : (plan m).payload (sentCell c) 0 u = halfPts m c := by dsimp only [plan]; exact if_neg sent_ne_got
theorem payload_got (c : Dev nD) (u : Unit) : (plan m).payload (gotCell c) 0 u = resPts c (landed m c) := by dsimp only [plan]; exact if_pos rfl

/-- What a wait hands over. -/
theorem handed_sent (c : Dev nD) : bigSep ((plan m).duties (sentCell c) 0 \ ∅) (fun u => (plan m).payload (sentCell c) 0 u) = halfPts m c := by
  rw [Finset.sdiff_empty, duties_now, bigSep_singleton, payload_sent]
theorem handed_got (c : Dev nD) :
    bigSep ((plan m).duties (gotCell c) 0 \ ∅) (fun u => (plan m).payload (gotCell c) 0 u) = resPts c (landed m c) := by
  rw [Finset.sdiff_empty, duties_now, bigSep_singleton, payload_got]

/-- A device owes its mate's receive cell the transfer's credit. -/
def due (c : Dev nD) : CellTallies nD τ sig Unit := tallyAt (gotCell (mate c)) () N

/-! ## What a device holds -/

/-- The cells' invariants and that their first round is reached: shared by all devices. -/
def known (K : Dev nD × Fin 2 → ℕ) : sProp (MS F) :=
  iprop((bigSep Finset.univ fun ck : Dev nD × Fin 2 => cellInv EE (plan m) (K ck) (cell ck))
    ∗ bigSep Finset.univ fun ck : Dev nD × Fin 2 => reached EE (cell ck) 0)
instance known_persistent (K : Dev nD × Fin 2 → ℕ) : BI.Persistent (known m K) := by unfold known; infer_instance

theorem known_inv (K : Dev nD × Fin 2 → ℕ) (ck : Dev nD × Fin 2) : known m K ⊢ cellInv EE (plan m) (K ck) (cell ck) := by
  have h : (bigSep Finset.univ fun ck : Dev nD × Fin 2 => cellInv EE (plan m) (K ck) (cell ck)) ⊢ cellInv EE (plan m) (K ck) (cell ck) :=
    bigSep_elim (Finset.mem_univ ck)
  unfold known
  iintro ⟨H, -⟩
  iapply h; iexact H
theorem known_reached (K : Dev nD × Fin 2 → ℕ) (ck : Dev nD × Fin 2) : known m K ⊢ reached EE (cell ck) 0 := by
  have h : (bigSep Finset.univ fun ck : Dev nD × Fin 2 => (reached EE (cell ck) 0 : sProp (MS F))) ⊢ reached EE (cell ck) 0 :=
    bigSep_elim (Finset.mem_univ ck)
  unfold known
  iintro ⟨-, H⟩
  iapply h; iexact H

/-- A device's own share before the exchange: its places in its two cells, the right to fire its send cell and its mate's receive cell, the
    credit for its receive cell, its argument and its mate's result array. -/
def mine (c : Dev nD) : sProp (MS F) :=
  iprop(atPos EE (sentCell c) 0 ∅ 0 ∗ atPos EE (gotCell c) 0 ∅ 0 ∗ dutyTok EE (sentCell c) 0 () ∗ dutyTok EE (gotCell (mate c)) 0 ()
    ∗ cred (tallyAt (gotCell c) () N) ∗ argPts m c ∗ resPts (mate c) (m ((mate c : Thread nD τ).loc main_v1)))

/-- And after it. -/
def ended (c : Dev nD) : sProp (MS F) :=
  iprop((argPts m c ∗ resPts c (landed m c)) ∗ semVal (sentCell c) 0 ∗ semVal (gotCell c) 0)

/-- The region's data: no window is staged, the holdings above go in and come out. -/
def dat (K : Dev nD × Fin 2 → ℕ) (_ : Fin 1) (c : Dev nD) : Dat τ (Elt F) Unit ℕ (UR sig nD τ) ℕ cfg0 c where
  A w := m ((cfg0.win w).arr.view.loc (c : Thread nD τ))
  after w _ := (show Fin 0 from w).elim0
  Φ t := match t with
    | ⟨0, _⟩ => iprop(known m K ∗ mine m c)
    | ⟨_ + 1, _⟩ => ended m c
  q _ := fullShare
  owed t := match t with
    | ⟨0, _⟩ => due c
    | ⟨_ + 1, _⟩ => 0

/-! ## The body -/

/-- Writing a transfer over the whole result leaves what was sent. -/
theorem write_res (c : Dev nD) (fd : Buf (Elt F) ((mate c : Thread nD τ).loc main_v1)) :
    (resM : Memref sig .tc .hbm S4x1024x2816 .bf16).view.write (Elt F) fd ((halfM c).view.read (Elt F) (m ((c : Thread nD τ).loc main_arg0))) Finset.univ
      = landed m (mate c) := by
  unfold landed
  rw [mate_mate]
  exact View.write_whole_univ _ _ _

theorem sound_body (K : Dev nD × Fin 2 → ℕ) (c : Dev nD) (W : Waits sig Unit) (Kt : PUnit → sProp (MS F)) :
    iprop((known m K ∗ mine m c ∗ owes (c : Thread nD τ) (due c) W)
        ∗ ((ended m c ∗ ∃ W', owes (c : Thread nD τ) 0 W') -∗ Kt ⟨⟩))
      ⊢ wp frame (wpE (defs₀ (F := F)) Variants.none c none) Set.univ
          (cc0_ffn_swap (Memref.whole main_arg0) (Memref.isWhole_whole _) (Memref.whole main_v1) (Memref.isWhole_whole _) cc0_scratch0 cc0_scratch1) Kt := by
  simp only [cc0_ffn_swap_eq_skeleton, cc0_ffn_swap_skel, k0_part1_eq_skeleton, k0_part1_skel]
  simp only [Prog.lift, Prog.bind_op, Prog.bind_ret, Prog.pure_eq_ret, wp_deviceId]
  unfold mine due
  iintro ⟨⟨#HK, ⟨HaS, HaG, HtS, HtG, Hcr, Harg, Hres⟩, HO⟩, Hk⟩
  ihave #HIS := (known_inv m K (c, 0)) $$ HK
  ihave #HIG := (known_inv m K (c, 1)) $$ HK
  ihave #HIM := (known_inv m K (mate c, 1)) $$ HK
  ihave #HrS := (known_reached m K (c, 0)) $$ HK
  ihave #HrM := (known_reached m K (mate c, 1)) $$ HK
  ihave Ha := (arg_split m c).1 $$ Harg
  icases Ha with ⟨Hhalf, Hrest⟩
  unfold halfPts resPts
  iapply (Rounds.wp_send_pointsTo Variants.none EE (plan m) (c : Thread nD τ) none (κ₁ := K (c, 0)) (κ₂ := K (mate c, 1))
    (c' := (mate c : Thread nD τ)) (src := halfM c) (dst := resM)
    (r₁ := 0) (r₂ := 0) (d₁ := ()) (d₂ := ()) (fs := m ((c : Thread nD τ).loc main_arg0)) (fd := m ((mate c : Thread nD τ).loc main_v1)) (q := fullShare)
    (by rw [duties_now]; exact Finset.mem_singleton_self _) (by rw [duties_now]; exact Finset.mem_singleton_self _)
    () () N rfl rfl rfl 0 (zero_add _).symm (W := W)
    (by rw [payload_sent]; unfold halfPts; exact BI.Entails.refl _)
    (by rw [payload_got, View.set_whole, write_res]; unfold resPts; exact BI.Entails.refl _)) $$ [Hhalf Hres HO HtS HtG]
  · isplitr; · iexact HIS
    isplitr; · iexact HIM
    isplitl [Hhalf]; · iexact Hhalf
    isplitl [Hres]; · rw [View.set_whole]; iexact Hres
    isplitl [HO]; · iexact HO
    isplitl [HtS]; · iexact HtS
    isplitr; · iexact HrS
    isplitl [HtG]; · iexact HtG
    iexact HrM
  iintro ⟨HcS, HO⟩
  iapply (Rounds.wp_wait_rest_token Variants.none EE (plan m) (c : Thread nD τ) none (κ := K (c, 0)) (sm := .dma sentS)
      (wpE_waitDma2_eq Variants.none (c : Thread nD τ) none Set.univ) (Set.mem_univ _) () (O := 0) (W := W) (R := 0) (m := 0) (T := ∅)
      (k' := (halfM c).view.dmaCredit) ((Nat.zero_add _).trans ((N_half c).trans (expect_now m c _).symm))) $$ [HcS HO HaS]
  · isplitr; · iexact HIS
    isplitl [HcS]; · rw [N_half]; iexact HcS
    isplitl [HO]; · iexact HO
    isplitr; · rw [MayWait_zero]; iempintro
    iexact HaS
  iintro ⟨HO, HaS, -, Hpay⟩
  ihave Hhalf := (Entails.of_eq (handed_sent m c)) $$ Hpay
  ihave Harg := (arg_split m c).2 $$ [Hhalf Hrest]
  · isplitl [Hhalf] <;> iassumption
  iapply (Rounds.wp_wait_rest_token Variants.none EE (plan m) (c : Thread nD τ) none (κ := K (c, 1)) (sm := .dma gotS)
      (wpE_waitDma2_eq Variants.none (c : Thread nD τ) none Set.univ) (Set.mem_univ _) () (O := 0)
      (W := insert (SemLoc.dma sentS, ()) W) (R := 0) (m := 0) (T := ∅)
      (k' := (resM : Memref sig .tc .hbm S4x1024x2816 .bf16).view.dmaCredit) ((Nat.zero_add _).trans (N_res.trans (expect_now m c _).symm)))
      $$ [Hcr HO HaG]
  · isplitr; · iexact HIG
    isplitl [Hcr]; · rw [N_res]; iexact Hcr
    isplitl [HO]; · iexact HO
    isplitr; · rw [MayWait_zero]; iempintro
    iexact HaG
  iintro ⟨HO, HaG, -, Hpay⟩
  ihave Hres := (Entails.of_eq (handed_got m c)) $$ Hpay
  imod (Rounds.cell_close EE (plan m) (Set.mem_univ (K (c, 0))) (fun h => h) (R := 0 + 1) (duties_later m (sentCell c))) $$ [HaS] with HzS
  · isplitr; · iexact HIS
    iexact HaS
  imod (Rounds.cell_close EE (plan m) (Set.mem_univ (K (c, 1))) (fun h => h) (R := 0 + 1) (duties_later m (gotCell c))) $$ [HaG] with HzG
  · isplitr; · iexact HIG
    iexact HaG
  rw [wp_ret]; imodintro
  iapply Hk
  isplitr [HO]
  · unfold ended
    isplitl [Harg Hres]
    · isplitl [Harg] <;> iassumption
    isplitl [HzS] <;> iassumption
  · iexists _; iexact HO

/-- The region stages no window. -/
theorem none_W (Φ : Fin cfg0.W → sProp (MS F)) : bigSep Finset.univ Φ = BI.emp := by
  rw [show (Finset.univ : Finset (Fin cfg0.W)) = ∅ from rfl, BI.bigSep_empty]

theorem body_obligation (K : Dev nD × Fin 2 → ℕ) (c : Dev nD) :
    BodyObligation (dat m K 0 c) (defs₀ (F := F)) Variants.none () Set.univ := fun t => by
  rw [fin_N0 t, none_W, none_W]
  show iprop((known m K ∗ mine m c) ∗ (dat m K 0 c).owesAt () (t0_0 : Fin cfg0.N).castSucc ∗ emp)
    ⊢ wp frame (wpE (defs₀ (F := F)) Variants.none c none) Set.univ
      (cc0_ffn_swap (Memref.whole main_arg0) (Memref.isWhole_whole _) (Memref.whole main_v1) (Memref.isWhole_whole _) cc0_scratch0 cc0_scratch1)
      (fun _ => iprop(ended m c ∗ (dat m K 0 c).owesAt () (t0_0 : Fin cfg0.N).succ ∗ emp))
  unfold Dat.owesAt Pipeline.owesWithin
  rw [show (dat m K 0 c).owed (t0_0 : Fin cfg0.N).castSucc = due c from rfl, show (dat m K 0 c).owed (t0_0 : Fin cfg0.N).succ = 0 from rfl]
  iintro ⟨⟨#HK, Hm⟩, ⟨%W, %hW, HO⟩, -⟩
  iapply (sound_body m K c W)
  isplitl [Hm HO]
  · isplitr; · iexact HK
    isplitl [Hm] <;> iassumption
  · iintro ⟨HE, ⟨%W', HO⟩⟩
    isplitl [HE]; · iexact HE
    isplitl [HO]
    · iexists W'
      isplitr; · ipureintro; exact fun _ _ => Or.inl trivial
      iexact HO
    iempintro

/-! ## The launch -/

theorem own_facts : Pipeline.OwnSemFacts cfg0.spec sems := by decide

theorem cell_injective : Function.Injective (cell : Dev nD × Fin 2 → GSem nD τ sig) := by
  rintro ⟨c, k⟩ ⟨d, l⟩ h
  have h1 : c = d := congrArg (fun g : GSem nD τ sig => g.1.1) h
  have h2 : sems k = sems l := congrArg Prod.snd h
  have h3 : ∀ k l : Fin 2, sems k = sems l → k = l := by decide
  rw [h1, h3 k l h2]

def cells : Finset (GSem nD τ sig) := Finset.univ.map ⟨cell, cell_injective⟩
def tokens : Finset (GSem nD τ sig × ℕ × Unit) :=
  Finset.univ.map ⟨fun ck : Dev nD × Fin 2 => (cell ck, 0, ()), fun _ _ h => cell_injective (congrArg Prod.fst h)⟩
def start : UR sig nD τ := initOf cells tokens

/-- The cells' states, places and tokens, from the launch's ghost state. -/
theorem funded : (ownU start : sProp (MS F)) ⊢ |==> iprop((bigSep Finset.univ fun ck : Dev nD × Fin 2 => roundState EE (plan m) (cell ck) 0)
    ∗ (bigSep Finset.univ fun ck : Dev nD × Fin 2 => reached EE (cell ck) 0)
    ∗ (bigSep Finset.univ fun ck : Dev nD × Fin 2 => atPos EE (cell ck) 0 ∅ 0)
    ∗ bigSep Finset.univ fun ck : Dev nD × Fin 2 => dutyTok EE (cell ck) 0 ()) := by
  have hX (Φ : GSem nD τ sig → sProp (MS F)) : bigSep cells Φ = bigSep Finset.univ fun ck : Dev nD × Fin 2 => Φ (cell ck) := by
    unfold cells; rw [bigSep_map]; rfl
  have hT : bigSep tokens (fun x => (dutyTok EE x.1 x.2.1 x.2.2 : sProp (MS F))) = bigSep Finset.univ fun ck : Dev nD × Fin 2 => dutyTok EE (cell ck) 0 () := by
    unfold tokens; rw [bigSep_map]; rfl
  have h := Rounds.fund EE (plan m) cells tokens
  rw [hX, hX, hX, hT] at h
  exact h

theorem of_two (Φ : Fin 2 → sProp (MS F)) : bigSep Finset.univ Φ = iprop(Φ 0 ∗ Φ 1) := bigSep_univ_eq_bigSepL [0, 1] (by decide) (by decide) Φ

/-- One conjunct per device and cell is one per device of the first cell, and of the second. -/
theorem by_two (Φ : Dev nD × Fin 2 → sProp (MS F)) :
    bigSep Finset.univ Φ = iprop((bigSep Finset.univ fun c : Dev nD => Φ (c, 0)) ∗ bigSep Finset.univ fun c : Dev nD => Φ (c, 1)) := by
  rw [bigSep_univ_prod, ← bigSep_sep']
  exact bigSep_congr fun c _ => of_two fun k => Φ (c, k)

/-- A device's places and tokens. -/
def held (c : Dev nD) : sProp (MS F) :=
  iprop(atPos EE (sentCell c) 0 ∅ 0 ∗ atPos EE (gotCell c) 0 ∅ 0 ∗ dutyTok EE (sentCell c) 0 () ∗ dutyTok EE (gotCell (mate c)) 0 ())

theorem dealt : iprop((bigSep Finset.univ fun ck : Dev nD × Fin 2 => semVal (cell ck) 0) ∗ ownU start)
    ⊢ (|={Set.univ}=> ∃ K, known m K ∗ bigSep Finset.univ fun c : Dev nD => held c : sProp (MS F)) := by
  have halloc : iprop((bigSep Finset.univ fun ck : Dev nD × Fin 2 => semVal (cell ck) 0) ∗ bigSep Finset.univ fun ck : Dev nD × Fin 2 => roundState EE (plan m) (cell ck) 0)
      ⊢ (|={Set.univ}=> bigSep Finset.univ fun ck => iprop(∃ κ : ℕ, cellInv EE (plan m) κ (cell ck)) : sProp (MS F)) := by
    rw [← bigSep_sep']
    exact (bigSep_mono fun ck _ => (Rounds.body_intro EE (plan m) (cell ck)).trans inv_alloc).trans (bigSep_fupd _ _)
  iintro ⟨Hv, Hu⟩
  imod (funded m) $$ Hu with ⟨Hst, #Hr, Hat, Htok⟩
  imod halloc $$ [Hv Hst] with HI
  · isplitl [Hv] <;> iassumption
  ihave HK := (BI.bigSep_exists_pi Finset.univ (fun (ck : Dev nD × Fin 2) (κ : ℕ) => (cellInv EE (plan m) κ (cell ck) : sProp (MS F)))) $$ HI
  icases HK with ⟨%K, #HI⟩
  ihave Ha := (Entails.of_eq (by_two fun ck => (atPos EE (cell ck) 0 ∅ 0 : sProp (MS F)))) $$ Hat
  ihave Ht := (Entails.of_eq (by_two fun ck => (dutyTok EE (cell ck) 0 () : sProp (MS F)))) $$ Htok
  icases Ha with ⟨HaS, HaG⟩
  icases Ht with ⟨HtS, HtG⟩
  ihave HtM := (Entails.of_eq (bigSep_univ_equiv mates fun c : Dev nD => (dutyTok EE (gotCell c) 0 () : sProp (MS F)))) $$ HtG
  imodintro
  iexists K
  isplitr
  · unfold known
    isplitl; · iexact HI
    iexact Hr
  · unfold held
    rw [bigSep_sep', bigSep_sep', bigSep_sep']
    isplitl [HaS]; · iexact HaS
    isplitl [HaG]; · iexact HaG
    isplitl [HtS]; · iexact HtS
    iexact HtM

/-! ### The launch credit -/

theorem due_got (d c : Dev nD) : due d (gotCell c) () = if d = mate c then N else 0 := by
  unfold due
  rw [tallyAt_apply]
  by_cases h : d = mate c
  · subst h; rw [mate_mate, if_pos ⟨rfl, rfl⟩, if_pos rfl]
  · rw [if_neg h, if_neg]
    rintro ⟨h1, -⟩
    have h2 : c = mate d := congrArg (fun g : GSem nD τ sig => g.1.1) h1
    exact h (by rw [h2, mate_mate])

theorem launch_got (c : Dev nD) :
    tallyOn (gotCell c) (launchCredit (Pipeline.owing due) 0 (gotCell c)) = (tallyAt (gotCell c) () N : CellTallies nD τ sig Unit) := by
  unfold tallyAt; refine congrArg _ (Finsupp.ext fun u => ?_); cases u
  rw [Pipeline.launchCredit_owing, Finsupp.single_eq_same, Finset.sum_congr rfl fun d _ => due_got d c, Finset.sum_ite_eq' Finset.univ (mate c) fun _ => N,
    if_pos (Finset.mem_univ _)]

theorem credit (c : Dev nD) : (Pipeline.launchCred due c : sProp (MS F)) ⊢ cred (tallyAt (gotCell c) () N) := by
  unfold Pipeline.launchCred
  rw [← launch_got]
  exact bigSep_elim (Finset.mem_univ (SemLoc.dma gotS))

/-! ### What each device starts from -/

/-- The scoped semaphores that are neither of the two. -/
abbrev idle (c : Dev nD) : sProp (MS F) := Pipeline.idleSems0 cfgs cellOf_inj 0 own_facts c

theorem sems_split (c : Dev nD) : (scopedSems0 (c : Thread nD τ) : sProp (MS F))
    = iprop((Pipeline.cellsSems0 cfgs 0 c ∗ Pipeline.ownSems0 sems c) ∗ idle c) :=
  Pipeline.scopedSems0_split cfgs cellOf_inj 0 winFacts0.to₀ own_facts c

theorem bufs_split (c : Dev nD) : (scopedBufs (c : Thread nD τ) : sProp (MS F)) = iprop(Dat.staging cfg0 c ∗ Pipeline.scopedRest cfg0.spec c) :=
  Pipeline.scopedBufs_split cfgs 0 winFacts0.stage_scoped winFacts0.stage_inj stage_whole0 c

theorem sems_two (c : Dev nD) : (Pipeline.ownSems0 sems c : sProp (MS F)) = iprop(semVal (sentCell c) 0 ∗ semVal (gotCell c) 0) :=
  of_two fun k : Fin 2 => semVal (cell (c, k)) 0

theorem arrays_two (c : Dev nD) : (unscopedBufs c fun b => m ((c : Thread nD τ).loc b) : sProp (MS F))
    = iprop(argPts m c ∗ resPts c (m ((c : Thread nD τ).loc main_v1))) := by
  rw [Pipeline.unscopedBufs_split cfgs 0 winFacts0.arr_unscoped winFacts0.arr_inj c, none_W, unscopedRest0_eq]
  exact equiv_iff.mp BI.emp_sep

theorem core_start (c : Dev nD) :
    coreInit (Ix := Unit) (Name := ℕ) (U := UR sig nD τ) (Lvl := ℕ) (Pipeline.owing due) 0 (⟨m, fun _ => 0, ρ⟩ : MemSt nD τ sig (Elt F)) (c : Thread nD τ)
      ⊢ (iprop((scopedBufs (c : Thread nD τ) ∗ idle c ∗ owes (c : Thread nD τ) (due c) ∅ ∗ cred (tallyAt (gotCell c) () N) ∗ argPts m c)
        ∗ resPts c (m ((c : Thread nD τ).loc main_v1)) ∗ semVal (sentCell c) 0 ∗ semVal (gotCell c) 0) : sProp (MS F)) := by
  refine (Pipeline.coreInit_boundary_owing due m ρ c).trans ?_
  unfold boundary
  rw [sems_split, sems_two, arrays_two]
  iintro ⟨⟨Hsc, ⟨⟨-, HzS, HzG⟩, Hidle⟩, -⟩, ⟨Ha, Hr⟩, -, HO, -, -, Hcr⟩
  ihave Hcr := (credit c) $$ Hcr
  isplitl [Hsc Hidle HO Hcr Ha]
  · isplitl [Hsc]; · iexact Hsc
    isplitl [Hidle]; · iexact Hidle
    isplitl [HO]; · iexact HO
    isplitl [Hcr] <;> iassumption
  isplitl [Hr]; · iexact Hr
  isplitl [HzS] <;> iassumption

/-- What a device's run starts from. -/
def pre (K : Dev nD × Fin 2 → ℕ) (c : Dev nD) : sProp (MS F) :=
  iprop(scopedBufs (c : Thread nD τ) ∗ idle c ∗ owes (c : Thread nD τ) (due c) ∅ ∗ known m K ∗ mine m c)
/-- And what it ends with. -/
def fin (c : Dev nD) : sProp (MS F) := iprop((argPts m c ∗ resPts c (landed m c)) ∗ scopedSems0 (c : Thread nD τ))

theorem pre_one (K : Dev nD × Fin 2 → ℕ) (c : Dev nD) :
    iprop(known m K ∗ ((scopedBufs (c : Thread nD τ) ∗ idle c ∗ owes (c : Thread nD τ) (due c) ∅ ∗ cred (tallyAt (gotCell c) () N) ∗ argPts m c)
      ∗ resPts (mate c) (m ((mate c : Thread nD τ).loc main_v1)) ∗ held c)) ⊢ pre m K c := by
  unfold pre mine held
  iintro ⟨#HK, ⟨Hsc, Hidle, HO, Hcr, Harg⟩, Hr, HaS, HaG, HtS, HtG⟩
  isplitl [Hsc]; · iexact Hsc
  isplitl [Hidle]; · iexact Hidle
  isplitl [HO]; · iexact HO
  isplitr; · iexact HK
  isplitl [HaS]; · iexact HaS
  isplitl [HaG]; · iexact HaG
  isplitl [HtS]; · iexact HtS
  isplitl [HtG]; · iexact HtG
  isplitl [Hcr]; · iexact Hcr
  isplitl [Harg]; · iexact Harg
  iexact Hr

theorem start_all : iprop((bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ∗ ownU start)
    ⊢ (|={Set.univ}=> ∃ K, bigSep Finset.univ (pre m K) ∗ emp : sProp (MS F)) := by
  have hcores : (bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ⊢ (iprop((bigSep Finset.univ fun c : Dev nD =>
            iprop(scopedBufs (c : Thread nD τ) ∗ idle c ∗ owes (c : Thread nD τ) (due c) ∅ ∗ cred (tallyAt (gotCell c) () N) ∗ argPts m c))
          ∗ (bigSep Finset.univ fun c : Dev nD => resPts c (m ((c : Thread nD τ).loc main_v1)))
          ∗ bigSep Finset.univ fun ck : Dev nD × Fin 2 => semVal (cell ck) 0) : sProp (MS F)) := by
    rw [by_two fun ck => (semVal (cell ck) 0 : sProp (MS F)), ← bigSep_sep', ← bigSep_sep', ← bigSep_sep']
    exact bigSep_mono fun c _ => core_start m ρ c
  have hall (K : Dev nD × Fin 2 → ℕ) : iprop(known m K ∗ ((bigSep Finset.univ fun c : Dev nD =>
            iprop(scopedBufs (c : Thread nD τ) ∗ idle c ∗ owes (c : Thread nD τ) (due c) ∅ ∗ cred (tallyAt (gotCell c) () N) ∗ argPts m c))
          ∗ (bigSep Finset.univ fun c : Dev nD => resPts (mate c) (m ((mate c : Thread nD τ).loc main_v1)))
          ∗ bigSep Finset.univ fun c : Dev nD => held c)) ⊢ (bigSep Finset.univ (pre m K) : sProp (MS F)) := by
    rw [← bigSep_sep', ← bigSep_sep']
    refine (sep_mono_left (BI.bigSep_of_persistent (Finset.univ : Finset (Dev nD)) (known m K))).trans ?_
    rw [← bigSep_sep']
    exact bigSep_mono fun c _ => pre_one m K c
  iintro ⟨Hc, Hu⟩
  ihave H := hcores $$ Hc
  icases H with ⟨Hown, Hres, Hz⟩
  imod (dealt m) $$ [Hz Hu] with ⟨%K, #HK, Hh⟩
  · isplitl [Hz] <;> iassumption
  ihave Hr := (Entails.of_eq (bigSep_univ_equiv mates fun c : Dev nD => resPts c (m ((c : Thread nD τ).loc main_v1)))) $$ Hres
  imodintro
  iexists K
  isplitr []
  · iapply (hall K)
    isplitr; · iexact HK
    isplitl [Hown]; · iexact Hown
    isplitl [Hr]; · iexact Hr
    iexact Hh
  · iempintro

/-! ## The run -/

abbrev adm : (p : Fin 1) → (pcfgs (F := F) p).Adm := fun p => (cfgs p).toPCfg_adm

/-- What the region's entry asks for: of a kernel without windows, only the device's dues. -/
theorem entry_pre (K : Dev nD × Fin 2 → ℕ) (c : Dev nD) :
    owes (c : Thread nD τ) (due c) ∅ ⊢ (Pipeline.EntryPre cfgs (dat m K) () EE (fun _ => 0) 0 c : sProp (MS F)) := by
  have ha : ((dat m K 0 c).arrays ((dat m K 0 c).arrAt · 0) : sProp (MS F)) = BI.emp := none_W _
  have hw : (Pipeline.PerCore.cellsWaits (fun _ => cfgs) (dat m K) () 0 c : sProp (MS F)) = BI.emp := none_W _
  have hi : (Pipeline.PerCore.cellsInit (fun _ => cfgs) (dat m K) EE (fun _ => 0) 0 c : sProp (MS F)) = BI.emp := none_W _
  have ht : (Pipeline.PerCore.toksInit (fun _ => cfgs) EE 0 c : sProp (MS F)) = BI.emp := none_W _
  unfold Pipeline.EntryPre Pipeline.PerCore.EntryPre
  rw [ha, hw, hi, ht]
  unfold Dat.owesAt Pipeline.owesWithin
  rw [show (dat m K 0 c).owed 0 = due c from rfl]
  iintro HO
  isplitr; · iempintro
  isplitl [HO]
  · iexists ∅; isplitr; · ipureintro; rw [Finset.coe_empty]; exact Set.empty_subset _
    iexact HO
  isplitr; · iempintro
  isplitr; · iempintro
  iempintro

/-- What the region leaves: nothing due. -/
theorem entry_post (K : Dev nD × Fin 2 → ℕ) (c : Dev nD) :
    Pipeline.EntryPost cfgs (dat m K) () 0 c ⊢ (iprop(∃ W, owes (c : Thread nD τ) 0 W) : sProp (MS F)) := by
  unfold Pipeline.EntryPost Pipeline.PerCore.EntryPost Dat.owesAt Pipeline.owesWithin
  rw [show (dat m K 0 c).owed (Fin.last (cfgs 0).N) = 0 from rfl]
  iintro ⟨-, %W, -, HO⟩
  iexists W
  iexact HO

/-- There is no prefetched table to hold. -/
theorem no_pref (c : Dev nD) (q : Fin (pcfgs (F := F) 0).pre.K → PosShare TreeShare) (V : (pcfgs (F := F) 0).pre.Contents (Elt F)) :
    (Pipeline.prefHeld (pcfgs (F := F) 0).pre c q V : sProp (MS F)) = BI.emp := by
  unfold Pipeline.prefHeld
  rw [show (Finset.univ : Finset (Fin (pcfgs (F := F) 0).pre.K)) = ∅ from rfl, BI.bigSep_empty]

/-- The region on one device. -/
theorem region (K : Dev nD × Fin 2 → ℕ) (c : Dev nD)
    (hout : iprop((dat m K 0 c).Φ (Fin.last cfg0.N) ∗ Pipeline.cellsSems0 cfgs 0 c ∗ Dat.staging cfg0 c ∗ idle c)
      ⊢ iprop((argPts m c ∗ resPts c (landed m c)) ∗ scopedSems0 (c : Thread nD τ) ∗ scopedBufs (c : Thread nD τ)))
    (Q : PUnit → sProp (MS F)) :
    iprop(Pipeline.EntryPre cfgs (dat m K) () EE (fun _ => 0) 0 c ∗ Pipeline.prefHeld (pcfgs (F := F) 0).pre c (fun _ => fullShare.right) (adm (F := F) 0).1
        ∗ (known m K ∗ mine m c) ∗ idle c ∗ scopedBufs (c : Thread nD τ))
      ⊢ iprop(((Pipeline.EntryPost cfgs (dat m K) () 0 c ∗ (argPts m c ∗ resPts c (landed m c)) ∗ scopedSems0 (c : Thread nD τ) ∗ scopedBufs (c : Thread nD τ))
          -∗ wp frame (wpE (Pipeline.defs pcfgs defs₀) (Variants.lift Variants.none) (c : Thread nD τ) none) Set.univ (.ret ⟨⟩) Q)
        -∗ wp frame (wpE (Pipeline.defs pcfgs defs₀) (Variants.lift Variants.none) (c : Thread nD τ) none) Set.univ
            (.op (.customCall (Pipeline.entry 0) ()) fun _ => .ret ⟨⟩) Q) := by
  have h1 : Pipeline.BodyObligationLoose (dat m K 0 c) (defs₀ (F := F)) Variants.none () Set.univ := (body_obligation m K c).loose
  have h2 : iprop((known m K ∗ mine m c) ∗ Pipeline.prefHeld (pcfgs (F := F) 0).pre c (fun _ => fullShare.right) (adm (F := F) 0).1
      ∗ Pipeline.scopedRest cfg0.spec c) ⊢ (dat m K 0 c).Φ 0 := by
    rw [show (dat m K 0 c).Φ 0 = iprop(known m K ∗ mine m c) from rfl]
    iintro ⟨HX, -, -⟩; iexact HX
  have h3 : ∀ w : Fin cfg0.W, 0 < (cfg0.win w).block.numel := fun w => (show Fin 0 from w).elim0
  have h4 := Entails.of_eq (bufs_split (F := F) c)
  exact Pipeline.wp_customCall_entry_frame pcfgs adm (dat m K) () EE (fun _ => 0) cellOf_inj 0 defs₀ Variants.none (fun _ => fullShare.right) c Set.univ
      (fun _ _ => Set.mem_univ _) h1 h3 none (fun u h => nomatch h) h4 h2 hout

/-- Each device's run. -/
theorem device_run (K : Dev nD × Fin 2 → ℕ) (c : Dev nD) :
    pre m K c ⊢ wp frame (wpE (defs (F := F)) (Variants.lift Variants.none) (c : Thread nD τ) none) Set.univ (main (F := F) c)
      (fun _ => post (liftTc (fin m) BI.emp) (c : Thread nD τ)) := by
  have hout : iprop((dat m K 0 c).Φ (Fin.last cfg0.N) ∗ Pipeline.cellsSems0 cfgs 0 c ∗ Dat.staging cfg0 c ∗ idle c)
      ⊢ iprop((argPts m c ∗ resPts c (landed m c)) ∗ scopedSems0 (c : Thread nD τ) ∗ scopedBufs (c : Thread nD τ)) := by
    rw [show (dat m K 0 c).Φ (Fin.last cfg0.N) = ended m c from rfl, sems_split, bufs_split, scopedRest0_eq, sems_two]
    unfold ended
    iintro ⟨⟨HY, HzS, HzG⟩, Hcells, Hst, Hidle⟩
    isplitl [HY]; · iexact HY
    isplitl [HzS HzG Hcells Hidle]
    · isplitr [Hidle]
      · isplitl [Hcells]; · iexact Hcells
        isplitl [HzS] <;> iassumption
      · iexact Hidle
    isplitl [Hst]; · iexact Hst
    iempintro
  rw [show main (F := F) c = .op (.customCall (Pipeline.entry 0) ()) fun _ => .ret ⟨⟩ from rfl]
  unfold pre
  iintro ⟨Hsc, Hidle, HO, #HK, Hm⟩
  iapply (region m K c hout) $$ [Hsc Hidle HO Hm]
  · isplitl [HO]
    · iapply (entry_pre m K c); iexact HO
    isplitr
    · iapply (Entails.of_eq (no_pref c _ _).symm); iempintro
    isplitl [Hm]
    · isplitr; · iexact HK
      iexact Hm
    isplitl [Hidle] <;> iassumption
  iintro ⟨Hpost, HY, Hss, -⟩
  rw [wp_ret]; imodintro
  unfold post; simp only [liftTc_tc]
  unfold fin
  isplitl [HY Hss]
  · isplitl [HY] <;> iassumption
  · iapply (entry_post m K c); iexact Hpost

/-- What a device ends with tells the two buffers and that its semaphores are back at zero. -/
theorem fin_read (c : Dev nD) (s' : Phys nD τ sig (Elt F)) : iprop(fin m c ∗ SI s') ⊢ (|={Set.univ}=>
    iprop(⌜(s'.mem.mem ((c : Thread nD τ).loc main_v1) = landed m c ∧ s'.mem.mem ((c : Thread nD τ).loc main_arg0) = m ((c : Thread nD τ).loc main_arg0))
      ∧ ∀ sm : SemLoc sig, sm.isScoped .tc = true → s'.mem.sem ((c : Thread nD τ), sm) = 0⌝ ∗ SI s') : sProp (MS F)) := by
  unfold fin argPts resPts
  iintro ⟨⟨⟨Ha, Hr⟩, Hss⟩, HSI⟩
  ihave %hz := (tcScoped_read_pers c s') $$ [Hss HSI]
  · isplitl [Hss] <;> iassumption
  ihave HA := (pointsTo_read_all ({()} : Finset Unit) (fun _ => (c : Thread nD τ).loc main_arg0) (fun _ => m ((c : Thread nD τ).loc main_arg0)) s') $$ [Ha HSI]
  · isplitl [Ha]; · rw [BI.bigSep_singleton]; iexact Ha
    iexact HSI
  icases HA with ⟨%ha, HSI⟩
  ihave HR := (pointsTo_read_all ({()} : Finset Unit) (fun _ => (c : Thread nD τ).loc main_v1) (fun _ => landed m c) s') $$ [Hr HSI]
  · isplitl [Hr]; · rw [BI.bigSep_singleton]; iexact Hr
    iexact HSI
  icases HR with ⟨%hr, HSI⟩
  imodintro
  isplitr
  · ipureintro; exact ⟨⟨hr () (Finset.mem_singleton_self _), ha () (Finset.mem_singleton_self _)⟩, hz⟩
  · iexact HSI

/-- The run of the whole mesh: every device's result is the half its neighbour sent, the argument is as it was, and every
    semaphore is back at zero. -/
theorem run (ρ) : θ_run (defs (F := F)) (onTc (τ := τ) (main (F := F))) ⟨m, fun _ => 0, ρ⟩
    (fun r => (∀ c : Dev nD, r.2.mem ((c : Thread nD τ).loc main_v1) = landed m c
      ∧ r.2.mem ((c : Thread nD τ).loc main_arg0) = m ((c : Thread nD τ).loc main_arg0)) ∧ r.2.sem = fun _ => 0) := by
  refine adequate_tpu (defs (F := F)) _ _ _ (reflect_intro_fupd_tc_sems (X := Dev nD × Fin 2 → ℕ) (Variants.lift Variants.none) (Pipeline.owing due) 0
    (noBookings fun _ => le_rfl) (Pipeline.owing_of_ne due) start (pre m) (fun _ => fin m) (fun _ => iprop(emp)) Set.univ (start_all m ρ) (device_run m) fun _ => ?_)
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => (h c (Finset.mem_univ c)).1, sem_eq_zero_of_scoped (by decide) (sems_of_reads (fun c => (h c (Finset.mem_univ c)).2) hsc)⟩

end Cert.SwpProof

end
-- ==== Proof.SwpRef.lean ====
/-  The swap of half panels as the reference states it: the panels of all devices in one array, cut into chips, devices, panels and halves;
    each device of the result holds the half of its mate's panels that it keeps. -/
module

public import proofs.«01_k».proof.Proof.Gen.SwpReferenceIdeal.Read
public import Idealize.ShloMosaic.Lib.Pointwise

@[expose] public section

set_option maxRecDepth 16384

noncomputable section

open Idealize.ShloMosaic Idealize.ShloMosaic.TcCoe Idealize.SL.Sem

namespace Cert.SwpReferenceIdeal.Val

open Cert.SwpReferenceIdeal Cert.SwpReferenceIdeal.Gen Cert.SwpReferenceIdeal.Read

variable {F : FTy → Type} [FloatOps F]

abbrev TX (F : FTy → Type) := (⟨S32x2048x2816, .bf16⟩ : BufTy).Contents (Elt F)

/-- Chip, device of the chip, panel, half, row, column. -/
def at6 (q : Fin 4) (p : Fin 2) (j : Fin 4) (s : Fin 2) (r : Fin 1024) (e : Fin 2816) : S4x2x4x2x1024x2816.Idx
  | ⟨0, _⟩ => q | ⟨1, _⟩ => p | ⟨2, _⟩ => j | ⟨3, _⟩ => s | ⟨4, _⟩ => r | ⟨5, _⟩ => e
/-- The same after one device and one half are picked. -/
def one6 (q : Fin 4) (j : Fin 4) (r : Fin 1024) (e : Fin 2816) : S4x1x4x1x1024x2816.Idx
  | ⟨0, _⟩ => q | ⟨1, _⟩ => (0 : Fin 1) | ⟨2, _⟩ => j | ⟨3, _⟩ => (0 : Fin 1) | ⟨4, _⟩ => r | ⟨5, _⟩ => e
def at4 (q : Fin 4) (j : Fin 4) (r : Fin 1024) (e : Fin 2816) : S4x4x1024x2816.Idx
  | ⟨0, _⟩ => q | ⟨1, _⟩ => j | ⟨2, _⟩ => r | ⟨3, _⟩ => e
def one5 (q : Fin 4) (j : Fin 4) (r : Fin 1024) (e : Fin 2816) : S4x1x4x1024x2816.Idx
  | ⟨0, _⟩ => q | ⟨1, _⟩ => (0 : Fin 1) | ⟨2, _⟩ => j | ⟨3, _⟩ => r | ⟨4, _⟩ => e
def at5 (q : Fin 4) (p : Fin 2) (j : Fin 4) (r : Fin 1024) (e : Fin 2816) : S4x2x4x1024x2816.Idx
  | ⟨0, _⟩ => q | ⟨1, _⟩ => p | ⟨2, _⟩ => j | ⟨3, _⟩ => r | ⟨4, _⟩ => e
/-- The other device of the chip. -/
def other (p : Fin 2) : Fin 2 := ⟨1 - p.val, by omega⟩
/-- A panel of the whole array. -/
def panel (q : Fin 4) (p : Fin 2) (j : Fin 4) : Fin 32 := ⟨8 * q.val + 4 * p.val + j.val, by omega⟩
/-- A row of a panel. -/
def row (s : Fin 2) (r : Fin 1024) : Fin 2048 := ⟨1024 * s.val + r.val, by omega⟩
def argAt (q : Fin 4) (p : Fin 2) (j : Fin 4) (s : Fin 2) (r : Fin 1024) (e : Fin 2816) : S32x2048x2816.Idx
  | ⟨0, _⟩ => panel q p j | ⟨1, _⟩ => row s r | ⟨2, _⟩ => e
def resAt (q : Fin 4) (p : Fin 2) (j : Fin 4) (r : Fin 1024) (e : Fin 2816) : S32x1024x2816.Idx
  | ⟨0, _⟩ => panel q p j | ⟨1, _⟩ => r | ⟨2, _⟩ => e

variable (x : TX F) (q : Fin 4) (p : Fin 2) (j : Fin 4) (s : Fin 2) (r : Fin 1024) (e : Fin 2816)

theorem v0_at : val_main_v0 (F := F) x (at6 q p j s r e) = x (argAt q p j s r e) := by
  refine shapeCast_apply x _ _ _ ?_
  rw [Shape.rowMajor_val_three, Shape.rowMajor_val_succ, Shape.rowMajor_val_five]
  show ((8 * q.val + 4 * p.val + j.val) * 2048 + (1024 * s.val + r.val)) * 2816 + e.val
    = q.val * (2 * (4 * (2 * (1024 * (2816 * 1))))) + ((((p.val * 4 + j.val) * 2 + s.val) * 1024 + r.val) * 2816 + e.val)
  omega

/-- The picked array with its two unit axes dropped and one put back. -/
theorem dropped (y : (⟨S4x1x4x1x1024x2816, .bf16⟩ : BufTy).Contents (Elt F)) :
    (shapeCast S4x4x1024x2816 y shapeCasts_S4x1x4x1x1024x2816_S4x4x1024x2816 : S4x4x1024x2816.Idx → Elt F .bf16) (at4 q j r e) = y (one6 q j r e) := by
  refine shapeCast_apply y _ _ _ ?_
  rw [Shape.rowMajor_val_four, Shape.rowMajor_val_succ, Shape.rowMajor_val_five]
  show q.val * (1 * (4 * (1 * (1024 * (2816 * 1))))) + ((((0 * 4 + j.val) * 1 + 0) * 1024 + r.val) * 2816 + e.val)
    = ((q.val * 4 + j.val) * 1024 + r.val) * 2816 + e.val
  omega

theorem v5_at : val_main_v5 (F := F) x (one5 q j r e) = x (argAt q 1 j 0 r e) := by
  rw [val_main_v5_apply, show idx_main_v5 (one5 q j r e) = at4 q j r e from funext fun a => match a with | ⟨0, _⟩ => rfl | ⟨1, _⟩ => rfl | ⟨2, _⟩ => rfl | ⟨3, _⟩ => rfl]
  refine (dropped q j r e _).trans ?_
  rw [val_main_v1_apply, show idx_main_v1 (one6 q j r e) = at6 q 1 j 0 r e from funext fun a => match a with | ⟨0, _⟩ => rfl | ⟨1, _⟩ => rfl | ⟨2, _⟩ => rfl | ⟨3, _⟩ => rfl | ⟨4, _⟩ => rfl | ⟨5, _⟩ => rfl]
  exact v0_at x q 1 j 0 r e

theorem v6_at : val_main_v6 (F := F) x (one5 q j r e) = x (argAt q 0 j 1 r e) := by
  rw [val_main_v6_apply, show idx_main_v6 (one5 q j r e) = at4 q j r e from funext fun a => match a with | ⟨0, _⟩ => rfl | ⟨1, _⟩ => rfl | ⟨2, _⟩ => rfl | ⟨3, _⟩ => rfl]
  refine (dropped q j r e _).trans ?_
  rw [val_main_v3_apply, show idx_main_v3 (one6 q j r e) = at6 q 0 j 1 r e from funext fun a => match a with | ⟨0, _⟩ => rfl | ⟨1, _⟩ => rfl | ⟨2, _⟩ => rfl | ⟨3, _⟩ => rfl | ⟨4, _⟩ => rfl | ⟨5, _⟩ => rfl]
  exact v0_at x q 0 j 1 r e

theorem v7_zero : val_main_v7 (F := F) x (at5 q 0 j r e) = x (argAt q 1 j 0 r e) :=
  (concatenate_pair_apply_left (t := S4x2x4x1024x2816) 1 (val_main_v5 (F := F) x) (val_main_v6 (F := F) x)
    concatenates_S4x1x4x1024x2816_S4x1x4x1024x2816_S4x2x4x1024x2816_d1 (at5 q 0 j r e) rfl (one5 q j r e) (fun b => match b with
    | ⟨0, _⟩ => rfl | ⟨1, _⟩ => rfl | ⟨2, _⟩ => rfl | ⟨3, _⟩ => rfl | ⟨4, _⟩ => rfl)).trans (v5_at x q j r e)

theorem v7_one : val_main_v7 (F := F) x (at5 q 1 j r e) = x (argAt q 0 j 1 r e) :=
  (concatenate_pair_apply_right (t := S4x2x4x1024x2816) 1 (val_main_v5 (F := F) x) (val_main_v6 (F := F) x)
    concatenates_S4x1x4x1024x2816_S4x1x4x1024x2816_S4x2x4x1024x2816_d1 (at5 q 1 j r e) rfl rfl (one5 q j r e) (fun b hb => match b with
    | ⟨0, _⟩ => rfl | ⟨1, _⟩ => absurd rfl hb | ⟨2, _⟩ => rfl | ⟨3, _⟩ => rfl | ⟨4, _⟩ => rfl) rfl).trans (v6_at x q j r e)

/-- What the reference's result holds for one device: the other device's panels, at the half this one keeps. -/
theorem v8_at : val_main_v8 (F := F) x (resAt q p j r e) = x (argAt q (other p) j p r e) := by
  refine (shapeCast_apply _ _ _ (at5 q p j r e) ?_).trans ?_
  · rw [Shape.rowMajor_val_three, Shape.rowMajor_val_five]
    show (((q.val * 2 + p.val) * 4 + j.val) * 1024 + r.val) * 2816 + e.val
      = ((8 * q.val + 4 * p.val + j.val) * 1024 + r.val) * 2816 + e.val
    omega
  · fin_cases p
    · exact v7_zero x q j r e
    · exact v7_one x q j r e

end Cert.SwpReferenceIdeal.Val

end
-- ==== Proof.SwpPair.lean ====
/-  The swap of half panels over the mesh and its reference: the frames and the value claim. -/
module

public import proofs.«01_k».proof.Defs
public import proofs.«01_k».proof.Proof.Gen.SwpKernel
public import proofs.«01_k».proof.Proof.Gen.SwpReferenceIdeal.Run
public import proofs.«01_k».proof.Proof.SwpRun
public import proofs.«01_k».proof.Proof.SwpRef
public import Idealize.ShloMosaic.Lib.Claim

@[expose] public section

set_option maxRecDepth 16384

noncomputable section

open Idealize.ShloMosaic Idealize.ShloMosaic.TcCoe Idealize.SL.Sem

namespace Cert.SwpPair

open Cert Cert.SwpReferenceIdeal.Val

attribute [local instance] Cert.SwpKernel.Gen.facts Cert.SwpKernelIdeal.Gen.facts Cert.SwpReferenceIdeal.Gen.facts

/-- The float program and its idealization are one text, so the one run serves both. -/
theorem frameK : quiescent_SwpKernel := fun m ρ _ =>
  (θ_run Cert.SwpKernel.defs _ _).mono (fun r h => ⟨fun c => (h.1 c).2, h.2⟩) (Cert.SwpProof.run (F := Bits) m ρ)
theorem frameI : quiescent_SwpKernelIdeal := fun m ρ _ =>
  (θ_run Cert.SwpKernelIdeal.defs _ _).mono (fun r h => ⟨fun c => (h.1 c).2, h.2⟩) (Cert.SwpProof.run (F := Ideal) m ρ)
theorem frameR : quiescent_SwpReferenceIdeal := fun m ρ _ =>
  (θ_run Cert.SwpReferenceIdeal.defs _ _).mono (fun r h => ⟨fun c => (h c).2, sem_eq_zero_of_no_sems (by decide) r.2⟩)
    (Cert.SwpReferenceIdeal.Value.run (F := Ideal) m ρ)

/-- A device's chip and its place on the chip. -/
def chip (c : Fin 8) : Fin 4 := ⟨c.val / 2, by omega⟩
def place (c : Fin 8) : Fin 2 := ⟨c.val % 2, by omega⟩

open Cert.SwpKernelIdeal in
/-- Where the half a device sends away lies in its panels. -/
def halfIdx (d : Fin 8) (y : S4x1024x2816.Idx) : S4x2048x2816.Idx
  | ⟨0, _⟩ => y 0
  | ⟨1, _⟩ => (⟨1024 - 1024 * (d.val % 2) + (y 1).val, by have h : (y 1).val < 1024 := (y 1).isLt; omega⟩ : Fin 2048)
  | ⟨2, _⟩ => y 2

open Cert.SwpKernelIdeal in
theorem emb_eq (d : Dev nD) (y : S4x1024x2816.Idx) :
    (Rect.unit (s := S4x2048x2816) (k0_off1 d) S4x1024x2816.size (Gen.k0_off1_inb d)).emb y = halfIdx d y := by
  have hoff := Gen.k0_off1_eq d
  refine funext fun b => Fin.ext ?_
  rw [Rect.emb_apply]
  show (k0_off1 d) b + 1 * (y b).val = (halfIdx d y b).val
  rw [hoff]
  match b with
  | ⟨0, _⟩ => show 0 + 1 * (y 0).val = (y 0).val; omega
  | ⟨1, _⟩ => show 1024 - 1024 * (d.val % 2) + 1 * (y 1).val = 1024 - 1024 * (d.val % 2) + (y 1).val; omega
  | ⟨2, _⟩ => show 0 + 1 * (y 2).val = (y 2).val; omega

open Cert.SwpKernelIdeal in
theorem read_eq (d : Dev nD) (f : (⟨S4x2048x2816, .bf16⟩ : BufTy).Contents (Elt Ideal)) (y : S4x1024x2816.Idx) :
    (Cert.SwpProof.halfM d).view.read (Elt Ideal) f y = f (halfIdx d y) :=
  (show (Cert.SwpProof.halfM d).view.read (Elt Ideal) f y
    = f ((Rect.unit (s := S4x2048x2816) (k0_off1 d) S4x1024x2816.size (Gen.k0_off1_inb d)).emb y) from rfl).trans (congrArg f (emb_eq d y))

theorem arg_tiles : Layout.Tiles ⟨3, ![4, 2048, 2816]⟩ ⟨3, ![32, 2048, 2816]⟩ 0 8 := by decide
theorem res_tiles : Layout.Tiles ⟨3, ![4, 1024, 2816]⟩ ⟨3, ![32, 1024, 2816]⟩ 0 8 := by decide

theorem res_idx (c : Fin 8) (y : (⟨3, ![4, 1024, 2816]⟩ : Shape).Idx) : res_tiles.idx c y = resAt (chip c) (place c) (y 0) (y 1) (y 2) := by
  refine funext fun b => Fin.ext ?_
  rw [Layout.Tiles.idx_val]
  match b with
  | ⟨0, _⟩ =>
    show c.val * 4 + (y 0).val = 8 * (c.val / 2) + 4 * (c.val % 2) + (y 0).val
    omega
  | ⟨1, _⟩ => rfl
  | ⟨2, _⟩ => rfl

theorem arg_idx (c d : Fin 8) (hd : d.val = (4 * (c.val / 4) + 2 * ((c.val / 2) % 2) + 1) - c.val % 2) (y : (⟨3, ![4, 1024, 2816]⟩ : Shape).Idx) :
    arg_tiles.idx d (halfIdx d y) = argAt (chip c) (other (place c)) (y 0) (place c) (y 1) (y 2) := by
  have hc := c.isLt
  refine funext fun b => Fin.ext ?_
  rw [Layout.Tiles.idx_val]
  match b with
  | ⟨0, _⟩ =>
    show d.val * 4 + (y 0).val = 8 * (c.val / 2) + 4 * (1 - c.val % 2) + (y 0).val
    omega
  | ⟨1, _⟩ =>
    show 1024 - 1024 * (d.val % 2) + (y 1).val = 1024 * (c.val % 2) + (y 1).val
    omega
  | ⟨2, _⟩ => rfl

/-- A device's part of the reference's result is what landed at the device, when every device holds its part of the argument. -/
theorem part_eq (m : (ℓ : Loc Cert.SwpKernelIdeal.nD Cert.SwpKernelIdeal.τ Cert.SwpKernelIdeal.sig) → Buf (Elt Ideal) ℓ) (x : TX Ideal)
    (hx : ∀ c : Dev Cert.SwpKernelIdeal.nD, m ((c.tc : Thread Cert.SwpKernelIdeal.nD Cert.SwpKernelIdeal.τ).loc Cert.SwpKernelIdeal.main_arg0)
      = Layout.block ⟨3, ![4, 2048, 2816]⟩ ⟨3, ![32, 2048, 2816]⟩ 0 8 c x arg_tiles) (c : Dev Cert.SwpKernelIdeal.nD) :
    Cert.SwpProof.landed m c = Layout.block ⟨3, ![4, 1024, 2816]⟩ ⟨3, ![32, 1024, 2816]⟩ 0 8 c (Cert.SwpReferenceIdeal.Read.val_main_v8 (F := Ideal) x) res_tiles := by
  unfold Cert.SwpProof.landed
  rw [hx]
  refine funext fun y => ?_
  refine (read_eq (Cert.SwpProof.mate c) _ y).trans ?_
  rw [Layout.block_apply, Layout.block_apply, res_idx, arg_idx c (Cert.SwpProof.mate c) (Cert.SwpKernelIdeal.Gen.k0_dev1_eq c)]
  exact (v8_at x _ _ _ _ _).symm

theorem value : algebraic_SwpKernelIdeal_SwpReferenceIdeal := by
  intro m g m' g' _ hx
  refine ⟨Cert.SwpReferenceIdeal.Read.val_main_v8 (F := Ideal) (m' (((0 : Dev Cert.SwpReferenceIdeal.nD).tc : Thread Cert.SwpReferenceIdeal.nD Cert.SwpReferenceIdeal.τ).loc Cert.SwpReferenceIdeal.main_arg0)), ?_, ?_⟩
  · exact (θ_run Cert.SwpKernelIdeal.defs _ _).mono (fun r h c => ⟨(h.1 c).1.trans (part_eq m _ hx c), (h.1 c).2⟩) (Cert.SwpProof.run (F := Ideal) m g)
  · exact (θ_run Cert.SwpReferenceIdeal.defs _ _).mono (fun r h => ⟨(h 0).1.trans (Cert.SwpReferenceIdeal.Read.val_main_v8_eq _), (h 0).2⟩)
      (Cert.SwpReferenceIdeal.Value.run (F := Ideal) m' g')

end Cert.SwpPair

end
-- ==== Proof.GatRun.lean ====
/-  The gathering of every device's small gradients: each device copies its rows into its own place of its result and sends them to the same
    place of the result of each of the seven others. This module runs the kernel on the whole mesh: every execution ends, every device's
    result holds the rows of all eight, the arguments are unchanged and every counter is back at zero.
    A result is eight slots, one for each device. When the mesh is launched every device is handed its own slot of all eight results, so
    nothing is waited for before the sends. An argument is lent to the copy and to the seven transfers in eight shares. Each device has fifteen
    semaphores: one for the copy, seven for the transfers it sends and seven for those it receives. Each is fired once. -/
module

public import proofs.«01_k».proof.Proof.Gen.GatKernelIdeal
public import proofs.«01_k».proof.Proof.Gen.GatKernelIdeal.Skeleton
public import proofs.«01_k».proof.Proof.Gen.GatKernelIdeal.Launch
public import proofs.«01_k».proof.Proof.Gen.GatKernelIdeal.Points
public import Idealize.ShloMosaic.Lib.Pipeline.Launch
public import Idealize.ShloMosaic.Lib.Pipeline.Kit
public import Idealize.ShloMosaic.Lib.Pipeline.ValueKit.Geometry
public import Idealize.ShloMosaic.Lib.Exec.Geometry
public import Idealize.ShloMosaic.Lib.ShareLeaves
public import Idealize.ShloMosaic.Lib.Tactic

@[expose] public section

noncomputable section

namespace Cert.GatProof

open Cert.GatKernelIdeal Cert.GatKernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra the proof's assertions are over. -/
abbrev MS (F : FTy → Type) := MT nD τ sig Unit (Elt F) ℕ (UR sig nD τ) ℕ
abbrev EE : Emb (UR sig nD τ) (MS F) := emb₁

variable (m : (ℓ : Loc nD τ sig) → Buf (Elt F) ℓ) (ρ : Dev nD → PrngReg)

/-! ## Peers, slots and cells -/

/-- A device's peers as the kernel computes them, itself first. -/
abbrev peer : Fin 8 → Dev nD → Dev nD
  | 0, c => c
  | 1, c => ⟨k0_dev1 c, k0_dev1_lt c⟩
  | 2, c => ⟨k0_dev2 c, k0_dev2_lt c⟩
  | 3, c => ⟨k0_dev3 c, k0_dev3_lt c⟩
  | 4, c => ⟨k0_dev4 c, k0_dev4_lt c⟩
  | 5, c => ⟨k0_dev5 c, k0_dev5_lt c⟩
  | 6, c => ⟨k0_dev6 c, k0_dev6_lt c⟩
  | 7, c => ⟨k0_dev7 c, k0_dev7_lt c⟩

theorem peer_peer : ∀ (k : Fin 8) (c : Dev nD), peer k (peer k c) = c := by decide +kernel
theorem peer_inj : ∀ (c : Dev nD) (k l : Fin 8), peer k c = peer l c → k = l := by decide +kernel
theorem peer_onto : ∀ (c d : Dev nD), ∃ k, peer k c = d := by decide +kernel

def peers (k : Fin 8) : Dev nD ≃ Dev nD := ⟨peer k, peer k, peer_peer k, peer_peer k⟩
def around (c : Dev nD) : Fin 8 ≃ Dev nD := Equiv.ofBijective (fun k => peer k c) ⟨fun k l h => peer_inj c k l h, peer_onto c⟩

abbrev argM : Memref sig .tc .hbm S1288x128 .f32 := Memref.whole main_arg0
abbrev resM : Memref sig .tc .hbm S8x1288x128 .f32 := Memref.whole main_v1
/-- The slot of a result that belongs to device `p`. -/
abbrev slotM (p : Dev nD) : Memref sig .tc .hbm S1288x128 .f32 :=
  (resM.slice (Rect.unit (s := S8x1288x128) (k0_off1 p) S1x1288x128.size (k0_off1_inb p)) (fun _ => rfl)).squeeze S1288x128 squeezes_S1x1288x128_S1288x128

theorem mem_slot (p : Dev nD) (i : S8x1288x128.Idx) : i ∈ (slotM p).view.set ↔ i 0 = p := by
  have h : i ∈ (Rect.unit (s := S8x1288x128) (k0_off1 p) S1x1288x128.size (k0_off1_inb p)).set ↔ i 0 = p := by
    rw [Rect.mem_set_unit, k0_off1_eq]
    have hp : p.val < 8 := p.isLt
    constructor
    · intro h
      have h0 : 4 * (p.val / 4) + 2 * ((p.val / 2) % 2) + (p.val % 2) ≤ (i 0).val ∧ (i 0).val < 4 * (p.val / 4) + 2 * ((p.val / 2) % 2) + (p.val % 2) + 1 := h 0
      exact Fin.ext (by omega)
    · intro h a
      have h0 : (i 0).val = p.val := congrArg Fin.val h
      match a with
      | ⟨0, _⟩ =>
        show 4 * (p.val / 4) + 2 * ((p.val / 2) % 2) + (p.val % 2) ≤ (i 0).val ∧ (i 0).val < 4 * (p.val / 4) + 2 * ((p.val / 2) % 2) + (p.val % 2) + 1
        omega
      | ⟨1, _⟩ => exact ⟨Nat.zero_le _, by have h1 : (i 1).val < 1288 := (i 1).isLt; show (i 1).val < 0 + 1288; omega⟩
      | ⟨2, _⟩ => exact ⟨Nat.zero_le _, by have h1 : (i 2).val < 128 := (i 2).isLt; show (i 2).val < 0 + 128; omega⟩
  have hs : (slotM p).view.set = ((View.whole main_v1).slice (Rect.unit (s := S8x1288x128) (k0_off1 p) S1x1288x128.size (k0_off1_inb p))).set :=
    View.set_reshape _ _
  rw [hs]
  exact ValueKit.mem_set_slice_whole_iff main_v1 _ i h

abbrev sentS : Fin 7 → DmaSem sig
  | 0 => ((cc0_scratch0.slice (Rect.unit (s := S7) ![0] S1.size inb_S7_S1_0)).squeeze S_ squeezes_S1_S_).sem
  | 1 => ((cc0_scratch0.slice (Rect.unit (s := S7) ![1] S1.size inb_S7_S1_1)).squeeze S_ squeezes_S1_S_).sem
  | 2 => ((cc0_scratch0.slice (Rect.unit (s := S7) ![2] S1.size inb_S7_S1_2)).squeeze S_ squeezes_S1_S_).sem
  | 3 => ((cc0_scratch0.slice (Rect.unit (s := S7) ![3] S1.size inb_S7_S1_3)).squeeze S_ squeezes_S1_S_).sem
  | 4 => ((cc0_scratch0.slice (Rect.unit (s := S7) ![4] S1.size inb_S7_S1_4)).squeeze S_ squeezes_S1_S_).sem
  | 5 => ((cc0_scratch0.slice (Rect.unit (s := S7) ![5] S1.size inb_S7_S1_5)).squeeze S_ squeezes_S1_S_).sem
  | 6 => ((cc0_scratch0.slice (Rect.unit (s := S7) ![6] S1.size inb_S7_S1_6)).squeeze S_ squeezes_S1_S_).sem
abbrev gotS : Fin 7 → DmaSem sig
  | 0 => ((cc0_scratch1.slice (Rect.unit (s := S7) ![0] S1.size inb_S7_S1_0)).squeeze S_ squeezes_S1_S_).sem
  | 1 => ((cc0_scratch1.slice (Rect.unit (s := S7) ![1] S1.size inb_S7_S1_1)).squeeze S_ squeezes_S1_S_).sem
  | 2 => ((cc0_scratch1.slice (Rect.unit (s := S7) ![2] S1.size inb_S7_S1_2)).squeeze S_ squeezes_S1_S_).sem
  | 3 => ((cc0_scratch1.slice (Rect.unit (s := S7) ![3] S1.size inb_S7_S1_3)).squeeze S_ squeezes_S1_S_).sem
  | 4 => ((cc0_scratch1.slice (Rect.unit (s := S7) ![4] S1.size inb_S7_S1_4)).squeeze S_ squeezes_S1_S_).sem
  | 5 => ((cc0_scratch1.slice (Rect.unit (s := S7) ![5] S1.size inb_S7_S1_5)).squeeze S_ squeezes_S1_S_).sem
  | 6 => ((cc0_scratch1.slice (Rect.unit (s := S7) ![6] S1.size inb_S7_S1_6)).squeeze S_ squeezes_S1_S_).sem

/-- A device's semaphores: the copy's, the seven sends', the seven receives'. -/
inductive Cells
  | copy
  | sent (k : Fin 7)
  | got (k : Fin 7)
deriving DecidableEq

def cellsEquiv : Unit ⊕ (Fin 7 ⊕ Fin 7) ≃ Cells where
  toFun | .inl _ => .copy | .inr (.inl k) => .sent k | .inr (.inr k) => .got k
  invFun | .copy => .inl () | .sent k => .inr (.inl k) | .got k => .inr (.inr k)
  left_inv := by rintro (_ | _ | _) <;> rfl
  right_inv := by rintro (_ | _ | _) <;> rfl

instance : Fintype Cells := Fintype.ofEquiv _ cellsEquiv

abbrev dsem : Cells → DmaSem sig
  | .copy => cc0_scratch2.sem
  | .sent k => sentS k
  | .got k => gotS k
abbrev sems (j : Cells) : SemLoc sig := .dma (dsem j)
theorem dsem_inj : Function.Injective dsem := by decide
theorem sems_inj : Function.Injective sems := fun i j h => dsem_inj (SemLoc.dma.inj h)
abbrev cell (cj : Dev nD × Cells) : GSem nD τ sig := ((cj.1 : Thread nD τ), sems cj.2)

/-- A transfer's credit. -/
def N : ℕ := argM.view.dmaCredit
theorem N_slot (p : Dev nD) : (slotM p).view.dmaCredit = N := rfl
theorem N_pos : 0 < N := View.dmaCredit_pos _ (Shape.numel_pos fun a => by fin_cases a <;> exact Nat.succ_pos _)

/-! ## Memory -/

/-- Device `p`'s rows written over its slot. -/
def written (p : Dev nD) : (⟨S8x1288x128, .f32⟩ : BufTy).Contents (Elt F) :=
  (slotM p).view.write (Elt F) (m ((p : Thread nD τ).loc main_v1)) (argM.view.read (Elt F) (m ((p : Thread nD τ).loc main_arg0))) Finset.univ

/-- What every device's result holds in the end: in each slot the rows of the slot's device. -/
def gathered : (⟨S8x1288x128, .f32⟩ : BufTy).Contents (Elt F) := fun i => written m (i 0) i

def argPts (c : Dev nD) : sProp (MS F) := ((c : Thread nD τ).loc main_arg0) ↦{fullShare} m ((c : Thread nD τ).loc main_arg0)
def resPts (c : Dev nD) (f : Buf (Elt F) ((c : Thread nD τ).loc main_v1)) : sProp (MS F) := ((c : Thread nD τ).loc main_v1) ↦{fullShare} f
/-- The share of its argument a device lends to one transfer. -/
def lent (c : Dev nD) (k : Fin 8) : sProp (MS F) :=
  argM.view.loc (c : Thread nD τ) ↦[argM.view.set]{ShareLeaves.leaf 3 fullShare k} m ((c : Thread nD τ).loc main_arg0)
/-- The slot of device `p` in the result of device `c`. -/
def slotPts (c p : Dev nD) (f : Buf (Elt F) ((c : Thread nD τ).loc main_v1)) : sProp (MS F) :=
  (slotM p).view.loc (c : Thread nD τ) ↦[(slotM p).view.set]{fullShare} f

theorem arg_split (c : Dev nD) : argPts m c = bigSep Finset.univ fun k : Fin 8 => lent m c k := by
  unfold argPts lent
  rw [View.set_whole]
  exact ShareLeaves.pointsTo_leaves Finset.univ _ 3 fullShare

theorem res_split (c : Dev nD) (f : Buf (Elt F) ((c : Thread nD τ).loc main_v1)) : resPts c f = bigSep Finset.univ fun p : Dev nD => slotPts c p f := by
  unfold resPts slotPts
  have hd : ∀ t ∈ (Finset.univ : Finset (Dev nD)), ∀ t' ∈ (Finset.univ : Finset (Dev nD)), t ≠ t' → Disjoint (slotM t).view.set (slotM t').view.set :=
    fun t _ t' _ h => Finset.disjoint_left.mpr fun i hi hi' => h (((mem_slot t i).mp hi).symm.trans ((mem_slot t' i).mp hi'))
  have hu : (Finset.univ : Finset (Idx ((c : Thread nD τ).loc main_v1))) = (Finset.univ : Finset (Dev nD)).biUnion fun p => (slotM p).view.set :=
    (Finset.eq_univ_of_forall fun (i : S8x1288x128.Idx) => Finset.mem_biUnion.mpr ⟨i 0, Finset.mem_univ _, (mem_slot (i 0) i).mpr rfl⟩).symm
  rw [hu]
  exact pointsTo_biUnion (ℓ := (c : Thread nD τ).loc main_v1) Finset.univ (fun p => (slotM p).view.set) hd

/-- A slot rewritten with its device's rows holds the end's contents. -/
theorem slot_written (c p : Dev nD) (fd : Buf (Elt F) ((c : Thread nD τ).loc main_v1)) :
    ((slotM p).view.loc (c : Thread nD τ) ↦[(slotM p).view.set]{fullShare}
      ((slotM p).view.write (Elt F) fd (argM.view.read (Elt F) (m ((p : Thread nD τ).loc main_arg0))) Finset.univ) : sProp (MS F))
      = slotPts c p (gathered m) := by
  refine pointsTo_congr fun i hi => ?_
  have h0 : gathered m i = written m p i := congrArg (fun q => written m q i) ((mem_slot p i).mp hi)
  obtain ⟨x, -, hx⟩ := Finset.mem_map.mp hi
  rw [h0]
  unfold written
  rw [← hx, View.write_emb_of_mem _ _ (Finset.mem_univ _), View.write_emb_of_mem _ _ (Finset.mem_univ _)]

instance lent_storable (c : Dev nD) (k : Fin 8) : BI.Storable (upEmb : UEmb _ (MS F)) (lent m c k) := by unfold lent; infer_instance
instance slotPts_storable (c p : Dev nD) (f) : BI.Storable (upEmb : UEmb _ (MS F)) (slotPts c p f) := by unfold slotPts; infer_instance

/-! ## The schedule: each cell one duty, the transfer's credit -/

/-- What a device is handed when one of its cells fires: the share it lent, or the slot another device has filled. -/
def pay (c : Dev nD) : Cells → sProp (MS F)
  | .copy => iprop(slotPts c c (gathered m) ∗ lent m c 0)
  | .sent k => lent m c k.succ
  | .got k => slotPts c (peer k.succ c) (gathered m)

instance pay_storable (c : Dev nD) (j : Cells) : BI.Storable (upEmb : UEmb _ (MS F)) (pay m c j) := by
  cases j <;> unfold pay <;> infer_instance

open Classical in
def plan : Rounds.Schedule (GSem nD τ sig) Unit (MS F) where
  duties g r := if r = 0 ∧ g.1.2 = .tc then {()} else ∅
  unitless _ := False
  amount _ _ _ := N
  payload g _ _ := if h : ∃ j, g.2 = sems j then pay m g.1.1 h.choose else iprop(emp)
  amount_pos _ _ _ _ := N_pos

open Classical in
instance plan_storable (g : GSem nD τ sig) (r : ℕ) (d : Unit) : BI.Storable (upEmb : UEmb _ (MS F)) ((plan m).payload g r d) := by
  show BI.Storable upEmb (if h : ∃ j, g.2 = sems j then pay m g.1.1 h.choose else iprop(emp))
  split <;> infer_instance

theorem duties_now (c : Dev nD) (sm : SemLoc sig) : (plan m).duties ((c : Thread nD τ), sm) 0 = {()} := by dsimp only [plan]; exact if_pos ⟨rfl, rfl⟩
theorem duties_later (g : GSem nD τ sig) (r : ℕ) (hr : 1 ≤ r) : (plan m).duties g r = ∅ := by dsimp only [plan]; exact if_neg fun h => by omega
theorem expect_now (c : Dev nD) (sm : SemLoc sig) : (plan m).expect ((c : Thread nD τ), sm) 0 = N := by
  unfold Schedule.expect Schedule.amountOf; rw [duties_now, Finset.sum_singleton]; dsimp only [plan]
theorem payload_at (c : Dev nD) (j : Cells) (u : Unit) : (plan m).payload (cell (c, j)) 0 u = pay m c j := by
  have h : ∃ i, sems j = sems i := ⟨j, rfl⟩
  dsimp only [plan]
  rw [dif_pos h, ← sems_inj h.choose_spec]

/-- What a wait hands over. -/
theorem handed (c : Dev nD) (j : Cells) : bigSep ((plan m).duties (cell (c, j)) 0 \ ∅) (fun u => (plan m).payload (cell (c, j)) 0 u) = pay m c j := by
  rw [Finset.sdiff_empty, duties_now, bigSep_singleton, payload_at]

/-- What a device owes its `k`th peer: the transfer's credit on the peer's receive cell. -/
def owed (c : Dev nD) (k : Fin 7) : CellTallies nD τ sig Unit := tallyAt (cell (peer k.succ c, .got k)) () N
/-- All a device owes, the last sent first. -/
def due (c : Dev nD) : CellTallies nD τ sig Unit := 0 + owed c 6 + owed c 5 + owed c 4 + owed c 3 + owed c 2 + owed c 1 + owed c 0

/-! ## What a device holds -/

/-- The cells' invariants and that their first round is reached: shared by all devices. -/
def known (K : Dev nD × Cells → ℕ) : sProp (MS F) :=
  iprop((bigSep Finset.univ fun ck : Dev nD × Cells => cellInv EE (plan m) (K ck) (cell ck))
    ∗ bigSep Finset.univ fun ck : Dev nD × Cells => reached EE (cell ck) 0)
instance known_persistent (K : Dev nD × Cells → ℕ) : BI.Persistent (known m K) := by unfold known; infer_instance

theorem known_inv (K : Dev nD × Cells → ℕ) (ck : Dev nD × Cells) : known m K ⊢ cellInv EE (plan m) (K ck) (cell ck) := by
  have h : (bigSep Finset.univ fun ck : Dev nD × Cells => cellInv EE (plan m) (K ck) (cell ck)) ⊢ cellInv EE (plan m) (K ck) (cell ck) :=
    bigSep_elim (Finset.mem_univ ck)
  unfold known
  iintro ⟨H, -⟩
  iapply h; iexact H
theorem known_reached (K : Dev nD × Cells → ℕ) (ck : Dev nD × Cells) : known m K ⊢ reached EE (cell ck) 0 := by
  have h : (bigSep Finset.univ fun ck : Dev nD × Cells => (reached EE (cell ck) 0 : sProp (MS F))) ⊢ reached EE (cell ck) 0 :=
    bigSep_elim (Finset.mem_univ ck)
  unfold known
  iintro ⟨-, H⟩
  iapply h; iexact H

/-- What the copy takes: a share of the argument, the device's own slot, the right to fire the cell and the place in it. -/
def copyIn (c : Dev nD) : sProp (MS F) :=
  iprop(lent m c 0 ∗ slotPts c c (m ((c : Thread nD τ).loc main_v1)) ∗ dutyTok EE (cell (c, .copy)) 0 () ∗ atPos EE (cell (c, .copy)) 0 ∅ 0)
/-- What a send takes: a share of the argument, the device's slot in the peer's result, the right to fire its own send cell and the peer's
    receive cell, and its place in the former. -/
def sendIn (c : Dev nD) (k : Fin 7) : sProp (MS F) :=
  iprop(lent m c k.succ ∗ slotPts (peer k.succ c) c (m ((peer k.succ c : Thread nD τ).loc main_v1)) ∗ dutyTok EE (cell (c, .sent k)) 0 ()
    ∗ dutyTok EE (cell (peer k.succ c, .got k)) 0 () ∗ atPos EE (cell (c, .sent k)) 0 ∅ 0)
/-- What a wait takes: the credit and the place in the cell. -/
def waitIn (c : Dev nD) (j : Cells) : sProp (MS F) := iprop(cred (tallyAt (cell (c, j)) () N) ∗ atPos EE (cell (c, j)) 0 ∅ 0)
/-- What it leaves: the cell's payload and the cell at zero. -/
def waited (c : Dev nD) (j : Cells) : sProp (MS F) := iprop(pay m c j ∗ semVal (cell (c, j)) 0)

/-- A device's own share before the exchange. -/
def mine (c : Dev nD) : sProp (MS F) :=
  iprop(copyIn m c ∗ (bigSep Finset.univ fun k : Fin 7 => sendIn m c k) ∗ bigSep Finset.univ fun k : Fin 7 => waitIn c (.got k))
/-- And after it. -/
def ended (c : Dev nD) : sProp (MS F) := bigSep Finset.univ fun j : Cells => waited m c j
/-- Nothing owed any more. -/
def paid (c : Dev nD) : sProp (MS F) := iprop(∃ W, owes (c : Thread nD τ) 0 W)

/-- The region's data: no window is staged, the holdings above go in and come out. -/
def dat (K : Dev nD × Cells → ℕ) (_ : Fin 1) (c : Dev nD) : Dat τ (Elt F) Unit ℕ (UR sig nD τ) ℕ cfg0 c where
  A w := m ((cfg0.win w).arr.view.loc (c : Thread nD τ))
  after w _ := (show Fin 0 from w).elim0
  Φ t := match t with
    | ⟨0, _⟩ => iprop(known m K ∗ mine m c)
    | ⟨_ + 1, _⟩ => ended m c
  q _ := fullShare
  owed t := match t with
    | ⟨0, _⟩ => due c
    | ⟨_ + 1, _⟩ => 0

/-! ## The body -/

/-- One conjunct per cell: the copy's, the sends', the receives'. -/
theorem by_cells (Φ : Cells → sProp (MS F)) : bigSep Finset.univ Φ
    = iprop(Φ .copy ∗ (bigSep Finset.univ fun k : Fin 7 => Φ (.sent k)) ∗ bigSep Finset.univ fun k : Fin 7 => Φ (.got k)) := by
  rw [bigSep_univ_equiv cellsEquiv, bigSep_univ_sum, bigSep_univ_sum, bigSep_univ_of_subsingleton ()]
  rfl
theorem of_seven (Φ : Fin 7 → sProp (MS F)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- One conjunct per peer: the device itself and the seven others. -/
theorem by_peers (Φ : Fin 8 → sProp (MS F)) : bigSep Finset.univ Φ = iprop(Φ 0 ∗ bigSep Finset.univ fun k : Fin 7 => Φ k.succ) := by
  rw [of_seven]
  exact bigSep_univ_eq_bigSepL [0, 1, 2, 3, 4, 5, 6, 7] (by decide) (by decide) Φ

abbrev Body (F : FTy → Type) := Prog (TpuEff nD τ sig (Elt F) Λ₀ .tc) PUnit

/-- The copy of the device's own rows. -/
theorem copy_step (K : Dev nD × Cells → ℕ) (c : Dev nD) (hs hd hty) (k : PUnit → Body F) (Kt : PUnit → sProp (MS F)) :
    iprop(known m K ∗ copyIn m c) ⊢ iprop((waitIn c .copy -∗ wp frame (wpE (defs₀ (F := F)) Variants.none c none) Set.univ (k ⟨⟩) Kt)
      -∗ wp frame (wpE (defs₀ (F := F)) Variants.none c none) Set.univ (.op (.enqueueDma argM (.here (slotM c)) (sems .copy) hs hd hty) k) Kt) := by
  unfold copyIn waitIn lent slotPts
  iintro ⟨#HK, Ha, Hs, Ht, Hp⟩ Hk
  ihave #HI := (known_inv m K (c, .copy)) $$ HK
  ihave #Hr := (known_reached m K (c, .copy)) $$ HK
  iapply (Rounds.wp_copy_pointsTo Variants.none EE (plan m) (c : Thread nD τ) none (κ := K (c, .copy)) (src := argM) (dst := slotM c) (sem := sems .copy)
    (r := 0) (d := ()) (fs := m ((c : Thread nD τ).loc main_arg0)) (fd := m ((c : Thread nD τ).loc main_v1)) (q := ShareLeaves.leaf 3 fullShare 0)
    (by rw [duties_now]; exact Finset.mem_singleton_self _) () N rfl rfl
    (by rw [payload_at, slot_written]; unfold pay lent; exact BI.Entails.refl _)) $$ [Ha Hs Ht]
  · isplitr; · iexact HI
    isplitl [Ha]; · iexact Ha
    isplitl [Hs]; · iexact Hs
    isplitl [Ht]; · iexact Ht
    iexact Hr
  iintro Hc
  iapply Hk
  isplitl [Hc] <;> iassumption

/-- The send to the `k`th peer. -/
theorem send_step (K : Dev nD × Cells → ℕ) (c : Dev nD) (i : Fin 7) (O : CellTallies nD τ sig Unit) (W : Waits sig Unit) (hs hd hty)
    (k : PUnit → Body F) (Kt : PUnit → sProp (MS F)) :
    iprop(known m K ∗ sendIn m c i ∗ owes (c : Thread nD τ) (O + owed c i) W)
      ⊢ iprop(((waitIn c (.sent i) ∗ owes (c : Thread nD τ) O W) -∗ wp frame (wpE (defs₀ (F := F)) Variants.none c none) Set.univ (k ⟨⟩) Kt)
      -∗ wp frame (wpE (defs₀ (F := F)) Variants.none c none) Set.univ
        (.op (.enqueueDma argM (.remote (peer i.succ c : Thread nD τ) (slotM c) (sems (.sent i))) (sems (.got i)) hs hd hty) k) Kt) := by
  unfold sendIn waitIn lent slotPts
  iintro ⟨#HK, ⟨Ha, Hs, Ht, Htg, Hp⟩, HO⟩ Hk
  ihave #HI := (known_inv m K (c, .sent i)) $$ HK
  ihave #HIM := (known_inv m K (peer i.succ c, .got i)) $$ HK
  ihave #Hr := (known_reached m K (c, .sent i)) $$ HK
  ihave #HrM := (known_reached m K (peer i.succ c, .got i)) $$ HK
  iapply (Rounds.wp_send_pointsTo Variants.none EE (plan m) (c : Thread nD τ) none (κ₁ := K (c, .sent i)) (κ₂ := K (peer i.succ c, .got i))
    (c' := (peer i.succ c : Thread nD τ)) (src := argM) (dst := slotM c)
    (r₁ := 0) (r₂ := 0) (d₁ := ()) (d₂ := ()) (fs := m ((c : Thread nD τ).loc main_arg0)) (fd := m ((peer i.succ c : Thread nD τ).loc main_v1))
    (q := ShareLeaves.leaf 3 fullShare i.succ)
    (by rw [duties_now]; exact Finset.mem_singleton_self _) (by rw [duties_now]; exact Finset.mem_singleton_self _)
    () () N rfl rfl rfl O rfl (W := W)
    (by rw [payload_at (c := c) (j := .sent i)]; unfold pay lent; exact BI.Entails.refl _)
    (by rw [payload_at (c := peer i.succ c) (j := .got i), slot_written]
        show _ ⊢ slotPts (peer i.succ c) (peer i.succ (peer i.succ c)) (gathered m)
        rw [peer_peer]))  $$ [Ha Hs HO Ht Htg]
  · isplitr; · iexact HI
    isplitr; · iexact HIM
    isplitl [Ha]; · iexact Ha
    isplitl [Hs]; · iexact Hs
    isplitl [HO]; · iexact HO
    isplitl [Ht]; · iexact Ht
    isplitr; · iexact Hr
    isplitl [Htg]; · iexact Htg
    iexact HrM
  iintro ⟨Hc, HO⟩
  iapply Hk
  isplitl [Hc Hp]
  · isplitl [Hc] <;> iassumption
  iexact HO

/-- A wait on one of the device's cells. -/
theorem wait_step (K : Dev nD × Cells → ℕ) (c : Dev nD) (j : Cells) (src dst : Memref sig .tc .hbm S1288x128 .f32) (hs hd)
    (hN : dst.view.dmaCredit = N) (k : PUnit → Body F) (Kt : PUnit → sProp (MS F)) :
    iprop(known m K ∗ waitIn c j ∗ paid c)
      ⊢ iprop(((waited m c j ∗ paid c) -∗ wp frame (wpE (defs₀ (F := F)) Variants.none c none) Set.univ (k ⟨⟩) Kt)
      -∗ wp frame (wpE (defs₀ (F := F)) Variants.none c none) Set.univ (.op (.waitDma2 (dsem j) src dst hs hd) k) Kt) := by
  unfold waitIn paid waited
  iintro ⟨#HK, ⟨Hc, Hp⟩, ⟨%W, HO⟩⟩ Hk
  ihave #HI := (known_inv m K (c, j)) $$ HK
  iapply (Rounds.wp_wait_rest_token Variants.none EE (plan m) (c : Thread nD τ) none (κ := K (c, j)) (sm := sems j)
      (wpE_waitDma2_eq Variants.none (c : Thread nD τ) none Set.univ) (Set.mem_univ _) () (O := 0) (W := W) (R := 0) (m := 0) (T := ∅)
      (k' := dst.view.dmaCredit) ((Nat.zero_add _).trans (hN.trans (expect_now m c _).symm))) $$ [Hc HO Hp]
  · isplitr; · iexact HI
    isplitl [Hc]; · rw [hN]; iexact Hc
    isplitl [HO]; · iexact HO
    isplitr; · rw [MayWait_zero]; iempintro
    iexact Hp
  iintro ⟨HO, Hp, -, Hpay⟩
  ihave Hpay := (Entails.of_eq (handed m c j)) $$ Hpay
  imod (Rounds.cell_close EE (plan m) (Set.mem_univ (K (c, j))) (fun h => h) (R := 0 + 1) (duties_later m (cell (c, j)))) $$ [Hp] with Hz
  · isplitr; · iexact HI
    iexact Hp
  iapply Hk
  isplitl [Hpay Hz]
  · isplitl [Hpay] <;> iassumption
  iexists _; iexact HO

theorem sound_body (K : Dev nD × Cells → ℕ) (c : Dev nD) (W : Waits sig Unit) (Kt : PUnit → sProp (MS F)) :
    iprop((known m K ∗ mine m c ∗ owes (c : Thread nD τ) (due c) W) ∗ ((ended m c ∗ paid c) -∗ Kt ⟨⟩))
      ⊢ wp frame (wpE (defs₀ (F := F)) Variants.none c none) Set.univ
          (cc0_small_gather (Memref.whole main_arg0) (Memref.isWhole_whole _) (Memref.whole main_v1) (Memref.isWhole_whole _)
            cc0_scratch0 cc0_scratch1 cc0_scratch2) Kt := by
  simp only [cc0_small_gather_eq_skeleton, cc0_small_gather_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel]
  simp only [Prog.lift, Prog.bind_op, Prog.bind_ret, Prog.pure_eq_ret, wp_deviceId]
  unfold mine ended due
  rw [by_cells, of_seven, of_seven, of_seven, of_seven]
  iintro ⟨⟨#HK, ⟨HC, ⟨HS0, HS1, HS2, HS3, HS4, HS5, HS6⟩, ⟨HG0, HG1, HG2, HG3, HG4, HG5, HG6⟩⟩, HO⟩, Hk⟩
  iapply (copy_step m K c) $$ [HC]
  · isplitr; · iexact HK
    iexact HC
  iintro HC
  iapply (send_step m K c 0 (0 + owed c 6 + owed c 5 + owed c 4 + owed c 3 + owed c 2 + owed c 1) W) $$ [HS0 HO]
  · isplitr; · iexact HK
    isplitl [HS0] <;> iassumption
  iintro ⟨HS0, HO⟩
  iapply (send_step m K c 1 (0 + owed c 6 + owed c 5 + owed c 4 + owed c 3 + owed c 2) W) $$ [HS1 HO]
  · isplitr; · iexact HK
    isplitl [HS1] <;> iassumption
  iintro ⟨HS1, HO⟩
  iapply (send_step m K c 2 (0 + owed c 6 + owed c 5 + owed c 4 + owed c 3) W) $$ [HS2 HO]
  · isplitr; · iexact HK
    isplitl [HS2] <;> iassumption
  iintro ⟨HS2, HO⟩
  iapply (send_step m K c 3 (0 + owed c 6 + owed c 5 + owed c 4) W) $$ [HS3 HO]
  · isplitr; · iexact HK
    isplitl [HS3] <;> iassumption
  iintro ⟨HS3, HO⟩
  iapply (send_step m K c 4 (0 + owed c 6 + owed c 5) W) $$ [HS4 HO]
  · isplitr; · iexact HK
    isplitl [HS4] <;> iassumption
  iintro ⟨HS4, HO⟩
  iapply (send_step m K c 5 (0 + owed c 6) W) $$ [HS5 HO]
  · isplitr; · iexact HK
    isplitl [HS5] <;> iassumption
  iintro ⟨HS5, HO⟩
  iapply (send_step m K c 6 (0) W) $$ [HS6 HO]
  · isplitr; · iexact HK
    isplitl [HS6] <;> iassumption
  iintro ⟨HS6, HO⟩
  ihave HP : paid c $$ [HO]
  · unfold paid; iexists W; iexact HO
  iapply (wait_step m K c (.got 0) _ _ _ _ (by rfl)) $$ [HG0 HP]
  · isplitr; · iexact HK
    isplitl [HG0] <;> iassumption
  iintro ⟨HG0, HP⟩
  iapply (wait_step m K c (.got 1) _ _ _ _ (by rfl)) $$ [HG1 HP]
  · isplitr; · iexact HK
    isplitl [HG1] <;> iassumption
  iintro ⟨HG1, HP⟩
  iapply (wait_step m K c (.got 2) _ _ _ _ (by rfl)) $$ [HG2 HP]
  · isplitr; · iexact HK
    isplitl [HG2] <;> iassumption
  iintro ⟨HG2, HP⟩
  iapply (wait_step m K c (.got 3) _ _ _ _ (by rfl)) $$ [HG3 HP]
  · isplitr; · iexact HK
    isplitl [HG3] <;> iassumption
  iintro ⟨HG3, HP⟩
  iapply (wait_step m K c (.got 4) _ _ _ _ (by rfl)) $$ [HG4 HP]
  · isplitr; · iexact HK
    isplitl [HG4] <;> iassumption
  iintro ⟨HG4, HP⟩
  iapply (wait_step m K c (.got 5) _ _ _ _ (by rfl)) $$ [HG5 HP]
  · isplitr; · iexact HK
    isplitl [HG5] <;> iassumption
  iintro ⟨HG5, HP⟩
  iapply (wait_step m K c (.got 6) _ _ _ _ (by rfl)) $$ [HG6 HP]
  · isplitr; · iexact HK
    isplitl [HG6] <;> iassumption
  iintro ⟨HG6, HP⟩
  iapply (wait_step m K c (.sent 0) _ _ _ _ (by rfl)) $$ [HS0 HP]
  · isplitr; · iexact HK
    isplitl [HS0] <;> iassumption
  iintro ⟨HS0, HP⟩
  iapply (wait_step m K c (.sent 1) _ _ _ _ (by rfl)) $$ [HS1 HP]
  · isplitr; · iexact HK
    isplitl [HS1] <;> iassumption
  iintro ⟨HS1, HP⟩
  iapply (wait_step m K c (.sent 2) _ _ _ _ (by rfl)) $$ [HS2 HP]
  · isplitr; · iexact HK
    isplitl [HS2] <;> iassumption
  iintro ⟨HS2, HP⟩
  iapply (wait_step m K c (.sent 3) _ _ _ _ (by rfl)) $$ [HS3 HP]
  · isplitr; · iexact HK
    isplitl [HS3] <;> iassumption
  iintro ⟨HS3, HP⟩
  iapply (wait_step m K c (.sent 4) _ _ _ _ (by rfl)) $$ [HS4 HP]
  · isplitr; · iexact HK
    isplitl [HS4] <;> iassumption
  iintro ⟨HS4, HP⟩
  iapply (wait_step m K c (.sent 5) _ _ _ _ (by rfl)) $$ [HS5 HP]
  · isplitr; · iexact HK
    isplitl [HS5] <;> iassumption
  iintro ⟨HS5, HP⟩
  iapply (wait_step m K c (.sent 6) _ _ _ _ (by rfl)) $$ [HS6 HP]
  · isplitr; · iexact HK
    isplitl [HS6] <;> iassumption
  iintro ⟨HS6, HP⟩
  iapply (wait_step m K c .copy _ _ _ _ (by rfl)) $$ [HC HP]
  · isplitr; · iexact HK
    isplitl [HC] <;> iassumption
  iintro ⟨HC, HP⟩
  rw [wp_ret]; imodintro
  iapply Hk
  isplitr [HP]
  · isplitl [HC]; · iexact HC
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5] <;> iassumption
    · isplitl [HG0]; · iexact HG0
      isplitl [HG1]; · iexact HG1
      isplitl [HG2]; · iexact HG2
      isplitl [HG3]; · iexact HG3
      isplitl [HG4]; · iexact HG4
      isplitl [HG5] <;> iassumption
  · iexact HP

/-- The region stages no window. -/
theorem none_W (Φ : Fin cfg0.W → sProp (MS F)) : bigSep Finset.univ Φ = BI.emp := by
  rw [show (Finset.univ : Finset (Fin cfg0.W)) = ∅ from rfl, BI.bigSep_empty]

theorem body_obligation (K : Dev nD × Cells → ℕ) (c : Dev nD) :
    BodyObligation (dat m K 0 c) (defs₀ (F := F)) Variants.none () Set.univ := fun t => by
  rw [fin_N0 t, none_W, none_W]
  show iprop((known m K ∗ mine m c) ∗ (dat m K 0 c).owesAt () (t0_0 : Fin cfg0.N).castSucc ∗ emp)
    ⊢ wp frame (wpE (defs₀ (F := F)) Variants.none c none) Set.univ
      (cc0_small_gather (Memref.whole main_arg0) (Memref.isWhole_whole _) (Memref.whole main_v1) (Memref.isWhole_whole _) cc0_scratch0 cc0_scratch1 cc0_scratch2)
      (fun _ => iprop(ended m c ∗ (dat m K 0 c).owesAt () (t0_0 : Fin cfg0.N).succ ∗ emp))
  unfold Dat.owesAt Pipeline.owesWithin
  rw [show (dat m K 0 c).owed (t0_0 : Fin cfg0.N).castSucc = due c from rfl, show (dat m K 0 c).owed (t0_0 : Fin cfg0.N).succ = 0 from rfl]
  iintro ⟨⟨#HK, Hm⟩, ⟨%W, %hW, HO⟩, -⟩
  iapply (sound_body m K c W)
  isplitl [Hm HO]
  · isplitr; · iexact HK
    isplitl [Hm] <;> iassumption
  · unfold paid
    iintro ⟨HE, ⟨%W', HO⟩⟩
    isplitl [HE]; · iexact HE
    isplitl [HO]
    · iexists W'
      isplitr; · ipureintro; exact fun _ _ => Or.inl trivial
      iexact HO
    iempintro

/-! ## The launch -/

theorem own_facts : Pipeline.OwnSemFacts cfg0.spec sems := by decide

theorem cell_injective : Function.Injective (cell : Dev nD × Cells → GSem nD τ sig) := by
  rintro ⟨c, k⟩ ⟨d, l⟩ h
  have h1 : c = d := congrArg (fun g : GSem nD τ sig => g.1.1) h
  have h2 : sems k = sems l := congrArg Prod.snd h
  rw [h1, sems_inj h2]

def cells : Finset (GSem nD τ sig) := Finset.univ.map ⟨cell, cell_injective⟩
def tokens : Finset (GSem nD τ sig × ℕ × Unit) :=
  Finset.univ.map ⟨fun ck : Dev nD × Cells => (cell ck, 0, ()), fun _ _ h => cell_injective (congrArg Prod.fst h)⟩
def start : UR sig nD τ := initOf cells tokens

/-- The cells' states, places and tokens, from the launch's ghost state. -/
theorem funded : (ownU start : sProp (MS F)) ⊢ |==> iprop((bigSep Finset.univ fun ck : Dev nD × Cells => roundState EE (plan m) (cell ck) 0)
    ∗ (bigSep Finset.univ fun ck : Dev nD × Cells => reached EE (cell ck) 0)
    ∗ (bigSep Finset.univ fun ck : Dev nD × Cells => atPos EE (cell ck) 0 ∅ 0)
    ∗ bigSep Finset.univ fun ck : Dev nD × Cells => dutyTok EE (cell ck) 0 ()) := by
  have hX (Φ : GSem nD τ sig → sProp (MS F)) : bigSep cells Φ = bigSep Finset.univ fun ck : Dev nD × Cells => Φ (cell ck) := by
    unfold cells; rw [bigSep_map]; rfl
  have hT : bigSep tokens (fun x => (dutyTok EE x.1 x.2.1 x.2.2 : sProp (MS F))) = bigSep Finset.univ fun ck : Dev nD × Cells => dutyTok EE (cell ck) 0 () := by
    unfold tokens; rw [bigSep_map]; rfl
  have h := Rounds.fund EE (plan m) cells tokens
  rw [hX, hX, hX, hT] at h
  exact h

/-- Summed over devices and peers: the device's own is the peer's as seen from there. -/
theorem swapped (Φ : Fin 8 → Dev nD → Dev nD → sProp (MS F)) :
    (bigSep Finset.univ fun c : Dev nD => bigSep Finset.univ fun k : Fin 8 => Φ k c (peer k c))
      = bigSep Finset.univ fun c : Dev nD => bigSep Finset.univ fun k : Fin 8 => Φ k (peer k c) c := by
  rw [bigSep_univ_comm, bigSep_univ_comm (fun c k => Φ k (peer k c) c)]
  refine bigSep_congr fun k _ => (bigSep_univ_equiv (peers k) _).trans (bigSep_congr fun c _ => ?_)
  show Φ k (peer k c) (peer k (peer k c)) = _
  rw [peer_peer]

/-- The same, of the seven others only. -/
theorem swapped_others (Φ : Fin 7 → Dev nD → sProp (MS F)) :
    (bigSep Finset.univ fun c : Dev nD => bigSep Finset.univ fun k : Fin 7 => Φ k c)
      = bigSep Finset.univ fun c : Dev nD => bigSep Finset.univ fun k : Fin 7 => Φ k (peer k.succ c) := by
  rw [bigSep_univ_comm, bigSep_univ_comm (fun c k => Φ k (peer k.succ c))]
  exact bigSep_congr fun k _ => bigSep_univ_equiv (peers k.succ) _

/-- All results' slots, by the device the result is at and by the device the slot belongs to. -/
theorem slots_dealt : (bigSep Finset.univ fun c : Dev nD => resPts c (m ((c : Thread nD τ).loc main_v1)))
    = bigSep Finset.univ fun c : Dev nD => bigSep Finset.univ fun k : Fin 8 => slotPts (peer k c) c (m ((peer k c : Thread nD τ).loc main_v1)) := by
  rw [← swapped fun _ c p => slotPts c p (m ((c : Thread nD τ).loc main_v1))]
  refine bigSep_congr fun c _ => ?_
  rw [res_split, bigSep_univ_equiv (around c)]
  rfl

/-- A device's places and tokens. -/
def held (c : Dev nD) : sProp (MS F) :=
  iprop((bigSep Finset.univ fun j : Cells => atPos EE (cell (c, j)) 0 ∅ 0) ∗ dutyTok EE (cell (c, .copy)) 0 ()
    ∗ (bigSep Finset.univ fun k : Fin 7 => dutyTok EE (cell (c, .sent k)) 0 ())
    ∗ bigSep Finset.univ fun k : Fin 7 => dutyTok EE (cell (peer k.succ c, .got k)) 0 ())

/-- The right to fire a receive cell goes to the device that sends there. -/
theorem tokens_dealt : (bigSep Finset.univ fun ck : Dev nD × Cells => (dutyTok EE (cell ck) 0 () : sProp (MS F)))
    = iprop((bigSep Finset.univ fun c : Dev nD => dutyTok EE (cell (c, .copy)) 0 ())
      ∗ (bigSep Finset.univ fun c : Dev nD => bigSep Finset.univ fun k : Fin 7 => dutyTok EE (cell (c, .sent k)) 0 ())
      ∗ bigSep Finset.univ fun c : Dev nD => bigSep Finset.univ fun k : Fin 7 => dutyTok EE (cell (peer k.succ c, .got k)) 0 ()) := by
  rw [bigSep_univ_prod, ← swapped_others fun k c => (dutyTok EE (cell (c, .got k)) 0 () : sProp (MS F)), ← bigSep_sep', ← bigSep_sep']
  exact bigSep_congr fun c _ => by_cells fun j => (dutyTok EE (cell (c, j)) 0 () : sProp (MS F))

theorem dealt : iprop((bigSep Finset.univ fun ck : Dev nD × Cells => semVal (cell ck) 0) ∗ ownU start)
    ⊢ (|={Set.univ}=> ∃ K, known m K ∗ bigSep Finset.univ fun c : Dev nD => held c : sProp (MS F)) := by
  have halloc : iprop((bigSep Finset.univ fun ck : Dev nD × Cells => semVal (cell ck) 0) ∗ bigSep Finset.univ fun ck : Dev nD × Cells => roundState EE (plan m) (cell ck) 0)
      ⊢ (|={Set.univ}=> bigSep Finset.univ fun ck => iprop(∃ κ : ℕ, cellInv EE (plan m) κ (cell ck)) : sProp (MS F)) := by
    rw [← bigSep_sep']
    exact (bigSep_mono fun ck _ => (Rounds.body_intro EE (plan m) (cell ck)).trans inv_alloc).trans (bigSep_fupd _ _)
  iintro ⟨Hv, Hu⟩
  imod (funded m) $$ Hu with ⟨Hst, #Hr, Hat, Htok⟩
  imod halloc $$ [Hv Hst] with HI
  · isplitl [Hv] <;> iassumption
  ihave HK := (BI.bigSep_exists_pi Finset.univ (fun (ck : Dev nD × Cells) (κ : ℕ) => (cellInv EE (plan m) κ (cell ck) : sProp (MS F)))) $$ HI
  icases HK with ⟨%K, #HI⟩
  ihave Ht := (Entails.of_eq tokens_dealt) $$ Htok
  icases Ht with ⟨HtC, HtS, HtG⟩
  ihave Ha := (Entails.of_eq (bigSep_univ_prod fun ck : Dev nD × Cells => (atPos EE (cell ck) 0 ∅ 0 : sProp (MS F)))) $$ Hat
  imodintro
  iexists K
  isplitr
  · unfold known
    isplitl; · iexact HI
    iexact Hr
  · unfold held
    rw [bigSep_sep', bigSep_sep', bigSep_sep']
    isplitl [Ha]; · iexact Ha
    isplitl [HtC]; · iexact HtC
    isplitl [HtS]; · iexact HtS
    iexact HtG

/-! ### The launch credit -/

theorem owed_got (d c : Dev nD) (j k : Fin 7) : owed d j (cell (c, .got k)) () = if j = k ∧ d = peer k.succ c then N else 0 := by
  unfold owed
  rw [tallyAt_apply]
  by_cases h : j = k ∧ d = peer k.succ c
  · obtain ⟨rfl, rfl⟩ := h
    rw [peer_peer, if_pos ⟨rfl, rfl⟩, if_pos ⟨rfl, rfl⟩]
  · rw [if_neg h, if_neg]
    rintro ⟨h1, -⟩
    have h2 : c = peer j.succ d := congrArg (fun g : GSem nD τ sig => g.1.1) h1
    have h3 : Cells.got k = Cells.got j := sems_inj (congrArg Prod.snd h1)
    have h4 : k = j := Cells.got.inj h3
    subst h4
    exact h ⟨rfl, by rw [h2, peer_peer]⟩

theorem due_got (d c : Dev nD) (k : Fin 7) : due d (cell (c, .got k)) () = if d = peer k.succ c then N else 0 := by
  have h : due d (cell (c, .got k)) () = 0 + owed d 6 (cell (c, .got k)) () + owed d 5 (cell (c, .got k)) () + owed d 4 (cell (c, .got k)) ()
    + owed d 3 (cell (c, .got k)) () + owed d 2 (cell (c, .got k)) () + owed d 1 (cell (c, .got k)) () + owed d 0 (cell (c, .got k)) () := rfl
  rw [h]
  simp only [owed_got]
  by_cases hd : d = peer k.succ c
  · simp only [hd, and_true, if_true]
    fin_cases k <;> simp
  · simp only [hd, and_false, if_false]

theorem launch_got (c : Dev nD) (k : Fin 7) :
    tallyOn (cell (c, .got k)) (launchCredit (Pipeline.owing due) 0 (cell (c, .got k))) = (tallyAt (cell (c, .got k)) () N : CellTallies nD τ sig Unit) := by
  unfold tallyAt; refine congrArg _ (Finsupp.ext fun u => ?_); cases u
  rw [Pipeline.launchCredit_owing, Finsupp.single_eq_same, Finset.sum_congr rfl fun d _ => due_got d c k,
    Finset.sum_ite_eq' Finset.univ (peer k.succ c) fun _ => N, if_pos (Finset.mem_univ _)]

theorem got_inj : Function.Injective fun k : Fin 7 => sems (.got k) := fun _ _ h => Cells.got.inj (sems_inj h)

theorem credit (c : Dev nD) : (Pipeline.launchCred due c : sProp (MS F)) ⊢ bigSep Finset.univ fun k : Fin 7 => cred (tallyAt (cell (c, .got k)) () N) := by
  have h : (bigSep Finset.univ fun k : Fin 7 => (cred (tallyAt (cell (c, .got k)) () N) : sProp (MS F)))
      = bigSep (Finset.univ.map ⟨_, got_inj⟩) fun sm : SemLoc sig =>
          cred (tallyOn ((c : Thread nD τ), sm) (launchCredit (Pipeline.owing due) 0 ((c : Thread nD τ), sm))) := by
    rw [bigSep_map]
    exact bigSep_congr fun k _ => by rw [← launch_got]; rfl
  unfold Pipeline.launchCred
  rw [h]
  exact bigSep_subset (Finset.subset_univ _)

/-! ### What each device starts from -/

/-- The scoped semaphores that are neither of the two. -/
abbrev idle (c : Dev nD) : sProp (MS F) := Pipeline.idleSems0 cfgs cellOf_inj 0 own_facts c

theorem sems_split (c : Dev nD) : (scopedSems0 (c : Thread nD τ) : sProp (MS F))
    = iprop((Pipeline.cellsSems0 cfgs 0 c ∗ Pipeline.ownSems0 sems c) ∗ idle c) :=
  Pipeline.scopedSems0_split cfgs cellOf_inj 0 winFacts0.to₀ own_facts c

theorem bufs_split (c : Dev nD) : (scopedBufs (c : Thread nD τ) : sProp (MS F)) = iprop(Dat.staging cfg0 c ∗ Pipeline.scopedRest cfg0.spec c) :=
  Pipeline.scopedBufs_split cfgs 0 winFacts0.stage_scoped winFacts0.stage_inj stage_whole0 c

theorem arrays_two (c : Dev nD) : (unscopedBufs c fun b => m ((c : Thread nD τ).loc b) : sProp (MS F))
    = iprop(argPts m c ∗ resPts c (m ((c : Thread nD τ).loc main_v1))) := by
  rw [Pipeline.unscopedBufs_split cfgs 0 winFacts0.arr_unscoped winFacts0.arr_inj c, none_W, unscopedRest0_eq]
  exact equiv_iff.mp BI.emp_sep

/-- What a device holds of its own at launch. -/
def own (c : Dev nD) : sProp (MS F) :=
  iprop(scopedBufs (c : Thread nD τ) ∗ idle c ∗ owes (c : Thread nD τ) (due c) ∅ ∗ (bigSep Finset.univ fun k : Fin 7 => cred (tallyAt (cell (c, .got k)) () N))
    ∗ argPts m c)

theorem cells_eq (c : Dev nD) : (Pipeline.ownSems0 sems c : sProp (MS F)) = bigSep Finset.univ fun j : Cells => semVal (cell (c, j)) 0 := rfl

theorem core_start (c : Dev nD) :
    coreInit (Ix := Unit) (Name := ℕ) (U := UR sig nD τ) (Lvl := ℕ) (Pipeline.owing due) 0 (⟨m, fun _ => 0, ρ⟩ : MemSt nD τ sig (Elt F)) (c : Thread nD τ)
      ⊢ (iprop(own m c ∗ resPts c (m ((c : Thread nD τ).loc main_v1)) ∗ bigSep Finset.univ fun j : Cells => semVal (cell (c, j)) 0) : sProp (MS F)) := by
  refine (Pipeline.coreInit_boundary_owing due m ρ c).trans ?_
  unfold boundary own
  rw [sems_split, cells_eq, arrays_two]
  iintro ⟨⟨Hsc, ⟨⟨-, Hz⟩, Hidle⟩, -⟩, ⟨Ha, Hr⟩, -, HO, -, -, Hcr⟩
  ihave Hcr := (credit c) $$ Hcr
  isplitl [Hsc Hidle HO Hcr Ha]
  · isplitl [Hsc]; · iexact Hsc
    isplitl [Hidle]; · iexact Hidle
    isplitl [HO]; · iexact HO
    isplitl [Hcr] <;> iassumption
  isplitl [Hr]; · iexact Hr
  iexact Hz

/-- What a device's run starts from. -/
def pre (K : Dev nD × Cells → ℕ) (c : Dev nD) : sProp (MS F) :=
  iprop(scopedBufs (c : Thread nD τ) ∗ idle c ∗ owes (c : Thread nD τ) (due c) ∅ ∗ known m K ∗ mine m c)
/-- And what it ends with. -/
def fin (c : Dev nD) : sProp (MS F) := iprop((argPts m c ∗ resPts c (gathered m)) ∗ scopedSems0 (c : Thread nD τ))

theorem pre_one (K : Dev nD × Cells → ℕ) (c : Dev nD) :
    iprop(known m K ∗ (own m c ∗ (bigSep Finset.univ fun k : Fin 8 => slotPts (peer k c) c (m ((peer k c : Thread nD τ).loc main_v1))) ∗ held c)) ⊢ pre m K c := by
  unfold pre mine held own copyIn sendIn waitIn
  rw [arg_split, by_peers, by_peers, by_cells, bigSep_sep', bigSep_sep', bigSep_sep', bigSep_sep', bigSep_sep']
  iintro ⟨#HK, ⟨Hsc, Hidle, HO, Hcr, HaC, HaS⟩, ⟨HsC, HsS⟩, ⟨HpC, HpS, HpG⟩, HtC, HtS, HtG⟩
  isplitl [Hsc]; · iexact Hsc
  isplitl [Hidle]; · iexact Hidle
  isplitl [HO]; · iexact HO
  isplitr; · iexact HK
  isplitl [HaC HsC HtC HpC]
  · isplitl [HaC]; · iexact HaC
    isplitl [HsC]; · iexact HsC
    isplitl [HtC] <;> iassumption
  isplitl [HaS HsS HtS HtG HpS]
  · isplitl [HaS]; · iexact HaS
    isplitl [HsS]; · iexact HsS
    isplitl [HtS]; · iexact HtS
    isplitl [HtG] <;> iassumption
  isplitl [Hcr] <;> iassumption

/-- What the waits left is the device's argument, its result filled, and its cells at zero. -/
theorem ended_eq (c : Dev nD) : ended m c ⊢ iprop((argPts m c ∗ resPts c (gathered m)) ∗ bigSep Finset.univ fun j : Cells => semVal (cell (c, j)) 0) := by
  have hres : resPts c (gathered m) = bigSep Finset.univ fun k : Fin 8 => slotPts c (peer k c) (gathered m) := by
    rw [res_split, bigSep_univ_equiv (around c)]
    rfl
  unfold ended waited
  rw [bigSep_sep', hres, arg_split, by_peers, by_peers, by_cells fun j => pay m c j]
  unfold pay
  iintro ⟨⟨⟨HrC, HaC⟩, HaS, HrS⟩, Hz⟩
  isplitr [Hz]
  · isplitl [HaC HaS]
    · isplitl [HaC] <;> iassumption
    · isplitl [HrC] <;> iassumption
  iexact Hz

theorem start_all : iprop((bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ∗ ownU start)
    ⊢ (|={Set.univ}=> ∃ K, bigSep Finset.univ (pre m K) ∗ emp : sProp (MS F)) := by
  have hcores : (bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ⊢ (iprop((bigSep Finset.univ fun c : Dev nD => own m c)
          ∗ (bigSep Finset.univ fun c : Dev nD => resPts c (m ((c : Thread nD τ).loc main_v1)))
          ∗ bigSep Finset.univ fun ck : Dev nD × Cells => semVal (cell ck) 0) : sProp (MS F)) := by
    rw [bigSep_univ_prod, ← bigSep_sep', ← bigSep_sep']
    exact bigSep_mono fun c _ => core_start m ρ c
  have hall (K : Dev nD × Cells → ℕ) : iprop(known m K ∗ ((bigSep Finset.univ fun c : Dev nD => own m c)
          ∗ (bigSep Finset.univ fun c : Dev nD => bigSep Finset.univ fun k : Fin 8 => slotPts (peer k c) c (m ((peer k c : Thread nD τ).loc main_v1)))
          ∗ bigSep Finset.univ fun c : Dev nD => held c)) ⊢ (bigSep Finset.univ (pre m K) : sProp (MS F)) := by
    rw [← bigSep_sep', ← bigSep_sep']
    refine (sep_mono_left (BI.bigSep_of_persistent (Finset.univ : Finset (Dev nD)) (known m K))).trans ?_
    rw [← bigSep_sep']
    exact bigSep_mono fun c _ => pre_one m K c
  iintro ⟨Hc, Hu⟩
  ihave H := hcores $$ Hc
  icases H with ⟨Hown, Hres, Hz⟩
  imod (dealt m) $$ [Hz Hu] with ⟨%K, #HK, Hh⟩
  · isplitl [Hz] <;> iassumption
  ihave Hr := (Entails.of_eq (slots_dealt m)) $$ Hres
  imodintro
  iexists K
  isplitr []
  · iapply (hall K)
    isplitr; · iexact HK
    isplitl [Hown]; · iexact Hown
    isplitl [Hr]; · iexact Hr
    iexact Hh
  · iempintro

/-! ## The run -/

abbrev adm : (p : Fin 1) → (pcfgs (F := F) p).Adm := fun p => (cfgs p).toPCfg_adm

/-- What the region's entry asks for: of a kernel without windows, only the device's dues. -/
theorem entry_pre (K : Dev nD × Cells → ℕ) (c : Dev nD) :
    owes (c : Thread nD τ) (due c) ∅ ⊢ (Pipeline.EntryPre cfgs (dat m K) () EE (fun _ => 0) 0 c : sProp (MS F)) := by
  have ha : ((dat m K 0 c).arrays ((dat m K 0 c).arrAt · 0) : sProp (MS F)) = BI.emp := none_W _
  have hw : (Pipeline.PerCore.cellsWaits (fun _ => cfgs) (dat m K) () 0 c : sProp (MS F)) = BI.emp := none_W _
  have hi : (Pipeline.PerCore.cellsInit (fun _ => cfgs) (dat m K) EE (fun _ => 0) 0 c : sProp (MS F)) = BI.emp := none_W _
  have ht : (Pipeline.PerCore.toksInit (fun _ => cfgs) EE 0 c : sProp (MS F)) = BI.emp := none_W _
  unfold Pipeline.EntryPre Pipeline.PerCore.EntryPre
  rw [ha, hw, hi, ht]
  unfold Dat.owesAt Pipeline.owesWithin
  rw [show (dat m K 0 c).owed 0 = due c from rfl]
  iintro HO
  isplitr; · iempintro
  isplitl [HO]
  · iexists ∅; isplitr; · ipureintro; rw [Finset.coe_empty]; exact Set.empty_subset _
    iexact HO
  isplitr; · iempintro
  isplitr; · iempintro
  iempintro

/-- What the region leaves: nothing due. -/
theorem entry_post (K : Dev nD × Cells → ℕ) (c : Dev nD) :
    Pipeline.EntryPost cfgs (dat m K) () 0 c ⊢ (iprop(∃ W, owes (c : Thread nD τ) 0 W) : sProp (MS F)) := by
  unfold Pipeline.EntryPost Pipeline.PerCore.EntryPost Dat.owesAt Pipeline.owesWithin
  rw [show (dat m K 0 c).owed (Fin.last (cfgs 0).N) = 0 from rfl]
  iintro ⟨-, %W, -, HO⟩
  iexists W
  iexact HO

/-- There is no prefetched table to hold. -/
theorem no_pref (c : Dev nD) (q : Fin (pcfgs (F := F) 0).pre.K → PosShare TreeShare) (V : (pcfgs (F := F) 0).pre.Contents (Elt F)) :
    (Pipeline.prefHeld (pcfgs (F := F) 0).pre c q V : sProp (MS F)) = BI.emp := by
  unfold Pipeline.prefHeld
  rw [show (Finset.univ : Finset (Fin (pcfgs (F := F) 0).pre.K)) = ∅ from rfl, BI.bigSep_empty]

/-- The region on one device. -/
theorem region (K : Dev nD × Cells → ℕ) (c : Dev nD)
    (hout : iprop((dat m K 0 c).Φ (Fin.last cfg0.N) ∗ Pipeline.cellsSems0 cfgs 0 c ∗ Dat.staging cfg0 c ∗ idle c)
      ⊢ iprop((argPts m c ∗ resPts c (gathered m)) ∗ scopedSems0 (c : Thread nD τ) ∗ scopedBufs (c : Thread nD τ)))
    (Q : PUnit → sProp (MS F)) :
    iprop(Pipeline.EntryPre cfgs (dat m K) () EE (fun _ => 0) 0 c ∗ Pipeline.prefHeld (pcfgs (F := F) 0).pre c (fun _ => fullShare.right) (adm (F := F) 0).1
        ∗ (known m K ∗ mine m c) ∗ idle c ∗ scopedBufs (c : Thread nD τ))
      ⊢ iprop(((Pipeline.EntryPost cfgs (dat m K) () 0 c ∗ (argPts m c ∗ resPts c (gathered m)) ∗ scopedSems0 (c : Thread nD τ) ∗ scopedBufs (c : Thread nD τ))
          -∗ wp frame (wpE (Pipeline.defs pcfgs defs₀) (Variants.lift Variants.none) (c : Thread nD τ) none) Set.univ (.ret ⟨⟩) Q)
        -∗ wp frame (wpE (Pipeline.defs pcfgs defs₀) (Variants.lift Variants.none) (c : Thread nD τ) none) Set.univ
            (.op (.customCall (Pipeline.entry 0) ()) fun _ => .ret ⟨⟩) Q) := by
  have h1 : Pipeline.BodyObligationLoose (dat m K 0 c) (defs₀ (F := F)) Variants.none () Set.univ := (body_obligation m K c).loose
  have h2 : iprop((known m K ∗ mine m c) ∗ Pipeline.prefHeld (pcfgs (F := F) 0).pre c (fun _ => fullShare.right) (adm (F := F) 0).1
      ∗ Pipeline.scopedRest cfg0.spec c) ⊢ (dat m K 0 c).Φ 0 := by
    rw [show (dat m K 0 c).Φ 0 = iprop(known m K ∗ mine m c) from rfl]
    iintro ⟨HX, -, -⟩; iexact HX
  have h3 : ∀ w : Fin cfg0.W, 0 < (cfg0.win w).block.numel := fun w => (show Fin 0 from w).elim0
  have h4 := Entails.of_eq (bufs_split (F := F) c)
  exact Pipeline.wp_customCall_entry_frame pcfgs adm (dat m K) () EE (fun _ => 0) cellOf_inj 0 defs₀ Variants.none (fun _ => fullShare.right) c Set.univ
      (fun _ _ => Set.mem_univ _) h1 h3 none (fun u h => nomatch h) h4 h2 hout

/-- Each device's run. -/
theorem device_run (K : Dev nD × Cells → ℕ) (c : Dev nD) :
    pre m K c ⊢ wp frame (wpE (defs (F := F)) (Variants.lift Variants.none) (c : Thread nD τ) none) Set.univ (main (F := F) c)
      (fun _ => post (liftTc (fin m) BI.emp) (c : Thread nD τ)) := by
  have hout : iprop((dat m K 0 c).Φ (Fin.last cfg0.N) ∗ Pipeline.cellsSems0 cfgs 0 c ∗ Dat.staging cfg0 c ∗ idle c)
      ⊢ iprop((argPts m c ∗ resPts c (gathered m)) ∗ scopedSems0 (c : Thread nD τ) ∗ scopedBufs (c : Thread nD τ)) := by
    rw [show (dat m K 0 c).Φ (Fin.last cfg0.N) = ended m c from rfl, sems_split, cells_eq, bufs_split, scopedRest0_eq]
    iintro ⟨HE, Hcells, Hst, Hidle⟩
    ihave HE := (ended_eq m c) $$ HE
    icases HE with ⟨HY, Hz⟩
    isplitl [HY]; · iexact HY
    isplitl [Hz Hcells Hidle]
    · isplitr [Hidle]
      · isplitl [Hcells]; · iexact Hcells
        iexact Hz
      · iexact Hidle
    isplitl [Hst]; · iexact Hst
    iempintro
  rw [show main (F := F) c = .op (.customCall (Pipeline.entry 0) ()) fun _ => .ret ⟨⟩ from rfl]
  unfold pre
  iintro ⟨Hsc, Hidle, HO, #HK, Hm⟩
  iapply (region m K c hout) $$ [Hsc Hidle HO Hm]
  · isplitl [HO]
    · iapply (entry_pre m K c); iexact HO
    isplitr
    · iapply (Entails.of_eq (no_pref c _ _).symm); iempintro
    isplitl [Hm]
    · isplitr; · iexact HK
      iexact Hm
    isplitl [Hidle] <;> iassumption
  iintro ⟨Hpost, HY, Hss, -⟩
  rw [wp_ret]; imodintro
  unfold post; simp only [liftTc_tc]
  unfold fin
  isplitl [HY Hss]
  · isplitl [HY] <;> iassumption
  · iapply (entry_post m K c); iexact Hpost

/-- What a device ends with tells the two buffers and that its semaphores are back at zero. -/
theorem fin_read (c : Dev nD) (s' : Phys nD τ sig (Elt F)) : iprop(fin m c ∗ SI s') ⊢ (|={Set.univ}=>
    iprop(⌜(s'.mem.mem ((c : Thread nD τ).loc main_v1) = gathered m ∧ s'.mem.mem ((c : Thread nD τ).loc main_arg0) = m ((c : Thread nD τ).loc main_arg0))
      ∧ ∀ sm : SemLoc sig, sm.isScoped .tc = true → s'.mem.sem ((c : Thread nD τ), sm) = 0⌝ ∗ SI s') : sProp (MS F)) := by
  unfold fin argPts resPts
  iintro ⟨⟨⟨Ha, Hr⟩, Hss⟩, HSI⟩
  ihave %hz := (tcScoped_read_pers c s') $$ [Hss HSI]
  · isplitl [Hss] <;> iassumption
  ihave HA := (pointsTo_read_all ({()} : Finset Unit) (fun _ => (c : Thread nD τ).loc main_arg0) (fun _ => m ((c : Thread nD τ).loc main_arg0)) s') $$ [Ha HSI]
  · isplitl [Ha]; · rw [BI.bigSep_singleton]; iexact Ha
    iexact HSI
  icases HA with ⟨%ha, HSI⟩
  ihave HR := (pointsTo_read_all ({()} : Finset Unit) (fun _ => (c : Thread nD τ).loc main_v1) (fun _ => gathered m) s') $$ [Hr HSI]
  · isplitl [Hr]; · rw [BI.bigSep_singleton]; iexact Hr
    iexact HSI
  icases HR with ⟨%hr, HSI⟩
  imodintro
  isplitr
  · ipureintro; exact ⟨⟨hr () (Finset.mem_singleton_self _), ha () (Finset.mem_singleton_self _)⟩, hz⟩
  · iexact HSI

/-- The run of the whole mesh: every device's result holds the rows of all eight, the argument is as it was, and every
    semaphore is back at zero. -/
theorem run (ρ) : θ_run (defs (F := F)) (onTc (τ := τ) (main (F := F))) ⟨m, fun _ => 0, ρ⟩
    (fun r => (∀ c : Dev nD, r.2.mem ((c : Thread nD τ).loc main_v1) = gathered m
      ∧ r.2.mem ((c : Thread nD τ).loc main_arg0) = m ((c : Thread nD τ).loc main_arg0)) ∧ r.2.sem = fun _ => 0) := by
  refine adequate_tpu (defs (F := F)) _ _ _ (reflect_intro_fupd_tc_sems (X := Dev nD × Cells → ℕ) (Variants.lift Variants.none) (Pipeline.owing due) 0
    (noBookings fun _ => le_rfl) (Pipeline.owing_of_ne due) start (pre m) (fun _ => fin m) (fun _ => iprop(emp)) Set.univ (start_all m ρ) (device_run m) fun _ => ?_)
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => (h c (Finset.mem_univ c)).1, sem_eq_zero_of_scoped (by decide) (sems_of_reads (fun c => (h c (Finset.mem_univ c)).2) hsc)⟩

end Cert.GatProof

end
-- ==== Proof.GatPair.lean ====
/-  The gathering of the small gradients over the mesh and its reference: the frames and the value claim. -/
module

public import proofs.«01_k».proof.Defs
public import proofs.«01_k».proof.Proof.Gen.GatKernel
public import proofs.«01_k».proof.Proof.Gen.GatReferenceIdeal.Run
public import proofs.«01_k».proof.Proof.Gen.GatReferenceIdeal.Read
public import proofs.«01_k».proof.Proof.GatRun
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.GatPair

open Cert

attribute [local instance] Cert.GatKernel.Gen.facts Cert.GatKernelIdeal.Gen.facts Cert.GatReferenceIdeal.Gen.facts

/-- The float program and its idealization are one text, so the one run serves both. -/
theorem frameK : quiescent_GatKernel := fun m ρ _ =>
  (θ_run Cert.GatKernel.defs _ _).mono (fun r h => ⟨fun c => (h.1 c).2, h.2⟩) (Cert.GatProof.run (F := Bits) m ρ)
theorem frameI : quiescent_GatKernelIdeal := fun m ρ _ =>
  (θ_run Cert.GatKernelIdeal.defs _ _).mono (fun r h => ⟨fun c => (h.1 c).2, h.2⟩) (Cert.GatProof.run (F := Ideal) m ρ)
theorem frameR : quiescent_GatReferenceIdeal := fun m ρ _ =>
  (θ_run Cert.GatReferenceIdeal.defs _ _).mono (fun r h => ⟨fun c => (h c).2, sem_eq_zero_of_no_sems (by decide) r.2⟩)
    (Cert.GatReferenceIdeal.Value.run (F := Ideal) m ρ)

open Cert.GatKernelIdeal in
/-- A row and column of a device's slot, as an index of the whole result. -/
def inSlot (p : Fin 8) (y : S1288x128.Idx) : S8x1288x128.Idx
  | ⟨0, _⟩ => p
  | ⟨1, _⟩ => y 0
  | ⟨2, _⟩ => y 1

open Cert.GatKernelIdeal in
def unitRow (y : S1288x128.Idx) : S1x1288x128.Idx
  | ⟨0, _⟩ => (0 : Fin 1)
  | ⟨1, _⟩ => y 0
  | ⟨2, _⟩ => y 1

open Cert.GatKernelIdeal in
theorem numel_eq : S1288x128.numel = S1x1288x128.numel := by decide

open Cert.GatKernelIdeal in
theorem unit_eq (h : S1288x128.numel = S1x1288x128.numel) (y : S1288x128.Idx) : Shape.reshapeEquiv h y = unitRow y := by
  refine Shape.reshapeEquiv_eq_of_rowMajor h ?_
  rw [Shape.rowMajor_val_three, Shape.rowMajor_val_two]
  show (0 * 1288 + (y 0).val) * 128 + (y 1).val = (y 0).val * 128 + (y 1).val
  omega

open Cert.GatKernelIdeal in
theorem rect_eq (p : Dev nD) (y : S1288x128.Idx) :
    (Rect.unit (s := S8x1288x128) (k0_off1 p) S1x1288x128.size (Gen.k0_off1_inb p)).emb (unitRow y) = inSlot p y := by
  have hoff := Gen.k0_off1_eq p
  have hp : p.val < 8 := p.isLt
  refine funext fun b => Fin.ext ?_
  rw [Rect.emb_apply]
  show (k0_off1 p) b + 1 * (unitRow y b).val = (inSlot p y b).val
  rw [hoff]
  match b with
  | ⟨0, _⟩ =>
    show 4 * (p.val / 4) + 2 * ((p.val / 2) % 2) + (p.val % 2) + 1 * 0 = p.val
    omega
  | ⟨1, _⟩ => show 0 + 1 * (y 0).val = (y 0).val; omega
  | ⟨2, _⟩ => show 0 + 1 * (y 1).val = (y 1).val; omega

open Cert.GatKernelIdeal in
theorem slot_emb (p : Dev nD) (y : S1288x128.Idx) : (Cert.GatProof.slotM p).view.emb y = inSlot p y :=
  (show (Cert.GatProof.slotM p).view.emb y
    = (Rect.unit (s := S8x1288x128) (k0_off1 p) S1x1288x128.size (Gen.k0_off1_inb p)).emb (Shape.reshapeEquiv numel_eq y) from rfl).trans
    ((congrArg _ (unit_eq numel_eq y)).trans (rect_eq p y))

open Cert.GatKernelIdeal in
/-- What stands in the result at a row and column of a slot. -/
theorem gathered_at (m : (ℓ : Loc nD τ sig) → Buf (Elt Ideal) ℓ) (p : Dev nD) (y : S1288x128.Idx) :
    Cert.GatProof.gathered m (inSlot p y) = m ((p.tc : Thread nD τ).loc main_arg0) y := by
  show Cert.GatProof.written m p (inSlot p y) = _
  unfold Cert.GatProof.written
  rw [← slot_emb]
  exact View.write_emb_of_mem _ _ (Finset.mem_univ _)

theorem arg_tiles : Layout.Tiles ⟨2, ![1288, 128]⟩ ⟨2, ![10304, 128]⟩ 0 8 := by decide

abbrev TX := (⟨Cert.GatReferenceIdeal.S10304x128, .f32⟩ : BufTy).Contents (Elt Ideal)

theorem ref_at (x : TX) (p : Fin 8) (y : Cert.GatKernelIdeal.S1288x128.Idx) :
    Cert.GatReferenceIdeal.Read.val_main_v0 (F := Ideal) x (inSlot p y) = x (arg_tiles.idx p y) := by
  refine shapeCast_apply x _ _ _ ?_
  rw [Shape.rowMajor_val_three, Shape.rowMajor_val_two, Layout.Tiles.idx_val, Layout.Tiles.idx_val]
  show (p.val * 1288 + (y 0).val) * 128 + (y 1).val = (p.val * 1288 + (y 0).val) * 128 + (y 1).val
  rfl

theorem slot_of (i : Cert.GatKernelIdeal.S8x1288x128.Idx) : ∃ (p : Fin 8) (y : Cert.GatKernelIdeal.S1288x128.Idx), i = inSlot p y := by
  refine ⟨i 0, fun b => match b with | ⟨0, _⟩ => i 1 | ⟨1, _⟩ => i 2, funext fun b => ?_⟩
  match b with
  | ⟨0, _⟩ => rfl
  | ⟨1, _⟩ => rfl
  | ⟨2, _⟩ => rfl

/-- The reference's result is what every device gathered, when every device holds its rows of the argument. -/
theorem whole_eq (m : (ℓ : Loc Cert.GatKernelIdeal.nD Cert.GatKernelIdeal.τ Cert.GatKernelIdeal.sig) → Buf (Elt Ideal) ℓ) (x : TX)
    (hx : ∀ c : Dev Cert.GatKernelIdeal.nD, m ((c.tc : Thread Cert.GatKernelIdeal.nD Cert.GatKernelIdeal.τ).loc Cert.GatKernelIdeal.main_arg0)
      = Layout.block ⟨2, ![1288, 128]⟩ ⟨2, ![10304, 128]⟩ 0 8 c x arg_tiles) :
    Cert.GatProof.gathered m = Cert.GatReferenceIdeal.Read.val_main_v0 (F := Ideal) x := by
  refine funext fun i => ?_
  obtain ⟨p, y, rfl⟩ := slot_of i
  rw [gathered_at, hx, Layout.block_apply]
  exact (ref_at x p y).symm

theorem value : algebraic_GatKernelIdeal_GatReferenceIdeal := by
  intro m g m' g' _ hx
  refine ⟨Cert.GatReferenceIdeal.Read.val_main_v0 (F := Ideal) (m' (((0 : Dev Cert.GatReferenceIdeal.nD).tc : Thread Cert.GatReferenceIdeal.nD Cert.GatReferenceIdeal.τ).loc Cert.GatReferenceIdeal.main_arg0)), ?_, ?_⟩
  · exact (θ_run Cert.GatKernelIdeal.defs _ _).mono (fun r h c => ⟨(h.1 c).1.trans (whole_eq m _ hx), (h.1 c).2⟩) (Cert.GatProof.run (F := Ideal) m g)
  · exact (θ_run Cert.GatReferenceIdeal.defs _ _).mono (fun r h => ⟨(h 0).1.trans (Cert.GatReferenceIdeal.Read.val_main_v0_eq _), (h 0).2⟩)
      (Cert.GatReferenceIdeal.Value.run (F := Ideal) m' g')

end Cert.GatPair

end
-- ==== Proof.SctRun.lean ====
/-  The scatter of partial sums: each device sends the panel of every other chip of the mesh to the device of its own core there, into the
    place that belongs to its chip. This module runs the program on the whole mesh: every execution ends, every device's result holds its
    panel of the four chips, the arguments are unchanged and every counter is back at zero.
    When the mesh is launched every device is handed the place it writes in the results of its three peers, so nothing is waited for before
    the sends. Each device has six semaphores: three for the panels it sends and three for those it receives. Each is fired once. The place of
    the device's own chip is not written by the exchange; the program fills it from the argument afterwards. -/
module

public import proofs.«01_k».proof.Proof.Gen.SctKernelIdeal
public import proofs.«01_k».proof.Proof.Gen.SctKernelIdeal.Skeleton
public import proofs.«01_k».proof.Proof.Gen.SctKernelIdeal.Launch
public import proofs.«01_k».proof.Proof.Gen.SctKernelIdeal.Regions
public import proofs.«01_k».proof.Proof.Gen.SctKernelIdeal.Points
public import Idealize.ShloMosaic.Lib.Pipeline.Launch
public import Idealize.ShloMosaic.Lib.Pipeline.Kit
public import Idealize.ShloMosaic.Lib.Pipeline.ValueKit.Geometry
public import Idealize.ShloMosaic.Lib.Exec.Geometry
public import Idealize.ShloMosaic.Lib.ShareLeaves
public import Idealize.ShloMosaic.Lib.Tactic

@[expose] public section

noncomputable section

namespace Cert.SctProof

open Cert.SctKernelIdeal Cert.SctKernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra the proof's assertions are over. -/
abbrev MS (F : FTy → Type) := MT nD τ sig Unit (Elt F) ℕ (UR sig nD τ) ℕ
abbrev EE : Emb (UR sig nD τ) (MS F) := emb₁

variable (m : (ℓ : Loc nD τ sig) → Buf (Elt F) ℓ) (ρ : Dev nD → PrngReg)

/-! ## Peers, slots and cells -/

/-- A device's peers as the kernel computes them, itself first. -/
abbrev peer : Fin 4 → Dev nD → Dev nD
  | 0, c => c
  | 1, c => ⟨k0_dev1 c, k0_dev1_lt c⟩
  | 2, c => ⟨k0_dev2 c, k0_dev2_lt c⟩
  | 3, c => ⟨k0_dev3 c, k0_dev3_lt c⟩

/-- The chip a device is on. -/
def chip (c : Dev nD) : Fin 4 := ⟨c.val / 2, by have h : c.val < 8 := c.isLt; omega⟩

theorem peer_peer : ∀ (k : Fin 4) (c : Dev nD), peer k (peer k c) = c := by decide +kernel
theorem chip_inj : ∀ (c : Dev nD) (k l : Fin 4), chip (peer k c) = chip (peer l c) → k = l := by decide +kernel
theorem chip_onto : ∀ (c : Dev nD) (q : Fin 4), ∃ k, chip (peer k c) = q := by decide +kernel

def peers (k : Fin 4) : Dev nD ≃ Dev nD := ⟨peer k, peer k, peer_peer k, peer_peer k⟩
/-- The four chips as seen from a device: by the peer that is there. -/
def around (c : Dev nD) : Fin 4 ≃ Fin 4 := Equiv.ofBijective (fun k => chip (peer k c)) ⟨fun k l h => chip_inj c k l h, chip_onto c⟩
/-- Which peer is on a chip. -/
def which (c : Dev nD) (q : Fin 4) : Fin 4 := (around c).symm q
theorem which_chip (c : Dev nD) (k : Fin 4) : which c (chip (peer k c)) = k := (around c).symm_apply_apply k
theorem chip_which (c : Dev nD) (q : Fin 4) : chip (peer (which c q) c) = q := (around c).apply_symm_apply q

/-- Where the panel of a peer's chip begins. -/
abbrev offs : Fin 4 → Dev nD → Fin 3 → ℕ
  | 0, c => k0_off1 c
  | 1, c => k0_off2 c
  | 2, c => k0_off3 c
  | 3, c => k0_off4 c
theorem offs_eq : ∀ (k : Fin 4) (c : Dev nD), offs k c = ![(chip (peer k c)).val, 0, 0] := by decide +kernel
theorem offs_inb : ∀ (k : Fin 4) (c : Dev nD) (a : Fin 3), offs k c a + S1x1024x2816.size a ≤ S4x1024x2816.size a := by decide +kernel

abbrev argM : Memref sig .tc .hbm S4x1024x2816 .bf16 := Memref.whole main_arg0
abbrev resM : Memref sig .tc .hbm S4x1024x2816 .bf16 := Memref.whole main_v1
abbrev panelRect (k : Fin 4) (c : Dev nD) : Rect S4x1024x2816 := Rect.unit (s := S4x1024x2816) (offs k c) S1x1024x2816.size (offs_inb k c)
/-- The panel of a device's argument that belongs to its peer's chip. -/
abbrev panelM (k : Fin 4) (c : Dev nD) : Memref sig .tc .hbm S1024x2816 .bf16 :=
  (argM.slice (panelRect k c) (fun _ => rfl)).squeeze S1024x2816 squeezes_S1x1024x2816_S1024x2816
/-- The slot of a result that belongs to device `p`'s chip. -/
abbrev slotM (p : Dev nD) : Memref sig .tc .hbm S1024x2816 .bf16 :=
  (resM.slice (panelRect 0 p) (fun _ => rfl)).squeeze S1024x2816 squeezes_S1x1024x2816_S1024x2816

theorem mem_rect (k : Fin 4) (c : Dev nD) (i : S4x1024x2816.Idx) : i ∈ (panelRect k c).set ↔ i 0 = chip (peer k c) := by
  rw [Rect.mem_set_unit, offs_eq]
  constructor
  · intro h
    have h0 : (chip (peer k c)).val ≤ (i 0).val ∧ (i 0).val < (chip (peer k c)).val + 1 := h 0
    exact Fin.ext (by omega)
  · intro h a
    have h0 : (i 0).val = (chip (peer k c)).val := congrArg Fin.val h
    match a with
    | ⟨0, _⟩ =>
      show (chip (peer k c)).val ≤ (i 0).val ∧ (i 0).val < (chip (peer k c)).val + 1
      omega
    | ⟨1, _⟩ => exact ⟨Nat.zero_le _, by have h1 : (i 1).val < 1024 := (i 1).isLt; show (i 1).val < 0 + 1024; omega⟩
    | ⟨2, _⟩ => exact ⟨Nat.zero_le _, by have h1 : (i 2).val < 2816 := (i 2).isLt; show (i 2).val < 0 + 2816; omega⟩

theorem mem_panel (k : Fin 4) (c : Dev nD) (i : S4x1024x2816.Idx) : i ∈ (panelM k c).view.set ↔ i 0 = chip (peer k c) := by
  have hs : (panelM k c).view.set = ((View.whole main_arg0).slice (panelRect k c)).set := View.set_reshape _ _
  rw [hs]
  exact ValueKit.mem_set_slice_whole_iff main_arg0 _ i (mem_rect k c i)

theorem mem_slot (p : Dev nD) (i : S4x1024x2816.Idx) : i ∈ (slotM p).view.set ↔ i 0 = chip p := by
  have hs : (slotM p).view.set = ((View.whole main_v1).slice (panelRect 0 p)).set := View.set_reshape _ _
  rw [hs]
  exact ValueKit.mem_set_slice_whole_iff main_v1 _ i (mem_rect 0 p i)

abbrev sentS : Fin 3 → DmaSem sig
  | 0 => ((cc0_scratch0.slice (Rect.unit (s := S3) ![0] S1.size inb_S3_S1_0)).squeeze S_ squeezes_S1_S_).sem
  | 1 => ((cc0_scratch0.slice (Rect.unit (s := S3) ![1] S1.size inb_S3_S1_1)).squeeze S_ squeezes_S1_S_).sem
  | 2 => ((cc0_scratch0.slice (Rect.unit (s := S3) ![2] S1.size inb_S3_S1_2)).squeeze S_ squeezes_S1_S_).sem
abbrev gotS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem

/-- A device's semaphores: the three sends', the three receives'. -/
inductive Cells
  | sent (k : Fin 3)
  | got (k : Fin 3)
deriving DecidableEq

def cellsEquiv : Fin 3 ⊕ Fin 3 ≃ Cells where
  toFun | .inl k => .sent k | .inr k => .got k
  invFun | .sent k => .inl k | .got k => .inr k
  left_inv := by rintro (_ | _) <;> rfl
  right_inv := by rintro (_ | _) <;> rfl

instance : Fintype Cells := Fintype.ofEquiv _ cellsEquiv

abbrev dsem : Cells → DmaSem sig
  | .sent k => sentS k
  | .got k => gotS k
abbrev sems (j : Cells) : SemLoc sig := .dma (dsem j)
theorem dsem_inj : Function.Injective dsem := by decide
theorem sems_inj : Function.Injective sems := fun i j h => dsem_inj (SemLoc.dma.inj h)
abbrev cell (cj : Dev nD × Cells) : GSem nD τ sig := ((cj.1 : Thread nD τ), sems cj.2)

/-- A transfer's credit. -/
def N : ℕ := (slotM 0).view.dmaCredit
theorem N_slot (p : Dev nD) : (slotM p).view.dmaCredit = N := rfl
theorem N_pos : 0 < N := View.dmaCredit_pos _ (Shape.numel_pos fun a => by fin_cases a <;> exact Nat.succ_pos _)

/-! ## Memory -/

/-- The panel that the `k`th peer sends, written over the place of its chip. -/
def written (c : Dev nD) (k : Fin 4) : (⟨S4x1024x2816, .bf16⟩ : BufTy).Contents (Elt F) :=
  (slotM (peer k c)).view.write (Elt F) (m ((c : Thread nD τ).loc main_v1))
    ((panelM k (peer k c)).view.read (Elt F) (m ((peer k c : Thread nD τ).loc main_arg0))) Finset.univ

/-- What a device's result holds after the exchange: the peers' panels, and in the place of its own chip what was there. -/
def landed (c : Dev nD) : (⟨S4x1024x2816, .bf16⟩ : BufTy).Contents (Elt F) := fun i =>
  if which c (i 0) = 0 then m ((c : Thread nD τ).loc main_v1) i else written m c (which c (i 0)) i

def argPts (c : Dev nD) : sProp (MS F) := ((c : Thread nD τ).loc main_arg0) ↦{fullShare} m ((c : Thread nD τ).loc main_arg0)
def resPts (c : Dev nD) (f : Buf (Elt F) ((c : Thread nD τ).loc main_v1)) : sProp (MS F) := ((c : Thread nD τ).loc main_v1) ↦{fullShare} f
/-- The panel of a device's argument that belongs to the `k`th peer's chip. -/
def lent (c : Dev nD) (k : Fin 4) : sProp (MS F) :=
  (panelM k c).view.loc (c : Thread nD τ) ↦[(panelM k c).view.set]{fullShare} m ((c : Thread nD τ).loc main_arg0)
/-- The slot of device `p`'s chip in the result of device `c`. -/
def slotPts (c p : Dev nD) (f : Buf (Elt F) ((c : Thread nD τ).loc main_v1)) : sProp (MS F) :=
  (slotM p).view.loc (c : Thread nD τ) ↦[(slotM p).view.set]{fullShare} f

theorem arg_split (c : Dev nD) : argPts m c = bigSep Finset.univ fun k : Fin 4 => lent m c k := by
  unfold argPts lent
  have hd : ∀ t ∈ (Finset.univ : Finset (Fin 4)), ∀ t' ∈ (Finset.univ : Finset (Fin 4)), t ≠ t' → Disjoint (panelM t c).view.set (panelM t' c).view.set :=
    fun t _ t' _ h => Finset.disjoint_left.mpr fun i hi hi' => h (chip_inj c t t' (((mem_panel t c i).mp hi).symm.trans ((mem_panel t' c i).mp hi')))
  have hu : (Finset.univ : Finset (Idx ((c : Thread nD τ).loc main_arg0))) = (Finset.univ : Finset (Fin 4)).biUnion fun k => (panelM k c).view.set :=
    (Finset.eq_univ_of_forall fun (i : S4x1024x2816.Idx) =>
      Finset.mem_biUnion.mpr ⟨which c (i 0), Finset.mem_univ _, (mem_panel (which c (i 0)) c i).mpr (chip_which c (i 0)).symm⟩).symm
  rw [hu]
  exact pointsTo_biUnion (ℓ := (c : Thread nD τ).loc main_arg0) Finset.univ (fun k => (panelM k c).view.set) hd

theorem res_split (c : Dev nD) (f : Buf (Elt F) ((c : Thread nD τ).loc main_v1)) :
    resPts c f = bigSep Finset.univ fun k : Fin 4 => slotPts c (peer k c) f := by
  unfold resPts slotPts
  have hd : ∀ t ∈ (Finset.univ : Finset (Fin 4)), ∀ t' ∈ (Finset.univ : Finset (Fin 4)), t ≠ t' →
      Disjoint (slotM (peer t c)).view.set (slotM (peer t' c)).view.set :=
    fun t _ t' _ h => Finset.disjoint_left.mpr fun i hi hi' => h (chip_inj c t t' (((mem_slot _ i).mp hi).symm.trans ((mem_slot _ i).mp hi')))
  have hu : (Finset.univ : Finset (Idx ((c : Thread nD τ).loc main_v1))) = (Finset.univ : Finset (Fin 4)).biUnion fun k => (slotM (peer k c)).view.set :=
    (Finset.eq_univ_of_forall fun (i : S4x1024x2816.Idx) =>
      Finset.mem_biUnion.mpr ⟨which c (i 0), Finset.mem_univ _, (mem_slot _ i).mpr (chip_which c (i 0)).symm⟩).symm
  rw [hu]
  exact pointsTo_biUnion (ℓ := (c : Thread nD τ).loc main_v1) Finset.univ (fun k => (slotM (peer k c)).view.set) hd

/-- A slot rewritten with a peer's panel holds what the exchange leaves. -/
theorem slot_written (d c : Dev nD) (k : Fin 3) (h : peer k.succ d = c) :
    ((slotM c).view.loc (d : Thread nD τ) ↦[(slotM c).view.set]{fullShare}
      ((slotM c).view.write (Elt F) (m ((d : Thread nD τ).loc main_v1)) ((panelM k.succ c).view.read (Elt F) (m ((c : Thread nD τ).loc main_arg0))) Finset.univ) : sProp (MS F))
      = slotPts d c (landed m d) := by
  subst h
  refine pointsTo_congr fun i hi => ?_
  have hw : which d (i 0) = k.succ := (congrArg (which d) ((mem_slot _ i).mp hi)).trans (which_chip d k.succ)
  show _ = if which d (i 0) = 0 then _ else written m d (which d (i 0)) i
  rw [if_neg (by rw [hw]; exact Fin.succ_ne_zero k), hw]
  rfl

/-- The slot of the device's own chip is left as it was. -/
theorem slot_own (c : Dev nD) : slotPts c c (m ((c : Thread nD τ).loc main_v1)) = slotPts c c (landed m c) := by
  refine pointsTo_congr fun i hi => ?_
  have hw : which c (i 0) = 0 := (congrArg (which c) ((mem_slot c i).mp hi)).trans (which_chip c 0)
  show _ = if which c (i 0) = 0 then m ((c : Thread nD τ).loc main_v1) i else _
  rw [if_pos hw]

instance lent_storable (c : Dev nD) (k : Fin 4) : BI.Storable (upEmb : UEmb _ (MS F)) (lent m c k) := by unfold lent; infer_instance
instance slotPts_storable (c p : Dev nD) (f) : BI.Storable (upEmb : UEmb _ (MS F)) (slotPts c p f) := by unfold slotPts; infer_instance

/-! ## The schedule: each cell one duty, the transfer's credit -/

/-- What a device is handed when one of its cells fires: the panel it lent, or the slot a peer has filled. -/
def pay (c : Dev nD) : Cells → sProp (MS F)
  | .sent k => lent m c k.succ
  | .got k => slotPts c (peer k.succ c) (landed m c)

instance pay_storable (c : Dev nD) (j : Cells) : BI.Storable (upEmb : UEmb _ (MS F)) (pay m c j) := by
  cases j <;> unfold pay <;> infer_instance

open Classical in
def plan : Rounds.Schedule (GSem nD τ sig) Unit (MS F) where
  duties g r := if r = 0 ∧ g.1.2 = .tc then {()} else ∅
  unitless _ := False
  amount _ _ _ := N
  payload g _ _ := if h : ∃ j, g.2 = sems j then pay m g.1.1 h.choose else iprop(emp)
  amount_pos _ _ _ _ := N_pos

open Classical in
instance plan_storable (g : GSem nD τ sig) (r : ℕ) (d : Unit) : BI.Storable (upEmb : UEmb _ (MS F)) ((plan m).payload g r d) := by
  show BI.Storable upEmb (if h : ∃ j, g.2 = sems j then pay m g.1.1 h.choose else iprop(emp))
  split <;> infer_instance

theorem duties_now (c : Dev nD) (sm : SemLoc sig) : (plan m).duties ((c : Thread nD τ), sm) 0 = {()} := by dsimp only [plan]; exact if_pos ⟨rfl, rfl⟩
theorem duties_later (g : GSem nD τ sig) (r : ℕ) (hr : 1 ≤ r) : (plan m).duties g r = ∅ := by dsimp only [plan]; exact if_neg fun h => by omega
theorem expect_now (c : Dev nD) (sm : SemLoc sig) : (plan m).expect ((c : Thread nD τ), sm) 0 = N := by
  rw [Schedule.expect, Schedule.amountOf, duties_now, Finset.sum_singleton]
  exact Eq.refl N
theorem payload_at (c : Dev nD) (j : Cells) (u : Unit) : (plan m).payload (cell (c, j)) 0 u = pay m c j := by
  have h : ∃ i, sems j = sems i := ⟨j, rfl⟩
  dsimp only [plan]
  rw [dif_pos h, ← sems_inj h.choose_spec]

/-- What a wait hands over. -/
theorem handed (c : Dev nD) (j : Cells) : bigSep ((plan m).duties (cell (c, j)) 0 \ ∅) (fun u => (plan m).payload (cell (c, j)) 0 u) = pay m c j := by
  rw [Finset.sdiff_empty, duties_now, bigSep_singleton, payload_at]

/-- What a device owes its `k`th peer: the transfer's credit on the peer's receive cell. -/
def owed (c : Dev nD) (k : Fin 3) : CellTallies nD τ sig Unit := tallyAt (cell (peer k.succ c, .got k)) () N
/-- All a device owes, the last sent first. -/
def due (c : Dev nD) : CellTallies nD τ sig Unit := 0 + owed c 2 + owed c 1 + owed c 0

/-! ## What a device holds -/

/-- The cells' invariants and that their first round is reached: shared by all devices. -/
def known (K : Dev nD × Cells → ℕ) : sProp (MS F) :=
  iprop((bigSep Finset.univ fun ck : Dev nD × Cells => cellInv EE (plan m) (K ck) (cell ck))
    ∗ bigSep Finset.univ fun ck : Dev nD × Cells => reached EE (cell ck) 0)
instance known_persistent (K : Dev nD × Cells → ℕ) : BI.Persistent (known m K) := by unfold known; infer_instance

theorem known_inv (K : Dev nD × Cells → ℕ) (ck : Dev nD × Cells) : known m K ⊢ cellInv EE (plan m) (K ck) (cell ck) := by
  have h : (bigSep Finset.univ fun ck : Dev nD × Cells => cellInv EE (plan m) (K ck) (cell ck)) ⊢ cellInv EE (plan m) (K ck) (cell ck) :=
    bigSep_elim (Finset.mem_univ ck)
  unfold known
  iintro ⟨H, -⟩
  iapply h; iexact H
theorem known_reached (K : Dev nD × Cells → ℕ) (ck : Dev nD × Cells) : known m K ⊢ reached EE (cell ck) 0 := by
  have h : (bigSep Finset.univ fun ck : Dev nD × Cells => (reached EE (cell ck) 0 : sProp (MS F))) ⊢ reached EE (cell ck) 0 :=
    bigSep_elim (Finset.mem_univ ck)
  unfold known
  iintro ⟨-, H⟩
  iapply h; iexact H

/-- What a send takes: the panel of the argument, the device's slot in the peer's result, the right to fire its own send cell and the peer's
    receive cell, and its place in the former. -/
def sendIn (c : Dev nD) (k : Fin 3) : sProp (MS F) :=
  iprop(lent m c k.succ ∗ slotPts (peer k.succ c) c (m ((peer k.succ c : Thread nD τ).loc main_v1)) ∗ dutyTok EE (cell (c, .sent k)) 0 ()
    ∗ dutyTok EE (cell (peer k.succ c, .got k)) 0 () ∗ atPos EE (cell (c, .sent k)) 0 ∅ 0)
/-- What a wait takes: the credit and the place in the cell. -/
def waitIn (c : Dev nD) (j : Cells) : sProp (MS F) := iprop(cred (tallyAt (cell (c, j)) () N) ∗ atPos EE (cell (c, j)) 0 ∅ 0)
/-- What it leaves: the cell's payload and the cell at zero. -/
def waited (c : Dev nD) (j : Cells) : sProp (MS F) := iprop(pay m c j ∗ semVal (cell (c, j)) 0)

/-- A device's own share before the exchange. -/
def mine (c : Dev nD) : sProp (MS F) :=
  iprop((bigSep Finset.univ fun k : Fin 3 => sendIn m c k) ∗ bigSep Finset.univ fun k : Fin 3 => waitIn c (.got k))
/-- And after it. -/
def ended (c : Dev nD) : sProp (MS F) := bigSep Finset.univ fun j : Cells => waited m c j
/-- Nothing owed any more. -/
def paid (c : Dev nD) : sProp (MS F) := iprop(∃ W, owes (c : Thread nD τ) 0 W)

/-- The region's data: no window is staged, the holdings above go in and come out. -/
def dat (K : Dev nD × Cells → ℕ) (_ : Fin 1) (c : Dev nD) : Dat τ (Elt F) Unit ℕ (UR sig nD τ) ℕ cfg0 c where
  A w := m ((cfg0.win w).arr.view.loc (c : Thread nD τ))
  after w _ := (show Fin 0 from w).elim0
  Φ t := match t with
    | ⟨0, _⟩ => iprop(known m K ∗ mine m c)
    | ⟨_ + 1, _⟩ => ended m c
  q _ := fullShare
  owed t := match t with
    | ⟨0, _⟩ => due c
    | ⟨_ + 1, _⟩ => 0

/-! ## The body -/

/-- One conjunct per cell: the sends', the receives'. -/
theorem by_cells (Φ : Cells → sProp (MS F)) : bigSep Finset.univ Φ
    = iprop((bigSep Finset.univ fun k : Fin 3 => Φ (.sent k)) ∗ bigSep Finset.univ fun k : Fin 3 => Φ (.got k)) := by
  rw [bigSep_univ_equiv cellsEquiv, bigSep_univ_sum]
  rfl
theorem of_three (Φ : Fin 3 → sProp (MS F)) : bigSep Finset.univ Φ = iprop(Φ 0 ∗ Φ 1 ∗ Φ 2) :=
  bigSep_univ_eq_bigSepL [0, 1, 2] (by decide) (by decide) Φ
/-- One conjunct per peer: the device itself and the three others. -/
theorem by_peers (Φ : Fin 4 → sProp (MS F)) : bigSep Finset.univ Φ = iprop(Φ 0 ∗ bigSep Finset.univ fun k : Fin 3 => Φ k.succ) := by
  rw [of_three]
  exact bigSep_univ_eq_bigSepL [0, 1, 2, 3] (by decide) (by decide) Φ

abbrev Body (F : FTy → Type) := Prog (TpuEff nD τ sig (Elt F) Λ₀ .tc) PUnit

/-- The send to the `k`th peer. -/
theorem send_step (K : Dev nD × Cells → ℕ) (c : Dev nD) (i : Fin 3) (O : CellTallies nD τ sig Unit) (W : Waits sig Unit) (hs hd hty)
    (k : PUnit → Body F) (Kt : PUnit → sProp (MS F)) :
    iprop(known m K ∗ sendIn m c i ∗ owes (c : Thread nD τ) (O + owed c i) W)
      ⊢ iprop(((waitIn c (.sent i) ∗ owes (c : Thread nD τ) O W) -∗ wp frame (wpE (defs₀ (F := F)) Variants.none c none) Set.univ (k ⟨⟩) Kt)
      -∗ wp frame (wpE (defs₀ (F := F)) Variants.none c none) Set.univ
        (.op (.enqueueDma (panelM i.succ c) (.remote (peer i.succ c : Thread nD τ) (slotM c) (sems (.sent i))) (sems (.got i)) hs hd hty) k) Kt) := by
  unfold sendIn waitIn lent slotPts
  iintro ⟨#HK, ⟨Ha, Hs, Ht, Htg, Hp⟩, HO⟩ Hk
  ihave #HI := (known_inv m K (c, .sent i)) $$ HK
  ihave #HIM := (known_inv m K (peer i.succ c, .got i)) $$ HK
  ihave #Hr := (known_reached m K (c, .sent i)) $$ HK
  ihave #HrM := (known_reached m K (peer i.succ c, .got i)) $$ HK
  iapply (Rounds.wp_send_pointsTo Variants.none EE (plan m) (c : Thread nD τ) none (κ₁ := K (c, .sent i)) (κ₂ := K (peer i.succ c, .got i))
    (c' := (peer i.succ c : Thread nD τ)) (src := panelM i.succ c) (dst := slotM c)
    (r₁ := 0) (r₂ := 0) (d₁ := ()) (d₂ := ()) (fs := m ((c : Thread nD τ).loc main_arg0)) (fd := m ((peer i.succ c : Thread nD τ).loc main_v1))
    (q := fullShare)
    (by rw [duties_now]; exact Finset.mem_singleton_self _) (by rw [duties_now]; exact Finset.mem_singleton_self _)
    () () N rfl rfl rfl O rfl (W := W)
    (by rw [payload_at (c := c) (j := .sent i)]; unfold pay lent; exact BI.Entails.refl _)
    (by rw [payload_at (c := peer i.succ c) (j := .got i), slot_written m (peer i.succ c) c i (peer_peer i.succ c)]
        show _ ⊢ slotPts (peer i.succ c) (peer i.succ (peer i.succ c)) (landed m (peer i.succ c))
        rw [peer_peer]))  $$ [Ha Hs HO Ht Htg]
  · isplitr; · iexact HI
    isplitr; · iexact HIM
    isplitl [Ha]; · iexact Ha
    isplitl [Hs]; · iexact Hs
    isplitl [HO]; · iexact HO
    isplitl [Ht]; · iexact Ht
    isplitr; · iexact Hr
    isplitl [Htg]; · iexact Htg
    iexact HrM
  iintro ⟨Hc, HO⟩
  iapply Hk
  isplitl [Hc Hp]
  · isplitl [Hc] <;> iassumption
  iexact HO

/-- A wait on one of the device's cells. -/
theorem wait_step (K : Dev nD × Cells → ℕ) (c : Dev nD) (j : Cells) (src dst : Memref sig .tc .hbm S1024x2816 .bf16) (hs hd)
    (hN : dst.view.dmaCredit = N) (k : PUnit → Body F) (Kt : PUnit → sProp (MS F)) :
    iprop(known m K ∗ waitIn c j ∗ paid c)
      ⊢ iprop(((waited m c j ∗ paid c) -∗ wp frame (wpE (defs₀ (F := F)) Variants.none c none) Set.univ (k ⟨⟩) Kt)
      -∗ wp frame (wpE (defs₀ (F := F)) Variants.none c none) Set.univ (.op (.waitDma2 (dsem j) src dst hs hd) k) Kt) := by
  unfold waitIn paid waited
  iintro ⟨#HK, ⟨Hc, Hp⟩, ⟨%W, HO⟩⟩ Hk
  ihave #HI := (known_inv m K (c, j)) $$ HK
  iapply (Rounds.wp_wait_rest_token Variants.none EE (plan m) (c : Thread nD τ) none (κ := K (c, j)) (sm := sems j)
      (wpE_waitDma2_eq Variants.none (c : Thread nD τ) none Set.univ) (Set.mem_univ _) () (O := 0) (W := W) (R := 0) (m := 0) (T := ∅)
      (k' := dst.view.dmaCredit) ((Nat.zero_add _).trans (hN.trans (expect_now m c _).symm))) $$ [Hc HO Hp]
  · isplitr; · iexact HI
    isplitl [Hc]; · rw [hN]; iexact Hc
    isplitl [HO]; · iexact HO
    isplitr; · rw [MayWait_zero]; iempintro
    iexact Hp
  iintro ⟨HO, Hp, -, Hpay⟩
  ihave Hpay := (Entails.of_eq (handed m c j)) $$ Hpay
  imod (Rounds.cell_close EE (plan m) (Set.mem_univ (K (c, j))) (fun h => h) (R := 0 + 1) (duties_later m (cell (c, j)))) $$ [Hp] with Hz
  · isplitr; · iexact HI
    iexact Hp
  iapply Hk
  isplitl [Hpay Hz]
  · isplitl [Hpay] <;> iassumption
  iexists _; iexact HO

theorem sound_body (K : Dev nD × Cells → ℕ) (c : Dev nD) (W : Waits sig Unit) (Kt : PUnit → sProp (MS F)) :
    iprop((known m K ∗ mine m c ∗ owes (c : Thread nD τ) (due c) W) ∗ ((ended m c ∗ paid c) -∗ Kt ⟨⟩))
      ⊢ wp frame (wpE (defs₀ (F := F)) Variants.none c none) Set.univ
          (cc0_ffn_scatter (Memref.whole main_arg0) (Memref.isWhole_whole _) (Memref.whole main_v1) (Memref.isWhole_whole _)
            cc0_scratch0 cc0_scratch1) Kt := by
  simp only [cc0_ffn_scatter_eq_skeleton, cc0_ffn_scatter_skel, k0_part1_eq_skeleton, k0_part1_skel, k0_part2_eq_skeleton, k0_part2_skel,
    k0_part3_eq_skeleton, k0_part3_skel, k0_part4_eq_skeleton, k0_part4_skel]
  simp only [Prog.lift, Prog.bind_op, Prog.bind_ret, Prog.pure_eq_ret, wp_deviceId]
  unfold mine ended due
  rw [by_cells, of_three, of_three, of_three, of_three]
  iintro ⟨⟨#HK, ⟨⟨HS0, HS1, HS2⟩, ⟨HG0, HG1, HG2⟩⟩, HO⟩, Hk⟩
  iapply (send_step m K c 0 (0 + owed c 2 + owed c 1) W) $$ [HS0 HO]
  · isplitr; · iexact HK
    isplitl [HS0] <;> iassumption
  iintro ⟨HS0, HO⟩
  iapply (send_step m K c 1 (0 + owed c 2) W) $$ [HS1 HO]
  · isplitr; · iexact HK
    isplitl [HS1] <;> iassumption
  iintro ⟨HS1, HO⟩
  iapply (send_step m K c 2 (0) W) $$ [HS2 HO]
  · isplitr; · iexact HK
    isplitl [HS2] <;> iassumption
  iintro ⟨HS2, HO⟩
  ihave HP : paid c $$ [HO]
  · unfold paid; iexists W; iexact HO
  iapply (wait_step m K c (.got 0) _ _ _ _ (by rfl)) $$ [HG0 HP]
  · isplitr; · iexact HK
    isplitl [HG0] <;> iassumption
  iintro ⟨HG0, HP⟩
  iapply (wait_step m K c (.got 1) _ _ _ _ (by rfl)) $$ [HG1 HP]
  · isplitr; · iexact HK
    isplitl [HG1] <;> iassumption
  iintro ⟨HG1, HP⟩
  iapply (wait_step m K c (.got 2) _ _ _ _ (by rfl)) $$ [HG2 HP]
  · isplitr; · iexact HK
    isplitl [HG2] <;> iassumption
  iintro ⟨HG2, HP⟩
  iapply (wait_step m K c (.sent 0) _ _ _ _ (by rfl)) $$ [HS0 HP]
  · isplitr; · iexact HK
    isplitl [HS0] <;> iassumption
  iintro ⟨HS0, HP⟩
  iapply (wait_step m K c (.sent 1) _ _ _ _ (by rfl)) $$ [HS1 HP]
  · isplitr; · iexact HK
    isplitl [HS1] <;> iassumption
  iintro ⟨HS1, HP⟩
  iapply (wait_step m K c (.sent 2) _ _ _ _ (by rfl)) $$ [HS2 HP]
  · isplitr; · iexact HK
    isplitl [HS2] <;> iassumption
  iintro ⟨HS2, HP⟩
  rw [wp_ret]; imodintro
  iapply Hk
  isplitr [HP]
  · isplitl [HS0 HS1 HS2]
    · isplitl [HS0]; · iexact HS0
      isplitl [HS1] <;> iassumption
    · isplitl [HG0]; · iexact HG0
      isplitl [HG1] <;> iassumption
  · iexact HP

/-- The region stages no window. -/
theorem none_W (Φ : Fin cfg0.W → sProp (MS F)) : bigSep Finset.univ Φ = BI.emp := by
  rw [show (Finset.univ : Finset (Fin cfg0.W)) = ∅ from rfl, BI.bigSep_empty]

theorem body_obligation (K : Dev nD × Cells → ℕ) (c : Dev nD) :
    BodyObligation (dat m K 0 c) (defs₀ (F := F)) Variants.none () Set.univ := fun t => by
  rw [fin_N0 t, none_W, none_W]
  show iprop((known m K ∗ mine m c) ∗ (dat m K 0 c).owesAt () (t0_0 : Fin cfg0.N).castSucc ∗ emp)
    ⊢ wp frame (wpE (defs₀ (F := F)) Variants.none c none) Set.univ
      (cc0_ffn_scatter (Memref.whole main_arg0) (Memref.isWhole_whole _) (Memref.whole main_v1) (Memref.isWhole_whole _) cc0_scratch0 cc0_scratch1)
      (fun _ => iprop(ended m c ∗ (dat m K 0 c).owesAt () (t0_0 : Fin cfg0.N).succ ∗ emp))
  unfold Dat.owesAt Pipeline.owesWithin
  rw [show (dat m K 0 c).owed (t0_0 : Fin cfg0.N).castSucc = due c from rfl, show (dat m K 0 c).owed (t0_0 : Fin cfg0.N).succ = 0 from rfl]
  iintro ⟨⟨#HK, Hm⟩, ⟨%W, %hW, HO⟩, -⟩
  iapply (sound_body m K c W)
  isplitl [Hm HO]
  · isplitr; · iexact HK
    isplitl [Hm] <;> iassumption
  · unfold paid
    iintro ⟨HE, ⟨%W', HO⟩⟩
    isplitl [HE]; · iexact HE
    isplitl [HO]
    · iexists W'
      isplitr; · ipureintro; exact fun _ _ => Or.inl trivial
      iexact HO
    iempintro

/-! ## The launch -/

theorem own_facts : Pipeline.OwnSemFacts cfg0.spec sems := by decide

theorem cell_injective : Function.Injective (cell : Dev nD × Cells → GSem nD τ sig) := by
  rintro ⟨c, k⟩ ⟨d, l⟩ h
  have h1 : c = d := congrArg (fun g : GSem nD τ sig => g.1.1) h
  have h2 : sems k = sems l := congrArg Prod.snd h
  rw [h1, sems_inj h2]

def cells : Finset (GSem nD τ sig) := Finset.univ.map ⟨cell, cell_injective⟩
def tokens : Finset (GSem nD τ sig × ℕ × Unit) :=
  Finset.univ.map ⟨fun ck : Dev nD × Cells => (cell ck, 0, ()), fun _ _ h => cell_injective (congrArg Prod.fst h)⟩
def start : UR sig nD τ := initOf cells tokens

/-- The cells' states, places and tokens, from the launch's ghost state. -/
theorem funded : (ownU start : sProp (MS F)) ⊢ |==> iprop((bigSep Finset.univ fun ck : Dev nD × Cells => roundState EE (plan m) (cell ck) 0)
    ∗ (bigSep Finset.univ fun ck : Dev nD × Cells => reached EE (cell ck) 0)
    ∗ (bigSep Finset.univ fun ck : Dev nD × Cells => atPos EE (cell ck) 0 ∅ 0)
    ∗ bigSep Finset.univ fun ck : Dev nD × Cells => dutyTok EE (cell ck) 0 ()) := by
  have hX (Φ : GSem nD τ sig → sProp (MS F)) : bigSep cells Φ = bigSep Finset.univ fun ck : Dev nD × Cells => Φ (cell ck) := by
    unfold cells; rw [bigSep_map]; rfl
  have hT : bigSep tokens (fun x => (dutyTok EE x.1 x.2.1 x.2.2 : sProp (MS F))) = bigSep Finset.univ fun ck : Dev nD × Cells => dutyTok EE (cell ck) 0 () := by
    unfold tokens; rw [bigSep_map]; rfl
  have h := Rounds.fund EE (plan m) cells tokens
  rw [hX, hX, hX, hT] at h
  exact h

/-- Summed over devices and peers: the device's own is the peer's as seen from there. -/
theorem swapped (Φ : Fin 4 → Dev nD → Dev nD → sProp (MS F)) :
    (bigSep Finset.univ fun c : Dev nD => bigSep Finset.univ fun k : Fin 4 => Φ k c (peer k c))
      = bigSep Finset.univ fun c : Dev nD => bigSep Finset.univ fun k : Fin 4 => Φ k (peer k c) c := by
  rw [bigSep_univ_comm, bigSep_univ_comm (fun c k => Φ k (peer k c) c)]
  refine bigSep_congr fun k _ => (bigSep_univ_equiv (peers k) _).trans (bigSep_congr fun c _ => ?_)
  show Φ k (peer k c) (peer k (peer k c)) = _
  rw [peer_peer]

/-- The same, of the three others only. -/
theorem swapped_others (Φ : Fin 3 → Dev nD → sProp (MS F)) :
    (bigSep Finset.univ fun c : Dev nD => bigSep Finset.univ fun k : Fin 3 => Φ k c)
      = bigSep Finset.univ fun c : Dev nD => bigSep Finset.univ fun k : Fin 3 => Φ k (peer k.succ c) := by
  rw [bigSep_univ_comm, bigSep_univ_comm (fun c k => Φ k (peer k.succ c))]
  exact bigSep_congr fun k _ => bigSep_univ_equiv (peers k.succ) _

/-- All results' slots, by the device the result is at and by the device the slot belongs to. -/
theorem slots_dealt : (bigSep Finset.univ fun c : Dev nD => resPts c (m ((c : Thread nD τ).loc main_v1)))
    = bigSep Finset.univ fun c : Dev nD => bigSep Finset.univ fun k : Fin 4 => slotPts (peer k c) c (m ((peer k c : Thread nD τ).loc main_v1)) := by
  rw [← swapped fun _ c p => slotPts c p (m ((c : Thread nD τ).loc main_v1))]
  exact bigSep_congr fun c _ => res_split c _

/-- A device's places and tokens. -/
def held (c : Dev nD) : sProp (MS F) :=
  iprop((bigSep Finset.univ fun j : Cells => atPos EE (cell (c, j)) 0 ∅ 0)
    ∗ (bigSep Finset.univ fun k : Fin 3 => dutyTok EE (cell (c, .sent k)) 0 ())
    ∗ bigSep Finset.univ fun k : Fin 3 => dutyTok EE (cell (peer k.succ c, .got k)) 0 ())

/-- The right to fire a receive cell goes to the device that sends there. -/
theorem tokens_dealt : (bigSep Finset.univ fun ck : Dev nD × Cells => (dutyTok EE (cell ck) 0 () : sProp (MS F)))
    = iprop((bigSep Finset.univ fun c : Dev nD => bigSep Finset.univ fun k : Fin 3 => dutyTok EE (cell (c, .sent k)) 0 ())
      ∗ bigSep Finset.univ fun c : Dev nD => bigSep Finset.univ fun k : Fin 3 => dutyTok EE (cell (peer k.succ c, .got k)) 0 ()) := by
  rw [bigSep_univ_prod, ← swapped_others fun k c => (dutyTok EE (cell (c, .got k)) 0 () : sProp (MS F)), ← bigSep_sep']
  exact bigSep_congr fun c _ => by_cells fun j => (dutyTok EE (cell (c, j)) 0 () : sProp (MS F))

theorem dealt : iprop((bigSep Finset.univ fun ck : Dev nD × Cells => semVal (cell ck) 0) ∗ ownU start)
    ⊢ (|={Set.univ}=> ∃ K, known m K ∗ bigSep Finset.univ fun c : Dev nD => held c : sProp (MS F)) := by
  have halloc : iprop((bigSep Finset.univ fun ck : Dev nD × Cells => semVal (cell ck) 0) ∗ bigSep Finset.univ fun ck : Dev nD × Cells => roundState EE (plan m) (cell ck) 0)
      ⊢ (|={Set.univ}=> bigSep Finset.univ fun ck => iprop(∃ κ : ℕ, cellInv EE (plan m) κ (cell ck)) : sProp (MS F)) := by
    rw [← bigSep_sep']
    exact (bigSep_mono fun ck _ => (Rounds.body_intro EE (plan m) (cell ck)).trans inv_alloc).trans (bigSep_fupd _ _)
  iintro ⟨Hv, Hu⟩
  imod (funded m) $$ Hu with ⟨Hst, #Hr, Hat, Htok⟩
  imod halloc $$ [Hv Hst] with HI
  · isplitl [Hv] <;> iassumption
  ihave HK := (BI.bigSep_exists_pi Finset.univ (fun (ck : Dev nD × Cells) (κ : ℕ) => (cellInv EE (plan m) κ (cell ck) : sProp (MS F)))) $$ HI
  icases HK with ⟨%K, #HI⟩
  ihave Ht := (Entails.of_eq tokens_dealt) $$ Htok
  icases Ht with ⟨HtS, HtG⟩
  ihave Ha := (Entails.of_eq (bigSep_univ_prod fun ck : Dev nD × Cells => (atPos EE (cell ck) 0 ∅ 0 : sProp (MS F)))) $$ Hat
  imodintro
  iexists K
  isplitr
  · unfold known
    isplitl; · iexact HI
    iexact Hr
  · unfold held
    rw [bigSep_sep', bigSep_sep']
    isplitl [Ha]; · iexact Ha
    isplitl [HtS]; · iexact HtS
    iexact HtG

/-! ### The launch credit -/

theorem owed_got (d c : Dev nD) (j k : Fin 3) : owed d j (cell (c, .got k)) () = if j = k ∧ d = peer k.succ c then N else 0 := by
  unfold owed
  rw [tallyAt_apply]
  by_cases h : j = k ∧ d = peer k.succ c
  · obtain ⟨rfl, rfl⟩ := h
    rw [peer_peer, if_pos ⟨rfl, rfl⟩, if_pos ⟨rfl, rfl⟩]
  · rw [if_neg h, if_neg]
    rintro ⟨h1, -⟩
    have h2 : c = peer j.succ d := congrArg (fun g : GSem nD τ sig => g.1.1) h1
    have h3 : Cells.got k = Cells.got j := sems_inj (congrArg Prod.snd h1)
    have h4 : k = j := Cells.got.inj h3
    subst h4
    exact h ⟨rfl, by rw [h2, peer_peer]⟩

theorem due_got (d c : Dev nD) (k : Fin 3) : due d (cell (c, .got k)) () = if d = peer k.succ c then N else 0 := by
  have h : due d (cell (c, .got k)) () = 0 + owed d 2 (cell (c, .got k)) () + owed d 1 (cell (c, .got k)) () + owed d 0 (cell (c, .got k)) () := rfl
  rw [h]
  simp only [owed_got]
  by_cases hd : d = peer k.succ c
  · simp only [hd, and_true, if_true]
    fin_cases k <;> simp
  · simp only [hd, and_false, if_false]

theorem launch_got (c : Dev nD) (k : Fin 3) :
    tallyOn (cell (c, .got k)) (launchCredit (Pipeline.owing due) 0 (cell (c, .got k))) = (tallyAt (cell (c, .got k)) () N : CellTallies nD τ sig Unit) := by
  unfold tallyAt; refine congrArg _ (Finsupp.ext fun u => ?_); cases u
  rw [Pipeline.launchCredit_owing, Finsupp.single_eq_same, Finset.sum_congr rfl fun d _ => due_got d c k,
    Finset.sum_ite_eq' Finset.univ (peer k.succ c) fun _ => N, if_pos (Finset.mem_univ _)]

theorem got_inj : Function.Injective fun k : Fin 3 => sems (.got k) := fun _ _ h => Cells.got.inj (sems_inj h)

theorem credit (c : Dev nD) : (Pipeline.launchCred due c : sProp (MS F)) ⊢ bigSep Finset.univ fun k : Fin 3 => cred (tallyAt (cell (c, .got k)) () N) := by
  have h : (bigSep Finset.univ fun k : Fin 3 => (cred (tallyAt (cell (c, .got k)) () N) : sProp (MS F)))
      = bigSep (Finset.univ.map ⟨_, got_inj⟩) fun sm : SemLoc sig =>
          cred (tallyOn ((c : Thread nD τ), sm) (launchCredit (Pipeline.owing due) 0 ((c : Thread nD τ), sm))) := by
    rw [bigSep_map]
    exact bigSep_congr fun k _ => by rw [← launch_got]; rfl
  unfold Pipeline.launchCred
  rw [h]
  exact bigSep_subset (Finset.subset_univ _)

/-! ### What each device starts from -/

/-- The scoped semaphores that are none of the six. -/
abbrev idle (c : Dev nD) : sProp (MS F) := Pipeline.idleSems0 cfgs cellOf_inj 0 own_facts c

theorem sems_split (c : Dev nD) : (scopedSems0 (c : Thread nD τ) : sProp (MS F))
    = iprop((Pipeline.cellsSems0 cfgs 0 c ∗ Pipeline.ownSems0 sems c) ∗ idle c) :=
  Pipeline.scopedSems0_split cfgs cellOf_inj 0 winFacts0.to₀ own_facts c

theorem bufs_split (c : Dev nD) : (scopedBufs (c : Thread nD τ) : sProp (MS F)) = iprop(Dat.staging cfg0 c ∗ Pipeline.scopedRest cfg0.spec c) :=
  Pipeline.scopedBufs_split cfgs 0 winFacts0.stage_scoped winFacts0.stage_inj stage_whole0 c

abbrev argRef : DevRef τ sig := Proc.devRef .tc main_arg0
abbrev resRef : DevRef τ sig := Proc.devRef .tc main_v1
/-- The buffers the kernel does not see: those of the operations after it. -/
def others : Finset (DevRef τ sig) := ((Pipeline.ucRefs τ sig).erase argRef).erase resRef
def othersAt (c : Dev nD) (V : Valuation τ sig (Elt F)) : sProp (MS F) := bigSep others fun b => ((c, b) : Loc nD τ sig) ↦{fullShare} V b

theorem arg_in : argRef ∈ Pipeline.ucRefs τ sig := Finset.mem_filter.mpr ⟨StableHlo.devRef_mem_tcRefs main_arg0, by decide⟩
theorem out_in : (Proc.devRef .tc main_v17 : DevRef τ sig) ∈ Pipeline.ucRefs τ sig := Finset.mem_filter.mpr ⟨StableHlo.devRef_mem_tcRefs main_v17, by decide⟩
theorem ne_arg : resRef ≠ argRef := StableHlo.devRef_ne_of_ne (by decide)
theorem res_in : resRef ∈ (Pipeline.ucRefs τ sig).erase argRef :=
  Finset.mem_erase.mpr ⟨ne_arg, Finset.mem_filter.mpr ⟨StableHlo.devRef_mem_tcRefs main_v1, by decide⟩⟩

/-- A device's unscoped buffers: the argument, the exchange's result and the others. -/
theorem held_split (c : Dev nD) (V : Valuation τ sig (Elt F)) : (StableHlo.held (c : Thread nD τ) (Pipeline.ucRefs τ sig) V : sProp (MS F))
    = iprop(((c : Thread nD τ).loc main_arg0 ↦{fullShare} V argRef) ∗ ((c : Thread nD τ).loc main_v1 ↦{fullShare} V resRef) ∗ othersAt c V) := by
  unfold StableHlo.held othersAt others
  rw [bigSep_erase arg_in, bigSep_erase res_in]
  rfl

/-- The unscoped buffers after the exchange. -/
def after1 (c : Dev nD) : Valuation τ sig (Elt F) := Function.update (V0 m c) resRef (landed m c)
/-- And after the operations that follow it. -/
def after2 (c : Dev nD) : Valuation τ sig (Elt F) := StableHlo.after (hostOps1 c) (after1 m c)

theorem after1_res (c : Dev nD) : after1 m c resRef = landed m c := Function.update_self ..
theorem after1_ne (c : Dev nD) (b : DevRef τ sig) (h : b ≠ resRef) : after1 m c b = m (c, b) := Function.update_of_ne h ..
theorem after2_arg (c : Dev nD) : after2 m c argRef = m ((c : Thread nD τ).loc main_arg0) :=
  (StableHlo.after_of_writes_sub (hostOps1 c) _ (hostOps1_writes c) (by decide)).trans (after1_ne m c argRef (Ne.symm ne_arg))

theorem launch_split (c : Dev nD) : (unscopedBufs c fun b => m ((c : Thread nD τ).loc b) : sProp (MS F))
    = iprop(argPts m c ∗ resPts c (m ((c : Thread nD τ).loc main_v1)) ∗ othersAt c (V0 m c)) :=
  (Pipeline.unscopedBufs_held (Ix := Unit) (Name := ℕ) (U := UR sig nD τ) (Lvl := ℕ) c (V0 m c)).trans (held_split c (V0 m c))

theorem others_after (c : Dev nD) : (othersAt c (V0 m c) : sProp (MS F)) = othersAt c (after1 m c) := by
  unfold othersAt
  exact bigSep_congr fun b hb => by rw [after1_ne m c b (Finset.mem_erase.mp hb).1]

theorem held_after (c : Dev nD) : iprop(argPts m c ∗ resPts c (landed m c) ∗ othersAt c (V0 m c))
    ⊢ (StableHlo.held (c : Thread nD τ) (Pipeline.ucRefs τ sig) (after1 m c) : sProp (MS F)) := by
  rw [held_split, others_after, after1_res, after1_ne m c argRef (Ne.symm ne_arg)]
  exact .rfl

/-- What a device holds of its own at launch. -/
def own (c : Dev nD) : sProp (MS F) :=
  iprop(scopedBufs (c : Thread nD τ) ∗ idle c ∗ opIdle (c : Thread nD τ) ∗ owes (c : Thread nD τ) (due c) ∅
    ∗ (bigSep Finset.univ fun k : Fin 3 => cred (tallyAt (cell (c, .got k)) () N)) ∗ argPts m c ∗ othersAt c (V0 m c))

theorem cells_eq (c : Dev nD) : (Pipeline.ownSems0 sems c : sProp (MS F)) = bigSep Finset.univ fun j : Cells => semVal (cell (c, j)) 0 := rfl

theorem core_start (c : Dev nD) :
    coreInit (Ix := Unit) (Name := ℕ) (U := UR sig nD τ) (Lvl := ℕ) (Pipeline.owing due) 0 (⟨m, fun _ => 0, ρ⟩ : MemSt nD τ sig (Elt F)) (c : Thread nD τ)
      ⊢ (iprop(own m c ∗ resPts c (m ((c : Thread nD τ).loc main_v1)) ∗ bigSep Finset.univ fun j : Cells => semVal (cell (c, j)) 0) : sProp (MS F)) := by
  refine (Pipeline.coreInit_boundary_owing due m ρ c).trans ?_
  unfold boundary own
  rw [sems_split, cells_eq, launch_split]
  iintro ⟨⟨Hsc, ⟨⟨-, Hz⟩, Hidle⟩, Hop⟩, ⟨Ha, Hr, Hot⟩, -, HO, -, -, Hcr⟩
  ihave Hcr := (credit c) $$ Hcr
  isplitl [Hsc Hidle Hop HO Hcr Ha Hot]
  · isplitl [Hsc]; · iexact Hsc
    isplitl [Hidle]; · iexact Hidle
    isplitl [Hop]; · iexact Hop
    isplitl [HO]; · iexact HO
    isplitl [Hcr]; · iexact Hcr
    isplitl [Ha] <;> iassumption
  isplitl [Hr]; · iexact Hr
  iexact Hz

/-- What a device keeps to itself during the exchange: its own panel, the slot of its own chip, the buffers of the operations after it. -/
def kept (c : Dev nD) : sProp (MS F) := iprop(lent m c 0 ∗ slotPts c c (landed m c) ∗ othersAt c (V0 m c))
/-- What a device's run starts from. -/
def pre (K : Dev nD × Cells → ℕ) (c : Dev nD) : sProp (MS F) :=
  iprop(scopedBufs (c : Thread nD τ) ∗ idle c ∗ opIdle (c : Thread nD τ) ∗ owes (c : Thread nD τ) (due c) ∅ ∗ kept m c ∗ known m K ∗ mine m c)
/-- What comes back from the exchange: the panels lent and the slots filled. -/
def back (c : Dev nD) : sProp (MS F) := bigSep Finset.univ fun j : Cells => pay m c j
/-- And what a device ends with. -/
def fin (c : Dev nD) : sProp (MS F) := iprop(StableHlo.held (c : Thread nD τ) (Pipeline.ucRefs τ sig) (after2 m c) ∗ scopedSems0 (c : Thread nD τ))

theorem pre_one (K : Dev nD × Cells → ℕ) (c : Dev nD) :
    iprop(known m K ∗ (own m c ∗ (bigSep Finset.univ fun k : Fin 4 => slotPts (peer k c) c (m ((peer k c : Thread nD τ).loc main_v1))) ∗ held c)) ⊢ pre m K c := by
  unfold pre mine held own sendIn waitIn kept
  rw [arg_split, by_peers, by_peers, by_cells, bigSep_sep', bigSep_sep', bigSep_sep', bigSep_sep', bigSep_sep']
  iintro ⟨#HK, ⟨Hsc, Hidle, Hop, HO, Hcr, ⟨Ha0, HaS⟩, Hot⟩, ⟨Hs0, HsS⟩, ⟨HpS, HpG⟩, HtS, HtG⟩
  isplitl [Hsc]; · iexact Hsc
  isplitl [Hidle]; · iexact Hidle
  isplitl [Hop]; · iexact Hop
  isplitl [HO]; · iexact HO
  isplitl [Ha0 Hs0 Hot]
  · isplitl [Ha0]; · iexact Ha0
    isplitl [Hs0]; · iapply (Entails.of_eq (slot_own m c)); iexact Hs0
    iexact Hot
  isplitr; · iexact HK
  isplitl [HaS HsS HtS HtG HpS]
  · isplitl [HaS]; · iexact HaS
    isplitl [HsS]; · iexact HsS
    isplitl [HtS]; · iexact HtS
    isplitl [HtG] <;> iassumption
  isplitl [Hcr] <;> iassumption

/-- What was kept and what comes back are the device's buffers after the exchange. -/
theorem back_held (c : Dev nD) : iprop(kept m c ∗ back m c) ⊢ (StableHlo.held (c : Thread nD τ) (Pipeline.ucRefs τ sig) (after1 m c) : sProp (MS F)) := by
  refine .trans ?_ (held_after m c)
  unfold kept back
  rw [res_split, arg_split, by_peers, by_peers, by_cells fun j => pay m c j]
  unfold pay
  iintro ⟨⟨Ha0, Hs0, Hot⟩, HaS, HsS⟩
  isplitl [Ha0 HaS]
  · isplitl [Ha0] <;> iassumption
  isplitl [Hs0 HsS]
  · isplitl [Hs0] <;> iassumption
  iexact Hot

theorem ended_eq (c : Dev nD) : ended m c = iprop(back m c ∗ bigSep Finset.univ fun j : Cells => semVal (cell (c, j)) 0) := by
  unfold ended waited back
  exact bigSep_sep' ..

theorem start_all : iprop((bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ∗ ownU start)
    ⊢ (|={Set.univ}=> ∃ K, bigSep Finset.univ (pre m K) ∗ emp : sProp (MS F)) := by
  have hcores : (bigSep Finset.univ fun c : Dev nD =>
        coreInit (Ix := Unit) (Name := ℕ) (U := UR sig nD τ) (Lvl := ℕ) (Pipeline.owing due) 0 (⟨m, fun _ => 0, ρ⟩ : MemSt nD τ sig (Elt F)) (c : Thread nD τ))
      ⊢ (iprop((bigSep Finset.univ fun c : Dev nD => own m c)
          ∗ (bigSep Finset.univ fun c : Dev nD => resPts c (m ((c : Thread nD τ).loc main_v1)))
          ∗ bigSep Finset.univ fun ck : Dev nD × Cells => semVal (cell ck) 0) : sProp (MS F)) := by
    rw [bigSep_univ_prod, ← bigSep_sep', ← bigSep_sep']
    exact bigSep_mono fun c _ => core_start m ρ c
  have hall (K : Dev nD × Cells → ℕ) : iprop(known m K ∗ ((bigSep Finset.univ fun c : Dev nD => own m c)
          ∗ (bigSep Finset.univ fun c : Dev nD => bigSep Finset.univ fun k : Fin 4 => slotPts (peer k c) c (m ((peer k c : Thread nD τ).loc main_v1)))
          ∗ bigSep Finset.univ fun c : Dev nD => held c)) ⊢ (bigSep Finset.univ (pre m K) : sProp (MS F)) := by
    rw [← bigSep_sep', ← bigSep_sep']
    refine (sep_mono_left (BI.bigSep_of_persistent (Finset.univ : Finset (Dev nD)) (known m K))).trans ?_
    rw [← bigSep_sep']
    exact bigSep_mono fun c _ => pre_one m K c
  iintro ⟨Hc, Hu⟩
  ihave H := hcores $$ Hc
  icases H with ⟨Hown, Hres, Hz⟩
  imod (dealt m) $$ [Hz Hu] with ⟨%K, #HK, Hh⟩
  · isplitl [Hz] <;> iassumption
  ihave Hr := (Entails.of_eq (slots_dealt m)) $$ Hres
  imodintro
  iexists K
  isplitr []
  · iapply (hall K)
    isplitr; · iexact HK
    isplitl [Hown]; · iexact Hown
    isplitl [Hr]; · iexact Hr
    iexact Hh
  · iempintro

/-! ## The run -/

/-- What the region's entry asks for: of a kernel without windows, only the device's dues. -/
theorem entry_pre (K : Dev nD × Cells → ℕ) (c : Dev nD) :
    owes (c : Thread nD τ) (due c) ∅ ⊢ (Pipeline.EntryPre cfgs (dat m K) () EE (fun _ => 0) 0 c : sProp (MS F)) := by
  have ha : ((dat m K 0 c).arrays ((dat m K 0 c).arrAt · 0) : sProp (MS F)) = BI.emp := none_W _
  have hw : (Pipeline.PerCore.cellsWaits (fun _ => cfgs) (dat m K) () 0 c : sProp (MS F)) = BI.emp := none_W _
  have hi : (Pipeline.PerCore.cellsInit (fun _ => cfgs) (dat m K) EE (fun _ => 0) 0 c : sProp (MS F)) = BI.emp := none_W _
  have ht : (Pipeline.PerCore.toksInit (fun _ => cfgs) EE 0 c : sProp (MS F)) = BI.emp := none_W _
  unfold Pipeline.EntryPre Pipeline.PerCore.EntryPre
  rw [ha, hw, hi, ht]
  unfold Dat.owesAt Pipeline.owesWithin
  rw [show (dat m K 0 c).owed 0 = due c from rfl]
  iintro HO
  isplitr; · iempintro
  isplitl [HO]
  · iexists ∅; isplitr; · ipureintro; rw [Finset.coe_empty]; exact Set.empty_subset _
    iexact HO
  isplitr; · iempintro
  isplitr; · iempintro
  iempintro

/-- What the region leaves: nothing due. -/
theorem entry_post (K : Dev nD × Cells → ℕ) (c : Dev nD) :
    Pipeline.EntryPost cfgs (dat m K) () 0 c ⊢ (iprop(∃ W, owes (c : Thread nD τ) 0 W) : sProp (MS F)) := by
  unfold Pipeline.EntryPost Pipeline.PerCore.EntryPost Dat.owesAt Pipeline.owesWithin
  rw [show (dat m K 0 c).owed (Fin.last (cfgs 0).N) = 0 from rfl]
  iintro ⟨-, %W, -, HO⟩
  iexists W
  iexact HO

/-- There is no prefetched table to hold. -/
theorem no_pref (c : Dev nD) (q : Fin (pcfgs (F := F) 0).pre.K → PosShare TreeShare) (V : (pcfgs (F := F) 0).pre.Contents (Elt F)) :
    (Pipeline.prefHeld (pcfgs (F := F) 0).pre c q V : sProp (MS F)) = BI.emp := by
  unfold Pipeline.prefHeld
  rw [show (Finset.univ : Finset (Fin (pcfgs (F := F) 0).pre.K)) = ∅ from rfl, BI.bigSep_empty]

/-- The region on one device. -/
theorem region (K : Dev nD × Cells → ℕ) (c : Dev nD)
    (hout : iprop((dat m K 0 c).Φ (Fin.last cfg0.N) ∗ Pipeline.cellsSems0 cfgs 0 c ∗ Dat.staging cfg0 c ∗ idle c)
      ⊢ iprop(back m c ∗ scopedSems0 (c : Thread nD τ) ∗ scopedBufs (c : Thread nD τ)))
    (k : PUnit → Prog (TpuEff nD τ sig (Elt F) (Pipeline.Sig Λ₀ (Fin 1) fun p => (pcfgs (F := F) p).Adm) .tc) PUnit) (Q : PUnit → sProp (MS F)) :
    iprop(Pipeline.EntryPre cfgs (dat m K) () EE (fun _ => 0) 0 c ∗ Pipeline.prefHeld (pcfgs (F := F) 0).pre c (fun _ => fullShare.right) (adm (F := F) 0).1
        ∗ (known m K ∗ mine m c) ∗ idle c ∗ scopedBufs (c : Thread nD τ))
      ⊢ iprop(((Pipeline.EntryPost cfgs (dat m K) () 0 c ∗ back m c ∗ scopedSems0 (c : Thread nD τ) ∗ scopedBufs (c : Thread nD τ))
          -∗ wp frame (wpE (Pipeline.defs pcfgs defs₀) (Variants.lift Variants.none) (c : Thread nD τ) none) Set.univ (k ⟨⟩) Q)
        -∗ wp frame (wpE (Pipeline.defs pcfgs defs₀) (Variants.lift Variants.none) (c : Thread nD τ) none) Set.univ
            (.op (.customCall (Pipeline.entry 0) ()) k) Q) := by
  have h1 : Pipeline.BodyObligationLoose (dat m K 0 c) (defs₀ (F := F)) Variants.none () Set.univ := (body_obligation m K c).loose
  have h2 : iprop((known m K ∗ mine m c) ∗ Pipeline.prefHeld (pcfgs (F := F) 0).pre c (fun _ => fullShare.right) (adm (F := F) 0).1
      ∗ Pipeline.scopedRest cfg0.spec c) ⊢ (dat m K 0 c).Φ 0 := by
    rw [show (dat m K 0 c).Φ 0 = iprop(known m K ∗ mine m c) from rfl]
    iintro ⟨HX, -, -⟩; iexact HX
  have h3 : ∀ w : Fin cfg0.W, 0 < (cfg0.win w).block.numel := fun w => (show Fin 0 from w).elim0
  have h4 := Entails.of_eq (bufs_split (F := F) c)
  exact Pipeline.wp_customCall_entry_frame pcfgs adm (dat m K) () EE (fun _ => 0) cellOf_inj 0 defs₀ Variants.none (fun _ => fullShare.right) c Set.univ
      (fun _ _ => Set.mem_univ _) h1 h3 none (fun u h => nomatch h) h4 h2 hout

/-- Each device's run. -/
theorem device_run (K : Dev nD × Cells → ℕ) (c : Dev nD) :
    pre m K c ⊢ wp frame (wpE (defs (F := F)) (Variants.lift Variants.none) (c : Thread nD τ) none) Set.univ (main (F := F) c)
      (fun _ => post (liftTc (fin m) BI.emp) (c : Thread nD τ)) := by
  have hout : iprop((dat m K 0 c).Φ (Fin.last cfg0.N) ∗ Pipeline.cellsSems0 cfgs 0 c ∗ Dat.staging cfg0 c ∗ idle c)
      ⊢ iprop(back m c ∗ scopedSems0 (c : Thread nD τ) ∗ scopedBufs (c : Thread nD τ)) := by
    rw [show (dat m K 0 c).Φ (Fin.last cfg0.N) = ended m c from rfl, sems_split, cells_eq, bufs_split, scopedRest0_eq]
    iintro ⟨HE, Hcells, Hst, Hidle⟩
    ihave HE := (Entails.of_eq (ended_eq m c)) $$ HE
    icases HE with ⟨HY, Hz⟩
    isplitl [HY]; · iexact HY
    isplitl [Hz Hcells Hidle]
    · isplitr [Hidle]
      · isplitl [Hcells]; · iexact Hcells
        iexact Hz
      · iexact Hidle
    isplitl [Hst]; · iexact Hst
    iempintro
  rw [main_chain c, Pipeline.chain_cons, Pipeline.chain_cons, Pipeline.chain_nil]
  simp only [Prog.lift, Prog.bind_op, Prog.bind_ret]
  unfold pre
  iintro ⟨Hsc, Hidle, Hop, HO, Hkept, #HK, Hm⟩
  iapply (region m K c hout) $$ [Hsc Hidle HO Hm]
  · isplitl [HO]
    · iapply (entry_pre m K c); iexact HO
    isplitr
    · iapply (Entails.of_eq (no_pref c _ _).symm); iempintro
    isplitl [Hm]
    · isplitr; · iexact HK
      iexact Hm
    isplitl [Hidle] <;> iassumption
  iintro ⟨Hpost, HY, Hss, Hsb⟩
  ihave Hheld := (back_held m c) $$ [Hkept HY]
  · isplitl [Hkept] <;> iassumption
  iapply (StableHlo.wp_seq (Variants.lift Variants.none) none Set.univ c (Pipeline.ucRefs τ sig) _ (hostOps1 c)
    (fun op h => Pipeline.sub_ucRefs op ((List.forall_iff_forall_mem.mp (hostOps1_sub c)) op h))
    (fun op h => (List.forall_iff_forall_mem.mp (hostOps1_fresh c)) op h) (after1 m c)) $$ [Hsb Hss Hop Hheld]
  · isplitr [Hheld]
    · unfold boundary
      isplitl [Hsb]; · iexact Hsb
      isplitl [Hss] <;> iassumption
    · iexact Hheld
  unfold boundary
  iintro ⟨⟨-, Hss, -⟩, Hheld⟩
  rw [Prog.pure_eq_ret, wp_ret]; imodintro
  unfold post; simp only [liftTc_tc]
  unfold fin
  isplitl [Hheld Hss]
  · isplitl [Hheld]; · iexact Hheld
    iexact Hss
  · iapply (entry_post m K c); iexact Hpost

/-- What a device ends with tells the two buffers and that its semaphores are back at zero. -/
theorem fin_read (c : Dev nD) (s' : Phys nD τ sig (Elt F)) : iprop(fin m c ∗ SI s') ⊢ (|={Set.univ}=>
    iprop(⌜(s'.mem.mem ((c : Thread nD τ).loc main_v17) = after2 m c (Proc.devRef .tc main_v17) ∧ s'.mem.mem ((c : Thread nD τ).loc main_arg0) = m ((c : Thread nD τ).loc main_arg0))
      ∧ ∀ sm : SemLoc sig, sm.isScoped .tc = true → s'.mem.sem ((c : Thread nD τ), sm) = 0⌝ ∗ SI s') : sProp (MS F)) := by
  unfold fin StableHlo.held
  iintro ⟨⟨Hh, Hss⟩, HSI⟩
  ihave %hz := (tcScoped_read_pers c s') $$ [Hss HSI]
  · isplitl [Hss] <;> iassumption
  ihave HA := (pointsTo_read_all (Pipeline.ucRefs τ sig) (fun b => ((c : Thread nD τ).1, b)) (after2 m c) s') $$ [Hh HSI]
  · isplitl [Hh] <;> iassumption
  icases HA with ⟨%h, HSI⟩
  imodintro
  isplitr
  · ipureintro; exact ⟨⟨h _ out_in, (h argRef arg_in).trans (after2_arg m c)⟩, hz⟩
  · iexact HSI

/-- The run of the whole mesh: every device's result is what the operations after the exchange make of what landed, the argument
    is as it was, and every semaphore is back at zero. -/
theorem run (ρ) : θ_run (defs (F := F)) (onTc (τ := τ) (main (F := F))) ⟨m, fun _ => 0, ρ⟩
    (fun r => (∀ c : Dev nD, r.2.mem ((c : Thread nD τ).loc main_v17) = after2 m c (Proc.devRef .tc main_v17)
      ∧ r.2.mem ((c : Thread nD τ).loc main_arg0) = m ((c : Thread nD τ).loc main_arg0)) ∧ r.2.sem = fun _ => 0) := by
  refine adequate_tpu (defs (F := F)) _ _ _ (reflect_intro_fupd_tc_sems (X := Dev nD × Cells → ℕ) (Variants.lift Variants.none) (Pipeline.owing due) 0
    (noBookings fun _ => le_rfl) (Pipeline.owing_of_ne due) start (pre m) (fun _ => fin m) (fun _ => iprop(emp)) Set.univ (start_all m ρ) (device_run m) fun _ => ?_)
  iintro ⟨H, -, Hsc⟩ %s' HSI
  ihave %hsc := (scSems_read_zero m ρ s') $$ [Hsc HSI]
  · isplitl [Hsc] <;> iassumption
  imod (posts_fupd Finset.univ (fin_read m) s') $$ [H HSI] with %h
  · isplitl [H] <;> iassumption
  imodintro
  ipureintro
  exact ⟨fun c => (h c (Finset.mem_univ c)).1, sem_eq_zero_of_scoped (by decide) (sems_of_reads (fun c => (h c (Finset.mem_univ c)).2) hsc)⟩

end Cert.SctProof

end
-- ==== Proof.SctPair.lean ====
/-  The scattering of panels over the chips and its reference: the frames and the value claim. -/
module

public import proofs.«01_k».proof.Defs
public import proofs.«01_k».proof.Proof.Gen.SctKernel
public import proofs.«01_k».proof.Proof.Gen.SctReferenceIdeal.Run
public import proofs.«01_k».proof.Proof.Gen.SctReferenceIdeal.Read
public import proofs.«01_k».proof.Proof.SctRun
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.SctPair

open Cert

attribute [local instance] Cert.SctKernel.Gen.facts Cert.SctKernelIdeal.Gen.facts Cert.SctReferenceIdeal.Gen.facts

/-- The float program and its idealization are one text, so the one run serves both. -/
theorem frameK : quiescent_SctKernel := fun m ρ _ =>
  (θ_run Cert.SctKernel.defs _ _).mono (fun r h => ⟨fun c => (h.1 c).2, h.2⟩) (Cert.SctProof.run (F := Bits) m ρ)
theorem frameI : quiescent_SctKernelIdeal := fun m ρ _ =>
  (θ_run Cert.SctKernelIdeal.defs _ _).mono (fun r h => ⟨fun c => (h.1 c).2, h.2⟩) (Cert.SctProof.run (F := Ideal) m ρ)
theorem frameR : quiescent_SctReferenceIdeal := fun m ρ _ =>
  (θ_run Cert.SctReferenceIdeal.defs _ _).mono (fun r h => ⟨fun c => (h c).2, sem_eq_zero_of_no_sems (by decide) r.2⟩)
    (Cert.SctReferenceIdeal.Value.run (F := Ideal) m ρ)

section Kernel

open Cert.SctKernelIdeal Cert.SctKernelIdeal.Gen Cert.SctProof

/-- A row and column of a panel, as an index of a device's panels. -/
def inSlot (p : Fin 4) (y : S1024x2816.Idx) : S4x1024x2816.Idx
  | ⟨0, _⟩ => p
  | ⟨1, _⟩ => y 0
  | ⟨2, _⟩ => y 1

def unitRow (y : S1024x2816.Idx) : S1x1024x2816.Idx
  | ⟨0, _⟩ => (0 : Fin 1)
  | ⟨1, _⟩ => y 0
  | ⟨2, _⟩ => y 1

theorem numel_eq : S1024x2816.numel = S1x1024x2816.numel := by decide

theorem unit_eq (h : S1024x2816.numel = S1x1024x2816.numel) (y : S1024x2816.Idx) : Shape.reshapeEquiv h y = unitRow y := by
  refine Shape.reshapeEquiv_eq_of_rowMajor h ?_
  rw [Shape.rowMajor_val_three, Shape.rowMajor_val_two]
  show (0 * 1024 + (y 0).val) * 2816 + (y 1).val = (y 0).val * 2816 + (y 1).val
  omega

theorem rect_eq (k : Fin 4) (c : Dev nD) (y : S1024x2816.Idx) :
    (panelRect k c).emb (unitRow y) = inSlot (chip (peer k c)) y := by
  have hoff := offs_eq k c
  refine funext fun b => Fin.ext ?_
  rw [Rect.emb_apply]
  show (offs k c) b + 1 * (unitRow y b).val = (inSlot (chip (peer k c)) y b).val
  rw [hoff]
  match b with
  | ⟨0, _⟩ =>
    show (chip (peer k c)).val + 1 * 0 = (chip (peer k c)).val
    omega
  | ⟨1, _⟩ => show 0 + 1 * (y 0).val = (y 0).val; omega
  | ⟨2, _⟩ => show 0 + 1 * (y 1).val = (y 1).val; omega

theorem panel_emb (k : Fin 4) (c : Dev nD) (y : S1024x2816.Idx) : (panelM k c).view.emb y = inSlot (chip (peer k c)) y :=
  (show (panelM k c).view.emb y = (panelRect k c).emb (Shape.reshapeEquiv numel_eq y) from rfl).trans
    ((congrArg _ (unit_eq numel_eq y)).trans (rect_eq k c y))

theorem slot_emb (p : Dev nD) (y : S1024x2816.Idx) : (slotM p).view.emb y = inSlot (chip p) y :=
  (show (slotM p).view.emb y = (panelRect 0 p).emb (Shape.reshapeEquiv numel_eq y) from rfl).trans
    ((congrArg _ (unit_eq numel_eq y)).trans (rect_eq 0 p y))

/-- What one of the other devices writes at a row and column of its slot: its panel for this chip. -/
theorem written_at (m : (ℓ : Loc nD τ sig) → Buf (Elt Ideal) ℓ) (c : Dev nD) (k : Fin 4) (y : S1024x2816.Idx) :
    written m c k (inSlot (chip (peer k c)) y) = m (((peer k c).tc : Thread nD τ).loc main_arg0) (inSlot (chip c) y) := by
  unfold written
  rw [← slot_emb]
  refine (View.write_emb_of_mem _ _ (Finset.mem_univ _)).trans ?_
  refine (show (panelM k (peer k c)).view.read (Elt Ideal) (m (((peer k c).tc : Thread nD τ).loc main_arg0)) y
    = m (((peer k c).tc : Thread nD τ).loc main_arg0) ((panelM k (peer k c)).view.emb y) from rfl).trans ?_
  rw [panel_emb, peer_peer]

/-- The chip of a device as the program counts it from the mesh, a word. -/
def chipWord (c : Fin 8) : BitVec 32 :=
  (0#32 + IntOp.remui .host (IntOp.divui .host (Dev.word c) 2#32) 2#32 * 1#32)
    + IntOp.remui .host (IntOp.divui .host (Dev.word c) 4#32) 2#32 * 2#32

theorem chipWord_eq (c : Fin 8) : chipWord c = BitVec.ofNat 32 (chip c).val := by
  unfold chipWord IntOp.remui IntOp.divui
  rw [if_neg (by decide), if_neg (by decide), if_neg (by decide)]
  revert c
  decide

theorem panel_word (c : Fin 8) (q : Fin 4) : IntOp.cmpi .eq (BitVec.ofNat 32 q.val) (chipWord c) = BitVec.ofBool (decide (q = chip c)) := by
  rw [chipWord_eq]
  revert c q
  decide

/-- A device's result: its own panel out of the argument, the others as they landed. -/
theorem after2_v17 (m : (ℓ : Loc nD τ sig) → Buf (Elt Ideal) ℓ) (c : Dev nD) (q : Fin 4) (y : S1024x2816.Idx) :
    after2 m c (Proc.devRef .tc main_v17) (inSlot q y)
      = if q = chip c then m ((c.tc : Thread nD τ).loc main_arg0) (inSlot q y) else landed m c (inSlot q y) := by
  unfold after2
  simp only [hostOps1]
  after_results
  rw [after1_res, after1_ne m c argRef (Ne.symm ne_arg)]
  refine (show _ = Scalar.select (IntOp.cmpi .eq (BitVec.ofNat 32 q.val) (chipWord c))
    (m ((c.tc : Thread nD τ).loc main_arg0) (inSlot q y)) (landed m c (inSlot q y)) from rfl).trans ?_
  rw [panel_word]
  by_cases h : q = chip c
  · rw [if_pos h, decide_eq_true h]; rfl
  · rw [if_neg h, decide_eq_false h]; rfl

/-- Every panel of a device's result is the panel for its chip of the device of its own place on the chip the slot belongs to. -/
theorem result_at (m : (ℓ : Loc nD τ sig) → Buf (Elt Ideal) ℓ) (c : Dev nD) (q : Fin 4) (y : S1024x2816.Idx) :
    after2 m c (Proc.devRef .tc main_v17) (inSlot q y)
      = m (((peer (which c q) c).tc : Thread nD τ).loc main_arg0) (inSlot (chip c) y) := by
  have hq := chip_which c q
  rw [after2_v17]
  by_cases h : q = chip c
  · rw [if_pos h]
    have h0 : which c q = 0 := by rw [h]; exact which_chip c 0
    rw [h0, h]
  · rw [if_neg h]
    have h0 : which c q ≠ 0 := fun e => h (by rw [← hq, e])
    refine (if_neg h0).trans ?_
    have hw := written_at m c (which c q) y
    rw [hq] at hw
    exact hw

theorem slot_of (i : S4x1024x2816.Idx) : ∃ (q : Fin 4) (y : S1024x2816.Idx), i = inSlot q y := by
  refine ⟨i 0, fun b => match b with | ⟨0, _⟩ => i 1 | ⟨1, _⟩ => i 2, funext fun b => ?_⟩
  match b with
  | ⟨0, _⟩ => rfl
  | ⟨1, _⟩ => rfl
  | ⟨2, _⟩ => rfl

/-- A peer is the device of the same place on its chip. -/
theorem peer_val : ∀ (k : Fin 4) (c : Fin 8), (peer k c).val = 2 * (chip (peer k c)).val + c.val % 2 := by decide

end Kernel

section Reference

open Cert.SctReferenceIdeal Cert.SctReferenceIdeal.Read

abbrev TX := (⟨S32x1024x2816, .bf16⟩ : BufTy).Contents (Elt Ideal)

/-- Chip, device of the chip, panel, row, column. -/
def at5 (q : Fin 4) (p : Fin 2) (j : Fin 4) (r : Fin 1024) (e : Fin 2816) : S4x2x4x1024x2816.Idx
  | ⟨0, _⟩ => q | ⟨1, _⟩ => p | ⟨2, _⟩ => j | ⟨3, _⟩ => r | ⟨4, _⟩ => e
/-- The same, in the array of all panels. -/
def inAll (q : Fin 4) (p : Fin 2) (j : Fin 4) (r : Fin 1024) (e : Fin 2816) : S32x1024x2816.Idx
  | ⟨0, _⟩ => (⟨8 * q.val + 4 * p.val + j.val, by omega⟩ : Fin 32) | ⟨1, _⟩ => r | ⟨2, _⟩ => e

theorem rowMajor_eq (q : Fin 4) (p : Fin 2) (j : Fin 4) (r : Fin 1024) (e : Fin 2816) :
    (S32x1024x2816.rowMajor (inAll q p j r e)).val = (S4x2x4x1024x2816.rowMajor (at5 q p j r e)).val := by
  rw [Shape.rowMajor_val_three, Shape.rowMajor_val_five]
  show ((8 * q.val + 4 * p.val + j.val) * 1024 + r.val) * 2816 + e.val
    = (((q.val * 2 + p.val) * 4 + j.val) * 1024 + r.val) * 2816 + e.val
  omega

/-- The reference exchanges chip and panel. -/
theorem ref_at (x : TX) (q : Fin 4) (p : Fin 2) (j : Fin 4) (r : Fin 1024) (e : Fin 2816) :
    val_main_v2 (F := Ideal) x (inAll q p j r e) = x (inAll j p q r e) := by
  refine (shapeCast_apply _ _ _ (at5 q p j r e) (rowMajor_eq q p j r e).symm).trans ?_
  rw [val_main_v1_apply, show idx_main_v1 (at5 q p j r e) = at5 j p q r e from funext fun a => match a with
    | ⟨0, _⟩ => rfl | ⟨1, _⟩ => rfl | ⟨2, _⟩ => rfl | ⟨3, _⟩ => rfl | ⟨4, _⟩ => rfl]
  exact shapeCast_apply x _ _ _ (rowMajor_eq j p q r e)

end Reference

/-- A device's place on its chip. -/
def place (c : Fin 8) : Fin 2 := ⟨c.val % 2, by omega⟩

theorem tiles : Layout.Tiles ⟨3, ![4, 1024, 2816]⟩ ⟨3, ![32, 1024, 2816]⟩ 0 8 := by decide

/-- Where a panel of the device at one place of a chip lies in the array of all panels. -/
theorem tiles_idx (c : Fin 8) (a : Fin 4) (p : Fin 2) (hc : c.val = 2 * a.val + p.val) (q : Fin 4) (y : Cert.SctKernelIdeal.S1024x2816.Idx) :
    tiles.idx c (inSlot q y) = inAll a p q (y 0) (y 1) := by
  refine funext fun b => Fin.ext ?_
  rw [Layout.Tiles.idx_val]
  match b with
  | ⟨0, _⟩ =>
    show c.val * 4 + q.val = 8 * a.val + 4 * p.val + q.val
    omega
  | ⟨1, _⟩ => rfl
  | ⟨2, _⟩ => rfl

open Cert.SctProof in
/-- A device's part of the reference's result is what it ends with, when every device holds its part of the argument. -/
theorem part_eq (m : (ℓ : Loc Cert.SctKernelIdeal.nD Cert.SctKernelIdeal.τ Cert.SctKernelIdeal.sig) → Buf (Elt Ideal) ℓ) (x : TX)
    (hx : ∀ c : Dev Cert.SctKernelIdeal.nD, m ((c.tc : Thread Cert.SctKernelIdeal.nD Cert.SctKernelIdeal.τ).loc Cert.SctKernelIdeal.main_arg0)
      = Layout.block ⟨3, ![4, 1024, 2816]⟩ ⟨3, ![32, 1024, 2816]⟩ 0 8 c x tiles) (c : Dev Cert.SctKernelIdeal.nD) :
    after2 m c (Proc.devRef .tc Cert.SctKernelIdeal.main_v17)
      = Layout.block ⟨3, ![4, 1024, 2816]⟩ ⟨3, ![32, 1024, 2816]⟩ 0 8 c (Cert.SctReferenceIdeal.Read.val_main_v2 (F := Ideal) x) tiles := by
  refine funext fun i => ?_
  obtain ⟨q, y, rfl⟩ := slot_of i
  have hd := peer_val (which c q) c
  have hq := chip_which c q
  rw [hq] at hd
  have hc : c.val = 2 * (chip c).val + (place c).val := by
    show c.val = 2 * (c.val / 2) + c.val % 2
    omega
  refine (result_at m c q y).trans ?_
  rw [hx, Layout.block_apply, Layout.block_apply, tiles_idx c (chip c) (place c) hc, tiles_idx (peer (which c q) c) q (place c) hd]
  exact (ref_at x _ _ _ _ _).symm

theorem value : algebraic_SctKernelIdeal_SctReferenceIdeal := by
  intro m g m' g' _ hx
  refine ⟨Cert.SctReferenceIdeal.Read.val_main_v2 (F := Ideal) (m' (((0 : Dev Cert.SctReferenceIdeal.nD).tc : Thread Cert.SctReferenceIdeal.nD Cert.SctReferenceIdeal.τ).loc Cert.SctReferenceIdeal.main_arg0)), ?_, ?_⟩
  · exact (θ_run Cert.SctKernelIdeal.defs _ _).mono (fun r h c => ⟨(h.1 c).1.trans (part_eq m _ hx c), (h.1 c).2⟩) (Cert.SctProof.run (F := Ideal) m g)
  · exact (θ_run Cert.SctReferenceIdeal.defs _ _).mono (fun r h => ⟨(h 0).1.trans (Cert.SctReferenceIdeal.Read.val_main_v2_eq _), (h 0).2⟩)
      (Cert.SctReferenceIdeal.Value.run (F := Ideal) m' g')

end Cert.SctPair

end
-- ==== Proof.lean ====
/-  The certificate's proof: the conjuncts of `Cert.Claim`, each proved in the module of its call. -/
module

public import proofs.«01_k».proof.Defs
public import proofs.«01_k».proof.Proof.Gen.ConvKernelIdeal.Value
public import proofs.«01_k».proof.Proof.Gen.ConvKernel.Frame
public import proofs.«01_k».proof.Proof.Gen.ConvKernelIdeal.Frame
public import proofs.«01_k».proof.Proof.Gen.ConvReferenceIdeal.Run
public import proofs.«01_k».proof.Proof.Gen.ConvReferenceIdeal.Read
public import proofs.«01_k».proof.Proof.Gen.RmsKernelIdeal.Value
public import proofs.«01_k».proof.Proof.Gen.RmsKernel.Frame
public import proofs.«01_k».proof.Proof.Gen.RmsKernelIdeal.Frame
public import proofs.«01_k».proof.Proof.Gen.RmsReferenceIdeal.Run
public import proofs.«01_k».proof.Proof.Gen.RmsReferenceIdeal.Read
public import proofs.«01_k».proof.Proof.Gen.MemKernelIdeal.Value
public import proofs.«01_k».proof.Proof.Gen.MemKernel.Frame
public import proofs.«01_k».proof.Proof.Gen.MemKernelIdeal.Frame
public import proofs.«01_k».proof.Proof.Gen.MemReferenceIdeal.Run
public import proofs.«01_k».proof.Proof.Gen.MemReferenceIdeal.Read
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.LossReferenceIdeal.Read
public import proofs.«01_k».proof.Proof.Gen.XdhKernelIdeal.Value
public import proofs.«01_k».proof.Proof.Gen.XdhKernel.Frame
public import proofs.«01_k».proof.Proof.Gen.XdhKernelIdeal.Frame
public import proofs.«01_k».proof.Proof.Gen.XdhReferenceIdeal.Run
public import proofs.«01_k».proof.Proof.Gen.XdhReferenceIdeal.Read
public import proofs.«01_k».proof.Proof.Gen.DswKernel.Frame
public import proofs.«01_k».proof.Proof.Gen.DswKernelIdeal.Frame
public import proofs.«01_k».proof.Proof.Gen.DswReferenceIdeal.Run
public import proofs.«01_k».proof.Proof.Gen.DswReferenceIdeal.Read
public import proofs.«01_k».proof.Proof.Gen.AttnKernelIdeal.Value
public import proofs.«01_k».proof.Proof.Gen.AttnKernel.Frame
public import proofs.«01_k».proof.Proof.Gen.AttnKernelIdeal.Frame
public import proofs.«01_k».proof.Proof.Gen.AttnReferenceIdeal.Run
public import proofs.«01_k».proof.Proof.Gen.AttnReferenceIdeal.Read
public import proofs.«01_k».proof.Proof.Gen.GmlpKernelIdeal.Value
public import proofs.«01_k».proof.Proof.Gen.GmlpKernel.Frame
public import proofs.«01_k».proof.Proof.Gen.GmlpKernelIdeal.Frame
public import proofs.«01_k».proof.Proof.Gen.GmlpReferenceIdeal.Run
public import proofs.«01_k».proof.Proof.Gen.GmlpReferenceIdeal.Read
public import proofs.«01_k».proof.Proof.Gen.MixKernelIdeal.Value
public import proofs.«01_k».proof.Proof.Gen.MixKernel.Frame
public import proofs.«01_k».proof.Proof.Gen.MixKernelIdeal.Frame
public import proofs.«01_k».proof.Proof.Gen.MixReferenceIdeal.Run
public import proofs.«01_k».proof.Proof.Gen.MixReferenceIdeal.Read
public import proofs.«01_k».proof.Proof.Gen.NrmKernelIdeal.Value
public import proofs.«01_k».proof.Proof.Gen.NrmKernel.Frame
public import proofs.«01_k».proof.Proof.Gen.NrmKernelIdeal.Frame
public import proofs.«01_k».proof.Proof.Gen.NrmReferenceIdeal.Run
public import proofs.«01_k».proof.Proof.Gen.NrmReferenceIdeal.Read
public import proofs.«01_k».proof.Proof.Gen.OnrKernelIdeal.Value
public import proofs.«01_k».proof.Proof.Gen.OnrKernel.Frame
public import proofs.«01_k».proof.Proof.Gen.OnrKernelIdeal.Frame
public import proofs.«01_k».proof.Proof.Gen.OnrReferenceIdeal.Run
public import proofs.«01_k».proof.Proof.Gen.OnrReferenceIdeal.Read
public import proofs.«01_k».proof.Proof.Gen.CvfKernelIdeal.Value
public import proofs.«01_k».proof.Proof.Gen.CvfKernel.Frame
public import proofs.«01_k».proof.Proof.Gen.CvfKernelIdeal.Frame
public import proofs.«01_k».proof.Proof.Gen.CvfReferenceIdeal.Run
public import proofs.«01_k».proof.Proof.Gen.CvfReferenceIdeal.Read
public import proofs.«01_k».proof.Proof.Gen.GmfKernelIdeal.Value
public import proofs.«01_k».proof.Proof.Gen.GmfKernel.Frame
public import proofs.«01_k».proof.Proof.Gen.GmfKernelIdeal.Frame
public import proofs.«01_k».proof.Proof.Gen.GmfReferenceIdeal.Run
public import proofs.«01_k».proof.Proof.Gen.GmfReferenceIdeal.Read
public import proofs.«01_k».proof.Proof.Gen.AtfKernelIdeal.Value
public import proofs.«01_k».proof.Proof.Gen.AtfKernel.Frame
public import proofs.«01_k».proof.Proof.Gen.AtfKernelIdeal.Frame
public import proofs.«01_k».proof.Proof.Gen.AtfReferenceIdeal.Run
public import proofs.«01_k».proof.Proof.Gen.AtfReferenceIdeal.Read
public import proofs.«01_k».proof.Proof.Gen.SwgKernelIdeal.Value
public import proofs.«01_k».proof.Proof.Gen.SwgKernel.Frame
public import proofs.«01_k».proof.Proof.Gen.SwgKernelIdeal.Frame
public import proofs.«01_k».proof.Proof.Gen.SwgReferenceIdeal.Run
public import proofs.«01_k».proof.Proof.Gen.SwgReferenceIdeal.Read
public import proofs.«01_k».proof.Proof.Gen.WnnKernelIdeal.Value
public import proofs.«01_k».proof.Proof.Gen.WnnKernel.Frame
public import proofs.«01_k».proof.Proof.Gen.WnnKernelIdeal.Frame
public import proofs.«01_k».proof.Proof.Gen.WnnReferenceIdeal.Run
public import proofs.«01_k».proof.Proof.Gen.WnnReferenceIdeal.Read
public import proofs.«01_k».proof.Proof.Gen.PnnKernelIdeal.Value
public import proofs.«01_k».proof.Proof.Gen.PnnKernel.Frame
public import proofs.«01_k».proof.Proof.Gen.PnnKernelIdeal.Frame
public import proofs.«01_k».proof.Proof.Gen.PnnReferenceIdeal.Run
public import proofs.«01_k».proof.Proof.Gen.PnnReferenceIdeal.Read
public import proofs.«01_k».proof.Proof.Gen.PntKernelIdeal.Value
public import proofs.«01_k».proof.Proof.Gen.PntKernel.Frame
public import proofs.«01_k».proof.Proof.Gen.PntKernelIdeal.Frame
public import proofs.«01_k».proof.Proof.Gen.PntReferenceIdeal.Run
public import proofs.«01_k».proof.Proof.Gen.PntReferenceIdeal.Read
public import proofs.«01_k».proof.Proof.Gen.PtnKernelIdeal.Value
public import proofs.«01_k».proof.Proof.Gen.PtnKernel.Frame
public import proofs.«01_k».proof.Proof.Gen.PtnKernelIdeal.Frame
public import proofs.«01_k».proof.Proof.Gen.PtnReferenceIdeal.Run
public import proofs.«01_k».proof.Proof.Gen.PtnReferenceIdeal.Read
public import proofs.«01_k».proof.Proof.Gen.AdfKernelIdeal.Value
public import proofs.«01_k».proof.Proof.Gen.AdfKernel.Frame
public import proofs.«01_k».proof.Proof.Gen.AdfKernelIdeal.Frame
public import proofs.«01_k».proof.Proof.Gen.AdfReferenceIdeal.Run
public import proofs.«01_k».proof.Proof.Gen.AdfReferenceIdeal.Read
public import proofs.«01_k».proof.Proof.Gen.AdlKernelIdeal.Value
public import proofs.«01_k».proof.Proof.Gen.AdlKernel.Frame
public import proofs.«01_k».proof.Proof.Gen.AdlKernelIdeal.Frame
public import proofs.«01_k».proof.Proof.Gen.AdlReferenceIdeal.Run
public import proofs.«01_k».proof.Proof.Gen.AdlReferenceIdeal.Read
public import proofs.«01_k».proof.Proof.Gen.SmlKernelIdeal.Value
public import proofs.«01_k».proof.Proof.Gen.SmlKernel.Frame
public import proofs.«01_k».proof.Proof.Gen.SmlKernelIdeal.Frame
public import proofs.«01_k».proof.Proof.Gen.SmlReferenceIdeal.Run
public import proofs.«01_k».proof.Proof.Gen.SmlReferenceIdeal.Read
public import proofs.«01_k».proof.Proof.Gen.AdhKernel.Frame
public import proofs.«01_k».proof.Proof.Gen.AdhKernelIdeal.Frame
public import proofs.«01_k».proof.Proof.Gen.AdhReferenceIdeal.Run
public import proofs.«01_k».proof.Proof.Gen.AdhReferenceIdeal.Read
public import proofs.«01_k».proof.Proof.Gen.SwpKernel.Frame
public import proofs.«01_k».proof.Proof.Gen.SwpKernelIdeal.Frame
public import proofs.«01_k».proof.Proof.Gen.SwpReferenceIdeal.Run
public import proofs.«01_k».proof.Proof.Gen.SwpReferenceIdeal.Read
public import proofs.«01_k».proof.Proof.Gen.GatKernel.Frame
public import proofs.«01_k».proof.Proof.Gen.GatKernelIdeal.Frame
public import proofs.«01_k».proof.Proof.Gen.GatReferenceIdeal.Run
public import proofs.«01_k».proof.Proof.Gen.GatReferenceIdeal.Read
public import proofs.«01_k».proof.Proof.Gen.SctReferenceIdeal.Run
public import proofs.«01_k».proof.Proof.Gen.SctReferenceIdeal.Read
public import proofs.«01_k».proof.Proof.Gen.Pre_finite_dsw
public import proofs.«01_k».proof.Proof.Gen.Pre_finite_attn
public import proofs.«01_k».proof.Proof.Gen.Pre_finite_gmlp
public import proofs.«01_k».proof.Proof.Gen.Pre_finite_swg
public import proofs.«01_k».proof.Proof.ConvPair
public import proofs.«01_k».proof.Proof.RmsPair
public import proofs.«01_k».proof.Proof.MemPair
public import proofs.«01_k».proof.Proof.LossPair
public import proofs.«01_k».proof.Proof.XdhPair
public import proofs.«01_k».proof.Proof.DswPair
public import proofs.«01_k».proof.Proof.AttnPair
public import proofs.«01_k».proof.Proof.GmlpPair
public import proofs.«01_k».proof.Proof.MixPair
public import proofs.«01_k».proof.Proof.NrmPair
public import proofs.«01_k».proof.Proof.OnrPair
public import proofs.«01_k».proof.Proof.CvfPair
public import proofs.«01_k».proof.Proof.GmfPair
public import proofs.«01_k».proof.Proof.AtfPair
public import proofs.«01_k».proof.Proof.SwgPair
public import proofs.«01_k».proof.Proof.WnnPair
public import proofs.«01_k».proof.Proof.PnnPair
public import proofs.«01_k».proof.Proof.PntPair
public import proofs.«01_k».proof.Proof.PtnPair
public import proofs.«01_k».proof.Proof.AdfPair
public import proofs.«01_k».proof.Proof.AdlPair
public import proofs.«01_k».proof.Proof.SmlPair
public import proofs.«01_k».proof.Proof.AdhPair
public import proofs.«01_k».proof.Proof.SwpPair
public import proofs.«01_k».proof.Proof.GatPair
public import proofs.«01_k».proof.Proof.SctPair
public import Idealize.ShloMosaic.Adequacy
public import Idealize.ShloMosaic.Init

@[expose] public section

noncomputable section

namespace Cert.Proof

theorem claim : Cert.Claim :=
  ⟨Cert.ConvKernel.Gen.facts, Cert.ConvKernelIdeal.Gen.facts, Cert.ConvReferenceIdeal.Gen.facts,
    Cert.RmsKernel.Gen.facts, Cert.RmsKernelIdeal.Gen.facts, Cert.RmsReferenceIdeal.Gen.facts,
    Cert.MemKernel.Gen.facts, Cert.MemKernelIdeal.Gen.facts, Cert.MemReferenceIdeal.Gen.facts,
    Cert.LossKernel.Gen.facts, Cert.LossKernelIdeal.Gen.facts, Cert.LossReferenceIdeal.Gen.facts,
    Cert.XdhKernel.Gen.facts, Cert.XdhKernelIdeal.Gen.facts, Cert.XdhReferenceIdeal.Gen.facts,
    Cert.DswKernel.Gen.facts, Cert.DswKernelIdeal.Gen.facts, Cert.DswReferenceIdeal.Gen.facts,
    Cert.AttnKernel.Gen.facts, Cert.AttnKernelIdeal.Gen.facts, Cert.AttnReferenceIdeal.Gen.facts,
    Cert.GmlpKernel.Gen.facts, Cert.GmlpKernelIdeal.Gen.facts, Cert.GmlpReferenceIdeal.Gen.facts,
    Cert.MixKernel.Gen.facts, Cert.MixKernelIdeal.Gen.facts, Cert.MixReferenceIdeal.Gen.facts,
    Cert.NrmKernel.Gen.facts, Cert.NrmKernelIdeal.Gen.facts, Cert.NrmReferenceIdeal.Gen.facts,
    Cert.OnrKernel.Gen.facts, Cert.OnrKernelIdeal.Gen.facts, Cert.OnrReferenceIdeal.Gen.facts,
    Cert.CvfKernel.Gen.facts, Cert.CvfKernelIdeal.Gen.facts, Cert.CvfReferenceIdeal.Gen.facts,
    Cert.GmfKernel.Gen.facts, Cert.GmfKernelIdeal.Gen.facts, Cert.GmfReferenceIdeal.Gen.facts,
    Cert.AtfKernel.Gen.facts, Cert.AtfKernelIdeal.Gen.facts, Cert.AtfReferenceIdeal.Gen.facts,
    Cert.SwgKernel.Gen.facts, Cert.SwgKernelIdeal.Gen.facts, Cert.SwgReferenceIdeal.Gen.facts,
    Cert.WnnKernel.Gen.facts, Cert.WnnKernelIdeal.Gen.facts, Cert.WnnReferenceIdeal.Gen.facts,
    Cert.PnnKernel.Gen.facts, Cert.PnnKernelIdeal.Gen.facts, Cert.PnnReferenceIdeal.Gen.facts,
    Cert.PntKernel.Gen.facts, Cert.PntKernelIdeal.Gen.facts, Cert.PntReferenceIdeal.Gen.facts,
    Cert.PtnKernel.Gen.facts, Cert.PtnKernelIdeal.Gen.facts, Cert.PtnReferenceIdeal.Gen.facts,
    Cert.AdfKernel.Gen.facts, Cert.AdfKernelIdeal.Gen.facts, Cert.AdfReferenceIdeal.Gen.facts,
    Cert.AdlKernel.Gen.facts, Cert.AdlKernelIdeal.Gen.facts, Cert.AdlReferenceIdeal.Gen.facts,
    Cert.SmlKernel.Gen.facts, Cert.SmlKernelIdeal.Gen.facts, Cert.SmlReferenceIdeal.Gen.facts,
    Cert.AdhKernel.Gen.facts, Cert.AdhKernelIdeal.Gen.facts, Cert.AdhReferenceIdeal.Gen.facts,
    Cert.SwpKernel.Gen.facts, Cert.SwpKernelIdeal.Gen.facts, Cert.SwpReferenceIdeal.Gen.facts,
    Cert.GatKernel.Gen.facts, Cert.GatKernelIdeal.Gen.facts, Cert.GatReferenceIdeal.Gen.facts,
    Cert.SctKernel.Gen.facts, Cert.SctKernelIdeal.Gen.facts, Cert.SctReferenceIdeal.Gen.facts,
    Cert.Pre_finite_dsw.Gen.facts,
    Cert.Pre_finite_attn.Gen.facts,
    Cert.Pre_finite_gmlp.Gen.facts,
    Cert.Pre_finite_swg.Gen.facts,
    Cert.ConvPair.frameK, Cert.ConvPair.frameI, Cert.ConvPair.frameR,
    Cert.RmsPair.frameK, Cert.RmsPair.frameI, Cert.RmsPair.frameR,
    Cert.MemPair.frameK, Cert.MemPair.frameI, Cert.MemPair.frameR,
    Cert.LossPair.frameK, Cert.LossPair.frameI, Cert.LossPair.frameR,
    Cert.XdhPair.frameK, Cert.XdhPair.frameI, Cert.XdhPair.frameR,
    Cert.DswPair.frameK, Cert.DswPair.frameI, fun m ρ _ => Cert.DswPair.frameI m ρ trivial, Cert.DswPair.frameR, fun m ρ _ => Cert.DswPair.frameR m ρ trivial,
    Cert.AttnPair.frameK, Cert.AttnPair.frameI, fun m ρ _ => Cert.AttnPair.frameI m ρ trivial, Cert.AttnPair.frameR, fun m ρ _ => Cert.AttnPair.frameR m ρ trivial,
    Cert.GmlpPair.frameK, Cert.GmlpPair.frameI, fun m ρ _ => Cert.GmlpPair.frameI m ρ trivial, Cert.GmlpPair.frameR, fun m ρ _ => Cert.GmlpPair.frameR m ρ trivial,
    Cert.MixPair.frameK, Cert.MixPair.frameI, Cert.MixPair.frameR,
    Cert.NrmPair.frameK, Cert.NrmPair.frameI, Cert.NrmPair.frameR,
    Cert.OnrPair.frameK, Cert.OnrPair.frameI, Cert.OnrPair.frameR,
    Cert.CvfPair.frameK, Cert.CvfPair.frameI, Cert.CvfPair.frameR,
    Cert.GmfPair.frameK, Cert.GmfPair.frameI, Cert.GmfPair.frameR,
    Cert.AtfPair.frameK, Cert.AtfPair.frameI, Cert.AtfPair.frameR,
    Cert.SwgPair.frameK, Cert.SwgPair.frameI, fun m ρ _ => Cert.SwgPair.frameI m ρ trivial, Cert.SwgPair.frameR, fun m ρ _ => Cert.SwgPair.frameR m ρ trivial,
    Cert.WnnPair.frameK, Cert.WnnPair.frameI, Cert.WnnPair.frameR,
    Cert.PnnPair.frameK, Cert.PnnPair.frameI, Cert.PnnPair.frameR,
    Cert.PntPair.frameK, Cert.PntPair.frameI, Cert.PntPair.frameR,
    Cert.PtnPair.frameK, Cert.PtnPair.frameI, Cert.PtnPair.frameR,
    Cert.AdfPair.frameK, Cert.AdfPair.frameI, Cert.AdfPair.frameR,
    Cert.AdlPair.frameK, Cert.AdlPair.frameI, Cert.AdlPair.frameR,
    Cert.SmlPair.frameK, Cert.SmlPair.frameI, Cert.SmlPair.frameR,
    Cert.AdhPair.frameK, Cert.AdhPair.frameI, Cert.AdhPair.frameR,
    Cert.SwpPair.frameK, Cert.SwpPair.frameI, Cert.SwpPair.frameR,
    Cert.GatPair.frameK, Cert.GatPair.frameI, Cert.GatPair.frameR,
    Cert.SctPair.frameK, Cert.SctPair.frameI, Cert.SctPair.frameR,
    trivial, Cert.ConvPair.value,
    trivial, Cert.RmsPair.value,
    trivial, Cert.MemPair.value,
    trivial, Cert.LossPair.value,
    trivial, Cert.XdhPair.value,
    trivial, Cert.DswPair.value,
    trivial, Cert.AttnPair.value,
    Cert.GmlpPair.keeps, Cert.GmlpPair.value,
    trivial, Cert.MixPair.value,
    trivial, Cert.NrmPair.value,
    trivial, Cert.OnrPair.value,
    trivial, Cert.CvfPair.value,
    Cert.GmfPair.keeps, Cert.GmfPair.value,
    trivial, Cert.AtfPair.value,
    trivial, Cert.SwgPair.value,
    trivial, Cert.WnnPair.value,
    trivial, Cert.PnnPair.value,
    trivial, Cert.PntPair.value,
    trivial, Cert.PtnPair.value,
    trivial, Cert.AdfPair.value,
    trivial, Cert.AdlPair.value,
    trivial, Cert.SmlPair.value,
    trivial, Cert.AdhPair.value,
    trivial, Cert.SwpPair.value,
    trivial, Cert.GatPair.value,
    trivial, Cert.SctPair.value⟩

end Cert.Proof

end
